-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x4096 : Shape := ⟨3, ![1, 128, 4096]⟩
abbrev S4096 : Shape := ⟨1, ![4096]⟩
abbrev S11008x256 : Shape := ⟨2, ![11008, 256]⟩
abbrev S11008x64 : Shape := ⟨2, ![11008, 64]⟩
abbrev S4096x688 : Shape := ⟨2, ![4096, 688]⟩
abbrev S4096x172 : Shape := ⟨2, ![4096, 172]⟩
abbrev S6 : Shape := ⟨1, ![6]⟩
abbrev S_ : Shape := ⟨0, ![]⟩
abbrev S128x4096 : Shape := ⟨2, ![128, 4096]⟩
abbrev S1x4096 : Shape := ⟨2, ![1, 4096]⟩
abbrev S1 : Shape := ⟨1, ![1]⟩
abbrev S688x4096 : Shape := ⟨2, ![688, 4096]⟩
abbrev S64x11008 : Shape := ⟨2, ![64, 11008]⟩
abbrev S172x4096 : Shape := ⟨2, ![172, 4096]⟩
abbrev S128x1 : Shape := ⟨2, ![128, 1]⟩
abbrev S128x11008 : Shape := ⟨2, ![128, 11008]⟩
abbrev S256x256 : Shape := ⟨2, ![256, 256]⟩
abbrev S16x4096 : Shape := ⟨2, ![16, 4096]⟩
abbrev S64x256 : Shape := ⟨2, ![64, 256]⟩
abbrev S8x4096 : Shape := ⟨2, ![8, 4096]⟩
abbrev S128x256 : Shape := ⟨2, ![128, 256]⟩
abbrev S4288x128 : Shape := ⟨2, ![4288, 128]⟩
abbrev S4096x256 : Shape := ⟨2, ![4096, 256]⟩
abbrev S256x4096 : Shape := ⟨2, ![256, 4096]⟩
abbrev S272x128 : Shape := ⟨2, ![272, 128]⟩
abbrev S4x4096 : Shape := ⟨2, ![4, 4096]⟩
abbrev S2x4x4096 : Shape := ⟨3, ![2, 4, 4096]⟩
abbrev S2x64x128 : Shape := ⟨3, ![2, 64, 128]⟩
abbrev S4x32x128 : Shape := ⟨3, ![4, 32, 128]⟩
abbrev S128 : Shape := ⟨1, ![128]⟩
abbrev S128x512 : Shape := ⟨2, ![128, 512]⟩
abbrev S1x512 : Shape := ⟨2, ![1, 512]⟩
abbrev S512x128 : Shape := ⟨2, ![512, 128]⟩
abbrev S8x64x128 : Shape := ⟨3, ![8, 64, 128]⟩
abbrev S8x128 : Shape := ⟨2, ![8, 128]⟩
abbrev S32x256 : Shape := ⟨2, ![32, 256]⟩
abbrev S32x1x256 : Shape := ⟨3, ![32, 1, 256]⟩
abbrev S32x16x256 : Shape := ⟨3, ![32, 16, 256]⟩
abbrev S512x256 : Shape := ⟨2, ![512, 256]⟩
abbrev S8x256 : Shape := ⟨2, ![8, 256]⟩
abbrev S1x256 : Shape := ⟨2, ![1, 256]⟩
abbrev S16x512 : Shape := ⟨2, ![16, 512]⟩
abbrev S16x1x512 : Shape := ⟨3, ![16, 1, 512]⟩
abbrev S16x16x512 : Shape := ⟨3, ![16, 16, 512]⟩
abbrev S256x512 : Shape := ⟨2, ![256, 512]⟩
abbrev S4x512 : Shape := ⟨2, ![4, 512]⟩
abbrev S64x512 : Shape := ⟨2, ![64, 512]⟩
abbrev S256x128 : Shape := ⟨2, ![256, 128]⟩
abbrev S4x64x128 : Shape := ⟨3, ![4, 64, 128]⟩
abbrev S4x128 : Shape := ⟨2, ![4, 128]⟩
abbrev S16x128 : Shape := ⟨2, ![16, 128]⟩
abbrev S8x8x8x256 : Shape := ⟨4, ![8, 8, 8, 256]⟩
abbrev S8x8x256 : Shape := ⟨3, ![8, 8, 256]⟩
abbrev S64x128 : Shape := ⟨2, ![64, 128]⟩
abbrev S1x64x128 : Shape := ⟨3, ![1, 64, 128]⟩
abbrev S1x8x128 : Shape := ⟨3, ![1, 8, 128]⟩
abbrev S272x512 : Shape := ⟨2, ![272, 512]⟩
abbrev S4x8x8x512 : Shape := ⟨4, ![4, 8, 8, 512]⟩
abbrev S4x8x512 : Shape := ⟨3, ![4, 8, 512]⟩
abbrev S32x512 : Shape := ⟨2, ![32, 512]⟩
abbrev S32x128 : Shape := ⟨2, ![32, 128]⟩
abbrev S1x32x128 : Shape := ⟨3, ![1, 32, 128]⟩
abbrev S1x4x128 : Shape := ⟨3, ![1, 4, 128]⟩
abbrev S1x4x512 : Shape := ⟨3, ![1, 4, 512]⟩
abbrev S192x128 : Shape := ⟨2, ![192, 128]⟩
abbrev S192x256 : Shape := ⟨2, ![192, 256]⟩
abbrev S1x4x4096 : Shape := ⟨3, ![1, 4, 4096]⟩

abbrev nBuf : Space → Nat
  | .hbm => 86
  | .vmem => 135
  | .smem => 4
  | _ => 0

abbrev vmemTy0_0 (i : Nat) : BufTy := match i % 128 with
  | 0 => ⟨S128x4096, .bf16⟩
  | 1 => ⟨S128x4096, .bf16⟩
  | 2 => ⟨S1x4096, .f32⟩
  | 3 => ⟨S256x256, .i32⟩
  | 4 => ⟨S256x256, .i32⟩
  | 5 => ⟨S256x256, .i32⟩
  | 6 => ⟨S256x256, .i32⟩
  | 7 => ⟨S16x4096, .i32⟩
  | 8 => ⟨S16x4096, .i32⟩
  | 9 => ⟨S64x256, .f32⟩
  | 10 => ⟨S64x256, .f32⟩
  | 11 => ⟨S64x256, .f32⟩
  | 12 => ⟨S64x256, .f32⟩
  | 13 => ⟨S64x256, .f32⟩
  | 14 => ⟨S64x256, .f32⟩
  | 15 => ⟨S64x256, .f32⟩
  | 16 => ⟨S64x256, .f32⟩
  | 17 => ⟨S64x256, .f32⟩
  | 18 => ⟨S64x256, .f32⟩
  | 19 => ⟨S64x256, .f32⟩
  | 20 => ⟨S64x256, .f32⟩
  | 21 => ⟨S64x256, .f32⟩
  | 22 => ⟨S64x256, .f32⟩
  | 23 => ⟨S64x256, .f32⟩
  | 24 => ⟨S64x256, .f32⟩
  | 25 => ⟨S64x256, .f32⟩
  | 26 => ⟨S64x256, .f32⟩
  | 27 => ⟨S64x256, .f32⟩
  | 28 => ⟨S64x256, .f32⟩
  | 29 => ⟨S64x256, .f32⟩
  | 30 => ⟨S64x256, .f32⟩
  | 31 => ⟨S64x256, .f32⟩
  | 32 => ⟨S64x256, .f32⟩
  | 33 => ⟨S8x4096, .f32⟩
  | 34 => ⟨S8x4096, .f32⟩
  | 35 => ⟨S8x4096, .f32⟩
  | 36 => ⟨S8x4096, .f32⟩
  | 37 => ⟨S8x4096, .f32⟩
  | 38 => ⟨S8x4096, .f32⟩
  | 39 => ⟨S8x4096, .f32⟩
  | 40 => ⟨S8x4096, .f32⟩
  | 41 => ⟨S8x4096, .f32⟩
  | 42 => ⟨S8x4096, .f32⟩
  | 43 => ⟨S8x4096, .f32⟩
  | 44 => ⟨S8x4096, .f32⟩
  | 45 => ⟨S128x4096, .bf16⟩
  | 46 => ⟨S128x4096, .bf16⟩
  | 47 => ⟨S128x1, .f32⟩
  | 48 => ⟨S128x256, .bf16⟩
  | 49 => ⟨S128x256, .bf16⟩
  | 50 => ⟨S64x256, .f32⟩
  | 51 => ⟨S64x256, .f32⟩
  | 52 => ⟨S64x256, .f32⟩
  | 53 => ⟨S64x256, .f32⟩
  | 54 => ⟨S64x256, .f32⟩
  | 55 => ⟨S64x256, .f32⟩
  | 56 => ⟨S64x256, .f32⟩
  | 57 => ⟨S64x256, .f32⟩
  | 58 => ⟨S64x256, .f32⟩
  | 59 => ⟨S64x256, .f32⟩
  | 60 => ⟨S64x256, .f32⟩
  | 61 => ⟨S64x256, .f32⟩
  | 62 => ⟨S64x256, .f32⟩
  | 63 => ⟨S64x256, .f32⟩
  | 64 => ⟨S64x256, .f32⟩
  | 65 => ⟨S64x256, .f32⟩
  | 66 => ⟨S64x256, .f32⟩
  | 67 => ⟨S64x256, .f32⟩
  | 68 => ⟨S64x256, .f32⟩
  | 69 => ⟨S64x256, .f32⟩
  | 70 => ⟨S64x256, .f32⟩
  | 71 => ⟨S64x256, .f32⟩
  | 72 => ⟨S64x256, .f32⟩
  | 73 => ⟨S64x256, .f32⟩
  | 74 => ⟨S64x256, .f32⟩
  | 75 => ⟨S64x256, .f32⟩
  | 76 => ⟨S64x256, .f32⟩
  | 77 => ⟨S64x256, .f32⟩
  | 78 => ⟨S64x256, .f32⟩
  | 79 => ⟨S64x256, .f32⟩
  | 80 => ⟨S64x256, .f32⟩
  | 81 => ⟨S64x256, .f32⟩
  | 82 => ⟨S64x256, .f32⟩
  | 83 => ⟨S64x256, .f32⟩
  | 84 => ⟨S64x256, .f32⟩
  | 85 => ⟨S64x256, .f32⟩
  | 86 => ⟨S64x256, .f32⟩
  | 87 => ⟨S64x256, .f32⟩
  | 88 => ⟨S64x256, .f32⟩
  | 89 => ⟨S64x256, .f32⟩
  | 90 => ⟨S8x4096, .f32⟩
  | 91 => ⟨S8x4096, .f32⟩
  | 92 => ⟨S8x4096, .f32⟩
  | 93 => ⟨S8x4096, .f32⟩
  | 94 => ⟨S8x4096, .f32⟩
  | 95 => ⟨S8x4096, .f32⟩
  | 96 => ⟨S8x4096, .f32⟩
  | 97 => ⟨S8x4096, .f32⟩
  | 98 => ⟨S8x4096, .f32⟩
  | 99 => ⟨S8x4096, .f32⟩
  | 100 => ⟨S8x4096, .f32⟩
  | 101 => ⟨S8x4096, .f32⟩
  | 102 => ⟨S8x4096, .f32⟩
  | 103 => ⟨S8x4096, .f32⟩
  | 104 => ⟨S8x4096, .f32⟩
  | 105 => ⟨S8x4096, .f32⟩
  | 106 => ⟨S8x4096, .f32⟩
  | 107 => ⟨S8x4096, .f32⟩
  | 108 => ⟨S8x4096, .f32⟩
  | 109 => ⟨S8x4096, .f32⟩
  | 110 => ⟨S128x4096, .bf16⟩
  | 111 => ⟨S4288x128, .bf16⟩
  | 112 => ⟨S128x1, .f32⟩
  | 113 => ⟨S4096x256, .bf16⟩
  | 114 => ⟨S4096x256, .bf16⟩
  | 115 => ⟨S256x4096, .bf16⟩
  | 116 => ⟨S4096x256, .bf16⟩
  | 117 => ⟨S4096x256, .bf16⟩
  | 118 => ⟨S256x4096, .bf16⟩
  | 119 => ⟨S256x256, .i32⟩
  | 120 => ⟨S256x256, .i32⟩
  | 121 => ⟨S128x4096, .f32⟩
  | 122 => ⟨S128x4096, .f32⟩
  | 123 => ⟨S128x256, .f32⟩
  | 124 => ⟨S128x256, .f32⟩
  | 125 => ⟨S128x256, .f32⟩
  | 126 => ⟨S272x128, .bf16⟩
  | 127 => ⟨S4x4096, .f32⟩
  | _ => ⟨S1x128x4096, .bf16⟩

abbrev vmemTy0_1 (i : Nat) : BufTy := match i % 128 with
  | 0 => ⟨S4x4096, .f32⟩
  | 1 => ⟨S64x256, .f32⟩
  | 2 => ⟨S64x256, .f32⟩
  | 3 => ⟨S2x4x4096, .f32⟩
  | 4 => ⟨S2x4x4096, .f32⟩
  | 5 => ⟨S2x64x128, .f32⟩
  | 6 => ⟨S4x32x128, .f32⟩
  | _ => ⟨S1x128x4096, .bf16⟩

abbrev vmemTy (i : Nat) : BufTy := match i / 128 with
  | 0 => vmemTy0_0 i
  | 1 => vmemTy0_1 i
  | _ => ⟨S1x128x4096, .bf16⟩

abbrev bufTy : (tb : Table) → Fin (tcTables nBuf tb) → BufTy
  | .hbm, ⟨0, _⟩ => ⟨S1x128x4096, .bf16⟩
  | .hbm, ⟨1, _⟩ => ⟨S1x128x4096, .bf16⟩
  | .hbm, ⟨2, _⟩ => ⟨S4096, .f32⟩
  | .hbm, ⟨3, _⟩ => ⟨S11008x256, .i32⟩
  | .hbm, ⟨4, _⟩ => ⟨S11008x64, .f32⟩
  | .hbm, ⟨5, _⟩ => ⟨S11008x64, .f32⟩
  | .hbm, ⟨6, _⟩ => ⟨S11008x64, .f32⟩
  | .hbm, ⟨7, _⟩ => ⟨S11008x64, .f32⟩
  | .hbm, ⟨8, _⟩ => ⟨S11008x64, .f32⟩
  | .hbm, ⟨9, _⟩ => ⟨S11008x64, .f32⟩
  | .hbm, ⟨10, _⟩ => ⟨S11008x256, .i32⟩
  | .hbm, ⟨11, _⟩ => ⟨S11008x64, .f32⟩
  | .hbm, ⟨12, _⟩ => ⟨S11008x64, .f32⟩
  | .hbm, ⟨13, _⟩ => ⟨S11008x64, .f32⟩
  | .hbm, ⟨14, _⟩ => ⟨S11008x64, .f32⟩
  | .hbm, ⟨15, _⟩ => ⟨S11008x64, .f32⟩
  | .hbm, ⟨16, _⟩ => ⟨S11008x64, .f32⟩
  | .hbm, ⟨17, _⟩ => ⟨S4096x688, .i32⟩
  | .hbm, ⟨18, _⟩ => ⟨S4096x172, .f32⟩
  | .hbm, ⟨19, _⟩ => ⟨S4096x172, .f32⟩
  | .hbm, ⟨20, _⟩ => ⟨S4096x172, .f32⟩
  | .hbm, ⟨21, _⟩ => ⟨S4096x172, .f32⟩
  | .hbm, ⟨22, _⟩ => ⟨S4096x172, .f32⟩
  | .hbm, ⟨23, _⟩ => ⟨S4096x172, .f32⟩
  | .hbm, ⟨24, _⟩ => ⟨S6, .f32⟩
  | .hbm, ⟨25, _⟩ => ⟨S6, .f32⟩
  | .hbm, ⟨26, _⟩ => ⟨S_, .f32⟩
  | .hbm, ⟨27, _⟩ => ⟨S_, .f32⟩
  | .hbm, ⟨28, _⟩ => ⟨S128x4096, .bf16⟩
  | .hbm, ⟨29, _⟩ => ⟨S128x4096, .bf16⟩
  | .hbm, ⟨30, _⟩ => ⟨S1x4096, .f32⟩
  | .hbm, ⟨31, _⟩ => ⟨S1, .f32⟩
  | .hbm, ⟨32, _⟩ => ⟨S1, .f32⟩
  | .hbm, ⟨33, _⟩ => ⟨S688x4096, .i32⟩
  | .hbm, ⟨34, _⟩ => ⟨S64x11008, .f32⟩
  | .hbm, ⟨35, _⟩ => ⟨S64x11008, .f32⟩
  | .hbm, ⟨36, _⟩ => ⟨S64x11008, .f32⟩
  | .hbm, ⟨37, _⟩ => ⟨S64x11008, .f32⟩
  | .hbm, ⟨38, _⟩ => ⟨S64x11008, .f32⟩
  | .hbm, ⟨39, _⟩ => ⟨S64x11008, .f32⟩
  | .hbm, ⟨40, _⟩ => ⟨S64x11008, .f32⟩
  | .hbm, ⟨41, _⟩ => ⟨S64x11008, .f32⟩
  | .hbm, ⟨42, _⟩ => ⟨S64x11008, .f32⟩
  | .hbm, ⟨43, _⟩ => ⟨S64x11008, .f32⟩
  | .hbm, ⟨44, _⟩ => ⟨S64x11008, .f32⟩
  | .hbm, ⟨45, _⟩ => ⟨S64x11008, .f32⟩
  | .hbm, ⟨46, _⟩ => ⟨S172x4096, .f32⟩
  | .hbm, ⟨47, _⟩ => ⟨S172x4096, .f32⟩
  | .hbm, ⟨48, _⟩ => ⟨S172x4096, .f32⟩
  | .hbm, ⟨49, _⟩ => ⟨S172x4096, .f32⟩
  | .hbm, ⟨50, _⟩ => ⟨S172x4096, .f32⟩
  | .hbm, ⟨51, _⟩ => ⟨S172x4096, .f32⟩
  | .hbm, ⟨52, _⟩ => ⟨S128x4096, .bf16⟩
  | .hbm, ⟨53, _⟩ => ⟨S128x4096, .bf16⟩
  | .hbm, ⟨54, _⟩ => ⟨S128x1, .f32⟩
  | .hbm, ⟨55, _⟩ => ⟨S128x11008, .bf16⟩
  | .hbm, ⟨56, _⟩ => ⟨S64x11008, .f32⟩
  | .hbm, ⟨57, _⟩ => ⟨S64x11008, .f32⟩
  | .hbm, ⟨58, _⟩ => ⟨S64x11008, .f32⟩
  | .hbm, ⟨59, _⟩ => ⟨S64x11008, .f32⟩
  | .hbm, ⟨60, _⟩ => ⟨S64x11008, .f32⟩
  | .hbm, ⟨61, _⟩ => ⟨S64x11008, .f32⟩
  | .hbm, ⟨62, _⟩ => ⟨S64x11008, .f32⟩
  | .hbm, ⟨63, _⟩ => ⟨S64x11008, .f32⟩
  | .hbm, ⟨64, _⟩ => ⟨S64x11008, .f32⟩
  | .hbm, ⟨65, _⟩ => ⟨S64x11008, .f32⟩
  | .hbm, ⟨66, _⟩ => ⟨S64x11008, .f32⟩
  | .hbm, ⟨67, _⟩ => ⟨S64x11008, .f32⟩
  | .hbm, ⟨68, _⟩ => ⟨S64x11008, .f32⟩
  | .hbm, ⟨69, _⟩ => ⟨S64x11008, .f32⟩
  | .hbm, ⟨70, _⟩ => ⟨S64x11008, .f32⟩
  | .hbm, ⟨71, _⟩ => ⟨S64x11008, .f32⟩
  | .hbm, ⟨72, _⟩ => ⟨S64x11008, .f32⟩
  | .hbm, ⟨73, _⟩ => ⟨S64x11008, .f32⟩
  | .hbm, ⟨74, _⟩ => ⟨S64x11008, .f32⟩
  | .hbm, ⟨75, _⟩ => ⟨S64x11008, .f32⟩
  | .hbm, ⟨76, _⟩ => ⟨S172x4096, .f32⟩
  | .hbm, ⟨77, _⟩ => ⟨S172x4096, .f32⟩
  | .hbm, ⟨78, _⟩ => ⟨S172x4096, .f32⟩
  | .hbm, ⟨79, _⟩ => ⟨S172x4096, .f32⟩
  | .hbm, ⟨80, _⟩ => ⟨S172x4096, .f32⟩
  | .hbm, ⟨81, _⟩ => ⟨S172x4096, .f32⟩
  | .hbm, ⟨82, _⟩ => ⟨S172x4096, .f32⟩
  | .hbm, ⟨83, _⟩ => ⟨S172x4096, .f32⟩
  | .hbm, ⟨84, _⟩ => ⟨S172x4096, .f32⟩
  | .hbm, ⟨85, _⟩ => ⟨S172x4096, .f32⟩
  | .local _ .vmem, ⟨i, _⟩ => vmemTy i
  | .local _ .smem, ⟨0, _⟩ => ⟨S6, .f32⟩
  | .local _ .smem, ⟨1, _⟩ => ⟨S6, .f32⟩
  | .local _ .smem, ⟨2, _⟩ => ⟨S1, .f32⟩
  | .local _ .smem, ⟨3, _⟩ => ⟨S1, .f32⟩
  | _, _ => ⟨S1x128x4096, .bf16⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  ofTc nBuf bufTy 0 114 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24_0 : Ref sig .tc := ⟨.hbm, 52, rfl⟩
abbrev main_v24_1 : Ref sig .tc := ⟨.hbm, 53, rfl⟩
abbrev main_v24_2 : Ref sig .tc := ⟨.hbm, 54, rfl⟩
abbrev main_v24_3 : Ref sig .tc := ⟨.hbm, 55, rfl⟩
abbrev main_v24_4 : Ref sig .tc := ⟨.hbm, 56, rfl⟩
abbrev main_v24_5 : Ref sig .tc := ⟨.hbm, 57, rfl⟩
abbrev main_v24_6 : Ref sig .tc := ⟨.hbm, 58, rfl⟩
abbrev main_v24_7 : Ref sig .tc := ⟨.hbm, 59, rfl⟩
abbrev main_v24_8 : Ref sig .tc := ⟨.hbm, 60, rfl⟩
abbrev main_v24_9 : Ref sig .tc := ⟨.hbm, 61, rfl⟩
abbrev main_v24_10 : Ref sig .tc := ⟨.hbm, 62, rfl⟩
abbrev main_v24_11 : Ref sig .tc := ⟨.hbm, 63, rfl⟩
abbrev main_v24_12 : Ref sig .tc := ⟨.hbm, 64, rfl⟩
abbrev main_v24_13 : Ref sig .tc := ⟨.hbm, 65, rfl⟩
abbrev main_v24_14 : Ref sig .tc := ⟨.hbm, 66, rfl⟩
abbrev main_v24_15 : Ref sig .tc := ⟨.hbm, 67, rfl⟩
abbrev main_v24_16 : Ref sig .tc := ⟨.hbm, 68, rfl⟩
abbrev main_v24_17 : Ref sig .tc := ⟨.hbm, 69, rfl⟩
abbrev main_v24_18 : Ref sig .tc := ⟨.hbm, 70, rfl⟩
abbrev main_v24_19 : Ref sig .tc := ⟨.hbm, 71, rfl⟩
abbrev main_v24_20 : Ref sig .tc := ⟨.hbm, 72, rfl⟩
abbrev main_v24_21 : Ref sig .tc := ⟨.hbm, 73, rfl⟩
abbrev main_v24_22 : Ref sig .tc := ⟨.hbm, 74, rfl⟩
abbrev main_v24_23 : Ref sig .tc := ⟨.hbm, 75, rfl⟩
abbrev main_v24_24 : Ref sig .tc := ⟨.hbm, 76, rfl⟩
abbrev main_v24_25 : Ref sig .tc := ⟨.hbm, 77, rfl⟩
abbrev main_v24_26 : Ref sig .tc := ⟨.hbm, 78, rfl⟩
abbrev main_v24_27 : Ref sig .tc := ⟨.hbm, 79, rfl⟩
abbrev main_v24_28 : Ref sig .tc := ⟨.hbm, 80, rfl⟩
abbrev main_v24_29 : Ref sig .tc := ⟨.hbm, 81, rfl⟩
abbrev main_v24_30 : Ref sig .tc := ⟨.hbm, 82, rfl⟩
abbrev main_v24_31 : Ref sig .tc := ⟨.hbm, 83, rfl⟩
abbrev main_v24_32 : Ref sig .tc := ⟨.hbm, 84, rfl⟩
abbrev main_v24_33 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg7_0 : Ref sig .tc := ⟨.vmem, 3, rfl⟩
abbrev cc0_stg7_1 : Ref sig .tc := ⟨.vmem, 4, rfl⟩
abbrev cc0_stg8_0 : Ref sig .tc := ⟨.vmem, 5, rfl⟩
abbrev cc0_stg8_1 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_stg27_0 : Ref sig .tc := ⟨.vmem, 43, rfl⟩
abbrev cc0_stg27_1 : Ref sig .tc := ⟨.vmem, 44, rfl⟩
abbrev cc0_stg28_0 : Ref sig .tc := ⟨.vmem, 45, rfl⟩
abbrev cc0_stg29_0 : Ref sig .tc := ⟨.vmem, 46, rfl⟩
abbrev cc0_stg30_0 : Ref sig .tc := ⟨.vmem, 47, rfl⟩
abbrev cc0_stg31_0 : Ref sig .tc := ⟨.vmem, 48, rfl⟩
abbrev cc0_stg31_1 : Ref sig .tc := ⟨.vmem, 49, rfl⟩
abbrev cc0_stg32_0 : Ref sig .tc := ⟨.vmem, 50, rfl⟩
abbrev cc0_stg32_1 : Ref sig .tc := ⟨.vmem, 51, rfl⟩
abbrev cc0_stg33_0 : Ref sig .tc := ⟨.vmem, 52, rfl⟩
abbrev cc0_stg33_1 : Ref sig .tc := ⟨.vmem, 53, rfl⟩
abbrev cc0_stg34_0 : Ref sig .tc := ⟨.vmem, 54, rfl⟩
abbrev cc0_stg34_1 : Ref sig .tc := ⟨.vmem, 55, rfl⟩
abbrev cc0_stg35_0 : Ref sig .tc := ⟨.vmem, 56, rfl⟩
abbrev cc0_stg35_1 : Ref sig .tc := ⟨.vmem, 57, rfl⟩
abbrev cc0_stg36_0 : Ref sig .tc := ⟨.vmem, 58, rfl⟩
abbrev cc0_stg36_1 : Ref sig .tc := ⟨.vmem, 59, rfl⟩
abbrev cc0_stg37_0 : Ref sig .tc := ⟨.vmem, 60, rfl⟩
abbrev cc0_stg37_1 : Ref sig .tc := ⟨.vmem, 61, rfl⟩
abbrev cc0_stg38_0 : Ref sig .tc := ⟨.vmem, 62, rfl⟩
abbrev cc0_stg38_1 : Ref sig .tc := ⟨.vmem, 63, rfl⟩
abbrev cc0_stg39_0 : Ref sig .tc := ⟨.vmem, 64, rfl⟩
abbrev cc0_stg39_1 : Ref sig .tc := ⟨.vmem, 65, rfl⟩
abbrev cc0_stg40_0 : Ref sig .tc := ⟨.vmem, 66, rfl⟩
abbrev cc0_stg40_1 : Ref sig .tc := ⟨.vmem, 67, rfl⟩
abbrev cc0_stg41_0 : Ref sig .tc := ⟨.vmem, 68, rfl⟩
abbrev cc0_stg41_1 : Ref sig .tc := ⟨.vmem, 69, rfl⟩
abbrev cc0_stg42_0 : Ref sig .tc := ⟨.vmem, 70, rfl⟩
abbrev cc0_stg42_1 : Ref sig .tc := ⟨.vmem, 71, rfl⟩
abbrev cc0_stg43_0 : Ref sig .tc := ⟨.vmem, 72, rfl⟩
abbrev cc0_stg43_1 : Ref sig .tc := ⟨.vmem, 73, rfl⟩
abbrev cc0_stg44_0 : Ref sig .tc := ⟨.vmem, 74, rfl⟩
abbrev cc0_stg44_1 : Ref sig .tc := ⟨.vmem, 75, rfl⟩
abbrev cc0_stg45_0 : Ref sig .tc := ⟨.vmem, 76, rfl⟩
abbrev cc0_stg45_1 : Ref sig .tc := ⟨.vmem, 77, rfl⟩
abbrev cc0_stg46_0 : Ref sig .tc := ⟨.vmem, 78, rfl⟩
abbrev cc0_stg46_1 : Ref sig .tc := ⟨.vmem, 79, rfl⟩
abbrev cc0_stg47_0 : Ref sig .tc := ⟨.vmem, 80, rfl⟩
abbrev cc0_stg47_1 : Ref sig .tc := ⟨.vmem, 81, rfl⟩
abbrev cc0_stg48_0 : Ref sig .tc := ⟨.vmem, 82, rfl⟩
abbrev cc0_stg48_1 : Ref sig .tc := ⟨.vmem, 83, rfl⟩
abbrev cc0_stg49_0 : Ref sig .tc := ⟨.vmem, 84, rfl⟩
abbrev cc0_stg49_1 : Ref sig .tc := ⟨.vmem, 85, rfl⟩
abbrev cc0_stg50_0 : Ref sig .tc := ⟨.vmem, 86, rfl⟩
abbrev cc0_stg50_1 : Ref sig .tc := ⟨.vmem, 87, rfl⟩
abbrev cc0_stg51_0 : Ref sig .tc := ⟨.vmem, 88, rfl⟩
abbrev cc0_stg51_1 : Ref sig .tc := ⟨.vmem, 89, rfl⟩
abbrev cc0_stg52_0 : Ref sig .tc := ⟨.vmem, 90, rfl⟩
abbrev cc0_stg52_1 : Ref sig .tc := ⟨.vmem, 91, rfl⟩
abbrev cc0_stg53_0 : Ref sig .tc := ⟨.vmem, 92, rfl⟩
abbrev cc0_stg53_1 : Ref sig .tc := ⟨.vmem, 93, rfl⟩
abbrev cc0_stg54_0 : Ref sig .tc := ⟨.vmem, 94, rfl⟩
abbrev cc0_stg54_1 : Ref sig .tc := ⟨.vmem, 95, rfl⟩
abbrev cc0_stg55_0 : Ref sig .tc := ⟨.vmem, 96, rfl⟩
abbrev cc0_stg55_1 : Ref sig .tc := ⟨.vmem, 97, rfl⟩
abbrev cc0_stg56_0 : Ref sig .tc := ⟨.vmem, 98, rfl⟩
abbrev cc0_stg56_1 : Ref sig .tc := ⟨.vmem, 99, rfl⟩
abbrev cc0_stg57_0 : Ref sig .tc := ⟨.vmem, 100, rfl⟩
abbrev cc0_stg57_1 : Ref sig .tc := ⟨.vmem, 101, rfl⟩
abbrev cc0_stg58_0 : Ref sig .tc := ⟨.vmem, 102, rfl⟩
abbrev cc0_stg58_1 : Ref sig .tc := ⟨.vmem, 103, rfl⟩
abbrev cc0_stg59_0 : Ref sig .tc := ⟨.vmem, 104, rfl⟩
abbrev cc0_stg59_1 : Ref sig .tc := ⟨.vmem, 105, rfl⟩
abbrev cc0_stg60_0 : Ref sig .tc := ⟨.vmem, 106, rfl⟩
abbrev cc0_stg60_1 : Ref sig .tc := ⟨.vmem, 107, rfl⟩
abbrev cc0_stg61_0 : Ref sig .tc := ⟨.vmem, 108, rfl⟩
abbrev cc0_stg61_1 : Ref sig .tc := ⟨.vmem, 109, rfl⟩
abbrev cc0_scratch0 : Ref sig .tc := ⟨.vmem, 110, rfl⟩
abbrev cc0_scratch1 : Ref sig .tc := ⟨.vmem, 111, rfl⟩
abbrev cc0_scratch2 : Ref sig .tc := ⟨.vmem, 112, rfl⟩
abbrev cc0_scratch3 : Ref sig .tc := ⟨.vmem, 113, rfl⟩
abbrev cc0_scratch4 : Ref sig .tc := ⟨.vmem, 114, rfl⟩
abbrev cc0_scratch5 : Ref sig .tc := ⟨.vmem, 115, rfl⟩
abbrev cc0_scratch6 : Ref sig .tc := ⟨.vmem, 116, rfl⟩
abbrev cc0_scratch7 : Ref sig .tc := ⟨.vmem, 117, rfl⟩
abbrev cc0_scratch8 : Ref sig .tc := ⟨.vmem, 118, rfl⟩
abbrev cc0_scratch9 : Ref sig .tc := ⟨.vmem, 119, rfl⟩
abbrev cc0_scratch10 : Ref sig .tc := ⟨.vmem, 120, rfl⟩
abbrev cc0_scratch11 : Ref sig .tc := ⟨.vmem, 121, rfl⟩
abbrev cc0_scratch12 : Ref sig .tc := ⟨.vmem, 122, rfl⟩
abbrev cc0_scratch13 : Ref sig .tc := ⟨.vmem, 123, rfl⟩
abbrev cc0_scratch14 : Ref sig .tc := ⟨.vmem, 124, rfl⟩
abbrev cc0_scratch15 : Ref sig .tc := ⟨.vmem, 125, rfl⟩
abbrev cc0_scratch16 : Ref sig .tc := ⟨.vmem, 126, rfl⟩
abbrev cc0_scratch17 : Ref sig .tc := ⟨.vmem, 127, rfl⟩
abbrev cc0_scratch18 : Ref sig .tc := ⟨.vmem, 128, rfl⟩
abbrev cc0_scratch19 : Ref sig .tc := ⟨.vmem, 129, rfl⟩
abbrev cc0_scratch20 : Ref sig .tc := ⟨.vmem, 130, rfl⟩
abbrev cc0_scratch21 : Ref sig .tc := ⟨.vmem, 131, rfl⟩
abbrev cc0_scratch22 : Ref sig .tc := ⟨.vmem, 132, rfl⟩
abbrev cc0_scratch23 : Ref sig .tc := ⟨.vmem, 133, rfl⟩
abbrev cc0_scratch24 : Ref sig .tc := ⟨.vmem, 134, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_stg6_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46
abbrev cc0_sem27_0 : DmaSem sig := 47
abbrev cc0_sem27_1 : DmaSem sig := 48
abbrev cc0_sem28_0 : DmaSem sig := 49
abbrev cc0_sem29_0 : DmaSem sig := 50
abbrev cc0_sem30_0 : DmaSem sig := 51
abbrev cc0_sem31_0 : DmaSem sig := 52
abbrev cc0_sem31_1 : DmaSem sig := 53
abbrev cc0_sem32_0 : DmaSem sig := 54
abbrev cc0_sem32_1 : DmaSem sig := 55
abbrev cc0_sem33_0 : DmaSem sig := 56
abbrev cc0_sem33_1 : DmaSem sig := 57
abbrev cc0_sem34_0 : DmaSem sig := 58
abbrev cc0_sem34_1 : DmaSem sig := 59
abbrev cc0_sem35_0 : DmaSem sig := 60
abbrev cc0_sem35_1 : DmaSem sig := 61
abbrev cc0_sem36_0 : DmaSem sig := 62
abbrev cc0_sem36_1 : DmaSem sig := 63
abbrev cc0_sem37_0 : DmaSem sig := 64
abbrev cc0_sem37_1 : DmaSem sig := 65
abbrev cc0_sem38_0 : DmaSem sig := 66
abbrev cc0_sem38_1 : DmaSem sig := 67
abbrev cc0_sem39_0 : DmaSem sig := 68
abbrev cc0_sem39_1 : DmaSem sig := 69
abbrev cc0_sem40_0 : DmaSem sig := 70
abbrev cc0_sem40_1 : DmaSem sig := 71
abbrev cc0_sem41_0 : DmaSem sig := 72
abbrev cc0_sem41_1 : DmaSem sig := 73
abbrev cc0_sem42_0 : DmaSem sig := 74
abbrev cc0_sem42_1 : DmaSem sig := 75
abbrev cc0_sem43_0 : DmaSem sig := 76
abbrev cc0_sem43_1 : DmaSem sig := 77
abbrev cc0_sem44_0 : DmaSem sig := 78
abbrev cc0_sem44_1 : DmaSem sig := 79
abbrev cc0_sem45_0 : DmaSem sig := 80
abbrev cc0_sem45_1 : DmaSem sig := 81
abbrev cc0_sem46_0 : DmaSem sig := 82
abbrev cc0_sem46_1 : DmaSem sig := 83
abbrev cc0_sem47_0 : DmaSem sig := 84
abbrev cc0_sem47_1 : DmaSem sig := 85
abbrev cc0_sem48_0 : DmaSem sig := 86
abbrev cc0_sem48_1 : DmaSem sig := 87
abbrev cc0_sem49_0 : DmaSem sig := 88
abbrev cc0_sem49_1 : DmaSem sig := 89
abbrev cc0_sem50_0 : DmaSem sig := 90
abbrev cc0_sem50_1 : DmaSem sig := 91
abbrev cc0_sem51_0 : DmaSem sig := 92
abbrev cc0_sem51_1 : DmaSem sig := 93
abbrev cc0_sem52_0 : DmaSem sig := 94
abbrev cc0_sem52_1 : DmaSem sig := 95
abbrev cc0_sem53_0 : DmaSem sig := 96
abbrev cc0_sem53_1 : DmaSem sig := 97
abbrev cc0_sem54_0 : DmaSem sig := 98
abbrev cc0_sem54_1 : DmaSem sig := 99
abbrev cc0_sem55_0 : DmaSem sig := 100
abbrev cc0_sem55_1 : DmaSem sig := 101
abbrev cc0_sem56_0 : DmaSem sig := 102
abbrev cc0_sem56_1 : DmaSem sig := 103
abbrev cc0_sem57_0 : DmaSem sig := 104
abbrev cc0_sem57_1 : DmaSem sig := 105
abbrev cc0_sem58_0 : DmaSem sig := 106
abbrev cc0_sem58_1 : DmaSem sig := 107
abbrev cc0_sem59_0 : DmaSem sig := 108
abbrev cc0_sem59_1 : DmaSem sig := 109
abbrev cc0_sem60_0 : DmaSem sig := 110
abbrev cc0_sem60_1 : DmaSem sig := 111
abbrev cc0_sem61_0 : DmaSem sig := 112
abbrev cc0_sem61_1 : DmaSem sig := 113

abbrev nD : Nat := 1
abbrev τ : Topo := Topo.v7x

variable {F : FTy → Type} [FloatOps F]

abbrev grid0 : Pipeline.Grid := ⟨1, ![43], ![false]⟩

@[reducible] def k0_t1_loop : Scf.Loop 32 :=
  let c0_i32_29 : BitVec 32 := 0#32
  let c8_i32 : BitVec 32 := 8#32
  let v44 : BitVec 32 := Scalar.addi c0_i32_29 c8_i32
  let c1_i32 : BitVec 32 := 1#32
  ⟨c0_i32_29, v44, c1_i32⟩
def k0_mult1 (k0_t1 : Fin k0_t1_loop.trips) : BitVec 32 :=
  let c0_i32_29 : BitVec 32 := 0#32
  let c1_i32 : BitVec 32 := 1#32
  let arg88 : BitVec 32 := Scf.iv c0_i32_29 c1_i32 k0_t1
  let c512_i32 : BitVec 32 := 512#32
  let v282 : BitVec 32 := Scalar.muli arg88 c512_i32
  v282
def k0_mult2 (k0_t1 : Fin k0_t1_loop.trips) : BitVec 32 :=
  let c0_i32_29 : BitVec 32 := 0#32
  let c1_i32 : BitVec 32 := 1#32
  let arg88 : BitVec 32 := Scf.iv c0_i32_29 c1_i32 k0_t1
  let c32_i32 : BitVec 32 := 32#32
  let v284 : BitVec 32 := Scalar.muli arg88 c32_i32
  v284
def k0_mult3 (k0_t1 : Fin k0_t1_loop.trips) : BitVec 32 :=
  let c0_i32_29 : BitVec 32 := 0#32
  let c1_i32 : BitVec 32 := 1#32
  let arg88 : BitVec 32 := Scf.iv c0_i32_29 c1_i32 k0_t1
  let c8_i32_166 : BitVec 32 := 8#32
  let v286 : BitVec 32 := Scalar.muli arg88 c8_i32_166
  v286
def k0_off1 (k0_t1 : Fin k0_t1_loop.trips) : Fin 2 → Nat :=
  let c0_167 : Index := 0#32
  let c0_i32_29 : BitVec 32 := 0#32
  let c1_i32 : BitVec 32 := 1#32
  let arg88 : BitVec 32 := Scf.iv c0_i32_29 c1_i32 k0_t1
  let c512_i32 : BitVec 32 := 512#32
  let v282 : BitVec 32 := Scalar.muli arg88 c512_i32
  let v283 : BitVec 32 := v282
  let v288 : Index := Scalar.indexCast v283
  ![0, v288.toNat]
def k0_off2 (k0_t1 : Fin k0_t1_loop.trips) : Fin 2 → Nat :=
  let c0_i32_29 : BitVec 32 := 0#32
  let c1_i32 : BitVec 32 := 1#32
  let arg88 : BitVec 32 := Scf.iv c0_i32_29 c1_i32 k0_t1
  let c32_i32 : BitVec 32 := 32#32
  let v284 : BitVec 32 := Scalar.muli arg88 c32_i32
  let v285 : BitVec 32 := v284
  let v290 : Index := Scalar.indexCast v285
  let c0_168 : Index := 0#32
  ![v290.toNat, 0]
def k0_off3 (k0_t1 : Fin k0_t1_loop.trips) : Fin 2 → Nat :=
  let c0_i32_29 : BitVec 32 := 0#32
  let c1_i32 : BitVec 32 := 1#32
  let arg88 : BitVec 32 := Scf.iv c0_i32_29 c1_i32 k0_t1
  let c8_i32_166 : BitVec 32 := 8#32
  let v286 : BitVec 32 := Scalar.muli arg88 c8_i32_166
  let v287 : BitVec 32 := v286
  let v303 : Index := Scalar.indexCast v287
  let c0_170 : Index := 0#32
  ![v303.toNat, 0]
def k0_off4 (k0_t1 : Fin k0_t1_loop.trips) : Fin 2 → Nat :=
  let c0_i32_29 : BitVec 32 := 0#32
  let c1_i32 : BitVec 32 := 1#32
  let arg88 : BitVec 32 := Scf.iv c0_i32_29 c1_i32 k0_t1
  let c512_i32 : BitVec 32 := 512#32
  let v282 : BitVec 32 := Scalar.muli arg88 c512_i32
  let v283 : BitVec 32 := v282
  let v382 : Index := Scalar.indexCast v283
  let c0_172 : Index := 0#32
  ![v382.toNat, 0]
def k0_off5 (k0_t1 : Fin k0_t1_loop.trips) : Fin 2 → Nat :=
  let c0_191 : Index := 0#32
  let c0_i32_29 : BitVec 32 := 0#32
  let c1_i32 : BitVec 32 := 1#32
  let arg88 : BitVec 32 := Scf.iv c0_i32_29 c1_i32 k0_t1
  let c512_i32 : BitVec 32 := 512#32
  let v282 : BitVec 32 := Scalar.muli arg88 c512_i32
  let v283 : BitVec 32 := v282
  let v502 : Index := Scalar.indexCast v283
  ![0, v502.toNat]
def k0_off6 (k0_t1 : Fin k0_t1_loop.trips) : Fin 2 → Nat :=
  let c0_194 : Index := 0#32
  let c0_i32_29 : BitVec 32 := 0#32
  let c1_i32 : BitVec 32 := 1#32
  let arg88 : BitVec 32 := Scf.iv c0_i32_29 c1_i32 k0_t1
  let c512_i32 : BitVec 32 := 512#32
  let v282 : BitVec 32 := Scalar.muli arg88 c512_i32
  let v283 : BitVec 32 := v282
  let v516 : Index := Scalar.indexCast v283
  ![0, v516.toNat]
def k0_off7 (k0_t1 : Fin k0_t1_loop.trips) : Fin 2 → Nat :=
  let c0_196 : Index := 0#32
  let c0_i32_29 : BitVec 32 := 0#32
  let c1_i32 : BitVec 32 := 1#32
  let arg88 : BitVec 32 := Scf.iv c0_i32_29 c1_i32 k0_t1
  let c512_i32 : BitVec 32 := 512#32
  let v282 : BitVec 32 := Scalar.muli arg88 c512_i32
  let v283 : BitVec 32 := v282
  let v557 : Index := Scalar.indexCast v283
  ![0, v557.toNat]
@[reducible] def k0_t2_loop : Scf.Loop 32 :=
  let c0_i32_49 : BitVec 32 := 0#32
  let c8_i32_50 : BitVec 32 := 8#32
  let v95 : BitVec 32 := Scalar.addi c0_i32_49 c8_i32_50
  let c1_i32_51 : BitVec 32 := 1#32
  ⟨c0_i32_49, v95, c1_i32_51⟩
def k0_mult4 (k0_t2 : Fin k0_t2_loop.trips) : BitVec 32 :=
  let c0_i32_49 : BitVec 32 := 0#32
  let c1_i32_51 : BitVec 32 := 1#32
  let arg88 : BitVec 32 := Scf.iv c0_i32_49 c1_i32_51 k0_t2
  let c512_i32 : BitVec 32 := 512#32
  let v282 : BitVec 32 := Scalar.muli arg88 c512_i32
  v282
def k0_mult5 (k0_t2 : Fin k0_t2_loop.trips) : BitVec 32 :=
  let c0_i32_49 : BitVec 32 := 0#32
  let c1_i32_51 : BitVec 32 := 1#32
  let arg88 : BitVec 32 := Scf.iv c0_i32_49 c1_i32_51 k0_t2
  let c8_i32_166 : BitVec 32 := 8#32
  let v284 : BitVec 32 := Scalar.muli arg88 c8_i32_166
  v284
def k0_off8 (k0_t2 : Fin k0_t2_loop.trips) : Fin 2 → Nat :=
  let c0_i32_49 : BitVec 32 := 0#32
  let c1_i32_51 : BitVec 32 := 1#32
  let arg88 : BitVec 32 := Scf.iv c0_i32_49 c1_i32_51 k0_t2
  let c512_i32 : BitVec 32 := 512#32
  let v282 : BitVec 32 := Scalar.muli arg88 c512_i32
  let v283 : BitVec 32 := v282
  let v286 : Index := Scalar.indexCast v283
  let c0_167 : Index := 0#32
  ![v286.toNat, 0]
def k0_off9 (k0_t2 : Fin k0_t2_loop.trips) : Fin 2 → Nat :=
  let c0_i32_49 : BitVec 32 := 0#32
  let c1_i32_51 : BitVec 32 := 1#32
  let arg88 : BitVec 32 := Scf.iv c0_i32_49 c1_i32_51 k0_t2
  let c512_i32 : BitVec 32 := 512#32
  let v282 : BitVec 32 := Scalar.muli arg88 c512_i32
  let v283 : BitVec 32 := v282
  let v289 : Index := Scalar.indexCast v283
  let c0_169 : Index := 0#32
  ![v289.toNat, 0]
def k0_off10 (k0_t2 : Fin k0_t2_loop.trips) : Fin 2 → Nat :=
  let c0_i32_49 : BitVec 32 := 0#32
  let c1_i32_51 : BitVec 32 := 1#32
  let arg88 : BitVec 32 := Scf.iv c0_i32_49 c1_i32_51 k0_t2
  let c8_i32_166 : BitVec 32 := 8#32
  let v284 : BitVec 32 := Scalar.muli arg88 c8_i32_166
  let v285 : BitVec 32 := v284
  let v351 : Index := Scalar.indexCast v285
  let c0_221 : Index := 0#32
  ![v351.toNat, 0]
def k0_off11 (k0_t2 : Fin k0_t2_loop.trips) : Fin 2 → Nat :=
  let c0_280 : Index := 0#32
  let c0_i32_49 : BitVec 32 := 0#32
  let c1_i32_51 : BitVec 32 := 1#32
  let arg88 : BitVec 32 := Scf.iv c0_i32_49 c1_i32_51 k0_t2
  let c512_i32 : BitVec 32 := 512#32
  let v282 : BitVec 32 := Scalar.muli arg88 c512_i32
  let v283 : BitVec 32 := v282
  let v422 : Index := Scalar.indexCast v283
  ![0, v422.toNat]
def k0_off12 (k0_t2 : Fin k0_t2_loop.trips) : Fin 2 → Nat :=
  let c0_290 : Index := 0#32
  let c0_i32_49 : BitVec 32 := 0#32
  let c1_i32_51 : BitVec 32 := 1#32
  let arg88 : BitVec 32 := Scf.iv c0_i32_49 c1_i32_51 k0_t2
  let c512_i32 : BitVec 32 := 512#32
  let v282 : BitVec 32 := Scalar.muli arg88 c512_i32
  let v283 : BitVec 32 := v282
  let v442 : Index := Scalar.indexCast v283
  ![0, v442.toNat]
def k0_off13 (i : grid0.Coords) (k0_t2 : Fin k0_t2_loop.trips) : Fin 3 → Nat :=
  let arg0 : BitVec 32 := BitVec.ofNat 32 (i 0).val
  let c2_i32 : BitVec 32 := 2#32
  let v13 : BitVec 32 := Scalar.remsi arg0 c2_i32
  let v558 : Index := Scalar.indexCast v13
  let c0_400 : Index := 0#32
  let c0_i32_49 : BitVec 32 := 0#32
  let c1_i32_51 : BitVec 32 := 1#32
  let arg88 : BitVec 32 := Scf.iv c0_i32_49 c1_i32_51 k0_t2
  let c512_i32 : BitVec 32 := 512#32
  let v282 : BitVec 32 := Scalar.muli arg88 c512_i32
  let v283 : BitVec 32 := v282
  let v559 : Index := Scalar.indexCast v283
  ![v558.toNat, 0, v559.toNat]
def k0_cond3 (i : grid0.Coords) : BitVec 1 :=
  let arg0 : BitVec 32 := BitVec.ofNat 32 (i 0).val
  let c42_i32_164 : BitVec 32 := 42#32
  let v279 : BitVec 1 := Scalar.cmpi .eq arg0 c42_i32_164
  let v280 : BitVec 32 := Scalar.extui v279
  let c0_i32_165 : BitVec 32 := 0#32
  let v281 : BitVec 1 := Scalar.cmpi .ne v280 c0_i32_165
  v281

def k0_cond2 (i : grid0.Coords) : BitVec 1 :=
  let arg0 : BitVec 32 := BitVec.ofNat 32 (i 0).val
  let c2_i32 : BitVec 32 := 2#32
  let v13 : BitVec 32 := Scalar.remsi arg0 c2_i32
  let c1_i32_162 : BitVec 32 := 1#32
  let v274 : BitVec 1 := Scalar.cmpi .eq v13 c1_i32_162
  let c42_i32 : BitVec 32 := 42#32
  let v275 : BitVec 1 := Scalar.cmpi .eq arg0 c42_i32
  let v276 : BitVec 1 := Scalar.ori v274 v275
  let v277 : BitVec 32 := Scalar.extui v276
  let c0_i32_163 : BitVec 32 := 0#32
  let v278 : BitVec 1 := Scalar.cmpi .ne v277 c0_i32_163
  v278

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_23 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_24 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_25 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_26 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_27 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_32 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_33 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_34 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_35 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_36 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_37 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_38 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_39 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_40 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_41 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_42 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_43 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_44 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_45 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_46 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_47 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_48 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_49 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_50 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_51 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_52 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_53 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_54 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_55 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_56 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_57 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_58 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_59 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_60 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_61 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x4096 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x4096 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x4096 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x4096 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8x4096 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x4096 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S8x4096 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 1 → Memref sig .tc .vmem S128x4096 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x4096 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x1 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 2 → Memref sig .tc .vmem S128x256 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S64x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S64x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S64x256 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S64x256 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S64x256 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S64x256 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S64x256 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S64x256 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S64x256 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S64x256 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S64x256 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S64x256 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S64x256 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S64x256 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S64x256 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S64x256 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S64x256 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S64x256 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S64x256 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S64x256 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S8x4096 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S8x4096 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S8x4096 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S8x4096 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S8x4096 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S8x4096 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S8x4096 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S8x4096 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S8x4096 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S8x4096 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]
-- ==== ReferenceIdeal.lean ====
abbrev S1x128x4096 : Shape := ⟨3, ![1, 128, 4096]⟩
abbrev S4096 : Shape := ⟨1, ![4096]⟩
abbrev S11008x256 : Shape := ⟨2, ![11008, 256]⟩
abbrev S11008x64 : Shape := ⟨2, ![11008, 64]⟩
abbrev S4096x688 : Shape := ⟨2, ![4096, 688]⟩
abbrev S4096x172 : Shape := ⟨2, ![4096, 172]⟩
abbrev S6 : Shape := ⟨1, ![6]⟩
abbrev S_ : Shape := ⟨0, ![]⟩
abbrev S16 : Shape := ⟨1, ![16]⟩
abbrev S11008x256x1 : Shape := ⟨3, ![11008, 256, 1]⟩
abbrev S1x1x16 : Shape := ⟨3, ![1, 1, 16]⟩
abbrev S11008x256x16 : Shape := ⟨3, ![11008, 256, 16]⟩
abbrev S11008x64x64 : Shape := ⟨3, ![11008, 64, 64]⟩
abbrev S11008x64x1 : Shape := ⟨3, ![11008, 64, 1]⟩
abbrev S11008x4096 : Shape := ⟨2, ![11008, 4096]⟩
abbrev S4096x688x1 : Shape := ⟨3, ![4096, 688, 1]⟩
abbrev S4096x688x16 : Shape := ⟨3, ![4096, 688, 16]⟩
abbrev S4096x172x64 : Shape := ⟨3, ![4096, 172, 64]⟩
abbrev S4096x172x1 : Shape := ⟨3, ![4096, 172, 1]⟩
abbrev S4096x11008 : Shape := ⟨2, ![4096, 11008]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩
abbrev S128x11008 : Shape := ⟨2, ![128, 11008]⟩

abbrev nBuf : Space → Nat
  | .hbm => 183
  | .vmem => 0
  | .smem => 0
  | _ => 0

abbrev hbmTy0_0 (i : Nat) : BufTy := match i % 128 with
  | 0 => ⟨S1x128x4096, .bf16⟩
  | 1 => ⟨S1x128x4096, .bf16⟩
  | 2 => ⟨S4096, .f32⟩
  | 3 => ⟨S11008x256, .i32⟩
  | 4 => ⟨S11008x64, .f32⟩
  | 5 => ⟨S11008x64, .f32⟩
  | 6 => ⟨S11008x64, .f32⟩
  | 7 => ⟨S11008x64, .f32⟩
  | 8 => ⟨S11008x64, .f32⟩
  | 9 => ⟨S11008x64, .f32⟩
  | 10 => ⟨S11008x256, .i32⟩
  | 11 => ⟨S11008x64, .f32⟩
  | 12 => ⟨S11008x64, .f32⟩
  | 13 => ⟨S11008x64, .f32⟩
  | 14 => ⟨S11008x64, .f32⟩
  | 15 => ⟨S11008x64, .f32⟩
  | 16 => ⟨S11008x64, .f32⟩
  | 17 => ⟨S4096x688, .i32⟩
  | 18 => ⟨S4096x172, .f32⟩
  | 19 => ⟨S4096x172, .f32⟩
  | 20 => ⟨S4096x172, .f32⟩
  | 21 => ⟨S4096x172, .f32⟩
  | 22 => ⟨S4096x172, .f32⟩
  | 23 => ⟨S4096x172, .f32⟩
  | 24 => ⟨S6, .f32⟩
  | 25 => ⟨S6, .f32⟩
  | 26 => ⟨S_, .f32⟩
  | 27 => ⟨S_, .f32⟩
  | 28 => ⟨S11008x256, .i32⟩
  | 29 => ⟨S16, .i32⟩
  | 30 => ⟨S_, .i32⟩
  | 31 => ⟨S16, .i32⟩
  | 32 => ⟨S16, .i32⟩
  | 33 => ⟨S11008x256x1, .i32⟩
  | 34 => ⟨S1x1x16, .i32⟩
  | 35 => ⟨S11008x256x16, .i32⟩
  | 36 => ⟨S11008x256x16, .i32⟩
  | 37 => ⟨S11008x256x16, .i32⟩
  | 38 => ⟨S_, .i32⟩
  | 39 => ⟨S11008x256x16, .i32⟩
  | 40 => ⟨S11008x256x16, .i32⟩
  | 41 => ⟨S11008x64x64, .i32⟩
  | 42 => ⟨S11008x64x64, .f32⟩
  | 43 => ⟨S11008x64x1, .f32⟩
  | 44 => ⟨S11008x64x64, .f32⟩
  | 45 => ⟨S11008x64x64, .f32⟩
  | 46 => ⟨S11008x64x1, .f32⟩
  | 47 => ⟨S11008x64x64, .f32⟩
  | 48 => ⟨S11008x64x64, .f32⟩
  | 49 => ⟨S11008x64x64, .bf16⟩
  | 50 => ⟨S11008x4096, .bf16⟩
  | 51 => ⟨S11008x256, .i32⟩
  | 52 => ⟨S16, .i32⟩
  | 53 => ⟨S_, .i32⟩
  | 54 => ⟨S16, .i32⟩
  | 55 => ⟨S16, .i32⟩
  | 56 => ⟨S11008x256x1, .i32⟩
  | 57 => ⟨S1x1x16, .i32⟩
  | 58 => ⟨S11008x256x16, .i32⟩
  | 59 => ⟨S11008x256x16, .i32⟩
  | 60 => ⟨S11008x256x16, .i32⟩
  | 61 => ⟨S_, .i32⟩
  | 62 => ⟨S11008x256x16, .i32⟩
  | 63 => ⟨S11008x256x16, .i32⟩
  | 64 => ⟨S11008x64x64, .i32⟩
  | 65 => ⟨S11008x64x64, .f32⟩
  | 66 => ⟨S11008x64x1, .f32⟩
  | 67 => ⟨S11008x64x64, .f32⟩
  | 68 => ⟨S11008x64x64, .f32⟩
  | 69 => ⟨S11008x64x1, .f32⟩
  | 70 => ⟨S11008x64x64, .f32⟩
  | 71 => ⟨S11008x64x64, .f32⟩
  | 72 => ⟨S11008x64x64, .bf16⟩
  | 73 => ⟨S11008x4096, .bf16⟩
  | 74 => ⟨S4096x688, .i32⟩
  | 75 => ⟨S16, .i32⟩
  | 76 => ⟨S_, .i32⟩
  | 77 => ⟨S16, .i32⟩
  | 78 => ⟨S16, .i32⟩
  | 79 => ⟨S4096x688x1, .i32⟩
  | 80 => ⟨S1x1x16, .i32⟩
  | 81 => ⟨S4096x688x16, .i32⟩
  | 82 => ⟨S4096x688x16, .i32⟩
  | 83 => ⟨S4096x688x16, .i32⟩
  | 84 => ⟨S_, .i32⟩
  | 85 => ⟨S4096x688x16, .i32⟩
  | 86 => ⟨S4096x688x16, .i32⟩
  | 87 => ⟨S4096x172x64, .i32⟩
  | 88 => ⟨S4096x172x64, .f32⟩
  | 89 => ⟨S4096x172x1, .f32⟩
  | 90 => ⟨S4096x172x64, .f32⟩
  | 91 => ⟨S4096x172x64, .f32⟩
  | 92 => ⟨S4096x172x1, .f32⟩
  | 93 => ⟨S4096x172x64, .f32⟩
  | 94 => ⟨S4096x172x64, .f32⟩
  | 95 => ⟨S4096x172x64, .bf16⟩
  | 96 => ⟨S4096x11008, .bf16⟩
  | 97 => ⟨S128x4096, .bf16⟩
  | 98 => ⟨S128x4096, .f32⟩
  | 99 => ⟨S128x4096, .bf16⟩
  | 100 => ⟨S128x4096, .f32⟩
  | 101 => ⟨S_, .f32⟩
  | 102 => ⟨S128, .f32⟩
  | 103 => ⟨S128x1, .f32⟩
  | 104 => ⟨S_, .f32⟩
  | 105 => ⟨S128x1, .f32⟩
  | 106 => ⟨S128x1, .f32⟩
  | 107 => ⟨S_, .f32⟩
  | 108 => ⟨S128x1, .f32⟩
  | 109 => ⟨S128x1, .f32⟩
  | 110 => ⟨S128x1, .f32⟩
  | 111 => ⟨S_, .f32⟩
  | 112 => ⟨S128x1, .f32⟩
  | 113 => ⟨S128x1, .f32⟩
  | 114 => ⟨S128x4096, .f32⟩
  | 115 => ⟨S128x4096, .f32⟩
  | 116 => ⟨S1x4096, .f32⟩
  | 117 => ⟨S128x4096, .f32⟩
  | 118 => ⟨S128x4096, .f32⟩
  | 119 => ⟨S128x4096, .bf16⟩
  | 120 => ⟨S128x11008, .f32⟩
  | 121 => ⟨S128x11008, .f32⟩
  | 122 => ⟨S128x11008, .f32⟩
  | 123 => ⟨S128x11008, .f32⟩
  | 124 => ⟨S_, .f32⟩
  | 125 => ⟨S128x11008, .f32⟩
  | 126 => ⟨S128x11008, .f32⟩
  | 127 => ⟨S_, .f32⟩
  | _ => ⟨S1x128x4096, .bf16⟩

abbrev hbmTy0_1 (i : Nat) : BufTy := match i % 128 with
  | 0 => ⟨S128x11008, .f32⟩
  | 1 => ⟨S128x11008, .f32⟩
  | 2 => ⟨S128x11008, .f32⟩
  | 3 => ⟨S128x11008, .f32⟩
  | 4 => ⟨S128x11008, .bf16⟩
  | 5 => ⟨S128x4096, .f32⟩
  | 6 => ⟨S128x4096, .f32⟩
  | 7 => ⟨S128x4096, .bf16⟩
  | 8 => ⟨S128x11008, .f32⟩
  | 9 => ⟨S128x11008, .f32⟩
  | 10 => ⟨S128x11008, .f32⟩
  | 11 => ⟨S_, .f32⟩
  | 12 => ⟨S128x11008, .f32⟩
  | 13 => ⟨S128x11008, .f32⟩
  | 14 => ⟨S_, .f32⟩
  | 15 => ⟨S128x11008, .f32⟩
  | 16 => ⟨S128x11008, .f32⟩
  | 17 => ⟨S128x11008, .f32⟩
  | 18 => ⟨S128x11008, .f32⟩
  | 19 => ⟨S_, .f32⟩
  | 20 => ⟨S128x11008, .f32⟩
  | 21 => ⟨S128x11008, .f32⟩
  | 22 => ⟨S128x11008, .f32⟩
  | 23 => ⟨S_, .f32⟩
  | 24 => ⟨S128x11008, .f32⟩
  | 25 => ⟨S128x11008, .f32⟩
  | 26 => ⟨S128x11008, .f32⟩
  | 27 => ⟨S128x11008, .bf16⟩
  | 28 => ⟨S128x11008, .f32⟩
  | 29 => ⟨S128x11008, .f32⟩
  | 30 => ⟨S128x11008, .bf16⟩
  | 31 => ⟨S128x4096, .f32⟩
  | 32 => ⟨S128x4096, .f32⟩
  | 33 => ⟨S128x4096, .f32⟩
  | 34 => ⟨S1x4096, .f32⟩
  | 35 => ⟨S128x4096, .f32⟩
  | 36 => ⟨S128x4096, .f32⟩
  | 37 => ⟨S128x4096, .f32⟩
  | 38 => ⟨S_, .f32⟩
  | 39 => ⟨S128, .f32⟩
  | 40 => ⟨S128x1, .f32⟩
  | 41 => ⟨S_, .f32⟩
  | 42 => ⟨S128x1, .f32⟩
  | 43 => ⟨S128x1, .f32⟩
  | 44 => ⟨S128x1, .f32⟩
  | 45 => ⟨S128x4096, .f32⟩
  | 46 => ⟨S128x4096, .f32⟩
  | 47 => ⟨S128x4096, .f32⟩
  | 48 => ⟨S128x4096, .f32⟩
  | 49 => ⟨S128x4096, .f32⟩
  | 50 => ⟨S128x4096, .f32⟩
  | 51 => ⟨S128x4096, .f32⟩
  | 52 => ⟨S128x4096, .f32⟩
  | 53 => ⟨S128x4096, .f32⟩
  | 54 => ⟨S128x4096, .bf16⟩
  | _ => ⟨S1x128x4096, .bf16⟩

abbrev hbmTy (i : Nat) : BufTy := match i / 128 with
  | 0 => hbmTy0_0 i
  | 1 => hbmTy0_1 i
  | _ => ⟨S1x128x4096, .bf16⟩

abbrev bufTy : (tb : Table) → Fin (tcTables nBuf tb) → BufTy
  | .hbm, ⟨i, _⟩ => hbmTy i
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_c : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_c_0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_1 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_2 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_3 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_4 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst : Ref sig .tc := ⟨.hbm, 101, rfl⟩
abbrev main_v67 : Ref sig .tc := ⟨.hbm, 102, rfl⟩
abbrev main_v68 : Ref sig .tc := ⟨.hbm, 103, rfl⟩
abbrev main_cst_5 : Ref sig .tc := ⟨.hbm, 104, rfl⟩
abbrev main_v69 : Ref sig .tc := ⟨.hbm, 105, rfl⟩
abbrev main_v70 : Ref sig .tc := ⟨.hbm, 106, rfl⟩
abbrev main_cst_6 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_7 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_8 : Ref sig .tc := ⟨.hbm, 124, rfl⟩
abbrev main_v86 : Ref sig .tc := ⟨.hbm, 125, rfl⟩
abbrev main_v87 : Ref sig .tc := ⟨.hbm, 126, rfl⟩
abbrev main_cst_9 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_10 : Ref sig .tc := ⟨.hbm, 139, rfl⟩
abbrev main_v99 : Ref sig .tc := ⟨.hbm, 140, rfl⟩
abbrev main_v100 : Ref sig .tc := ⟨.hbm, 141, rfl⟩
abbrev main_cst_11 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_12 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_13 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_14 : Ref sig .tc := ⟨.hbm, 166, rfl⟩
abbrev main_v122 : Ref sig .tc := ⟨.hbm, 167, rfl⟩
abbrev main_v123 : Ref sig .tc := ⟨.hbm, 168, rfl⟩
abbrev main_cst_15 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩

abbrev nD : Nat := 1
abbrev τ : Topo := Topo.v7x

variable {F : FTy → Type} [FloatOps F]
-- ==== Proof.K.State.lean ====
module

public import proofs.«01_k».proof.Proof.Gen.Kernel.Launch

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The memrefs the kernel's body is called on: the staging buffers of the 28 inputs (`m1`–`m28`) and of the 34 outputs
    (`m29`–`m62`), and the 25 scratch buffers (`m63`–`m87`), each whole. -/
structure Args where
  m1 : Memref sig .tc .vmem S128x4096 .bf16
  h1 : m1.IsWhole
  m2 : Memref sig .tc .vmem S128x4096 .bf16
  h2 : m2.IsWhole
  m3 : Memref sig .tc .vmem S1x4096 .f32
  h3 : m3.IsWhole
  m4 : Memref sig .tc .smem S6 .f32
  h4 : m4.IsWhole
  m5 : Memref sig .tc .smem S6 .f32
  h5 : m5.IsWhole
  m6 : Memref sig .tc .smem S1 .f32
  h6 : m6.IsWhole
  m7 : Memref sig .tc .smem S1 .f32
  h7 : m7.IsWhole
  m8 : Memref sig .tc .vmem S256x256 .i32
  h8 : m8.IsWhole
  m9 : Memref sig .tc .vmem S256x256 .i32
  h9 : m9.IsWhole
  m10 : Memref sig .tc .vmem S16x4096 .i32
  h10 : m10.IsWhole
  m11 : Memref sig .tc .vmem S64x256 .f32
  h11 : m11.IsWhole
  m12 : Memref sig .tc .vmem S64x256 .f32
  h12 : m12.IsWhole
  m13 : Memref sig .tc .vmem S64x256 .f32
  h13 : m13.IsWhole
  m14 : Memref sig .tc .vmem S64x256 .f32
  h14 : m14.IsWhole
  m15 : Memref sig .tc .vmem S64x256 .f32
  h15 : m15.IsWhole
  m16 : Memref sig .tc .vmem S64x256 .f32
  h16 : m16.IsWhole
  m17 : Memref sig .tc .vmem S64x256 .f32
  h17 : m17.IsWhole
  m18 : Memref sig .tc .vmem S64x256 .f32
  h18 : m18.IsWhole
  m19 : Memref sig .tc .vmem S64x256 .f32
  h19 : m19.IsWhole
  m20 : Memref sig .tc .vmem S64x256 .f32
  h20 : m20.IsWhole
  m21 : Memref sig .tc .vmem S64x256 .f32
  h21 : m21.IsWhole
  m22 : Memref sig .tc .vmem S64x256 .f32
  h22 : m22.IsWhole
  m23 : Memref sig .tc .vmem S8x4096 .f32
  h23 : m23.IsWhole
  m24 : Memref sig .tc .vmem S8x4096 .f32
  h24 : m24.IsWhole
  m25 : Memref sig .tc .vmem S8x4096 .f32
  h25 : m25.IsWhole
  m26 : Memref sig .tc .vmem S8x4096 .f32
  h26 : m26.IsWhole
  m27 : Memref sig .tc .vmem S8x4096 .f32
  h27 : m27.IsWhole
  m28 : Memref sig .tc .vmem S8x4096 .f32
  h28 : m28.IsWhole
  m29 : Memref sig .tc .vmem S128x4096 .bf16
  h29 : m29.IsWhole
  m30 : Memref sig .tc .vmem S128x4096 .bf16
  h30 : m30.IsWhole
  m31 : Memref sig .tc .vmem S128x1 .f32
  h31 : m31.IsWhole
  m32 : Memref sig .tc .vmem S128x256 .bf16
  h32 : m32.IsWhole
  m33 : Memref sig .tc .vmem S64x256 .f32
  h33 : m33.IsWhole
  m34 : Memref sig .tc .vmem S64x256 .f32
  h34 : m34.IsWhole
  m35 : Memref sig .tc .vmem S64x256 .f32
  h35 : m35.IsWhole
  m36 : Memref sig .tc .vmem S64x256 .f32
  h36 : m36.IsWhole
  m37 : Memref sig .tc .vmem S64x256 .f32
  h37 : m37.IsWhole
  m38 : Memref sig .tc .vmem S64x256 .f32
  h38 : m38.IsWhole
  m39 : Memref sig .tc .vmem S64x256 .f32
  h39 : m39.IsWhole
  m40 : Memref sig .tc .vmem S64x256 .f32
  h40 : m40.IsWhole
  m41 : Memref sig .tc .vmem S64x256 .f32
  h41 : m41.IsWhole
  m42 : Memref sig .tc .vmem S64x256 .f32
  h42 : m42.IsWhole
  m43 : Memref sig .tc .vmem S64x256 .f32
  h43 : m43.IsWhole
  m44 : Memref sig .tc .vmem S64x256 .f32
  h44 : m44.IsWhole
  m45 : Memref sig .tc .vmem S64x256 .f32
  h45 : m45.IsWhole
  m46 : Memref sig .tc .vmem S64x256 .f32
  h46 : m46.IsWhole
  m47 : Memref sig .tc .vmem S64x256 .f32
  h47 : m47.IsWhole
  m48 : Memref sig .tc .vmem S64x256 .f32
  h48 : m48.IsWhole
  m49 : Memref sig .tc .vmem S64x256 .f32
  h49 : m49.IsWhole
  m50 : Memref sig .tc .vmem S64x256 .f32
  h50 : m50.IsWhole
  m51 : Memref sig .tc .vmem S64x256 .f32
  h51 : m51.IsWhole
  m52 : Memref sig .tc .vmem S64x256 .f32
  h52 : m52.IsWhole
  m53 : Memref sig .tc .vmem S8x4096 .f32
  h53 : m53.IsWhole
  m54 : Memref sig .tc .vmem S8x4096 .f32
  h54 : m54.IsWhole
  m55 : Memref sig .tc .vmem S8x4096 .f32
  h55 : m55.IsWhole
  m56 : Memref sig .tc .vmem S8x4096 .f32
  h56 : m56.IsWhole
  m57 : Memref sig .tc .vmem S8x4096 .f32
  h57 : m57.IsWhole
  m58 : Memref sig .tc .vmem S8x4096 .f32
  h58 : m58.IsWhole
  m59 : Memref sig .tc .vmem S8x4096 .f32
  h59 : m59.IsWhole
  m60 : Memref sig .tc .vmem S8x4096 .f32
  h60 : m60.IsWhole
  m61 : Memref sig .tc .vmem S8x4096 .f32
  h61 : m61.IsWhole
  m62 : Memref sig .tc .vmem S8x4096 .f32
  h62 : m62.IsWhole
  m63 : Memref sig .tc .vmem S128x4096 .bf16
  h63 : m63.IsWhole
  m64 : Memref sig .tc .vmem S4288x128 .bf16
  h64 : m64.IsWhole
  m65 : Memref sig .tc .vmem S128x1 .f32
  h65 : m65.IsWhole
  m66 : Memref sig .tc .vmem S4096x256 .bf16
  h66 : m66.IsWhole
  m67 : Memref sig .tc .vmem S4096x256 .bf16
  h67 : m67.IsWhole
  m68 : Memref sig .tc .vmem S256x4096 .bf16
  h68 : m68.IsWhole
  m69 : Memref sig .tc .vmem S4096x256 .bf16
  h69 : m69.IsWhole
  m70 : Memref sig .tc .vmem S4096x256 .bf16
  h70 : m70.IsWhole
  m71 : Memref sig .tc .vmem S256x4096 .bf16
  h71 : m71.IsWhole
  m72 : Memref sig .tc .vmem S256x256 .i32
  h72 : m72.IsWhole
  m73 : Memref sig .tc .vmem S256x256 .i32
  h73 : m73.IsWhole
  m74 : Memref sig .tc .vmem S128x4096 .f32
  h74 : m74.IsWhole
  m75 : Memref sig .tc .vmem S128x4096 .f32
  h75 : m75.IsWhole
  m76 : Memref sig .tc .vmem S128x256 .f32
  h76 : m76.IsWhole
  m77 : Memref sig .tc .vmem S128x256 .f32
  h77 : m77.IsWhole
  m78 : Memref sig .tc .vmem S128x256 .f32
  h78 : m78.IsWhole
  m79 : Memref sig .tc .vmem S272x128 .bf16
  h79 : m79.IsWhole
  m80 : Memref sig .tc .vmem S4x4096 .f32
  h80 : m80.IsWhole
  m81 : Memref sig .tc .vmem S4x4096 .f32
  h81 : m81.IsWhole
  m82 : Memref sig .tc .vmem S64x256 .f32
  h82 : m82.IsWhole
  m83 : Memref sig .tc .vmem S64x256 .f32
  h83 : m83.IsWhole
  m84 : Memref sig .tc .vmem S2x4x4096 .f32
  h84 : m84.IsWhole
  m85 : Memref sig .tc .vmem S2x4x4096 .f32
  h85 : m85.IsWhole
  m86 : Memref sig .tc .vmem S2x64x128 .f32
  h86 : m86.IsWhole
  m87 : Memref sig .tc .vmem S4x32x128 .f32
  h87 : m87.IsWhole

/-- `f` at the buffers of `A` and at the facts that they are whole: the body and each of its parts take all of them. -/
abbrev Args.app {β : Sort*} (A : Args)
    (f : ∀ (m1 : Memref sig .tc .vmem S128x4096 .bf16) (h1 : m1.IsWhole) (m2 : Memref sig .tc .vmem S128x4096 .bf16) (h2 : m2.IsWhole)
    (m3 : Memref sig .tc .vmem S1x4096 .f32) (h3 : m3.IsWhole) (m4 : Memref sig .tc .smem S6 .f32) (h4 : m4.IsWhole)
    (m5 : Memref sig .tc .smem S6 .f32) (h5 : m5.IsWhole) (m6 : Memref sig .tc .smem S1 .f32) (h6 : m6.IsWhole)
    (m7 : Memref sig .tc .smem S1 .f32) (h7 : m7.IsWhole) (m8 : Memref sig .tc .vmem S256x256 .i32) (h8 : m8.IsWhole)
    (m9 : Memref sig .tc .vmem S256x256 .i32) (h9 : m9.IsWhole) (m10 : Memref sig .tc .vmem S16x4096 .i32) (h10 : m10.IsWhole)
    (m11 : Memref sig .tc .vmem S64x256 .f32) (h11 : m11.IsWhole) (m12 : Memref sig .tc .vmem S64x256 .f32) (h12 : m12.IsWhole)
    (m13 : Memref sig .tc .vmem S64x256 .f32) (h13 : m13.IsWhole) (m14 : Memref sig .tc .vmem S64x256 .f32) (h14 : m14.IsWhole)
    (m15 : Memref sig .tc .vmem S64x256 .f32) (h15 : m15.IsWhole) (m16 : Memref sig .tc .vmem S64x256 .f32) (h16 : m16.IsWhole)
    (m17 : Memref sig .tc .vmem S64x256 .f32) (h17 : m17.IsWhole) (m18 : Memref sig .tc .vmem S64x256 .f32) (h18 : m18.IsWhole)
    (m19 : Memref sig .tc .vmem S64x256 .f32) (h19 : m19.IsWhole) (m20 : Memref sig .tc .vmem S64x256 .f32) (h20 : m20.IsWhole)
    (m21 : Memref sig .tc .vmem S64x256 .f32) (h21 : m21.IsWhole) (m22 : Memref sig .tc .vmem S64x256 .f32) (h22 : m22.IsWhole)
    (m23 : Memref sig .tc .vmem S8x4096 .f32) (h23 : m23.IsWhole) (m24 : Memref sig .tc .vmem S8x4096 .f32) (h24 : m24.IsWhole)
    (m25 : Memref sig .tc .vmem S8x4096 .f32) (h25 : m25.IsWhole) (m26 : Memref sig .tc .vmem S8x4096 .f32) (h26 : m26.IsWhole)
    (m27 : Memref sig .tc .vmem S8x4096 .f32) (h27 : m27.IsWhole) (m28 : Memref sig .tc .vmem S8x4096 .f32) (h28 : m28.IsWhole)
    (m29 : Memref sig .tc .vmem S128x4096 .bf16) (h29 : m29.IsWhole) (m30 : Memref sig .tc .vmem S128x4096 .bf16) (h30 : m30.IsWhole)
    (m31 : Memref sig .tc .vmem S128x1 .f32) (h31 : m31.IsWhole) (m32 : Memref sig .tc .vmem S128x256 .bf16) (h32 : m32.IsWhole)
    (m33 : Memref sig .tc .vmem S64x256 .f32) (h33 : m33.IsWhole) (m34 : Memref sig .tc .vmem S64x256 .f32) (h34 : m34.IsWhole)
    (m35 : Memref sig .tc .vmem S64x256 .f32) (h35 : m35.IsWhole) (m36 : Memref sig .tc .vmem S64x256 .f32) (h36 : m36.IsWhole)
    (m37 : Memref sig .tc .vmem S64x256 .f32) (h37 : m37.IsWhole) (m38 : Memref sig .tc .vmem S64x256 .f32) (h38 : m38.IsWhole)
    (m39 : Memref sig .tc .vmem S64x256 .f32) (h39 : m39.IsWhole) (m40 : Memref sig .tc .vmem S64x256 .f32) (h40 : m40.IsWhole)
    (m41 : Memref sig .tc .vmem S64x256 .f32) (h41 : m41.IsWhole) (m42 : Memref sig .tc .vmem S64x256 .f32) (h42 : m42.IsWhole)
    (m43 : Memref sig .tc .vmem S64x256 .f32) (h43 : m43.IsWhole) (m44 : Memref sig .tc .vmem S64x256 .f32) (h44 : m44.IsWhole)
    (m45 : Memref sig .tc .vmem S64x256 .f32) (h45 : m45.IsWhole) (m46 : Memref sig .tc .vmem S64x256 .f32) (h46 : m46.IsWhole)
    (m47 : Memref sig .tc .vmem S64x256 .f32) (h47 : m47.IsWhole) (m48 : Memref sig .tc .vmem S64x256 .f32) (h48 : m48.IsWhole)
    (m49 : Memref sig .tc .vmem S64x256 .f32) (h49 : m49.IsWhole) (m50 : Memref sig .tc .vmem S64x256 .f32) (h50 : m50.IsWhole)
    (m51 : Memref sig .tc .vmem S64x256 .f32) (h51 : m51.IsWhole) (m52 : Memref sig .tc .vmem S64x256 .f32) (h52 : m52.IsWhole)
    (m53 : Memref sig .tc .vmem S8x4096 .f32) (h53 : m53.IsWhole) (m54 : Memref sig .tc .vmem S8x4096 .f32) (h54 : m54.IsWhole)
    (m55 : Memref sig .tc .vmem S8x4096 .f32) (h55 : m55.IsWhole) (m56 : Memref sig .tc .vmem S8x4096 .f32) (h56 : m56.IsWhole)
    (m57 : Memref sig .tc .vmem S8x4096 .f32) (h57 : m57.IsWhole) (m58 : Memref sig .tc .vmem S8x4096 .f32) (h58 : m58.IsWhole)
    (m59 : Memref sig .tc .vmem S8x4096 .f32) (h59 : m59.IsWhole) (m60 : Memref sig .tc .vmem S8x4096 .f32) (h60 : m60.IsWhole)
    (m61 : Memref sig .tc .vmem S8x4096 .f32) (h61 : m61.IsWhole) (m62 : Memref sig .tc .vmem S8x4096 .f32) (h62 : m62.IsWhole)
    (m63 : Memref sig .tc .vmem S128x4096 .bf16) (h63 : m63.IsWhole) (m64 : Memref sig .tc .vmem S4288x128 .bf16) (h64 : m64.IsWhole)
    (m65 : Memref sig .tc .vmem S128x1 .f32) (h65 : m65.IsWhole) (m66 : Memref sig .tc .vmem S4096x256 .bf16) (h66 : m66.IsWhole)
    (m67 : Memref sig .tc .vmem S4096x256 .bf16) (h67 : m67.IsWhole) (m68 : Memref sig .tc .vmem S256x4096 .bf16) (h68 : m68.IsWhole)
    (m69 : Memref sig .tc .vmem S4096x256 .bf16) (h69 : m69.IsWhole) (m70 : Memref sig .tc .vmem S4096x256 .bf16) (h70 : m70.IsWhole)
    (m71 : Memref sig .tc .vmem S256x4096 .bf16) (h71 : m71.IsWhole) (m72 : Memref sig .tc .vmem S256x256 .i32) (h72 : m72.IsWhole)
    (m73 : Memref sig .tc .vmem S256x256 .i32) (h73 : m73.IsWhole) (m74 : Memref sig .tc .vmem S128x4096 .f32) (h74 : m74.IsWhole)
    (m75 : Memref sig .tc .vmem S128x4096 .f32) (h75 : m75.IsWhole) (m76 : Memref sig .tc .vmem S128x256 .f32) (h76 : m76.IsWhole)
    (m77 : Memref sig .tc .vmem S128x256 .f32) (h77 : m77.IsWhole) (m78 : Memref sig .tc .vmem S128x256 .f32) (h78 : m78.IsWhole)
    (m79 : Memref sig .tc .vmem S272x128 .bf16) (h79 : m79.IsWhole) (m80 : Memref sig .tc .vmem S4x4096 .f32) (h80 : m80.IsWhole)
    (m81 : Memref sig .tc .vmem S4x4096 .f32) (h81 : m81.IsWhole) (m82 : Memref sig .tc .vmem S64x256 .f32) (h82 : m82.IsWhole)
    (m83 : Memref sig .tc .vmem S64x256 .f32) (h83 : m83.IsWhole) (m84 : Memref sig .tc .vmem S2x4x4096 .f32) (h84 : m84.IsWhole)
    (m85 : Memref sig .tc .vmem S2x4x4096 .f32) (h85 : m85.IsWhole) (m86 : Memref sig .tc .vmem S2x64x128 .f32) (h86 : m86.IsWhole)
    (m87 : Memref sig .tc .vmem S4x32x128 .f32) (h87 : m87.IsWhole), β) : β :=
  f A.m1 A.h1 A.m2 A.h2 A.m3 A.h3 A.m4 A.h4 A.m5 A.h5 A.m6 A.h6 A.m7 A.h7 A.m8 A.h8 A.m9 A.h9 A.m10 A.h10
    A.m11 A.h11 A.m12 A.h12 A.m13 A.h13 A.m14 A.h14 A.m15 A.h15 A.m16 A.h16 A.m17 A.h17 A.m18 A.h18 A.m19 A.h19 A.m20 A.h20
    A.m21 A.h21 A.m22 A.h22 A.m23 A.h23 A.m24 A.h24 A.m25 A.h25 A.m26 A.h26 A.m27 A.h27 A.m28 A.h28 A.m29 A.h29 A.m30 A.h30
    A.m31 A.h31 A.m32 A.h32 A.m33 A.h33 A.m34 A.h34 A.m35 A.h35 A.m36 A.h36 A.m37 A.h37 A.m38 A.h38 A.m39 A.h39 A.m40 A.h40
    A.m41 A.h41 A.m42 A.h42 A.m43 A.h43 A.m44 A.h44 A.m45 A.h45 A.m46 A.h46 A.m47 A.h47 A.m48 A.h48 A.m49 A.h49 A.m50 A.h50
    A.m51 A.h51 A.m52 A.h52 A.m53 A.h53 A.m54 A.h54 A.m55 A.h55 A.m56 A.h56 A.m57 A.h57 A.m58 A.h58 A.m59 A.h59 A.m60 A.h60
    A.m61 A.h61 A.m62 A.h62 A.m63 A.h63 A.m64 A.h64 A.m65 A.h65 A.m66 A.h66 A.m67 A.h67 A.m68 A.h68 A.m69 A.h69 A.m70 A.h70
    A.m71 A.h71 A.m72 A.h72 A.m73 A.h73 A.m74 A.h74 A.m75 A.h75 A.m76 A.h76 A.m77 A.h77 A.m78 A.h78 A.m79 A.h79 A.m80 A.h80
    A.m81 A.h81 A.m82 A.h82 A.m83 A.h83 A.m84 A.h84 A.m85 A.h85 A.m86 A.h86 A.m87 A.h87

/-- The contents of those buffers, one field per memref. -/
structure St (F : FTy → Type) where
  x1 : S128x4096.Idx → Elt F .bf16
  x2 : S128x4096.Idx → Elt F .bf16
  x3 : S1x4096.Idx → Elt F .f32
  x4 : S6.Idx → Elt F .f32
  x5 : S6.Idx → Elt F .f32
  x6 : S1.Idx → Elt F .f32
  x7 : S1.Idx → Elt F .f32
  x8 : S256x256.Idx → Elt F .i32
  x9 : S256x256.Idx → Elt F .i32
  x10 : S16x4096.Idx → Elt F .i32
  x11 : S64x256.Idx → Elt F .f32
  x12 : S64x256.Idx → Elt F .f32
  x13 : S64x256.Idx → Elt F .f32
  x14 : S64x256.Idx → Elt F .f32
  x15 : S64x256.Idx → Elt F .f32
  x16 : S64x256.Idx → Elt F .f32
  x17 : S64x256.Idx → Elt F .f32
  x18 : S64x256.Idx → Elt F .f32
  x19 : S64x256.Idx → Elt F .f32
  x20 : S64x256.Idx → Elt F .f32
  x21 : S64x256.Idx → Elt F .f32
  x22 : S64x256.Idx → Elt F .f32
  x23 : S8x4096.Idx → Elt F .f32
  x24 : S8x4096.Idx → Elt F .f32
  x25 : S8x4096.Idx → Elt F .f32
  x26 : S8x4096.Idx → Elt F .f32
  x27 : S8x4096.Idx → Elt F .f32
  x28 : S8x4096.Idx → Elt F .f32
  x29 : S128x4096.Idx → Elt F .bf16
  x30 : S128x4096.Idx → Elt F .bf16
  x31 : S128x1.Idx → Elt F .f32
  x32 : S128x256.Idx → Elt F .bf16
  x33 : S64x256.Idx → Elt F .f32
  x34 : S64x256.Idx → Elt F .f32
  x35 : S64x256.Idx → Elt F .f32
  x36 : S64x256.Idx → Elt F .f32
  x37 : S64x256.Idx → Elt F .f32
  x38 : S64x256.Idx → Elt F .f32
  x39 : S64x256.Idx → Elt F .f32
  x40 : S64x256.Idx → Elt F .f32
  x41 : S64x256.Idx → Elt F .f32
  x42 : S64x256.Idx → Elt F .f32
  x43 : S64x256.Idx → Elt F .f32
  x44 : S64x256.Idx → Elt F .f32
  x45 : S64x256.Idx → Elt F .f32
  x46 : S64x256.Idx → Elt F .f32
  x47 : S64x256.Idx → Elt F .f32
  x48 : S64x256.Idx → Elt F .f32
  x49 : S64x256.Idx → Elt F .f32
  x50 : S64x256.Idx → Elt F .f32
  x51 : S64x256.Idx → Elt F .f32
  x52 : S64x256.Idx → Elt F .f32
  x53 : S8x4096.Idx → Elt F .f32
  x54 : S8x4096.Idx → Elt F .f32
  x55 : S8x4096.Idx → Elt F .f32
  x56 : S8x4096.Idx → Elt F .f32
  x57 : S8x4096.Idx → Elt F .f32
  x58 : S8x4096.Idx → Elt F .f32
  x59 : S8x4096.Idx → Elt F .f32
  x60 : S8x4096.Idx → Elt F .f32
  x61 : S8x4096.Idx → Elt F .f32
  x62 : S8x4096.Idx → Elt F .f32
  x63 : S128x4096.Idx → Elt F .bf16
  x64 : S4288x128.Idx → Elt F .bf16
  x65 : S128x1.Idx → Elt F .f32
  x66 : S4096x256.Idx → Elt F .bf16
  x67 : S4096x256.Idx → Elt F .bf16
  x68 : S256x4096.Idx → Elt F .bf16
  x69 : S4096x256.Idx → Elt F .bf16
  x70 : S4096x256.Idx → Elt F .bf16
  x71 : S256x4096.Idx → Elt F .bf16
  x72 : S256x256.Idx → Elt F .i32
  x73 : S256x256.Idx → Elt F .i32
  x74 : S128x4096.Idx → Elt F .f32
  x75 : S128x4096.Idx → Elt F .f32
  x76 : S128x256.Idx → Elt F .f32
  x77 : S128x256.Idx → Elt F .f32
  x78 : S128x256.Idx → Elt F .f32
  x79 : S272x128.Idx → Elt F .bf16
  x80 : S4x4096.Idx → Elt F .f32
  x81 : S4x4096.Idx → Elt F .f32
  x82 : S64x256.Idx → Elt F .f32
  x83 : S64x256.Idx → Elt F .f32
  x84 : S2x4x4096.Idx → Elt F .f32
  x85 : S2x4x4096.Idx → Elt F .f32
  x86 : S2x64x128.Idx → Elt F .f32
  x87 : S4x32x128.Idx → Elt F .f32

namespace St

/-- The contents with buffer 1 at `X`. -/
def s1 (V : St F) (X : S128x4096.Idx → Elt F .bf16) : St F := { V with x1 := X }
/-- The contents with buffer 2 at `X`. -/
def s2 (V : St F) (X : S128x4096.Idx → Elt F .bf16) : St F := { V with x2 := X }
/-- The contents with buffer 3 at `X`. -/
def s3 (V : St F) (X : S1x4096.Idx → Elt F .f32) : St F := { V with x3 := X }
/-- The contents with buffer 4 at `X`. -/
def s4 (V : St F) (X : S6.Idx → Elt F .f32) : St F := { V with x4 := X }
/-- The contents with buffer 5 at `X`. -/
def s5 (V : St F) (X : S6.Idx → Elt F .f32) : St F := { V with x5 := X }
/-- The contents with buffer 6 at `X`. -/
def s6 (V : St F) (X : S1.Idx → Elt F .f32) : St F := { V with x6 := X }
/-- The contents with buffer 7 at `X`. -/
def s7 (V : St F) (X : S1.Idx → Elt F .f32) : St F := { V with x7 := X }
/-- The contents with buffer 8 at `X`. -/
def s8 (V : St F) (X : S256x256.Idx → Elt F .i32) : St F := { V with x8 := X }
/-- The contents with buffer 9 at `X`. -/
def s9 (V : St F) (X : S256x256.Idx → Elt F .i32) : St F := { V with x9 := X }
/-- The contents with buffer 10 at `X`. -/
def s10 (V : St F) (X : S16x4096.Idx → Elt F .i32) : St F := { V with x10 := X }
/-- The contents with buffer 11 at `X`. -/
def s11 (V : St F) (X : S64x256.Idx → Elt F .f32) : St F := { V with x11 := X }
/-- The contents with buffer 12 at `X`. -/
def s12 (V : St F) (X : S64x256.Idx → Elt F .f32) : St F := { V with x12 := X }
/-- The contents with buffer 13 at `X`. -/
def s13 (V : St F) (X : S64x256.Idx → Elt F .f32) : St F := { V with x13 := X }
/-- The contents with buffer 14 at `X`. -/
def s14 (V : St F) (X : S64x256.Idx → Elt F .f32) : St F := { V with x14 := X }
/-- The contents with buffer 15 at `X`. -/
def s15 (V : St F) (X : S64x256.Idx → Elt F .f32) : St F := { V with x15 := X }
/-- The contents with buffer 16 at `X`. -/
def s16 (V : St F) (X : S64x256.Idx → Elt F .f32) : St F := { V with x16 := X }
/-- The contents with buffer 17 at `X`. -/
def s17 (V : St F) (X : S64x256.Idx → Elt F .f32) : St F := { V with x17 := X }
/-- The contents with buffer 18 at `X`. -/
def s18 (V : St F) (X : S64x256.Idx → Elt F .f32) : St F := { V with x18 := X }
/-- The contents with buffer 19 at `X`. -/
def s19 (V : St F) (X : S64x256.Idx → Elt F .f32) : St F := { V with x19 := X }
/-- The contents with buffer 20 at `X`. -/
def s20 (V : St F) (X : S64x256.Idx → Elt F .f32) : St F := { V with x20 := X }
/-- The contents with buffer 21 at `X`. -/
def s21 (V : St F) (X : S64x256.Idx → Elt F .f32) : St F := { V with x21 := X }
/-- The contents with buffer 22 at `X`. -/
def s22 (V : St F) (X : S64x256.Idx → Elt F .f32) : St F := { V with x22 := X }
/-- The contents with buffer 23 at `X`. -/
def s23 (V : St F) (X : S8x4096.Idx → Elt F .f32) : St F := { V with x23 := X }
/-- The contents with buffer 24 at `X`. -/
def s24 (V : St F) (X : S8x4096.Idx → Elt F .f32) : St F := { V with x24 := X }
/-- The contents with buffer 25 at `X`. -/
def s25 (V : St F) (X : S8x4096.Idx → Elt F .f32) : St F := { V with x25 := X }
/-- The contents with buffer 26 at `X`. -/
def s26 (V : St F) (X : S8x4096.Idx → Elt F .f32) : St F := { V with x26 := X }
/-- The contents with buffer 27 at `X`. -/
def s27 (V : St F) (X : S8x4096.Idx → Elt F .f32) : St F := { V with x27 := X }
/-- The contents with buffer 28 at `X`. -/
def s28 (V : St F) (X : S8x4096.Idx → Elt F .f32) : St F := { V with x28 := X }
/-- The contents with buffer 29 at `X`. -/
def s29 (V : St F) (X : S128x4096.Idx → Elt F .bf16) : St F := { V with x29 := X }
/-- The contents with buffer 30 at `X`. -/
def s30 (V : St F) (X : S128x4096.Idx → Elt F .bf16) : St F := { V with x30 := X }
/-- The contents with buffer 31 at `X`. -/
def s31 (V : St F) (X : S128x1.Idx → Elt F .f32) : St F := { V with x31 := X }
/-- The contents with buffer 32 at `X`. -/
def s32 (V : St F) (X : S128x256.Idx → Elt F .bf16) : St F := { V with x32 := X }
/-- The contents with buffer 33 at `X`. -/
def s33 (V : St F) (X : S64x256.Idx → Elt F .f32) : St F := { V with x33 := X }
/-- The contents with buffer 34 at `X`. -/
def s34 (V : St F) (X : S64x256.Idx → Elt F .f32) : St F := { V with x34 := X }
/-- The contents with buffer 35 at `X`. -/
def s35 (V : St F) (X : S64x256.Idx → Elt F .f32) : St F := { V with x35 := X }
/-- The contents with buffer 36 at `X`. -/
def s36 (V : St F) (X : S64x256.Idx → Elt F .f32) : St F := { V with x36 := X }
/-- The contents with buffer 37 at `X`. -/
def s37 (V : St F) (X : S64x256.Idx → Elt F .f32) : St F := { V with x37 := X }
/-- The contents with buffer 38 at `X`. -/
def s38 (V : St F) (X : S64x256.Idx → Elt F .f32) : St F := { V with x38 := X }
/-- The contents with buffer 39 at `X`. -/
def s39 (V : St F) (X : S64x256.Idx → Elt F .f32) : St F := { V with x39 := X }
/-- The contents with buffer 40 at `X`. -/
def s40 (V : St F) (X : S64x256.Idx → Elt F .f32) : St F := { V with x40 := X }
/-- The contents with buffer 41 at `X`. -/
def s41 (V : St F) (X : S64x256.Idx → Elt F .f32) : St F := { V with x41 := X }
/-- The contents with buffer 42 at `X`. -/
def s42 (V : St F) (X : S64x256.Idx → Elt F .f32) : St F := { V with x42 := X }
/-- The contents with buffer 43 at `X`. -/
def s43 (V : St F) (X : S64x256.Idx → Elt F .f32) : St F := { V with x43 := X }
/-- The contents with buffer 44 at `X`. -/
def s44 (V : St F) (X : S64x256.Idx → Elt F .f32) : St F := { V with x44 := X }
/-- The contents with buffer 45 at `X`. -/
def s45 (V : St F) (X : S64x256.Idx → Elt F .f32) : St F := { V with x45 := X }
/-- The contents with buffer 46 at `X`. -/
def s46 (V : St F) (X : S64x256.Idx → Elt F .f32) : St F := { V with x46 := X }
/-- The contents with buffer 47 at `X`. -/
def s47 (V : St F) (X : S64x256.Idx → Elt F .f32) : St F := { V with x47 := X }
/-- The contents with buffer 48 at `X`. -/
def s48 (V : St F) (X : S64x256.Idx → Elt F .f32) : St F := { V with x48 := X }
/-- The contents with buffer 49 at `X`. -/
def s49 (V : St F) (X : S64x256.Idx → Elt F .f32) : St F := { V with x49 := X }
/-- The contents with buffer 50 at `X`. -/
def s50 (V : St F) (X : S64x256.Idx → Elt F .f32) : St F := { V with x50 := X }
/-- The contents with buffer 51 at `X`. -/
def s51 (V : St F) (X : S64x256.Idx → Elt F .f32) : St F := { V with x51 := X }
/-- The contents with buffer 52 at `X`. -/
def s52 (V : St F) (X : S64x256.Idx → Elt F .f32) : St F := { V with x52 := X }
/-- The contents with buffer 53 at `X`. -/
def s53 (V : St F) (X : S8x4096.Idx → Elt F .f32) : St F := { V with x53 := X }
/-- The contents with buffer 54 at `X`. -/
def s54 (V : St F) (X : S8x4096.Idx → Elt F .f32) : St F := { V with x54 := X }
/-- The contents with buffer 55 at `X`. -/
def s55 (V : St F) (X : S8x4096.Idx → Elt F .f32) : St F := { V with x55 := X }
/-- The contents with buffer 56 at `X`. -/
def s56 (V : St F) (X : S8x4096.Idx → Elt F .f32) : St F := { V with x56 := X }
/-- The contents with buffer 57 at `X`. -/
def s57 (V : St F) (X : S8x4096.Idx → Elt F .f32) : St F := { V with x57 := X }
/-- The contents with buffer 58 at `X`. -/
def s58 (V : St F) (X : S8x4096.Idx → Elt F .f32) : St F := { V with x58 := X }
/-- The contents with buffer 59 at `X`. -/
def s59 (V : St F) (X : S8x4096.Idx → Elt F .f32) : St F := { V with x59 := X }
/-- The contents with buffer 60 at `X`. -/
def s60 (V : St F) (X : S8x4096.Idx → Elt F .f32) : St F := { V with x60 := X }
/-- The contents with buffer 61 at `X`. -/
def s61 (V : St F) (X : S8x4096.Idx → Elt F .f32) : St F := { V with x61 := X }
/-- The contents with buffer 62 at `X`. -/
def s62 (V : St F) (X : S8x4096.Idx → Elt F .f32) : St F := { V with x62 := X }
/-- The contents with buffer 63 at `X`. -/
def s63 (V : St F) (X : S128x4096.Idx → Elt F .bf16) : St F := { V with x63 := X }
/-- The contents with buffer 64 at `X`. -/
def s64 (V : St F) (X : S4288x128.Idx → Elt F .bf16) : St F := { V with x64 := X }
/-- The contents with buffer 65 at `X`. -/
def s65 (V : St F) (X : S128x1.Idx → Elt F .f32) : St F := { V with x65 := X }
/-- The contents with buffer 66 at `X`. -/
def s66 (V : St F) (X : S4096x256.Idx → Elt F .bf16) : St F := { V with x66 := X }
/-- The contents with buffer 67 at `X`. -/
def s67 (V : St F) (X : S4096x256.Idx → Elt F .bf16) : St F := { V with x67 := X }
/-- The contents with buffer 68 at `X`. -/
def s68 (V : St F) (X : S256x4096.Idx → Elt F .bf16) : St F := { V with x68 := X }
/-- The contents with buffer 69 at `X`. -/
def s69 (V : St F) (X : S4096x256.Idx → Elt F .bf16) : St F := { V with x69 := X }
/-- The contents with buffer 70 at `X`. -/
def s70 (V : St F) (X : S4096x256.Idx → Elt F .bf16) : St F := { V with x70 := X }
/-- The contents with buffer 71 at `X`. -/
def s71 (V : St F) (X : S256x4096.Idx → Elt F .bf16) : St F := { V with x71 := X }
/-- The contents with buffer 72 at `X`. -/
def s72 (V : St F) (X : S256x256.Idx → Elt F .i32) : St F := { V with x72 := X }
/-- The contents with buffer 73 at `X`. -/
def s73 (V : St F) (X : S256x256.Idx → Elt F .i32) : St F := { V with x73 := X }
/-- The contents with buffer 74 at `X`. -/
def s74 (V : St F) (X : S128x4096.Idx → Elt F .f32) : St F := { V with x74 := X }
/-- The contents with buffer 75 at `X`. -/
def s75 (V : St F) (X : S128x4096.Idx → Elt F .f32) : St F := { V with x75 := X }
/-- The contents with buffer 76 at `X`. -/
def s76 (V : St F) (X : S128x256.Idx → Elt F .f32) : St F := { V with x76 := X }
/-- The contents with buffer 77 at `X`. -/
def s77 (V : St F) (X : S128x256.Idx → Elt F .f32) : St F := { V with x77 := X }
/-- The contents with buffer 78 at `X`. -/
def s78 (V : St F) (X : S128x256.Idx → Elt F .f32) : St F := { V with x78 := X }
/-- The contents with buffer 79 at `X`. -/
def s79 (V : St F) (X : S272x128.Idx → Elt F .bf16) : St F := { V with x79 := X }
/-- The contents with buffer 80 at `X`. -/
def s80 (V : St F) (X : S4x4096.Idx → Elt F .f32) : St F := { V with x80 := X }
/-- The contents with buffer 81 at `X`. -/
def s81 (V : St F) (X : S4x4096.Idx → Elt F .f32) : St F := { V with x81 := X }
/-- The contents with buffer 82 at `X`. -/
def s82 (V : St F) (X : S64x256.Idx → Elt F .f32) : St F := { V with x82 := X }
/-- The contents with buffer 83 at `X`. -/
def s83 (V : St F) (X : S64x256.Idx → Elt F .f32) : St F := { V with x83 := X }
/-- The contents with buffer 84 at `X`. -/
def s84 (V : St F) (X : S2x4x4096.Idx → Elt F .f32) : St F := { V with x84 := X }
/-- The contents with buffer 85 at `X`. -/
def s85 (V : St F) (X : S2x4x4096.Idx → Elt F .f32) : St F := { V with x85 := X }
/-- The contents with buffer 86 at `X`. -/
def s86 (V : St F) (X : S2x64x128.Idx → Elt F .f32) : St F := { V with x86 := X }
/-- The contents with buffer 87 at `X`. -/
def s87 (V : St F) (X : S4x32x128.Idx → Elt F .f32) : St F := { V with x87 := X }

end St

/-- The separating conjunction of a list of assertions. -/
def sepL : List (sProp 𝕄) → sProp 𝕄
  | [] => iprop(emp)
  | P :: L => iprop(P ∗ sepL L)

/-- One assertion of a list can be taken out, and any other put in its place. -/
theorem sepL_acc : ∀ (L : List (sProp 𝕄)) (k : ℕ) (h : k < L.length),
    sepL L ⊢ iprop(L[k] ∗ ∀ P', P' -∗ sepL (L.set k P'))
  | P :: L, 0, _ => by
    simp only [sepL, List.getElem_cons_zero, List.set_cons_zero]
    iintro ⟨H, HL⟩
    isplitl [H]; · iexact H
    iintro %P' H
    isplitl [H]; · iexact H
    iexact HL
  | P :: L, k + 1, h => by
    simp only [sepL, List.getElem_cons_succ, List.set_cons_succ]
    iintro ⟨H, HL⟩
    ihave HL' := (sepL_acc L k (by simpa using h)) $$ HL
    icases HL' with ⟨H1, H2⟩
    isplitl [H1]; · iexact H1
    iintro %P' H3
    isplitl [H]; · iexact H
    iapply H2; iexact H3

/-- The list of what core `c` owns: every buffer of `A`, at the contents `V`. -/
def ownL (c : Dev nD) (A : Args) (V : St F) : List (sProp 𝕄) :=
  [owns (c : Thread nD τ) A.m1 fullShare V.x1,
   owns (c : Thread nD τ) A.m2 fullShare V.x2,
   owns (c : Thread nD τ) A.m3 fullShare V.x3,
   owns (c : Thread nD τ) A.m4 fullShare V.x4,
   owns (c : Thread nD τ) A.m5 fullShare V.x5,
   owns (c : Thread nD τ) A.m6 fullShare V.x6,
   owns (c : Thread nD τ) A.m7 fullShare V.x7,
   owns (c : Thread nD τ) A.m8 fullShare V.x8,
   owns (c : Thread nD τ) A.m9 fullShare V.x9,
   owns (c : Thread nD τ) A.m10 fullShare V.x10,
   owns (c : Thread nD τ) A.m11 fullShare V.x11,
   owns (c : Thread nD τ) A.m12 fullShare V.x12,
   owns (c : Thread nD τ) A.m13 fullShare V.x13,
   owns (c : Thread nD τ) A.m14 fullShare V.x14,
   owns (c : Thread nD τ) A.m15 fullShare V.x15,
   owns (c : Thread nD τ) A.m16 fullShare V.x16,
   owns (c : Thread nD τ) A.m17 fullShare V.x17,
   owns (c : Thread nD τ) A.m18 fullShare V.x18,
   owns (c : Thread nD τ) A.m19 fullShare V.x19,
   owns (c : Thread nD τ) A.m20 fullShare V.x20,
   owns (c : Thread nD τ) A.m21 fullShare V.x21,
   owns (c : Thread nD τ) A.m22 fullShare V.x22,
   owns (c : Thread nD τ) A.m23 fullShare V.x23,
   owns (c : Thread nD τ) A.m24 fullShare V.x24,
   owns (c : Thread nD τ) A.m25 fullShare V.x25,
   owns (c : Thread nD τ) A.m26 fullShare V.x26,
   owns (c : Thread nD τ) A.m27 fullShare V.x27,
   owns (c : Thread nD τ) A.m28 fullShare V.x28,
   owns (c : Thread nD τ) A.m29 fullShare V.x29,
   owns (c : Thread nD τ) A.m30 fullShare V.x30,
   owns (c : Thread nD τ) A.m31 fullShare V.x31,
   owns (c : Thread nD τ) A.m32 fullShare V.x32,
   owns (c : Thread nD τ) A.m33 fullShare V.x33,
   owns (c : Thread nD τ) A.m34 fullShare V.x34,
   owns (c : Thread nD τ) A.m35 fullShare V.x35,
   owns (c : Thread nD τ) A.m36 fullShare V.x36,
   owns (c : Thread nD τ) A.m37 fullShare V.x37,
   owns (c : Thread nD τ) A.m38 fullShare V.x38,
   owns (c : Thread nD τ) A.m39 fullShare V.x39,
   owns (c : Thread nD τ) A.m40 fullShare V.x40,
   owns (c : Thread nD τ) A.m41 fullShare V.x41,
   owns (c : Thread nD τ) A.m42 fullShare V.x42,
   owns (c : Thread nD τ) A.m43 fullShare V.x43,
   owns (c : Thread nD τ) A.m44 fullShare V.x44,
   owns (c : Thread nD τ) A.m45 fullShare V.x45,
   owns (c : Thread nD τ) A.m46 fullShare V.x46,
   owns (c : Thread nD τ) A.m47 fullShare V.x47,
   owns (c : Thread nD τ) A.m48 fullShare V.x48,
   owns (c : Thread nD τ) A.m49 fullShare V.x49,
   owns (c : Thread nD τ) A.m50 fullShare V.x50,
   owns (c : Thread nD τ) A.m51 fullShare V.x51,
   owns (c : Thread nD τ) A.m52 fullShare V.x52,
   owns (c : Thread nD τ) A.m53 fullShare V.x53,
   owns (c : Thread nD τ) A.m54 fullShare V.x54,
   owns (c : Thread nD τ) A.m55 fullShare V.x55,
   owns (c : Thread nD τ) A.m56 fullShare V.x56,
   owns (c : Thread nD τ) A.m57 fullShare V.x57,
   owns (c : Thread nD τ) A.m58 fullShare V.x58,
   owns (c : Thread nD τ) A.m59 fullShare V.x59,
   owns (c : Thread nD τ) A.m60 fullShare V.x60,
   owns (c : Thread nD τ) A.m61 fullShare V.x61,
   owns (c : Thread nD τ) A.m62 fullShare V.x62,
   owns (c : Thread nD τ) A.m63 fullShare V.x63,
   owns (c : Thread nD τ) A.m64 fullShare V.x64,
   owns (c : Thread nD τ) A.m65 fullShare V.x65,
   owns (c : Thread nD τ) A.m66 fullShare V.x66,
   owns (c : Thread nD τ) A.m67 fullShare V.x67,
   owns (c : Thread nD τ) A.m68 fullShare V.x68,
   owns (c : Thread nD τ) A.m69 fullShare V.x69,
   owns (c : Thread nD τ) A.m70 fullShare V.x70,
   owns (c : Thread nD τ) A.m71 fullShare V.x71,
   owns (c : Thread nD τ) A.m72 fullShare V.x72,
   owns (c : Thread nD τ) A.m73 fullShare V.x73,
   owns (c : Thread nD τ) A.m74 fullShare V.x74,
   owns (c : Thread nD τ) A.m75 fullShare V.x75,
   owns (c : Thread nD τ) A.m76 fullShare V.x76,
   owns (c : Thread nD τ) A.m77 fullShare V.x77,
   owns (c : Thread nD τ) A.m78 fullShare V.x78,
   owns (c : Thread nD τ) A.m79 fullShare V.x79,
   owns (c : Thread nD τ) A.m80 fullShare V.x80,
   owns (c : Thread nD τ) A.m81 fullShare V.x81,
   owns (c : Thread nD τ) A.m82 fullShare V.x82,
   owns (c : Thread nD τ) A.m83 fullShare V.x83,
   owns (c : Thread nD τ) A.m84 fullShare V.x84,
   owns (c : Thread nD τ) A.m85 fullShare V.x85,
   owns (c : Thread nD τ) A.m86 fullShare V.x86,
   owns (c : Thread nD τ) A.m87 fullShare V.x87]

/-- Core `c` owns every buffer of `A`, at the contents `V`. -/
def Own (c : Dev nD) (A : Args) (V : St F) : sProp 𝕄 := sepL (ownL c A V)

/-- The memref `m` is one of the buffers of `A`: its contents are read off a state by `get` and replaced by `set`. -/
def Has (A : Args) {sp : Space} {s : Shape} {e : EltTy} (m : Memref sig .tc sp s e)
    (get : St F → s.Idx → Elt F e) (set : St F → (s.Idx → Elt F e) → St F) : Prop :=
  ∀ (c : Dev nD) (V : St F), Own c A V ⊢
    iprop(owns (c : Thread nD τ) m fullShare (get V) ∗ ∀ X, owns (c : Thread nD τ) m fullShare X -∗ Own c A (set V X))

theorem has_of (A : Args) {sp : Space} {s : Shape} {e : EltTy} (m : Memref sig .tc sp s e)
    (get : St F → s.Idx → Elt F e) (set : St F → (s.Idx → Elt F e) → St F) (k : ℕ)
    (hk : ∀ (c : Dev nD) (V : St F), k < (ownL c A V).length)
    (hg : ∀ c V, (ownL c A V)[k]'(hk c V) = owns (c : Thread nD τ) m fullShare (get V))
    (hs : ∀ c V X, (ownL c A V).set k (owns (c : Thread nD τ) m fullShare X) = ownL c A (set V X)) : Has A m get set := by
  intro c V
  unfold Own
  refine (sepL_acc _ k (hk c V)).trans ?_
  rw [hg]
  iintro ⟨H, HL⟩
  isplitl [H]; · iexact H
  iintro %X H
  rw [← hs]
  iapply HL; iexact H

theorem has1 (A : Args) : Has (F := F) A A.m1 (·.x1) St.s1 :=
  has_of A _ _ _ 0 (fun _ _ => Nat.lt_of_lt_of_eq (by decide : 0 < 87) rfl) (fun _ _ => rfl) (fun _ _ _ => rfl)
theorem has2 (A : Args) : Has (F := F) A A.m2 (·.x2) St.s2 :=
  has_of A _ _ _ 1 (fun _ _ => Nat.lt_of_lt_of_eq (by decide : 1 < 87) rfl) (fun _ _ => rfl) (fun _ _ _ => rfl)
theorem has3 (A : Args) : Has (F := F) A A.m3 (·.x3) St.s3 :=
  has_of A _ _ _ 2 (fun _ _ => Nat.lt_of_lt_of_eq (by decide : 2 < 87) rfl) (fun _ _ => rfl) (fun _ _ _ => rfl)
theorem has4 (A : Args) : Has (F := F) A A.m4 (·.x4) St.s4 :=
  has_of A _ _ _ 3 (fun _ _ => Nat.lt_of_lt_of_eq (by decide : 3 < 87) rfl) (fun _ _ => rfl) (fun _ _ _ => rfl)
theorem has5 (A : Args) : Has (F := F) A A.m5 (·.x5) St.s5 :=
  has_of A _ _ _ 4 (fun _ _ => Nat.lt_of_lt_of_eq (by decide : 4 < 87) rfl) (fun _ _ => rfl) (fun _ _ _ => rfl)
theorem has6 (A : Args) : Has (F := F) A A.m6 (·.x6) St.s6 :=
  has_of A _ _ _ 5 (fun _ _ => Nat.lt_of_lt_of_eq (by decide : 5 < 87) rfl) (fun _ _ => rfl) (fun _ _ _ => rfl)
theorem has7 (A : Args) : Has (F := F) A A.m7 (·.x7) St.s7 :=
  has_of A _ _ _ 6 (fun _ _ => Nat.lt_of_lt_of_eq (by decide : 6 < 87) rfl) (fun _ _ => rfl) (fun _ _ _ => rfl)
theorem has8 (A : Args) : Has (F := F) A A.m8 (·.x8) St.s8 :=
  has_of A _ _ _ 7 (fun _ _ => Nat.lt_of_lt_of_eq (by decide : 7 < 87) rfl) (fun _ _ => rfl) (fun _ _ _ => rfl)
theorem has9 (A : Args) : Has (F := F) A A.m9 (·.x9) St.s9 :=
  has_of A _ _ _ 8 (fun _ _ => Nat.lt_of_lt_of_eq (by decide : 8 < 87) rfl) (fun _ _ => rfl) (fun _ _ _ => rfl)
theorem has10 (A : Args) : Has (F := F) A A.m10 (·.x10) St.s10 :=
  has_of A _ _ _ 9 (fun _ _ => Nat.lt_of_lt_of_eq (by decide : 9 < 87) rfl) (fun _ _ => rfl) (fun _ _ _ => rfl)
theorem has11 (A : Args) : Has (F := F) A A.m11 (·.x11) St.s11 :=
  has_of A _ _ _ 10 (fun _ _ => Nat.lt_of_lt_of_eq (by decide : 10 < 87) rfl) (fun _ _ => rfl) (fun _ _ _ => rfl)
theorem has12 (A : Args) : Has (F := F) A A.m12 (·.x12) St.s12 :=
  has_of A _ _ _ 11 (fun _ _ => Nat.lt_of_lt_of_eq (by decide : 11 < 87) rfl) (fun _ _ => rfl) (fun _ _ _ => rfl)
theorem has13 (A : Args) : Has (F := F) A A.m13 (·.x13) St.s13 :=
  has_of A _ _ _ 12 (fun _ _ => Nat.lt_of_lt_of_eq (by decide : 12 < 87) rfl) (fun _ _ => rfl) (fun _ _ _ => rfl)
theorem has14 (A : Args) : Has (F := F) A A.m14 (·.x14) St.s14 :=
  has_of A _ _ _ 13 (fun _ _ => Nat.lt_of_lt_of_eq (by decide : 13 < 87) rfl) (fun _ _ => rfl) (fun _ _ _ => rfl)
theorem has15 (A : Args) : Has (F := F) A A.m15 (·.x15) St.s15 :=
  has_of A _ _ _ 14 (fun _ _ => Nat.lt_of_lt_of_eq (by decide : 14 < 87) rfl) (fun _ _ => rfl) (fun _ _ _ => rfl)
theorem has16 (A : Args) : Has (F := F) A A.m16 (·.x16) St.s16 :=
  has_of A _ _ _ 15 (fun _ _ => Nat.lt_of_lt_of_eq (by decide : 15 < 87) rfl) (fun _ _ => rfl) (fun _ _ _ => rfl)
theorem has17 (A : Args) : Has (F := F) A A.m17 (·.x17) St.s17 :=
  has_of A _ _ _ 16 (fun _ _ => Nat.lt_of_lt_of_eq (by decide : 16 < 87) rfl) (fun _ _ => rfl) (fun _ _ _ => rfl)
theorem has18 (A : Args) : Has (F := F) A A.m18 (·.x18) St.s18 :=
  has_of A _ _ _ 17 (fun _ _ => Nat.lt_of_lt_of_eq (by decide : 17 < 87) rfl) (fun _ _ => rfl) (fun _ _ _ => rfl)
theorem has19 (A : Args) : Has (F := F) A A.m19 (·.x19) St.s19 :=
  has_of A _ _ _ 18 (fun _ _ => Nat.lt_of_lt_of_eq (by decide : 18 < 87) rfl) (fun _ _ => rfl) (fun _ _ _ => rfl)
theorem has20 (A : Args) : Has (F := F) A A.m20 (·.x20) St.s20 :=
  has_of A _ _ _ 19 (fun _ _ => Nat.lt_of_lt_of_eq (by decide : 19 < 87) rfl) (fun _ _ => rfl) (fun _ _ _ => rfl)
theorem has21 (A : Args) : Has (F := F) A A.m21 (·.x21) St.s21 :=
  has_of A _ _ _ 20 (fun _ _ => Nat.lt_of_lt_of_eq (by decide : 20 < 87) rfl) (fun _ _ => rfl) (fun _ _ _ => rfl)
theorem has22 (A : Args) : Has (F := F) A A.m22 (·.x22) St.s22 :=
  has_of A _ _ _ 21 (fun _ _ => Nat.lt_of_lt_of_eq (by decide : 21 < 87) rfl) (fun _ _ => rfl) (fun _ _ _ => rfl)
theorem has23 (A : Args) : Has (F := F) A A.m23 (·.x23) St.s23 :=
  has_of A _ _ _ 22 (fun _ _ => Nat.lt_of_lt_of_eq (by decide : 22 < 87) rfl) (fun _ _ => rfl) (fun _ _ _ => rfl)
theorem has24 (A : Args) : Has (F := F) A A.m24 (·.x24) St.s24 :=
  has_of A _ _ _ 23 (fun _ _ => Nat.lt_of_lt_of_eq (by decide : 23 < 87) rfl) (fun _ _ => rfl) (fun _ _ _ => rfl)
theorem has25 (A : Args) : Has (F := F) A A.m25 (·.x25) St.s25 :=
  has_of A _ _ _ 24 (fun _ _ => Nat.lt_of_lt_of_eq (by decide : 24 < 87) rfl) (fun _ _ => rfl) (fun _ _ _ => rfl)
theorem has26 (A : Args) : Has (F := F) A A.m26 (·.x26) St.s26 :=
  has_of A _ _ _ 25 (fun _ _ => Nat.lt_of_lt_of_eq (by decide : 25 < 87) rfl) (fun _ _ => rfl) (fun _ _ _ => rfl)
theorem has27 (A : Args) : Has (F := F) A A.m27 (·.x27) St.s27 :=
  has_of A _ _ _ 26 (fun _ _ => Nat.lt_of_lt_of_eq (by decide : 26 < 87) rfl) (fun _ _ => rfl) (fun _ _ _ => rfl)
theorem has28 (A : Args) : Has (F := F) A A.m28 (·.x28) St.s28 :=
  has_of A _ _ _ 27 (fun _ _ => Nat.lt_of_lt_of_eq (by decide : 27 < 87) rfl) (fun _ _ => rfl) (fun _ _ _ => rfl)
theorem has29 (A : Args) : Has (F := F) A A.m29 (·.x29) St.s29 :=
  has_of A _ _ _ 28 (fun _ _ => Nat.lt_of_lt_of_eq (by decide : 28 < 87) rfl) (fun _ _ => rfl) (fun _ _ _ => rfl)
theorem has30 (A : Args) : Has (F := F) A A.m30 (·.x30) St.s30 :=
  has_of A _ _ _ 29 (fun _ _ => Nat.lt_of_lt_of_eq (by decide : 29 < 87) rfl) (fun _ _ => rfl) (fun _ _ _ => rfl)
theorem has31 (A : Args) : Has (F := F) A A.m31 (·.x31) St.s31 :=
  has_of A _ _ _ 30 (fun _ _ => Nat.lt_of_lt_of_eq (by decide : 30 < 87) rfl) (fun _ _ => rfl) (fun _ _ _ => rfl)
theorem has32 (A : Args) : Has (F := F) A A.m32 (·.x32) St.s32 :=
  has_of A _ _ _ 31 (fun _ _ => Nat.lt_of_lt_of_eq (by decide : 31 < 87) rfl) (fun _ _ => rfl) (fun _ _ _ => rfl)
theorem has33 (A : Args) : Has (F := F) A A.m33 (·.x33) St.s33 :=
  has_of A _ _ _ 32 (fun _ _ => Nat.lt_of_lt_of_eq (by decide : 32 < 87) rfl) (fun _ _ => rfl) (fun _ _ _ => rfl)
theorem has34 (A : Args) : Has (F := F) A A.m34 (·.x34) St.s34 :=
  has_of A _ _ _ 33 (fun _ _ => Nat.lt_of_lt_of_eq (by decide : 33 < 87) rfl) (fun _ _ => rfl) (fun _ _ _ => rfl)
theorem has35 (A : Args) : Has (F := F) A A.m35 (·.x35) St.s35 :=
  has_of A _ _ _ 34 (fun _ _ => Nat.lt_of_lt_of_eq (by decide : 34 < 87) rfl) (fun _ _ => rfl) (fun _ _ _ => rfl)
theorem has36 (A : Args) : Has (F := F) A A.m36 (·.x36) St.s36 :=
  has_of A _ _ _ 35 (fun _ _ => Nat.lt_of_lt_of_eq (by decide : 35 < 87) rfl) (fun _ _ => rfl) (fun _ _ _ => rfl)
theorem has37 (A : Args) : Has (F := F) A A.m37 (·.x37) St.s37 :=
  has_of A _ _ _ 36 (fun _ _ => Nat.lt_of_lt_of_eq (by decide : 36 < 87) rfl) (fun _ _ => rfl) (fun _ _ _ => rfl)
theorem has38 (A : Args) : Has (F := F) A A.m38 (·.x38) St.s38 :=
  has_of A _ _ _ 37 (fun _ _ => Nat.lt_of_lt_of_eq (by decide : 37 < 87) rfl) (fun _ _ => rfl) (fun _ _ _ => rfl)
theorem has39 (A : Args) : Has (F := F) A A.m39 (·.x39) St.s39 :=
  has_of A _ _ _ 38 (fun _ _ => Nat.lt_of_lt_of_eq (by decide : 38 < 87) rfl) (fun _ _ => rfl) (fun _ _ _ => rfl)
theorem has40 (A : Args) : Has (F := F) A A.m40 (·.x40) St.s40 :=
  has_of A _ _ _ 39 (fun _ _ => Nat.lt_of_lt_of_eq (by decide : 39 < 87) rfl) (fun _ _ => rfl) (fun _ _ _ => rfl)
theorem has41 (A : Args) : Has (F := F) A A.m41 (·.x41) St.s41 :=
  has_of A _ _ _ 40 (fun _ _ => Nat.lt_of_lt_of_eq (by decide : 40 < 87) rfl) (fun _ _ => rfl) (fun _ _ _ => rfl)
theorem has42 (A : Args) : Has (F := F) A A.m42 (·.x42) St.s42 :=
  has_of A _ _ _ 41 (fun _ _ => Nat.lt_of_lt_of_eq (by decide : 41 < 87) rfl) (fun _ _ => rfl) (fun _ _ _ => rfl)
theorem has43 (A : Args) : Has (F := F) A A.m43 (·.x43) St.s43 :=
  has_of A _ _ _ 42 (fun _ _ => Nat.lt_of_lt_of_eq (by decide : 42 < 87) rfl) (fun _ _ => rfl) (fun _ _ _ => rfl)
theorem has44 (A : Args) : Has (F := F) A A.m44 (·.x44) St.s44 :=
  has_of A _ _ _ 43 (fun _ _ => Nat.lt_of_lt_of_eq (by decide : 43 < 87) rfl) (fun _ _ => rfl) (fun _ _ _ => rfl)
theorem has45 (A : Args) : Has (F := F) A A.m45 (·.x45) St.s45 :=
  has_of A _ _ _ 44 (fun _ _ => Nat.lt_of_lt_of_eq (by decide : 44 < 87) rfl) (fun _ _ => rfl) (fun _ _ _ => rfl)
theorem has46 (A : Args) : Has (F := F) A A.m46 (·.x46) St.s46 :=
  has_of A _ _ _ 45 (fun _ _ => Nat.lt_of_lt_of_eq (by decide : 45 < 87) rfl) (fun _ _ => rfl) (fun _ _ _ => rfl)
theorem has47 (A : Args) : Has (F := F) A A.m47 (·.x47) St.s47 :=
  has_of A _ _ _ 46 (fun _ _ => Nat.lt_of_lt_of_eq (by decide : 46 < 87) rfl) (fun _ _ => rfl) (fun _ _ _ => rfl)
theorem has48 (A : Args) : Has (F := F) A A.m48 (·.x48) St.s48 :=
  has_of A _ _ _ 47 (fun _ _ => Nat.lt_of_lt_of_eq (by decide : 47 < 87) rfl) (fun _ _ => rfl) (fun _ _ _ => rfl)
theorem has49 (A : Args) : Has (F := F) A A.m49 (·.x49) St.s49 :=
  has_of A _ _ _ 48 (fun _ _ => Nat.lt_of_lt_of_eq (by decide : 48 < 87) rfl) (fun _ _ => rfl) (fun _ _ _ => rfl)
theorem has50 (A : Args) : Has (F := F) A A.m50 (·.x50) St.s50 :=
  has_of A _ _ _ 49 (fun _ _ => Nat.lt_of_lt_of_eq (by decide : 49 < 87) rfl) (fun _ _ => rfl) (fun _ _ _ => rfl)
theorem has51 (A : Args) : Has (F := F) A A.m51 (·.x51) St.s51 :=
  has_of A _ _ _ 50 (fun _ _ => Nat.lt_of_lt_of_eq (by decide : 50 < 87) rfl) (fun _ _ => rfl) (fun _ _ _ => rfl)
theorem has52 (A : Args) : Has (F := F) A A.m52 (·.x52) St.s52 :=
  has_of A _ _ _ 51 (fun _ _ => Nat.lt_of_lt_of_eq (by decide : 51 < 87) rfl) (fun _ _ => rfl) (fun _ _ _ => rfl)
theorem has53 (A : Args) : Has (F := F) A A.m53 (·.x53) St.s53 :=
  has_of A _ _ _ 52 (fun _ _ => Nat.lt_of_lt_of_eq (by decide : 52 < 87) rfl) (fun _ _ => rfl) (fun _ _ _ => rfl)
theorem has54 (A : Args) : Has (F := F) A A.m54 (·.x54) St.s54 :=
  has_of A _ _ _ 53 (fun _ _ => Nat.lt_of_lt_of_eq (by decide : 53 < 87) rfl) (fun _ _ => rfl) (fun _ _ _ => rfl)
theorem has55 (A : Args) : Has (F := F) A A.m55 (·.x55) St.s55 :=
  has_of A _ _ _ 54 (fun _ _ => Nat.lt_of_lt_of_eq (by decide : 54 < 87) rfl) (fun _ _ => rfl) (fun _ _ _ => rfl)
theorem has56 (A : Args) : Has (F := F) A A.m56 (·.x56) St.s56 :=
  has_of A _ _ _ 55 (fun _ _ => Nat.lt_of_lt_of_eq (by decide : 55 < 87) rfl) (fun _ _ => rfl) (fun _ _ _ => rfl)
theorem has57 (A : Args) : Has (F := F) A A.m57 (·.x57) St.s57 :=
  has_of A _ _ _ 56 (fun _ _ => Nat.lt_of_lt_of_eq (by decide : 56 < 87) rfl) (fun _ _ => rfl) (fun _ _ _ => rfl)
theorem has58 (A : Args) : Has (F := F) A A.m58 (·.x58) St.s58 :=
  has_of A _ _ _ 57 (fun _ _ => Nat.lt_of_lt_of_eq (by decide : 57 < 87) rfl) (fun _ _ => rfl) (fun _ _ _ => rfl)
theorem has59 (A : Args) : Has (F := F) A A.m59 (·.x59) St.s59 :=
  has_of A _ _ _ 58 (fun _ _ => Nat.lt_of_lt_of_eq (by decide : 58 < 87) rfl) (fun _ _ => rfl) (fun _ _ _ => rfl)
theorem has60 (A : Args) : Has (F := F) A A.m60 (·.x60) St.s60 :=
  has_of A _ _ _ 59 (fun _ _ => Nat.lt_of_lt_of_eq (by decide : 59 < 87) rfl) (fun _ _ => rfl) (fun _ _ _ => rfl)
theorem has61 (A : Args) : Has (F := F) A A.m61 (·.x61) St.s61 :=
  has_of A _ _ _ 60 (fun _ _ => Nat.lt_of_lt_of_eq (by decide : 60 < 87) rfl) (fun _ _ => rfl) (fun _ _ _ => rfl)
theorem has62 (A : Args) : Has (F := F) A A.m62 (·.x62) St.s62 :=
  has_of A _ _ _ 61 (fun _ _ => Nat.lt_of_lt_of_eq (by decide : 61 < 87) rfl) (fun _ _ => rfl) (fun _ _ _ => rfl)
theorem has63 (A : Args) : Has (F := F) A A.m63 (·.x63) St.s63 :=
  has_of A _ _ _ 62 (fun _ _ => Nat.lt_of_lt_of_eq (by decide : 62 < 87) rfl) (fun _ _ => rfl) (fun _ _ _ => rfl)
theorem has64 (A : Args) : Has (F := F) A A.m64 (·.x64) St.s64 :=
  has_of A _ _ _ 63 (fun _ _ => Nat.lt_of_lt_of_eq (by decide : 63 < 87) rfl) (fun _ _ => rfl) (fun _ _ _ => rfl)
theorem has65 (A : Args) : Has (F := F) A A.m65 (·.x65) St.s65 :=
  has_of A _ _ _ 64 (fun _ _ => Nat.lt_of_lt_of_eq (by decide : 64 < 87) rfl) (fun _ _ => rfl) (fun _ _ _ => rfl)
theorem has66 (A : Args) : Has (F := F) A A.m66 (·.x66) St.s66 :=
  has_of A _ _ _ 65 (fun _ _ => Nat.lt_of_lt_of_eq (by decide : 65 < 87) rfl) (fun _ _ => rfl) (fun _ _ _ => rfl)
theorem has67 (A : Args) : Has (F := F) A A.m67 (·.x67) St.s67 :=
  has_of A _ _ _ 66 (fun _ _ => Nat.lt_of_lt_of_eq (by decide : 66 < 87) rfl) (fun _ _ => rfl) (fun _ _ _ => rfl)
theorem has68 (A : Args) : Has (F := F) A A.m68 (·.x68) St.s68 :=
  has_of A _ _ _ 67 (fun _ _ => Nat.lt_of_lt_of_eq (by decide : 67 < 87) rfl) (fun _ _ => rfl) (fun _ _ _ => rfl)
theorem has69 (A : Args) : Has (F := F) A A.m69 (·.x69) St.s69 :=
  has_of A _ _ _ 68 (fun _ _ => Nat.lt_of_lt_of_eq (by decide : 68 < 87) rfl) (fun _ _ => rfl) (fun _ _ _ => rfl)
theorem has70 (A : Args) : Has (F := F) A A.m70 (·.x70) St.s70 :=
  has_of A _ _ _ 69 (fun _ _ => Nat.lt_of_lt_of_eq (by decide : 69 < 87) rfl) (fun _ _ => rfl) (fun _ _ _ => rfl)
theorem has71 (A : Args) : Has (F := F) A A.m71 (·.x71) St.s71 :=
  has_of A _ _ _ 70 (fun _ _ => Nat.lt_of_lt_of_eq (by decide : 70 < 87) rfl) (fun _ _ => rfl) (fun _ _ _ => rfl)
theorem has72 (A : Args) : Has (F := F) A A.m72 (·.x72) St.s72 :=
  has_of A _ _ _ 71 (fun _ _ => Nat.lt_of_lt_of_eq (by decide : 71 < 87) rfl) (fun _ _ => rfl) (fun _ _ _ => rfl)
theorem has73 (A : Args) : Has (F := F) A A.m73 (·.x73) St.s73 :=
  has_of A _ _ _ 72 (fun _ _ => Nat.lt_of_lt_of_eq (by decide : 72 < 87) rfl) (fun _ _ => rfl) (fun _ _ _ => rfl)
theorem has74 (A : Args) : Has (F := F) A A.m74 (·.x74) St.s74 :=
  has_of A _ _ _ 73 (fun _ _ => Nat.lt_of_lt_of_eq (by decide : 73 < 87) rfl) (fun _ _ => rfl) (fun _ _ _ => rfl)
theorem has75 (A : Args) : Has (F := F) A A.m75 (·.x75) St.s75 :=
  has_of A _ _ _ 74 (fun _ _ => Nat.lt_of_lt_of_eq (by decide : 74 < 87) rfl) (fun _ _ => rfl) (fun _ _ _ => rfl)
theorem has76 (A : Args) : Has (F := F) A A.m76 (·.x76) St.s76 :=
  has_of A _ _ _ 75 (fun _ _ => Nat.lt_of_lt_of_eq (by decide : 75 < 87) rfl) (fun _ _ => rfl) (fun _ _ _ => rfl)
theorem has77 (A : Args) : Has (F := F) A A.m77 (·.x77) St.s77 :=
  has_of A _ _ _ 76 (fun _ _ => Nat.lt_of_lt_of_eq (by decide : 76 < 87) rfl) (fun _ _ => rfl) (fun _ _ _ => rfl)
theorem has78 (A : Args) : Has (F := F) A A.m78 (·.x78) St.s78 :=
  has_of A _ _ _ 77 (fun _ _ => Nat.lt_of_lt_of_eq (by decide : 77 < 87) rfl) (fun _ _ => rfl) (fun _ _ _ => rfl)
theorem has79 (A : Args) : Has (F := F) A A.m79 (·.x79) St.s79 :=
  has_of A _ _ _ 78 (fun _ _ => Nat.lt_of_lt_of_eq (by decide : 78 < 87) rfl) (fun _ _ => rfl) (fun _ _ _ => rfl)
theorem has80 (A : Args) : Has (F := F) A A.m80 (·.x80) St.s80 :=
  has_of A _ _ _ 79 (fun _ _ => Nat.lt_of_lt_of_eq (by decide : 79 < 87) rfl) (fun _ _ => rfl) (fun _ _ _ => rfl)
theorem has81 (A : Args) : Has (F := F) A A.m81 (·.x81) St.s81 :=
  has_of A _ _ _ 80 (fun _ _ => Nat.lt_of_lt_of_eq (by decide : 80 < 87) rfl) (fun _ _ => rfl) (fun _ _ _ => rfl)
theorem has82 (A : Args) : Has (F := F) A A.m82 (·.x82) St.s82 :=
  has_of A _ _ _ 81 (fun _ _ => Nat.lt_of_lt_of_eq (by decide : 81 < 87) rfl) (fun _ _ => rfl) (fun _ _ _ => rfl)
theorem has83 (A : Args) : Has (F := F) A A.m83 (·.x83) St.s83 :=
  has_of A _ _ _ 82 (fun _ _ => Nat.lt_of_lt_of_eq (by decide : 82 < 87) rfl) (fun _ _ => rfl) (fun _ _ _ => rfl)
theorem has84 (A : Args) : Has (F := F) A A.m84 (·.x84) St.s84 :=
  has_of A _ _ _ 83 (fun _ _ => Nat.lt_of_lt_of_eq (by decide : 83 < 87) rfl) (fun _ _ => rfl) (fun _ _ _ => rfl)
theorem has85 (A : Args) : Has (F := F) A A.m85 (·.x85) St.s85 :=
  has_of A _ _ _ 84 (fun _ _ => Nat.lt_of_lt_of_eq (by decide : 84 < 87) rfl) (fun _ _ => rfl) (fun _ _ _ => rfl)
theorem has86 (A : Args) : Has (F := F) A A.m86 (·.x86) St.s86 :=
  has_of A _ _ _ 85 (fun _ _ => Nat.lt_of_lt_of_eq (by decide : 85 < 87) rfl) (fun _ _ => rfl) (fun _ _ _ => rfl)
theorem has87 (A : Args) : Has (F := F) A A.m87 (·.x87) St.s87 :=
  has_of A _ _ _ 86 (fun _ _ => Nat.lt_of_lt_of_eq (by decide : 86 < 87) rfl) (fun _ _ => rfl) (fun _ _ _ => rfl)

/-- A run of `p` from the contents `V`, on core `c`: it ends, having faulted nowhere, at a value and contents of which `Q` holds. -/
def Tri (c : Dev nD) (A : Args) (V : St F) {α : Type} (p : Prog (TpuEff nD τ sig (Elt F) Λ₀ .tc) α) (Q : α → St F → Prop) : Prop :=
  Own c A V ⊢ wp frame (wpE (Ix := Unit) (Name := ℕ) (U := UR sig nD τ) (Lvl := ℕ) (defs₀ (F := F)) Variants.none (c : Thread nD τ) none) Set.univ p
    (fun a => iprop(∃ V', ⌜Q a V'⌝ ∗ Own c A V'))

section Rules

variable {c : Dev nD} {A : Args} {V : St F} {α β : Type} {Q : α → St F → Prop}

theorem Tri.pure {a : α} (h : Q a V) : Tri c A V (Prog.ret a) Q := by
  unfold Tri
  rw [wp_ret]
  iintro H
  imodintro
  iexists V
  isplitr; · ipureintro; exact h
  iexact H

theorem Tri.mono {Q' : α → St F → Prop} {p : Prog (TpuEff nD τ sig (Elt F) Λ₀ .tc) α} (h : Tri c A V p Q) (hQ : ∀ a V', Q a V' → Q' a V') :
    Tri c A V p Q' := by
  unfold Tri at h ⊢
  refine h.trans (wp_mono _ _ _ fun a => ?_)
  iintro ⟨%V', %hq, H⟩
  iexists V'
  isplitr; · ipureintro; exact hQ a V' hq
  iexact H

theorem Tri.bind {p : Prog (TpuEff nD τ sig (Elt F) Λ₀ .tc) β} {k : β → Prog (TpuEff nD τ sig (Elt F) Λ₀ .tc) α}
    (h : Tri c A V p (fun b V' => Tri c A V' (k b) Q)) : Tri c A V (p >>= k) Q := by
  unfold Tri at h ⊢
  rw [wp_bind]
  refine h.trans (wp_mono _ _ _ fun a => ?_)
  iintro ⟨%V', %hq, H⟩
  iapply hq; iexact H

theorem Tri.load {sp : CoreSpace} {s : Shape} {e : EltTy} {m : Memref sig .tc sp s e} {get : St F → s.Idx → Elt F e}
    {set : St F → (s.Idx → Elt F e) → St F} (hm : Has A m get set) (hset : ∀ V, set V (get V) = V)
    {r : LoadRect s} {hl : m.view.LoadsAt r} {k : (r.shape.Idx → Elt F e) → Prog (TpuEff nD τ sig (Elt F) Λ₀ .tc) α}
    (h : Tri c A V (k (fun j => get V (r.idx j))) Q) :
    Tri c A V (Prog.lift (.load m r hl) >>= k) Q := by
  unfold Tri at h ⊢
  refine (hm c V).trans ?_
  unfold owns
  iintro ⟨⟨%f, %hf, H⟩, HL⟩
  rw [show (Prog.lift (TpuEff.load m r hl) >>= k : Prog (TpuEff nD τ sig (Elt F) Λ₀ .tc) α) = Prog.op (.load m r hl) k from rfl]
  iapply (wp_load Variants.none (c : Thread nD τ) none Set.univ (m := m) (r := r) (hl := hl) (k := k) (S := m.view.set) (q := fullShare) (f := f)
    (m.view.setOn_subset_set _)) $$ H
  iintro H
  have e1 : m.view.readAt (Elt F) r f = fun j => get V (r.idx j) := by funext j; rw [View.readAt_apply, hf]
  rw [e1]
  iapply h
  ihave HL' := HL $$ %(get V) [H]
  · iexists f; isplitr; · ipureintro; exact hf
    iexact H
  rw [hset]
  iexact HL'

theorem read_store {sp : CoreSpace} {s : Shape} {e : EltTy} (m : Memref sig .tc sp s e) (r : Rect s) (w : r.shape.Idx → Elt F e)
    (f : m.view.ty.Contents (Elt F)) :
    m.view.read (Elt F) ((m.access r).write (Elt F) f w Finset.univ) = r.overlay (m.view.read (Elt F) f) w := by
  funext y
  by_cases hy : y ∈ r.set
  · obtain ⟨x, rfl⟩ : ∃ x, r.emb x = y := r.exists_idx_of_mem hy
    rw [Rect.overlay_emb]
    exact View.read_writes_cons_emb m.view f r w [] x
  · rw [Rect.overlay_of_not_mem _ _ _ hy]
    exact View.read_writes_cons_miss m.view f ⟨r, w⟩ [] y hy

theorem Tri.store {sp : CoreSpace} {s : Shape} {e : EltTy} {m : Memref sig .tc sp s e} {get : St F → s.Idx → Elt F e}
    {set : St F → (s.Idx → Elt F e) → St F} (hm : Has A m get set)
    {r : Rect s} {w : r.shape.Idx → Elt F e} {hx : (m.access r).Stores Finset.univ} {hu : Finset.univ = Finset.univ ∨ ∀ a, r.stride a = 1}
    {k : PUnit → Prog (TpuEff nD τ sig (Elt F) Λ₀ .tc) α}
    (h : Tri c A (set V (r.overlay (get V) w)) (k ⟨⟩) Q) :
    Tri c A V (Prog.lift (.store m r w Finset.univ hx hu) >>= k) Q := by
  unfold Tri at h ⊢
  refine (hm c V).trans ?_
  unfold owns
  iintro ⟨⟨%f, %hf, H⟩, HL⟩
  rw [show (Prog.lift (TpuEff.store m r w Finset.univ hx hu) >>= k : Prog (TpuEff nD τ sig (Elt F) Λ₀ .tc) α) = Prog.op (.store m r w Finset.univ hx hu) k from rfl]
  iapply (wp_store Variants.none (c : Thread nD τ) none Set.univ (m := m) (r := r) (w := w) (hx := hx) (hm := hu) (k := k) (S := m.view.set) (f := f)
    (by rw [View.setOn_univ]; exact View.set_slice_subset _ _)) $$ H
  iintro H
  iapply h
  iapply HL
  iexists ((m.access r).write (Elt F) f w Finset.univ)
  isplitr
  · ipureintro; rw [read_store, hf]
  iexact H

theorem Tri.ite {P : Prop} {_ : Decidable P} {p : P → Prog (TpuEff nD τ sig (Elt F) Λ₀ .tc) α} {q : ¬ P → Prog (TpuEff nD τ sig (Elt F) Λ₀ .tc) α}
    (h₁ : ∀ h : P, Tri c A V (p h) Q) (h₂ : ∀ h : ¬ P, Tri c A V (q h) Q) : Tri c A V (if h : P then p h else q h) Q := by
  by_cases h : P
  · rw [dif_pos h]; exact h₁ h
  · rw [dif_neg h]; exact h₂ h

/-- A counted loop, by an invariant of the contents. -/
theorem Tri.loop {w : ℕ} {σ : Type} (lb ub st : BitVec w) (hok : Scf.OK lb ub st) (init : σ)
    (body : Fin (Scf.trips lb ub st) → σ → Prog (TpuEff nD τ sig (Elt F) Λ₀ .tc) σ) (I : ℕ → σ → St F → Prop)
    (h0 : I 0 init V) (hI : ∀ (k : Fin (Scf.trips lb ub st)) (a : σ) (V' : St F), I k a V' → Tri c A V' (body k a) (I (k.val + 1)))
    {Q : σ → St F → Prop} (hQ : ∀ a V', I (Scf.trips lb ub st) a V' → Q a V') :
    Tri c A V (Scf.for lb ub st hok init body) Q := by
  unfold Tri
  refine BIBase.Entails.trans ?_ (Scf.wp_for _ _ _ lb ub st hok init body (fun k a => iprop(∃ V', ⌜I k a V'⌝ ∗ Own c A V')) ?_)
  · iintro H
    isplitl [H]
    · iexists V
      isplitr; · ipureintro; exact h0
      iexact H
    · iintro %a ⟨%V', %hi, H⟩
      iexists V'
      isplitr; · ipureintro; exact hQ a V' hi
      iexact H
  · intro k a
    iintro ⟨%V', %hi, H⟩
    unfold Tri at hI
    iapply (hI k a V' hi); iexact H

theorem Tri.smem {s : Shape} {e : EltTy} {m : Memref sig .tc .smem s e} {get : St F → s.Idx → Elt F e}
    {set : St F → (s.Idx → Elt F e) → St F} (hm : Has A m get set) (hset : ∀ V, set V (get V) = V)
    {r : Rect s} {h1 : r.shape.numel = 1} {hp : e.packing = 1} {k : Elt F e → Prog (TpuEff nD τ sig (Elt F) Λ₀ .tc) α}
    (h : Tri c A V (k (get V (r.toLoadRect.idx (Shape.Idx.first (h1.symm ▸ Nat.one_pos))))) Q) :
    Tri c A V (smemLoad m r h1 hp >>= k) Q :=
  Tri.load (r := r.toLoadRect) (hl := View.loadsAt_rect (View.loads_smem_one hp h1))
    (k := fun f => k (f (Shape.Idx.first (h1.symm ▸ Nat.one_pos)))) hm hset h

end Rules

/-- `p` runs from any contents without a fault, and ends. -/
def Safe (A : Args) {α : Type} (p : Prog (TpuEff nD τ sig (Elt F) Λ₀ .tc) α) : Prop :=
  ∀ (c : Dev nD) (V : St F), Tri c A V p (fun _ _ => True)

section Safe

variable {A : Args} {α β : Type}

theorem Safe.pure {a : α} : Safe (F := F) A (Prog.ret a) := fun _ _ => Tri.pure trivial

theorem Safe.bind {p : Prog (TpuEff nD τ sig (Elt F) Λ₀ .tc) β} {k : β → Prog (TpuEff nD τ sig (Elt F) Λ₀ .tc) α}
    (h : Safe A p) (hk : ∀ b, Safe A (k b)) : Safe A (p >>= k) := fun c V => Tri.bind ((h c V).mono fun b V' _ => hk b c V')

theorem Safe.load {sp : CoreSpace} {s : Shape} {e : EltTy} {m : Memref sig .tc sp s e} {get : St F → s.Idx → Elt F e}
    {set : St F → (s.Idx → Elt F e) → St F} (hm : Has A m get set) (hset : ∀ V, set V (get V) = V)
    {r : LoadRect s} {hl : m.view.LoadsAt r} {k : (r.shape.Idx → Elt F e) → Prog (TpuEff nD τ sig (Elt F) Λ₀ .tc) α}
    (h : ∀ v, Safe A (k v)) : Safe A (Prog.lift (.load m r hl) >>= k) := fun c _ => Tri.load hm hset (h _ c _)

theorem Safe.smem {s : Shape} {e : EltTy} {m : Memref sig .tc .smem s e} {get : St F → s.Idx → Elt F e}
    {set : St F → (s.Idx → Elt F e) → St F} (hm : Has A m get set) (hset : ∀ V, set V (get V) = V)
    {r : Rect s} {h1 : r.shape.numel = 1} {hp : e.packing = 1} {k : Elt F e → Prog (TpuEff nD τ sig (Elt F) Λ₀ .tc) α}
    (h : ∀ v, Safe A (k v)) : Safe A (smemLoad m r h1 hp >>= k) := fun c _ => Tri.smem hm hset (h _ c _)

theorem Safe.store {sp : CoreSpace} {s : Shape} {e : EltTy} {m : Memref sig .tc sp s e} {get : St F → s.Idx → Elt F e}
    {set : St F → (s.Idx → Elt F e) → St F} (hm : Has A m get set)
    {r : Rect s} {w : r.shape.Idx → Elt F e} {hx : (m.access r).Stores Finset.univ} {hu : Finset.univ = Finset.univ ∨ ∀ a, r.stride a = 1}
    {k : PUnit → Prog (TpuEff nD τ sig (Elt F) Λ₀ .tc) α}
    (h : Safe A (k ⟨⟩)) : Safe A (Prog.lift (.store m r w Finset.univ hx hu) >>= k) := fun c _ => Tri.store hm (h c _)

theorem Safe.ite {P : Prop} {_ : Decidable P} {p : P → Prog (TpuEff nD τ sig (Elt F) Λ₀ .tc) α} {q : ¬ P → Prog (TpuEff nD τ sig (Elt F) Λ₀ .tc) α}
    (h₁ : ∀ h : P, Safe A (p h)) (h₂ : ∀ h : ¬ P, Safe A (q h)) : Safe A (if h : P then p h else q h) :=
  fun c V => Tri.ite (fun h => h₁ h c V) (fun h => h₂ h c V)

theorem Safe.loop {w : ℕ} {σ : Type} (lb ub st : BitVec w) (hok : Scf.OK lb ub st) (init : σ)
    (body : Fin (Scf.trips lb ub st) → σ → Prog (TpuEff nD τ sig (Elt F) Λ₀ .tc) σ)
    (h : ∀ k a, Safe A (body k a)) : Safe A (Scf.for lb ub st hok init body) :=
  fun c V => Tri.loop lb ub st hok init body (fun _ _ _ => True) trivial (fun k a V' _ => h k a c V') (fun _ _ _ => trivial)

end Safe

end Cert.Proof.K

end
-- ==== Proof.K.SafeA.lean ====
module

public import proofs.«01_k».proof.Proof.Gen.Kernel.Skeleton
public import proofs.«01_k».proof.Proof.K.State

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! Each part of the body runs without a fault, from any contents: the part that runs at the first point only. -/

theorem safe_part1 (A : Args) (i : grid0.Coords) :
    Safe (F := F) A (A.app (k0_part1 i)) := by
  unfold Args.app
  rw [k0_part1_eq_skeleton]
  unfold k0_part1_skel
  refine Safe.load (has1 A) (fun _ => rfl) fun v282 => ?_
  refine Safe.load (has65 A) (fun _ => rfl) fun v295 => ?_
  refine Safe.store (has65 A) ?_
  refine Safe.load (has1 A) (fun _ => rfl) fun v298 => ?_
  refine Safe.load (has3 A) (fun _ => rfl) fun v303 => ?_
  refine Safe.load (has63 A) (fun _ => rfl) fun v308 => ?_
  refine Safe.store (has63 A) ?_
  refine Safe.load (has64 A) (fun _ => rfl) fun v314 => ?_
  refine Safe.store (has64 A) ?_
  exact Safe.pure

theorem safe_part2 (A : Args) (i : grid0.Coords) (v294 : FVec F S128x1 .f32) (v319 : FVec F S8x128 .bf16) (v321 : FVec F S8x128 .f32) :
    Safe (F := F) A (A.app (k0_part2 i) v294 v319 v321) := by
  unfold Args.app
  rw [k0_part2_eq_skeleton]
  unfold k0_part2_skel
  refine Safe.load (has64 A) (fun _ => rfl) fun v326 => ?_
  refine Safe.store (has64 A) ?_
  refine Safe.load (has64 A) (fun _ => rfl) fun v329 => ?_
  refine Safe.store (has64 A) ?_
  refine Safe.load (has64 A) (fun _ => rfl) fun v332 => ?_
  refine Safe.store (has64 A) ?_
  refine Safe.load (has74 A) (fun _ => rfl) fun v336 => ?_
  refine Safe.store (has74 A) ?_
  refine Safe.load (has75 A) (fun _ => rfl) fun v340 => ?_
  refine Safe.store (has75 A) ?_
  refine Safe.load (has1 A) (fun _ => rfl) fun v343 => ?_
  refine Safe.load (has3 A) (fun _ => rfl) fun v348 => ?_
  refine Safe.load (has63 A) (fun _ => rfl) fun v353 => ?_
  refine Safe.store (has63 A) ?_
  exact Safe.pure

theorem safe_part3 (A : Args) (i : grid0.Coords) (v294 : FVec F S128x1 .f32) (v357 : FVec F S512x128 .f32) :
    Safe (F := F) A (A.app (k0_part3 i) v294 v357) := by
  unfold Args.app
  rw [k0_part3_eq_skeleton]
  unfold k0_part3_skel
  refine Safe.load (has64 A) (fun _ => rfl) fun v359 => ?_
  refine Safe.store (has64 A) ?_
  refine Safe.load (has64 A) (fun _ => rfl) fun v371 => ?_
  refine Safe.store (has64 A) ?_
  refine Safe.load (has64 A) (fun _ => rfl) fun v374 => ?_
  refine Safe.store (has64 A) ?_
  refine Safe.load (has64 A) (fun _ => rfl) fun v377 => ?_
  refine Safe.store (has64 A) ?_
  refine Safe.load (has74 A) (fun _ => rfl) fun v381 => ?_
  refine Safe.store (has74 A) ?_
  refine Safe.load (has75 A) (fun _ => rfl) fun v385 => ?_
  refine Safe.store (has75 A) ?_
  refine Safe.load (has1 A) (fun _ => rfl) fun v388 => ?_
  exact Safe.pure

theorem safe_part4 (A : Args) (i : grid0.Coords) (v392 : FVec F S128x512 .f32) :
    Safe (F := F) A (A.app (k0_part4 i) v392) := by
  unfold Args.app
  rw [k0_part4_eq_skeleton]
  unfold k0_part4_skel
  refine Safe.load (has3 A) (fun _ => rfl) fun v393 => ?_
  refine Safe.load (has63 A) (fun _ => rfl) fun v398 => ?_
  refine Safe.store (has63 A) ?_
  refine Safe.load (has64 A) (fun _ => rfl) fun v404 => ?_
  refine Safe.store (has64 A) ?_
  refine Safe.load (has64 A) (fun _ => rfl) fun v416 => ?_
  refine Safe.store (has64 A) ?_
  refine Safe.load (has64 A) (fun _ => rfl) fun v419 => ?_
  refine Safe.store (has64 A) ?_
  refine Safe.load (has64 A) (fun _ => rfl) fun v422 => ?_
  refine Safe.store (has64 A) ?_
  refine Safe.load (has74 A) (fun _ => rfl) fun v426 => ?_
  refine Safe.store (has74 A) ?_
  exact Safe.pure

theorem safe_part5 (A : Args) (i : grid0.Coords) (v294 : FVec F S128x1 .f32) (v429 : FVec F S128x512 .f32) :
    Safe (F := F) A (A.app (k0_part5 i) v294 v429) := by
  unfold Args.app
  rw [k0_part5_eq_skeleton]
  unfold k0_part5_skel
  refine Safe.load (has75 A) (fun _ => rfl) fun v430 => ?_
  refine Safe.store (has75 A) ?_
  refine Safe.load (has1 A) (fun _ => rfl) fun v433 => ?_
  refine Safe.load (has3 A) (fun _ => rfl) fun v438 => ?_
  refine Safe.load (has63 A) (fun _ => rfl) fun v443 => ?_
  refine Safe.store (has63 A) ?_
  refine Safe.load (has64 A) (fun _ => rfl) fun v449 => ?_
  refine Safe.store (has64 A) ?_
  refine Safe.load (has64 A) (fun _ => rfl) fun v461 => ?_
  refine Safe.store (has64 A) ?_
  refine Safe.load (has64 A) (fun _ => rfl) fun v464 => ?_
  refine Safe.store (has64 A) ?_
  refine Safe.load (has64 A) (fun _ => rfl) fun v467 => ?_
  exact Safe.pure

theorem safe_part6 (A : Args) (i : grid0.Coords) (v294 : FVec F S128x1 .f32) (v469 : FVec F S8x128 .bf16) :
    Safe (F := F) A (A.app (k0_part6 i) v294 v469) := by
  unfold Args.app
  rw [k0_part6_eq_skeleton]
  unfold k0_part6_skel
  refine Safe.store (has64 A) ?_
  refine Safe.load (has74 A) (fun _ => rfl) fun v471 => ?_
  refine Safe.store (has74 A) ?_
  refine Safe.load (has75 A) (fun _ => rfl) fun v475 => ?_
  refine Safe.store (has75 A) ?_
  refine Safe.load (has1 A) (fun _ => rfl) fun v478 => ?_
  refine Safe.load (has3 A) (fun _ => rfl) fun v483 => ?_
  refine Safe.load (has63 A) (fun _ => rfl) fun v488 => ?_
  refine Safe.store (has63 A) ?_
  refine Safe.load (has64 A) (fun _ => rfl) fun v494 => ?_
  refine Safe.store (has64 A) ?_
  refine Safe.load (has64 A) (fun _ => rfl) fun v506 => ?_
  exact Safe.pure

theorem safe_part7 (A : Args) (i : grid0.Coords) (v294 : FVec F S128x1 .f32) (v499 : FVec F S8x128 .bf16) (v502 : FVec F S8x128 .bf16) (v505 : FVec F S8x128 .bf16) :
    Safe (F := F) A (A.app (k0_part7 i) v294 v499 v502 v505) := by
  unfold Args.app
  rw [k0_part7_eq_skeleton]
  unfold k0_part7_skel
  refine Safe.store (has64 A) ?_
  refine Safe.load (has64 A) (fun _ => rfl) fun v509 => ?_
  refine Safe.store (has64 A) ?_
  refine Safe.load (has64 A) (fun _ => rfl) fun v512 => ?_
  refine Safe.store (has64 A) ?_
  refine Safe.load (has74 A) (fun _ => rfl) fun v516 => ?_
  refine Safe.store (has74 A) ?_
  refine Safe.load (has75 A) (fun _ => rfl) fun v520 => ?_
  refine Safe.store (has75 A) ?_
  refine Safe.load (has1 A) (fun _ => rfl) fun v523 => ?_
  refine Safe.load (has3 A) (fun _ => rfl) fun v528 => ?_
  refine Safe.load (has63 A) (fun _ => rfl) fun v533 => ?_
  refine Safe.store (has63 A) ?_
  refine Safe.load (has64 A) (fun _ => rfl) fun v539 => ?_
  refine Safe.store (has64 A) ?_
  exact Safe.pure

theorem safe_part8 (A : Args) (i : grid0.Coords) (v294 : FVec F S128x1 .f32) (v542 : FVec F S8x64x128 .f32) :
    Safe (F := F) A (A.app (k0_part8 i) v294 v542) := by
  unfold Args.app
  rw [k0_part8_eq_skeleton]
  unfold k0_part8_skel
  refine Safe.load (has64 A) (fun _ => rfl) fun v551 => ?_
  refine Safe.store (has64 A) ?_
  refine Safe.load (has64 A) (fun _ => rfl) fun v554 => ?_
  refine Safe.store (has64 A) ?_
  refine Safe.load (has64 A) (fun _ => rfl) fun v557 => ?_
  refine Safe.store (has64 A) ?_
  refine Safe.load (has74 A) (fun _ => rfl) fun v561 => ?_
  refine Safe.store (has74 A) ?_
  refine Safe.load (has75 A) (fun _ => rfl) fun v565 => ?_
  refine Safe.store (has75 A) ?_
  refine Safe.load (has1 A) (fun _ => rfl) fun v568 => ?_
  refine Safe.load (has3 A) (fun _ => rfl) fun v573 => ?_
  refine Safe.load (has63 A) (fun _ => rfl) fun v578 => ?_
  exact Safe.pure

theorem safe_part9 (A : Args) (i : grid0.Coords) (v577 : FVec F S128x512 .bf16) (v578 : Vec F S128x512 .bf16) :
    Safe (F := F) A (A.app (k0_part9 i) v577 v578) := by
  unfold Args.app
  rw [k0_part9_eq_skeleton]
  unfold k0_part9_skel
  refine Safe.store (has63 A) ?_
  refine Safe.load (has64 A) (fun _ => rfl) fun v584 => ?_
  refine Safe.store (has64 A) ?_
  refine Safe.load (has64 A) (fun _ => rfl) fun v596 => ?_
  refine Safe.store (has64 A) ?_
  refine Safe.load (has64 A) (fun _ => rfl) fun v599 => ?_
  refine Safe.store (has64 A) ?_
  refine Safe.load (has64 A) (fun _ => rfl) fun v602 => ?_
  refine Safe.store (has64 A) ?_
  refine Safe.load (has74 A) (fun _ => rfl) fun v606 => ?_
  refine Safe.store (has74 A) ?_
  refine Safe.load (has75 A) (fun _ => rfl) fun v610 => ?_
  refine Safe.store (has75 A) ?_
  refine Safe.load (has1 A) (fun _ => rfl) fun v613 => ?_
  exact Safe.pure

theorem safe_part10 (A : Args) (i : grid0.Coords) (v294 : FVec F S128x1 .f32) (v614 : FVec F S128x512 .bf16) :
    Safe (F := F) A (A.app (k0_part10 i) v294 v614) := by
  unfold Args.app
  rw [k0_part10_eq_skeleton]
  unfold k0_part10_skel
  refine Safe.load (has3 A) (fun _ => rfl) fun v618 => ?_
  refine Safe.load (has63 A) (fun _ => rfl) fun v623 => ?_
  refine Safe.store (has63 A) ?_
  refine Safe.load (has64 A) (fun _ => rfl) fun v629 => ?_
  refine Safe.store (has64 A) ?_
  refine Safe.load (has64 A) (fun _ => rfl) fun v641 => ?_
  refine Safe.store (has64 A) ?_
  refine Safe.load (has64 A) (fun _ => rfl) fun v644 => ?_
  refine Safe.store (has64 A) ?_
  refine Safe.load (has64 A) (fun _ => rfl) fun v647 => ?_
  refine Safe.store (has64 A) ?_
  refine Safe.load (has74 A) (fun _ => rfl) fun v651 => ?_
  exact Safe.pure

end Cert.Proof.K

end
-- ==== Proof.K.SafeB.lean ====
module

public import proofs.«01_k».proof.Proof.Gen.Kernel.Skeleton
public import proofs.«01_k».proof.Proof.K.State

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! Each part of the two counted loops runs without a fault, from any contents. -/

theorem safe_part11 (A : Args) (i : grid0.Coords) (c0_i32_29 : BitVec 32) (c1_i32 : BitVec 32) (k0_t1 : Fin k0_t1_loop.trips) :
    Safe (F := F) A (A.app (k0_part11 i) c0_i32_29 c1_i32 k0_t1) := by
  unfold Args.app
  rw [k0_part11_eq_skeleton]
  unfold k0_part11_skel
  refine Safe.load (has63 A) (fun _ => rfl) fun v289 => ?_
  refine Safe.load (has72 A) (fun _ => rfl) fun v291 => ?_
  refine Safe.load (has11 A) (fun _ => rfl) fun v304 => ?_
  refine Safe.load (has12 A) (fun _ => rfl) fun v307 => ?_
  exact Safe.pure

theorem safe_part12 (A : Args) (i : grid0.Coords) (k0_t1 : Fin k0_t1_loop.trips) (v283 : BitVec 32) (v302 : FVec F S512x256 .bf16) (v310 : FVec F S1x256 .f32) (v311 : FVec F S1x256 .f32) (v312 : FVec F S1x256 .f32) (v313 : FVec F S1x256 .f32) (v314 : FVec F S1x256 .f32) (v315 : FVec F S1x256 .f32) (v316 : FVec F S1x256 .f32) (v318 : FVec F S1x256 .f32) (v319 : FVec F S1x256 .f32) (v320 : FVec F S1x256 .f32) (v321 : FVec F S1x256 .f32) (v322 : FVec F S1x256 .f32) (v323 : FVec F S1x256 .f32) (v324 : FVec F S1x256 .f32) (v331 : FVec F S64x256 .bf16) :
    Safe (F := F) A (A.app (k0_part12 i) k0_t1 v283 v302 v310 v311 v312 v313 v314 v315 v316 v318 v319 v320 v321 v322 v323 v324 v331) := by
  unfold Args.app
  rw [k0_part12_eq_skeleton]
  unfold k0_part12_skel
  refine Safe.load (has69 A) (fun _ => rfl) fun v383 => ?_
  refine Safe.store (has69 A) ?_
  refine Safe.load (has66 A) (fun _ => rfl) fun v387 => ?_
  exact Safe.pure

theorem safe_part13 (A : Args) (i : grid0.Coords) (k0_t1 : Fin k0_t1_loop.trips) (v285 : BitVec 32) (v287 : BitVec 32) (v289 : Vec F S128x512 .bf16) (v381 : FVec F S512x256 .bf16) :
    Safe (F := F) A (A.app (k0_part13 i) k0_t1 v285 v287 v289 v381) := by
  unfold Args.app
  rw [k0_part13_eq_skeleton]
  unfold k0_part13_skel
  refine Safe.store (has66 A) ?_
  refine Safe.load (has76 A) (fun _ => rfl) fun v390 => ?_
  refine Safe.load (has76 A) (fun _ => rfl) fun v393 => ?_
  refine Safe.store (has76 A) ?_
  refine Safe.load (has73 A) (fun _ => rfl) fun v397 => ?_
  refine Safe.load (has17 A) (fun _ => rfl) fun v410 => ?_
  refine Safe.load (has18 A) (fun _ => rfl) fun v413 => ?_
  exact Safe.pure

theorem safe_part14 (A : Args) (i : grid0.Coords) (k0_t1 : Fin k0_t1_loop.trips) (v283 : BitVec 32) (v408 : FVec F S512x256 .bf16) (v416 : FVec F S1x256 .f32) (v417 : FVec F S1x256 .f32) (v418 : FVec F S1x256 .f32) (v419 : FVec F S1x256 .f32) (v420 : FVec F S1x256 .f32) (v421 : FVec F S1x256 .f32) (v422 : FVec F S1x256 .f32) (v424 : FVec F S1x256 .f32) (v425 : FVec F S1x256 .f32) (v426 : FVec F S1x256 .f32) (v427 : FVec F S1x256 .f32) (v428 : FVec F S1x256 .f32) (v429 : FVec F S1x256 .f32) (v430 : FVec F S1x256 .f32) (v436 : FVec F S64x256 .f32) :
    Safe (F := F) A (A.app (k0_part14 i) k0_t1 v283 v408 v416 v417 v418 v419 v420 v421 v422 v424 v425 v426 v427 v428 v429 v430 v436) := by
  unfold Args.app
  rw [k0_part14_eq_skeleton]
  unfold k0_part14_skel
  refine Safe.load (has70 A) (fun _ => rfl) fun v489 => ?_
  refine Safe.store (has70 A) ?_
  refine Safe.load (has67 A) (fun _ => rfl) fun v493 => ?_
  exact Safe.pure

theorem safe_part15 (A : Args) (i : grid0.Coords) (k0_t1 : Fin k0_t1_loop.trips) (v283 : BitVec 32) (v289 : Vec F S128x512 .bf16) (v487 : FVec F S512x256 .bf16) (v493 : Vec F S512x256 .bf16) :
    Safe (F := F) A (A.app (k0_part15 i) k0_t1 v283 v289 v487 v493) := by
  unfold Args.app
  rw [k0_part15_eq_skeleton]
  unfold k0_part15_skel
  refine Safe.store (has67 A) ?_
  refine Safe.load (has77 A) (fun _ => rfl) fun v496 => ?_
  refine Safe.load (has77 A) (fun _ => rfl) fun v499 => ?_
  refine Safe.store (has77 A) ?_
  refine Safe.load (has10 A) (fun _ => rfl) fun v503 => ?_
  refine Safe.load (has80 A) (fun _ => rfl) fun v517 => ?_
  refine Safe.load (has81 A) (fun _ => rfl) fun v519 => ?_
  exact Safe.pure

theorem safe_t1 (A : Args) (i : grid0.Coords) (v28 : FVec F S4x4096 .f32) (v29 : Vec F S4x4096 .f32) (k : Fin k0_t1_loop.trips) (a : Unit) :
    Safe (F := F) A (A.app (k0_t1_body i) v28 v29 k a) := by
  unfold Args.app
  unfold k0_t1_body
  refine Safe.bind (safe_part11 A _ _ _ _) ?_
  rintro ⟨v283, v285, v287, v289, v302, v310, v311, v312, v313, v314, v315, v316, v318, v319, v320, v321, v322, v323, v324, v331⟩
  refine Safe.bind (safe_part12 A _ _ _ _ _ _ _ _ _ _ _ _ _ _ _ _ _ _ _) fun v381 => ?_
  refine Safe.bind (safe_part13 A _ _ _ _ _ _) ?_
  rintro ⟨v408, v416, v417, v418, v419, v420, v421, v422, v424, v425, v426, v427, v428, v429, v430, v436⟩
  refine Safe.bind (safe_part14 A _ _ _ _ _ _ _ _ _ _ _ _ _ _ _ _ _ _ _) ?_
  rintro ⟨v487, v493⟩
  refine Safe.bind (safe_part15 A _ _ _ _ _ _) ?_
  rintro ⟨v515, v522, v523, v526, v527, v534, v541⟩
  refine Safe.load (has71 A) (fun _ => rfl) fun v558 => ?_
  refine Safe.store (has71 A) ?_
  refine Safe.load (has68 A) (fun _ => rfl) fun v562 => ?_
  refine Safe.store (has68 A) ?_
  refine Safe.load (has78 A) (fun _ => rfl) fun v565 => ?_
  refine Safe.load (has2 A) (fun _ => rfl) fun v567 => ?_
  refine Safe.load (has78 A) (fun _ => rfl) fun v571 => ?_
  refine Safe.store (has78 A) ?_
  exact Safe.pure

theorem safe_part16 (A : Args) (i : grid0.Coords) (v66 : FVec F S128x256 .bf16) (c0_i32_49 : BitVec 32) (c1_i32_51 : BitVec 32) (k0_t2 : Fin k0_t2_loop.trips) :
    Safe (F := F) A (A.app (k0_part16 i) v66 c0_i32_49 c1_i32_51 k0_t2) := by
  unfold Args.app
  rw [k0_part16_eq_skeleton]
  unfold k0_part16_skel
  refine Safe.load (has64 A) (fun _ => rfl) fun v287 => ?_
  refine Safe.load (has69 A) (fun _ => rfl) fun v290 => ?_
  refine Safe.load (has86 A) (fun _ => rfl) fun v297 => ?_
  refine Safe.store (has86 A) ?_
  refine Safe.load (has86 A) (fun _ => rfl) fun v301 => ?_
  refine Safe.store (has86 A) ?_
  refine Safe.load (has86 A) (fun _ => rfl) fun v304 => ?_
  refine Safe.load (has86 A) (fun _ => rfl) fun v306 => ?_
  refine Safe.load (has86 A) (fun _ => rfl) fun v309 => ?_
  refine Safe.load (has86 A) (fun _ => rfl) fun v312 => ?_
  exact Safe.pure

theorem safe_part17 (A : Args) (i : grid0.Coords) (v314 : FVec F S8x128 .f32) :
    Safe (F := F) A (A.app (k0_part17 i) v314) := by
  unfold Args.app
  rw [k0_part17_eq_skeleton]
  unfold k0_part17_skel
  refine Safe.load (has86 A) (fun _ => rfl) fun v315 => ?_
  refine Safe.load (has86 A) (fun _ => rfl) fun v318 => ?_
  refine Safe.load (has86 A) (fun _ => rfl) fun v321 => ?_
  refine Safe.load (has86 A) (fun _ => rfl) fun v324 => ?_
  refine Safe.load (has86 A) (fun _ => rfl) fun v327 => ?_
  refine Safe.load (has86 A) (fun _ => rfl) fun v329 => ?_
  refine Safe.load (has86 A) (fun _ => rfl) fun v332 => ?_
  refine Safe.load (has86 A) (fun _ => rfl) fun v335 => ?_
  refine Safe.load (has86 A) (fun _ => rfl) fun v338 => ?_
  refine Safe.load (has86 A) (fun _ => rfl) fun v341 => ?_
  exact Safe.pure

theorem safe_part18 (A : Args) (i : grid0.Coords) (v69 : FVec F S128x256 .bf16) (k0_t2 : Fin k0_t2_loop.trips) (v283 : BitVec 32) (v285 : BitVec 32) (v287 : Vec F S512x128 .bf16) (v326 : FVec F S8x128 .f32) (v343 : FVec F S8x128 .f32) :
    Safe (F := F) A (A.app (k0_part18 i) v69 k0_t2 v283 v285 v287 v326 v343) := by
  unfold Args.app
  rw [k0_part18_eq_skeleton]
  unfold k0_part18_skel
  refine Safe.load (has86 A) (fun _ => rfl) fun v344 => ?_
  refine Safe.load (has86 A) (fun _ => rfl) fun v347 => ?_
  refine Safe.load (has82 A) (fun _ => rfl) fun v352 => ?_
  refine Safe.store (has82 A) ?_
  refine Safe.load (has70 A) (fun _ => rfl) fun v357 => ?_
  refine Safe.load (has86 A) (fun _ => rfl) fun v364 => ?_
  refine Safe.store (has86 A) ?_
  refine Safe.load (has86 A) (fun _ => rfl) fun v368 => ?_
  refine Safe.store (has86 A) ?_
  refine Safe.load (has86 A) (fun _ => rfl) fun v371 => ?_
  refine Safe.load (has86 A) (fun _ => rfl) fun v373 => ?_
  refine Safe.load (has86 A) (fun _ => rfl) fun v376 => ?_
  exact Safe.pure

theorem safe_part19 (A : Args) (i : grid0.Coords) (v375 : FVec F S8x128 .f32) (v376 : Vec F S1x8x128 .f32) :
    Safe (F := F) A (A.app (k0_part19 i) v375 v376) := by
  unfold Args.app
  rw [k0_part19_eq_skeleton]
  unfold k0_part19_skel
  refine Safe.load (has86 A) (fun _ => rfl) fun v379 => ?_
  refine Safe.load (has86 A) (fun _ => rfl) fun v382 => ?_
  refine Safe.load (has86 A) (fun _ => rfl) fun v385 => ?_
  refine Safe.load (has86 A) (fun _ => rfl) fun v388 => ?_
  refine Safe.load (has86 A) (fun _ => rfl) fun v391 => ?_
  refine Safe.load (has86 A) (fun _ => rfl) fun v394 => ?_
  refine Safe.load (has86 A) (fun _ => rfl) fun v396 => ?_
  refine Safe.load (has86 A) (fun _ => rfl) fun v399 => ?_
  refine Safe.load (has86 A) (fun _ => rfl) fun v402 => ?_
  refine Safe.load (has86 A) (fun _ => rfl) fun v405 => ?_
  exact Safe.pure

theorem safe_part20 (A : Args) (i : grid0.Coords) (v66 : FVec F S128x256 .bf16) (v69 : FVec F S128x256 .bf16) (k0_t2 : Fin k0_t2_loop.trips) (v283 : BitVec 32) (v285 : BitVec 32) (v393 : FVec F S8x128 .f32) (v404 : FVec F S8x128 .f32) (v406 : FVec F S8x128 .f32) :
    Safe (F := F) A (A.app (k0_part20 i) v66 v69 k0_t2 v283 v285 v393 v404 v406) := by
  unfold Args.app
  rw [k0_part20_eq_skeleton]
  unfold k0_part20_skel
  refine Safe.load (has86 A) (fun _ => rfl) fun v408 => ?_
  refine Safe.load (has86 A) (fun _ => rfl) fun v411 => ?_
  refine Safe.load (has86 A) (fun _ => rfl) fun v414 => ?_
  refine Safe.load (has83 A) (fun _ => rfl) fun v419 => ?_
  refine Safe.store (has83 A) ?_
  refine Safe.load (has74 A) (fun _ => rfl) fun v423 => ?_
  refine Safe.load (has66 A) (fun _ => rfl) fun v425 => ?_
  refine Safe.load (has67 A) (fun _ => rfl) fun v428 => ?_
  refine Safe.load (has74 A) (fun _ => rfl) fun v433 => ?_
  refine Safe.store (has74 A) ?_
  refine Safe.load (has79 A) (fun _ => rfl) fun v436 => ?_
  refine Safe.load (has2 A) (fun _ => rfl) fun v438 => ?_
  refine Safe.load (has71 A) (fun _ => rfl) fun v443 => ?_
  exact Safe.pure

theorem safe_part21 (A : Args) (i : grid0.Coords) (v441 : FVec F S256x512 .f32) (v443 : Vec F S256x512 .bf16) :
    Safe (F := F) A (A.app (k0_part21 i) v441 v443) := by
  unfold Args.app
  rw [k0_part21_eq_skeleton]
  unfold k0_part21_skel
  refine Safe.load (has87 A) (fun _ => rfl) fun v450 => ?_
  refine Safe.store (has87 A) ?_
  refine Safe.load (has87 A) (fun _ => rfl) fun v454 => ?_
  refine Safe.store (has87 A) ?_
  refine Safe.load (has87 A) (fun _ => rfl) fun v458 => ?_
  refine Safe.store (has87 A) ?_
  refine Safe.load (has87 A) (fun _ => rfl) fun v462 => ?_
  refine Safe.store (has87 A) ?_
  refine Safe.load (has87 A) (fun _ => rfl) fun v465 => ?_
  refine Safe.load (has87 A) (fun _ => rfl) fun v467 => ?_
  refine Safe.load (has87 A) (fun _ => rfl) fun v470 => ?_
  refine Safe.load (has87 A) (fun _ => rfl) fun v473 => ?_
  exact Safe.pure

theorem safe_part22 (A : Args) (i : grid0.Coords) (v472 : FVec F S4x128 .f32) (v474 : FVec F S4x128 .f32) :
    Safe (F := F) A (A.app (k0_part22 i) v472 v474) := by
  unfold Args.app
  rw [k0_part22_eq_skeleton]
  unfold k0_part22_skel
  refine Safe.load (has87 A) (fun _ => rfl) fun v476 => ?_
  refine Safe.load (has87 A) (fun _ => rfl) fun v479 => ?_
  refine Safe.load (has87 A) (fun _ => rfl) fun v482 => ?_
  refine Safe.load (has87 A) (fun _ => rfl) fun v485 => ?_
  refine Safe.load (has87 A) (fun _ => rfl) fun v488 => ?_
  refine Safe.load (has87 A) (fun _ => rfl) fun v490 => ?_
  refine Safe.load (has87 A) (fun _ => rfl) fun v493 => ?_
  refine Safe.load (has87 A) (fun _ => rfl) fun v496 => ?_
  refine Safe.load (has87 A) (fun _ => rfl) fun v499 => ?_
  refine Safe.load (has87 A) (fun _ => rfl) fun v502 => ?_
  exact Safe.pure

theorem safe_part23 (A : Args) (i : grid0.Coords) (v504 : FVec F S4x128 .f32) :
    Safe (F := F) A (A.app (k0_part23 i) v504) := by
  unfold Args.app
  rw [k0_part23_eq_skeleton]
  unfold k0_part23_skel
  refine Safe.load (has87 A) (fun _ => rfl) fun v505 => ?_
  refine Safe.load (has87 A) (fun _ => rfl) fun v508 => ?_
  refine Safe.load (has87 A) (fun _ => rfl) fun v511 => ?_
  refine Safe.load (has87 A) (fun _ => rfl) fun v513 => ?_
  refine Safe.load (has87 A) (fun _ => rfl) fun v516 => ?_
  refine Safe.load (has87 A) (fun _ => rfl) fun v519 => ?_
  refine Safe.load (has87 A) (fun _ => rfl) fun v522 => ?_
  refine Safe.load (has87 A) (fun _ => rfl) fun v525 => ?_
  refine Safe.load (has87 A) (fun _ => rfl) fun v528 => ?_
  refine Safe.load (has87 A) (fun _ => rfl) fun v531 => ?_
  exact Safe.pure

theorem safe_part24 (A : Args) (i : grid0.Coords) (v13 : BitVec 32) (k0_t2 : Fin k0_t2_loop.trips) (v283 : BitVec 32) (v440 : FVec F S272x512 .f32) (v487 : FVec F S4x128 .f32) (v510 : FVec F S4x128 .f32) (v533 : FVec F S4x128 .f32) :
    Safe (F := F) A (A.app (k0_part24 i) v13 k0_t2 v283 v440 v487 v510 v533) := by
  unfold Args.app
  rw [k0_part24_eq_skeleton]
  unfold k0_part24_skel
  refine Safe.load (has87 A) (fun _ => rfl) fun v534 => ?_
  refine Safe.load (has87 A) (fun _ => rfl) fun v536 => ?_
  refine Safe.load (has87 A) (fun _ => rfl) fun v539 => ?_
  refine Safe.load (has87 A) (fun _ => rfl) fun v542 => ?_
  refine Safe.load (has87 A) (fun _ => rfl) fun v545 => ?_
  refine Safe.load (has87 A) (fun _ => rfl) fun v548 => ?_
  refine Safe.load (has87 A) (fun _ => rfl) fun v551 => ?_
  refine Safe.load (has87 A) (fun _ => rfl) fun v554 => ?_
  refine Safe.load (has84 A) (fun _ => rfl) fun v560 => ?_
  refine Safe.store (has84 A) ?_
  exact Safe.pure

theorem safe_t2 (A : Args) (i : grid0.Coords) (v13 : BitVec 32) (v45 : Vec F S128x256 .f32) (v47 : Vec F S128x256 .f32) (v54 : FVec F S128x256 .f32) (v57 : FVec F S128x256 .bf16) (v59 : FVec F S128x256 .f32) (v61 : FVec F S128x256 .f32) (k : Fin k0_t2_loop.trips) (a : Unit) :
    Safe (F := F) A (A.app (k0_t2_body i) v13 v45 v47 v54 v57 v59 v61 k a) := by
  unfold Args.app
  unfold k0_t2_body
  refine Safe.bind (safe_part16 A _ _ _ _ _) ?_
  rintro ⟨v283, v285, v287, v314⟩
  refine Safe.bind (safe_part17 A _ _) ?_
  rintro ⟨v326, v343⟩
  refine Safe.bind (safe_part18 A _ _ _ _ _ _ _ _) ?_
  rintro ⟨v375, v376⟩
  refine Safe.bind (safe_part19 A _ _ _) ?_
  rintro ⟨v393, v404, v406⟩
  refine Safe.bind (safe_part20 A _ _ _ _ _ _ _ _ _) ?_
  rintro ⟨v440, v441, v443⟩
  refine Safe.bind (safe_part21 A _ _ _) ?_
  rintro ⟨v472, v474⟩
  refine Safe.bind (safe_part22 A _ _ _) ?_
  rintro ⟨v487, v504⟩
  refine Safe.bind (safe_part23 A _ _) ?_
  rintro ⟨v510, v533⟩
  refine Safe.bind (safe_part24 A _ _ _ _ _ _ _ _) fun v568 => ?_
  refine Safe.load (has85 A) (fun _ => rfl) fun v571 => ?_
  refine Safe.store (has85 A) ?_
  refine Safe.load (has75 A) (fun _ => rfl) fun v575 => ?_
  refine Safe.load (has68 A) (fun _ => rfl) fun v577 => ?_
  refine Safe.load (has75 A) (fun _ => rfl) fun v581 => ?_
  refine Safe.store (has75 A) ?_
  exact Safe.pure

end Cert.Proof.K

end
-- ==== Proof.K.SafeC.lean ====
module

public import proofs.«01_k».proof.Proof.Gen.Kernel.Skeleton
public import proofs.«01_k».proof.Proof.K.State

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! Each part of the two updates and of the last point runs without a fault, from any contents. -/

theorem safe_part25 (A : Args) (i : grid0.Coords) :
    Safe (F := F) A (A.app (k0_part25 i)) := by
  unfold Args.app
  rw [k0_part25_eq_skeleton]
  unfold k0_part25_skel
  refine Safe.load (has85 A) (fun _ => rfl) fun v282 => ?_
  refine Safe.load (has85 A) (fun _ => rfl) fun v284 => ?_
  refine Safe.load (has84 A) (fun _ => rfl) fun v287 => ?_
  refine Safe.load (has84 A) (fun _ => rfl) fun v289 => ?_
  refine Safe.load (has23 A) (fun _ => rfl) fun v292 => ?_
  refine Safe.load (has24 A) (fun _ => rfl) fun v296 => ?_
  refine Safe.load (has23 A) (fun _ => rfl) fun v301 => ?_
  refine Safe.load (has24 A) (fun _ => rfl) fun v303 => ?_
  refine Safe.load (has25 A) (fun _ => rfl) fun v305 => ?_
  refine Safe.load (has26 A) (fun _ => rfl) fun v307 => ?_
  refine Safe.load (has27 A) (fun _ => rfl) fun v309 => ?_
  refine Safe.load (has28 A) (fun _ => rfl) fun v311 => ?_
  exact Safe.pure

theorem safe_part26 (A : Args) (i : grid0.Coords) (v295 : FVec F S8x4096 .f32) (v304 : FVec F S8x4096 .f32) (v306 : FVec F S8x4096 .f32) (v312 : FVec F S8x4096 .f32) :
    Safe (F := F) A (A.app (k0_part26 i) v295 v304 v306 v312) := by
  unfold Args.app
  rw [k0_part26_eq_skeleton]
  unfold k0_part26_skel
  refine Safe.smem (has6 A) (fun _ => rfl) fun v313 => ?_
  refine Safe.smem (has7 A) (fun _ => rfl) fun v314 => ?_
  refine Safe.smem (has4 A) (fun _ => rfl) fun v315 => ?_
  refine Safe.smem (has5 A) (fun _ => rfl) fun v316 => ?_
  refine Safe.load (has53 A) (fun _ => rfl) fun v339 => ?_
  refine Safe.store (has53 A) ?_
  refine Safe.load (has54 A) (fun _ => rfl) fun v340 => ?_
  refine Safe.store (has54 A) ?_
  refine Safe.load (has55 A) (fun _ => rfl) fun v341 => ?_
  refine Safe.store (has55 A) ?_
  refine Safe.load (has56 A) (fun _ => rfl) fun v342 => ?_
  refine Safe.store (has56 A) ?_
  refine Safe.load (has57 A) (fun _ => rfl) fun v343 => ?_
  refine Safe.store (has57 A) ?_
  refine Safe.smem (has4 A) (fun _ => rfl) fun v344 => ?_
  refine Safe.smem (has5 A) (fun _ => rfl) fun v345 => ?_
  exact Safe.pure

theorem safe_part27 (A : Args) (i : grid0.Coords) :
    Safe (F := F) A (A.app (k0_part27 i)) := by
  unfold Args.app
  rw [k0_part27_eq_skeleton]
  unfold k0_part27_skel
  refine Safe.load (has65 A) (fun _ => rfl) fun v282 => ?_
  refine Safe.load (has1 A) (fun _ => rfl) fun v284 => ?_
  refine Safe.load (has75 A) (fun _ => rfl) fun v287 => ?_
  refine Safe.load (has29 A) (fun _ => rfl) fun v290 => ?_
  refine Safe.store (has29 A) ?_
  refine Safe.load (has74 A) (fun _ => rfl) fun v291 => ?_
  refine Safe.load (has3 A) (fun _ => rfl) fun v292 => ?_
  refine Safe.load (has1 A) (fun _ => rfl) fun v300 => ?_
  refine Safe.load (has75 A) (fun _ => rfl) fun v303 => ?_
  refine Safe.load (has29 A) (fun _ => rfl) fun v306 => ?_
  refine Safe.store (has29 A) ?_
  refine Safe.load (has74 A) (fun _ => rfl) fun v307 => ?_
  refine Safe.load (has3 A) (fun _ => rfl) fun v308 => ?_
  exact Safe.pure

theorem safe_part28 (A : Args) (i : grid0.Coords) (v299 : FVec F S128x1 .f32) (v314 : FVec F S128x1 .f32) :
    Safe (F := F) A (A.app (k0_part28 i) v299 v314) := by
  unfold Args.app
  rw [k0_part28_eq_skeleton]
  unfold k0_part28_skel
  refine Safe.load (has1 A) (fun _ => rfl) fun v316 => ?_
  refine Safe.load (has75 A) (fun _ => rfl) fun v319 => ?_
  refine Safe.load (has29 A) (fun _ => rfl) fun v322 => ?_
  refine Safe.store (has29 A) ?_
  refine Safe.load (has74 A) (fun _ => rfl) fun v323 => ?_
  refine Safe.load (has3 A) (fun _ => rfl) fun v324 => ?_
  refine Safe.load (has1 A) (fun _ => rfl) fun v332 => ?_
  refine Safe.load (has75 A) (fun _ => rfl) fun v335 => ?_
  refine Safe.load (has29 A) (fun _ => rfl) fun v338 => ?_
  refine Safe.store (has29 A) ?_
  refine Safe.load (has74 A) (fun _ => rfl) fun v339 => ?_
  refine Safe.load (has3 A) (fun _ => rfl) fun v340 => ?_
  refine Safe.load (has1 A) (fun _ => rfl) fun v348 => ?_
  exact Safe.pure

theorem safe_part29 (A : Args) (i : grid0.Coords) (v347 : FVec F S128x1 .f32) (v348 : Vec F S128x512 .bf16) :
    Safe (F := F) A (A.app (k0_part29 i) v347 v348) := by
  unfold Args.app
  rw [k0_part29_eq_skeleton]
  unfold k0_part29_skel
  refine Safe.load (has75 A) (fun _ => rfl) fun v351 => ?_
  refine Safe.load (has29 A) (fun _ => rfl) fun v354 => ?_
  refine Safe.store (has29 A) ?_
  refine Safe.load (has74 A) (fun _ => rfl) fun v355 => ?_
  refine Safe.load (has3 A) (fun _ => rfl) fun v356 => ?_
  refine Safe.load (has1 A) (fun _ => rfl) fun v364 => ?_
  refine Safe.load (has75 A) (fun _ => rfl) fun v367 => ?_
  refine Safe.load (has29 A) (fun _ => rfl) fun v370 => ?_
  refine Safe.store (has29 A) ?_
  refine Safe.load (has74 A) (fun _ => rfl) fun v371 => ?_
  refine Safe.load (has3 A) (fun _ => rfl) fun v372 => ?_
  refine Safe.load (has1 A) (fun _ => rfl) fun v380 => ?_
  exact Safe.pure

theorem safe_part30 (A : Args) (i : grid0.Coords) (v282 : Vec F S128x1 .f32) (v379 : FVec F S128x1 .f32) (v382 : FVec F S128x512 .f32) :
    Safe (F := F) A (A.app (k0_part30 i) v282 v379 v382) := by
  unfold Args.app
  rw [k0_part30_eq_skeleton]
  unfold k0_part30_skel
  refine Safe.load (has75 A) (fun _ => rfl) fun v383 => ?_
  refine Safe.load (has29 A) (fun _ => rfl) fun v386 => ?_
  refine Safe.store (has29 A) ?_
  refine Safe.load (has74 A) (fun _ => rfl) fun v387 => ?_
  refine Safe.load (has3 A) (fun _ => rfl) fun v388 => ?_
  refine Safe.load (has1 A) (fun _ => rfl) fun v396 => ?_
  refine Safe.load (has75 A) (fun _ => rfl) fun v399 => ?_
  refine Safe.load (has29 A) (fun _ => rfl) fun v402 => ?_
  refine Safe.store (has29 A) ?_
  refine Safe.load (has74 A) (fun _ => rfl) fun v403 => ?_
  refine Safe.load (has3 A) (fun _ => rfl) fun v404 => ?_
  refine Safe.load (has31 A) (fun _ => rfl) fun v415 => ?_
  refine Safe.store (has31 A) ?_
  refine Safe.load (has1 A) (fun _ => rfl) fun v416 => ?_
  exact Safe.pure

theorem safe_part31 (A : Args) (i : grid0.Coords) (v282 : Vec F S128x1 .f32) (v414 : FVec F S128x1 .f32) (v416 : Vec F S128x512 .bf16) :
    Safe (F := F) A (A.app (k0_part31 i) v282 v414 v416) := by
  unfold Args.app
  rw [k0_part31_eq_skeleton]
  unfold k0_part31_skel
  refine Safe.load (has74 A) (fun _ => rfl) fun v419 => ?_
  refine Safe.load (has3 A) (fun _ => rfl) fun v420 => ?_
  refine Safe.load (has2 A) (fun _ => rfl) fun v424 => ?_
  refine Safe.load (has30 A) (fun _ => rfl) fun v436 => ?_
  refine Safe.store (has30 A) ?_
  refine Safe.load (has1 A) (fun _ => rfl) fun v437 => ?_
  refine Safe.load (has74 A) (fun _ => rfl) fun v440 => ?_
  refine Safe.load (has3 A) (fun _ => rfl) fun v441 => ?_
  refine Safe.load (has2 A) (fun _ => rfl) fun v445 => ?_
  refine Safe.load (has30 A) (fun _ => rfl) fun v457 => ?_
  exact Safe.pure

theorem safe_part32 (A : Args) (i : grid0.Coords) (v282 : Vec F S128x1 .f32) (v414 : FVec F S128x1 .f32) (v456 : FVec F S128x512 .bf16) :
    Safe (F := F) A (A.app (k0_part32 i) v282 v414 v456) := by
  unfold Args.app
  rw [k0_part32_eq_skeleton]
  unfold k0_part32_skel
  refine Safe.store (has30 A) ?_
  refine Safe.load (has1 A) (fun _ => rfl) fun v458 => ?_
  refine Safe.load (has74 A) (fun _ => rfl) fun v461 => ?_
  refine Safe.load (has3 A) (fun _ => rfl) fun v462 => ?_
  refine Safe.load (has2 A) (fun _ => rfl) fun v466 => ?_
  refine Safe.load (has30 A) (fun _ => rfl) fun v478 => ?_
  refine Safe.store (has30 A) ?_
  refine Safe.load (has1 A) (fun _ => rfl) fun v479 => ?_
  refine Safe.load (has74 A) (fun _ => rfl) fun v482 => ?_
  refine Safe.load (has3 A) (fun _ => rfl) fun v483 => ?_
  refine Safe.load (has2 A) (fun _ => rfl) fun v487 => ?_
  exact Safe.pure

theorem safe_part33 (A : Args) (i : grid0.Coords) (v282 : Vec F S128x1 .f32) (v414 : FVec F S128x1 .f32) (v497 : FVec F S128x512 .f32) :
    Safe (F := F) A (A.app (k0_part33 i) v282 v414 v497) := by
  unfold Args.app
  rw [k0_part33_eq_skeleton]
  unfold k0_part33_skel
  refine Safe.load (has30 A) (fun _ => rfl) fun v499 => ?_
  refine Safe.store (has30 A) ?_
  refine Safe.load (has1 A) (fun _ => rfl) fun v500 => ?_
  refine Safe.load (has74 A) (fun _ => rfl) fun v503 => ?_
  refine Safe.load (has3 A) (fun _ => rfl) fun v504 => ?_
  refine Safe.load (has2 A) (fun _ => rfl) fun v508 => ?_
  refine Safe.load (has30 A) (fun _ => rfl) fun v520 => ?_
  refine Safe.store (has30 A) ?_
  refine Safe.load (has1 A) (fun _ => rfl) fun v521 => ?_
  refine Safe.load (has74 A) (fun _ => rfl) fun v524 => ?_
  refine Safe.load (has3 A) (fun _ => rfl) fun v525 => ?_
  refine Safe.load (has2 A) (fun _ => rfl) fun v529 => ?_
  exact Safe.pure

theorem safe_part34 (A : Args) (i : grid0.Coords) (v282 : Vec F S128x1 .f32) (v414 : FVec F S128x1 .f32) (v528 : FVec F S128x512 .f32) (v531 : FVec F S128x512 .f32) (v535 : FVec F S128x512 .f32) :
    Safe (F := F) A (A.app (k0_part34 i) v282 v414 v528 v531 v535) := by
  unfold Args.app
  rw [k0_part34_eq_skeleton]
  unfold k0_part34_skel
  refine Safe.load (has30 A) (fun _ => rfl) fun v541 => ?_
  refine Safe.store (has30 A) ?_
  refine Safe.load (has1 A) (fun _ => rfl) fun v542 => ?_
  refine Safe.load (has74 A) (fun _ => rfl) fun v545 => ?_
  refine Safe.load (has3 A) (fun _ => rfl) fun v546 => ?_
  refine Safe.load (has2 A) (fun _ => rfl) fun v550 => ?_
  refine Safe.load (has30 A) (fun _ => rfl) fun v562 => ?_
  refine Safe.store (has30 A) ?_
  refine Safe.load (has1 A) (fun _ => rfl) fun v563 => ?_
  refine Safe.load (has74 A) (fun _ => rfl) fun v566 => ?_
  refine Safe.load (has3 A) (fun _ => rfl) fun v567 => ?_
  refine Safe.load (has2 A) (fun _ => rfl) fun v571 => ?_
  exact Safe.pure

theorem safe_part38 (A : Args) (i : grid0.Coords) (v100 : FVec F S64x256 .f32) (v101 : FVec F S64x256 .f32) :
    Safe (F := F) A (A.app (k0_part38 i) v100 v101) := by
  unfold Args.app
  rw [k0_part38_eq_skeleton]
  unfold k0_part38_skel
  refine Safe.load (has82 A) (fun _ => rfl) fun v103 => ?_
  refine Safe.load (has11 A) (fun _ => rfl) fun v104 => ?_
  refine Safe.load (has12 A) (fun _ => rfl) fun v108 => ?_
  refine Safe.load (has11 A) (fun _ => rfl) fun v113 => ?_
  refine Safe.load (has12 A) (fun _ => rfl) fun v115 => ?_
  refine Safe.load (has13 A) (fun _ => rfl) fun v117 => ?_
  refine Safe.load (has14 A) (fun _ => rfl) fun v119 => ?_
  refine Safe.load (has15 A) (fun _ => rfl) fun v121 => ?_
  refine Safe.load (has16 A) (fun _ => rfl) fun v123 => ?_
  refine Safe.smem (has6 A) (fun _ => rfl) fun v125 => ?_
  refine Safe.smem (has7 A) (fun _ => rfl) fun v126 => ?_
  refine Safe.smem (has4 A) (fun _ => rfl) fun v127 => ?_
  refine Safe.smem (has5 A) (fun _ => rfl) fun v128 => ?_
  exact Safe.pure

theorem safe_part39 (A : Args) (i : grid0.Coords) (v107 : FVec F S64x256 .f32) (v112 : FVec F S64x256 .f32) (v116 : FVec F S64x256 .f32) (v120 : FVec F S64x256 .f32) (v122 : FVec F S64x256 .f32) (v125 : Elt F .f32) (v126 : Elt F .f32) (v127 : Elt F .f32) (v128 : Elt F .f32) (v133 : FVec F S64x256 .f32) (v135 : FVec F S64x256 .f32) :
    Safe (F := F) A (A.app (k0_part39 i) v107 v112 v116 v120 v122 v125 v126 v127 v128 v133 v135) := by
  unfold Args.app
  rw [k0_part39_eq_skeleton]
  unfold k0_part39_skel
  refine Safe.load (has33 A) (fun _ => rfl) fun v151 => ?_
  refine Safe.store (has33 A) ?_
  refine Safe.load (has34 A) (fun _ => rfl) fun v152 => ?_
  refine Safe.store (has34 A) ?_
  refine Safe.load (has35 A) (fun _ => rfl) fun v153 => ?_
  refine Safe.store (has35 A) ?_
  refine Safe.load (has36 A) (fun _ => rfl) fun v154 => ?_
  refine Safe.store (has36 A) ?_
  refine Safe.load (has37 A) (fun _ => rfl) fun v155 => ?_
  refine Safe.store (has37 A) ?_
  refine Safe.smem (has4 A) (fun _ => rfl) fun v156 => ?_
  refine Safe.smem (has5 A) (fun _ => rfl) fun v157 => ?_
  exact Safe.pure

theorem safe_part40 (A : Args) (i : grid0.Coords) (v69 : FVec F S128x256 .bf16) (v112 : FVec F S64x256 .f32) (v114 : FVec F S64x256 .f32) (v157 : Elt F .f32) (v162 : FVec F S64x256 .f32) (v168 : FVec F S64x256 .f32) (v172 : FVec F S64x256 .f32) (v173 : FVec F S64x256 .f32) :
    Safe (F := F) A (A.app (k0_part40 i) v69 v112 v114 v157 v162 v168 v172 v173) := by
  unfold Args.app
  rw [k0_part40_eq_skeleton]
  unfold k0_part40_skel
  refine Safe.load (has38 A) (fun _ => rfl) fun v180 => ?_
  refine Safe.store (has38 A) ?_
  refine Safe.load (has39 A) (fun _ => rfl) fun v181 => ?_
  refine Safe.store (has39 A) ?_
  refine Safe.load (has40 A) (fun _ => rfl) fun v182 => ?_
  refine Safe.store (has40 A) ?_
  refine Safe.load (has41 A) (fun _ => rfl) fun v183 => ?_
  refine Safe.store (has41 A) ?_
  refine Safe.load (has42 A) (fun _ => rfl) fun v184 => ?_
  refine Safe.store (has42 A) ?_
  refine Safe.load (has64 A) (fun _ => rfl) fun v185 => ?_
  refine Safe.load (has83 A) (fun _ => rfl) fun v192 => ?_
  refine Safe.load (has17 A) (fun _ => rfl) fun v193 => ?_
  refine Safe.load (has18 A) (fun _ => rfl) fun v197 => ?_
  refine Safe.load (has17 A) (fun _ => rfl) fun v202 => ?_
  refine Safe.load (has18 A) (fun _ => rfl) fun v204 => ?_
  exact Safe.pure

theorem safe_part41 (A : Args) (i : grid0.Coords) (v196 : FVec F S64x256 .f32) (v204 : Vec F S64x256 .f32) :
    Safe (F := F) A (A.app (k0_part41 i) v196 v204) := by
  unfold Args.app
  rw [k0_part41_eq_skeleton]
  unfold k0_part41_skel
  refine Safe.load (has19 A) (fun _ => rfl) fun v206 => ?_
  refine Safe.load (has20 A) (fun _ => rfl) fun v208 => ?_
  refine Safe.load (has21 A) (fun _ => rfl) fun v210 => ?_
  refine Safe.load (has22 A) (fun _ => rfl) fun v212 => ?_
  refine Safe.smem (has6 A) (fun _ => rfl) fun v214 => ?_
  refine Safe.smem (has7 A) (fun _ => rfl) fun v215 => ?_
  refine Safe.smem (has4 A) (fun _ => rfl) fun v216 => ?_
  refine Safe.smem (has5 A) (fun _ => rfl) fun v217 => ?_
  refine Safe.load (has43 A) (fun _ => rfl) fun v240 => ?_
  refine Safe.store (has43 A) ?_
  refine Safe.load (has44 A) (fun _ => rfl) fun v241 => ?_
  refine Safe.store (has44 A) ?_
  exact Safe.pure

theorem safe_part42 (A : Args) (i : grid0.Coords) (v201 : FVec F S64x256 .f32) (v203 : FVec F S64x256 .f32) (v209 : FVec F S64x256 .f32) (v211 : FVec F S64x256 .f32) (v214 : Elt F .f32) (v215 : Elt F .f32) (v222 : FVec F S64x256 .f32) (v228 : FVec F S64x256 .f32) (v239 : FVec F S64x256 .f32) :
    Safe (F := F) A (A.app (k0_part42 i) v201 v203 v209 v211 v214 v215 v222 v228 v239) := by
  unfold Args.app
  rw [k0_part42_eq_skeleton]
  unfold k0_part42_skel
  refine Safe.load (has45 A) (fun _ => rfl) fun v242 => ?_
  refine Safe.store (has45 A) ?_
  refine Safe.load (has46 A) (fun _ => rfl) fun v243 => ?_
  refine Safe.store (has46 A) ?_
  refine Safe.load (has47 A) (fun _ => rfl) fun v244 => ?_
  refine Safe.store (has47 A) ?_
  refine Safe.smem (has4 A) (fun _ => rfl) fun v245 => ?_
  refine Safe.smem (has5 A) (fun _ => rfl) fun v246 => ?_
  refine Safe.load (has48 A) (fun _ => rfl) fun v269 => ?_
  refine Safe.store (has48 A) ?_
  refine Safe.load (has49 A) (fun _ => rfl) fun v270 => ?_
  refine Safe.store (has49 A) ?_
  refine Safe.load (has50 A) (fun _ => rfl) fun v271 => ?_
  refine Safe.store (has50 A) ?_
  refine Safe.load (has51 A) (fun _ => rfl) fun v272 => ?_
  refine Safe.store (has51 A) ?_
  refine Safe.load (has52 A) (fun _ => rfl) fun v273 => ?_
  exact Safe.pure

end Cert.Proof.K

end
-- ==== Proof.K.Safe.lean ====
module

public import proofs.«01_k».proof.Proof.K.SafeA
public import proofs.«01_k».proof.Proof.K.SafeB
public import proofs.«01_k».proof.Proof.K.SafeC

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The whole body runs without a fault, from any contents. -/

theorem safe_part35 (A : Args) (i : grid0.Coords) :
    Safe (F := F) A (A.app (k0_part35 i)) := by
  unfold Args.app
  rw [k0_part35_eq_skeleton]
  unfold k0_part35_skel
  refine Safe.ite (fun k0_h1 => ?_) (fun k0_h1 => ?_)
  · refine Safe.bind (safe_part1 A _) ?_
    rintro ⟨v294, v319, v321⟩
    refine Safe.bind (safe_part2 A _ _ _ _) fun v357 => ?_
    refine Safe.bind (safe_part3 A _ _ _) fun v392 => ?_
    refine Safe.bind (safe_part4 A _ _) fun v429 => ?_
    refine Safe.bind (safe_part5 A _ _ _) fun v469 => ?_
    refine Safe.bind (safe_part6 A _ _ _) ?_
    rintro ⟨v499, v502, v505⟩
    refine Safe.bind (safe_part7 A _ _ _ _ _) fun v542 => ?_
    refine Safe.bind (safe_part8 A _ _ _) ?_
    rintro ⟨v577, v578⟩
    refine Safe.bind (safe_part9 A _ _ _) fun v614 => ?_
    refine Safe.bind (safe_part10 A _ _ _) fun v653 => ?_
    refine Safe.store (has74 A) ?_
    refine Safe.load (has75 A) (fun _ => rfl) fun v655 => ?_
    refine Safe.store (has75 A) ?_
    refine Safe.load (has8 A) (fun _ => rfl) fun v3 => ?_
    refine Safe.load (has72 A) (fun _ => rfl) fun v5 => ?_
    refine Safe.store (has72 A) ?_
    refine Safe.load (has9 A) (fun _ => rfl) fun v8 => ?_
    refine Safe.load (has73 A) (fun _ => rfl) fun v10 => ?_
    refine Safe.store (has73 A) ?_
    refine Safe.load (has23 A) (fun _ => rfl) fun v15 => ?_
    refine Safe.load (has23 A) (fun _ => rfl) fun v17 => ?_
    refine Safe.load (has80 A) (fun _ => rfl) fun v20 => ?_
    refine Safe.store (has80 A) ?_
    refine Safe.load (has24 A) (fun _ => rfl) fun v24 => ?_
    refine Safe.load (has24 A) (fun _ => rfl) fun v26 => ?_
    refine Safe.load (has81 A) (fun _ => rfl) fun v29 => ?_
    exact Safe.pure
  · refine Safe.load (has8 A) (fun _ => rfl) fun v3 => ?_
    refine Safe.load (has72 A) (fun _ => rfl) fun v5 => ?_
    refine Safe.store (has72 A) ?_
    refine Safe.load (has9 A) (fun _ => rfl) fun v8 => ?_
    refine Safe.load (has73 A) (fun _ => rfl) fun v10 => ?_
    refine Safe.store (has73 A) ?_
    refine Safe.load (has23 A) (fun _ => rfl) fun v15 => ?_
    refine Safe.load (has23 A) (fun _ => rfl) fun v17 => ?_
    refine Safe.load (has80 A) (fun _ => rfl) fun v20 => ?_
    refine Safe.store (has80 A) ?_
    refine Safe.load (has24 A) (fun _ => rfl) fun v24 => ?_
    refine Safe.load (has24 A) (fun _ => rfl) fun v26 => ?_
    refine Safe.load (has81 A) (fun _ => rfl) fun v29 => ?_
    exact Safe.pure

theorem safe_part36 (A : Args) (i : grid0.Coords) (v28 : FVec F S4x4096 .f32) (v29 : Vec F S4x4096 .f32) :
    Safe (F := F) A (A.app (k0_part36 i) v28 v29) := by
  unfold Args.app
  rw [k0_part36_eq_skeleton]
  unfold k0_part36_skel
  refine Safe.store (has81 A) ?_
  refine Safe.load (has76 A) (fun _ => rfl) fun v33 => ?_
  refine Safe.store (has76 A) ?_
  refine Safe.load (has77 A) (fun _ => rfl) fun v37 => ?_
  refine Safe.store (has77 A) ?_
  refine Safe.load (has78 A) (fun _ => rfl) fun v41 => ?_
  refine Safe.store (has78 A) ?_
  refine Safe.bind (Safe.loop _ _ _ _ _ _ fun k a => safe_t1 A _ _ _ k a) fun _ => ?_
  refine Safe.load (has76 A) (fun _ => rfl) fun v45 => ?_
  refine Safe.load (has77 A) (fun _ => rfl) fun v46 => ?_
  refine Safe.load (has78 A) (fun _ => rfl) fun v47 => ?_
  exact Safe.pure

theorem safe_part37 (A : Args) (i : grid0.Coords) (v13 : BitVec 32) (v45 : Vec F S128x256 .f32) (v47 : Vec F S128x256 .f32) (v54 : FVec F S128x256 .f32) (v57 : FVec F S128x256 .bf16) (v59 : FVec F S128x256 .f32) (v61 : FVec F S128x256 .f32) :
    Safe (F := F) A (A.app (k0_part37 i) v13 v45 v47 v54 v57 v59 v61) := by
  unfold Args.app
  rw [k0_part37_eq_skeleton]
  unfold k0_part37_skel
  refine Safe.load (has32 A) (fun _ => rfl) fun v70 => ?_
  refine Safe.store (has32 A) ?_
  refine Safe.load (has79 A) (fun _ => rfl) fun v74 => ?_
  refine Safe.store (has79 A) ?_
  refine Safe.load (has79 A) (fun _ => rfl) fun v92 => ?_
  refine Safe.store (has79 A) ?_
  refine Safe.bind (Safe.loop _ _ _ _ _ _ fun k a => safe_t2 A _ _ _ _ _ _ _ _ k a) fun _ => ?_
  refine Safe.load (has64 A) (fun _ => rfl) fun v96 => ?_
  exact Safe.pure

theorem safe_cc0_qat_mlp (A : Args) (i : grid0.Coords) :
    Safe (F := F) A (cc0_qat_mlp i A.m1 A.h1 A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 A.m28 A.h28 A.m29 A.h29 A.m30 A.h30 A.m31 A.h31 A.m32 A.h32 A.m33 A.h33 A.m34 A.h34 A.m35 A.h35 A.m36 A.h36 A.m37 A.h37 A.m38 A.h38 A.m39 A.h39 A.m40 A.h40 A.m41 A.h41 A.m42 A.h42 A.m43 A.h43 A.m44 A.h44 A.m45 A.h45 A.m46 A.h46 A.m47 A.h47 A.m48 A.h48 A.m49 A.h49 A.m50 A.h50 A.m51 A.h51 A.m52 A.h52 A.m53 A.h53 A.m54 A.h54 A.m55 A.h55 A.m56 A.h56 A.m57 A.h57 A.m58 A.h58 A.m59 A.h59 A.m60 A.h60 A.m61 A.h61 A.m62 A.h62 A.m63 A.h63 A.m64 A.h64 A.m65 A.h65 A.m66 A.h66 A.m67 A.h67 A.m68 A.h68 A.m69 A.h69 A.m70 A.h70 A.m71 A.h71 A.m72 A.h72 A.m73 A.h73 A.m74 A.h74 A.m75 A.h75 A.m76 A.h76 A.m77 A.h77 A.m78 A.h78 A.m79 A.h79 A.m80 A.h80 A.m81 A.h81 A.m82 A.h82 A.m83 A.h83 A.m84 A.h84 A.m85 A.h85 A.m86 A.h86 A.m87 A.h87) := by
  rw [cc0_qat_mlp_eq_skeleton]
  unfold cc0_qat_mlp_skel
  refine Safe.bind (safe_part35 A _) ?_
  rintro ⟨arg0, v13, v28, v29⟩
  refine Safe.bind (safe_part36 A _ _ _) ?_
  rintro ⟨v45, v47, v54, v57, v59, v61⟩
  refine Safe.bind (safe_part37 A _ _ _ _ _ _ _ _) ?_
  rintro ⟨v69, v100, v101⟩
  refine Safe.bind (safe_part38 A _ _ _) ?_
  rintro ⟨v107, v112, v114, v116, v120, v122, v125, v126, v127, v128, v133, v135⟩
  refine Safe.bind (safe_part39 A _ _ _ _ _ _ _ _ _ _ _ _) ?_
  rintro ⟨v157, v162, v168, v172, v173⟩
  refine Safe.bind (safe_part40 A _ _ _ _ _ _ _ _ _) ?_
  rintro ⟨v196, v201, v203, v204⟩
  refine Safe.bind (safe_part41 A _ _ _) ?_
  rintro ⟨v209, v211, v214, v215, v222, v228, v239⟩
  refine Safe.bind (safe_part42 A _ _ _ _ _ _ _ _ _ _) fun v257 => ?_
  refine Safe.store (has52 A) ?_
  refine Safe.ite (fun k0_h2 => ?_) (fun k0_h2 => ?_)
  · refine Safe.bind (safe_part25 A _) ?_
    rintro ⟨v295, v300, v302, v304, v306, v308, v310, v312⟩
    refine Safe.bind (safe_part26 A _ _ _ _ _) ?_
    rintro ⟨v313, v314, v344, v345, v346⟩
    refine Safe.load (has58 A) (fun _ => rfl) fun v368 => ?_
    refine Safe.store (has58 A) ?_
    refine Safe.load (has59 A) (fun _ => rfl) fun v369 => ?_
    refine Safe.store (has59 A) ?_
    refine Safe.load (has60 A) (fun _ => rfl) fun v370 => ?_
    refine Safe.store (has60 A) ?_
    refine Safe.load (has61 A) (fun _ => rfl) fun v371 => ?_
    refine Safe.store (has61 A) ?_
    refine Safe.load (has62 A) (fun _ => rfl) fun v372 => ?_
    refine Safe.store (has62 A) ?_
    refine Safe.ite (fun k0_h3 => ?_) (fun k0_h3 => ?_)
    · refine Safe.bind (safe_part27 A _) ?_
      rintro ⟨v282, v299, v314⟩
      refine Safe.bind (safe_part28 A _ _ _) ?_
      rintro ⟨v347, v348⟩
      refine Safe.bind (safe_part29 A _ _ _) ?_
      rintro ⟨v379, v382⟩
      refine Safe.bind (safe_part30 A _ _ _ _) ?_
      rintro ⟨v414, v416⟩
      refine Safe.bind (safe_part31 A _ _ _ _) fun v456 => ?_
      refine Safe.bind (safe_part32 A _ _ _ _) fun v497 => ?_
      refine Safe.bind (safe_part33 A _ _ _ _) ?_
      rintro ⟨v528, v531, v535⟩
      refine Safe.bind (safe_part34 A _ _ _ _ _ _) ?_
      rintro ⟨v565, v570, v573⟩
      refine Safe.load (has30 A) (fun _ => rfl) fun v583 => ?_
      refine Safe.store (has30 A) ?_
      exact Safe.pure
    · exact Safe.pure
  · refine Safe.ite (fun k0_h3 => ?_) (fun k0_h3 => ?_)
    · refine Safe.bind (safe_part27 A _) ?_
      rintro ⟨v282, v299, v314⟩
      refine Safe.bind (safe_part28 A _ _ _) ?_
      rintro ⟨v347, v348⟩
      refine Safe.bind (safe_part29 A _ _ _) ?_
      rintro ⟨v379, v382⟩
      refine Safe.bind (safe_part30 A _ _ _ _) ?_
      rintro ⟨v414, v416⟩
      refine Safe.bind (safe_part31 A _ _ _ _) fun v456 => ?_
      refine Safe.bind (safe_part32 A _ _ _ _) fun v497 => ?_
      refine Safe.bind (safe_part33 A _ _ _ _) ?_
      rintro ⟨v528, v531, v535⟩
      refine Safe.bind (safe_part34 A _ _ _ _ _ _) ?_
      rintro ⟨v565, v570, v573⟩
      refine Safe.load (has30 A) (fun _ => rfl) fun v583 => ?_
      refine Safe.store (has30 A) ?_
      exact Safe.pure
    · exact Safe.pure

end Cert.Proof.K

end
-- ==== Proof.K.Launch.lean ====
module

public import proofs.«01_k».proof.Proof.Gen.Kernel.Frame
public import proofs.«01_k».proof.Proof.K.Safe

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (RDat)

/-- The memrefs the body is called on at point `t`: each window's current staging buffer, and the scratch buffers. -/
noncomputable def argsAt (t : Fin cfg0.N) : Args where
  m1 := win0_0.stage (cfg0.slots t 0)
  h1 := hstage0_0 ((cfg0.slots t 0).cast nbuf0_0)
  m2 := win0_1.stage (cfg0.slots t 1)
  h2 := hstage0_1 ((cfg0.slots t 1).cast nbuf0_1)
  m3 := win0_2.stage (cfg0.slots t 2)
  h3 := hstage0_2 ((cfg0.slots t 2).cast nbuf0_2)
  m4 := win0_3.stage (cfg0.slots t 3)
  h4 := hstage0_3 ((cfg0.slots t 3).cast nbuf0_3)
  m5 := win0_4.stage (cfg0.slots t 4)
  h5 := hstage0_4 ((cfg0.slots t 4).cast nbuf0_4)
  m6 := win0_5.stage (cfg0.slots t 5)
  h6 := hstage0_5 ((cfg0.slots t 5).cast nbuf0_5)
  m7 := win0_6.stage (cfg0.slots t 6)
  h7 := hstage0_6 ((cfg0.slots t 6).cast nbuf0_6)
  m8 := win0_7.stage (cfg0.slots t 7)
  h8 := hstage0_7 ((cfg0.slots t 7).cast nbuf0_7)
  m9 := win0_8.stage (cfg0.slots t 8)
  h9 := hstage0_8 ((cfg0.slots t 8).cast nbuf0_8)
  m10 := win0_9.stage (cfg0.slots t 9)
  h10 := hstage0_9 ((cfg0.slots t 9).cast nbuf0_9)
  m11 := win0_10.stage (cfg0.slots t 10)
  h11 := hstage0_10 ((cfg0.slots t 10).cast nbuf0_10)
  m12 := win0_11.stage (cfg0.slots t 11)
  h12 := hstage0_11 ((cfg0.slots t 11).cast nbuf0_11)
  m13 := win0_12.stage (cfg0.slots t 12)
  h13 := hstage0_12 ((cfg0.slots t 12).cast nbuf0_12)
  m14 := win0_13.stage (cfg0.slots t 13)
  h14 := hstage0_13 ((cfg0.slots t 13).cast nbuf0_13)
  m15 := win0_14.stage (cfg0.slots t 14)
  h15 := hstage0_14 ((cfg0.slots t 14).cast nbuf0_14)
  m16 := win0_15.stage (cfg0.slots t 15)
  h16 := hstage0_15 ((cfg0.slots t 15).cast nbuf0_15)
  m17 := win0_16.stage (cfg0.slots t 16)
  h17 := hstage0_16 ((cfg0.slots t 16).cast nbuf0_16)
  m18 := win0_17.stage (cfg0.slots t 17)
  h18 := hstage0_17 ((cfg0.slots t 17).cast nbuf0_17)
  m19 := win0_18.stage (cfg0.slots t 18)
  h19 := hstage0_18 ((cfg0.slots t 18).cast nbuf0_18)
  m20 := win0_19.stage (cfg0.slots t 19)
  h20 := hstage0_19 ((cfg0.slots t 19).cast nbuf0_19)
  m21 := win0_20.stage (cfg0.slots t 20)
  h21 := hstage0_20 ((cfg0.slots t 20).cast nbuf0_20)
  m22 := win0_21.stage (cfg0.slots t 21)
  h22 := hstage0_21 ((cfg0.slots t 21).cast nbuf0_21)
  m23 := win0_22.stage (cfg0.slots t 22)
  h23 := hstage0_22 ((cfg0.slots t 22).cast nbuf0_22)
  m24 := win0_23.stage (cfg0.slots t 23)
  h24 := hstage0_23 ((cfg0.slots t 23).cast nbuf0_23)
  m25 := win0_24.stage (cfg0.slots t 24)
  h25 := hstage0_24 ((cfg0.slots t 24).cast nbuf0_24)
  m26 := win0_25.stage (cfg0.slots t 25)
  h26 := hstage0_25 ((cfg0.slots t 25).cast nbuf0_25)
  m27 := win0_26.stage (cfg0.slots t 26)
  h27 := hstage0_26 ((cfg0.slots t 26).cast nbuf0_26)
  m28 := win0_27.stage (cfg0.slots t 27)
  h28 := hstage0_27 ((cfg0.slots t 27).cast nbuf0_27)
  m29 := win0_28.stage (cfg0.slots t 28)
  h29 := hstage0_28 ((cfg0.slots t 28).cast nbuf0_28)
  m30 := win0_29.stage (cfg0.slots t 29)
  h30 := hstage0_29 ((cfg0.slots t 29).cast nbuf0_29)
  m31 := win0_30.stage (cfg0.slots t 30)
  h31 := hstage0_30 ((cfg0.slots t 30).cast nbuf0_30)
  m32 := win0_31.stage (cfg0.slots t 31)
  h32 := hstage0_31 ((cfg0.slots t 31).cast nbuf0_31)
  m33 := win0_32.stage (cfg0.slots t 32)
  h33 := hstage0_32 ((cfg0.slots t 32).cast nbuf0_32)
  m34 := win0_33.stage (cfg0.slots t 33)
  h34 := hstage0_33 ((cfg0.slots t 33).cast nbuf0_33)
  m35 := win0_34.stage (cfg0.slots t 34)
  h35 := hstage0_34 ((cfg0.slots t 34).cast nbuf0_34)
  m36 := win0_35.stage (cfg0.slots t 35)
  h36 := hstage0_35 ((cfg0.slots t 35).cast nbuf0_35)
  m37 := win0_36.stage (cfg0.slots t 36)
  h37 := hstage0_36 ((cfg0.slots t 36).cast nbuf0_36)
  m38 := win0_37.stage (cfg0.slots t 37)
  h38 := hstage0_37 ((cfg0.slots t 37).cast nbuf0_37)
  m39 := win0_38.stage (cfg0.slots t 38)
  h39 := hstage0_38 ((cfg0.slots t 38).cast nbuf0_38)
  m40 := win0_39.stage (cfg0.slots t 39)
  h40 := hstage0_39 ((cfg0.slots t 39).cast nbuf0_39)
  m41 := win0_40.stage (cfg0.slots t 40)
  h41 := hstage0_40 ((cfg0.slots t 40).cast nbuf0_40)
  m42 := win0_41.stage (cfg0.slots t 41)
  h42 := hstage0_41 ((cfg0.slots t 41).cast nbuf0_41)
  m43 := win0_42.stage (cfg0.slots t 42)
  h43 := hstage0_42 ((cfg0.slots t 42).cast nbuf0_42)
  m44 := win0_43.stage (cfg0.slots t 43)
  h44 := hstage0_43 ((cfg0.slots t 43).cast nbuf0_43)
  m45 := win0_44.stage (cfg0.slots t 44)
  h45 := hstage0_44 ((cfg0.slots t 44).cast nbuf0_44)
  m46 := win0_45.stage (cfg0.slots t 45)
  h46 := hstage0_45 ((cfg0.slots t 45).cast nbuf0_45)
  m47 := win0_46.stage (cfg0.slots t 46)
  h47 := hstage0_46 ((cfg0.slots t 46).cast nbuf0_46)
  m48 := win0_47.stage (cfg0.slots t 47)
  h48 := hstage0_47 ((cfg0.slots t 47).cast nbuf0_47)
  m49 := win0_48.stage (cfg0.slots t 48)
  h49 := hstage0_48 ((cfg0.slots t 48).cast nbuf0_48)
  m50 := win0_49.stage (cfg0.slots t 49)
  h50 := hstage0_49 ((cfg0.slots t 49).cast nbuf0_49)
  m51 := win0_50.stage (cfg0.slots t 50)
  h51 := hstage0_50 ((cfg0.slots t 50).cast nbuf0_50)
  m52 := win0_51.stage (cfg0.slots t 51)
  h52 := hstage0_51 ((cfg0.slots t 51).cast nbuf0_51)
  m53 := win0_52.stage (cfg0.slots t 52)
  h53 := hstage0_52 ((cfg0.slots t 52).cast nbuf0_52)
  m54 := win0_53.stage (cfg0.slots t 53)
  h54 := hstage0_53 ((cfg0.slots t 53).cast nbuf0_53)
  m55 := win0_54.stage (cfg0.slots t 54)
  h55 := hstage0_54 ((cfg0.slots t 54).cast nbuf0_54)
  m56 := win0_55.stage (cfg0.slots t 55)
  h56 := hstage0_55 ((cfg0.slots t 55).cast nbuf0_55)
  m57 := win0_56.stage (cfg0.slots t 56)
  h57 := hstage0_56 ((cfg0.slots t 56).cast nbuf0_56)
  m58 := win0_57.stage (cfg0.slots t 57)
  h58 := hstage0_57 ((cfg0.slots t 57).cast nbuf0_57)
  m59 := win0_58.stage (cfg0.slots t 58)
  h59 := hstage0_58 ((cfg0.slots t 58).cast nbuf0_58)
  m60 := win0_59.stage (cfg0.slots t 59)
  h60 := hstage0_59 ((cfg0.slots t 59).cast nbuf0_59)
  m61 := win0_60.stage (cfg0.slots t 60)
  h61 := hstage0_60 ((cfg0.slots t 60).cast nbuf0_60)
  m62 := win0_61.stage (cfg0.slots t 61)
  h62 := hstage0_61 ((cfg0.slots t 61).cast nbuf0_61)
  m63 := Memref.whole cc0_scratch0
  h63 := Memref.isWhole_whole _
  m64 := Memref.whole cc0_scratch1
  h64 := Memref.isWhole_whole _
  m65 := Memref.whole cc0_scratch2
  h65 := Memref.isWhole_whole _
  m66 := Memref.whole cc0_scratch3
  h66 := Memref.isWhole_whole _
  m67 := Memref.whole cc0_scratch4
  h67 := Memref.isWhole_whole _
  m68 := Memref.whole cc0_scratch5
  h68 := Memref.isWhole_whole _
  m69 := Memref.whole cc0_scratch6
  h69 := Memref.isWhole_whole _
  m70 := Memref.whole cc0_scratch7
  h70 := Memref.isWhole_whole _
  m71 := Memref.whole cc0_scratch8
  h71 := Memref.isWhole_whole _
  m72 := Memref.whole cc0_scratch9
  h72 := Memref.isWhole_whole _
  m73 := Memref.whole cc0_scratch10
  h73 := Memref.isWhole_whole _
  m74 := Memref.whole cc0_scratch11
  h74 := Memref.isWhole_whole _
  m75 := Memref.whole cc0_scratch12
  h75 := Memref.isWhole_whole _
  m76 := Memref.whole cc0_scratch13
  h76 := Memref.isWhole_whole _
  m77 := Memref.whole cc0_scratch14
  h77 := Memref.isWhole_whole _
  m78 := Memref.whole cc0_scratch15
  h78 := Memref.isWhole_whole _
  m79 := Memref.whole cc0_scratch16
  h79 := Memref.isWhole_whole _
  m80 := Memref.whole cc0_scratch17
  h80 := Memref.isWhole_whole _
  m81 := Memref.whole cc0_scratch18
  h81 := Memref.isWhole_whole _
  m82 := Memref.whole cc0_scratch19
  h82 := Memref.isWhole_whole _
  m83 := Memref.whole cc0_scratch20
  h83 := Memref.isWhole_whole _
  m84 := Memref.whole cc0_scratch21
  h84 := Memref.isWhole_whole _
  m85 := Memref.whole cc0_scratch22
  h85 := Memref.isWhole_whole _
  m86 := Memref.whole cc0_scratch23
  h86 := Memref.isWhole_whole _
  m87 := Memref.whole cc0_scratch24
  h87 := Memref.isWhole_whole _

/-- What the 25 scratch buffers hold. -/
structure Scr (F : FTy → Type) [FloatOps F] where
  x63 : S128x4096.Idx → Elt F .bf16
  x64 : S4288x128.Idx → Elt F .bf16
  x65 : S128x1.Idx → Elt F .f32
  x66 : S4096x256.Idx → Elt F .bf16
  x67 : S4096x256.Idx → Elt F .bf16
  x68 : S256x4096.Idx → Elt F .bf16
  x69 : S4096x256.Idx → Elt F .bf16
  x70 : S4096x256.Idx → Elt F .bf16
  x71 : S256x4096.Idx → Elt F .bf16
  x72 : S256x256.Idx → Elt F .i32
  x73 : S256x256.Idx → Elt F .i32
  x74 : S128x4096.Idx → Elt F .f32
  x75 : S128x4096.Idx → Elt F .f32
  x76 : S128x256.Idx → Elt F .f32
  x77 : S128x256.Idx → Elt F .f32
  x78 : S128x256.Idx → Elt F .f32
  x79 : S272x128.Idx → Elt F .bf16
  x80 : S4x4096.Idx → Elt F .f32
  x81 : S4x4096.Idx → Elt F .f32
  x82 : S64x256.Idx → Elt F .f32
  x83 : S64x256.Idx → Elt F .f32
  x84 : S2x4x4096.Idx → Elt F .f32
  x85 : S2x4x4096.Idx → Elt F .f32
  x86 : S2x64x128.Idx → Elt F .f32
  x87 : S4x32x128.Idx → Elt F .f32

/-- The scratch part of a state. -/
def St.scr (V : St F) : Scr F := ⟨V.x63, V.x64, V.x65, V.x66, V.x67, V.x68, V.x69, V.x70, V.x71, V.x72, V.x73, V.x74, V.x75, V.x76, V.x77, V.x78, V.x79, V.x80, V.x81, V.x82, V.x83, V.x84, V.x85, V.x86, V.x87⟩

/-- What the windows' staging buffers hold, each at its own type. -/
abbrev Wins (F : FTy → Type) [FloatOps F] : Type := (w : Fin cfg0.W) → (cfg0.win w).block.Idx → Elt F (cfg0.win w).elt

/-- The state whose windows' staging buffers hold `Y` and whose scratch buffers hold `S`. -/
def St.of (Y : Wins F) (S : Scr F) : St F :=
  ⟨Y 0, Y 1, Y 2, Y 3, Y 4, Y 5, Y 6, Y 7, Y 8, Y 9, Y 10, Y 11, Y 12, Y 13, Y 14, Y 15, Y 16, Y 17, Y 18, Y 19, Y 20, Y 21, Y 22, Y 23, Y 24, Y 25, Y 26, Y 27, Y 28, Y 29, Y 30, Y 31, Y 32, Y 33, Y 34, Y 35, Y 36, Y 37, Y 38, Y 39, Y 40, Y 41, Y 42, Y 43, Y 44, Y 45, Y 46, Y 47, Y 48, Y 49, Y 50, Y 51, Y 52, Y 53, Y 54, Y 55, Y 56, Y 57, Y 58, Y 59, Y 60, Y 61, S.x63, S.x64, S.x65, S.x66, S.x67, S.x68, S.x69, S.x70, S.x71, S.x72, S.x73, S.x74, S.x75, S.x76, S.x77, S.x78, S.x79, S.x80, S.x81, S.x82, S.x83, S.x84, S.x85, S.x86, S.x87⟩

/-- The scratch buffers, one assertion each. -/
def scrL (c : Dev nD) (S : Scr F) : List (sProp 𝕄) :=
  [owns (c : Thread nD τ) (Memref.whole cc0_scratch0) fullShare S.x63,
   owns (c : Thread nD τ) (Memref.whole cc0_scratch1) fullShare S.x64,
   owns (c : Thread nD τ) (Memref.whole cc0_scratch2) fullShare S.x65,
   owns (c : Thread nD τ) (Memref.whole cc0_scratch3) fullShare S.x66,
   owns (c : Thread nD τ) (Memref.whole cc0_scratch4) fullShare S.x67,
   owns (c : Thread nD τ) (Memref.whole cc0_scratch5) fullShare S.x68,
   owns (c : Thread nD τ) (Memref.whole cc0_scratch6) fullShare S.x69,
   owns (c : Thread nD τ) (Memref.whole cc0_scratch7) fullShare S.x70,
   owns (c : Thread nD τ) (Memref.whole cc0_scratch8) fullShare S.x71,
   owns (c : Thread nD τ) (Memref.whole cc0_scratch9) fullShare S.x72,
   owns (c : Thread nD τ) (Memref.whole cc0_scratch10) fullShare S.x73,
   owns (c : Thread nD τ) (Memref.whole cc0_scratch11) fullShare S.x74,
   owns (c : Thread nD τ) (Memref.whole cc0_scratch12) fullShare S.x75,
   owns (c : Thread nD τ) (Memref.whole cc0_scratch13) fullShare S.x76,
   owns (c : Thread nD τ) (Memref.whole cc0_scratch14) fullShare S.x77,
   owns (c : Thread nD τ) (Memref.whole cc0_scratch15) fullShare S.x78,
   owns (c : Thread nD τ) (Memref.whole cc0_scratch16) fullShare S.x79,
   owns (c : Thread nD τ) (Memref.whole cc0_scratch17) fullShare S.x80,
   owns (c : Thread nD τ) (Memref.whole cc0_scratch18) fullShare S.x81,
   owns (c : Thread nD τ) (Memref.whole cc0_scratch19) fullShare S.x82,
   owns (c : Thread nD τ) (Memref.whole cc0_scratch20) fullShare S.x83,
   owns (c : Thread nD τ) (Memref.whole cc0_scratch21) fullShare S.x84,
   owns (c : Thread nD τ) (Memref.whole cc0_scratch22) fullShare S.x85,
   owns (c : Thread nD τ) (Memref.whole cc0_scratch23) fullShare S.x86,
   owns (c : Thread nD τ) (Memref.whole cc0_scratch24) fullShare S.x87]

/-- The windows' staging buffers at point `t`, one assertion each, at their contents in `V`. -/
def winL (c : Dev nD) (t : Fin cfg0.N) (V : St F) : List (sProp 𝕄) :=
  [owns (c : Thread nD τ) ((cfg0.win 0).stage (cfg0.slots t 0)) fullShare V.x1,
   owns (c : Thread nD τ) ((cfg0.win 1).stage (cfg0.slots t 1)) fullShare V.x2,
   owns (c : Thread nD τ) ((cfg0.win 2).stage (cfg0.slots t 2)) fullShare V.x3,
   owns (c : Thread nD τ) ((cfg0.win 3).stage (cfg0.slots t 3)) fullShare V.x4,
   owns (c : Thread nD τ) ((cfg0.win 4).stage (cfg0.slots t 4)) fullShare V.x5,
   owns (c : Thread nD τ) ((cfg0.win 5).stage (cfg0.slots t 5)) fullShare V.x6,
   owns (c : Thread nD τ) ((cfg0.win 6).stage (cfg0.slots t 6)) fullShare V.x7,
   owns (c : Thread nD τ) ((cfg0.win 7).stage (cfg0.slots t 7)) fullShare V.x8,
   owns (c : Thread nD τ) ((cfg0.win 8).stage (cfg0.slots t 8)) fullShare V.x9,
   owns (c : Thread nD τ) ((cfg0.win 9).stage (cfg0.slots t 9)) fullShare V.x10,
   owns (c : Thread nD τ) ((cfg0.win 10).stage (cfg0.slots t 10)) fullShare V.x11,
   owns (c : Thread nD τ) ((cfg0.win 11).stage (cfg0.slots t 11)) fullShare V.x12,
   owns (c : Thread nD τ) ((cfg0.win 12).stage (cfg0.slots t 12)) fullShare V.x13,
   owns (c : Thread nD τ) ((cfg0.win 13).stage (cfg0.slots t 13)) fullShare V.x14,
   owns (c : Thread nD τ) ((cfg0.win 14).stage (cfg0.slots t 14)) fullShare V.x15,
   owns (c : Thread nD τ) ((cfg0.win 15).stage (cfg0.slots t 15)) fullShare V.x16,
   owns (c : Thread nD τ) ((cfg0.win 16).stage (cfg0.slots t 16)) fullShare V.x17,
   owns (c : Thread nD τ) ((cfg0.win 17).stage (cfg0.slots t 17)) fullShare V.x18,
   owns (c : Thread nD τ) ((cfg0.win 18).stage (cfg0.slots t 18)) fullShare V.x19,
   owns (c : Thread nD τ) ((cfg0.win 19).stage (cfg0.slots t 19)) fullShare V.x20,
   owns (c : Thread nD τ) ((cfg0.win 20).stage (cfg0.slots t 20)) fullShare V.x21,
   owns (c : Thread nD τ) ((cfg0.win 21).stage (cfg0.slots t 21)) fullShare V.x22,
   owns (c : Thread nD τ) ((cfg0.win 22).stage (cfg0.slots t 22)) fullShare V.x23,
   owns (c : Thread nD τ) ((cfg0.win 23).stage (cfg0.slots t 23)) fullShare V.x24,
   owns (c : Thread nD τ) ((cfg0.win 24).stage (cfg0.slots t 24)) fullShare V.x25,
   owns (c : Thread nD τ) ((cfg0.win 25).stage (cfg0.slots t 25)) fullShare V.x26,
   owns (c : Thread nD τ) ((cfg0.win 26).stage (cfg0.slots t 26)) fullShare V.x27,
   owns (c : Thread nD τ) ((cfg0.win 27).stage (cfg0.slots t 27)) fullShare V.x28,
   owns (c : Thread nD τ) ((cfg0.win 28).stage (cfg0.slots t 28)) fullShare V.x29,
   owns (c : Thread nD τ) ((cfg0.win 29).stage (cfg0.slots t 29)) fullShare V.x30,
   owns (c : Thread nD τ) ((cfg0.win 30).stage (cfg0.slots t 30)) fullShare V.x31,
   owns (c : Thread nD τ) ((cfg0.win 31).stage (cfg0.slots t 31)) fullShare V.x32,
   owns (c : Thread nD τ) ((cfg0.win 32).stage (cfg0.slots t 32)) fullShare V.x33,
   owns (c : Thread nD τ) ((cfg0.win 33).stage (cfg0.slots t 33)) fullShare V.x34,
   owns (c : Thread nD τ) ((cfg0.win 34).stage (cfg0.slots t 34)) fullShare V.x35,
   owns (c : Thread nD τ) ((cfg0.win 35).stage (cfg0.slots t 35)) fullShare V.x36,
   owns (c : Thread nD τ) ((cfg0.win 36).stage (cfg0.slots t 36)) fullShare V.x37,
   owns (c : Thread nD τ) ((cfg0.win 37).stage (cfg0.slots t 37)) fullShare V.x38,
   owns (c : Thread nD τ) ((cfg0.win 38).stage (cfg0.slots t 38)) fullShare V.x39,
   owns (c : Thread nD τ) ((cfg0.win 39).stage (cfg0.slots t 39)) fullShare V.x40,
   owns (c : Thread nD τ) ((cfg0.win 40).stage (cfg0.slots t 40)) fullShare V.x41,
   owns (c : Thread nD τ) ((cfg0.win 41).stage (cfg0.slots t 41)) fullShare V.x42,
   owns (c : Thread nD τ) ((cfg0.win 42).stage (cfg0.slots t 42)) fullShare V.x43,
   owns (c : Thread nD τ) ((cfg0.win 43).stage (cfg0.slots t 43)) fullShare V.x44,
   owns (c : Thread nD τ) ((cfg0.win 44).stage (cfg0.slots t 44)) fullShare V.x45,
   owns (c : Thread nD τ) ((cfg0.win 45).stage (cfg0.slots t 45)) fullShare V.x46,
   owns (c : Thread nD τ) ((cfg0.win 46).stage (cfg0.slots t 46)) fullShare V.x47,
   owns (c : Thread nD τ) ((cfg0.win 47).stage (cfg0.slots t 47)) fullShare V.x48,
   owns (c : Thread nD τ) ((cfg0.win 48).stage (cfg0.slots t 48)) fullShare V.x49,
   owns (c : Thread nD τ) ((cfg0.win 49).stage (cfg0.slots t 49)) fullShare V.x50,
   owns (c : Thread nD τ) ((cfg0.win 50).stage (cfg0.slots t 50)) fullShare V.x51,
   owns (c : Thread nD τ) ((cfg0.win 51).stage (cfg0.slots t 51)) fullShare V.x52,
   owns (c : Thread nD τ) ((cfg0.win 52).stage (cfg0.slots t 52)) fullShare V.x53,
   owns (c : Thread nD τ) ((cfg0.win 53).stage (cfg0.slots t 53)) fullShare V.x54,
   owns (c : Thread nD τ) ((cfg0.win 54).stage (cfg0.slots t 54)) fullShare V.x55,
   owns (c : Thread nD τ) ((cfg0.win 55).stage (cfg0.slots t 55)) fullShare V.x56,
   owns (c : Thread nD τ) ((cfg0.win 56).stage (cfg0.slots t 56)) fullShare V.x57,
   owns (c : Thread nD τ) ((cfg0.win 57).stage (cfg0.slots t 57)) fullShare V.x58,
   owns (c : Thread nD τ) ((cfg0.win 58).stage (cfg0.slots t 58)) fullShare V.x59,
   owns (c : Thread nD τ) ((cfg0.win 59).stage (cfg0.slots t 59)) fullShare V.x60,
   owns (c : Thread nD τ) ((cfg0.win 60).stage (cfg0.slots t 60)) fullShare V.x61,
   owns (c : Thread nD τ) ((cfg0.win 61).stage (cfg0.slots t 61)) fullShare V.x62]

theorem sep_assoc_eq (P Q R : sProp 𝕄) : iprop((P ∗ Q) ∗ R) = iprop(P ∗ Q ∗ R) := equiv_iff.mp ⟨BI.sep_assoc, BI.sep_assoc'⟩
theorem sep_emp_eq (P : sProp 𝕄) : iprop(P ∗ emp) = P := equiv_iff.mp BI.sep_emp
theorem emp_sep_eq (P : sProp 𝕄) : iprop(emp ∗ P) = P := equiv_iff.mp BI.emp_sep

theorem sepL_append : ∀ (L L' : List (sProp 𝕄)), sepL (L ++ L') = iprop(sepL L ∗ sepL L')
  | [], L' => by rw [List.nil_append]; exact (emp_sep_eq _).symm
  | P :: L, L' => by
    show iprop(P ∗ sepL (L ++ L')) = iprop((P ∗ sepL L) ∗ sepL L')
    rw [sepL_append L L', sep_assoc_eq]

/-- The separating conjunction of a nonempty list, with no empty assertion at its end. -/
def sepN : sProp 𝕄 → List (sProp 𝕄) → sProp 𝕄
  | P, [] => P
  | P, Q :: L => iprop(P ∗ sepN Q L)

theorem sepN_eq : ∀ (P : sProp 𝕄) (L : List (sProp 𝕄)), sepN P L = sepL (P :: L)
  | P, [] => (sep_emp_eq P).symm
  | P, Q :: L => by
    show iprop(P ∗ sepN Q L) = iprop(P ∗ sepL (Q :: L))
    rw [sepN_eq Q L]

theorem sepL_mono {L L' : List (sProp 𝕄)} (h : List.Forall₂ (fun P Q => P ⊢ Q) L L') : sepL L ⊢ sepL L' := by
  induction h with
  | nil => exact .rfl
  | cons h _ ih => exact BIClass.sep_mono h ih

theorem wins_eq (c : Dev nD) (t : Fin cfg0.N) (Y : Wins F) (S : Scr F) :
    (bigSep Finset.univ (fun w : Fin cfg0.W => owns (c : Thread nD τ) ((cfg0.win w).stage (cfg0.slots t w)) fullShare (Y w)) : sProp 𝕄) = sepL (winL c t (St.of Y S)) := by
  refine Eq.trans (bigSep_W0 (M := 𝕄) (fun w : Fin 62 => owns (c : Thread nD τ) ((cfg0.win w).stage (cfg0.slots t w)) fullShare (Y w))) ?_
  unfold winL
  rw [← sepN_eq]
  simp only [sepN]
  rfl

/-- The windows' buffers and the scratch buffers are what the body runs over. -/
theorem own_eq (c : Dev nD) (t : Fin cfg0.N) (V : St F) :
    Own c (argsAt t) V = iprop(sepL (winL c t V) ∗ sepL (scrL c V.scr)) := by
  rw [← sepL_append]
  unfold winL scrL Own ownL
  simp only [List.cons_append, List.nil_append]
  rfl

/-- A property of every window's contents in a state. -/
def AllW (P : (w : Fin cfg0.W) → ((cfg0.win w).block.Idx → Elt F (cfg0.win w).elt) → Prop) (V : St F) : Prop :=
  P 0 V.x1 ∧ P 1 V.x2 ∧ P 2 V.x3 ∧ P 3 V.x4 ∧ P 4 V.x5 ∧ P 5 V.x6 ∧ P 6 V.x7 ∧ P 7 V.x8 ∧ P 8 V.x9 ∧ P 9 V.x10 ∧ P 10 V.x11 ∧ P 11 V.x12 ∧ P 12 V.x13 ∧ P 13 V.x14 ∧ P 14 V.x15 ∧ P 15 V.x16 ∧ P 16 V.x17 ∧ P 17 V.x18 ∧ P 18 V.x19 ∧ P 19 V.x20 ∧ P 20 V.x21 ∧ P 21 V.x22 ∧ P 22 V.x23 ∧ P 23 V.x24 ∧ P 24 V.x25 ∧ P 25 V.x26 ∧ P 26 V.x27 ∧ P 27 V.x28 ∧ P 28 V.x29 ∧ P 29 V.x30 ∧ P 30 V.x31 ∧ P 31 V.x32 ∧ P 32 V.x33 ∧ P 33 V.x34 ∧ P 34 V.x35 ∧ P 35 V.x36 ∧ P 36 V.x37 ∧ P 37 V.x38 ∧ P 38 V.x39 ∧ P 39 V.x40 ∧ P 40 V.x41 ∧ P 41 V.x42 ∧ P 42 V.x43 ∧ P 43 V.x44 ∧ P 44 V.x45 ∧ P 45 V.x46 ∧ P 46 V.x47 ∧ P 47 V.x48 ∧ P 48 V.x49 ∧ P 49 V.x50 ∧ P 50 V.x51 ∧ P 51 V.x52 ∧ P 52 V.x53 ∧ P 53 V.x54 ∧ P 54 V.x55 ∧ P 55 V.x56 ∧ P 56 V.x57 ∧ P 57 V.x58 ∧ P 58 V.x59 ∧ P 59 V.x60 ∧ P 60 V.x61 ∧ P 61 V.x62

theorem allW_true (V : St F) : AllW (fun _ _ => True) V := by
  unfold AllW; exact ⟨trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial⟩

theorem own_split (c : Dev nD) (t : Fin cfg0.N) (V : St F) :
    Own c (argsAt t) V ⊢ iprop(sepL (winL c t V) ∗ sepL (scrL c V.scr)) := by
  rw [own_eq]

/-- The scratch buffers at contents of which `I` holds, and the generator register at some state. -/
def PhiS (c : Dev nD) (I : Scr F → Prop) : sProp 𝕄 :=
  iprop((∃ S, ⌜I S⌝ ∗ sepL (scrL c S)) ∗ ∃ r, prngReg c r)

theorem phiS_of_A (c : Dev nD) (I : Scr F → Prop) (h : ∀ S, I S) :
    (Pipeline.ΦA (U := UR sig nD τ) spec0 c : sProp 𝕄) ⊢ PhiS c I := by
  unfold Pipeline.ΦA PhiS
  rw [scopedRest0_eq]
  refine BIClass.sep_mono ?_ .rfl
  iintro ⟨⟨%f63, H63⟩, ⟨%f64, H64⟩, ⟨%f65, H65⟩, ⟨%f66, H66⟩, ⟨%f67, H67⟩, ⟨%f68, H68⟩, ⟨%f69, H69⟩, ⟨%f70, H70⟩, ⟨%f71, H71⟩, ⟨%f72, H72⟩, ⟨%f73, H73⟩, ⟨%f74, H74⟩, ⟨%f75, H75⟩, ⟨%f76, H76⟩, ⟨%f77, H77⟩, ⟨%f78, H78⟩, ⟨%f79, H79⟩, ⟨%f80, H80⟩, ⟨%f81, H81⟩, ⟨%f82, H82⟩, ⟨%f83, H83⟩, ⟨%f84, H84⟩, ⟨%f85, H85⟩, ⟨%f86, H86⟩, ⟨%f87, H87⟩⟩
  iexists ⟨f63, f64, f65, f66, f67, f68, f69, f70, f71, f72, f73, f74, f75, f76, f77, f78, f79, f80, f81, f82, f83, f84, f85, f86, f87⟩
  isplitr; · ipureintro; exact h _
  unfold scrL
  rw [← sepN_eq]
  simp only [sepN, owns_whole]
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  isplitl [H83]; · iexact H83
  isplitl [H84]; · iexact H84
  isplitl [H85]; · iexact H85
  isplitl [H86]; · iexact H86
  iexact H87

theorem rest_of_scrL (c : Dev nD) (S : Scr F) :
    sepL (scrL c S) ⊢ (Pipeline.scopedRest (Ix := Unit) (Name := ℕ) (U := UR sig nD τ) (Lvl := ℕ) (Val := Elt F) spec0 c : sProp 𝕄) := by
  rw [scopedRest0_eq]
  unfold scrL
  rw [← sepN_eq]
  simp only [sepN, owns_whole]
  iintro ⟨H63, H64, H65, H66, H67, H68, H69, H70, H71, H72, H73, H74, H75, H76, H77, H78, H79, H80, H81, H82, H83, H84, H85, H86, H87⟩
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  isplitl [H80]; · iexists _; iexact H80
  isplitl [H81]; · iexists _; iexact H81
  isplitl [H82]; · iexists _; iexact H82
  isplitl [H83]; · iexists _; iexact H83
  isplitl [H84]; · iexists _; iexact H84
  isplitl [H85]; · iexists _; iexact H85
  isplitl [H86]; · iexists _; iexact H86
  iexists _; iexact H87

theorem phiA_of_S (c : Dev nD) (I : Scr F → Prop) :
    PhiS c I ⊢ (Pipeline.ΦA (U := UR sig nD τ) spec0 c : sProp 𝕄) := by
  unfold Pipeline.ΦA PhiS
  refine BIClass.sep_mono ?_ .rfl
  iintro ⟨%S, -, H⟩
  iapply (rest_of_scrL c S)
  iexact H

section Run

theorem aft_in (c : Dev nD) {sp : CoreSpace} {s : Shape} {e : EltTy} (M : Memref sig .tc sp s e) (P : (s.Idx → Elt F e) → Prop) (X : s.Idx → Elt F e) (h : P X) :
    (owns (c : Thread nD τ) M fullShare X : sProp 𝕄) ⊢ iprop(∃ Z, ⌜P Z⌝ ∗ owns (c : Thread nD τ) M fullShare Z) := by
  iintro H
  iexists X
  isplitr; · ipureintro; exact h
  iexact H

/-- The windows' buffers at contents in the relation, as the body obligation asks for them. -/
theorem wins_after (c : Dev nD) (t : Fin cfg0.N) (V : St F) (P : (w : Fin cfg0.W) → ((cfg0.win w).block.Idx → Elt F (cfg0.win w).elt) → Prop)
    (h : AllW P V) : sepL (winL c t V) ⊢ (bigSep Finset.univ (fun w : Fin cfg0.W =>
      iprop(∃ Z, ⌜P w Z⌝ ∗ owns (c : Thread nD τ) ((cfg0.win w).stage (cfg0.slots t w)) fullShare Z)) : sProp 𝕄) := by
  rw [show (bigSep Finset.univ (fun w : Fin cfg0.W =>
      iprop(∃ Z, ⌜P w Z⌝ ∗ owns (c : Thread nD τ) ((cfg0.win w).stage (cfg0.slots t w)) fullShare Z)) : sProp 𝕄) = _ from bigSep_W0 (M := 𝕄) (fun w : Fin 62 =>
      iprop(∃ Z, ⌜P w Z⌝ ∗ owns (c : Thread nD τ) ((cfg0.win w).stage (cfg0.slots t w)) fullShare Z))]
  unfold winL
  rw [← sepN_eq]
  simp only [sepN]
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61⟩ := h
  refine BIClass.sep_mono (aft_in c _ (P 0) _ h0) ?_
  refine BIClass.sep_mono (aft_in c _ (P 1) _ h1) ?_
  refine BIClass.sep_mono (aft_in c _ (P 2) _ h2) ?_
  refine BIClass.sep_mono (aft_in c _ (P 3) _ h3) ?_
  refine BIClass.sep_mono (aft_in c _ (P 4) _ h4) ?_
  refine BIClass.sep_mono (aft_in c _ (P 5) _ h5) ?_
  refine BIClass.sep_mono (aft_in c _ (P 6) _ h6) ?_
  refine BIClass.sep_mono (aft_in c _ (P 7) _ h7) ?_
  refine BIClass.sep_mono (aft_in c _ (P 8) _ h8) ?_
  refine BIClass.sep_mono (aft_in c _ (P 9) _ h9) ?_
  refine BIClass.sep_mono (aft_in c _ (P 10) _ h10) ?_
  refine BIClass.sep_mono (aft_in c _ (P 11) _ h11) ?_
  refine BIClass.sep_mono (aft_in c _ (P 12) _ h12) ?_
  refine BIClass.sep_mono (aft_in c _ (P 13) _ h13) ?_
  refine BIClass.sep_mono (aft_in c _ (P 14) _ h14) ?_
  refine BIClass.sep_mono (aft_in c _ (P 15) _ h15) ?_
  refine BIClass.sep_mono (aft_in c _ (P 16) _ h16) ?_
  refine BIClass.sep_mono (aft_in c _ (P 17) _ h17) ?_
  refine BIClass.sep_mono (aft_in c _ (P 18) _ h18) ?_
  refine BIClass.sep_mono (aft_in c _ (P 19) _ h19) ?_
  refine BIClass.sep_mono (aft_in c _ (P 20) _ h20) ?_
  refine BIClass.sep_mono (aft_in c _ (P 21) _ h21) ?_
  refine BIClass.sep_mono (aft_in c _ (P 22) _ h22) ?_
  refine BIClass.sep_mono (aft_in c _ (P 23) _ h23) ?_
  refine BIClass.sep_mono (aft_in c _ (P 24) _ h24) ?_
  refine BIClass.sep_mono (aft_in c _ (P 25) _ h25) ?_
  refine BIClass.sep_mono (aft_in c _ (P 26) _ h26) ?_
  refine BIClass.sep_mono (aft_in c _ (P 27) _ h27) ?_
  refine BIClass.sep_mono (aft_in c _ (P 28) _ h28) ?_
  refine BIClass.sep_mono (aft_in c _ (P 29) _ h29) ?_
  refine BIClass.sep_mono (aft_in c _ (P 30) _ h30) ?_
  refine BIClass.sep_mono (aft_in c _ (P 31) _ h31) ?_
  refine BIClass.sep_mono (aft_in c _ (P 32) _ h32) ?_
  refine BIClass.sep_mono (aft_in c _ (P 33) _ h33) ?_
  refine BIClass.sep_mono (aft_in c _ (P 34) _ h34) ?_
  refine BIClass.sep_mono (aft_in c _ (P 35) _ h35) ?_
  refine BIClass.sep_mono (aft_in c _ (P 36) _ h36) ?_
  refine BIClass.sep_mono (aft_in c _ (P 37) _ h37) ?_
  refine BIClass.sep_mono (aft_in c _ (P 38) _ h38) ?_
  refine BIClass.sep_mono (aft_in c _ (P 39) _ h39) ?_
  refine BIClass.sep_mono (aft_in c _ (P 40) _ h40) ?_
  refine BIClass.sep_mono (aft_in c _ (P 41) _ h41) ?_
  refine BIClass.sep_mono (aft_in c _ (P 42) _ h42) ?_
  refine BIClass.sep_mono (aft_in c _ (P 43) _ h43) ?_
  refine BIClass.sep_mono (aft_in c _ (P 44) _ h44) ?_
  refine BIClass.sep_mono (aft_in c _ (P 45) _ h45) ?_
  refine BIClass.sep_mono (aft_in c _ (P 46) _ h46) ?_
  refine BIClass.sep_mono (aft_in c _ (P 47) _ h47) ?_
  refine BIClass.sep_mono (aft_in c _ (P 48) _ h48) ?_
  refine BIClass.sep_mono (aft_in c _ (P 49) _ h49) ?_
  refine BIClass.sep_mono (aft_in c _ (P 50) _ h50) ?_
  refine BIClass.sep_mono (aft_in c _ (P 51) _ h51) ?_
  refine BIClass.sep_mono (aft_in c _ (P 52) _ h52) ?_
  refine BIClass.sep_mono (aft_in c _ (P 53) _ h53) ?_
  refine BIClass.sep_mono (aft_in c _ (P 54) _ h54) ?_
  refine BIClass.sep_mono (aft_in c _ (P 55) _ h55) ?_
  refine BIClass.sep_mono (aft_in c _ (P 56) _ h56) ?_
  refine BIClass.sep_mono (aft_in c _ (P 57) _ h57) ?_
  refine BIClass.sep_mono (aft_in c _ (P 58) _ h58) ?_
  refine BIClass.sep_mono (aft_in c _ (P 59) _ h59) ?_
  refine BIClass.sep_mono (aft_in c _ (P 60) _ h60) ?_
  exact aft_in c _ (P 61) _ h61

variable (m : (ℓ : Loc nD τ sig) → Buf (Elt F) ℓ) (ρ : Dev nD → PrngReg)

/-- The proof data of a run: the arrays as the region finds them, `aft` relating what the body is handed to what it leaves in
    each staging buffer, and `I n` holding of the scratch buffers before point `n`. -/
def rdat (I : Dev nD → ℕ → Scr F → Prop) (aft : Dev nD → (w : Fin cfg0.W) → Fin cfg0.N → (Y X : (cfg0.win w).block.Idx → Elt F (cfg0.win w).elt) → Prop)
    (c : Dev nD) : RDat τ (Elt F) Unit ℕ (UR sig nD τ) ℕ cfg0 c where
  A w := V m c (Pipeline.arrRef spec0 w)
  after := aft c
  Φ n := PhiS c (I c n.val)
  q _ := fullShare
  owed _ := 0

theorem row (t : Fin cfg0.N) : defs₀ (F := F) .tc cfg0.body (cfg0.bodyArgs t (cfg0.slots t)) = bodyAt0 t := by
  unfold defs₀; rw [Defs.onTc_tc]

/-- What the body leaves, sorted into the invariant and the staging buffers. -/
theorem body_post (I : Dev nD → ℕ → Scr F → Prop) (aft : Dev nD → (w : Fin cfg0.W) → Fin cfg0.N → (Y X : (cfg0.win w).block.Idx → Elt F (cfg0.win w).elt) → Prop) (c : Dev nD)
    (t : Fin cfg0.N) (Y : Wins F) (R : sProp 𝕄) (O : sProp 𝕄) :
    iprop((∃ V', ⌜I c (t.val + 1) V'.scr ∧ AllW (fun w => aft c w t (Y w)) V'⌝ ∗ Own c (argsAt t) V') ∗ R ∗ O)
      ⊢ iprop(((∃ S, ⌜I c (t.val + 1) S⌝ ∗ sepL (scrL c S)) ∗ R) ∗ O ∗ bigSep Finset.univ (fun w : Fin cfg0.W =>
        iprop(∃ X, ⌜aft c w t (Y w) X⌝ ∗ owns (c : Thread nD τ) ((cfg0.win w).stage (cfg0.slots t w)) fullShare X))) := by
  iintro ⟨⟨%V', %hq, H⟩, HR, HO⟩
  ihave H2 := (own_split c t V') $$ H
  icases H2 with ⟨HW, HS⟩
  isplitl [HS HR]
  · isplitl [HS]
    · iexists V'.scr
      isplitr; · ipureintro; exact hq.1
      iexact HS
    iexact HR
  isplitl [HO]; · iexact HO
  iapply (wins_after c t V' (fun w => aft c w t (Y w)) hq.2)
  iexact HW

/-- The body obligation of `rdat`, from a run of the body over the state its buffers make up. -/
theorem body_of (I : Dev nD → ℕ → Scr F → Prop) (aft : Dev nD → (w : Fin cfg0.W) → Fin cfg0.N → (Y X : (cfg0.win w).block.Idx → Elt F (cfg0.win w).elt) → Prop) (c : Dev nD)
    (h : ∀ (t : Fin cfg0.N) (Y : Wins F) (S : Scr F), (∀ w, (rdat m I aft c).Finds w t (Y w)) → I c t.val S →
      Tri c (argsAt t) (St.of Y S) (bodyAt0 t) (fun _ V' => I c (t.val + 1) V'.scr ∧ AllW (fun w => aft c w t (Y w)) V')) :
    (rdat m I aft c).BodyObligation (defs₀ (F := F)) Variants.none () Set.univ := by
  intro t Y hY
  rw [row]
  rw [show (rdat m I aft c).Φ t.castSucc = PhiS c (I c t.val) from rfl,
    show (rdat m I aft c).Φ t.succ = PhiS c (I c (t.val + 1)) from rfl,
    show (rdat m I aft c).owesAt () t.succ = (rdat m I aft c).owesAt () t.castSucc from rfl]
  unfold PhiS
  iintro ⟨⟨⟨%S, %hS, HS⟩, Hp⟩, HO, HW⟩
  have hb := h t Y S hY hS
  unfold Tri at hb
  rw [own_eq, ← wins_eq] at hb
  have hb' := (BIClass.sep_mono hb (.rfl (P := iprop((∃ r, prngReg c r) ∗ (rdat m I aft c).owesAt () t.castSucc)))).trans
    ((wp_frame_r frame _ _).trans (wp_mono frame _ _ fun _ => body_post I aft c t Y _ _))
  iapply hb'
  isplitl [HS HW]
  · isplitl [HW]; · iexact HW
    iexact HS
  isplitl [Hp]; · iexact Hp
  iexact HO

/-- A run of the kernel: from any memory with zero counters it ends, the arrays as the proof data says, every other buffer as the
    region found it, every counter at zero. -/
theorem run_of (I : Dev nD → ℕ → Scr F → Prop) (aft : Dev nD → (w : Fin cfg0.W) → Fin cfg0.N → (Y X : (cfg0.win w).block.Idx → Elt F (cfg0.win w).elt) → Prop)
    (h0 : ∀ c S, I c 0 S)
    (h : ∀ c (t : Fin cfg0.N) (Y : Wins F) (S : Scr F), (∀ w, (rdat m I aft c).Finds w t (Y w)) → I c t.val S →
      Tri c (argsAt t) (St.of Y S) (bodyAt0 t) (fun _ V' => I c (t.val + 1) V'.scr ∧ AllW (fun w => aft c w t (Y w)) V')) :
    θ_run defs (onTc (τ := τ) (main (F := F))) (s₀ m ρ)
      (fun r => RDat.FramePost cfg0 (rdat m I aft) (V m) r ∧ r.2.sem = fun _ => 0) :=
  RDat.θ_run_frame_track cfgs (0 : Fin 1) launch0 defs₀ Variants.none (rdat m I aft) m ρ main
    (fun c => body_of m I aft c (h c))
    (fun c w => by unfold RDat.share; split <;> rfl) (fun _ _ => rfl) (V m) (hmain m Variants.none) (fun _ _ => rfl)
    (fun c => phiS_of_A c _ (h0 c)) (fun c => phiA_of_S c _) _ (fun _ h => h)

/-- After such a run every argument is as launched, and every counter is zero. -/
theorem frame_run (I : Dev nD → ℕ → Scr F → Prop) (aft : Dev nD → (w : Fin cfg0.W) → Fin cfg0.N → (Y X : (cfg0.win w).block.Idx → Elt F (cfg0.win w).elt) → Prop)
    (h : θ_run defs (onTc (τ := τ) (main (F := F))) (s₀ m ρ)
      (fun r => RDat.FramePost cfg0 (rdat m I aft) (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 7 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (h.1.arr_in c 8 rfl).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c),
      ((h.1 c).2 main_arg20 (Pipeline.mem_restRefs_of main_arg20 (by decide) (by decide))).trans (V_main_arg20 m c),
      ((h.1 c).2 main_arg21 (Pipeline.mem_restRefs_of main_arg21 (by decide) (by decide))).trans (V_main_arg21 m c),
      ((h.1 c).2 main_arg22 (Pipeline.mem_restRefs_of main_arg22 (by decide) (by decide))).trans (V_main_arg22 m c),
      ((h.1 c).2 main_arg23 (Pipeline.mem_restRefs_of main_arg23 (by decide) (by decide))).trans (V_main_arg23 m c),
      (h.1.arr_in c 3 rfl).trans (V_main_arg24 m c),
      (h.1.arr_in c 4 rfl).trans (V_main_arg25 m c),
      ((h.1 c).2 main_arg26 (Pipeline.mem_restRefs_of main_arg26 (by decide) (by decide))).trans (V_main_arg26 m c),
      ((h.1 c).2 main_arg27 (Pipeline.mem_restRefs_of main_arg27 (by decide) (by decide))).trans (V_main_arg27 m c)⟩, h.2⟩) h

/-- The frame of the program, at every instance: it ends, nothing faulting, its arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) ∧ r.2.sem = fun _ => 0) :=
  frame_run m ρ (fun _ _ _ => True) (fun _ _ _ _ _ => True) (run_of m ρ _ _ (fun _ _ => trivial) fun c t Y S _ _ =>
    (safe_cc0_qat_mlp (argsAt t) (grid0.coords t) c (St.of Y S)).mono fun _ _ _ => ⟨trivial, allW_true _⟩)

end Run

end Cert.Proof.K

end
-- ==== Proof.KI.State.lean ====
module

public import proofs.«01_k».proof.Proof.Gen.KernelIdeal.Launch

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The memrefs the kernel's body is called on: the staging buffers of the 28 inputs (`m1`–`m28`) and of the 34 outputs
    (`m29`–`m62`), and the 25 scratch buffers (`m63`–`m87`), each whole. -/
structure Args where
  m1 : Memref sig .tc .vmem S128x4096 .bf16
  h1 : m1.IsWhole
  m2 : Memref sig .tc .vmem S128x4096 .bf16
  h2 : m2.IsWhole
  m3 : Memref sig .tc .vmem S1x4096 .f32
  h3 : m3.IsWhole
  m4 : Memref sig .tc .smem S6 .f32
  h4 : m4.IsWhole
  m5 : Memref sig .tc .smem S6 .f32
  h5 : m5.IsWhole
  m6 : Memref sig .tc .smem S1 .f32
  h6 : m6.IsWhole
  m7 : Memref sig .tc .smem S1 .f32
  h7 : m7.IsWhole
  m8 : Memref sig .tc .vmem S256x256 .i32
  h8 : m8.IsWhole
  m9 : Memref sig .tc .vmem S256x256 .i32
  h9 : m9.IsWhole
  m10 : Memref sig .tc .vmem S16x4096 .i32
  h10 : m10.IsWhole
  m11 : Memref sig .tc .vmem S64x256 .f32
  h11 : m11.IsWhole
  m12 : Memref sig .tc .vmem S64x256 .f32
  h12 : m12.IsWhole
  m13 : Memref sig .tc .vmem S64x256 .f32
  h13 : m13.IsWhole
  m14 : Memref sig .tc .vmem S64x256 .f32
  h14 : m14.IsWhole
  m15 : Memref sig .tc .vmem S64x256 .f32
  h15 : m15.IsWhole
  m16 : Memref sig .tc .vmem S64x256 .f32
  h16 : m16.IsWhole
  m17 : Memref sig .tc .vmem S64x256 .f32
  h17 : m17.IsWhole
  m18 : Memref sig .tc .vmem S64x256 .f32
  h18 : m18.IsWhole
  m19 : Memref sig .tc .vmem S64x256 .f32
  h19 : m19.IsWhole
  m20 : Memref sig .tc .vmem S64x256 .f32
  h20 : m20.IsWhole
  m21 : Memref sig .tc .vmem S64x256 .f32
  h21 : m21.IsWhole
  m22 : Memref sig .tc .vmem S64x256 .f32
  h22 : m22.IsWhole
  m23 : Memref sig .tc .vmem S8x4096 .f32
  h23 : m23.IsWhole
  m24 : Memref sig .tc .vmem S8x4096 .f32
  h24 : m24.IsWhole
  m25 : Memref sig .tc .vmem S8x4096 .f32
  h25 : m25.IsWhole
  m26 : Memref sig .tc .vmem S8x4096 .f32
  h26 : m26.IsWhole
  m27 : Memref sig .tc .vmem S8x4096 .f32
  h27 : m27.IsWhole
  m28 : Memref sig .tc .vmem S8x4096 .f32
  h28 : m28.IsWhole
  m29 : Memref sig .tc .vmem S128x4096 .bf16
  h29 : m29.IsWhole
  m30 : Memref sig .tc .vmem S128x4096 .bf16
  h30 : m30.IsWhole
  m31 : Memref sig .tc .vmem S128x1 .f32
  h31 : m31.IsWhole
  m32 : Memref sig .tc .vmem S128x256 .bf16
  h32 : m32.IsWhole
  m33 : Memref sig .tc .vmem S64x256 .f32
  h33 : m33.IsWhole
  m34 : Memref sig .tc .vmem S64x256 .f32
  h34 : m34.IsWhole
  m35 : Memref sig .tc .vmem S64x256 .f32
  h35 : m35.IsWhole
  m36 : Memref sig .tc .vmem S64x256 .f32
  h36 : m36.IsWhole
  m37 : Memref sig .tc .vmem S64x256 .f32
  h37 : m37.IsWhole
  m38 : Memref sig .tc .vmem S64x256 .f32
  h38 : m38.IsWhole
  m39 : Memref sig .tc .vmem S64x256 .f32
  h39 : m39.IsWhole
  m40 : Memref sig .tc .vmem S64x256 .f32
  h40 : m40.IsWhole
  m41 : Memref sig .tc .vmem S64x256 .f32
  h41 : m41.IsWhole
  m42 : Memref sig .tc .vmem S64x256 .f32
  h42 : m42.IsWhole
  m43 : Memref sig .tc .vmem S64x256 .f32
  h43 : m43.IsWhole
  m44 : Memref sig .tc .vmem S64x256 .f32
  h44 : m44.IsWhole
  m45 : Memref sig .tc .vmem S64x256 .f32
  h45 : m45.IsWhole
  m46 : Memref sig .tc .vmem S64x256 .f32
  h46 : m46.IsWhole
  m47 : Memref sig .tc .vmem S64x256 .f32
  h47 : m47.IsWhole
  m48 : Memref sig .tc .vmem S64x256 .f32
  h48 : m48.IsWhole
  m49 : Memref sig .tc .vmem S64x256 .f32
  h49 : m49.IsWhole
  m50 : Memref sig .tc .vmem S64x256 .f32
  h50 : m50.IsWhole
  m51 : Memref sig .tc .vmem S64x256 .f32
  h51 : m51.IsWhole
  m52 : Memref sig .tc .vmem S64x256 .f32
  h52 : m52.IsWhole
  m53 : Memref sig .tc .vmem S8x4096 .f32
  h53 : m53.IsWhole
  m54 : Memref sig .tc .vmem S8x4096 .f32
  h54 : m54.IsWhole
  m55 : Memref sig .tc .vmem S8x4096 .f32
  h55 : m55.IsWhole
  m56 : Memref sig .tc .vmem S8x4096 .f32
  h56 : m56.IsWhole
  m57 : Memref sig .tc .vmem S8x4096 .f32
  h57 : m57.IsWhole
  m58 : Memref sig .tc .vmem S8x4096 .f32
  h58 : m58.IsWhole
  m59 : Memref sig .tc .vmem S8x4096 .f32
  h59 : m59.IsWhole
  m60 : Memref sig .tc .vmem S8x4096 .f32
  h60 : m60.IsWhole
  m61 : Memref sig .tc .vmem S8x4096 .f32
  h61 : m61.IsWhole
  m62 : Memref sig .tc .vmem S8x4096 .f32
  h62 : m62.IsWhole
  m63 : Memref sig .tc .vmem S128x4096 .bf16
  h63 : m63.IsWhole
  m64 : Memref sig .tc .vmem S4288x128 .bf16
  h64 : m64.IsWhole
  m65 : Memref sig .tc .vmem S128x1 .f32
  h65 : m65.IsWhole
  m66 : Memref sig .tc .vmem S4096x256 .bf16
  h66 : m66.IsWhole
  m67 : Memref sig .tc .vmem S4096x256 .bf16
  h67 : m67.IsWhole
  m68 : Memref sig .tc .vmem S256x4096 .bf16
  h68 : m68.IsWhole
  m69 : Memref sig .tc .vmem S4096x256 .bf16
  h69 : m69.IsWhole
  m70 : Memref sig .tc .vmem S4096x256 .bf16
  h70 : m70.IsWhole
  m71 : Memref sig .tc .vmem S256x4096 .bf16
  h71 : m71.IsWhole
  m72 : Memref sig .tc .vmem S256x256 .i32
  h72 : m72.IsWhole
  m73 : Memref sig .tc .vmem S256x256 .i32
  h73 : m73.IsWhole
  m74 : Memref sig .tc .vmem S128x4096 .f32
  h74 : m74.IsWhole
  m75 : Memref sig .tc .vmem S128x4096 .f32
  h75 : m75.IsWhole
  m76 : Memref sig .tc .vmem S128x256 .f32
  h76 : m76.IsWhole
  m77 : Memref sig .tc .vmem S128x256 .f32
  h77 : m77.IsWhole
  m78 : Memref sig .tc .vmem S128x256 .f32
  h78 : m78.IsWhole
  m79 : Memref sig .tc .vmem S272x128 .bf16
  h79 : m79.IsWhole
  m80 : Memref sig .tc .vmem S4x4096 .f32
  h80 : m80.IsWhole
  m81 : Memref sig .tc .vmem S4x4096 .f32
  h81 : m81.IsWhole
  m82 : Memref sig .tc .vmem S64x256 .f32
  h82 : m82.IsWhole
  m83 : Memref sig .tc .vmem S64x256 .f32
  h83 : m83.IsWhole
  m84 : Memref sig .tc .vmem S2x4x4096 .f32
  h84 : m84.IsWhole
  m85 : Memref sig .tc .vmem S2x4x4096 .f32
  h85 : m85.IsWhole
  m86 : Memref sig .tc .vmem S2x64x128 .f32
  h86 : m86.IsWhole
  m87 : Memref sig .tc .vmem S4x32x128 .f32
  h87 : m87.IsWhole

/-- `f` at the buffers of `A` and at the facts that they are whole: the body and each of its parts take all of them. -/
abbrev Args.app {β : Sort*} (A : Args)
    (f : ∀ (m1 : Memref sig .tc .vmem S128x4096 .bf16) (h1 : m1.IsWhole) (m2 : Memref sig .tc .vmem S128x4096 .bf16) (h2 : m2.IsWhole)
    (m3 : Memref sig .tc .vmem S1x4096 .f32) (h3 : m3.IsWhole) (m4 : Memref sig .tc .smem S6 .f32) (h4 : m4.IsWhole)
    (m5 : Memref sig .tc .smem S6 .f32) (h5 : m5.IsWhole) (m6 : Memref sig .tc .smem S1 .f32) (h6 : m6.IsWhole)
    (m7 : Memref sig .tc .smem S1 .f32) (h7 : m7.IsWhole) (m8 : Memref sig .tc .vmem S256x256 .i32) (h8 : m8.IsWhole)
    (m9 : Memref sig .tc .vmem S256x256 .i32) (h9 : m9.IsWhole) (m10 : Memref sig .tc .vmem S16x4096 .i32) (h10 : m10.IsWhole)
    (m11 : Memref sig .tc .vmem S64x256 .f32) (h11 : m11.IsWhole) (m12 : Memref sig .tc .vmem S64x256 .f32) (h12 : m12.IsWhole)
    (m13 : Memref sig .tc .vmem S64x256 .f32) (h13 : m13.IsWhole) (m14 : Memref sig .tc .vmem S64x256 .f32) (h14 : m14.IsWhole)
    (m15 : Memref sig .tc .vmem S64x256 .f32) (h15 : m15.IsWhole) (m16 : Memref sig .tc .vmem S64x256 .f32) (h16 : m16.IsWhole)
    (m17 : Memref sig .tc .vmem S64x256 .f32) (h17 : m17.IsWhole) (m18 : Memref sig .tc .vmem S64x256 .f32) (h18 : m18.IsWhole)
    (m19 : Memref sig .tc .vmem S64x256 .f32) (h19 : m19.IsWhole) (m20 : Memref sig .tc .vmem S64x256 .f32) (h20 : m20.IsWhole)
    (m21 : Memref sig .tc .vmem S64x256 .f32) (h21 : m21.IsWhole) (m22 : Memref sig .tc .vmem S64x256 .f32) (h22 : m22.IsWhole)
    (m23 : Memref sig .tc .vmem S8x4096 .f32) (h23 : m23.IsWhole) (m24 : Memref sig .tc .vmem S8x4096 .f32) (h24 : m24.IsWhole)
    (m25 : Memref sig .tc .vmem S8x4096 .f32) (h25 : m25.IsWhole) (m26 : Memref sig .tc .vmem S8x4096 .f32) (h26 : m26.IsWhole)
    (m27 : Memref sig .tc .vmem S8x4096 .f32) (h27 : m27.IsWhole) (m28 : Memref sig .tc .vmem S8x4096 .f32) (h28 : m28.IsWhole)
    (m29 : Memref sig .tc .vmem S128x4096 .bf16) (h29 : m29.IsWhole) (m30 : Memref sig .tc .vmem S128x4096 .bf16) (h30 : m30.IsWhole)
    (m31 : Memref sig .tc .vmem S128x1 .f32) (h31 : m31.IsWhole) (m32 : Memref sig .tc .vmem S128x256 .bf16) (h32 : m32.IsWhole)
    (m33 : Memref sig .tc .vmem S64x256 .f32) (h33 : m33.IsWhole) (m34 : Memref sig .tc .vmem S64x256 .f32) (h34 : m34.IsWhole)
    (m35 : Memref sig .tc .vmem S64x256 .f32) (h35 : m35.IsWhole) (m36 : Memref sig .tc .vmem S64x256 .f32) (h36 : m36.IsWhole)
    (m37 : Memref sig .tc .vmem S64x256 .f32) (h37 : m37.IsWhole) (m38 : Memref sig .tc .vmem S64x256 .f32) (h38 : m38.IsWhole)
    (m39 : Memref sig .tc .vmem S64x256 .f32) (h39 : m39.IsWhole) (m40 : Memref sig .tc .vmem S64x256 .f32) (h40 : m40.IsWhole)
    (m41 : Memref sig .tc .vmem S64x256 .f32) (h41 : m41.IsWhole) (m42 : Memref sig .tc .vmem S64x256 .f32) (h42 : m42.IsWhole)
    (m43 : Memref sig .tc .vmem S64x256 .f32) (h43 : m43.IsWhole) (m44 : Memref sig .tc .vmem S64x256 .f32) (h44 : m44.IsWhole)
    (m45 : Memref sig .tc .vmem S64x256 .f32) (h45 : m45.IsWhole) (m46 : Memref sig .tc .vmem S64x256 .f32) (h46 : m46.IsWhole)
    (m47 : Memref sig .tc .vmem S64x256 .f32) (h47 : m47.IsWhole) (m48 : Memref sig .tc .vmem S64x256 .f32) (h48 : m48.IsWhole)
    (m49 : Memref sig .tc .vmem S64x256 .f32) (h49 : m49.IsWhole) (m50 : Memref sig .tc .vmem S64x256 .f32) (h50 : m50.IsWhole)
    (m51 : Memref sig .tc .vmem S64x256 .f32) (h51 : m51.IsWhole) (m52 : Memref sig .tc .vmem S64x256 .f32) (h52 : m52.IsWhole)
    (m53 : Memref sig .tc .vmem S8x4096 .f32) (h53 : m53.IsWhole) (m54 : Memref sig .tc .vmem S8x4096 .f32) (h54 : m54.IsWhole)
    (m55 : Memref sig .tc .vmem S8x4096 .f32) (h55 : m55.IsWhole) (m56 : Memref sig .tc .vmem S8x4096 .f32) (h56 : m56.IsWhole)
    (m57 : Memref sig .tc .vmem S8x4096 .f32) (h57 : m57.IsWhole) (m58 : Memref sig .tc .vmem S8x4096 .f32) (h58 : m58.IsWhole)
    (m59 : Memref sig .tc .vmem S8x4096 .f32) (h59 : m59.IsWhole) (m60 : Memref sig .tc .vmem S8x4096 .f32) (h60 : m60.IsWhole)
    (m61 : Memref sig .tc .vmem S8x4096 .f32) (h61 : m61.IsWhole) (m62 : Memref sig .tc .vmem S8x4096 .f32) (h62 : m62.IsWhole)
    (m63 : Memref sig .tc .vmem S128x4096 .bf16) (h63 : m63.IsWhole) (m64 : Memref sig .tc .vmem S4288x128 .bf16) (h64 : m64.IsWhole)
    (m65 : Memref sig .tc .vmem S128x1 .f32) (h65 : m65.IsWhole) (m66 : Memref sig .tc .vmem S4096x256 .bf16) (h66 : m66.IsWhole)
    (m67 : Memref sig .tc .vmem S4096x256 .bf16) (h67 : m67.IsWhole) (m68 : Memref sig .tc .vmem S256x4096 .bf16) (h68 : m68.IsWhole)
    (m69 : Memref sig .tc .vmem S4096x256 .bf16) (h69 : m69.IsWhole) (m70 : Memref sig .tc .vmem S4096x256 .bf16) (h70 : m70.IsWhole)
    (m71 : Memref sig .tc .vmem S256x4096 .bf16) (h71 : m71.IsWhole) (m72 : Memref sig .tc .vmem S256x256 .i32) (h72 : m72.IsWhole)
    (m73 : Memref sig .tc .vmem S256x256 .i32) (h73 : m73.IsWhole) (m74 : Memref sig .tc .vmem S128x4096 .f32) (h74 : m74.IsWhole)
    (m75 : Memref sig .tc .vmem S128x4096 .f32) (h75 : m75.IsWhole) (m76 : Memref sig .tc .vmem S128x256 .f32) (h76 : m76.IsWhole)
    (m77 : Memref sig .tc .vmem S128x256 .f32) (h77 : m77.IsWhole) (m78 : Memref sig .tc .vmem S128x256 .f32) (h78 : m78.IsWhole)
    (m79 : Memref sig .tc .vmem S272x128 .bf16) (h79 : m79.IsWhole) (m80 : Memref sig .tc .vmem S4x4096 .f32) (h80 : m80.IsWhole)
    (m81 : Memref sig .tc .vmem S4x4096 .f32) (h81 : m81.IsWhole) (m82 : Memref sig .tc .vmem S64x256 .f32) (h82 : m82.IsWhole)
    (m83 : Memref sig .tc .vmem S64x256 .f32) (h83 : m83.IsWhole) (m84 : Memref sig .tc .vmem S2x4x4096 .f32) (h84 : m84.IsWhole)
    (m85 : Memref sig .tc .vmem S2x4x4096 .f32) (h85 : m85.IsWhole) (m86 : Memref sig .tc .vmem S2x64x128 .f32) (h86 : m86.IsWhole)
    (m87 : Memref sig .tc .vmem S4x32x128 .f32) (h87 : m87.IsWhole), β) : β :=
  f A.m1 A.h1 A.m2 A.h2 A.m3 A.h3 A.m4 A.h4 A.m5 A.h5 A.m6 A.h6 A.m7 A.h7 A.m8 A.h8 A.m9 A.h9 A.m10 A.h10
    A.m11 A.h11 A.m12 A.h12 A.m13 A.h13 A.m14 A.h14 A.m15 A.h15 A.m16 A.h16 A.m17 A.h17 A.m18 A.h18 A.m19 A.h19 A.m20 A.h20
    A.m21 A.h21 A.m22 A.h22 A.m23 A.h23 A.m24 A.h24 A.m25 A.h25 A.m26 A.h26 A.m27 A.h27 A.m28 A.h28 A.m29 A.h29 A.m30 A.h30
    A.m31 A.h31 A.m32 A.h32 A.m33 A.h33 A.m34 A.h34 A.m35 A.h35 A.m36 A.h36 A.m37 A.h37 A.m38 A.h38 A.m39 A.h39 A.m40 A.h40
    A.m41 A.h41 A.m42 A.h42 A.m43 A.h43 A.m44 A.h44 A.m45 A.h45 A.m46 A.h46 A.m47 A.h47 A.m48 A.h48 A.m49 A.h49 A.m50 A.h50
    A.m51 A.h51 A.m52 A.h52 A.m53 A.h53 A.m54 A.h54 A.m55 A.h55 A.m56 A.h56 A.m57 A.h57 A.m58 A.h58 A.m59 A.h59 A.m60 A.h60
    A.m61 A.h61 A.m62 A.h62 A.m63 A.h63 A.m64 A.h64 A.m65 A.h65 A.m66 A.h66 A.m67 A.h67 A.m68 A.h68 A.m69 A.h69 A.m70 A.h70
    A.m71 A.h71 A.m72 A.h72 A.m73 A.h73 A.m74 A.h74 A.m75 A.h75 A.m76 A.h76 A.m77 A.h77 A.m78 A.h78 A.m79 A.h79 A.m80 A.h80
    A.m81 A.h81 A.m82 A.h82 A.m83 A.h83 A.m84 A.h84 A.m85 A.h85 A.m86 A.h86 A.m87 A.h87

/-- The contents of those buffers, one field per memref. -/
structure St (F : FTy → Type) where
  x1 : S128x4096.Idx → Elt F .bf16
  x2 : S128x4096.Idx → Elt F .bf16
  x3 : S1x4096.Idx → Elt F .f32
  x4 : S6.Idx → Elt F .f32
  x5 : S6.Idx → Elt F .f32
  x6 : S1.Idx → Elt F .f32
  x7 : S1.Idx → Elt F .f32
  x8 : S256x256.Idx → Elt F .i32
  x9 : S256x256.Idx → Elt F .i32
  x10 : S16x4096.Idx → Elt F .i32
  x11 : S64x256.Idx → Elt F .f32
  x12 : S64x256.Idx → Elt F .f32
  x13 : S64x256.Idx → Elt F .f32
  x14 : S64x256.Idx → Elt F .f32
  x15 : S64x256.Idx → Elt F .f32
  x16 : S64x256.Idx → Elt F .f32
  x17 : S64x256.Idx → Elt F .f32
  x18 : S64x256.Idx → Elt F .f32
  x19 : S64x256.Idx → Elt F .f32
  x20 : S64x256.Idx → Elt F .f32
  x21 : S64x256.Idx → Elt F .f32
  x22 : S64x256.Idx → Elt F .f32
  x23 : S8x4096.Idx → Elt F .f32
  x24 : S8x4096.Idx → Elt F .f32
  x25 : S8x4096.Idx → Elt F .f32
  x26 : S8x4096.Idx → Elt F .f32
  x27 : S8x4096.Idx → Elt F .f32
  x28 : S8x4096.Idx → Elt F .f32
  x29 : S128x4096.Idx → Elt F .bf16
  x30 : S128x4096.Idx → Elt F .bf16
  x31 : S128x1.Idx → Elt F .f32
  x32 : S128x256.Idx → Elt F .bf16
  x33 : S64x256.Idx → Elt F .f32
  x34 : S64x256.Idx → Elt F .f32
  x35 : S64x256.Idx → Elt F .f32
  x36 : S64x256.Idx → Elt F .f32
  x37 : S64x256.Idx → Elt F .f32
  x38 : S64x256.Idx → Elt F .f32
  x39 : S64x256.Idx → Elt F .f32
  x40 : S64x256.Idx → Elt F .f32
  x41 : S64x256.Idx → Elt F .f32
  x42 : S64x256.Idx → Elt F .f32
  x43 : S64x256.Idx → Elt F .f32
  x44 : S64x256.Idx → Elt F .f32
  x45 : S64x256.Idx → Elt F .f32
  x46 : S64x256.Idx → Elt F .f32
  x47 : S64x256.Idx → Elt F .f32
  x48 : S64x256.Idx → Elt F .f32
  x49 : S64x256.Idx → Elt F .f32
  x50 : S64x256.Idx → Elt F .f32
  x51 : S64x256.Idx → Elt F .f32
  x52 : S64x256.Idx → Elt F .f32
  x53 : S8x4096.Idx → Elt F .f32
  x54 : S8x4096.Idx → Elt F .f32
  x55 : S8x4096.Idx → Elt F .f32
  x56 : S8x4096.Idx → Elt F .f32
  x57 : S8x4096.Idx → Elt F .f32
  x58 : S8x4096.Idx → Elt F .f32
  x59 : S8x4096.Idx → Elt F .f32
  x60 : S8x4096.Idx → Elt F .f32
  x61 : S8x4096.Idx → Elt F .f32
  x62 : S8x4096.Idx → Elt F .f32
  x63 : S128x4096.Idx → Elt F .bf16
  x64 : S4288x128.Idx → Elt F .bf16
  x65 : S128x1.Idx → Elt F .f32
  x66 : S4096x256.Idx → Elt F .bf16
  x67 : S4096x256.Idx → Elt F .bf16
  x68 : S256x4096.Idx → Elt F .bf16
  x69 : S4096x256.Idx → Elt F .bf16
  x70 : S4096x256.Idx → Elt F .bf16
  x71 : S256x4096.Idx → Elt F .bf16
  x72 : S256x256.Idx → Elt F .i32
  x73 : S256x256.Idx → Elt F .i32
  x74 : S128x4096.Idx → Elt F .f32
  x75 : S128x4096.Idx → Elt F .f32
  x76 : S128x256.Idx → Elt F .f32
  x77 : S128x256.Idx → Elt F .f32
  x78 : S128x256.Idx → Elt F .f32
  x79 : S272x128.Idx → Elt F .bf16
  x80 : S4x4096.Idx → Elt F .f32
  x81 : S4x4096.Idx → Elt F .f32
  x82 : S64x256.Idx → Elt F .f32
  x83 : S64x256.Idx → Elt F .f32
  x84 : S2x4x4096.Idx → Elt F .f32
  x85 : S2x4x4096.Idx → Elt F .f32
  x86 : S2x64x128.Idx → Elt F .f32
  x87 : S4x32x128.Idx → Elt F .f32

namespace St

/-- The contents with buffer 1 at `X`. -/
def s1 (V : St F) (X : S128x4096.Idx → Elt F .bf16) : St F := { V with x1 := X }
/-- The contents with buffer 2 at `X`. -/
def s2 (V : St F) (X : S128x4096.Idx → Elt F .bf16) : St F := { V with x2 := X }
/-- The contents with buffer 3 at `X`. -/
def s3 (V : St F) (X : S1x4096.Idx → Elt F .f32) : St F := { V with x3 := X }
/-- The contents with buffer 4 at `X`. -/
def s4 (V : St F) (X : S6.Idx → Elt F .f32) : St F := { V with x4 := X }
/-- The contents with buffer 5 at `X`. -/
def s5 (V : St F) (X : S6.Idx → Elt F .f32) : St F := { V with x5 := X }
/-- The contents with buffer 6 at `X`. -/
def s6 (V : St F) (X : S1.Idx → Elt F .f32) : St F := { V with x6 := X }
/-- The contents with buffer 7 at `X`. -/
def s7 (V : St F) (X : S1.Idx → Elt F .f32) : St F := { V with x7 := X }
/-- The contents with buffer 8 at `X`. -/
def s8 (V : St F) (X : S256x256.Idx → Elt F .i32) : St F := { V with x8 := X }
/-- The contents with buffer 9 at `X`. -/
def s9 (V : St F) (X : S256x256.Idx → Elt F .i32) : St F := { V with x9 := X }
/-- The contents with buffer 10 at `X`. -/
def s10 (V : St F) (X : S16x4096.Idx → Elt F .i32) : St F := { V with x10 := X }
/-- The contents with buffer 11 at `X`. -/
def s11 (V : St F) (X : S64x256.Idx → Elt F .f32) : St F := { V with x11 := X }
/-- The contents with buffer 12 at `X`. -/
def s12 (V : St F) (X : S64x256.Idx → Elt F .f32) : St F := { V with x12 := X }
/-- The contents with buffer 13 at `X`. -/
def s13 (V : St F) (X : S64x256.Idx → Elt F .f32) : St F := { V with x13 := X }
/-- The contents with buffer 14 at `X`. -/
def s14 (V : St F) (X : S64x256.Idx → Elt F .f32) : St F := { V with x14 := X }
/-- The contents with buffer 15 at `X`. -/
def s15 (V : St F) (X : S64x256.Idx → Elt F .f32) : St F := { V with x15 := X }
/-- The contents with buffer 16 at `X`. -/
def s16 (V : St F) (X : S64x256.Idx → Elt F .f32) : St F := { V with x16 := X }
/-- The contents with buffer 17 at `X`. -/
def s17 (V : St F) (X : S64x256.Idx → Elt F .f32) : St F := { V with x17 := X }
/-- The contents with buffer 18 at `X`. -/
def s18 (V : St F) (X : S64x256.Idx → Elt F .f32) : St F := { V with x18 := X }
/-- The contents with buffer 19 at `X`. -/
def s19 (V : St F) (X : S64x256.Idx → Elt F .f32) : St F := { V with x19 := X }
/-- The contents with buffer 20 at `X`. -/
def s20 (V : St F) (X : S64x256.Idx → Elt F .f32) : St F := { V with x20 := X }
/-- The contents with buffer 21 at `X`. -/
def s21 (V : St F) (X : S64x256.Idx → Elt F .f32) : St F := { V with x21 := X }
/-- The contents with buffer 22 at `X`. -/
def s22 (V : St F) (X : S64x256.Idx → Elt F .f32) : St F := { V with x22 := X }
/-- The contents with buffer 23 at `X`. -/
def s23 (V : St F) (X : S8x4096.Idx → Elt F .f32) : St F := { V with x23 := X }
/-- The contents with buffer 24 at `X`. -/
def s24 (V : St F) (X : S8x4096.Idx → Elt F .f32) : St F := { V with x24 := X }
/-- The contents with buffer 25 at `X`. -/
def s25 (V : St F) (X : S8x4096.Idx → Elt F .f32) : St F := { V with x25 := X }
/-- The contents with buffer 26 at `X`. -/
def s26 (V : St F) (X : S8x4096.Idx → Elt F .f32) : St F := { V with x26 := X }
/-- The contents with buffer 27 at `X`. -/
def s27 (V : St F) (X : S8x4096.Idx → Elt F .f32) : St F := { V with x27 := X }
/-- The contents with buffer 28 at `X`. -/
def s28 (V : St F) (X : S8x4096.Idx → Elt F .f32) : St F := { V with x28 := X }
/-- The contents with buffer 29 at `X`. -/
def s29 (V : St F) (X : S128x4096.Idx → Elt F .bf16) : St F := { V with x29 := X }
/-- The contents with buffer 30 at `X`. -/
def s30 (V : St F) (X : S128x4096.Idx → Elt F .bf16) : St F := { V with x30 := X }
/-- The contents with buffer 31 at `X`. -/
def s31 (V : St F) (X : S128x1.Idx → Elt F .f32) : St F := { V with x31 := X }
/-- The contents with buffer 32 at `X`. -/
def s32 (V : St F) (X : S128x256.Idx → Elt F .bf16) : St F := { V with x32 := X }
/-- The contents with buffer 33 at `X`. -/
def s33 (V : St F) (X : S64x256.Idx → Elt F .f32) : St F := { V with x33 := X }
/-- The contents with buffer 34 at `X`. -/
def s34 (V : St F) (X : S64x256.Idx → Elt F .f32) : St F := { V with x34 := X }
/-- The contents with buffer 35 at `X`. -/
def s35 (V : St F) (X : S64x256.Idx → Elt F .f32) : St F := { V with x35 := X }
/-- The contents with buffer 36 at `X`. -/
def s36 (V : St F) (X : S64x256.Idx → Elt F .f32) : St F := { V with x36 := X }
/-- The contents with buffer 37 at `X`. -/
def s37 (V : St F) (X : S64x256.Idx → Elt F .f32) : St F := { V with x37 := X }
/-- The contents with buffer 38 at `X`. -/
def s38 (V : St F) (X : S64x256.Idx → Elt F .f32) : St F := { V with x38 := X }
/-- The contents with buffer 39 at `X`. -/
def s39 (V : St F) (X : S64x256.Idx → Elt F .f32) : St F := { V with x39 := X }
/-- The contents with buffer 40 at `X`. -/
def s40 (V : St F) (X : S64x256.Idx → Elt F .f32) : St F := { V with x40 := X }
/-- The contents with buffer 41 at `X`. -/
def s41 (V : St F) (X : S64x256.Idx → Elt F .f32) : St F := { V with x41 := X }
/-- The contents with buffer 42 at `X`. -/
def s42 (V : St F) (X : S64x256.Idx → Elt F .f32) : St F := { V with x42 := X }
/-- The contents with buffer 43 at `X`. -/
def s43 (V : St F) (X : S64x256.Idx → Elt F .f32) : St F := { V with x43 := X }
/-- The contents with buffer 44 at `X`. -/
def s44 (V : St F) (X : S64x256.Idx → Elt F .f32) : St F := { V with x44 := X }
/-- The contents with buffer 45 at `X`. -/
def s45 (V : St F) (X : S64x256.Idx → Elt F .f32) : St F := { V with x45 := X }
/-- The contents with buffer 46 at `X`. -/
def s46 (V : St F) (X : S64x256.Idx → Elt F .f32) : St F := { V with x46 := X }
/-- The contents with buffer 47 at `X`. -/
def s47 (V : St F) (X : S64x256.Idx → Elt F .f32) : St F := { V with x47 := X }
/-- The contents with buffer 48 at `X`. -/
def s48 (V : St F) (X : S64x256.Idx → Elt F .f32) : St F := { V with x48 := X }
/-- The contents with buffer 49 at `X`. -/
def s49 (V : St F) (X : S64x256.Idx → Elt F .f32) : St F := { V with x49 := X }
/-- The contents with buffer 50 at `X`. -/
def s50 (V : St F) (X : S64x256.Idx → Elt F .f32) : St F := { V with x50 := X }
/-- The contents with buffer 51 at `X`. -/
def s51 (V : St F) (X : S64x256.Idx → Elt F .f32) : St F := { V with x51 := X }
/-- The contents with buffer 52 at `X`. -/
def s52 (V : St F) (X : S64x256.Idx → Elt F .f32) : St F := { V with x52 := X }
/-- The contents with buffer 53 at `X`. -/
def s53 (V : St F) (X : S8x4096.Idx → Elt F .f32) : St F := { V with x53 := X }
/-- The contents with buffer 54 at `X`. -/
def s54 (V : St F) (X : S8x4096.Idx → Elt F .f32) : St F := { V with x54 := X }
/-- The contents with buffer 55 at `X`. -/
def s55 (V : St F) (X : S8x4096.Idx → Elt F .f32) : St F := { V with x55 := X }
/-- The contents with buffer 56 at `X`. -/
def s56 (V : St F) (X : S8x4096.Idx → Elt F .f32) : St F := { V with x56 := X }
/-- The contents with buffer 57 at `X`. -/
def s57 (V : St F) (X : S8x4096.Idx → Elt F .f32) : St F := { V with x57 := X }
/-- The contents with buffer 58 at `X`. -/
def s58 (V : St F) (X : S8x4096.Idx → Elt F .f32) : St F := { V with x58 := X }
/-- The contents with buffer 59 at `X`. -/
def s59 (V : St F) (X : S8x4096.Idx → Elt F .f32) : St F := { V with x59 := X }
/-- The contents with buffer 60 at `X`. -/
def s60 (V : St F) (X : S8x4096.Idx → Elt F .f32) : St F := { V with x60 := X }
/-- The contents with buffer 61 at `X`. -/
def s61 (V : St F) (X : S8x4096.Idx → Elt F .f32) : St F := { V with x61 := X }
/-- The contents with buffer 62 at `X`. -/
def s62 (V : St F) (X : S8x4096.Idx → Elt F .f32) : St F := { V with x62 := X }
/-- The contents with buffer 63 at `X`. -/
def s63 (V : St F) (X : S128x4096.Idx → Elt F .bf16) : St F := { V with x63 := X }
/-- The contents with buffer 64 at `X`. -/
def s64 (V : St F) (X : S4288x128.Idx → Elt F .bf16) : St F := { V with x64 := X }
/-- The contents with buffer 65 at `X`. -/
def s65 (V : St F) (X : S128x1.Idx → Elt F .f32) : St F := { V with x65 := X }
/-- The contents with buffer 66 at `X`. -/
def s66 (V : St F) (X : S4096x256.Idx → Elt F .bf16) : St F := { V with x66 := X }
/-- The contents with buffer 67 at `X`. -/
def s67 (V : St F) (X : S4096x256.Idx → Elt F .bf16) : St F := { V with x67 := X }
/-- The contents with buffer 68 at `X`. -/
def s68 (V : St F) (X : S256x4096.Idx → Elt F .bf16) : St F := { V with x68 := X }
/-- The contents with buffer 69 at `X`. -/
def s69 (V : St F) (X : S4096x256.Idx → Elt F .bf16) : St F := { V with x69 := X }
/-- The contents with buffer 70 at `X`. -/
def s70 (V : St F) (X : S4096x256.Idx → Elt F .bf16) : St F := { V with x70 := X }
/-- The contents with buffer 71 at `X`. -/
def s71 (V : St F) (X : S256x4096.Idx → Elt F .bf16) : St F := { V with x71 := X }
/-- The contents with buffer 72 at `X`. -/
def s72 (V : St F) (X : S256x256.Idx → Elt F .i32) : St F := { V with x72 := X }
/-- The contents with buffer 73 at `X`. -/
def s73 (V : St F) (X : S256x256.Idx → Elt F .i32) : St F := { V with x73 := X }
/-- The contents with buffer 74 at `X`. -/
def s74 (V : St F) (X : S128x4096.Idx → Elt F .f32) : St F := { V with x74 := X }
/-- The contents with buffer 75 at `X`. -/
def s75 (V : St F) (X : S128x4096.Idx → Elt F .f32) : St F := { V with x75 := X }
/-- The contents with buffer 76 at `X`. -/
def s76 (V : St F) (X : S128x256.Idx → Elt F .f32) : St F := { V with x76 := X }
/-- The contents with buffer 77 at `X`. -/
def s77 (V : St F) (X : S128x256.Idx → Elt F .f32) : St F := { V with x77 := X }
/-- The contents with buffer 78 at `X`. -/
def s78 (V : St F) (X : S128x256.Idx → Elt F .f32) : St F := { V with x78 := X }
/-- The contents with buffer 79 at `X`. -/
def s79 (V : St F) (X : S272x128.Idx → Elt F .bf16) : St F := { V with x79 := X }
/-- The contents with buffer 80 at `X`. -/
def s80 (V : St F) (X : S4x4096.Idx → Elt F .f32) : St F := { V with x80 := X }
/-- The contents with buffer 81 at `X`. -/
def s81 (V : St F) (X : S4x4096.Idx → Elt F .f32) : St F := { V with x81 := X }
/-- The contents with buffer 82 at `X`. -/
def s82 (V : St F) (X : S64x256.Idx → Elt F .f32) : St F := { V with x82 := X }
/-- The contents with buffer 83 at `X`. -/
def s83 (V : St F) (X : S64x256.Idx → Elt F .f32) : St F := { V with x83 := X }
/-- The contents with buffer 84 at `X`. -/
def s84 (V : St F) (X : S2x4x4096.Idx → Elt F .f32) : St F := { V with x84 := X }
/-- The contents with buffer 85 at `X`. -/
def s85 (V : St F) (X : S2x4x4096.Idx → Elt F .f32) : St F := { V with x85 := X }
/-- The contents with buffer 86 at `X`. -/
def s86 (V : St F) (X : S2x64x128.Idx → Elt F .f32) : St F := { V with x86 := X }
/-- The contents with buffer 87 at `X`. -/
def s87 (V : St F) (X : S4x32x128.Idx → Elt F .f32) : St F := { V with x87 := X }

end St

/-- The separating conjunction of a list of assertions. -/
def sepL : List (sProp 𝕄) → sProp 𝕄
  | [] => iprop(emp)
  | P :: L => iprop(P ∗ sepL L)

/-- One assertion of a list can be taken out, and any other put in its place. -/
theorem sepL_acc : ∀ (L : List (sProp 𝕄)) (k : ℕ) (h : k < L.length),
    sepL L ⊢ iprop(L[k] ∗ ∀ P', P' -∗ sepL (L.set k P'))
  | P :: L, 0, _ => by
    simp only [sepL, List.getElem_cons_zero, List.set_cons_zero]
    iintro ⟨H, HL⟩
    isplitl [H]; · iexact H
    iintro %P' H
    isplitl [H]; · iexact H
    iexact HL
  | P :: L, k + 1, h => by
    simp only [sepL, List.getElem_cons_succ, List.set_cons_succ]
    iintro ⟨H, HL⟩
    ihave HL' := (sepL_acc L k (by simpa using h)) $$ HL
    icases HL' with ⟨H1, H2⟩
    isplitl [H1]; · iexact H1
    iintro %P' H3
    isplitl [H]; · iexact H
    iapply H2; iexact H3

/-- The list of what core `c` owns: every buffer of `A`, at the contents `V`. -/
def ownL (c : Dev nD) (A : Args) (V : St F) : List (sProp 𝕄) :=
  [owns (c : Thread nD τ) A.m1 fullShare V.x1,
   owns (c : Thread nD τ) A.m2 fullShare V.x2,
   owns (c : Thread nD τ) A.m3 fullShare V.x3,
   owns (c : Thread nD τ) A.m4 fullShare V.x4,
   owns (c : Thread nD τ) A.m5 fullShare V.x5,
   owns (c : Thread nD τ) A.m6 fullShare V.x6,
   owns (c : Thread nD τ) A.m7 fullShare V.x7,
   owns (c : Thread nD τ) A.m8 fullShare V.x8,
   owns (c : Thread nD τ) A.m9 fullShare V.x9,
   owns (c : Thread nD τ) A.m10 fullShare V.x10,
   owns (c : Thread nD τ) A.m11 fullShare V.x11,
   owns (c : Thread nD τ) A.m12 fullShare V.x12,
   owns (c : Thread nD τ) A.m13 fullShare V.x13,
   owns (c : Thread nD τ) A.m14 fullShare V.x14,
   owns (c : Thread nD τ) A.m15 fullShare V.x15,
   owns (c : Thread nD τ) A.m16 fullShare V.x16,
   owns (c : Thread nD τ) A.m17 fullShare V.x17,
   owns (c : Thread nD τ) A.m18 fullShare V.x18,
   owns (c : Thread nD τ) A.m19 fullShare V.x19,
   owns (c : Thread nD τ) A.m20 fullShare V.x20,
   owns (c : Thread nD τ) A.m21 fullShare V.x21,
   owns (c : Thread nD τ) A.m22 fullShare V.x22,
   owns (c : Thread nD τ) A.m23 fullShare V.x23,
   owns (c : Thread nD τ) A.m24 fullShare V.x24,
   owns (c : Thread nD τ) A.m25 fullShare V.x25,
   owns (c : Thread nD τ) A.m26 fullShare V.x26,
   owns (c : Thread nD τ) A.m27 fullShare V.x27,
   owns (c : Thread nD τ) A.m28 fullShare V.x28,
   owns (c : Thread nD τ) A.m29 fullShare V.x29,
   owns (c : Thread nD τ) A.m30 fullShare V.x30,
   owns (c : Thread nD τ) A.m31 fullShare V.x31,
   owns (c : Thread nD τ) A.m32 fullShare V.x32,
   owns (c : Thread nD τ) A.m33 fullShare V.x33,
   owns (c : Thread nD τ) A.m34 fullShare V.x34,
   owns (c : Thread nD τ) A.m35 fullShare V.x35,
   owns (c : Thread nD τ) A.m36 fullShare V.x36,
   owns (c : Thread nD τ) A.m37 fullShare V.x37,
   owns (c : Thread nD τ) A.m38 fullShare V.x38,
   owns (c : Thread nD τ) A.m39 fullShare V.x39,
   owns (c : Thread nD τ) A.m40 fullShare V.x40,
   owns (c : Thread nD τ) A.m41 fullShare V.x41,
   owns (c : Thread nD τ) A.m42 fullShare V.x42,
   owns (c : Thread nD τ) A.m43 fullShare V.x43,
   owns (c : Thread nD τ) A.m44 fullShare V.x44,
   owns (c : Thread nD τ) A.m45 fullShare V.x45,
   owns (c : Thread nD τ) A.m46 fullShare V.x46,
   owns (c : Thread nD τ) A.m47 fullShare V.x47,
   owns (c : Thread nD τ) A.m48 fullShare V.x48,
   owns (c : Thread nD τ) A.m49 fullShare V.x49,
   owns (c : Thread nD τ) A.m50 fullShare V.x50,
   owns (c : Thread nD τ) A.m51 fullShare V.x51,
   owns (c : Thread nD τ) A.m52 fullShare V.x52,
   owns (c : Thread nD τ) A.m53 fullShare V.x53,
   owns (c : Thread nD τ) A.m54 fullShare V.x54,
   owns (c : Thread nD τ) A.m55 fullShare V.x55,
   owns (c : Thread nD τ) A.m56 fullShare V.x56,
   owns (c : Thread nD τ) A.m57 fullShare V.x57,
   owns (c : Thread nD τ) A.m58 fullShare V.x58,
   owns (c : Thread nD τ) A.m59 fullShare V.x59,
   owns (c : Thread nD τ) A.m60 fullShare V.x60,
   owns (c : Thread nD τ) A.m61 fullShare V.x61,
   owns (c : Thread nD τ) A.m62 fullShare V.x62,
   owns (c : Thread nD τ) A.m63 fullShare V.x63,
   owns (c : Thread nD τ) A.m64 fullShare V.x64,
   owns (c : Thread nD τ) A.m65 fullShare V.x65,
   owns (c : Thread nD τ) A.m66 fullShare V.x66,
   owns (c : Thread nD τ) A.m67 fullShare V.x67,
   owns (c : Thread nD τ) A.m68 fullShare V.x68,
   owns (c : Thread nD τ) A.m69 fullShare V.x69,
   owns (c : Thread nD τ) A.m70 fullShare V.x70,
   owns (c : Thread nD τ) A.m71 fullShare V.x71,
   owns (c : Thread nD τ) A.m72 fullShare V.x72,
   owns (c : Thread nD τ) A.m73 fullShare V.x73,
   owns (c : Thread nD τ) A.m74 fullShare V.x74,
   owns (c : Thread nD τ) A.m75 fullShare V.x75,
   owns (c : Thread nD τ) A.m76 fullShare V.x76,
   owns (c : Thread nD τ) A.m77 fullShare V.x77,
   owns (c : Thread nD τ) A.m78 fullShare V.x78,
   owns (c : Thread nD τ) A.m79 fullShare V.x79,
   owns (c : Thread nD τ) A.m80 fullShare V.x80,
   owns (c : Thread nD τ) A.m81 fullShare V.x81,
   owns (c : Thread nD τ) A.m82 fullShare V.x82,
   owns (c : Thread nD τ) A.m83 fullShare V.x83,
   owns (c : Thread nD τ) A.m84 fullShare V.x84,
   owns (c : Thread nD τ) A.m85 fullShare V.x85,
   owns (c : Thread nD τ) A.m86 fullShare V.x86,
   owns (c : Thread nD τ) A.m87 fullShare V.x87]

/-- Core `c` owns every buffer of `A`, at the contents `V`. -/
def Own (c : Dev nD) (A : Args) (V : St F) : sProp 𝕄 := sepL (ownL c A V)

/-- The memref `m` is one of the buffers of `A`: its contents are read off a state by `get` and replaced by `set`. -/
def Has (A : Args) {sp : Space} {s : Shape} {e : EltTy} (m : Memref sig .tc sp s e)
    (get : St F → s.Idx → Elt F e) (set : St F → (s.Idx → Elt F e) → St F) : Prop :=
  ∀ (c : Dev nD) (V : St F), Own c A V ⊢
    iprop(owns (c : Thread nD τ) m fullShare (get V) ∗ ∀ X, owns (c : Thread nD τ) m fullShare X -∗ Own c A (set V X))

theorem has_of (A : Args) {sp : Space} {s : Shape} {e : EltTy} (m : Memref sig .tc sp s e)
    (get : St F → s.Idx → Elt F e) (set : St F → (s.Idx → Elt F e) → St F) (k : ℕ)
    (hk : ∀ (c : Dev nD) (V : St F), k < (ownL c A V).length)
    (hg : ∀ c V, (ownL c A V)[k]'(hk c V) = owns (c : Thread nD τ) m fullShare (get V))
    (hs : ∀ c V X, (ownL c A V).set k (owns (c : Thread nD τ) m fullShare X) = ownL c A (set V X)) : Has A m get set := by
  intro c V
  unfold Own
  refine (sepL_acc _ k (hk c V)).trans ?_
  rw [hg]
  iintro ⟨H, HL⟩
  isplitl [H]; · iexact H
  iintro %X H
  rw [← hs]
  iapply HL; iexact H

theorem has1 (A : Args) : Has (F := F) A A.m1 (·.x1) St.s1 :=
  has_of A _ _ _ 0 (fun _ _ => Nat.lt_of_lt_of_eq (by decide : 0 < 87) rfl) (fun _ _ => rfl) (fun _ _ _ => rfl)
theorem has2 (A : Args) : Has (F := F) A A.m2 (·.x2) St.s2 :=
  has_of A _ _ _ 1 (fun _ _ => Nat.lt_of_lt_of_eq (by decide : 1 < 87) rfl) (fun _ _ => rfl) (fun _ _ _ => rfl)
theorem has3 (A : Args) : Has (F := F) A A.m3 (·.x3) St.s3 :=
  has_of A _ _ _ 2 (fun _ _ => Nat.lt_of_lt_of_eq (by decide : 2 < 87) rfl) (fun _ _ => rfl) (fun _ _ _ => rfl)
theorem has4 (A : Args) : Has (F := F) A A.m4 (·.x4) St.s4 :=
  has_of A _ _ _ 3 (fun _ _ => Nat.lt_of_lt_of_eq (by decide : 3 < 87) rfl) (fun _ _ => rfl) (fun _ _ _ => rfl)
theorem has5 (A : Args) : Has (F := F) A A.m5 (·.x5) St.s5 :=
  has_of A _ _ _ 4 (fun _ _ => Nat.lt_of_lt_of_eq (by decide : 4 < 87) rfl) (fun _ _ => rfl) (fun _ _ _ => rfl)
theorem has6 (A : Args) : Has (F := F) A A.m6 (·.x6) St.s6 :=
  has_of A _ _ _ 5 (fun _ _ => Nat.lt_of_lt_of_eq (by decide : 5 < 87) rfl) (fun _ _ => rfl) (fun _ _ _ => rfl)
theorem has7 (A : Args) : Has (F := F) A A.m7 (·.x7) St.s7 :=
  has_of A _ _ _ 6 (fun _ _ => Nat.lt_of_lt_of_eq (by decide : 6 < 87) rfl) (fun _ _ => rfl) (fun _ _ _ => rfl)
theorem has8 (A : Args) : Has (F := F) A A.m8 (·.x8) St.s8 :=
  has_of A _ _ _ 7 (fun _ _ => Nat.lt_of_lt_of_eq (by decide : 7 < 87) rfl) (fun _ _ => rfl) (fun _ _ _ => rfl)
theorem has9 (A : Args) : Has (F := F) A A.m9 (·.x9) St.s9 :=
  has_of A _ _ _ 8 (fun _ _ => Nat.lt_of_lt_of_eq (by decide : 8 < 87) rfl) (fun _ _ => rfl) (fun _ _ _ => rfl)
theorem has10 (A : Args) : Has (F := F) A A.m10 (·.x10) St.s10 :=
  has_of A _ _ _ 9 (fun _ _ => Nat.lt_of_lt_of_eq (by decide : 9 < 87) rfl) (fun _ _ => rfl) (fun _ _ _ => rfl)
theorem has11 (A : Args) : Has (F := F) A A.m11 (·.x11) St.s11 :=
  has_of A _ _ _ 10 (fun _ _ => Nat.lt_of_lt_of_eq (by decide : 10 < 87) rfl) (fun _ _ => rfl) (fun _ _ _ => rfl)
theorem has12 (A : Args) : Has (F := F) A A.m12 (·.x12) St.s12 :=
  has_of A _ _ _ 11 (fun _ _ => Nat.lt_of_lt_of_eq (by decide : 11 < 87) rfl) (fun _ _ => rfl) (fun _ _ _ => rfl)
theorem has13 (A : Args) : Has (F := F) A A.m13 (·.x13) St.s13 :=
  has_of A _ _ _ 12 (fun _ _ => Nat.lt_of_lt_of_eq (by decide : 12 < 87) rfl) (fun _ _ => rfl) (fun _ _ _ => rfl)
theorem has14 (A : Args) : Has (F := F) A A.m14 (·.x14) St.s14 :=
  has_of A _ _ _ 13 (fun _ _ => Nat.lt_of_lt_of_eq (by decide : 13 < 87) rfl) (fun _ _ => rfl) (fun _ _ _ => rfl)
theorem has15 (A : Args) : Has (F := F) A A.m15 (·.x15) St.s15 :=
  has_of A _ _ _ 14 (fun _ _ => Nat.lt_of_lt_of_eq (by decide : 14 < 87) rfl) (fun _ _ => rfl) (fun _ _ _ => rfl)
theorem has16 (A : Args) : Has (F := F) A A.m16 (·.x16) St.s16 :=
  has_of A _ _ _ 15 (fun _ _ => Nat.lt_of_lt_of_eq (by decide : 15 < 87) rfl) (fun _ _ => rfl) (fun _ _ _ => rfl)
theorem has17 (A : Args) : Has (F := F) A A.m17 (·.x17) St.s17 :=
  has_of A _ _ _ 16 (fun _ _ => Nat.lt_of_lt_of_eq (by decide : 16 < 87) rfl) (fun _ _ => rfl) (fun _ _ _ => rfl)
theorem has18 (A : Args) : Has (F := F) A A.m18 (·.x18) St.s18 :=
  has_of A _ _ _ 17 (fun _ _ => Nat.lt_of_lt_of_eq (by decide : 17 < 87) rfl) (fun _ _ => rfl) (fun _ _ _ => rfl)
theorem has19 (A : Args) : Has (F := F) A A.m19 (·.x19) St.s19 :=
  has_of A _ _ _ 18 (fun _ _ => Nat.lt_of_lt_of_eq (by decide : 18 < 87) rfl) (fun _ _ => rfl) (fun _ _ _ => rfl)
theorem has20 (A : Args) : Has (F := F) A A.m20 (·.x20) St.s20 :=
  has_of A _ _ _ 19 (fun _ _ => Nat.lt_of_lt_of_eq (by decide : 19 < 87) rfl) (fun _ _ => rfl) (fun _ _ _ => rfl)
theorem has21 (A : Args) : Has (F := F) A A.m21 (·.x21) St.s21 :=
  has_of A _ _ _ 20 (fun _ _ => Nat.lt_of_lt_of_eq (by decide : 20 < 87) rfl) (fun _ _ => rfl) (fun _ _ _ => rfl)
theorem has22 (A : Args) : Has (F := F) A A.m22 (·.x22) St.s22 :=
  has_of A _ _ _ 21 (fun _ _ => Nat.lt_of_lt_of_eq (by decide : 21 < 87) rfl) (fun _ _ => rfl) (fun _ _ _ => rfl)
theorem has23 (A : Args) : Has (F := F) A A.m23 (·.x23) St.s23 :=
  has_of A _ _ _ 22 (fun _ _ => Nat.lt_of_lt_of_eq (by decide : 22 < 87) rfl) (fun _ _ => rfl) (fun _ _ _ => rfl)
theorem has24 (A : Args) : Has (F := F) A A.m24 (·.x24) St.s24 :=
  has_of A _ _ _ 23 (fun _ _ => Nat.lt_of_lt_of_eq (by decide : 23 < 87) rfl) (fun _ _ => rfl) (fun _ _ _ => rfl)
theorem has25 (A : Args) : Has (F := F) A A.m25 (·.x25) St.s25 :=
  has_of A _ _ _ 24 (fun _ _ => Nat.lt_of_lt_of_eq (by decide : 24 < 87) rfl) (fun _ _ => rfl) (fun _ _ _ => rfl)
theorem has26 (A : Args) : Has (F := F) A A.m26 (·.x26) St.s26 :=
  has_of A _ _ _ 25 (fun _ _ => Nat.lt_of_lt_of_eq (by decide : 25 < 87) rfl) (fun _ _ => rfl) (fun _ _ _ => rfl)
theorem has27 (A : Args) : Has (F := F) A A.m27 (·.x27) St.s27 :=
  has_of A _ _ _ 26 (fun _ _ => Nat.lt_of_lt_of_eq (by decide : 26 < 87) rfl) (fun _ _ => rfl) (fun _ _ _ => rfl)
theorem has28 (A : Args) : Has (F := F) A A.m28 (·.x28) St.s28 :=
  has_of A _ _ _ 27 (fun _ _ => Nat.lt_of_lt_of_eq (by decide : 27 < 87) rfl) (fun _ _ => rfl) (fun _ _ _ => rfl)
theorem has29 (A : Args) : Has (F := F) A A.m29 (·.x29) St.s29 :=
  has_of A _ _ _ 28 (fun _ _ => Nat.lt_of_lt_of_eq (by decide : 28 < 87) rfl) (fun _ _ => rfl) (fun _ _ _ => rfl)
theorem has30 (A : Args) : Has (F := F) A A.m30 (·.x30) St.s30 :=
  has_of A _ _ _ 29 (fun _ _ => Nat.lt_of_lt_of_eq (by decide : 29 < 87) rfl) (fun _ _ => rfl) (fun _ _ _ => rfl)
theorem has31 (A : Args) : Has (F := F) A A.m31 (·.x31) St.s31 :=
  has_of A _ _ _ 30 (fun _ _ => Nat.lt_of_lt_of_eq (by decide : 30 < 87) rfl) (fun _ _ => rfl) (fun _ _ _ => rfl)
theorem has32 (A : Args) : Has (F := F) A A.m32 (·.x32) St.s32 :=
  has_of A _ _ _ 31 (fun _ _ => Nat.lt_of_lt_of_eq (by decide : 31 < 87) rfl) (fun _ _ => rfl) (fun _ _ _ => rfl)
theorem has33 (A : Args) : Has (F := F) A A.m33 (·.x33) St.s33 :=
  has_of A _ _ _ 32 (fun _ _ => Nat.lt_of_lt_of_eq (by decide : 32 < 87) rfl) (fun _ _ => rfl) (fun _ _ _ => rfl)
theorem has34 (A : Args) : Has (F := F) A A.m34 (·.x34) St.s34 :=
  has_of A _ _ _ 33 (fun _ _ => Nat.lt_of_lt_of_eq (by decide : 33 < 87) rfl) (fun _ _ => rfl) (fun _ _ _ => rfl)
theorem has35 (A : Args) : Has (F := F) A A.m35 (·.x35) St.s35 :=
  has_of A _ _ _ 34 (fun _ _ => Nat.lt_of_lt_of_eq (by decide : 34 < 87) rfl) (fun _ _ => rfl) (fun _ _ _ => rfl)
theorem has36 (A : Args) : Has (F := F) A A.m36 (·.x36) St.s36 :=
  has_of A _ _ _ 35 (fun _ _ => Nat.lt_of_lt_of_eq (by decide : 35 < 87) rfl) (fun _ _ => rfl) (fun _ _ _ => rfl)
theorem has37 (A : Args) : Has (F := F) A A.m37 (·.x37) St.s37 :=
  has_of A _ _ _ 36 (fun _ _ => Nat.lt_of_lt_of_eq (by decide : 36 < 87) rfl) (fun _ _ => rfl) (fun _ _ _ => rfl)
theorem has38 (A : Args) : Has (F := F) A A.m38 (·.x38) St.s38 :=
  has_of A _ _ _ 37 (fun _ _ => Nat.lt_of_lt_of_eq (by decide : 37 < 87) rfl) (fun _ _ => rfl) (fun _ _ _ => rfl)
theorem has39 (A : Args) : Has (F := F) A A.m39 (·.x39) St.s39 :=
  has_of A _ _ _ 38 (fun _ _ => Nat.lt_of_lt_of_eq (by decide : 38 < 87) rfl) (fun _ _ => rfl) (fun _ _ _ => rfl)
theorem has40 (A : Args) : Has (F := F) A A.m40 (·.x40) St.s40 :=
  has_of A _ _ _ 39 (fun _ _ => Nat.lt_of_lt_of_eq (by decide : 39 < 87) rfl) (fun _ _ => rfl) (fun _ _ _ => rfl)
theorem has41 (A : Args) : Has (F := F) A A.m41 (·.x41) St.s41 :=
  has_of A _ _ _ 40 (fun _ _ => Nat.lt_of_lt_of_eq (by decide : 40 < 87) rfl) (fun _ _ => rfl) (fun _ _ _ => rfl)
theorem has42 (A : Args) : Has (F := F) A A.m42 (·.x42) St.s42 :=
  has_of A _ _ _ 41 (fun _ _ => Nat.lt_of_lt_of_eq (by decide : 41 < 87) rfl) (fun _ _ => rfl) (fun _ _ _ => rfl)
theorem has43 (A : Args) : Has (F := F) A A.m43 (·.x43) St.s43 :=
  has_of A _ _ _ 42 (fun _ _ => Nat.lt_of_lt_of_eq (by decide : 42 < 87) rfl) (fun _ _ => rfl) (fun _ _ _ => rfl)
theorem has44 (A : Args) : Has (F := F) A A.m44 (·.x44) St.s44 :=
  has_of A _ _ _ 43 (fun _ _ => Nat.lt_of_lt_of_eq (by decide : 43 < 87) rfl) (fun _ _ => rfl) (fun _ _ _ => rfl)
theorem has45 (A : Args) : Has (F := F) A A.m45 (·.x45) St.s45 :=
  has_of A _ _ _ 44 (fun _ _ => Nat.lt_of_lt_of_eq (by decide : 44 < 87) rfl) (fun _ _ => rfl) (fun _ _ _ => rfl)
theorem has46 (A : Args) : Has (F := F) A A.m46 (·.x46) St.s46 :=
  has_of A _ _ _ 45 (fun _ _ => Nat.lt_of_lt_of_eq (by decide : 45 < 87) rfl) (fun _ _ => rfl) (fun _ _ _ => rfl)
theorem has47 (A : Args) : Has (F := F) A A.m47 (·.x47) St.s47 :=
  has_of A _ _ _ 46 (fun _ _ => Nat.lt_of_lt_of_eq (by decide : 46 < 87) rfl) (fun _ _ => rfl) (fun _ _ _ => rfl)
theorem has48 (A : Args) : Has (F := F) A A.m48 (·.x48) St.s48 :=
  has_of A _ _ _ 47 (fun _ _ => Nat.lt_of_lt_of_eq (by decide : 47 < 87) rfl) (fun _ _ => rfl) (fun _ _ _ => rfl)
theorem has49 (A : Args) : Has (F := F) A A.m49 (·.x49) St.s49 :=
  has_of A _ _ _ 48 (fun _ _ => Nat.lt_of_lt_of_eq (by decide : 48 < 87) rfl) (fun _ _ => rfl) (fun _ _ _ => rfl)
theorem has50 (A : Args) : Has (F := F) A A.m50 (·.x50) St.s50 :=
  has_of A _ _ _ 49 (fun _ _ => Nat.lt_of_lt_of_eq (by decide : 49 < 87) rfl) (fun _ _ => rfl) (fun _ _ _ => rfl)
theorem has51 (A : Args) : Has (F := F) A A.m51 (·.x51) St.s51 :=
  has_of A _ _ _ 50 (fun _ _ => Nat.lt_of_lt_of_eq (by decide : 50 < 87) rfl) (fun _ _ => rfl) (fun _ _ _ => rfl)
theorem has52 (A : Args) : Has (F := F) A A.m52 (·.x52) St.s52 :=
  has_of A _ _ _ 51 (fun _ _ => Nat.lt_of_lt_of_eq (by decide : 51 < 87) rfl) (fun _ _ => rfl) (fun _ _ _ => rfl)
theorem has53 (A : Args) : Has (F := F) A A.m53 (·.x53) St.s53 :=
  has_of A _ _ _ 52 (fun _ _ => Nat.lt_of_lt_of_eq (by decide : 52 < 87) rfl) (fun _ _ => rfl) (fun _ _ _ => rfl)
theorem has54 (A : Args) : Has (F := F) A A.m54 (·.x54) St.s54 :=
  has_of A _ _ _ 53 (fun _ _ => Nat.lt_of_lt_of_eq (by decide : 53 < 87) rfl) (fun _ _ => rfl) (fun _ _ _ => rfl)
theorem has55 (A : Args) : Has (F := F) A A.m55 (·.x55) St.s55 :=
  has_of A _ _ _ 54 (fun _ _ => Nat.lt_of_lt_of_eq (by decide : 54 < 87) rfl) (fun _ _ => rfl) (fun _ _ _ => rfl)
theorem has56 (A : Args) : Has (F := F) A A.m56 (·.x56) St.s56 :=
  has_of A _ _ _ 55 (fun _ _ => Nat.lt_of_lt_of_eq (by decide : 55 < 87) rfl) (fun _ _ => rfl) (fun _ _ _ => rfl)
theorem has57 (A : Args) : Has (F := F) A A.m57 (·.x57) St.s57 :=
  has_of A _ _ _ 56 (fun _ _ => Nat.lt_of_lt_of_eq (by decide : 56 < 87) rfl) (fun _ _ => rfl) (fun _ _ _ => rfl)
theorem has58 (A : Args) : Has (F := F) A A.m58 (·.x58) St.s58 :=
  has_of A _ _ _ 57 (fun _ _ => Nat.lt_of_lt_of_eq (by decide : 57 < 87) rfl) (fun _ _ => rfl) (fun _ _ _ => rfl)
theorem has59 (A : Args) : Has (F := F) A A.m59 (·.x59) St.s59 :=
  has_of A _ _ _ 58 (fun _ _ => Nat.lt_of_lt_of_eq (by decide : 58 < 87) rfl) (fun _ _ => rfl) (fun _ _ _ => rfl)
theorem has60 (A : Args) : Has (F := F) A A.m60 (·.x60) St.s60 :=
  has_of A _ _ _ 59 (fun _ _ => Nat.lt_of_lt_of_eq (by decide : 59 < 87) rfl) (fun _ _ => rfl) (fun _ _ _ => rfl)
theorem has61 (A : Args) : Has (F := F) A A.m61 (·.x61) St.s61 :=
  has_of A _ _ _ 60 (fun _ _ => Nat.lt_of_lt_of_eq (by decide : 60 < 87) rfl) (fun _ _ => rfl) (fun _ _ _ => rfl)
theorem has62 (A : Args) : Has (F := F) A A.m62 (·.x62) St.s62 :=
  has_of A _ _ _ 61 (fun _ _ => Nat.lt_of_lt_of_eq (by decide : 61 < 87) rfl) (fun _ _ => rfl) (fun _ _ _ => rfl)
theorem has63 (A : Args) : Has (F := F) A A.m63 (·.x63) St.s63 :=
  has_of A _ _ _ 62 (fun _ _ => Nat.lt_of_lt_of_eq (by decide : 62 < 87) rfl) (fun _ _ => rfl) (fun _ _ _ => rfl)
theorem has64 (A : Args) : Has (F := F) A A.m64 (·.x64) St.s64 :=
  has_of A _ _ _ 63 (fun _ _ => Nat.lt_of_lt_of_eq (by decide : 63 < 87) rfl) (fun _ _ => rfl) (fun _ _ _ => rfl)
theorem has65 (A : Args) : Has (F := F) A A.m65 (·.x65) St.s65 :=
  has_of A _ _ _ 64 (fun _ _ => Nat.lt_of_lt_of_eq (by decide : 64 < 87) rfl) (fun _ _ => rfl) (fun _ _ _ => rfl)
theorem has66 (A : Args) : Has (F := F) A A.m66 (·.x66) St.s66 :=
  has_of A _ _ _ 65 (fun _ _ => Nat.lt_of_lt_of_eq (by decide : 65 < 87) rfl) (fun _ _ => rfl) (fun _ _ _ => rfl)
theorem has67 (A : Args) : Has (F := F) A A.m67 (·.x67) St.s67 :=
  has_of A _ _ _ 66 (fun _ _ => Nat.lt_of_lt_of_eq (by decide : 66 < 87) rfl) (fun _ _ => rfl) (fun _ _ _ => rfl)
theorem has68 (A : Args) : Has (F := F) A A.m68 (·.x68) St.s68 :=
  has_of A _ _ _ 67 (fun _ _ => Nat.lt_of_lt_of_eq (by decide : 67 < 87) rfl) (fun _ _ => rfl) (fun _ _ _ => rfl)
theorem has69 (A : Args) : Has (F := F) A A.m69 (·.x69) St.s69 :=
  has_of A _ _ _ 68 (fun _ _ => Nat.lt_of_lt_of_eq (by decide : 68 < 87) rfl) (fun _ _ => rfl) (fun _ _ _ => rfl)
theorem has70 (A : Args) : Has (F := F) A A.m70 (·.x70) St.s70 :=
  has_of A _ _ _ 69 (fun _ _ => Nat.lt_of_lt_of_eq (by decide : 69 < 87) rfl) (fun _ _ => rfl) (fun _ _ _ => rfl)
theorem has71 (A : Args) : Has (F := F) A A.m71 (·.x71) St.s71 :=
  has_of A _ _ _ 70 (fun _ _ => Nat.lt_of_lt_of_eq (by decide : 70 < 87) rfl) (fun _ _ => rfl) (fun _ _ _ => rfl)
theorem has72 (A : Args) : Has (F := F) A A.m72 (·.x72) St.s72 :=
  has_of A _ _ _ 71 (fun _ _ => Nat.lt_of_lt_of_eq (by decide : 71 < 87) rfl) (fun _ _ => rfl) (fun _ _ _ => rfl)
theorem has73 (A : Args) : Has (F := F) A A.m73 (·.x73) St.s73 :=
  has_of A _ _ _ 72 (fun _ _ => Nat.lt_of_lt_of_eq (by decide : 72 < 87) rfl) (fun _ _ => rfl) (fun _ _ _ => rfl)
theorem has74 (A : Args) : Has (F := F) A A.m74 (·.x74) St.s74 :=
  has_of A _ _ _ 73 (fun _ _ => Nat.lt_of_lt_of_eq (by decide : 73 < 87) rfl) (fun _ _ => rfl) (fun _ _ _ => rfl)
theorem has75 (A : Args) : Has (F := F) A A.m75 (·.x75) St.s75 :=
  has_of A _ _ _ 74 (fun _ _ => Nat.lt_of_lt_of_eq (by decide : 74 < 87) rfl) (fun _ _ => rfl) (fun _ _ _ => rfl)
theorem has76 (A : Args) : Has (F := F) A A.m76 (·.x76) St.s76 :=
  has_of A _ _ _ 75 (fun _ _ => Nat.lt_of_lt_of_eq (by decide : 75 < 87) rfl) (fun _ _ => rfl) (fun _ _ _ => rfl)
theorem has77 (A : Args) : Has (F := F) A A.m77 (·.x77) St.s77 :=
  has_of A _ _ _ 76 (fun _ _ => Nat.lt_of_lt_of_eq (by decide : 76 < 87) rfl) (fun _ _ => rfl) (fun _ _ _ => rfl)
theorem has78 (A : Args) : Has (F := F) A A.m78 (·.x78) St.s78 :=
  has_of A _ _ _ 77 (fun _ _ => Nat.lt_of_lt_of_eq (by decide : 77 < 87) rfl) (fun _ _ => rfl) (fun _ _ _ => rfl)
theorem has79 (A : Args) : Has (F := F) A A.m79 (·.x79) St.s79 :=
  has_of A _ _ _ 78 (fun _ _ => Nat.lt_of_lt_of_eq (by decide : 78 < 87) rfl) (fun _ _ => rfl) (fun _ _ _ => rfl)
theorem has80 (A : Args) : Has (F := F) A A.m80 (·.x80) St.s80 :=
  has_of A _ _ _ 79 (fun _ _ => Nat.lt_of_lt_of_eq (by decide : 79 < 87) rfl) (fun _ _ => rfl) (fun _ _ _ => rfl)
theorem has81 (A : Args) : Has (F := F) A A.m81 (·.x81) St.s81 :=
  has_of A _ _ _ 80 (fun _ _ => Nat.lt_of_lt_of_eq (by decide : 80 < 87) rfl) (fun _ _ => rfl) (fun _ _ _ => rfl)
theorem has82 (A : Args) : Has (F := F) A A.m82 (·.x82) St.s82 :=
  has_of A _ _ _ 81 (fun _ _ => Nat.lt_of_lt_of_eq (by decide : 81 < 87) rfl) (fun _ _ => rfl) (fun _ _ _ => rfl)
theorem has83 (A : Args) : Has (F := F) A A.m83 (·.x83) St.s83 :=
  has_of A _ _ _ 82 (fun _ _ => Nat.lt_of_lt_of_eq (by decide : 82 < 87) rfl) (fun _ _ => rfl) (fun _ _ _ => rfl)
theorem has84 (A : Args) : Has (F := F) A A.m84 (·.x84) St.s84 :=
  has_of A _ _ _ 83 (fun _ _ => Nat.lt_of_lt_of_eq (by decide : 83 < 87) rfl) (fun _ _ => rfl) (fun _ _ _ => rfl)
theorem has85 (A : Args) : Has (F := F) A A.m85 (·.x85) St.s85 :=
  has_of A _ _ _ 84 (fun _ _ => Nat.lt_of_lt_of_eq (by decide : 84 < 87) rfl) (fun _ _ => rfl) (fun _ _ _ => rfl)
theorem has86 (A : Args) : Has (F := F) A A.m86 (·.x86) St.s86 :=
  has_of A _ _ _ 85 (fun _ _ => Nat.lt_of_lt_of_eq (by decide : 85 < 87) rfl) (fun _ _ => rfl) (fun _ _ _ => rfl)
theorem has87 (A : Args) : Has (F := F) A A.m87 (·.x87) St.s87 :=
  has_of A _ _ _ 86 (fun _ _ => Nat.lt_of_lt_of_eq (by decide : 86 < 87) rfl) (fun _ _ => rfl) (fun _ _ _ => rfl)

/-- A run of `p` from the contents `V`, on core `c`: it ends, having faulted nowhere, at a value and contents of which `Q` holds. -/
def Tri (c : Dev nD) (A : Args) (V : St F) {α : Type} (p : Prog (TpuEff nD τ sig (Elt F) Λ₀ .tc) α) (Q : α → St F → Prop) : Prop :=
  Own c A V ⊢ wp frame (wpE (Ix := Unit) (Name := ℕ) (U := UR sig nD τ) (Lvl := ℕ) (defs₀ (F := F)) Variants.none (c : Thread nD τ) none) Set.univ p
    (fun a => iprop(∃ V', ⌜Q a V'⌝ ∗ Own c A V'))

section Rules

variable {c : Dev nD} {A : Args} {V : St F} {α β : Type} {Q : α → St F → Prop}

theorem Tri.pure {a : α} (h : Q a V) : Tri c A V (Prog.ret a) Q := by
  unfold Tri
  rw [wp_ret]
  iintro H
  imodintro
  iexists V
  isplitr; · ipureintro; exact h
  iexact H

theorem Tri.mono {Q' : α → St F → Prop} {p : Prog (TpuEff nD τ sig (Elt F) Λ₀ .tc) α} (h : Tri c A V p Q) (hQ : ∀ a V', Q a V' → Q' a V') :
    Tri c A V p Q' := by
  unfold Tri at h ⊢
  refine h.trans (wp_mono _ _ _ fun a => ?_)
  iintro ⟨%V', %hq, H⟩
  iexists V'
  isplitr; · ipureintro; exact hQ a V' hq
  iexact H

theorem Tri.bind {p : Prog (TpuEff nD τ sig (Elt F) Λ₀ .tc) β} {k : β → Prog (TpuEff nD τ sig (Elt F) Λ₀ .tc) α}
    (h : Tri c A V p (fun b V' => Tri c A V' (k b) Q)) : Tri c A V (p >>= k) Q := by
  unfold Tri at h ⊢
  rw [wp_bind]
  refine h.trans (wp_mono _ _ _ fun a => ?_)
  iintro ⟨%V', %hq, H⟩
  iapply hq; iexact H

theorem Tri.load {sp : CoreSpace} {s : Shape} {e : EltTy} {m : Memref sig .tc sp s e} {get : St F → s.Idx → Elt F e}
    {set : St F → (s.Idx → Elt F e) → St F} (hm : Has A m get set) (hset : ∀ V, set V (get V) = V)
    {r : LoadRect s} {hl : m.view.LoadsAt r} {k : (r.shape.Idx → Elt F e) → Prog (TpuEff nD τ sig (Elt F) Λ₀ .tc) α}
    (h : Tri c A V (k (fun j => get V (r.idx j))) Q) :
    Tri c A V (Prog.lift (.load m r hl) >>= k) Q := by
  unfold Tri at h ⊢
  refine (hm c V).trans ?_
  unfold owns
  iintro ⟨⟨%f, %hf, H⟩, HL⟩
  rw [show (Prog.lift (TpuEff.load m r hl) >>= k : Prog (TpuEff nD τ sig (Elt F) Λ₀ .tc) α) = Prog.op (.load m r hl) k from rfl]
  iapply (wp_load Variants.none (c : Thread nD τ) none Set.univ (m := m) (r := r) (hl := hl) (k := k) (S := m.view.set) (q := fullShare) (f := f)
    (m.view.setOn_subset_set _)) $$ H
  iintro H
  have e1 : m.view.readAt (Elt F) r f = fun j => get V (r.idx j) := by funext j; rw [View.readAt_apply, hf]
  rw [e1]
  iapply h
  ihave HL' := HL $$ %(get V) [H]
  · iexists f; isplitr; · ipureintro; exact hf
    iexact H
  rw [hset]
  iexact HL'

theorem read_store {sp : CoreSpace} {s : Shape} {e : EltTy} (m : Memref sig .tc sp s e) (r : Rect s) (w : r.shape.Idx → Elt F e)
    (f : m.view.ty.Contents (Elt F)) :
    m.view.read (Elt F) ((m.access r).write (Elt F) f w Finset.univ) = r.overlay (m.view.read (Elt F) f) w := by
  funext y
  by_cases hy : y ∈ r.set
  · obtain ⟨x, rfl⟩ : ∃ x, r.emb x = y := r.exists_idx_of_mem hy
    rw [Rect.overlay_emb]
    exact View.read_writes_cons_emb m.view f r w [] x
  · rw [Rect.overlay_of_not_mem _ _ _ hy]
    exact View.read_writes_cons_miss m.view f ⟨r, w⟩ [] y hy

theorem Tri.store {sp : CoreSpace} {s : Shape} {e : EltTy} {m : Memref sig .tc sp s e} {get : St F → s.Idx → Elt F e}
    {set : St F → (s.Idx → Elt F e) → St F} (hm : Has A m get set)
    {r : Rect s} {w : r.shape.Idx → Elt F e} {hx : (m.access r).Stores Finset.univ} {hu : Finset.univ = Finset.univ ∨ ∀ a, r.stride a = 1}
    {k : PUnit → Prog (TpuEff nD τ sig (Elt F) Λ₀ .tc) α}
    (h : Tri c A (set V (r.overlay (get V) w)) (k ⟨⟩) Q) :
    Tri c A V (Prog.lift (.store m r w Finset.univ hx hu) >>= k) Q := by
  unfold Tri at h ⊢
  refine (hm c V).trans ?_
  unfold owns
  iintro ⟨⟨%f, %hf, H⟩, HL⟩
  rw [show (Prog.lift (TpuEff.store m r w Finset.univ hx hu) >>= k : Prog (TpuEff nD τ sig (Elt F) Λ₀ .tc) α) = Prog.op (.store m r w Finset.univ hx hu) k from rfl]
  iapply (wp_store Variants.none (c : Thread nD τ) none Set.univ (m := m) (r := r) (w := w) (hx := hx) (hm := hu) (k := k) (S := m.view.set) (f := f)
    (by rw [View.setOn_univ]; exact View.set_slice_subset _ _)) $$ H
  iintro H
  iapply h
  iapply HL
  iexists ((m.access r).write (Elt F) f w Finset.univ)
  isplitr
  · ipureintro; rw [read_store, hf]
  iexact H

theorem Tri.ite {P : Prop} {_ : Decidable P} {p : P → Prog (TpuEff nD τ sig (Elt F) Λ₀ .tc) α} {q : ¬ P → Prog (TpuEff nD τ sig (Elt F) Λ₀ .tc) α}
    (h₁ : ∀ h : P, Tri c A V (p h) Q) (h₂ : ∀ h : ¬ P, Tri c A V (q h) Q) : Tri c A V (if h : P then p h else q h) Q := by
  by_cases h : P
  · rw [dif_pos h]; exact h₁ h
  · rw [dif_neg h]; exact h₂ h

/-- A counted loop, by an invariant of the contents. -/
theorem Tri.loop {w : ℕ} {σ : Type} (lb ub st : BitVec w) (hok : Scf.OK lb ub st) (init : σ)
    (body : Fin (Scf.trips lb ub st) → σ → Prog (TpuEff nD τ sig (Elt F) Λ₀ .tc) σ) (I : ℕ → σ → St F → Prop)
    (h0 : I 0 init V) (hI : ∀ (k : Fin (Scf.trips lb ub st)) (a : σ) (V' : St F), I k a V' → Tri c A V' (body k a) (I (k.val + 1)))
    {Q : σ → St F → Prop} (hQ : ∀ a V', I (Scf.trips lb ub st) a V' → Q a V') :
    Tri c A V (Scf.for lb ub st hok init body) Q := by
  unfold Tri
  refine BIBase.Entails.trans ?_ (Scf.wp_for _ _ _ lb ub st hok init body (fun k a => iprop(∃ V', ⌜I k a V'⌝ ∗ Own c A V')) ?_)
  · iintro H
    isplitl [H]
    · iexists V
      isplitr; · ipureintro; exact h0
      iexact H
    · iintro %a ⟨%V', %hi, H⟩
      iexists V'
      isplitr; · ipureintro; exact hQ a V' hi
      iexact H
  · intro k a
    iintro ⟨%V', %hi, H⟩
    unfold Tri at hI
    iapply (hI k a V' hi); iexact H

theorem Tri.smem {s : Shape} {e : EltTy} {m : Memref sig .tc .smem s e} {get : St F → s.Idx → Elt F e}
    {set : St F → (s.Idx → Elt F e) → St F} (hm : Has A m get set) (hset : ∀ V, set V (get V) = V)
    {r : Rect s} {h1 : r.shape.numel = 1} {hp : e.packing = 1} {k : Elt F e → Prog (TpuEff nD τ sig (Elt F) Λ₀ .tc) α}
    (h : Tri c A V (k (get V (r.toLoadRect.idx (Shape.Idx.first (h1.symm ▸ Nat.one_pos))))) Q) :
    Tri c A V (smemLoad m r h1 hp >>= k) Q :=
  Tri.load (r := r.toLoadRect) (hl := View.loadsAt_rect (View.loads_smem_one hp h1))
    (k := fun f => k (f (Shape.Idx.first (h1.symm ▸ Nat.one_pos)))) hm hset h

end Rules

end Cert.Proof.KI

end
-- ==== Proof.KI.Launch.lean ====
module

public import proofs.«01_k».proof.Proof.Gen.KernelIdeal.Frame
public import proofs.«01_k».proof.Proof.KI.State

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (RDat)

/-- The memrefs the body is called on at point `t`: each window's current staging buffer, and the scratch buffers. -/
noncomputable def argsAt (t : Fin cfg0.N) : Args where
  m1 := win0_0.stage (cfg0.slots t 0)
  h1 := hstage0_0 ((cfg0.slots t 0).cast nbuf0_0)
  m2 := win0_1.stage (cfg0.slots t 1)
  h2 := hstage0_1 ((cfg0.slots t 1).cast nbuf0_1)
  m3 := win0_2.stage (cfg0.slots t 2)
  h3 := hstage0_2 ((cfg0.slots t 2).cast nbuf0_2)
  m4 := win0_3.stage (cfg0.slots t 3)
  h4 := hstage0_3 ((cfg0.slots t 3).cast nbuf0_3)
  m5 := win0_4.stage (cfg0.slots t 4)
  h5 := hstage0_4 ((cfg0.slots t 4).cast nbuf0_4)
  m6 := win0_5.stage (cfg0.slots t 5)
  h6 := hstage0_5 ((cfg0.slots t 5).cast nbuf0_5)
  m7 := win0_6.stage (cfg0.slots t 6)
  h7 := hstage0_6 ((cfg0.slots t 6).cast nbuf0_6)
  m8 := win0_7.stage (cfg0.slots t 7)
  h8 := hstage0_7 ((cfg0.slots t 7).cast nbuf0_7)
  m9 := win0_8.stage (cfg0.slots t 8)
  h9 := hstage0_8 ((cfg0.slots t 8).cast nbuf0_8)
  m10 := win0_9.stage (cfg0.slots t 9)
  h10 := hstage0_9 ((cfg0.slots t 9).cast nbuf0_9)
  m11 := win0_10.stage (cfg0.slots t 10)
  h11 := hstage0_10 ((cfg0.slots t 10).cast nbuf0_10)
  m12 := win0_11.stage (cfg0.slots t 11)
  h12 := hstage0_11 ((cfg0.slots t 11).cast nbuf0_11)
  m13 := win0_12.stage (cfg0.slots t 12)
  h13 := hstage0_12 ((cfg0.slots t 12).cast nbuf0_12)
  m14 := win0_13.stage (cfg0.slots t 13)
  h14 := hstage0_13 ((cfg0.slots t 13).cast nbuf0_13)
  m15 := win0_14.stage (cfg0.slots t 14)
  h15 := hstage0_14 ((cfg0.slots t 14).cast nbuf0_14)
  m16 := win0_15.stage (cfg0.slots t 15)
  h16 := hstage0_15 ((cfg0.slots t 15).cast nbuf0_15)
  m17 := win0_16.stage (cfg0.slots t 16)
  h17 := hstage0_16 ((cfg0.slots t 16).cast nbuf0_16)
  m18 := win0_17.stage (cfg0.slots t 17)
  h18 := hstage0_17 ((cfg0.slots t 17).cast nbuf0_17)
  m19 := win0_18.stage (cfg0.slots t 18)
  h19 := hstage0_18 ((cfg0.slots t 18).cast nbuf0_18)
  m20 := win0_19.stage (cfg0.slots t 19)
  h20 := hstage0_19 ((cfg0.slots t 19).cast nbuf0_19)
  m21 := win0_20.stage (cfg0.slots t 20)
  h21 := hstage0_20 ((cfg0.slots t 20).cast nbuf0_20)
  m22 := win0_21.stage (cfg0.slots t 21)
  h22 := hstage0_21 ((cfg0.slots t 21).cast nbuf0_21)
  m23 := win0_22.stage (cfg0.slots t 22)
  h23 := hstage0_22 ((cfg0.slots t 22).cast nbuf0_22)
  m24 := win0_23.stage (cfg0.slots t 23)
  h24 := hstage0_23 ((cfg0.slots t 23).cast nbuf0_23)
  m25 := win0_24.stage (cfg0.slots t 24)
  h25 := hstage0_24 ((cfg0.slots t 24).cast nbuf0_24)
  m26 := win0_25.stage (cfg0.slots t 25)
  h26 := hstage0_25 ((cfg0.slots t 25).cast nbuf0_25)
  m27 := win0_26.stage (cfg0.slots t 26)
  h27 := hstage0_26 ((cfg0.slots t 26).cast nbuf0_26)
  m28 := win0_27.stage (cfg0.slots t 27)
  h28 := hstage0_27 ((cfg0.slots t 27).cast nbuf0_27)
  m29 := win0_28.stage (cfg0.slots t 28)
  h29 := hstage0_28 ((cfg0.slots t 28).cast nbuf0_28)
  m30 := win0_29.stage (cfg0.slots t 29)
  h30 := hstage0_29 ((cfg0.slots t 29).cast nbuf0_29)
  m31 := win0_30.stage (cfg0.slots t 30)
  h31 := hstage0_30 ((cfg0.slots t 30).cast nbuf0_30)
  m32 := win0_31.stage (cfg0.slots t 31)
  h32 := hstage0_31 ((cfg0.slots t 31).cast nbuf0_31)
  m33 := win0_32.stage (cfg0.slots t 32)
  h33 := hstage0_32 ((cfg0.slots t 32).cast nbuf0_32)
  m34 := win0_33.stage (cfg0.slots t 33)
  h34 := hstage0_33 ((cfg0.slots t 33).cast nbuf0_33)
  m35 := win0_34.stage (cfg0.slots t 34)
  h35 := hstage0_34 ((cfg0.slots t 34).cast nbuf0_34)
  m36 := win0_35.stage (cfg0.slots t 35)
  h36 := hstage0_35 ((cfg0.slots t 35).cast nbuf0_35)
  m37 := win0_36.stage (cfg0.slots t 36)
  h37 := hstage0_36 ((cfg0.slots t 36).cast nbuf0_36)
  m38 := win0_37.stage (cfg0.slots t 37)
  h38 := hstage0_37 ((cfg0.slots t 37).cast nbuf0_37)
  m39 := win0_38.stage (cfg0.slots t 38)
  h39 := hstage0_38 ((cfg0.slots t 38).cast nbuf0_38)
  m40 := win0_39.stage (cfg0.slots t 39)
  h40 := hstage0_39 ((cfg0.slots t 39).cast nbuf0_39)
  m41 := win0_40.stage (cfg0.slots t 40)
  h41 := hstage0_40 ((cfg0.slots t 40).cast nbuf0_40)
  m42 := win0_41.stage (cfg0.slots t 41)
  h42 := hstage0_41 ((cfg0.slots t 41).cast nbuf0_41)
  m43 := win0_42.stage (cfg0.slots t 42)
  h43 := hstage0_42 ((cfg0.slots t 42).cast nbuf0_42)
  m44 := win0_43.stage (cfg0.slots t 43)
  h44 := hstage0_43 ((cfg0.slots t 43).cast nbuf0_43)
  m45 := win0_44.stage (cfg0.slots t 44)
  h45 := hstage0_44 ((cfg0.slots t 44).cast nbuf0_44)
  m46 := win0_45.stage (cfg0.slots t 45)
  h46 := hstage0_45 ((cfg0.slots t 45).cast nbuf0_45)
  m47 := win0_46.stage (cfg0.slots t 46)
  h47 := hstage0_46 ((cfg0.slots t 46).cast nbuf0_46)
  m48 := win0_47.stage (cfg0.slots t 47)
  h48 := hstage0_47 ((cfg0.slots t 47).cast nbuf0_47)
  m49 := win0_48.stage (cfg0.slots t 48)
  h49 := hstage0_48 ((cfg0.slots t 48).cast nbuf0_48)
  m50 := win0_49.stage (cfg0.slots t 49)
  h50 := hstage0_49 ((cfg0.slots t 49).cast nbuf0_49)
  m51 := win0_50.stage (cfg0.slots t 50)
  h51 := hstage0_50 ((cfg0.slots t 50).cast nbuf0_50)
  m52 := win0_51.stage (cfg0.slots t 51)
  h52 := hstage0_51 ((cfg0.slots t 51).cast nbuf0_51)
  m53 := win0_52.stage (cfg0.slots t 52)
  h53 := hstage0_52 ((cfg0.slots t 52).cast nbuf0_52)
  m54 := win0_53.stage (cfg0.slots t 53)
  h54 := hstage0_53 ((cfg0.slots t 53).cast nbuf0_53)
  m55 := win0_54.stage (cfg0.slots t 54)
  h55 := hstage0_54 ((cfg0.slots t 54).cast nbuf0_54)
  m56 := win0_55.stage (cfg0.slots t 55)
  h56 := hstage0_55 ((cfg0.slots t 55).cast nbuf0_55)
  m57 := win0_56.stage (cfg0.slots t 56)
  h57 := hstage0_56 ((cfg0.slots t 56).cast nbuf0_56)
  m58 := win0_57.stage (cfg0.slots t 57)
  h58 := hstage0_57 ((cfg0.slots t 57).cast nbuf0_57)
  m59 := win0_58.stage (cfg0.slots t 58)
  h59 := hstage0_58 ((cfg0.slots t 58).cast nbuf0_58)
  m60 := win0_59.stage (cfg0.slots t 59)
  h60 := hstage0_59 ((cfg0.slots t 59).cast nbuf0_59)
  m61 := win0_60.stage (cfg0.slots t 60)
  h61 := hstage0_60 ((cfg0.slots t 60).cast nbuf0_60)
  m62 := win0_61.stage (cfg0.slots t 61)
  h62 := hstage0_61 ((cfg0.slots t 61).cast nbuf0_61)
  m63 := Memref.whole cc0_scratch0
  h63 := Memref.isWhole_whole _
  m64 := Memref.whole cc0_scratch1
  h64 := Memref.isWhole_whole _
  m65 := Memref.whole cc0_scratch2
  h65 := Memref.isWhole_whole _
  m66 := Memref.whole cc0_scratch3
  h66 := Memref.isWhole_whole _
  m67 := Memref.whole cc0_scratch4
  h67 := Memref.isWhole_whole _
  m68 := Memref.whole cc0_scratch5
  h68 := Memref.isWhole_whole _
  m69 := Memref.whole cc0_scratch6
  h69 := Memref.isWhole_whole _
  m70 := Memref.whole cc0_scratch7
  h70 := Memref.isWhole_whole _
  m71 := Memref.whole cc0_scratch8
  h71 := Memref.isWhole_whole _
  m72 := Memref.whole cc0_scratch9
  h72 := Memref.isWhole_whole _
  m73 := Memref.whole cc0_scratch10
  h73 := Memref.isWhole_whole _
  m74 := Memref.whole cc0_scratch11
  h74 := Memref.isWhole_whole _
  m75 := Memref.whole cc0_scratch12
  h75 := Memref.isWhole_whole _
  m76 := Memref.whole cc0_scratch13
  h76 := Memref.isWhole_whole _
  m77 := Memref.whole cc0_scratch14
  h77 := Memref.isWhole_whole _
  m78 := Memref.whole cc0_scratch15
  h78 := Memref.isWhole_whole _
  m79 := Memref.whole cc0_scratch16
  h79 := Memref.isWhole_whole _
  m80 := Memref.whole cc0_scratch17
  h80 := Memref.isWhole_whole _
  m81 := Memref.whole cc0_scratch18
  h81 := Memref.isWhole_whole _
  m82 := Memref.whole cc0_scratch19
  h82 := Memref.isWhole_whole _
  m83 := Memref.whole cc0_scratch20
  h83 := Memref.isWhole_whole _
  m84 := Memref.whole cc0_scratch21
  h84 := Memref.isWhole_whole _
  m85 := Memref.whole cc0_scratch22
  h85 := Memref.isWhole_whole _
  m86 := Memref.whole cc0_scratch23
  h86 := Memref.isWhole_whole _
  m87 := Memref.whole cc0_scratch24
  h87 := Memref.isWhole_whole _

/-- What the 25 scratch buffers hold. -/
structure Scr (F : FTy → Type) [FloatOps F] where
  x63 : S128x4096.Idx → Elt F .bf16
  x64 : S4288x128.Idx → Elt F .bf16
  x65 : S128x1.Idx → Elt F .f32
  x66 : S4096x256.Idx → Elt F .bf16
  x67 : S4096x256.Idx → Elt F .bf16
  x68 : S256x4096.Idx → Elt F .bf16
  x69 : S4096x256.Idx → Elt F .bf16
  x70 : S4096x256.Idx → Elt F .bf16
  x71 : S256x4096.Idx → Elt F .bf16
  x72 : S256x256.Idx → Elt F .i32
  x73 : S256x256.Idx → Elt F .i32
  x74 : S128x4096.Idx → Elt F .f32
  x75 : S128x4096.Idx → Elt F .f32
  x76 : S128x256.Idx → Elt F .f32
  x77 : S128x256.Idx → Elt F .f32
  x78 : S128x256.Idx → Elt F .f32
  x79 : S272x128.Idx → Elt F .bf16
  x80 : S4x4096.Idx → Elt F .f32
  x81 : S4x4096.Idx → Elt F .f32
  x82 : S64x256.Idx → Elt F .f32
  x83 : S64x256.Idx → Elt F .f32
  x84 : S2x4x4096.Idx → Elt F .f32
  x85 : S2x4x4096.Idx → Elt F .f32
  x86 : S2x64x128.Idx → Elt F .f32
  x87 : S4x32x128.Idx → Elt F .f32

/-- The scratch part of a state. -/
def St.scr (V : St F) : Scr F := ⟨V.x63, V.x64, V.x65, V.x66, V.x67, V.x68, V.x69, V.x70, V.x71, V.x72, V.x73, V.x74, V.x75, V.x76, V.x77, V.x78, V.x79, V.x80, V.x81, V.x82, V.x83, V.x84, V.x85, V.x86, V.x87⟩

/-- What the windows' staging buffers hold, each at its own type. -/
abbrev Wins (F : FTy → Type) [FloatOps F] : Type := (w : Fin cfg0.W) → (cfg0.win w).block.Idx → Elt F (cfg0.win w).elt

/-- The state whose windows' staging buffers hold `Y` and whose scratch buffers hold `S`. -/
def St.of (Y : Wins F) (S : Scr F) : St F :=
  ⟨Y 0, Y 1, Y 2, Y 3, Y 4, Y 5, Y 6, Y 7, Y 8, Y 9, Y 10, Y 11, Y 12, Y 13, Y 14, Y 15, Y 16, Y 17, Y 18, Y 19, Y 20, Y 21, Y 22, Y 23, Y 24, Y 25, Y 26, Y 27, Y 28, Y 29, Y 30, Y 31, Y 32, Y 33, Y 34, Y 35, Y 36, Y 37, Y 38, Y 39, Y 40, Y 41, Y 42, Y 43, Y 44, Y 45, Y 46, Y 47, Y 48, Y 49, Y 50, Y 51, Y 52, Y 53, Y 54, Y 55, Y 56, Y 57, Y 58, Y 59, Y 60, Y 61, S.x63, S.x64, S.x65, S.x66, S.x67, S.x68, S.x69, S.x70, S.x71, S.x72, S.x73, S.x74, S.x75, S.x76, S.x77, S.x78, S.x79, S.x80, S.x81, S.x82, S.x83, S.x84, S.x85, S.x86, S.x87⟩

/-- The scratch buffers, one assertion each. -/
def scrL (c : Dev nD) (S : Scr F) : List (sProp 𝕄) :=
  [owns (c : Thread nD τ) (Memref.whole cc0_scratch0) fullShare S.x63,
   owns (c : Thread nD τ) (Memref.whole cc0_scratch1) fullShare S.x64,
   owns (c : Thread nD τ) (Memref.whole cc0_scratch2) fullShare S.x65,
   owns (c : Thread nD τ) (Memref.whole cc0_scratch3) fullShare S.x66,
   owns (c : Thread nD τ) (Memref.whole cc0_scratch4) fullShare S.x67,
   owns (c : Thread nD τ) (Memref.whole cc0_scratch5) fullShare S.x68,
   owns (c : Thread nD τ) (Memref.whole cc0_scratch6) fullShare S.x69,
   owns (c : Thread nD τ) (Memref.whole cc0_scratch7) fullShare S.x70,
   owns (c : Thread nD τ) (Memref.whole cc0_scratch8) fullShare S.x71,
   owns (c : Thread nD τ) (Memref.whole cc0_scratch9) fullShare S.x72,
   owns (c : Thread nD τ) (Memref.whole cc0_scratch10) fullShare S.x73,
   owns (c : Thread nD τ) (Memref.whole cc0_scratch11) fullShare S.x74,
   owns (c : Thread nD τ) (Memref.whole cc0_scratch12) fullShare S.x75,
   owns (c : Thread nD τ) (Memref.whole cc0_scratch13) fullShare S.x76,
   owns (c : Thread nD τ) (Memref.whole cc0_scratch14) fullShare S.x77,
   owns (c : Thread nD τ) (Memref.whole cc0_scratch15) fullShare S.x78,
   owns (c : Thread nD τ) (Memref.whole cc0_scratch16) fullShare S.x79,
   owns (c : Thread nD τ) (Memref.whole cc0_scratch17) fullShare S.x80,
   owns (c : Thread nD τ) (Memref.whole cc0_scratch18) fullShare S.x81,
   owns (c : Thread nD τ) (Memref.whole cc0_scratch19) fullShare S.x82,
   owns (c : Thread nD τ) (Memref.whole cc0_scratch20) fullShare S.x83,
   owns (c : Thread nD τ) (Memref.whole cc0_scratch21) fullShare S.x84,
   owns (c : Thread nD τ) (Memref.whole cc0_scratch22) fullShare S.x85,
   owns (c : Thread nD τ) (Memref.whole cc0_scratch23) fullShare S.x86,
   owns (c : Thread nD τ) (Memref.whole cc0_scratch24) fullShare S.x87]

/-- The windows' staging buffers at point `t`, one assertion each, at their contents in `V`. -/
def winL (c : Dev nD) (t : Fin cfg0.N) (V : St F) : List (sProp 𝕄) :=
  [owns (c : Thread nD τ) ((cfg0.win 0).stage (cfg0.slots t 0)) fullShare V.x1,
   owns (c : Thread nD τ) ((cfg0.win 1).stage (cfg0.slots t 1)) fullShare V.x2,
   owns (c : Thread nD τ) ((cfg0.win 2).stage (cfg0.slots t 2)) fullShare V.x3,
   owns (c : Thread nD τ) ((cfg0.win 3).stage (cfg0.slots t 3)) fullShare V.x4,
   owns (c : Thread nD τ) ((cfg0.win 4).stage (cfg0.slots t 4)) fullShare V.x5,
   owns (c : Thread nD τ) ((cfg0.win 5).stage (cfg0.slots t 5)) fullShare V.x6,
   owns (c : Thread nD τ) ((cfg0.win 6).stage (cfg0.slots t 6)) fullShare V.x7,
   owns (c : Thread nD τ) ((cfg0.win 7).stage (cfg0.slots t 7)) fullShare V.x8,
   owns (c : Thread nD τ) ((cfg0.win 8).stage (cfg0.slots t 8)) fullShare V.x9,
   owns (c : Thread nD τ) ((cfg0.win 9).stage (cfg0.slots t 9)) fullShare V.x10,
   owns (c : Thread nD τ) ((cfg0.win 10).stage (cfg0.slots t 10)) fullShare V.x11,
   owns (c : Thread nD τ) ((cfg0.win 11).stage (cfg0.slots t 11)) fullShare V.x12,
   owns (c : Thread nD τ) ((cfg0.win 12).stage (cfg0.slots t 12)) fullShare V.x13,
   owns (c : Thread nD τ) ((cfg0.win 13).stage (cfg0.slots t 13)) fullShare V.x14,
   owns (c : Thread nD τ) ((cfg0.win 14).stage (cfg0.slots t 14)) fullShare V.x15,
   owns (c : Thread nD τ) ((cfg0.win 15).stage (cfg0.slots t 15)) fullShare V.x16,
   owns (c : Thread nD τ) ((cfg0.win 16).stage (cfg0.slots t 16)) fullShare V.x17,
   owns (c : Thread nD τ) ((cfg0.win 17).stage (cfg0.slots t 17)) fullShare V.x18,
   owns (c : Thread nD τ) ((cfg0.win 18).stage (cfg0.slots t 18)) fullShare V.x19,
   owns (c : Thread nD τ) ((cfg0.win 19).stage (cfg0.slots t 19)) fullShare V.x20,
   owns (c : Thread nD τ) ((cfg0.win 20).stage (cfg0.slots t 20)) fullShare V.x21,
   owns (c : Thread nD τ) ((cfg0.win 21).stage (cfg0.slots t 21)) fullShare V.x22,
   owns (c : Thread nD τ) ((cfg0.win 22).stage (cfg0.slots t 22)) fullShare V.x23,
   owns (c : Thread nD τ) ((cfg0.win 23).stage (cfg0.slots t 23)) fullShare V.x24,
   owns (c : Thread nD τ) ((cfg0.win 24).stage (cfg0.slots t 24)) fullShare V.x25,
   owns (c : Thread nD τ) ((cfg0.win 25).stage (cfg0.slots t 25)) fullShare V.x26,
   owns (c : Thread nD τ) ((cfg0.win 26).stage (cfg0.slots t 26)) fullShare V.x27,
   owns (c : Thread nD τ) ((cfg0.win 27).stage (cfg0.slots t 27)) fullShare V.x28,
   owns (c : Thread nD τ) ((cfg0.win 28).stage (cfg0.slots t 28)) fullShare V.x29,
   owns (c : Thread nD τ) ((cfg0.win 29).stage (cfg0.slots t 29)) fullShare V.x30,
   owns (c : Thread nD τ) ((cfg0.win 30).stage (cfg0.slots t 30)) fullShare V.x31,
   owns (c : Thread nD τ) ((cfg0.win 31).stage (cfg0.slots t 31)) fullShare V.x32,
   owns (c : Thread nD τ) ((cfg0.win 32).stage (cfg0.slots t 32)) fullShare V.x33,
   owns (c : Thread nD τ) ((cfg0.win 33).stage (cfg0.slots t 33)) fullShare V.x34,
   owns (c : Thread nD τ) ((cfg0.win 34).stage (cfg0.slots t 34)) fullShare V.x35,
   owns (c : Thread nD τ) ((cfg0.win 35).stage (cfg0.slots t 35)) fullShare V.x36,
   owns (c : Thread nD τ) ((cfg0.win 36).stage (cfg0.slots t 36)) fullShare V.x37,
   owns (c : Thread nD τ) ((cfg0.win 37).stage (cfg0.slots t 37)) fullShare V.x38,
   owns (c : Thread nD τ) ((cfg0.win 38).stage (cfg0.slots t 38)) fullShare V.x39,
   owns (c : Thread nD τ) ((cfg0.win 39).stage (cfg0.slots t 39)) fullShare V.x40,
   owns (c : Thread nD τ) ((cfg0.win 40).stage (cfg0.slots t 40)) fullShare V.x41,
   owns (c : Thread nD τ) ((cfg0.win 41).stage (cfg0.slots t 41)) fullShare V.x42,
   owns (c : Thread nD τ) ((cfg0.win 42).stage (cfg0.slots t 42)) fullShare V.x43,
   owns (c : Thread nD τ) ((cfg0.win 43).stage (cfg0.slots t 43)) fullShare V.x44,
   owns (c : Thread nD τ) ((cfg0.win 44).stage (cfg0.slots t 44)) fullShare V.x45,
   owns (c : Thread nD τ) ((cfg0.win 45).stage (cfg0.slots t 45)) fullShare V.x46,
   owns (c : Thread nD τ) ((cfg0.win 46).stage (cfg0.slots t 46)) fullShare V.x47,
   owns (c : Thread nD τ) ((cfg0.win 47).stage (cfg0.slots t 47)) fullShare V.x48,
   owns (c : Thread nD τ) ((cfg0.win 48).stage (cfg0.slots t 48)) fullShare V.x49,
   owns (c : Thread nD τ) ((cfg0.win 49).stage (cfg0.slots t 49)) fullShare V.x50,
   owns (c : Thread nD τ) ((cfg0.win 50).stage (cfg0.slots t 50)) fullShare V.x51,
   owns (c : Thread nD τ) ((cfg0.win 51).stage (cfg0.slots t 51)) fullShare V.x52,
   owns (c : Thread nD τ) ((cfg0.win 52).stage (cfg0.slots t 52)) fullShare V.x53,
   owns (c : Thread nD τ) ((cfg0.win 53).stage (cfg0.slots t 53)) fullShare V.x54,
   owns (c : Thread nD τ) ((cfg0.win 54).stage (cfg0.slots t 54)) fullShare V.x55,
   owns (c : Thread nD τ) ((cfg0.win 55).stage (cfg0.slots t 55)) fullShare V.x56,
   owns (c : Thread nD τ) ((cfg0.win 56).stage (cfg0.slots t 56)) fullShare V.x57,
   owns (c : Thread nD τ) ((cfg0.win 57).stage (cfg0.slots t 57)) fullShare V.x58,
   owns (c : Thread nD τ) ((cfg0.win 58).stage (cfg0.slots t 58)) fullShare V.x59,
   owns (c : Thread nD τ) ((cfg0.win 59).stage (cfg0.slots t 59)) fullShare V.x60,
   owns (c : Thread nD τ) ((cfg0.win 60).stage (cfg0.slots t 60)) fullShare V.x61,
   owns (c : Thread nD τ) ((cfg0.win 61).stage (cfg0.slots t 61)) fullShare V.x62]

theorem sep_assoc_eq (P Q R : sProp 𝕄) : iprop((P ∗ Q) ∗ R) = iprop(P ∗ Q ∗ R) := equiv_iff.mp ⟨BI.sep_assoc, BI.sep_assoc'⟩
theorem sep_emp_eq (P : sProp 𝕄) : iprop(P ∗ emp) = P := equiv_iff.mp BI.sep_emp
theorem emp_sep_eq (P : sProp 𝕄) : iprop(emp ∗ P) = P := equiv_iff.mp BI.emp_sep

theorem sepL_append : ∀ (L L' : List (sProp 𝕄)), sepL (L ++ L') = iprop(sepL L ∗ sepL L')
  | [], L' => by rw [List.nil_append]; exact (emp_sep_eq _).symm
  | P :: L, L' => by
    show iprop(P ∗ sepL (L ++ L')) = iprop((P ∗ sepL L) ∗ sepL L')
    rw [sepL_append L L', sep_assoc_eq]

/-- The separating conjunction of a nonempty list, with no empty assertion at its end. -/
def sepN : sProp 𝕄 → List (sProp 𝕄) → sProp 𝕄
  | P, [] => P
  | P, Q :: L => iprop(P ∗ sepN Q L)

theorem sepN_eq : ∀ (P : sProp 𝕄) (L : List (sProp 𝕄)), sepN P L = sepL (P :: L)
  | P, [] => (sep_emp_eq P).symm
  | P, Q :: L => by
    show iprop(P ∗ sepN Q L) = iprop(P ∗ sepL (Q :: L))
    rw [sepN_eq Q L]

theorem sepL_mono {L L' : List (sProp 𝕄)} (h : List.Forall₂ (fun P Q => P ⊢ Q) L L') : sepL L ⊢ sepL L' := by
  induction h with
  | nil => exact .rfl
  | cons h _ ih => exact BIClass.sep_mono h ih

theorem wins_eq (c : Dev nD) (t : Fin cfg0.N) (Y : Wins F) (S : Scr F) :
    (bigSep Finset.univ (fun w : Fin cfg0.W => owns (c : Thread nD τ) ((cfg0.win w).stage (cfg0.slots t w)) fullShare (Y w)) : sProp 𝕄) = sepL (winL c t (St.of Y S)) := by
  refine Eq.trans (bigSep_W0 (M := 𝕄) (fun w : Fin 62 => owns (c : Thread nD τ) ((cfg0.win w).stage (cfg0.slots t w)) fullShare (Y w))) ?_
  unfold winL
  rw [← sepN_eq]
  simp only [sepN]
  rfl

/-- The windows' buffers and the scratch buffers are what the body runs over. -/
theorem own_eq (c : Dev nD) (t : Fin cfg0.N) (V : St F) :
    Own c (argsAt t) V = iprop(sepL (winL c t V) ∗ sepL (scrL c V.scr)) := by
  rw [← sepL_append]
  unfold winL scrL Own ownL
  simp only [List.cons_append, List.nil_append]
  rfl

/-- A property of every window's contents in a state. -/
def AllW (P : (w : Fin cfg0.W) → ((cfg0.win w).block.Idx → Elt F (cfg0.win w).elt) → Prop) (V : St F) : Prop :=
  P 0 V.x1 ∧ P 1 V.x2 ∧ P 2 V.x3 ∧ P 3 V.x4 ∧ P 4 V.x5 ∧ P 5 V.x6 ∧ P 6 V.x7 ∧ P 7 V.x8 ∧ P 8 V.x9 ∧ P 9 V.x10 ∧ P 10 V.x11 ∧ P 11 V.x12 ∧ P 12 V.x13 ∧ P 13 V.x14 ∧ P 14 V.x15 ∧ P 15 V.x16 ∧ P 16 V.x17 ∧ P 17 V.x18 ∧ P 18 V.x19 ∧ P 19 V.x20 ∧ P 20 V.x21 ∧ P 21 V.x22 ∧ P 22 V.x23 ∧ P 23 V.x24 ∧ P 24 V.x25 ∧ P 25 V.x26 ∧ P 26 V.x27 ∧ P 27 V.x28 ∧ P 28 V.x29 ∧ P 29 V.x30 ∧ P 30 V.x31 ∧ P 31 V.x32 ∧ P 32 V.x33 ∧ P 33 V.x34 ∧ P 34 V.x35 ∧ P 35 V.x36 ∧ P 36 V.x37 ∧ P 37 V.x38 ∧ P 38 V.x39 ∧ P 39 V.x40 ∧ P 40 V.x41 ∧ P 41 V.x42 ∧ P 42 V.x43 ∧ P 43 V.x44 ∧ P 44 V.x45 ∧ P 45 V.x46 ∧ P 46 V.x47 ∧ P 47 V.x48 ∧ P 48 V.x49 ∧ P 49 V.x50 ∧ P 50 V.x51 ∧ P 51 V.x52 ∧ P 52 V.x53 ∧ P 53 V.x54 ∧ P 54 V.x55 ∧ P 55 V.x56 ∧ P 56 V.x57 ∧ P 57 V.x58 ∧ P 58 V.x59 ∧ P 59 V.x60 ∧ P 60 V.x61 ∧ P 61 V.x62

theorem allW_true (V : St F) : AllW (fun _ _ => True) V := by
  unfold AllW; exact ⟨trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial⟩

theorem own_split (c : Dev nD) (t : Fin cfg0.N) (V : St F) :
    Own c (argsAt t) V ⊢ iprop(sepL (winL c t V) ∗ sepL (scrL c V.scr)) := by
  rw [own_eq]

/-- The scratch buffers at contents of which `I` holds, and the generator register at some state. -/
def PhiS (c : Dev nD) (I : Scr F → Prop) : sProp 𝕄 :=
  iprop((∃ S, ⌜I S⌝ ∗ sepL (scrL c S)) ∗ ∃ r, prngReg c r)

theorem phiS_of_A (c : Dev nD) (I : Scr F → Prop) (h : ∀ S, I S) :
    (Pipeline.ΦA (U := UR sig nD τ) spec0 c : sProp 𝕄) ⊢ PhiS c I := by
  unfold Pipeline.ΦA PhiS
  rw [scopedRest0_eq]
  refine BIClass.sep_mono ?_ .rfl
  iintro ⟨⟨%f63, H63⟩, ⟨%f64, H64⟩, ⟨%f65, H65⟩, ⟨%f66, H66⟩, ⟨%f67, H67⟩, ⟨%f68, H68⟩, ⟨%f69, H69⟩, ⟨%f70, H70⟩, ⟨%f71, H71⟩, ⟨%f72, H72⟩, ⟨%f73, H73⟩, ⟨%f74, H74⟩, ⟨%f75, H75⟩, ⟨%f76, H76⟩, ⟨%f77, H77⟩, ⟨%f78, H78⟩, ⟨%f79, H79⟩, ⟨%f80, H80⟩, ⟨%f81, H81⟩, ⟨%f82, H82⟩, ⟨%f83, H83⟩, ⟨%f84, H84⟩, ⟨%f85, H85⟩, ⟨%f86, H86⟩, ⟨%f87, H87⟩⟩
  iexists ⟨f63, f64, f65, f66, f67, f68, f69, f70, f71, f72, f73, f74, f75, f76, f77, f78, f79, f80, f81, f82, f83, f84, f85, f86, f87⟩
  isplitr; · ipureintro; exact h _
  unfold scrL
  rw [← sepN_eq]
  simp only [sepN, owns_whole]
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  isplitl [H83]; · iexact H83
  isplitl [H84]; · iexact H84
  isplitl [H85]; · iexact H85
  isplitl [H86]; · iexact H86
  iexact H87

theorem rest_of_scrL (c : Dev nD) (S : Scr F) :
    sepL (scrL c S) ⊢ (Pipeline.scopedRest (Ix := Unit) (Name := ℕ) (U := UR sig nD τ) (Lvl := ℕ) (Val := Elt F) spec0 c : sProp 𝕄) := by
  rw [scopedRest0_eq]
  unfold scrL
  rw [← sepN_eq]
  simp only [sepN, owns_whole]
  iintro ⟨H63, H64, H65, H66, H67, H68, H69, H70, H71, H72, H73, H74, H75, H76, H77, H78, H79, H80, H81, H82, H83, H84, H85, H86, H87⟩
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  isplitl [H80]; · iexists _; iexact H80
  isplitl [H81]; · iexists _; iexact H81
  isplitl [H82]; · iexists _; iexact H82
  isplitl [H83]; · iexists _; iexact H83
  isplitl [H84]; · iexists _; iexact H84
  isplitl [H85]; · iexists _; iexact H85
  isplitl [H86]; · iexists _; iexact H86
  iexists _; iexact H87

theorem phiA_of_S (c : Dev nD) (I : Scr F → Prop) :
    PhiS c I ⊢ (Pipeline.ΦA (U := UR sig nD τ) spec0 c : sProp 𝕄) := by
  unfold Pipeline.ΦA PhiS
  refine BIClass.sep_mono ?_ .rfl
  iintro ⟨%S, -, H⟩
  iapply (rest_of_scrL c S)
  iexact H

section Run

theorem aft_in (c : Dev nD) {sp : CoreSpace} {s : Shape} {e : EltTy} (M : Memref sig .tc sp s e) (P : (s.Idx → Elt F e) → Prop) (X : s.Idx → Elt F e) (h : P X) :
    (owns (c : Thread nD τ) M fullShare X : sProp 𝕄) ⊢ iprop(∃ Z, ⌜P Z⌝ ∗ owns (c : Thread nD τ) M fullShare Z) := by
  iintro H
  iexists X
  isplitr; · ipureintro; exact h
  iexact H

/-- The windows' buffers at contents in the relation, as the body obligation asks for them. -/
theorem wins_after (c : Dev nD) (t : Fin cfg0.N) (V : St F) (P : (w : Fin cfg0.W) → ((cfg0.win w).block.Idx → Elt F (cfg0.win w).elt) → Prop)
    (h : AllW P V) : sepL (winL c t V) ⊢ (bigSep Finset.univ (fun w : Fin cfg0.W =>
      iprop(∃ Z, ⌜P w Z⌝ ∗ owns (c : Thread nD τ) ((cfg0.win w).stage (cfg0.slots t w)) fullShare Z)) : sProp 𝕄) := by
  rw [show (bigSep Finset.univ (fun w : Fin cfg0.W =>
      iprop(∃ Z, ⌜P w Z⌝ ∗ owns (c : Thread nD τ) ((cfg0.win w).stage (cfg0.slots t w)) fullShare Z)) : sProp 𝕄) = _ from bigSep_W0 (M := 𝕄) (fun w : Fin 62 =>
      iprop(∃ Z, ⌜P w Z⌝ ∗ owns (c : Thread nD τ) ((cfg0.win w).stage (cfg0.slots t w)) fullShare Z))]
  unfold winL
  rw [← sepN_eq]
  simp only [sepN]
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61⟩ := h
  refine BIClass.sep_mono (aft_in c _ (P 0) _ h0) ?_
  refine BIClass.sep_mono (aft_in c _ (P 1) _ h1) ?_
  refine BIClass.sep_mono (aft_in c _ (P 2) _ h2) ?_
  refine BIClass.sep_mono (aft_in c _ (P 3) _ h3) ?_
  refine BIClass.sep_mono (aft_in c _ (P 4) _ h4) ?_
  refine BIClass.sep_mono (aft_in c _ (P 5) _ h5) ?_
  refine BIClass.sep_mono (aft_in c _ (P 6) _ h6) ?_
  refine BIClass.sep_mono (aft_in c _ (P 7) _ h7) ?_
  refine BIClass.sep_mono (aft_in c _ (P 8) _ h8) ?_
  refine BIClass.sep_mono (aft_in c _ (P 9) _ h9) ?_
  refine BIClass.sep_mono (aft_in c _ (P 10) _ h10) ?_
  refine BIClass.sep_mono (aft_in c _ (P 11) _ h11) ?_
  refine BIClass.sep_mono (aft_in c _ (P 12) _ h12) ?_
  refine BIClass.sep_mono (aft_in c _ (P 13) _ h13) ?_
  refine BIClass.sep_mono (aft_in c _ (P 14) _ h14) ?_
  refine BIClass.sep_mono (aft_in c _ (P 15) _ h15) ?_
  refine BIClass.sep_mono (aft_in c _ (P 16) _ h16) ?_
  refine BIClass.sep_mono (aft_in c _ (P 17) _ h17) ?_
  refine BIClass.sep_mono (aft_in c _ (P 18) _ h18) ?_
  refine BIClass.sep_mono (aft_in c _ (P 19) _ h19) ?_
  refine BIClass.sep_mono (aft_in c _ (P 20) _ h20) ?_
  refine BIClass.sep_mono (aft_in c _ (P 21) _ h21) ?_
  refine BIClass.sep_mono (aft_in c _ (P 22) _ h22) ?_
  refine BIClass.sep_mono (aft_in c _ (P 23) _ h23) ?_
  refine BIClass.sep_mono (aft_in c _ (P 24) _ h24) ?_
  refine BIClass.sep_mono (aft_in c _ (P 25) _ h25) ?_
  refine BIClass.sep_mono (aft_in c _ (P 26) _ h26) ?_
  refine BIClass.sep_mono (aft_in c _ (P 27) _ h27) ?_
  refine BIClass.sep_mono (aft_in c _ (P 28) _ h28) ?_
  refine BIClass.sep_mono (aft_in c _ (P 29) _ h29) ?_
  refine BIClass.sep_mono (aft_in c _ (P 30) _ h30) ?_
  refine BIClass.sep_mono (aft_in c _ (P 31) _ h31) ?_
  refine BIClass.sep_mono (aft_in c _ (P 32) _ h32) ?_
  refine BIClass.sep_mono (aft_in c _ (P 33) _ h33) ?_
  refine BIClass.sep_mono (aft_in c _ (P 34) _ h34) ?_
  refine BIClass.sep_mono (aft_in c _ (P 35) _ h35) ?_
  refine BIClass.sep_mono (aft_in c _ (P 36) _ h36) ?_
  refine BIClass.sep_mono (aft_in c _ (P 37) _ h37) ?_
  refine BIClass.sep_mono (aft_in c _ (P 38) _ h38) ?_
  refine BIClass.sep_mono (aft_in c _ (P 39) _ h39) ?_
  refine BIClass.sep_mono (aft_in c _ (P 40) _ h40) ?_
  refine BIClass.sep_mono (aft_in c _ (P 41) _ h41) ?_
  refine BIClass.sep_mono (aft_in c _ (P 42) _ h42) ?_
  refine BIClass.sep_mono (aft_in c _ (P 43) _ h43) ?_
  refine BIClass.sep_mono (aft_in c _ (P 44) _ h44) ?_
  refine BIClass.sep_mono (aft_in c _ (P 45) _ h45) ?_
  refine BIClass.sep_mono (aft_in c _ (P 46) _ h46) ?_
  refine BIClass.sep_mono (aft_in c _ (P 47) _ h47) ?_
  refine BIClass.sep_mono (aft_in c _ (P 48) _ h48) ?_
  refine BIClass.sep_mono (aft_in c _ (P 49) _ h49) ?_
  refine BIClass.sep_mono (aft_in c _ (P 50) _ h50) ?_
  refine BIClass.sep_mono (aft_in c _ (P 51) _ h51) ?_
  refine BIClass.sep_mono (aft_in c _ (P 52) _ h52) ?_
  refine BIClass.sep_mono (aft_in c _ (P 53) _ h53) ?_
  refine BIClass.sep_mono (aft_in c _ (P 54) _ h54) ?_
  refine BIClass.sep_mono (aft_in c _ (P 55) _ h55) ?_
  refine BIClass.sep_mono (aft_in c _ (P 56) _ h56) ?_
  refine BIClass.sep_mono (aft_in c _ (P 57) _ h57) ?_
  refine BIClass.sep_mono (aft_in c _ (P 58) _ h58) ?_
  refine BIClass.sep_mono (aft_in c _ (P 59) _ h59) ?_
  refine BIClass.sep_mono (aft_in c _ (P 60) _ h60) ?_
  exact aft_in c _ (P 61) _ h61

variable (m : (ℓ : Loc nD τ sig) → Buf (Elt F) ℓ) (ρ : Dev nD → PrngReg)

/-- The proof data of a run: the arrays as the region finds them, `aft` relating what the body is handed to what it leaves in
    each staging buffer, and `I n` holding of the scratch buffers before point `n`. -/
def rdat (I : Dev nD → ℕ → Scr F → Prop) (aft : Dev nD → (w : Fin cfg0.W) → Fin cfg0.N → (Y X : (cfg0.win w).block.Idx → Elt F (cfg0.win w).elt) → Prop)
    (c : Dev nD) : RDat τ (Elt F) Unit ℕ (UR sig nD τ) ℕ cfg0 c where
  A w := V m c (Pipeline.arrRef spec0 w)
  after := aft c
  Φ n := PhiS c (I c n.val)
  q _ := fullShare
  owed _ := 0

theorem row (t : Fin cfg0.N) : defs₀ (F := F) .tc cfg0.body (cfg0.bodyArgs t (cfg0.slots t)) = bodyAt0 t := by
  unfold defs₀; rw [Defs.onTc_tc]

/-- What the body leaves, sorted into the invariant and the staging buffers. -/
theorem body_post (I : Dev nD → ℕ → Scr F → Prop) (aft : Dev nD → (w : Fin cfg0.W) → Fin cfg0.N → (Y X : (cfg0.win w).block.Idx → Elt F (cfg0.win w).elt) → Prop) (c : Dev nD)
    (t : Fin cfg0.N) (Y : Wins F) (R : sProp 𝕄) (O : sProp 𝕄) :
    iprop((∃ V', ⌜I c (t.val + 1) V'.scr ∧ AllW (fun w => aft c w t (Y w)) V'⌝ ∗ Own c (argsAt t) V') ∗ R ∗ O)
      ⊢ iprop(((∃ S, ⌜I c (t.val + 1) S⌝ ∗ sepL (scrL c S)) ∗ R) ∗ O ∗ bigSep Finset.univ (fun w : Fin cfg0.W =>
        iprop(∃ X, ⌜aft c w t (Y w) X⌝ ∗ owns (c : Thread nD τ) ((cfg0.win w).stage (cfg0.slots t w)) fullShare X))) := by
  iintro ⟨⟨%V', %hq, H⟩, HR, HO⟩
  ihave H2 := (own_split c t V') $$ H
  icases H2 with ⟨HW, HS⟩
  isplitl [HS HR]
  · isplitl [HS]
    · iexists V'.scr
      isplitr; · ipureintro; exact hq.1
      iexact HS
    iexact HR
  isplitl [HO]; · iexact HO
  iapply (wins_after c t V' (fun w => aft c w t (Y w)) hq.2)
  iexact HW

/-- The body obligation of `rdat`, from a run of the body over the state its buffers make up. -/
theorem body_of (I : Dev nD → ℕ → Scr F → Prop) (aft : Dev nD → (w : Fin cfg0.W) → Fin cfg0.N → (Y X : (cfg0.win w).block.Idx → Elt F (cfg0.win w).elt) → Prop) (c : Dev nD)
    (h : ∀ (t : Fin cfg0.N) (Y : Wins F) (S : Scr F), (∀ w, (rdat m I aft c).Finds w t (Y w)) → I c t.val S →
      Tri c (argsAt t) (St.of Y S) (bodyAt0 t) (fun _ V' => I c (t.val + 1) V'.scr ∧ AllW (fun w => aft c w t (Y w)) V')) :
    (rdat m I aft c).BodyObligation (defs₀ (F := F)) Variants.none () Set.univ := by
  intro t Y hY
  rw [row]
  rw [show (rdat m I aft c).Φ t.castSucc = PhiS c (I c t.val) from rfl,
    show (rdat m I aft c).Φ t.succ = PhiS c (I c (t.val + 1)) from rfl,
    show (rdat m I aft c).owesAt () t.succ = (rdat m I aft c).owesAt () t.castSucc from rfl]
  unfold PhiS
  iintro ⟨⟨⟨%S, %hS, HS⟩, Hp⟩, HO, HW⟩
  have hb := h t Y S hY hS
  unfold Tri at hb
  rw [own_eq, ← wins_eq] at hb
  have hb' := (BIClass.sep_mono hb (.rfl (P := iprop((∃ r, prngReg c r) ∗ (rdat m I aft c).owesAt () t.castSucc)))).trans
    ((wp_frame_r frame _ _).trans (wp_mono frame _ _ fun _ => body_post I aft c t Y _ _))
  iapply hb'
  isplitl [HS HW]
  · isplitl [HW]; · iexact HW
    iexact HS
  isplitl [Hp]; · iexact Hp
  iexact HO

/-- A run of the kernel: from any memory with zero counters it ends, the arrays as the proof data says, every other buffer as the
    region found it, every counter at zero. -/
theorem run_of (I : Dev nD → ℕ → Scr F → Prop) (aft : Dev nD → (w : Fin cfg0.W) → Fin cfg0.N → (Y X : (cfg0.win w).block.Idx → Elt F (cfg0.win w).elt) → Prop)
    (h0 : ∀ c S, I c 0 S)
    (h : ∀ c (t : Fin cfg0.N) (Y : Wins F) (S : Scr F), (∀ w, (rdat m I aft c).Finds w t (Y w)) → I c t.val S →
      Tri c (argsAt t) (St.of Y S) (bodyAt0 t) (fun _ V' => I c (t.val + 1) V'.scr ∧ AllW (fun w => aft c w t (Y w)) V')) :
    θ_run defs (onTc (τ := τ) (main (F := F))) (s₀ m ρ)
      (fun r => RDat.FramePost cfg0 (rdat m I aft) (V m) r ∧ r.2.sem = fun _ => 0) :=
  RDat.θ_run_frame_track cfgs (0 : Fin 1) launch0 defs₀ Variants.none (rdat m I aft) m ρ main
    (fun c => body_of m I aft c (h c))
    (fun c w => by unfold RDat.share; split <;> rfl) (fun _ _ => rfl) (V m) (hmain m Variants.none) (fun _ _ => rfl)
    (fun c => phiS_of_A c _ (h0 c)) (fun c => phiA_of_S c _) _ (fun _ h => h)

/-- After such a run every argument is as launched, and every counter is zero. -/
theorem frame_run (I : Dev nD → ℕ → Scr F → Prop) (aft : Dev nD → (w : Fin cfg0.W) → Fin cfg0.N → (Y X : (cfg0.win w).block.Idx → Elt F (cfg0.win w).elt) → Prop)
    (h : θ_run defs (onTc (τ := τ) (main (F := F))) (s₀ m ρ)
      (fun r => RDat.FramePost cfg0 (rdat m I aft) (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 7 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (h.1.arr_in c 8 rfl).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c),
      ((h.1 c).2 main_arg20 (Pipeline.mem_restRefs_of main_arg20 (by decide) (by decide))).trans (V_main_arg20 m c),
      ((h.1 c).2 main_arg21 (Pipeline.mem_restRefs_of main_arg21 (by decide) (by decide))).trans (V_main_arg21 m c),
      ((h.1 c).2 main_arg22 (Pipeline.mem_restRefs_of main_arg22 (by decide) (by decide))).trans (V_main_arg22 m c),
      ((h.1 c).2 main_arg23 (Pipeline.mem_restRefs_of main_arg23 (by decide) (by decide))).trans (V_main_arg23 m c),
      (h.1.arr_in c 3 rfl).trans (V_main_arg24 m c),
      (h.1.arr_in c 4 rfl).trans (V_main_arg25 m c),
      ((h.1 c).2 main_arg26 (Pipeline.mem_restRefs_of main_arg26 (by decide) (by decide))).trans (V_main_arg26 m c),
      ((h.1 c).2 main_arg27 (Pipeline.mem_restRefs_of main_arg27 (by decide) (by decide))).trans (V_main_arg27 m c)⟩, h.2⟩) h

end Run

end Cert.Proof.KI

end
-- ==== Proof.KI.RunA.lean ====
module

public import proofs.«01_k».proof.Proof.Gen.KernelIdeal.Skeleton
public import proofs.«01_k».proof.Proof.KI.State

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! What each part of the body computes, as a function of the contents it finds: the part that runs at the first point only. -/

/-- What `k0_part1` returns and leaves, from the contents `V`. -/
def e_part1 (V : St F) (i : grid0.Coords) : (Σ' (v294 : FVec F S128x1 .f32) (v319 : FVec F S8x128 .bf16), FVec F S8x128 .f32) × St F :=
  let v282 : Vec F S128x4096 .bf16 := fun j => V.x1 (((Rect.unit (s := S128x4096) ![0, 0] S128x4096.size inb_S128x4096_S128x4096_0_0).toLoadRect).idx j)
  let v295 : Vec F S128x1 .f32 := fun j => V.x65 (((Rect.unit (s := S128x1) ![0, 0] S128x1.size inb_S128x1_S128x1_0_0).toLoadRect).idx j)
  let V1 : St F := V.s65 (((Rect.unit (s := S128x1) ![0, 0] S128x1.size inb_S128x1_S128x1_0_0)).overlay V.x65 (k0_pay7 v282))
  let v298 : Vec F S128x512 .bf16 := fun j => V1.x1 (((Rect.unit (s := S128x4096) ![0, 0] S128x512.size inb_S128x4096_S128x512_0_0).toLoadRect).idx j)
  let v303 : Vec F S1x512 .f32 := fun j => V1.x3 (((Rect.unit (s := S1x4096) ![0, 0] S1x512.size inb_S1x4096_S1x512_0_0).toLoadRect).idx j)
  let v308 : Vec F S128x512 .bf16 := fun j => V1.x63 (((Rect.unit (s := S128x4096) ![0, 0] S128x512.size inb_S128x4096_S128x512_0_0).toLoadRect).idx j)
  let V2 : St F := V1.s63 (((Rect.unit (s := S128x4096) ![0, 0] S128x512.size inb_S128x4096_S128x512_0_0)).overlay V1.x63 (k0_pay9 v282 v298 v303))
  let v314 : Vec F S512x128 .bf16 := fun j => V2.x64 (((Rect.unit (s := S4288x128) ![0, 0] S512x128.size inb_S4288x128_S512x128_0_0).toLoadRect).idx j)
  let V3 : St F := V2.s64 (((Rect.unit (s := S4288x128) ![0, 0] S512x128.size inb_S4288x128_S512x128_0_0)).overlay V2.x64 (k0_pay11 v282 v298 v303))
  (⟨k0_pay6 v282, k0_pay13 v282 v298 v303, k0_pay14 v282 v298 v303⟩, V3)

theorem tri_part1 (c : Dev nD) (A : Args) (V : St F) (i : grid0.Coords) :
    Tri c A V (A.app (k0_part1 i)) (fun a W => (a, W) = e_part1 V i) := by
  unfold Args.app
  rw [k0_part1_eq_skeleton]
  unfold k0_part1_skel
  refine Tri.load (has1 A) (fun _ => rfl) ?_
  refine Tri.load (has65 A) (fun _ => rfl) ?_
  refine Tri.store (has65 A) ?_
  refine Tri.load (has1 A) (fun _ => rfl) ?_
  refine Tri.load (has3 A) (fun _ => rfl) ?_
  refine Tri.load (has63 A) (fun _ => rfl) ?_
  refine Tri.store (has63 A) ?_
  refine Tri.load (has64 A) (fun _ => rfl) ?_
  refine Tri.store (has64 A) ?_
  exact Tri.pure rfl

/-- What `k0_part2` returns and leaves, from the contents `V`. -/
def e_part2 (V : St F) (i : grid0.Coords) (v294 : FVec F S128x1 .f32) (v319 : FVec F S8x128 .bf16) (v321 : FVec F S8x128 .f32) : (FVec F S512x128 .f32) × St F :=
  let v326 : Vec F S8x128 .bf16 := fun j => V.x64 (((Rect.unit (s := S4288x128) ![4096, 0] S8x128.size inb_S4288x128_S8x128_4096_0).toLoadRect).idx j)
  let V1 : St F := V.s64 (((Rect.unit (s := S4288x128) ![4096, 0] S8x128.size inb_S4288x128_S8x128_4096_0)).overlay V.x64 (k0_pay16 v319))
  let v329 : Vec F S8x128 .bf16 := fun j => V1.x64 (((Rect.unit (s := S4288x128) ![4160, 0] S8x128.size inb_S4288x128_S8x128_4160_0).toLoadRect).idx j)
  let V2 : St F := V1.s64 (((Rect.unit (s := S4288x128) ![4160, 0] S8x128.size inb_S4288x128_S8x128_4160_0)).overlay V1.x64 (k0_pay17 v321))
  let v332 : Vec F S8x128 .bf16 := fun j => V2.x64 (((Rect.unit (s := S4288x128) ![4224, 0] S8x128.size inb_S4288x128_S8x128_4224_0).toLoadRect).idx j)
  let V3 : St F := V2.s64 (((Rect.unit (s := S4288x128) ![4224, 0] S8x128.size inb_S4288x128_S8x128_4224_0)).overlay V2.x64 (k0_pay18 v321))
  let v336 : Vec F S128x512 .f32 := fun j => V3.x74 (((Rect.unit (s := S128x4096) ![0, 0] S128x512.size inb_S128x4096_S128x512_0_0).toLoadRect).idx j)
  let V4 : St F := V3.s74 (((Rect.unit (s := S128x4096) ![0, 0] S128x512.size inb_S128x4096_S128x512_0_0)).overlay V3.x74 (k0_pay19 (F := F)))
  let v340 : Vec F S128x512 .f32 := fun j => V4.x75 (((Rect.unit (s := S128x4096) ![0, 0] S128x512.size inb_S128x4096_S128x512_0_0).toLoadRect).idx j)
  let V5 : St F := V4.s75 (((Rect.unit (s := S128x4096) ![0, 0] S128x512.size inb_S128x4096_S128x512_0_0)).overlay V4.x75 (k0_pay20 (F := F)))
  let v343 : Vec F S128x512 .bf16 := fun j => V5.x1 (((Rect.unit (s := S128x4096) ![0, 512] S128x512.size inb_S128x4096_S128x512_0_512).toLoadRect).idx j)
  let v348 : Vec F S1x512 .f32 := fun j => V5.x3 (((Rect.unit (s := S1x4096) ![0, 512] S1x512.size inb_S1x4096_S1x512_0_512).toLoadRect).idx j)
  let v353 : Vec F S128x512 .bf16 := fun j => V5.x63 (((Rect.unit (s := S128x4096) ![0, 512] S128x512.size inb_S128x4096_S128x512_0_512).toLoadRect).idx j)
  let V6 : St F := V5.s63 (((Rect.unit (s := S128x4096) ![0, 512] S128x512.size inb_S128x4096_S128x512_0_512)).overlay V5.x63 (k0_pay22 v294 v343 v348))
  ((k0_pay23 v294 v343 v348), V6)

theorem tri_part2 (c : Dev nD) (A : Args) (V : St F) (i : grid0.Coords) (v294 : FVec F S128x1 .f32) (v319 : FVec F S8x128 .bf16) (v321 : FVec F S8x128 .f32) :
    Tri c A V (A.app (k0_part2 i) v294 v319 v321) (fun a W => (a, W) = e_part2 V i v294 v319 v321) := by
  unfold Args.app
  rw [k0_part2_eq_skeleton]
  unfold k0_part2_skel
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has74 A) (fun _ => rfl) ?_
  refine Tri.store (has74 A) ?_
  refine Tri.load (has75 A) (fun _ => rfl) ?_
  refine Tri.store (has75 A) ?_
  refine Tri.load (has1 A) (fun _ => rfl) ?_
  refine Tri.load (has3 A) (fun _ => rfl) ?_
  refine Tri.load (has63 A) (fun _ => rfl) ?_
  refine Tri.store (has63 A) ?_
  exact Tri.pure rfl

/-- What `k0_part3` returns and leaves, from the contents `V`. -/
def e_part3 (V : St F) (i : grid0.Coords) (v294 : FVec F S128x1 .f32) (v357 : FVec F S512x128 .f32) : (FVec F S128x512 .f32) × St F :=
  let v359 : Vec F S512x128 .bf16 := fun j => V.x64 (((Rect.unit (s := S4288x128) ![512, 0] S512x128.size inb_S4288x128_S512x128_512_0).toLoadRect).idx j)
  let V1 : St F := V.s64 (((Rect.unit (s := S4288x128) ![512, 0] S512x128.size inb_S4288x128_S512x128_512_0)).overlay V.x64 (k0_pay24 v357))
  let v371 : Vec F S8x128 .bf16 := fun j => V1.x64 (((Rect.unit (s := S4288x128) ![4104, 0] S8x128.size inb_S4288x128_S8x128_4104_0).toLoadRect).idx j)
  let V2 : St F := V1.s64 (((Rect.unit (s := S4288x128) ![4104, 0] S8x128.size inb_S4288x128_S8x128_4104_0)).overlay V1.x64 (k0_pay29 v357))
  let v374 : Vec F S8x128 .bf16 := fun j => V2.x64 (((Rect.unit (s := S4288x128) ![4168, 0] S8x128.size inb_S4288x128_S8x128_4168_0).toLoadRect).idx j)
  let V3 : St F := V2.s64 (((Rect.unit (s := S4288x128) ![4168, 0] S8x128.size inb_S4288x128_S8x128_4168_0)).overlay V2.x64 (k0_pay30 v357))
  let v377 : Vec F S8x128 .bf16 := fun j => V3.x64 (((Rect.unit (s := S4288x128) ![4232, 0] S8x128.size inb_S4288x128_S8x128_4232_0).toLoadRect).idx j)
  let V4 : St F := V3.s64 (((Rect.unit (s := S4288x128) ![4232, 0] S8x128.size inb_S4288x128_S8x128_4232_0)).overlay V3.x64 (k0_pay31 v357))
  let v381 : Vec F S128x512 .f32 := fun j => V4.x74 (((Rect.unit (s := S128x4096) ![0, 512] S128x512.size inb_S128x4096_S128x512_0_512).toLoadRect).idx j)
  let V5 : St F := V4.s74 (((Rect.unit (s := S128x4096) ![0, 512] S128x512.size inb_S128x4096_S128x512_0_512)).overlay V4.x74 (k0_pay32 (F := F)))
  let v385 : Vec F S128x512 .f32 := fun j => V5.x75 (((Rect.unit (s := S128x4096) ![0, 512] S128x512.size inb_S128x4096_S128x512_0_512).toLoadRect).idx j)
  let V6 : St F := V5.s75 (((Rect.unit (s := S128x4096) ![0, 512] S128x512.size inb_S128x4096_S128x512_0_512)).overlay V5.x75 (k0_pay33 (F := F)))
  let v388 : Vec F S128x512 .bf16 := fun j => V6.x1 (((Rect.unit (s := S128x4096) ![0, 1024] S128x512.size inb_S128x4096_S128x512_0_1024).toLoadRect).idx j)
  ((k0_pay34 v294 v388), V6)

theorem tri_part3 (c : Dev nD) (A : Args) (V : St F) (i : grid0.Coords) (v294 : FVec F S128x1 .f32) (v357 : FVec F S512x128 .f32) :
    Tri c A V (A.app (k0_part3 i) v294 v357) (fun a W => (a, W) = e_part3 V i v294 v357) := by
  unfold Args.app
  rw [k0_part3_eq_skeleton]
  unfold k0_part3_skel
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has74 A) (fun _ => rfl) ?_
  refine Tri.store (has74 A) ?_
  refine Tri.load (has75 A) (fun _ => rfl) ?_
  refine Tri.store (has75 A) ?_
  refine Tri.load (has1 A) (fun _ => rfl) ?_
  exact Tri.pure rfl

/-- What `k0_part4` returns and leaves, from the contents `V`. -/
def e_part4 (V : St F) (i : grid0.Coords) (v392 : FVec F S128x512 .f32) : (FVec F S128x512 .f32) × St F :=
  let v393 : Vec F S1x512 .f32 := fun j => V.x3 (((Rect.unit (s := S1x4096) ![0, 1024] S1x512.size inb_S1x4096_S1x512_0_1024).toLoadRect).idx j)
  let v398 : Vec F S128x512 .bf16 := fun j => V.x63 (((Rect.unit (s := S128x4096) ![0, 1024] S128x512.size inb_S128x4096_S128x512_0_1024).toLoadRect).idx j)
  let V1 : St F := V.s63 (((Rect.unit (s := S128x4096) ![0, 1024] S128x512.size inb_S128x4096_S128x512_0_1024)).overlay V.x63 (k0_pay36 v392 v393))
  let v404 : Vec F S512x128 .bf16 := fun j => V1.x64 (((Rect.unit (s := S4288x128) ![1024, 0] S512x128.size inb_S4288x128_S512x128_1024_0).toLoadRect).idx j)
  let V2 : St F := V1.s64 (((Rect.unit (s := S4288x128) ![1024, 0] S512x128.size inb_S4288x128_S512x128_1024_0)).overlay V1.x64 (k0_pay38 v392 v393))
  let v416 : Vec F S8x128 .bf16 := fun j => V2.x64 (((Rect.unit (s := S4288x128) ![4112, 0] S8x128.size inb_S4288x128_S8x128_4112_0).toLoadRect).idx j)
  let V3 : St F := V2.s64 (((Rect.unit (s := S4288x128) ![4112, 0] S8x128.size inb_S4288x128_S8x128_4112_0)).overlay V2.x64 (k0_pay43 v392 v393))
  let v419 : Vec F S8x128 .bf16 := fun j => V3.x64 (((Rect.unit (s := S4288x128) ![4176, 0] S8x128.size inb_S4288x128_S8x128_4176_0).toLoadRect).idx j)
  let V4 : St F := V3.s64 (((Rect.unit (s := S4288x128) ![4176, 0] S8x128.size inb_S4288x128_S8x128_4176_0)).overlay V3.x64 (k0_pay44 v392 v393))
  let v422 : Vec F S8x128 .bf16 := fun j => V4.x64 (((Rect.unit (s := S4288x128) ![4240, 0] S8x128.size inb_S4288x128_S8x128_4240_0).toLoadRect).idx j)
  let V5 : St F := V4.s64 (((Rect.unit (s := S4288x128) ![4240, 0] S8x128.size inb_S4288x128_S8x128_4240_0)).overlay V4.x64 (k0_pay45 v392 v393))
  let v426 : Vec F S128x512 .f32 := fun j => V5.x74 (((Rect.unit (s := S128x4096) ![0, 1024] S128x512.size inb_S128x4096_S128x512_0_1024).toLoadRect).idx j)
  let V6 : St F := V5.s74 (((Rect.unit (s := S128x4096) ![0, 1024] S128x512.size inb_S128x4096_S128x512_0_1024)).overlay V5.x74 (k0_pay46 (F := F)))
  ((k0_pay47 (F := F)), V6)

theorem tri_part4 (c : Dev nD) (A : Args) (V : St F) (i : grid0.Coords) (v392 : FVec F S128x512 .f32) :
    Tri c A V (A.app (k0_part4 i) v392) (fun a W => (a, W) = e_part4 V i v392) := by
  unfold Args.app
  rw [k0_part4_eq_skeleton]
  unfold k0_part4_skel
  refine Tri.load (has3 A) (fun _ => rfl) ?_
  refine Tri.load (has63 A) (fun _ => rfl) ?_
  refine Tri.store (has63 A) ?_
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has74 A) (fun _ => rfl) ?_
  refine Tri.store (has74 A) ?_
  exact Tri.pure rfl

/-- What `k0_part5` returns and leaves, from the contents `V`. -/
def e_part5 (V : St F) (i : grid0.Coords) (v294 : FVec F S128x1 .f32) (v429 : FVec F S128x512 .f32) : (FVec F S8x128 .bf16) × St F :=
  let v430 : Vec F S128x512 .f32 := fun j => V.x75 (((Rect.unit (s := S128x4096) ![0, 1024] S128x512.size inb_S128x4096_S128x512_0_1024).toLoadRect).idx j)
  let V1 : St F := V.s75 (((Rect.unit (s := S128x4096) ![0, 1024] S128x512.size inb_S128x4096_S128x512_0_1024)).overlay V.x75 (k0_pay48 v429))
  let v433 : Vec F S128x512 .bf16 := fun j => V1.x1 (((Rect.unit (s := S128x4096) ![0, 1536] S128x512.size inb_S128x4096_S128x512_0_1536).toLoadRect).idx j)
  let v438 : Vec F S1x512 .f32 := fun j => V1.x3 (((Rect.unit (s := S1x4096) ![0, 1536] S1x512.size inb_S1x4096_S1x512_0_1536).toLoadRect).idx j)
  let v443 : Vec F S128x512 .bf16 := fun j => V1.x63 (((Rect.unit (s := S128x4096) ![0, 1536] S128x512.size inb_S128x4096_S128x512_0_1536).toLoadRect).idx j)
  let V2 : St F := V1.s63 (((Rect.unit (s := S128x4096) ![0, 1536] S128x512.size inb_S128x4096_S128x512_0_1536)).overlay V1.x63 (k0_pay50 v294 v433 v438))
  let v449 : Vec F S512x128 .bf16 := fun j => V2.x64 (((Rect.unit (s := S4288x128) ![1536, 0] S512x128.size inb_S4288x128_S512x128_1536_0).toLoadRect).idx j)
  let V3 : St F := V2.s64 (((Rect.unit (s := S4288x128) ![1536, 0] S512x128.size inb_S4288x128_S512x128_1536_0)).overlay V2.x64 (k0_pay52 v294 v433 v438))
  let v461 : Vec F S8x128 .bf16 := fun j => V3.x64 (((Rect.unit (s := S4288x128) ![4120, 0] S8x128.size inb_S4288x128_S8x128_4120_0).toLoadRect).idx j)
  let V4 : St F := V3.s64 (((Rect.unit (s := S4288x128) ![4120, 0] S8x128.size inb_S4288x128_S8x128_4120_0)).overlay V3.x64 (k0_pay57 v294 v433 v438))
  let v464 : Vec F S8x128 .bf16 := fun j => V4.x64 (((Rect.unit (s := S4288x128) ![4184, 0] S8x128.size inb_S4288x128_S8x128_4184_0).toLoadRect).idx j)
  let V5 : St F := V4.s64 (((Rect.unit (s := S4288x128) ![4184, 0] S8x128.size inb_S4288x128_S8x128_4184_0)).overlay V4.x64 (k0_pay58 v294 v433 v438))
  let v467 : Vec F S8x128 .bf16 := fun j => V5.x64 (((Rect.unit (s := S4288x128) ![4248, 0] S8x128.size inb_S4288x128_S8x128_4248_0).toLoadRect).idx j)
  ((k0_pay59 v294 v433 v438), V5)

theorem tri_part5 (c : Dev nD) (A : Args) (V : St F) (i : grid0.Coords) (v294 : FVec F S128x1 .f32) (v429 : FVec F S128x512 .f32) :
    Tri c A V (A.app (k0_part5 i) v294 v429) (fun a W => (a, W) = e_part5 V i v294 v429) := by
  unfold Args.app
  rw [k0_part5_eq_skeleton]
  unfold k0_part5_skel
  refine Tri.load (has75 A) (fun _ => rfl) ?_
  refine Tri.store (has75 A) ?_
  refine Tri.load (has1 A) (fun _ => rfl) ?_
  refine Tri.load (has3 A) (fun _ => rfl) ?_
  refine Tri.load (has63 A) (fun _ => rfl) ?_
  refine Tri.store (has63 A) ?_
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has64 A) (fun _ => rfl) ?_
  exact Tri.pure rfl

/-- What `k0_part6` returns and leaves, from the contents `V`. -/
def e_part6 (V : St F) (i : grid0.Coords) (v294 : FVec F S128x1 .f32) (v469 : FVec F S8x128 .bf16) : (Σ' (v499 : FVec F S8x128 .bf16) (v502 : FVec F S8x128 .bf16), FVec F S8x128 .bf16) × St F :=
  let V1 : St F := V.s64 (((Rect.unit (s := S4288x128) ![4248, 0] S8x128.size inb_S4288x128_S8x128_4248_0)).overlay V.x64 v469)
  let v471 : Vec F S128x512 .f32 := fun j => V1.x74 (((Rect.unit (s := S128x4096) ![0, 1536] S128x512.size inb_S128x4096_S128x512_0_1536).toLoadRect).idx j)
  let V2 : St F := V1.s74 (((Rect.unit (s := S128x4096) ![0, 1536] S128x512.size inb_S128x4096_S128x512_0_1536)).overlay V1.x74 (k0_pay60 (F := F)))
  let v475 : Vec F S128x512 .f32 := fun j => V2.x75 (((Rect.unit (s := S128x4096) ![0, 1536] S128x512.size inb_S128x4096_S128x512_0_1536).toLoadRect).idx j)
  let V3 : St F := V2.s75 (((Rect.unit (s := S128x4096) ![0, 1536] S128x512.size inb_S128x4096_S128x512_0_1536)).overlay V2.x75 (k0_pay61 (F := F)))
  let v478 : Vec F S128x512 .bf16 := fun j => V3.x1 (((Rect.unit (s := S128x4096) ![0, 2048] S128x512.size inb_S128x4096_S128x512_0_2048).toLoadRect).idx j)
  let v483 : Vec F S1x512 .f32 := fun j => V3.x3 (((Rect.unit (s := S1x4096) ![0, 2048] S1x512.size inb_S1x4096_S1x512_0_2048).toLoadRect).idx j)
  let v488 : Vec F S128x512 .bf16 := fun j => V3.x63 (((Rect.unit (s := S128x4096) ![0, 2048] S128x512.size inb_S128x4096_S128x512_0_2048).toLoadRect).idx j)
  let V4 : St F := V3.s63 (((Rect.unit (s := S128x4096) ![0, 2048] S128x512.size inb_S128x4096_S128x512_0_2048)).overlay V3.x63 (k0_pay63 v294 v478 v483))
  let v494 : Vec F S512x128 .bf16 := fun j => V4.x64 (((Rect.unit (s := S4288x128) ![2048, 0] S512x128.size inb_S4288x128_S512x128_2048_0).toLoadRect).idx j)
  let V5 : St F := V4.s64 (((Rect.unit (s := S4288x128) ![2048, 0] S512x128.size inb_S4288x128_S512x128_2048_0)).overlay V4.x64 (k0_pay65 v294 v478 v483))
  let v506 : Vec F S8x128 .bf16 := fun j => V5.x64 (((Rect.unit (s := S4288x128) ![4128, 0] S8x128.size inb_S4288x128_S8x128_4128_0).toLoadRect).idx j)
  (⟨k0_pay67 v294 v478 v483, k0_pay69 v294 v478 v483, k0_pay70 v294 v478 v483⟩, V5)

theorem tri_part6 (c : Dev nD) (A : Args) (V : St F) (i : grid0.Coords) (v294 : FVec F S128x1 .f32) (v469 : FVec F S8x128 .bf16) :
    Tri c A V (A.app (k0_part6 i) v294 v469) (fun a W => (a, W) = e_part6 V i v294 v469) := by
  unfold Args.app
  rw [k0_part6_eq_skeleton]
  unfold k0_part6_skel
  refine Tri.store (has64 A) ?_
  refine Tri.load (has74 A) (fun _ => rfl) ?_
  refine Tri.store (has74 A) ?_
  refine Tri.load (has75 A) (fun _ => rfl) ?_
  refine Tri.store (has75 A) ?_
  refine Tri.load (has1 A) (fun _ => rfl) ?_
  refine Tri.load (has3 A) (fun _ => rfl) ?_
  refine Tri.load (has63 A) (fun _ => rfl) ?_
  refine Tri.store (has63 A) ?_
  refine Tri.load (has64 A) (fun _ => rfl) ?_
  refine Tri.store (has64 A) ?_
  refine Tri.load (has64 A) (fun _ => rfl) ?_
  exact Tri.pure rfl

/-- What `k0_part7` returns and leaves, from the contents `V`. -/
def e_part7 (V : St F) (i : grid0.Coords) (v294 : FVec F S128x1 .f32) (v499 : FVec F S8x128 .bf16) (v502 : FVec F S8x128 .bf16) (v505 : FVec F S8x128 .bf16) : (FVec F S8x64x128 .f32) × St F :=
  let V1 : St F := V.s64 (((Rect.unit (s := S4288x128) ![4128, 0] S8x128.size inb_S4288x128_S8x128_4128_0)).overlay V.x64 (k0_pay71 v499))
  let v509 : Vec F S8x128 .bf16 := fun j => V1.x64 (((Rect.unit (s := S4288x128) ![4192, 0] S8x128.size inb_S4288x128_S8x128_4192_0).toLoadRect).idx j)
  let V2 : St F := V1.s64 (((Rect.unit (s := S4288x128) ![4192, 0] S8x128.size inb_S4288x128_S8x128_4192_0)).overlay V1.x64 (k0_pay72 v502))
  let v512 : Vec F S8x128 .bf16 := fun j => V2.x64 (((Rect.unit (s := S4288x128) ![4256, 0] S8x128.size inb_S4288x128_S8x128_4256_0).toLoadRect).idx j)
  let V3 : St F := V2.s64 (((Rect.unit (s := S4288x128) ![4256, 0] S8x128.size inb_S4288x128_S8x128_4256_0)).overlay V2.x64 (k0_pay73 v505))
  let v516 : Vec F S128x512 .f32 := fun j => V3.x74 (((Rect.unit (s := S128x4096) ![0, 2048] S128x512.size inb_S128x4096_S128x512_0_2048).toLoadRect).idx j)
  let V4 : St F := V3.s74 (((Rect.unit (s := S128x4096) ![0, 2048] S128x512.size inb_S128x4096_S128x512_0_2048)).overlay V3.x74 (k0_pay74 (F := F)))
  let v520 : Vec F S128x512 .f32 := fun j => V4.x75 (((Rect.unit (s := S128x4096) ![0, 2048] S128x512.size inb_S128x4096_S128x512_0_2048).toLoadRect).idx j)
  let V5 : St F := V4.s75 (((Rect.unit (s := S128x4096) ![0, 2048] S128x512.size inb_S128x4096_S128x512_0_2048)).overlay V4.x75 (k0_pay75 (F := F)))
  let v523 : Vec F S128x512 .bf16 := fun j => V5.x1 (((Rect.unit (s := S128x4096) ![0, 2560] S128x512.size inb_S128x4096_S128x512_0_2560).toLoadRect).idx j)
  let v528 : Vec F S1x512 .f32 := fun j => V5.x3 (((Rect.unit (s := S1x4096) ![0, 2560] S1x512.size inb_S1x4096_S1x512_0_2560).toLoadRect).idx j)
  let v533 : Vec F S128x512 .bf16 := fun j => V5.x63 (((Rect.unit (s := S128x4096) ![0, 2560] S128x512.size inb_S128x4096_S128x512_0_2560).toLoadRect).idx j)
  let V6 : St F := V5.s63 (((Rect.unit (s := S128x4096) ![0, 2560] S128x512.size inb_S128x4096_S128x512_0_2560)).overlay V5.x63 (k0_pay77 v294 v523 v528))
  let v539 : Vec F S512x128 .bf16 := fun j => V6.x64 (((Rect.unit (s := S4288x128) ![2560, 0] S512x128.size inb_S4288x128_S512x128_2560_0).toLoadRect).idx j)
  let V7 : St F := V6.s64 (((Rect.unit (s := S4288x128) ![2560, 0] S512x128.size inb_S4288x128_S512x128_2560_0)).overlay V6.x64 (k0_pay79 v294 v523 v528))
  ((k0_pay80 v294 v523 v528), V7)

theorem tri_part7 (c : Dev nD) (A : Args) (V : St F) (i : grid0.Coords) (v294 : FVec F S128x1 .f32) (v499 : FVec F S8x128 .bf16) (v502 : FVec F S8x128 .bf16) (v505 : FVec F S8x128 .bf16) :
    Tri c A V (A.app (k0_part7 i) v294 v499 v502 v505) (fun a W => (a, W) = e_part7 V i v294 v499 v502 v505) := by
  unfold Args.app
  rw [k0_part7_eq_skeleton]
  unfold k0_part7_skel
  refine Tri.store (has64 A) ?_
  refine Tri.load (has64 A) (fun _ => rfl) ?_
  refine Tri.store (has64 A) ?_
  refine Tri.load (has64 A) (fun _ => rfl) ?_
  refine Tri.store (has64 A) ?_
  refine Tri.load (has74 A) (fun _ => rfl) ?_
  refine Tri.store (has74 A) ?_
  refine Tri.load (has75 A) (fun _ => rfl) ?_
  refine Tri.store (has75 A) ?_
  refine Tri.load (has1 A) (fun _ => rfl) ?_
  refine Tri.load (has3 A) (fun _ => rfl) ?_
  refine Tri.load (has63 A) (fun _ => rfl) ?_
  refine Tri.store (has63 A) ?_
  refine Tri.load (has64 A) (fun _ => rfl) ?_
  refine Tri.store (has64 A) ?_
  exact Tri.pure rfl

/-- What `k0_part8` returns and leaves, from the contents `V`. -/
def e_part8 (V : St F) (i : grid0.Coords) (v294 : FVec F S128x1 .f32) (v542 : FVec F S8x64x128 .f32) : (Σ' (v577 : FVec F S128x512 .bf16), Vec F S128x512 .bf16) × St F :=
  let v551 : Vec F S8x128 .bf16 := fun j => V.x64 (((Rect.unit (s := S4288x128) ![4136, 0] S8x128.size inb_S4288x128_S8x128_4136_0).toLoadRect).idx j)
  let V1 : St F := V.s64 (((Rect.unit (s := S4288x128) ![4136, 0] S8x128.size inb_S4288x128_S8x128_4136_0)).overlay V.x64 (k0_pay85 v542))
  let v554 : Vec F S8x128 .bf16 := fun j => V1.x64 (((Rect.unit (s := S4288x128) ![4200, 0] S8x128.size inb_S4288x128_S8x128_4200_0).toLoadRect).idx j)
  let V2 : St F := V1.s64 (((Rect.unit (s := S4288x128) ![4200, 0] S8x128.size inb_S4288x128_S8x128_4200_0)).overlay V1.x64 (k0_pay86 v542))
  let v557 : Vec F S8x128 .bf16 := fun j => V2.x64 (((Rect.unit (s := S4288x128) ![4264, 0] S8x128.size inb_S4288x128_S8x128_4264_0).toLoadRect).idx j)
  let V3 : St F := V2.s64 (((Rect.unit (s := S4288x128) ![4264, 0] S8x128.size inb_S4288x128_S8x128_4264_0)).overlay V2.x64 (k0_pay87 v542))
  let v561 : Vec F S128x512 .f32 := fun j => V3.x74 (((Rect.unit (s := S128x4096) ![0, 2560] S128x512.size inb_S128x4096_S128x512_0_2560).toLoadRect).idx j)
  let V4 : St F := V3.s74 (((Rect.unit (s := S128x4096) ![0, 2560] S128x512.size inb_S128x4096_S128x512_0_2560)).overlay V3.x74 (k0_pay88 (F := F)))
  let v565 : Vec F S128x512 .f32 := fun j => V4.x75 (((Rect.unit (s := S128x4096) ![0, 2560] S128x512.size inb_S128x4096_S128x512_0_2560).toLoadRect).idx j)
  let V5 : St F := V4.s75 (((Rect.unit (s := S128x4096) ![0, 2560] S128x512.size inb_S128x4096_S128x512_0_2560)).overlay V4.x75 (k0_pay89 (F := F)))
  let v568 : Vec F S128x512 .bf16 := fun j => V5.x1 (((Rect.unit (s := S128x4096) ![0, 3072] S128x512.size inb_S128x4096_S128x512_0_3072).toLoadRect).idx j)
  let v573 : Vec F S1x512 .f32 := fun j => V5.x3 (((Rect.unit (s := S1x4096) ![0, 3072] S1x512.size inb_S1x4096_S1x512_0_3072).toLoadRect).idx j)
  let v578 : Vec F S128x512 .bf16 := fun j => V5.x63 (((Rect.unit (s := S128x4096) ![0, 3072] S128x512.size inb_S128x4096_S128x512_0_3072).toLoadRect).idx j)
  (⟨k0_pay90 v294 v568 v573, v578⟩, V5)

theorem tri_part8 (c : Dev nD) (A : Args) (V : St F) (i : grid0.Coords) (v294 : FVec F S128x1 .f32) (v542 : FVec F S8x64x128 .f32) :
    Tri c A V (A.app (k0_part8 i) v294 v542) (fun a W => (a, W) = e_part8 V i v294 v542) := by
  unfold Args.app
  rw [k0_part8_eq_skeleton]
  unfold k0_part8_skel
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has74 A) (fun _ => rfl) ?_
  refine Tri.store (has74 A) ?_
  refine Tri.load (has75 A) (fun _ => rfl) ?_
  refine Tri.store (has75 A) ?_
  refine Tri.load (has1 A) (fun _ => rfl) ?_
  refine Tri.load (has3 A) (fun _ => rfl) ?_
  refine Tri.load (has63 A) (fun _ => rfl) ?_
  exact Tri.pure rfl

/-- What `k0_part9` returns and leaves, from the contents `V`. -/
def e_part9 (V : St F) (i : grid0.Coords) (v577 : FVec F S128x512 .bf16) (v578 : Vec F S128x512 .bf16) : (FVec F S128x512 .bf16) × St F :=
  let V1 : St F := V.s63 (((Rect.unit (s := S128x4096) ![0, 3072] S128x512.size inb_S128x4096_S128x512_0_3072)).overlay V.x63 (k0_pay91 v577))
  let v584 : Vec F S512x128 .bf16 := fun j => V1.x64 (((Rect.unit (s := S4288x128) ![3072, 0] S512x128.size inb_S4288x128_S512x128_3072_0).toLoadRect).idx j)
  let V2 : St F := V1.s64 (((Rect.unit (s := S4288x128) ![3072, 0] S512x128.size inb_S4288x128_S512x128_3072_0)).overlay V1.x64 (k0_pay93 v577))
  let v596 : Vec F S8x128 .bf16 := fun j => V2.x64 (((Rect.unit (s := S4288x128) ![4144, 0] S8x128.size inb_S4288x128_S8x128_4144_0).toLoadRect).idx j)
  let V3 : St F := V2.s64 (((Rect.unit (s := S4288x128) ![4144, 0] S8x128.size inb_S4288x128_S8x128_4144_0)).overlay V2.x64 (k0_pay98 v577))
  let v599 : Vec F S8x128 .bf16 := fun j => V3.x64 (((Rect.unit (s := S4288x128) ![4208, 0] S8x128.size inb_S4288x128_S8x128_4208_0).toLoadRect).idx j)
  let V4 : St F := V3.s64 (((Rect.unit (s := S4288x128) ![4208, 0] S8x128.size inb_S4288x128_S8x128_4208_0)).overlay V3.x64 (k0_pay99 v577))
  let v602 : Vec F S8x128 .bf16 := fun j => V4.x64 (((Rect.unit (s := S4288x128) ![4272, 0] S8x128.size inb_S4288x128_S8x128_4272_0).toLoadRect).idx j)
  let V5 : St F := V4.s64 (((Rect.unit (s := S4288x128) ![4272, 0] S8x128.size inb_S4288x128_S8x128_4272_0)).overlay V4.x64 (k0_pay100 v577))
  let v606 : Vec F S128x512 .f32 := fun j => V5.x74 (((Rect.unit (s := S128x4096) ![0, 3072] S128x512.size inb_S128x4096_S128x512_0_3072).toLoadRect).idx j)
  let V6 : St F := V5.s74 (((Rect.unit (s := S128x4096) ![0, 3072] S128x512.size inb_S128x4096_S128x512_0_3072)).overlay V5.x74 (k0_pay101 (F := F)))
  let v610 : Vec F S128x512 .f32 := fun j => V6.x75 (((Rect.unit (s := S128x4096) ![0, 3072] S128x512.size inb_S128x4096_S128x512_0_3072).toLoadRect).idx j)
  let V7 : St F := V6.s75 (((Rect.unit (s := S128x4096) ![0, 3072] S128x512.size inb_S128x4096_S128x512_0_3072)).overlay V6.x75 (k0_pay102 (F := F)))
  let v613 : Vec F S128x512 .bf16 := fun j => V7.x1 (((Rect.unit (s := S128x4096) ![0, 3584] S128x512.size inb_S128x4096_S128x512_0_3584).toLoadRect).idx j)
  ((k0_pay103 v613), V7)

theorem tri_part9 (c : Dev nD) (A : Args) (V : St F) (i : grid0.Coords) (v577 : FVec F S128x512 .bf16) (v578 : Vec F S128x512 .bf16) :
    Tri c A V (A.app (k0_part9 i) v577 v578) (fun a W => (a, W) = e_part9 V i v577 v578) := by
  unfold Args.app
  rw [k0_part9_eq_skeleton]
  unfold k0_part9_skel
  refine Tri.store (has63 A) ?_
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has74 A) (fun _ => rfl) ?_
  refine Tri.store (has74 A) ?_
  refine Tri.load (has75 A) (fun _ => rfl) ?_
  refine Tri.store (has75 A) ?_
  refine Tri.load (has1 A) (fun _ => rfl) ?_
  exact Tri.pure rfl

/-- What `k0_part10` returns and leaves, from the contents `V`. -/
def e_part10 (V : St F) (i : grid0.Coords) (v294 : FVec F S128x1 .f32) (v614 : FVec F S128x512 .bf16) : (FVec F S128x512 .f32) × St F :=
  let v618 : Vec F S1x512 .f32 := fun j => V.x3 (((Rect.unit (s := S1x4096) ![0, 3584] S1x512.size inb_S1x4096_S1x512_0_3584).toLoadRect).idx j)
  let v623 : Vec F S128x512 .bf16 := fun j => V.x63 (((Rect.unit (s := S128x4096) ![0, 3584] S128x512.size inb_S128x4096_S128x512_0_3584).toLoadRect).idx j)
  let V1 : St F := V.s63 (((Rect.unit (s := S128x4096) ![0, 3584] S128x512.size inb_S128x4096_S128x512_0_3584)).overlay V.x63 (k0_pay105 v294 v614 v618))
  let v629 : Vec F S512x128 .bf16 := fun j => V1.x64 (((Rect.unit (s := S4288x128) ![3584, 0] S512x128.size inb_S4288x128_S512x128_3584_0).toLoadRect).idx j)
  let V2 : St F := V1.s64 (((Rect.unit (s := S4288x128) ![3584, 0] S512x128.size inb_S4288x128_S512x128_3584_0)).overlay V1.x64 (k0_pay107 v294 v614 v618))
  let v641 : Vec F S8x128 .bf16 := fun j => V2.x64 (((Rect.unit (s := S4288x128) ![4152, 0] S8x128.size inb_S4288x128_S8x128_4152_0).toLoadRect).idx j)
  let V3 : St F := V2.s64 (((Rect.unit (s := S4288x128) ![4152, 0] S8x128.size inb_S4288x128_S8x128_4152_0)).overlay V2.x64 (k0_pay112 v294 v614 v618))
  let v644 : Vec F S8x128 .bf16 := fun j => V3.x64 (((Rect.unit (s := S4288x128) ![4216, 0] S8x128.size inb_S4288x128_S8x128_4216_0).toLoadRect).idx j)
  let V4 : St F := V3.s64 (((Rect.unit (s := S4288x128) ![4216, 0] S8x128.size inb_S4288x128_S8x128_4216_0)).overlay V3.x64 (k0_pay113 v294 v614 v618))
  let v647 : Vec F S8x128 .bf16 := fun j => V4.x64 (((Rect.unit (s := S4288x128) ![4280, 0] S8x128.size inb_S4288x128_S8x128_4280_0).toLoadRect).idx j)
  let V5 : St F := V4.s64 (((Rect.unit (s := S4288x128) ![4280, 0] S8x128.size inb_S4288x128_S8x128_4280_0)).overlay V4.x64 (k0_pay114 v294 v614 v618))
  let v651 : Vec F S128x512 .f32 := fun j => V5.x74 (((Rect.unit (s := S128x4096) ![0, 3584] S128x512.size inb_S128x4096_S128x512_0_3584).toLoadRect).idx j)
  ((k0_pay115 (F := F)), V5)

theorem tri_part10 (c : Dev nD) (A : Args) (V : St F) (i : grid0.Coords) (v294 : FVec F S128x1 .f32) (v614 : FVec F S128x512 .bf16) :
    Tri c A V (A.app (k0_part10 i) v294 v614) (fun a W => (a, W) = e_part10 V i v294 v614) := by
  unfold Args.app
  rw [k0_part10_eq_skeleton]
  unfold k0_part10_skel
  refine Tri.load (has3 A) (fun _ => rfl) ?_
  refine Tri.load (has63 A) (fun _ => rfl) ?_
  refine Tri.store (has63 A) ?_
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has64 A) (fun _ => rfl) ?_
  refine Tri.store (has64 A) ?_
  refine Tri.load (has74 A) (fun _ => rfl) ?_
  exact Tri.pure rfl

end Cert.Proof.KI

end
-- ==== Proof.KI.RunB.lean ====
module

public import proofs.«01_k».proof.Proof.Gen.KernelIdeal.Skeleton
public import proofs.«01_k».proof.Proof.KI.State

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The same for one trip of each of the two counted loops. -/

/-- What `k0_part11` returns and leaves, from the contents `V`. -/
def e_part11 (V : St F) (i : grid0.Coords) (c0_i32_29 : BitVec 32) (c1_i32 : BitVec 32) (k0_t1 : Fin k0_t1_loop.trips) : (Σ' (v283 : BitVec 32) (v285 : BitVec 32) (v287 : BitVec 32) (v289 : Vec F S128x512 .bf16) (v302 : FVec F S512x256 .bf16) (v310 : FVec F S1x256 .f32) (v311 : FVec F S1x256 .f32) (v312 : FVec F S1x256 .f32) (v313 : FVec F S1x256 .f32) (v314 : FVec F S1x256 .f32) (v315 : FVec F S1x256 .f32) (v316 : FVec F S1x256 .f32) (v318 : FVec F S1x256 .f32) (v319 : FVec F S1x256 .f32) (v320 : FVec F S1x256 .f32) (v321 : FVec F S1x256 .f32) (v322 : FVec F S1x256 .f32) (v323 : FVec F S1x256 .f32) (v324 : FVec F S1x256 .f32), FVec F S64x256 .bf16) × St F :=
  let arg88 : BitVec 32 := Scf.iv c0_i32_29 c1_i32 k0_t1
  let v282 : BitVec 32 := Scalar.muli arg88 512#32
  let v283 : BitVec 32 := v282
  let v284 : BitVec 32 := Scalar.muli arg88 32#32
  let v285 : BitVec 32 := v284
  let v286 : BitVec 32 := Scalar.muli arg88 8#32
  let v287 : BitVec 32 := v286
  let v289 : Vec F S128x512 .bf16 := fun j => V.x63 (((Rect.unit (s := S128x4096) (k0_off1 k0_t1) S128x512.size (k0_off1_inb k0_t1)).toLoadRect).idx j)
  let v291 : Vec F S32x256 .i32 := fun j => V.x72 (((Rect.unit (s := S256x256) (k0_off2 k0_t1) S32x256.size (k0_off2_inb k0_t1)).toLoadRect).idx j)
  let v304 : Vec F S8x256 .f32 := fun j => V.x11 (((Rect.unit (s := S64x256) (k0_off3 k0_t1) S8x256.size (k0_off3_inb k0_t1)).toLoadRect).idx j)
  let v307 : Vec F S8x256 .f32 := fun j => V.x12 (((Rect.unit (s := S64x256) (k0_off3 k0_t1) S8x256.size (k0_off3_inb k0_t1)).toLoadRect).idx j)
  (⟨v283, v285, v287, v289, k0_pay116 v291, k0_pay119 v304, k0_pay120 v304, k0_pay121 v304, k0_pay122 v304, k0_pay123 v304, k0_pay124 v304, k0_pay125 v304, k0_pay126 v307, k0_pay127 v307, k0_pay128 v307, k0_pay129 v307, k0_pay130 v307, k0_pay131 v307, k0_pay132 v307, k0_pay133 v291 v304 v307⟩, V)

theorem tri_part11 (c : Dev nD) (A : Args) (V : St F) (i : grid0.Coords) (c0_i32_29 : BitVec 32) (c1_i32 : BitVec 32) (k0_t1 : Fin k0_t1_loop.trips) :
    Tri c A V (A.app (k0_part11 i) c0_i32_29 c1_i32 k0_t1) (fun a W => (a, W) = e_part11 V i c0_i32_29 c1_i32 k0_t1) := by
  unfold Args.app
  rw [k0_part11_eq_skeleton]
  unfold k0_part11_skel
  refine Tri.load (has63 A) (fun _ => rfl) ?_
  refine Tri.load (has72 A) (fun _ => rfl) ?_
  refine Tri.load (has11 A) (fun _ => rfl) ?_
  refine Tri.load (has12 A) (fun _ => rfl) ?_
  exact Tri.pure rfl

/-- What `k0_part12` returns and leaves, from the contents `V`. -/
def e_part12 (V : St F) (i : grid0.Coords) (k0_t1 : Fin k0_t1_loop.trips) (v283 : BitVec 32) (v302 : FVec F S512x256 .bf16) (v310 : FVec F S1x256 .f32) (v311 : FVec F S1x256 .f32) (v312 : FVec F S1x256 .f32) (v313 : FVec F S1x256 .f32) (v314 : FVec F S1x256 .f32) (v315 : FVec F S1x256 .f32) (v316 : FVec F S1x256 .f32) (v318 : FVec F S1x256 .f32) (v319 : FVec F S1x256 .f32) (v320 : FVec F S1x256 .f32) (v321 : FVec F S1x256 .f32) (v322 : FVec F S1x256 .f32) (v323 : FVec F S1x256 .f32) (v324 : FVec F S1x256 .f32) (v331 : FVec F S64x256 .bf16) : (FVec F S512x256 .bf16) × St F :=
  let v383 : Vec F S512x256 .bf16 := fun j => V.x69 (((Rect.unit (s := S4096x256) (k0_off4 k0_t1) S512x256.size (k0_off4_inb k0_t1)).toLoadRect).idx j)
  let V1 : St F := V.s69 (((Rect.unit (s := S4096x256) (k0_off4 k0_t1) S512x256.size (k0_off4_inb k0_t1))).overlay V.x69 (k0_pay135 v302))
  let v387 : Vec F S512x256 .bf16 := fun j => V1.x66 (((Rect.unit (s := S4096x256) (k0_off4 k0_t1) S512x256.size (k0_off4_inb k0_t1)).toLoadRect).idx j)
  ((k0_pay134 v302 v310 v311 v312 v313 v314 v315 v316 v318 v319 v320 v321 v322 v323 v324 v331), V1)

theorem tri_part12 (c : Dev nD) (A : Args) (V : St F) (i : grid0.Coords) (k0_t1 : Fin k0_t1_loop.trips) (v283 : BitVec 32) (v302 : FVec F S512x256 .bf16) (v310 : FVec F S1x256 .f32) (v311 : FVec F S1x256 .f32) (v312 : FVec F S1x256 .f32) (v313 : FVec F S1x256 .f32) (v314 : FVec F S1x256 .f32) (v315 : FVec F S1x256 .f32) (v316 : FVec F S1x256 .f32) (v318 : FVec F S1x256 .f32) (v319 : FVec F S1x256 .f32) (v320 : FVec F S1x256 .f32) (v321 : FVec F S1x256 .f32) (v322 : FVec F S1x256 .f32) (v323 : FVec F S1x256 .f32) (v324 : FVec F S1x256 .f32) (v331 : FVec F S64x256 .bf16) :
    Tri c A V (A.app (k0_part12 i) k0_t1 v283 v302 v310 v311 v312 v313 v314 v315 v316 v318 v319 v320 v321 v322 v323 v324 v331) (fun a W => (a, W) = e_part12 V i k0_t1 v283 v302 v310 v311 v312 v313 v314 v315 v316 v318 v319 v320 v321 v322 v323 v324 v331) := by
  unfold Args.app
  rw [k0_part12_eq_skeleton]
  unfold k0_part12_skel
  refine Tri.load (has69 A) (fun _ => rfl) ?_
  refine Tri.store (has69 A) ?_
  refine Tri.load (has66 A) (fun _ => rfl) ?_
  exact Tri.pure rfl

/-- What `k0_part13` returns and leaves, from the contents `V`. -/
def e_part13 (V : St F) (i : grid0.Coords) (k0_t1 : Fin k0_t1_loop.trips) (v285 : BitVec 32) (v287 : BitVec 32) (v289 : Vec F S128x512 .bf16) (v381 : FVec F S512x256 .bf16) : (Σ' (v408 : FVec F S512x256 .bf16) (v416 : FVec F S1x256 .f32) (v417 : FVec F S1x256 .f32) (v418 : FVec F S1x256 .f32) (v419 : FVec F S1x256 .f32) (v420 : FVec F S1x256 .f32) (v421 : FVec F S1x256 .f32) (v422 : FVec F S1x256 .f32) (v424 : FVec F S1x256 .f32) (v425 : FVec F S1x256 .f32) (v426 : FVec F S1x256 .f32) (v427 : FVec F S1x256 .f32) (v428 : FVec F S1x256 .f32) (v429 : FVec F S1x256 .f32) (v430 : FVec F S1x256 .f32), FVec F S64x256 .f32) × St F :=
  let V1 : St F := V.s66 (((Rect.unit (s := S4096x256) (k0_off4 k0_t1) S512x256.size (k0_off4_inb k0_t1))).overlay V.x66 (k0_pay136 v381))
  let v390 : Vec F S128x256 .f32 := fun j => V1.x76 (((Rect.unit (s := S128x256) ![0, 0] S128x256.size inb_S128x256_S128x256_0_0).toLoadRect).idx j)
  let v393 : Vec F S128x256 .f32 := fun j => V1.x76 (((Rect.unit (s := S128x256) ![0, 0] S128x256.size inb_S128x256_S128x256_0_0).toLoadRect).idx j)
  let V2 : St F := V1.s76 (((Rect.unit (s := S128x256) ![0, 0] S128x256.size inb_S128x256_S128x256_0_0)).overlay V1.x76 (k0_pay137 v289 v381 v390))
  let v397 : Vec F S32x256 .i32 := fun j => V2.x73 (((Rect.unit (s := S256x256) (k0_off2 k0_t1) S32x256.size (k0_off2_inb k0_t1)).toLoadRect).idx j)
  let v410 : Vec F S8x256 .f32 := fun j => V2.x17 (((Rect.unit (s := S64x256) (k0_off3 k0_t1) S8x256.size (k0_off3_inb k0_t1)).toLoadRect).idx j)
  let v413 : Vec F S8x256 .f32 := fun j => V2.x18 (((Rect.unit (s := S64x256) (k0_off3 k0_t1) S8x256.size (k0_off3_inb k0_t1)).toLoadRect).idx j)
  (⟨k0_pay138 v397, k0_pay141 v410, k0_pay142 v410, k0_pay143 v410, k0_pay144 v410, k0_pay145 v410, k0_pay146 v410, k0_pay147 v410, k0_pay148 v413, k0_pay149 v413, k0_pay150 v413, k0_pay151 v413, k0_pay152 v413, k0_pay153 v413, k0_pay154 v413, k0_pay155 v397 v410 v413⟩, V2)

theorem tri_part13 (c : Dev nD) (A : Args) (V : St F) (i : grid0.Coords) (k0_t1 : Fin k0_t1_loop.trips) (v285 : BitVec 32) (v287 : BitVec 32) (v289 : Vec F S128x512 .bf16) (v381 : FVec F S512x256 .bf16) :
    Tri c A V (A.app (k0_part13 i) k0_t1 v285 v287 v289 v381) (fun a W => (a, W) = e_part13 V i k0_t1 v285 v287 v289 v381) := by
  unfold Args.app
  rw [k0_part13_eq_skeleton]
  unfold k0_part13_skel
  refine Tri.store (has66 A) ?_
  refine Tri.load (has76 A) (fun _ => rfl) ?_
  refine Tri.load (has76 A) (fun _ => rfl) ?_
  refine Tri.store (has76 A) ?_
  refine Tri.load (has73 A) (fun _ => rfl) ?_
  refine Tri.load (has17 A) (fun _ => rfl) ?_
  refine Tri.load (has18 A) (fun _ => rfl) ?_
  exact Tri.pure rfl

/-- What `k0_part14` returns and leaves, from the contents `V`. -/
def e_part14 (V : St F) (i : grid0.Coords) (k0_t1 : Fin k0_t1_loop.trips) (v283 : BitVec 32) (v408 : FVec F S512x256 .bf16) (v416 : FVec F S1x256 .f32) (v417 : FVec F S1x256 .f32) (v418 : FVec F S1x256 .f32) (v419 : FVec F S1x256 .f32) (v420 : FVec F S1x256 .f32) (v421 : FVec F S1x256 .f32) (v422 : FVec F S1x256 .f32) (v424 : FVec F S1x256 .f32) (v425 : FVec F S1x256 .f32) (v426 : FVec F S1x256 .f32) (v427 : FVec F S1x256 .f32) (v428 : FVec F S1x256 .f32) (v429 : FVec F S1x256 .f32) (v430 : FVec F S1x256 .f32) (v436 : FVec F S64x256 .f32) : (Σ' (v487 : FVec F S512x256 .bf16), Vec F S512x256 .bf16) × St F :=
  let v489 : Vec F S512x256 .bf16 := fun j => V.x70 (((Rect.unit (s := S4096x256) (k0_off4 k0_t1) S512x256.size (k0_off4_inb k0_t1)).toLoadRect).idx j)
  let V1 : St F := V.s70 (((Rect.unit (s := S4096x256) (k0_off4 k0_t1) S512x256.size (k0_off4_inb k0_t1))).overlay V.x70 (k0_pay157 v408))
  let v493 : Vec F S512x256 .bf16 := fun j => V1.x67 (((Rect.unit (s := S4096x256) (k0_off4 k0_t1) S512x256.size (k0_off4_inb k0_t1)).toLoadRect).idx j)
  (⟨k0_pay156 v408 v416 v417 v418 v419 v420 v421 v422 v424 v425 v426 v427 v428 v429 v430 v436, v493⟩, V1)

theorem tri_part14 (c : Dev nD) (A : Args) (V : St F) (i : grid0.Coords) (k0_t1 : Fin k0_t1_loop.trips) (v283 : BitVec 32) (v408 : FVec F S512x256 .bf16) (v416 : FVec F S1x256 .f32) (v417 : FVec F S1x256 .f32) (v418 : FVec F S1x256 .f32) (v419 : FVec F S1x256 .f32) (v420 : FVec F S1x256 .f32) (v421 : FVec F S1x256 .f32) (v422 : FVec F S1x256 .f32) (v424 : FVec F S1x256 .f32) (v425 : FVec F S1x256 .f32) (v426 : FVec F S1x256 .f32) (v427 : FVec F S1x256 .f32) (v428 : FVec F S1x256 .f32) (v429 : FVec F S1x256 .f32) (v430 : FVec F S1x256 .f32) (v436 : FVec F S64x256 .f32) :
    Tri c A V (A.app (k0_part14 i) k0_t1 v283 v408 v416 v417 v418 v419 v420 v421 v422 v424 v425 v426 v427 v428 v429 v430 v436) (fun a W => (a, W) = e_part14 V i k0_t1 v283 v408 v416 v417 v418 v419 v420 v421 v422 v424 v425 v426 v427 v428 v429 v430 v436) := by
  unfold Args.app
  rw [k0_part14_eq_skeleton]
  unfold k0_part14_skel
  refine Tri.load (has70 A) (fun _ => rfl) ?_
  refine Tri.store (has70 A) ?_
  refine Tri.load (has67 A) (fun _ => rfl) ?_
  exact Tri.pure rfl

/-- What `k0_part15` returns and leaves, from the contents `V`. -/
def e_part15 (V : St F) (i : grid0.Coords) (k0_t1 : Fin k0_t1_loop.trips) (v283 : BitVec 32) (v289 : Vec F S128x512 .bf16) (v487 : FVec F S512x256 .bf16) (v493 : Vec F S512x256 .bf16) : (Σ' (v515 : FVec F S256x512 .bf16) (v522 : FVec F S1x512 .f32) (v523 : FVec F S1x512 .f32) (v526 : FVec F S1x512 .f32) (v527 : FVec F S1x512 .f32) (v534 : FVec F S64x512 .bf16), FVec F S64x512 .bf16) × St F :=
  let V1 : St F := V.s67 (((Rect.unit (s := S4096x256) (k0_off4 k0_t1) S512x256.size (k0_off4_inb k0_t1))).overlay V.x67 (k0_pay158 v487))
  let v496 : Vec F S128x256 .f32 := fun j => V1.x77 (((Rect.unit (s := S128x256) ![0, 0] S128x256.size inb_S128x256_S128x256_0_0).toLoadRect).idx j)
  let v499 : Vec F S128x256 .f32 := fun j => V1.x77 (((Rect.unit (s := S128x256) ![0, 0] S128x256.size inb_S128x256_S128x256_0_0).toLoadRect).idx j)
  let V2 : St F := V1.s77 (((Rect.unit (s := S128x256) ![0, 0] S128x256.size inb_S128x256_S128x256_0_0)).overlay V1.x77 (k0_pay159 v289 v487 v496))
  let v503 : Vec F S16x512 .i32 := fun j => V2.x10 (((Rect.unit (s := S16x4096) (k0_off5 k0_t1) S16x512.size (k0_off5_inb k0_t1)).toLoadRect).idx j)
  let v517 : Vec F S4x512 .f32 := fun j => V2.x80 (((Rect.unit (s := S4x4096) (k0_off6 k0_t1) S4x512.size (k0_off6_inb k0_t1)).toLoadRect).idx j)
  let v519 : Vec F S4x512 .f32 := fun j => V2.x81 (((Rect.unit (s := S4x4096) (k0_off6 k0_t1) S4x512.size (k0_off6_inb k0_t1)).toLoadRect).idx j)
  (⟨k0_pay160 v503, k0_pay161 v517, k0_pay162 v517, k0_pay163 v519, k0_pay164 v519, k0_pay165 v503 v517 v519, k0_pay166 v503 v517 v519⟩, V2)

theorem tri_part15 (c : Dev nD) (A : Args) (V : St F) (i : grid0.Coords) (k0_t1 : Fin k0_t1_loop.trips) (v283 : BitVec 32) (v289 : Vec F S128x512 .bf16) (v487 : FVec F S512x256 .bf16) (v493 : Vec F S512x256 .bf16) :
    Tri c A V (A.app (k0_part15 i) k0_t1 v283 v289 v487 v493) (fun a W => (a, W) = e_part15 V i k0_t1 v283 v289 v487 v493) := by
  unfold Args.app
  rw [k0_part15_eq_skeleton]
  unfold k0_part15_skel
  refine Tri.store (has67 A) ?_
  refine Tri.load (has77 A) (fun _ => rfl) ?_
  refine Tri.load (has77 A) (fun _ => rfl) ?_
  refine Tri.store (has77 A) ?_
  refine Tri.load (has10 A) (fun _ => rfl) ?_
  refine Tri.load (has80 A) (fun _ => rfl) ?_
  refine Tri.load (has81 A) (fun _ => rfl) ?_
  exact Tri.pure rfl

/-- What `k0_t1_body` returns and leaves, from the contents `V`. -/
def e_t1 (V : St F) (i : grid0.Coords) (v28 : FVec F S4x4096 .f32) (v29 : Vec F S4x4096 .f32) (k0_t1 : Fin k0_t1_loop.trips) : Unit × St F :=
  let p1 := e_part11 V i 0#32 1#32 k0_t1
  let v283 := p1.1.1
  let v285 := p1.1.2.1
  let v287 := p1.1.2.2.1
  let v289 := p1.1.2.2.2.1
  let v302 := p1.1.2.2.2.2.1
  let v310 := p1.1.2.2.2.2.2.1
  let v311 := p1.1.2.2.2.2.2.2.1
  let v312 := p1.1.2.2.2.2.2.2.2.1
  let v313 := p1.1.2.2.2.2.2.2.2.2.1
  let v314 := p1.1.2.2.2.2.2.2.2.2.2.1
  let v315 := p1.1.2.2.2.2.2.2.2.2.2.2.1
  let v316 := p1.1.2.2.2.2.2.2.2.2.2.2.2.1
  let v318 := p1.1.2.2.2.2.2.2.2.2.2.2.2.2.1
  let v319 := p1.1.2.2.2.2.2.2.2.2.2.2.2.2.2.1
  let v320 := p1.1.2.2.2.2.2.2.2.2.2.2.2.2.2.2.1
  let v321 := p1.1.2.2.2.2.2.2.2.2.2.2.2.2.2.2.2.1
  let v322 := p1.1.2.2.2.2.2.2.2.2.2.2.2.2.2.2.2.2.1
  let v323 := p1.1.2.2.2.2.2.2.2.2.2.2.2.2.2.2.2.2.2.1
  let v324 := p1.1.2.2.2.2.2.2.2.2.2.2.2.2.2.2.2.2.2.2.1
  let v331 := p1.1.2.2.2.2.2.2.2.2.2.2.2.2.2.2.2.2.2.2.2
  let V1 : St F := p1.2
  let p2 := e_part12 V1 i k0_t1 v283 v302 v310 v311 v312 v313 v314 v315 v316 v318 v319 v320 v321 v322 v323 v324 v331
  let v381 := p2.1
  let V2 : St F := p2.2
  let p3 := e_part13 V2 i k0_t1 v285 v287 v289 v381
  let v408 := p3.1.1
  let v416 := p3.1.2.1
  let v417 := p3.1.2.2.1
  let v418 := p3.1.2.2.2.1
  let v419 := p3.1.2.2.2.2.1
  let v420 := p3.1.2.2.2.2.2.1
  let v421 := p3.1.2.2.2.2.2.2.1
  let v422 := p3.1.2.2.2.2.2.2.2.1
  let v424 := p3.1.2.2.2.2.2.2.2.2.1
  let v425 := p3.1.2.2.2.2.2.2.2.2.2.1
  let v426 := p3.1.2.2.2.2.2.2.2.2.2.2.1
  let v427 := p3.1.2.2.2.2.2.2.2.2.2.2.2.1
  let v428 := p3.1.2.2.2.2.2.2.2.2.2.2.2.2.1
  let v429 := p3.1.2.2.2.2.2.2.2.2.2.2.2.2.2.1
  let v430 := p3.1.2.2.2.2.2.2.2.2.2.2.2.2.2.2.1
  let v436 := p3.1.2.2.2.2.2.2.2.2.2.2.2.2.2.2.2
  let V3 : St F := p3.2
  let p4 := e_part14 V3 i k0_t1 v283 v408 v416 v417 v418 v419 v420 v421 v422 v424 v425 v426 v427 v428 v429 v430 v436
  let v487 := p4.1.1
  let v493 := p4.1.2
  let V4 : St F := p4.2
  let p5 := e_part15 V4 i k0_t1 v283 v289 v487 v493
  let v515 := p5.1.1
  let v522 := p5.1.2.1
  let v523 := p5.1.2.2.1
  let v526 := p5.1.2.2.2.1
  let v527 := p5.1.2.2.2.2.1
  let v534 := p5.1.2.2.2.2.2.1
  let v541 := p5.1.2.2.2.2.2.2
  let V5 : St F := p5.2
  let v558 : Vec F S256x512 .bf16 := fun j => V5.x71 (((Rect.unit (s := S256x4096) (k0_off7 k0_t1) S256x512.size (k0_off7_inb k0_t1)).toLoadRect).idx j)
  let V6 : St F := V5.s71 (((Rect.unit (s := S256x4096) (k0_off7 k0_t1) S256x512.size (k0_off7_inb k0_t1))).overlay V5.x71 (k0_pay257 v515))
  let v562 : Vec F S256x512 .bf16 := fun j => V6.x68 (((Rect.unit (s := S256x4096) (k0_off7 k0_t1) S256x512.size (k0_off7_inb k0_t1)).toLoadRect).idx j)
  let V7 : St F := V6.s68 (((Rect.unit (s := S256x4096) (k0_off7 k0_t1) S256x512.size (k0_off7_inb k0_t1))).overlay V6.x68 (k0_pay258 v515 v522 v523 v526 v527 v534 v541))
  let v565 : Vec F S128x256 .f32 := fun j => V7.x78 (((Rect.unit (s := S128x256) ![0, 0] S128x256.size inb_S128x256_S128x256_0_0).toLoadRect).idx j)
  let v567 : Vec F S128x512 .bf16 := fun j => V7.x2 (((Rect.unit (s := S128x4096) (k0_off1 k0_t1) S128x512.size (k0_off1_inb k0_t1)).toLoadRect).idx j)
  let v571 : Vec F S128x256 .f32 := fun j => V7.x78 (((Rect.unit (s := S128x256) ![0, 0] S128x256.size inb_S128x256_S128x256_0_0).toLoadRect).idx j)
  let V8 : St F := V7.s78 (((Rect.unit (s := S128x256) ![0, 0] S128x256.size inb_S128x256_S128x256_0_0)).overlay V7.x78 (k0_pay259 v515 v522 v523 v526 v527 v534 v541 v565 v567))
  (⟨⟩, V8)

theorem tri_t1 (c : Dev nD) (A : Args) (V : St F) (i : grid0.Coords) (v28 : FVec F S4x4096 .f32) (v29 : Vec F S4x4096 .f32) (k : Fin k0_t1_loop.trips) (a : Unit) :
    Tri c A V (A.app (k0_t1_body i) v28 v29 k a) (fun a W => (a, W) = e_t1 V i v28 v29 k) := by
  unfold Args.app
  unfold k0_t1_body
  refine Tri.bind ((tri_part11 c A _ _ _ _ _).mono ?_)
  rintro ⟨v283, v285, v287, v289, v302, v310, v311, v312, v313, v314, v315, v316, v318, v319, v320, v321, v322, v323, v324, v331⟩ V_ h_
  have hV_ := congrArg Prod.snd h_
  change V_ = _ at hV_
  have hv283 := congrArg (fun p => p.1.1) h_
  beta_reduce at hv283
  change v283 = _ at hv283
  have hv285 := congrArg (fun p => p.1.2.1) h_
  beta_reduce at hv285
  change v285 = _ at hv285
  have hv287 := congrArg (fun p => p.1.2.2.1) h_
  beta_reduce at hv287
  change v287 = _ at hv287
  have hv289 := congrArg (fun p => p.1.2.2.2.1) h_
  beta_reduce at hv289
  change v289 = _ at hv289
  have hv302 := congrArg (fun p => p.1.2.2.2.2.1) h_
  beta_reduce at hv302
  change v302 = _ at hv302
  have hv310 := congrArg (fun p => p.1.2.2.2.2.2.1) h_
  beta_reduce at hv310
  change v310 = _ at hv310
  have hv311 := congrArg (fun p => p.1.2.2.2.2.2.2.1) h_
  beta_reduce at hv311
  change v311 = _ at hv311
  have hv312 := congrArg (fun p => p.1.2.2.2.2.2.2.2.1) h_
  beta_reduce at hv312
  change v312 = _ at hv312
  have hv313 := congrArg (fun p => p.1.2.2.2.2.2.2.2.2.1) h_
  beta_reduce at hv313
  change v313 = _ at hv313
  have hv314 := congrArg (fun p => p.1.2.2.2.2.2.2.2.2.2.1) h_
  beta_reduce at hv314
  change v314 = _ at hv314
  have hv315 := congrArg (fun p => p.1.2.2.2.2.2.2.2.2.2.2.1) h_
  beta_reduce at hv315
  change v315 = _ at hv315
  have hv316 := congrArg (fun p => p.1.2.2.2.2.2.2.2.2.2.2.2.1) h_
  beta_reduce at hv316
  change v316 = _ at hv316
  have hv318 := congrArg (fun p => p.1.2.2.2.2.2.2.2.2.2.2.2.2.1) h_
  beta_reduce at hv318
  change v318 = _ at hv318
  have hv319 := congrArg (fun p => p.1.2.2.2.2.2.2.2.2.2.2.2.2.2.1) h_
  beta_reduce at hv319
  change v319 = _ at hv319
  have hv320 := congrArg (fun p => p.1.2.2.2.2.2.2.2.2.2.2.2.2.2.2.1) h_
  beta_reduce at hv320
  change v320 = _ at hv320
  have hv321 := congrArg (fun p => p.1.2.2.2.2.2.2.2.2.2.2.2.2.2.2.2.1) h_
  beta_reduce at hv321
  change v321 = _ at hv321
  have hv322 := congrArg (fun p => p.1.2.2.2.2.2.2.2.2.2.2.2.2.2.2.2.2.1) h_
  beta_reduce at hv322
  change v322 = _ at hv322
  have hv323 := congrArg (fun p => p.1.2.2.2.2.2.2.2.2.2.2.2.2.2.2.2.2.2.1) h_
  beta_reduce at hv323
  change v323 = _ at hv323
  have hv324 := congrArg (fun p => p.1.2.2.2.2.2.2.2.2.2.2.2.2.2.2.2.2.2.2.1) h_
  beta_reduce at hv324
  change v324 = _ at hv324
  have hv331 := congrArg (fun p => p.1.2.2.2.2.2.2.2.2.2.2.2.2.2.2.2.2.2.2.2) h_
  beta_reduce at hv331
  change v331 = _ at hv331
  clear h_
  subst hV_ hv283 hv285 hv287 hv289 hv302 hv310 hv311 hv312 hv313 hv314 hv315 hv316 hv318 hv319 hv320 hv321 hv322 hv323 hv324 hv331
  refine Tri.bind ((tri_part12 c A _ _ _ _ _ _ _ _ _ _ _ _ _ _ _ _ _ _ _ _).mono ?_)
  rintro v381 V_ h_
  have hV_ := congrArg Prod.snd h_
  change V_ = _ at hV_
  have hv381 := congrArg (fun p => p.1) h_
  beta_reduce at hv381
  change v381 = _ at hv381
  clear h_
  subst hV_ hv381
  refine Tri.bind ((tri_part13 c A _ _ _ _ _ _ _).mono ?_)
  rintro ⟨v408, v416, v417, v418, v419, v420, v421, v422, v424, v425, v426, v427, v428, v429, v430, v436⟩ V_ h_
  have hV_ := congrArg Prod.snd h_
  change V_ = _ at hV_
  have hv408 := congrArg (fun p => p.1.1) h_
  beta_reduce at hv408
  change v408 = _ at hv408
  have hv416 := congrArg (fun p => p.1.2.1) h_
  beta_reduce at hv416
  change v416 = _ at hv416
  have hv417 := congrArg (fun p => p.1.2.2.1) h_
  beta_reduce at hv417
  change v417 = _ at hv417
  have hv418 := congrArg (fun p => p.1.2.2.2.1) h_
  beta_reduce at hv418
  change v418 = _ at hv418
  have hv419 := congrArg (fun p => p.1.2.2.2.2.1) h_
  beta_reduce at hv419
  change v419 = _ at hv419
  have hv420 := congrArg (fun p => p.1.2.2.2.2.2.1) h_
  beta_reduce at hv420
  change v420 = _ at hv420
  have hv421 := congrArg (fun p => p.1.2.2.2.2.2.2.1) h_
  beta_reduce at hv421
  change v421 = _ at hv421
  have hv422 := congrArg (fun p => p.1.2.2.2.2.2.2.2.1) h_
  beta_reduce at hv422
  change v422 = _ at hv422
  have hv424 := congrArg (fun p => p.1.2.2.2.2.2.2.2.2.1) h_
  beta_reduce at hv424
  change v424 = _ at hv424
  have hv425 := congrArg (fun p => p.1.2.2.2.2.2.2.2.2.2.1) h_
  beta_reduce at hv425
  change v425 = _ at hv425
  have hv426 := congrArg (fun p => p.1.2.2.2.2.2.2.2.2.2.2.1) h_
  beta_reduce at hv426
  change v426 = _ at hv426
  have hv427 := congrArg (fun p => p.1.2.2.2.2.2.2.2.2.2.2.2.1) h_
  beta_reduce at hv427
  change v427 = _ at hv427
  have hv428 := congrArg (fun p => p.1.2.2.2.2.2.2.2.2.2.2.2.2.1) h_
  beta_reduce at hv428
  change v428 = _ at hv428
  have hv429 := congrArg (fun p => p.1.2.2.2.2.2.2.2.2.2.2.2.2.2.1) h_
  beta_reduce at hv429
  change v429 = _ at hv429
  have hv430 := congrArg (fun p => p.1.2.2.2.2.2.2.2.2.2.2.2.2.2.2.1) h_
  beta_reduce at hv430
  change v430 = _ at hv430
  have hv436 := congrArg (fun p => p.1.2.2.2.2.2.2.2.2.2.2.2.2.2.2.2) h_
  beta_reduce at hv436
  change v436 = _ at hv436
  clear h_
  subst hV_ hv408 hv416 hv417 hv418 hv419 hv420 hv421 hv422 hv424 hv425 hv426 hv427 hv428 hv429 hv430 hv436
  refine Tri.bind ((tri_part14 c A _ _ _ _ _ _ _ _ _ _ _ _ _ _ _ _ _ _ _ _).mono ?_)
  rintro ⟨v487, v493⟩ V_ h_
  have hV_ := congrArg Prod.snd h_
  change V_ = _ at hV_
  have hv487 := congrArg (fun p => p.1.1) h_
  beta_reduce at hv487
  change v487 = _ at hv487
  have hv493 := congrArg (fun p => p.1.2) h_
  beta_reduce at hv493
  change v493 = _ at hv493
  clear h_
  subst hV_ hv487 hv493
  refine Tri.bind ((tri_part15 c A _ _ _ _ _ _ _).mono ?_)
  rintro ⟨v515, v522, v523, v526, v527, v534, v541⟩ V_ h_
  have hV_ := congrArg Prod.snd h_
  change V_ = _ at hV_
  have hv515 := congrArg (fun p => p.1.1) h_
  beta_reduce at hv515
  change v515 = _ at hv515
  have hv522 := congrArg (fun p => p.1.2.1) h_
  beta_reduce at hv522
  change v522 = _ at hv522
  have hv523 := congrArg (fun p => p.1.2.2.1) h_
  beta_reduce at hv523
  change v523 = _ at hv523
  have hv526 := congrArg (fun p => p.1.2.2.2.1) h_
  beta_reduce at hv526
  change v526 = _ at hv526
  have hv527 := congrArg (fun p => p.1.2.2.2.2.1) h_
  beta_reduce at hv527
  change v527 = _ at hv527
  have hv534 := congrArg (fun p => p.1.2.2.2.2.2.1) h_
  beta_reduce at hv534
  change v534 = _ at hv534
  have hv541 := congrArg (fun p => p.1.2.2.2.2.2.2) h_
  beta_reduce at hv541
  change v541 = _ at hv541
  clear h_
  subst hV_ hv515 hv522 hv523 hv526 hv527 hv534 hv541
  refine Tri.load (has71 A) (fun _ => rfl) ?_
  refine Tri.store (has71 A) ?_
  refine Tri.load (has68 A) (fun _ => rfl) ?_
  refine Tri.store (has68 A) ?_
  refine Tri.load (has78 A) (fun _ => rfl) ?_
  refine Tri.load (has2 A) (fun _ => rfl) ?_
  refine Tri.load (has78 A) (fun _ => rfl) ?_
  refine Tri.store (has78 A) ?_
  exact Tri.pure rfl

/-- What `k0_part16` returns and leaves, from the contents `V`. -/
def e_part16 (V : St F) (i : grid0.Coords) (v66 : FVec F S128x256 .bf16) (c0_i32_49 : BitVec 32) (c1_i32_51 : BitVec 32) (k0_t2 : Fin k0_t2_loop.trips) : (Σ' (v283 : BitVec 32) (v285 : BitVec 32) (v287 : Vec F S512x128 .bf16), FVec F S8x128 .f32) × St F :=
  let arg88 : BitVec 32 := Scf.iv c0_i32_49 c1_i32_51 k0_t2
  let v282 : BitVec 32 := Scalar.muli arg88 512#32
  let v283 : BitVec 32 := v282
  let v284 : BitVec 32 := Scalar.muli arg88 8#32
  let v285 : BitVec 32 := v284
  let v287 : Vec F S512x128 .bf16 := fun j => V.x64 (((Rect.unit (s := S4288x128) (k0_off8 k0_t2) S512x128.size (k0_off8_inb k0_t2)).toLoadRect).idx j)
  let v290 : Vec F S512x256 .bf16 := fun j => V.x69 (((Rect.unit (s := S4096x256) (k0_off9 k0_t2) S512x256.size (k0_off9_inb k0_t2)).toLoadRect).idx j)
  let v297 : Vec F S1x64x128 .f32 := fun j => V.x86 (((Rect.unit (s := S2x64x128) ![0, 0, 0] S1x64x128.size inb_S2x64x128_S1x64x128_0_0_0).toLoadRect).idx j)
  let V1 : St F := V.s86 (((Rect.unit (s := S2x64x128) ![0, 0, 0] S1x64x128.size inb_S2x64x128_S1x64x128_0_0_0)).overlay V.x86 (k0_pay168 v66 v287 v290))
  let v301 : Vec F S1x64x128 .f32 := fun j => V1.x86 (((Rect.unit (s := S2x64x128) ![1, 0, 0] S1x64x128.size inb_S2x64x128_S1x64x128_1_0_0).toLoadRect).idx j)
  let V2 : St F := V1.s86 (((Rect.unit (s := S2x64x128) ![1, 0, 0] S1x64x128.size inb_S2x64x128_S1x64x128_1_0_0)).overlay V1.x86 (k0_pay169 v66 v287 v290))
  let v304 : Vec F S1x8x128 .f32 := fun j => V2.x86 (((⟨![0, 0, 0], S1x8x128.size, ![1, 8, 1], inb_S2x64x128_S1x8x128_0_0_0_s_1_8_1⟩ : LoadRect S2x64x128)).idx j)
  let v306 : Vec F S1x8x128 .f32 := fun j => V2.x86 (((⟨![0, 1, 0], S1x8x128.size, ![1, 8, 1], inb_S2x64x128_S1x8x128_0_1_0_s_1_8_1⟩ : LoadRect S2x64x128)).idx j)
  let v309 : Vec F S1x8x128 .f32 := fun j => V2.x86 (((⟨![0, 2, 0], S1x8x128.size, ![1, 8, 1], inb_S2x64x128_S1x8x128_0_2_0_s_1_8_1⟩ : LoadRect S2x64x128)).idx j)
  let v312 : Vec F S1x8x128 .f32 := fun j => V2.x86 (((⟨![0, 3, 0], S1x8x128.size, ![1, 8, 1], inb_S2x64x128_S1x8x128_0_3_0_s_1_8_1⟩ : LoadRect S2x64x128)).idx j)
  (⟨v283, v285, v287, k0_pay170 v304 v306 v309 v312⟩, V2)

theorem tri_part16 (c : Dev nD) (A : Args) (V : St F) (i : grid0.Coords) (v66 : FVec F S128x256 .bf16) (c0_i32_49 : BitVec 32) (c1_i32_51 : BitVec 32) (k0_t2 : Fin k0_t2_loop.trips) :
    Tri c A V (A.app (k0_part16 i) v66 c0_i32_49 c1_i32_51 k0_t2) (fun a W => (a, W) = e_part16 V i v66 c0_i32_49 c1_i32_51 k0_t2) := by
  unfold Args.app
  rw [k0_part16_eq_skeleton]
  unfold k0_part16_skel
  refine Tri.load (has64 A) (fun _ => rfl) ?_
  refine Tri.load (has69 A) (fun _ => rfl) ?_
  refine Tri.load (has86 A) (fun _ => rfl) ?_
  refine Tri.store (has86 A) ?_
  refine Tri.load (has86 A) (fun _ => rfl) ?_
  refine Tri.store (has86 A) ?_
  refine Tri.load (has86 A) (fun _ => rfl) ?_
  refine Tri.load (has86 A) (fun _ => rfl) ?_
  refine Tri.load (has86 A) (fun _ => rfl) ?_
  refine Tri.load (has86 A) (fun _ => rfl) ?_
  exact Tri.pure rfl

/-- What `k0_part17` returns and leaves, from the contents `V`. -/
def e_part17 (V : St F) (i : grid0.Coords) (v314 : FVec F S8x128 .f32) : (Σ' (v326 : FVec F S8x128 .f32), FVec F S8x128 .f32) × St F :=
  let v315 : Vec F S1x8x128 .f32 := fun j => V.x86 (((⟨![0, 4, 0], S1x8x128.size, ![1, 8, 1], inb_S2x64x128_S1x8x128_0_4_0_s_1_8_1⟩ : LoadRect S2x64x128)).idx j)
  let v318 : Vec F S1x8x128 .f32 := fun j => V.x86 (((⟨![0, 5, 0], S1x8x128.size, ![1, 8, 1], inb_S2x64x128_S1x8x128_0_5_0_s_1_8_1⟩ : LoadRect S2x64x128)).idx j)
  let v321 : Vec F S1x8x128 .f32 := fun j => V.x86 (((⟨![0, 6, 0], S1x8x128.size, ![1, 8, 1], inb_S2x64x128_S1x8x128_0_6_0_s_1_8_1⟩ : LoadRect S2x64x128)).idx j)
  let v324 : Vec F S1x8x128 .f32 := fun j => V.x86 (((⟨![0, 7, 0], S1x8x128.size, ![1, 8, 1], inb_S2x64x128_S1x8x128_0_7_0_s_1_8_1⟩ : LoadRect S2x64x128)).idx j)
  let v327 : Vec F S1x8x128 .f32 := fun j => V.x86 (((⟨![1, 0, 0], S1x8x128.size, ![1, 8, 1], inb_S2x64x128_S1x8x128_1_0_0_s_1_8_1⟩ : LoadRect S2x64x128)).idx j)
  let v329 : Vec F S1x8x128 .f32 := fun j => V.x86 (((⟨![1, 1, 0], S1x8x128.size, ![1, 8, 1], inb_S2x64x128_S1x8x128_1_1_0_s_1_8_1⟩ : LoadRect S2x64x128)).idx j)
  let v332 : Vec F S1x8x128 .f32 := fun j => V.x86 (((⟨![1, 2, 0], S1x8x128.size, ![1, 8, 1], inb_S2x64x128_S1x8x128_1_2_0_s_1_8_1⟩ : LoadRect S2x64x128)).idx j)
  let v335 : Vec F S1x8x128 .f32 := fun j => V.x86 (((⟨![1, 3, 0], S1x8x128.size, ![1, 8, 1], inb_S2x64x128_S1x8x128_1_3_0_s_1_8_1⟩ : LoadRect S2x64x128)).idx j)
  let v338 : Vec F S1x8x128 .f32 := fun j => V.x86 (((⟨![1, 4, 0], S1x8x128.size, ![1, 8, 1], inb_S2x64x128_S1x8x128_1_4_0_s_1_8_1⟩ : LoadRect S2x64x128)).idx j)
  let v341 : Vec F S1x8x128 .f32 := fun j => V.x86 (((⟨![1, 5, 0], S1x8x128.size, ![1, 8, 1], inb_S2x64x128_S1x8x128_1_5_0_s_1_8_1⟩ : LoadRect S2x64x128)).idx j)
  (⟨k0_pay171 v314 v315 v318 v321 v324, k0_pay172 v327 v329 v332 v335 v338 v341⟩, V)

theorem tri_part17 (c : Dev nD) (A : Args) (V : St F) (i : grid0.Coords) (v314 : FVec F S8x128 .f32) :
    Tri c A V (A.app (k0_part17 i) v314) (fun a W => (a, W) = e_part17 V i v314) := by
  unfold Args.app
  rw [k0_part17_eq_skeleton]
  unfold k0_part17_skel
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  exact Tri.pure rfl

/-- What `k0_part18` returns and leaves, from the contents `V`. -/
def e_part18 (V : St F) (i : grid0.Coords) (v69 : FVec F S128x256 .bf16) (k0_t2 : Fin k0_t2_loop.trips) (v283 : BitVec 32) (v285 : BitVec 32) (v287 : Vec F S512x128 .bf16) (v326 : FVec F S8x128 .f32) (v343 : FVec F S8x128 .f32) : (Σ' (v375 : FVec F S8x128 .f32), Vec F S1x8x128 .f32) × St F :=
  let v344 : Vec F S1x8x128 .f32 := fun j => V.x86 (((⟨![1, 6, 0], S1x8x128.size, ![1, 8, 1], inb_S2x64x128_S1x8x128_1_6_0_s_1_8_1⟩ : LoadRect S2x64x128)).idx j)
  let v347 : Vec F S1x8x128 .f32 := fun j => V.x86 (((⟨![1, 7, 0], S1x8x128.size, ![1, 8, 1], inb_S2x64x128_S1x8x128_1_7_0_s_1_8_1⟩ : LoadRect S2x64x128)).idx j)
  let v352 : Vec F S8x256 .f32 := fun j => V.x82 (((Rect.unit (s := S64x256) (k0_off10 k0_t2) S8x256.size (k0_off10_inb k0_t2)).toLoadRect).idx j)
  let V1 : St F := V.s82 (((Rect.unit (s := S64x256) (k0_off10 k0_t2) S8x256.size (k0_off10_inb k0_t2))).overlay V.x82 (k0_pay173 v326 v343 v344 v347))
  let v357 : Vec F S512x256 .bf16 := fun j => V1.x70 (((Rect.unit (s := S4096x256) (k0_off9 k0_t2) S512x256.size (k0_off9_inb k0_t2)).toLoadRect).idx j)
  let v364 : Vec F S1x64x128 .f32 := fun j => V1.x86 (((Rect.unit (s := S2x64x128) ![0, 0, 0] S1x64x128.size inb_S2x64x128_S1x64x128_0_0_0).toLoadRect).idx j)
  let V2 : St F := V1.s86 (((Rect.unit (s := S2x64x128) ![0, 0, 0] S1x64x128.size inb_S2x64x128_S1x64x128_0_0_0)).overlay V1.x86 (k0_pay175 v69 v287 v357))
  let v368 : Vec F S1x64x128 .f32 := fun j => V2.x86 (((Rect.unit (s := S2x64x128) ![1, 0, 0] S1x64x128.size inb_S2x64x128_S1x64x128_1_0_0).toLoadRect).idx j)
  let V3 : St F := V2.s86 (((Rect.unit (s := S2x64x128) ![1, 0, 0] S1x64x128.size inb_S2x64x128_S1x64x128_1_0_0)).overlay V2.x86 (k0_pay176 v69 v287 v357))
  let v371 : Vec F S1x8x128 .f32 := fun j => V3.x86 (((⟨![0, 0, 0], S1x8x128.size, ![1, 8, 1], inb_S2x64x128_S1x8x128_0_0_0_s_1_8_1⟩ : LoadRect S2x64x128)).idx j)
  let v373 : Vec F S1x8x128 .f32 := fun j => V3.x86 (((⟨![0, 1, 0], S1x8x128.size, ![1, 8, 1], inb_S2x64x128_S1x8x128_0_1_0_s_1_8_1⟩ : LoadRect S2x64x128)).idx j)
  let v376 : Vec F S1x8x128 .f32 := fun j => V3.x86 (((⟨![0, 2, 0], S1x8x128.size, ![1, 8, 1], inb_S2x64x128_S1x8x128_0_2_0_s_1_8_1⟩ : LoadRect S2x64x128)).idx j)
  (⟨k0_pay177 v371 v373, v376⟩, V3)

theorem tri_part18 (c : Dev nD) (A : Args) (V : St F) (i : grid0.Coords) (v69 : FVec F S128x256 .bf16) (k0_t2 : Fin k0_t2_loop.trips) (v283 : BitVec 32) (v285 : BitVec 32) (v287 : Vec F S512x128 .bf16) (v326 : FVec F S8x128 .f32) (v343 : FVec F S8x128 .f32) :
    Tri c A V (A.app (k0_part18 i) v69 k0_t2 v283 v285 v287 v326 v343) (fun a W => (a, W) = e_part18 V i v69 k0_t2 v283 v285 v287 v326 v343) := by
  unfold Args.app
  rw [k0_part18_eq_skeleton]
  unfold k0_part18_skel
  refine Tri.load (has86 A) (fun _ => rfl) ?_
  refine Tri.load (has86 A) (fun _ => rfl) ?_
  refine Tri.load (has82 A) (fun _ => rfl) ?_
  refine Tri.store (has82 A) ?_
  refine Tri.load (has70 A) (fun _ => rfl) ?_
  refine Tri.load (has86 A) (fun _ => rfl) ?_
  refine Tri.store (has86 A) ?_
  refine Tri.load (has86 A) (fun _ => rfl) ?_
  refine Tri.store (has86 A) ?_
  refine Tri.load (has86 A) (fun _ => rfl) ?_
  refine Tri.load (has86 A) (fun _ => rfl) ?_
  refine Tri.load (has86 A) (fun _ => rfl) ?_
  exact Tri.pure rfl

/-- What `k0_part19` returns and leaves, from the contents `V`. -/
def e_part19 (V : St F) (i : grid0.Coords) (v375 : FVec F S8x128 .f32) (v376 : Vec F S1x8x128 .f32) : (Σ' (v393 : FVec F S8x128 .f32) (v404 : FVec F S8x128 .f32), FVec F S8x128 .f32) × St F :=
  let v379 : Vec F S1x8x128 .f32 := fun j => V.x86 (((⟨![0, 3, 0], S1x8x128.size, ![1, 8, 1], inb_S2x64x128_S1x8x128_0_3_0_s_1_8_1⟩ : LoadRect S2x64x128)).idx j)
  let v382 : Vec F S1x8x128 .f32 := fun j => V.x86 (((⟨![0, 4, 0], S1x8x128.size, ![1, 8, 1], inb_S2x64x128_S1x8x128_0_4_0_s_1_8_1⟩ : LoadRect S2x64x128)).idx j)
  let v385 : Vec F S1x8x128 .f32 := fun j => V.x86 (((⟨![0, 5, 0], S1x8x128.size, ![1, 8, 1], inb_S2x64x128_S1x8x128_0_5_0_s_1_8_1⟩ : LoadRect S2x64x128)).idx j)
  let v388 : Vec F S1x8x128 .f32 := fun j => V.x86 (((⟨![0, 6, 0], S1x8x128.size, ![1, 8, 1], inb_S2x64x128_S1x8x128_0_6_0_s_1_8_1⟩ : LoadRect S2x64x128)).idx j)
  let v391 : Vec F S1x8x128 .f32 := fun j => V.x86 (((⟨![0, 7, 0], S1x8x128.size, ![1, 8, 1], inb_S2x64x128_S1x8x128_0_7_0_s_1_8_1⟩ : LoadRect S2x64x128)).idx j)
  let v394 : Vec F S1x8x128 .f32 := fun j => V.x86 (((⟨![1, 0, 0], S1x8x128.size, ![1, 8, 1], inb_S2x64x128_S1x8x128_1_0_0_s_1_8_1⟩ : LoadRect S2x64x128)).idx j)
  let v396 : Vec F S1x8x128 .f32 := fun j => V.x86 (((⟨![1, 1, 0], S1x8x128.size, ![1, 8, 1], inb_S2x64x128_S1x8x128_1_1_0_s_1_8_1⟩ : LoadRect S2x64x128)).idx j)
  let v399 : Vec F S1x8x128 .f32 := fun j => V.x86 (((⟨![1, 2, 0], S1x8x128.size, ![1, 8, 1], inb_S2x64x128_S1x8x128_1_2_0_s_1_8_1⟩ : LoadRect S2x64x128)).idx j)
  let v402 : Vec F S1x8x128 .f32 := fun j => V.x86 (((⟨![1, 3, 0], S1x8x128.size, ![1, 8, 1], inb_S2x64x128_S1x8x128_1_3_0_s_1_8_1⟩ : LoadRect S2x64x128)).idx j)
  let v405 : Vec F S1x8x128 .f32 := fun j => V.x86 (((⟨![1, 4, 0], S1x8x128.size, ![1, 8, 1], inb_S2x64x128_S1x8x128_1_4_0_s_1_8_1⟩ : LoadRect S2x64x128)).idx j)
  (⟨k0_pay178 v375 v376 v379 v382 v385 v388 v391, k0_pay179 v394 v396 v399 v402, k0_pay180 v405⟩, V)

theorem tri_part19 (c : Dev nD) (A : Args) (V : St F) (i : grid0.Coords) (v375 : FVec F S8x128 .f32) (v376 : Vec F S1x8x128 .f32) :
    Tri c A V (A.app (k0_part19 i) v375 v376) (fun a W => (a, W) = e_part19 V i v375 v376) := by
  unfold Args.app
  rw [k0_part19_eq_skeleton]
  unfold k0_part19_skel
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  refine Tri.load (has86 A) (fun _ => rfl) ?_
  exact Tri.pure rfl

/-- What `k0_part20` returns and leaves, from the contents `V`. -/
def e_part20 (V : St F) (i : grid0.Coords) (v66 : FVec F S128x256 .bf16) (v69 : FVec F S128x256 .bf16) (k0_t2 : Fin k0_t2_loop.trips) (v283 : BitVec 32) (v285 : BitVec 32) (v393 : FVec F S8x128 .f32) (v404 : FVec F S8x128 .f32) (v406 : FVec F S8x128 .f32) : (Σ' (v440 : FVec F S272x512 .f32) (v441 : FVec F S256x512 .f32), Vec F S256x512 .bf16) × St F :=
  let v408 : Vec F S1x8x128 .f32 := fun j => V.x86 (((⟨![1, 5, 0], S1x8x128.size, ![1, 8, 1], inb_S2x64x128_S1x8x128_1_5_0_s_1_8_1⟩ : LoadRect S2x64x128)).idx j)
  let v411 : Vec F S1x8x128 .f32 := fun j => V.x86 (((⟨![1, 6, 0], S1x8x128.size, ![1, 8, 1], inb_S2x64x128_S1x8x128_1_6_0_s_1_8_1⟩ : LoadRect S2x64x128)).idx j)
  let v414 : Vec F S1x8x128 .f32 := fun j => V.x86 (((⟨![1, 7, 0], S1x8x128.size, ![1, 8, 1], inb_S2x64x128_S1x8x128_1_7_0_s_1_8_1⟩ : LoadRect S2x64x128)).idx j)
  let v419 : Vec F S8x256 .f32 := fun j => V.x83 (((Rect.unit (s := S64x256) (k0_off10 k0_t2) S8x256.size (k0_off10_inb k0_t2)).toLoadRect).idx j)
  let V1 : St F := V.s83 (((Rect.unit (s := S64x256) (k0_off10 k0_t2) S8x256.size (k0_off10_inb k0_t2))).overlay V.x83 (k0_pay181 v393 v404 v406 v408 v411 v414))
  let v423 : Vec F S128x512 .f32 := fun j => V1.x74 (((Rect.unit (s := S128x4096) (k0_off11 k0_t2) S128x512.size (k0_off11_inb k0_t2)).toLoadRect).idx j)
  let v425 : Vec F S512x256 .bf16 := fun j => V1.x66 (((Rect.unit (s := S4096x256) (k0_off9 k0_t2) S512x256.size (k0_off9_inb k0_t2)).toLoadRect).idx j)
  let v428 : Vec F S512x256 .bf16 := fun j => V1.x67 (((Rect.unit (s := S4096x256) (k0_off9 k0_t2) S512x256.size (k0_off9_inb k0_t2)).toLoadRect).idx j)
  let v433 : Vec F S128x512 .f32 := fun j => V1.x74 (((Rect.unit (s := S128x4096) (k0_off11 k0_t2) S128x512.size (k0_off11_inb k0_t2)).toLoadRect).idx j)
  let V2 : St F := V1.s74 (((Rect.unit (s := S128x4096) (k0_off11 k0_t2) S128x512.size (k0_off11_inb k0_t2))).overlay V1.x74 (k0_pay182 v66 v69 v423 v425 v428))
  let v436 : Vec F S272x128 .bf16 := fun j => V2.x79 (((Rect.unit (s := S272x128) ![0, 0] S272x128.size inb_S272x128_S272x128_0_0).toLoadRect).idx j)
  let v438 : Vec F S128x512 .bf16 := fun j => V2.x2 (((Rect.unit (s := S128x4096) (k0_off11 k0_t2) S128x512.size (k0_off11_inb k0_t2)).toLoadRect).idx j)
  let v443 : Vec F S256x512 .bf16 := fun j => V2.x71 (((Rect.unit (s := S256x4096) (k0_off12 k0_t2) S256x512.size (k0_off12_inb k0_t2)).toLoadRect).idx j)
  (⟨k0_pay183 v436 v438, k0_pay184 v436 v438, v443⟩, V2)

theorem tri_part20 (c : Dev nD) (A : Args) (V : St F) (i : grid0.Coords) (v66 : FVec F S128x256 .bf16) (v69 : FVec F S128x256 .bf16) (k0_t2 : Fin k0_t2_loop.trips) (v283 : BitVec 32) (v285 : BitVec 32) (v393 : FVec F S8x128 .f32) (v404 : FVec F S8x128 .f32) (v406 : FVec F S8x128 .f32) :
    Tri c A V (A.app (k0_part20 i) v66 v69 k0_t2 v283 v285 v393 v404 v406) (fun a W => (a, W) = e_part20 V i v66 v69 k0_t2 v283 v285 v393 v404 v406) := by
  unfold Args.app
  rw [k0_part20_eq_skeleton]
  unfold k0_part20_skel
  refine Tri.load (has86 A) (fun _ => rfl) ?_
  refine Tri.load (has86 A) (fun _ => rfl) ?_
  refine Tri.load (has86 A) (fun _ => rfl) ?_
  refine Tri.load (has83 A) (fun _ => rfl) ?_
  refine Tri.store (has83 A) ?_
  refine Tri.load (has74 A) (fun _ => rfl) ?_
  refine Tri.load (has66 A) (fun _ => rfl) ?_
  refine Tri.load (has67 A) (fun _ => rfl) ?_
  refine Tri.load (has74 A) (fun _ => rfl) ?_
  refine Tri.store (has74 A) ?_
  refine Tri.load (has79 A) (fun _ => rfl) ?_
  refine Tri.load (has2 A) (fun _ => rfl) ?_
  refine Tri.load (has71 A) (fun _ => rfl) ?_
  exact Tri.pure rfl

/-- What `k0_part21` returns and leaves, from the contents `V`. -/
def e_part21 (V : St F) (i : grid0.Coords) (v441 : FVec F S256x512 .f32) (v443 : Vec F S256x512 .bf16) : (Σ' (v472 : FVec F S4x128 .f32), FVec F S4x128 .f32) × St F :=
  let v450 : Vec F S1x32x128 .f32 := fun j => V.x87 (((Rect.unit (s := S4x32x128) ![0, 0, 0] S1x32x128.size inb_S4x32x128_S1x32x128_0_0_0).toLoadRect).idx j)
  let V1 : St F := V.s87 (((Rect.unit (s := S4x32x128) ![0, 0, 0] S1x32x128.size inb_S4x32x128_S1x32x128_0_0_0)).overlay V.x87 (k0_pay186 v441 v443))
  let v454 : Vec F S1x32x128 .f32 := fun j => V1.x87 (((Rect.unit (s := S4x32x128) ![1, 0, 0] S1x32x128.size inb_S4x32x128_S1x32x128_1_0_0).toLoadRect).idx j)
  let V2 : St F := V1.s87 (((Rect.unit (s := S4x32x128) ![1, 0, 0] S1x32x128.size inb_S4x32x128_S1x32x128_1_0_0)).overlay V1.x87 (k0_pay187 v441 v443))
  let v458 : Vec F S1x32x128 .f32 := fun j => V2.x87 (((Rect.unit (s := S4x32x128) ![2, 0, 0] S1x32x128.size inb_S4x32x128_S1x32x128_2_0_0).toLoadRect).idx j)
  let V3 : St F := V2.s87 (((Rect.unit (s := S4x32x128) ![2, 0, 0] S1x32x128.size inb_S4x32x128_S1x32x128_2_0_0)).overlay V2.x87 (k0_pay188 v441 v443))
  let v462 : Vec F S1x32x128 .f32 := fun j => V3.x87 (((Rect.unit (s := S4x32x128) ![3, 0, 0] S1x32x128.size inb_S4x32x128_S1x32x128_3_0_0).toLoadRect).idx j)
  let V4 : St F := V3.s87 (((Rect.unit (s := S4x32x128) ![3, 0, 0] S1x32x128.size inb_S4x32x128_S1x32x128_3_0_0)).overlay V3.x87 (k0_pay189 v441 v443))
  let v465 : Vec F S1x4x128 .f32 := fun j => V4.x87 (((⟨![0, 0, 0], S1x4x128.size, ![1, 8, 1], inb_S4x32x128_S1x4x128_0_0_0_s_1_8_1⟩ : LoadRect S4x32x128)).idx j)
  let v467 : Vec F S1x4x128 .f32 := fun j => V4.x87 (((⟨![0, 1, 0], S1x4x128.size, ![1, 8, 1], inb_S4x32x128_S1x4x128_0_1_0_s_1_8_1⟩ : LoadRect S4x32x128)).idx j)
  let v470 : Vec F S1x4x128 .f32 := fun j => V4.x87 (((⟨![0, 2, 0], S1x4x128.size, ![1, 8, 1], inb_S4x32x128_S1x4x128_0_2_0_s_1_8_1⟩ : LoadRect S4x32x128)).idx j)
  let v473 : Vec F S1x4x128 .f32 := fun j => V4.x87 (((⟨![0, 3, 0], S1x4x128.size, ![1, 8, 1], inb_S4x32x128_S1x4x128_0_3_0_s_1_8_1⟩ : LoadRect S4x32x128)).idx j)
  (⟨k0_pay190 v465 v467 v470, k0_pay191 v473⟩, V4)

theorem tri_part21 (c : Dev nD) (A : Args) (V : St F) (i : grid0.Coords) (v441 : FVec F S256x512 .f32) (v443 : Vec F S256x512 .bf16) :
    Tri c A V (A.app (k0_part21 i) v441 v443) (fun a W => (a, W) = e_part21 V i v441 v443) := by
  unfold Args.app
  rw [k0_part21_eq_skeleton]
  unfold k0_part21_skel
  refine Tri.load (has87 A) (fun _ => rfl) ?_
  refine Tri.store (has87 A) ?_
  refine Tri.load (has87 A) (fun _ => rfl) ?_
  refine Tri.store (has87 A) ?_
  refine Tri.load (has87 A) (fun _ => rfl) ?_
  refine Tri.store (has87 A) ?_
  refine Tri.load (has87 A) (fun _ => rfl) ?_
  refine Tri.store (has87 A) ?_
  refine Tri.load (has87 A) (fun _ => rfl) ?_
  refine Tri.load (has87 A) (fun _ => rfl) ?_
  refine Tri.load (has87 A) (fun _ => rfl) ?_
  refine Tri.load (has87 A) (fun _ => rfl) ?_
  exact Tri.pure rfl

/-- What `k0_part22` returns and leaves, from the contents `V`. -/
def e_part22 (V : St F) (i : grid0.Coords) (v472 : FVec F S4x128 .f32) (v474 : FVec F S4x128 .f32) : (Σ' (v487 : FVec F S4x128 .f32), FVec F S4x128 .f32) × St F :=
  let v476 : Vec F S1x4x128 .f32 := fun j => V.x87 (((⟨![0, 4, 0], S1x4x128.size, ![1, 8, 1], inb_S4x32x128_S1x4x128_0_4_0_s_1_8_1⟩ : LoadRect S4x32x128)).idx j)
  let v479 : Vec F S1x4x128 .f32 := fun j => V.x87 (((⟨![0, 5, 0], S1x4x128.size, ![1, 8, 1], inb_S4x32x128_S1x4x128_0_5_0_s_1_8_1⟩ : LoadRect S4x32x128)).idx j)
  let v482 : Vec F S1x4x128 .f32 := fun j => V.x87 (((⟨![0, 6, 0], S1x4x128.size, ![1, 8, 1], inb_S4x32x128_S1x4x128_0_6_0_s_1_8_1⟩ : LoadRect S4x32x128)).idx j)
  let v485 : Vec F S1x4x128 .f32 := fun j => V.x87 (((⟨![0, 7, 0], S1x4x128.size, ![1, 8, 1], inb_S4x32x128_S1x4x128_0_7_0_s_1_8_1⟩ : LoadRect S4x32x128)).idx j)
  let v488 : Vec F S1x4x128 .f32 := fun j => V.x87 (((⟨![1, 0, 0], S1x4x128.size, ![1, 8, 1], inb_S4x32x128_S1x4x128_1_0_0_s_1_8_1⟩ : LoadRect S4x32x128)).idx j)
  let v490 : Vec F S1x4x128 .f32 := fun j => V.x87 (((⟨![1, 1, 0], S1x4x128.size, ![1, 8, 1], inb_S4x32x128_S1x4x128_1_1_0_s_1_8_1⟩ : LoadRect S4x32x128)).idx j)
  let v493 : Vec F S1x4x128 .f32 := fun j => V.x87 (((⟨![1, 2, 0], S1x4x128.size, ![1, 8, 1], inb_S4x32x128_S1x4x128_1_2_0_s_1_8_1⟩ : LoadRect S4x32x128)).idx j)
  let v496 : Vec F S1x4x128 .f32 := fun j => V.x87 (((⟨![1, 3, 0], S1x4x128.size, ![1, 8, 1], inb_S4x32x128_S1x4x128_1_3_0_s_1_8_1⟩ : LoadRect S4x32x128)).idx j)
  let v499 : Vec F S1x4x128 .f32 := fun j => V.x87 (((⟨![1, 4, 0], S1x4x128.size, ![1, 8, 1], inb_S4x32x128_S1x4x128_1_4_0_s_1_8_1⟩ : LoadRect S4x32x128)).idx j)
  let v502 : Vec F S1x4x128 .f32 := fun j => V.x87 (((⟨![1, 5, 0], S1x4x128.size, ![1, 8, 1], inb_S4x32x128_S1x4x128_1_5_0_s_1_8_1⟩ : LoadRect S4x32x128)).idx j)
  (⟨k0_pay192 v472 v474 v476 v479 v482 v485, k0_pay193 v488 v490 v493 v496 v499 v502⟩, V)

theorem tri_part22 (c : Dev nD) (A : Args) (V : St F) (i : grid0.Coords) (v472 : FVec F S4x128 .f32) (v474 : FVec F S4x128 .f32) :
    Tri c A V (A.app (k0_part22 i) v472 v474) (fun a W => (a, W) = e_part22 V i v472 v474) := by
  unfold Args.app
  rw [k0_part22_eq_skeleton]
  unfold k0_part22_skel
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  exact Tri.pure rfl

/-- What `k0_part23` returns and leaves, from the contents `V`. -/
def e_part23 (V : St F) (i : grid0.Coords) (v504 : FVec F S4x128 .f32) : (Σ' (v510 : FVec F S4x128 .f32), FVec F S4x128 .f32) × St F :=
  let v505 : Vec F S1x4x128 .f32 := fun j => V.x87 (((⟨![1, 6, 0], S1x4x128.size, ![1, 8, 1], inb_S4x32x128_S1x4x128_1_6_0_s_1_8_1⟩ : LoadRect S4x32x128)).idx j)
  let v508 : Vec F S1x4x128 .f32 := fun j => V.x87 (((⟨![1, 7, 0], S1x4x128.size, ![1, 8, 1], inb_S4x32x128_S1x4x128_1_7_0_s_1_8_1⟩ : LoadRect S4x32x128)).idx j)
  let v511 : Vec F S1x4x128 .f32 := fun j => V.x87 (((⟨![2, 0, 0], S1x4x128.size, ![1, 8, 1], inb_S4x32x128_S1x4x128_2_0_0_s_1_8_1⟩ : LoadRect S4x32x128)).idx j)
  let v513 : Vec F S1x4x128 .f32 := fun j => V.x87 (((⟨![2, 1, 0], S1x4x128.size, ![1, 8, 1], inb_S4x32x128_S1x4x128_2_1_0_s_1_8_1⟩ : LoadRect S4x32x128)).idx j)
  let v516 : Vec F S1x4x128 .f32 := fun j => V.x87 (((⟨![2, 2, 0], S1x4x128.size, ![1, 8, 1], inb_S4x32x128_S1x4x128_2_2_0_s_1_8_1⟩ : LoadRect S4x32x128)).idx j)
  let v519 : Vec F S1x4x128 .f32 := fun j => V.x87 (((⟨![2, 3, 0], S1x4x128.size, ![1, 8, 1], inb_S4x32x128_S1x4x128_2_3_0_s_1_8_1⟩ : LoadRect S4x32x128)).idx j)
  let v522 : Vec F S1x4x128 .f32 := fun j => V.x87 (((⟨![2, 4, 0], S1x4x128.size, ![1, 8, 1], inb_S4x32x128_S1x4x128_2_4_0_s_1_8_1⟩ : LoadRect S4x32x128)).idx j)
  let v525 : Vec F S1x4x128 .f32 := fun j => V.x87 (((⟨![2, 5, 0], S1x4x128.size, ![1, 8, 1], inb_S4x32x128_S1x4x128_2_5_0_s_1_8_1⟩ : LoadRect S4x32x128)).idx j)
  let v528 : Vec F S1x4x128 .f32 := fun j => V.x87 (((⟨![2, 6, 0], S1x4x128.size, ![1, 8, 1], inb_S4x32x128_S1x4x128_2_6_0_s_1_8_1⟩ : LoadRect S4x32x128)).idx j)
  let v531 : Vec F S1x4x128 .f32 := fun j => V.x87 (((⟨![2, 7, 0], S1x4x128.size, ![1, 8, 1], inb_S4x32x128_S1x4x128_2_7_0_s_1_8_1⟩ : LoadRect S4x32x128)).idx j)
  (⟨k0_pay194 v504 v505 v508, k0_pay195 v511 v513 v516 v519 v522 v525 v528 v531⟩, V)

theorem tri_part23 (c : Dev nD) (A : Args) (V : St F) (i : grid0.Coords) (v504 : FVec F S4x128 .f32) :
    Tri c A V (A.app (k0_part23 i) v504) (fun a W => (a, W) = e_part23 V i v504) := by
  unfold Args.app
  rw [k0_part23_eq_skeleton]
  unfold k0_part23_skel
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  exact Tri.pure rfl

/-- What `k0_part24` returns and leaves, from the contents `V`. -/
def e_part24 (V : St F) (i : grid0.Coords) (v13 : BitVec 32) (k0_t2 : Fin k0_t2_loop.trips) (v283 : BitVec 32) (v440 : FVec F S272x512 .f32) (v487 : FVec F S4x128 .f32) (v510 : FVec F S4x128 .f32) (v533 : FVec F S4x128 .f32) : (FVec F S4x512 .f32) × St F :=
  let v534 : Vec F S1x4x128 .f32 := fun j => V.x87 (((⟨![3, 0, 0], S1x4x128.size, ![1, 8, 1], inb_S4x32x128_S1x4x128_3_0_0_s_1_8_1⟩ : LoadRect S4x32x128)).idx j)
  let v536 : Vec F S1x4x128 .f32 := fun j => V.x87 (((⟨![3, 1, 0], S1x4x128.size, ![1, 8, 1], inb_S4x32x128_S1x4x128_3_1_0_s_1_8_1⟩ : LoadRect S4x32x128)).idx j)
  let v539 : Vec F S1x4x128 .f32 := fun j => V.x87 (((⟨![3, 2, 0], S1x4x128.size, ![1, 8, 1], inb_S4x32x128_S1x4x128_3_2_0_s_1_8_1⟩ : LoadRect S4x32x128)).idx j)
  let v542 : Vec F S1x4x128 .f32 := fun j => V.x87 (((⟨![3, 3, 0], S1x4x128.size, ![1, 8, 1], inb_S4x32x128_S1x4x128_3_3_0_s_1_8_1⟩ : LoadRect S4x32x128)).idx j)
  let v545 : Vec F S1x4x128 .f32 := fun j => V.x87 (((⟨![3, 4, 0], S1x4x128.size, ![1, 8, 1], inb_S4x32x128_S1x4x128_3_4_0_s_1_8_1⟩ : LoadRect S4x32x128)).idx j)
  let v548 : Vec F S1x4x128 .f32 := fun j => V.x87 (((⟨![3, 5, 0], S1x4x128.size, ![1, 8, 1], inb_S4x32x128_S1x4x128_3_5_0_s_1_8_1⟩ : LoadRect S4x32x128)).idx j)
  let v551 : Vec F S1x4x128 .f32 := fun j => V.x87 (((⟨![3, 6, 0], S1x4x128.size, ![1, 8, 1], inb_S4x32x128_S1x4x128_3_6_0_s_1_8_1⟩ : LoadRect S4x32x128)).idx j)
  let v554 : Vec F S1x4x128 .f32 := fun j => V.x87 (((⟨![3, 7, 0], S1x4x128.size, ![1, 8, 1], inb_S4x32x128_S1x4x128_3_7_0_s_1_8_1⟩ : LoadRect S4x32x128)).idx j)
  let v560 : Vec F S1x4x512 .f32 := fun j => V.x84 (((Rect.unit (s := S2x4x4096) (k0_off13 i k0_t2) S1x4x512.size (k0_off13_inb i k0_t2)).toLoadRect).idx j)
  let V1 : St F := V.s84 (((Rect.unit (s := S2x4x4096) (k0_off13 i k0_t2) S1x4x512.size (k0_off13_inb i k0_t2))).overlay V.x84 (k0_pay196 v487 v510 v533 v534 v536 v539 v542 v545 v548 v551 v554))
  ((k0_pay197 v440), V1)

theorem tri_part24 (c : Dev nD) (A : Args) (V : St F) (i : grid0.Coords) (v13 : BitVec 32) (k0_t2 : Fin k0_t2_loop.trips) (v283 : BitVec 32) (v440 : FVec F S272x512 .f32) (v487 : FVec F S4x128 .f32) (v510 : FVec F S4x128 .f32) (v533 : FVec F S4x128 .f32) :
    Tri c A V (A.app (k0_part24 i) v13 k0_t2 v283 v440 v487 v510 v533) (fun a W => (a, W) = e_part24 V i v13 k0_t2 v283 v440 v487 v510 v533) := by
  unfold Args.app
  rw [k0_part24_eq_skeleton]
  unfold k0_part24_skel
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has87 A) (fun _ => rfl) ?_
  refine Tri.load (has84 A) (fun _ => rfl) ?_
  refine Tri.store (has84 A) ?_
  exact Tri.pure rfl

/-- What `k0_t2_body` returns and leaves, from the contents `V`. -/
def e_t2 (V : St F) (i : grid0.Coords) (v13 : BitVec 32) (v45 : Vec F S128x256 .f32) (v47 : Vec F S128x256 .f32) (v54 : FVec F S128x256 .f32) (v57 : FVec F S128x256 .bf16) (v59 : FVec F S128x256 .f32) (v61 : FVec F S128x256 .f32) (k0_t2 : Fin k0_t2_loop.trips) : Unit × St F :=
  let p1 := e_part16 V i (k0_pay264 v45 v59 v61) 0#32 1#32 k0_t2
  let v283 := p1.1.1
  let v285 := p1.1.2.1
  let v287 := p1.1.2.2.1
  let v314 := p1.1.2.2.2
  let V1 : St F := p1.2
  let p2 := e_part17 V1 i v314
  let v326 := p2.1.1
  let v343 := p2.1.2
  let V2 : St F := p2.2
  let p3 := e_part18 V2 i (k0_pay265 v45 v47 v54) k0_t2 v283 v285 v287 v326 v343
  let v375 := p3.1.1
  let v376 := p3.1.2
  let V3 : St F := p3.2
  let p4 := e_part19 V3 i v375 v376
  let v393 := p4.1.1
  let v404 := p4.1.2.1
  let v406 := p4.1.2.2
  let V4 : St F := p4.2
  let p5 := e_part20 V4 i (k0_pay264 v45 v59 v61) (k0_pay265 v45 v47 v54) k0_t2 v283 v285 v393 v404 v406
  let v440 := p5.1.1
  let v441 := p5.1.2.1
  let v443 := p5.1.2.2
  let V5 : St F := p5.2
  let p6 := e_part21 V5 i v441 v443
  let v472 := p6.1.1
  let v474 := p6.1.2
  let V6 : St F := p6.2
  let p7 := e_part22 V6 i v472 v474
  let v487 := p7.1.1
  let v504 := p7.1.2
  let V7 : St F := p7.2
  let p8 := e_part23 V7 i v504
  let v510 := p8.1.1
  let v533 := p8.1.2
  let V8 : St F := p8.2
  let p9 := e_part24 V8 i v13 k0_t2 v283 v440 v487 v510 v533
  let v568 := p9.1
  let V9 : St F := p9.2
  let v571 : Vec F S1x4x512 .f32 := fun j => V9.x85 (((Rect.unit (s := S2x4x4096) (k0_off13 i k0_t2) S1x4x512.size (k0_off13_inb i k0_t2)).toLoadRect).idx j)
  let V10 : St F := V9.s85 (((Rect.unit (s := S2x4x4096) (k0_off13 i k0_t2) S1x4x512.size (k0_off13_inb i k0_t2))).overlay V9.x85 (k0_pay269 v568))
  let v575 : Vec F S128x512 .f32 := fun j => V10.x75 (((Rect.unit (s := S128x4096) (k0_off11 k0_t2) S128x512.size (k0_off11_inb k0_t2)).toLoadRect).idx j)
  let v577 : Vec F S256x512 .bf16 := fun j => V10.x68 (((Rect.unit (s := S256x4096) (k0_off12 k0_t2) S256x512.size (k0_off12_inb k0_t2)).toLoadRect).idx j)
  let v581 : Vec F S128x512 .f32 := fun j => V10.x75 (((Rect.unit (s := S128x4096) (k0_off11 k0_t2) S128x512.size (k0_off11_inb k0_t2)).toLoadRect).idx j)
  let V11 : St F := V10.s75 (((Rect.unit (s := S128x4096) (k0_off11 k0_t2) S128x512.size (k0_off11_inb k0_t2))).overlay V10.x75 (k0_pay270 v57 v575 v577))
  (⟨⟩, V11)

theorem tri_t2 (c : Dev nD) (A : Args) (V : St F) (i : grid0.Coords) (v13 : BitVec 32) (v45 : Vec F S128x256 .f32) (v47 : Vec F S128x256 .f32) (v54 : FVec F S128x256 .f32) (v57 : FVec F S128x256 .bf16) (v59 : FVec F S128x256 .f32) (v61 : FVec F S128x256 .f32) (k : Fin k0_t2_loop.trips) (a : Unit) :
    Tri c A V (A.app (k0_t2_body i) v13 v45 v47 v54 v57 v59 v61 k a) (fun a W => (a, W) = e_t2 V i v13 v45 v47 v54 v57 v59 v61 k) := by
  unfold Args.app
  unfold k0_t2_body
  refine Tri.bind ((tri_part16 c A _ _ _ _ _ _).mono ?_)
  rintro ⟨v283, v285, v287, v314⟩ V_ h_
  have hV_ := congrArg Prod.snd h_
  change V_ = _ at hV_
  have hv283 := congrArg (fun p => p.1.1) h_
  beta_reduce at hv283
  change v283 = _ at hv283
  have hv285 := congrArg (fun p => p.1.2.1) h_
  beta_reduce at hv285
  change v285 = _ at hv285
  have hv287 := congrArg (fun p => p.1.2.2.1) h_
  beta_reduce at hv287
  change v287 = _ at hv287
  have hv314 := congrArg (fun p => p.1.2.2.2) h_
  beta_reduce at hv314
  change v314 = _ at hv314
  clear h_
  subst hV_ hv283 hv285 hv287 hv314
  refine Tri.bind ((tri_part17 c A _ _ _).mono ?_)
  rintro ⟨v326, v343⟩ V_ h_
  have hV_ := congrArg Prod.snd h_
  change V_ = _ at hV_
  have hv326 := congrArg (fun p => p.1.1) h_
  beta_reduce at hv326
  change v326 = _ at hv326
  have hv343 := congrArg (fun p => p.1.2) h_
  beta_reduce at hv343
  change v343 = _ at hv343
  clear h_
  subst hV_ hv326 hv343
  refine Tri.bind ((tri_part18 c A _ _ _ _ _ _ _ _ _).mono ?_)
  rintro ⟨v375, v376⟩ V_ h_
  have hV_ := congrArg Prod.snd h_
  change V_ = _ at hV_
  have hv375 := congrArg (fun p => p.1.1) h_
  beta_reduce at hv375
  change v375 = _ at hv375
  have hv376 := congrArg (fun p => p.1.2) h_
  beta_reduce at hv376
  change v376 = _ at hv376
  clear h_
  subst hV_ hv375 hv376
  refine Tri.bind ((tri_part19 c A _ _ _ _).mono ?_)
  rintro ⟨v393, v404, v406⟩ V_ h_
  have hV_ := congrArg Prod.snd h_
  change V_ = _ at hV_
  have hv393 := congrArg (fun p => p.1.1) h_
  beta_reduce at hv393
  change v393 = _ at hv393
  have hv404 := congrArg (fun p => p.1.2.1) h_
  beta_reduce at hv404
  change v404 = _ at hv404
  have hv406 := congrArg (fun p => p.1.2.2) h_
  beta_reduce at hv406
  change v406 = _ at hv406
  clear h_
  subst hV_ hv393 hv404 hv406
  refine Tri.bind ((tri_part20 c A _ _ _ _ _ _ _ _ _ _).mono ?_)
  rintro ⟨v440, v441, v443⟩ V_ h_
  have hV_ := congrArg Prod.snd h_
  change V_ = _ at hV_
  have hv440 := congrArg (fun p => p.1.1) h_
  beta_reduce at hv440
  change v440 = _ at hv440
  have hv441 := congrArg (fun p => p.1.2.1) h_
  beta_reduce at hv441
  change v441 = _ at hv441
  have hv443 := congrArg (fun p => p.1.2.2) h_
  beta_reduce at hv443
  change v443 = _ at hv443
  clear h_
  subst hV_ hv440 hv441 hv443
  refine Tri.bind ((tri_part21 c A _ _ _ _).mono ?_)
  rintro ⟨v472, v474⟩ V_ h_
  have hV_ := congrArg Prod.snd h_
  change V_ = _ at hV_
  have hv472 := congrArg (fun p => p.1.1) h_
  beta_reduce at hv472
  change v472 = _ at hv472
  have hv474 := congrArg (fun p => p.1.2) h_
  beta_reduce at hv474
  change v474 = _ at hv474
  clear h_
  subst hV_ hv472 hv474
  refine Tri.bind ((tri_part22 c A _ _ _ _).mono ?_)
  rintro ⟨v487, v504⟩ V_ h_
  have hV_ := congrArg Prod.snd h_
  change V_ = _ at hV_
  have hv487 := congrArg (fun p => p.1.1) h_
  beta_reduce at hv487
  change v487 = _ at hv487
  have hv504 := congrArg (fun p => p.1.2) h_
  beta_reduce at hv504
  change v504 = _ at hv504
  clear h_
  subst hV_ hv487 hv504
  refine Tri.bind ((tri_part23 c A _ _ _).mono ?_)
  rintro ⟨v510, v533⟩ V_ h_
  have hV_ := congrArg Prod.snd h_
  change V_ = _ at hV_
  have hv510 := congrArg (fun p => p.1.1) h_
  beta_reduce at hv510
  change v510 = _ at hv510
  have hv533 := congrArg (fun p => p.1.2) h_
  beta_reduce at hv533
  change v533 = _ at hv533
  clear h_
  subst hV_ hv510 hv533
  refine Tri.bind ((tri_part24 c A _ _ _ _ _ _ _ _ _).mono ?_)
  rintro v568 V_ h_
  have hV_ := congrArg Prod.snd h_
  change V_ = _ at hV_
  have hv568 := congrArg (fun p => p.1) h_
  beta_reduce at hv568
  change v568 = _ at hv568
  clear h_
  subst hV_ hv568
  refine Tri.load (has85 A) (fun _ => rfl) ?_
  refine Tri.store (has85 A) ?_
  refine Tri.load (has75 A) (fun _ => rfl) ?_
  refine Tri.load (has68 A) (fun _ => rfl) ?_
  refine Tri.load (has75 A) (fun _ => rfl) ?_
  refine Tri.store (has75 A) ?_
  exact Tri.pure rfl

end Cert.Proof.KI

end
-- ==== Proof.KI.RunC.lean ====
module

public import proofs.«01_k».proof.Proof.Gen.KernelIdeal.Skeleton
public import proofs.«01_k».proof.Proof.KI.State

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The same for the updates and the last point. -/

/-- What `k0_part25` returns and leaves, from the contents `V`. -/
def e_part25 (V : St F) (i : grid0.Coords) : (Σ' (v295 : FVec F S8x4096 .f32) (v300 : FVec F S8x4096 .f32) (v302 : FVec F S8x4096 .f32) (v304 : FVec F S8x4096 .f32) (v306 : FVec F S8x4096 .f32) (v308 : FVec F S8x4096 .f32) (v310 : FVec F S8x4096 .f32), FVec F S8x4096 .f32) × St F :=
  let v282 : Vec F S1x4x4096 .f32 := fun j => V.x85 (((Rect.unit (s := S2x4x4096) ![0, 0, 0] S1x4x4096.size inb_S2x4x4096_S1x4x4096_0_0_0).toLoadRect).idx j)
  let v284 : Vec F S1x4x4096 .f32 := fun j => V.x85 (((Rect.unit (s := S2x4x4096) ![1, 0, 0] S1x4x4096.size inb_S2x4x4096_S1x4x4096_1_0_0).toLoadRect).idx j)
  let v287 : Vec F S1x4x4096 .f32 := fun j => V.x84 (((Rect.unit (s := S2x4x4096) ![0, 0, 0] S1x4x4096.size inb_S2x4x4096_S1x4x4096_0_0_0).toLoadRect).idx j)
  let v289 : Vec F S1x4x4096 .f32 := fun j => V.x84 (((Rect.unit (s := S2x4x4096) ![1, 0, 0] S1x4x4096.size inb_S2x4x4096_S1x4x4096_1_0_0).toLoadRect).idx j)
  let v292 : Vec F S8x4096 .f32 := fun j => V.x23 (((Rect.unit (s := S8x4096) ![0, 0] S8x4096.size inb_S8x4096_S8x4096_0_0).toLoadRect).idx j)
  let v296 : Vec F S8x4096 .f32 := fun j => V.x24 (((Rect.unit (s := S8x4096) ![0, 0] S8x4096.size inb_S8x4096_S8x4096_0_0).toLoadRect).idx j)
  let v301 : Vec F S8x4096 .f32 := fun j => V.x23 (((Rect.unit (s := S8x4096) ![0, 0] S8x4096.size inb_S8x4096_S8x4096_0_0).toLoadRect).idx j)
  let v303 : Vec F S8x4096 .f32 := fun j => V.x24 (((Rect.unit (s := S8x4096) ![0, 0] S8x4096.size inb_S8x4096_S8x4096_0_0).toLoadRect).idx j)
  let v305 : Vec F S8x4096 .f32 := fun j => V.x25 (((Rect.unit (s := S8x4096) ![0, 0] S8x4096.size inb_S8x4096_S8x4096_0_0).toLoadRect).idx j)
  let v307 : Vec F S8x4096 .f32 := fun j => V.x26 (((Rect.unit (s := S8x4096) ![0, 0] S8x4096.size inb_S8x4096_S8x4096_0_0).toLoadRect).idx j)
  let v309 : Vec F S8x4096 .f32 := fun j => V.x27 (((Rect.unit (s := S8x4096) ![0, 0] S8x4096.size inb_S8x4096_S8x4096_0_0).toLoadRect).idx j)
  let v311 : Vec F S8x4096 .f32 := fun j => V.x28 (((Rect.unit (s := S8x4096) ![0, 0] S8x4096.size inb_S8x4096_S8x4096_0_0).toLoadRect).idx j)
  (⟨k0_pay199 v282 v284 v287 v289 v292, k0_pay200 v282 v284 v296, k0_pay201 v301, k0_pay202 v303, k0_pay203 v305, k0_pay204 v307, k0_pay205 v309, k0_pay206 v311⟩, V)

theorem tri_part25 (c : Dev nD) (A : Args) (V : St F) (i : grid0.Coords) :
    Tri c A V (A.app (k0_part25 i)) (fun a W => (a, W) = e_part25 V i) := by
  unfold Args.app
  rw [k0_part25_eq_skeleton]
  unfold k0_part25_skel
  refine Tri.load (has85 A) (fun _ => rfl) ?_
  refine Tri.load (has85 A) (fun _ => rfl) ?_
  refine Tri.load (has84 A) (fun _ => rfl) ?_
  refine Tri.load (has84 A) (fun _ => rfl) ?_
  refine Tri.load (has23 A) (fun _ => rfl) ?_
  refine Tri.load (has24 A) (fun _ => rfl) ?_
  refine Tri.load (has23 A) (fun _ => rfl) ?_
  refine Tri.load (has24 A) (fun _ => rfl) ?_
  refine Tri.load (has25 A) (fun _ => rfl) ?_
  refine Tri.load (has26 A) (fun _ => rfl) ?_
  refine Tri.load (has27 A) (fun _ => rfl) ?_
  refine Tri.load (has28 A) (fun _ => rfl) ?_
  exact Tri.pure rfl

/-- What `k0_part26` returns and leaves, from the contents `V`. -/
def e_part26 (V : St F) (i : grid0.Coords) (v295 : FVec F S8x4096 .f32) (v304 : FVec F S8x4096 .f32) (v306 : FVec F S8x4096 .f32) (v312 : FVec F S8x4096 .f32) : (Σ' (v313 : Elt F .f32) (v314 : Elt F .f32) (v344 : Elt F .f32) (v345 : Elt F .f32), FVec F S8x4096 .f32) × St F :=
  let v313 : Elt F .f32 := V.x6 (Rect.toLoadRect ((Rect.unit (s := S1) ![0] S1.size inb_S1_S1_0)) |>.idx (Shape.Idx.first ((numel1_S1).symm ▸ Nat.one_pos)))
  let v314 : Elt F .f32 := V.x7 (Rect.toLoadRect ((Rect.unit (s := S1) ![0] S1.size inb_S1_S1_0)) |>.idx (Shape.Idx.first ((numel1_S1).symm ▸ Nat.one_pos)))
  let v315 : Elt F .f32 := V.x4 (Rect.toLoadRect ((Rect.unit (s := S6) ![2] S1.size inb_S6_S1_2)) |>.idx (Shape.Idx.first ((numel1_S1).symm ▸ Nat.one_pos)))
  let v316 : Elt F .f32 := V.x5 (Rect.toLoadRect ((Rect.unit (s := S6) ![2] S1.size inb_S6_S1_2)) |>.idx (Shape.Idx.first ((numel1_S1).symm ▸ Nat.one_pos)))
  let v339 : Vec F S8x4096 .f32 := fun j => V.x53 (((Rect.unit (s := S8x4096) ![0, 0] S8x4096.size inb_S8x4096_S8x4096_0_0).toLoadRect).idx j)
  let V1 : St F := V.s53 (((Rect.unit (s := S8x4096) ![0, 0] S8x4096.size inb_S8x4096_S8x4096_0_0)).overlay V.x53 v295)
  let v340 : Vec F S8x4096 .f32 := fun j => V1.x54 (((Rect.unit (s := S8x4096) ![0, 0] S8x4096.size inb_S8x4096_S8x4096_0_0).toLoadRect).idx j)
  let V2 : St F := V1.s54 (((Rect.unit (s := S8x4096) ![0, 0] S8x4096.size inb_S8x4096_S8x4096_0_0)).overlay V1.x54 (k0_pay209 v295 v306 v312 v313 v314 v315 v316))
  let v341 : Vec F S8x4096 .f32 := fun j => V2.x55 (((Rect.unit (s := S8x4096) ![0, 0] S8x4096.size inb_S8x4096_S8x4096_0_0).toLoadRect).idx j)
  let V3 : St F := V2.s55 (((Rect.unit (s := S8x4096) ![0, 0] S8x4096.size inb_S8x4096_S8x4096_0_0)).overlay V2.x55 (k0_pay210 v295 v304 v306 v312 v313 v314 v315 v316))
  let v342 : Vec F S8x4096 .f32 := fun j => V3.x56 (((Rect.unit (s := S8x4096) ![0, 0] S8x4096.size inb_S8x4096_S8x4096_0_0).toLoadRect).idx j)
  let V4 : St F := V3.s56 (((Rect.unit (s := S8x4096) ![0, 0] S8x4096.size inb_S8x4096_S8x4096_0_0)).overlay V3.x56 (k0_pay207 v295 v306))
  let v343 : Vec F S8x4096 .f32 := fun j => V4.x57 (((Rect.unit (s := S8x4096) ![0, 0] S8x4096.size inb_S8x4096_S8x4096_0_0).toLoadRect).idx j)
  let V5 : St F := V4.s57 (((Rect.unit (s := S8x4096) ![0, 0] S8x4096.size inb_S8x4096_S8x4096_0_0)).overlay V4.x57 (k0_pay208 v295 v312))
  let v344 : Elt F .f32 := V5.x4 (Rect.toLoadRect ((Rect.unit (s := S6) ![5] S1.size inb_S6_S1_5)) |>.idx (Shape.Idx.first ((numel1_S1).symm ▸ Nat.one_pos)))
  let v345 : Elt F .f32 := V5.x5 (Rect.toLoadRect ((Rect.unit (s := S6) ![5] S1.size inb_S6_S1_5)) |>.idx (Shape.Idx.first ((numel1_S1).symm ▸ Nat.one_pos)))
  (⟨v313, v314, v344, v345, k0_pay211 (F := F)⟩, V5)

theorem tri_part26 (c : Dev nD) (A : Args) (V : St F) (i : grid0.Coords) (v295 : FVec F S8x4096 .f32) (v304 : FVec F S8x4096 .f32) (v306 : FVec F S8x4096 .f32) (v312 : FVec F S8x4096 .f32) :
    Tri c A V (A.app (k0_part26 i) v295 v304 v306 v312) (fun a W => (a, W) = e_part26 V i v295 v304 v306 v312) := by
  unfold Args.app
  rw [k0_part26_eq_skeleton]
  unfold k0_part26_skel
  refine Tri.smem (has6 A) (fun _ => rfl) ?_
  refine Tri.smem (has7 A) (fun _ => rfl) ?_
  refine Tri.smem (has4 A) (fun _ => rfl) ?_
  refine Tri.smem (has5 A) (fun _ => rfl) ?_
  refine Tri.load (has53 A) (fun _ => rfl) ?_
  refine Tri.store (has53 A) ?_
  refine Tri.load (has54 A) (fun _ => rfl) ?_
  refine Tri.store (has54 A) ?_
  refine Tri.load (has55 A) (fun _ => rfl) ?_
  refine Tri.store (has55 A) ?_
  refine Tri.load (has56 A) (fun _ => rfl) ?_
  refine Tri.store (has56 A) ?_
  refine Tri.load (has57 A) (fun _ => rfl) ?_
  refine Tri.store (has57 A) ?_
  refine Tri.smem (has4 A) (fun _ => rfl) ?_
  refine Tri.smem (has5 A) (fun _ => rfl) ?_
  exact Tri.pure rfl

/-- What `k0_part27` returns and leaves, from the contents `V`. -/
def e_part27 (V : St F) (i : grid0.Coords) : (Σ' (v282 : Vec F S128x1 .f32) (v299 : FVec F S128x1 .f32), FVec F S128x1 .f32) × St F :=
  let v282 : Vec F S128x1 .f32 := fun j => V.x65 (((Rect.unit (s := S128x1) ![0, 0] S128x1.size inb_S128x1_S128x1_0_0).toLoadRect).idx j)
  let v284 : Vec F S128x512 .bf16 := fun j => V.x1 (((Rect.unit (s := S128x4096) ![0, 0] S128x512.size inb_S128x4096_S128x512_0_0).toLoadRect).idx j)
  let v287 : Vec F S128x512 .f32 := fun j => V.x75 (((Rect.unit (s := S128x4096) ![0, 0] S128x512.size inb_S128x4096_S128x512_0_0).toLoadRect).idx j)
  let v290 : Vec F S128x512 .bf16 := fun j => V.x29 (((Rect.unit (s := S128x4096) ![0, 0] S128x512.size inb_S128x4096_S128x512_0_0).toLoadRect).idx j)
  let V1 : St F := V.s29 (((Rect.unit (s := S128x4096) ![0, 0] S128x512.size inb_S128x4096_S128x512_0_0)).overlay V.x29 (k0_pay213 v284 v287))
  let v291 : Vec F S128x512 .f32 := fun j => V1.x74 (((Rect.unit (s := S128x4096) ![0, 0] S128x512.size inb_S128x4096_S128x512_0_0).toLoadRect).idx j)
  let v292 : Vec F S1x512 .f32 := fun j => V1.x3 (((Rect.unit (s := S1x4096) ![0, 0] S1x512.size inb_S1x4096_S1x512_0_0).toLoadRect).idx j)
  let v300 : Vec F S128x512 .bf16 := fun j => V1.x1 (((Rect.unit (s := S128x4096) ![0, 512] S128x512.size inb_S128x4096_S128x512_0_512).toLoadRect).idx j)
  let v303 : Vec F S128x512 .f32 := fun j => V1.x75 (((Rect.unit (s := S128x4096) ![0, 512] S128x512.size inb_S128x4096_S128x512_0_512).toLoadRect).idx j)
  let v306 : Vec F S128x512 .bf16 := fun j => V1.x29 (((Rect.unit (s := S128x4096) ![0, 512] S128x512.size inb_S128x4096_S128x512_0_512).toLoadRect).idx j)
  let V2 : St F := V1.s29 (((Rect.unit (s := S128x4096) ![0, 512] S128x512.size inb_S128x4096_S128x512_0_512)).overlay V1.x29 (k0_pay216 v300 v303))
  let v307 : Vec F S128x512 .f32 := fun j => V2.x74 (((Rect.unit (s := S128x4096) ![0, 512] S128x512.size inb_S128x4096_S128x512_0_512).toLoadRect).idx j)
  let v308 : Vec F S1x512 .f32 := fun j => V2.x3 (((Rect.unit (s := S1x4096) ![0, 512] S1x512.size inb_S1x4096_S1x512_0_512).toLoadRect).idx j)
  (⟨v282, k0_pay214 v284 v291 v292, k0_pay217 v300 v307 v308⟩, V2)

theorem tri_part27 (c : Dev nD) (A : Args) (V : St F) (i : grid0.Coords) :
    Tri c A V (A.app (k0_part27 i)) (fun a W => (a, W) = e_part27 V i) := by
  unfold Args.app
  rw [k0_part27_eq_skeleton]
  unfold k0_part27_skel
  refine Tri.load (has65 A) (fun _ => rfl) ?_
  refine Tri.load (has1 A) (fun _ => rfl) ?_
  refine Tri.load (has75 A) (fun _ => rfl) ?_
  refine Tri.load (has29 A) (fun _ => rfl) ?_
  refine Tri.store (has29 A) ?_
  refine Tri.load (has74 A) (fun _ => rfl) ?_
  refine Tri.load (has3 A) (fun _ => rfl) ?_
  refine Tri.load (has1 A) (fun _ => rfl) ?_
  refine Tri.load (has75 A) (fun _ => rfl) ?_
  refine Tri.load (has29 A) (fun _ => rfl) ?_
  refine Tri.store (has29 A) ?_
  refine Tri.load (has74 A) (fun _ => rfl) ?_
  refine Tri.load (has3 A) (fun _ => rfl) ?_
  exact Tri.pure rfl

/-- What `k0_part28` returns and leaves, from the contents `V`. -/
def e_part28 (V : St F) (i : grid0.Coords) (v299 : FVec F S128x1 .f32) (v314 : FVec F S128x1 .f32) : (Σ' (v347 : FVec F S128x1 .f32), Vec F S128x512 .bf16) × St F :=
  let v316 : Vec F S128x512 .bf16 := fun j => V.x1 (((Rect.unit (s := S128x4096) ![0, 1024] S128x512.size inb_S128x4096_S128x512_0_1024).toLoadRect).idx j)
  let v319 : Vec F S128x512 .f32 := fun j => V.x75 (((Rect.unit (s := S128x4096) ![0, 1024] S128x512.size inb_S128x4096_S128x512_0_1024).toLoadRect).idx j)
  let v322 : Vec F S128x512 .bf16 := fun j => V.x29 (((Rect.unit (s := S128x4096) ![0, 1024] S128x512.size inb_S128x4096_S128x512_0_1024).toLoadRect).idx j)
  let V1 : St F := V.s29 (((Rect.unit (s := S128x4096) ![0, 1024] S128x512.size inb_S128x4096_S128x512_0_1024)).overlay V.x29 (k0_pay219 v316 v319))
  let v323 : Vec F S128x512 .f32 := fun j => V1.x74 (((Rect.unit (s := S128x4096) ![0, 1024] S128x512.size inb_S128x4096_S128x512_0_1024).toLoadRect).idx j)
  let v324 : Vec F S1x512 .f32 := fun j => V1.x3 (((Rect.unit (s := S1x4096) ![0, 1024] S1x512.size inb_S1x4096_S1x512_0_1024).toLoadRect).idx j)
  let v332 : Vec F S128x512 .bf16 := fun j => V1.x1 (((Rect.unit (s := S128x4096) ![0, 1536] S128x512.size inb_S128x4096_S128x512_0_1536).toLoadRect).idx j)
  let v335 : Vec F S128x512 .f32 := fun j => V1.x75 (((Rect.unit (s := S128x4096) ![0, 1536] S128x512.size inb_S128x4096_S128x512_0_1536).toLoadRect).idx j)
  let v338 : Vec F S128x512 .bf16 := fun j => V1.x29 (((Rect.unit (s := S128x4096) ![0, 1536] S128x512.size inb_S128x4096_S128x512_0_1536).toLoadRect).idx j)
  let V2 : St F := V1.s29 (((Rect.unit (s := S128x4096) ![0, 1536] S128x512.size inb_S128x4096_S128x512_0_1536)).overlay V1.x29 (k0_pay221 v332 v335))
  let v339 : Vec F S128x512 .f32 := fun j => V2.x74 (((Rect.unit (s := S128x4096) ![0, 1536] S128x512.size inb_S128x4096_S128x512_0_1536).toLoadRect).idx j)
  let v340 : Vec F S1x512 .f32 := fun j => V2.x3 (((Rect.unit (s := S1x4096) ![0, 1536] S1x512.size inb_S1x4096_S1x512_0_1536).toLoadRect).idx j)
  let v348 : Vec F S128x512 .bf16 := fun j => V2.x1 (((Rect.unit (s := S128x4096) ![0, 2048] S128x512.size inb_S128x4096_S128x512_0_2048).toLoadRect).idx j)
  (⟨k0_pay222 v299 v314 v316 v323 v324 v332 v339 v340, v348⟩, V2)

theorem tri_part28 (c : Dev nD) (A : Args) (V : St F) (i : grid0.Coords) (v299 : FVec F S128x1 .f32) (v314 : FVec F S128x1 .f32) :
    Tri c A V (A.app (k0_part28 i) v299 v314) (fun a W => (a, W) = e_part28 V i v299 v314) := by
  unfold Args.app
  rw [k0_part28_eq_skeleton]
  unfold k0_part28_skel
  refine Tri.load (has1 A) (fun _ => rfl) ?_
  refine Tri.load (has75 A) (fun _ => rfl) ?_
  refine Tri.load (has29 A) (fun _ => rfl) ?_
  refine Tri.store (has29 A) ?_
  refine Tri.load (has74 A) (fun _ => rfl) ?_
  refine Tri.load (has3 A) (fun _ => rfl) ?_
  refine Tri.load (has1 A) (fun _ => rfl) ?_
  refine Tri.load (has75 A) (fun _ => rfl) ?_
  refine Tri.load (has29 A) (fun _ => rfl) ?_
  refine Tri.store (has29 A) ?_
  refine Tri.load (has74 A) (fun _ => rfl) ?_
  refine Tri.load (has3 A) (fun _ => rfl) ?_
  refine Tri.load (has1 A) (fun _ => rfl) ?_
  exact Tri.pure rfl

/-- What `k0_part29` returns and leaves, from the contents `V`. -/
def e_part29 (V : St F) (i : grid0.Coords) (v347 : FVec F S128x1 .f32) (v348 : Vec F S128x512 .bf16) : (Σ' (v379 : FVec F S128x1 .f32), FVec F S128x512 .f32) × St F :=
  let v351 : Vec F S128x512 .f32 := fun j => V.x75 (((Rect.unit (s := S128x4096) ![0, 2048] S128x512.size inb_S128x4096_S128x512_0_2048).toLoadRect).idx j)
  let v354 : Vec F S128x512 .bf16 := fun j => V.x29 (((Rect.unit (s := S128x4096) ![0, 2048] S128x512.size inb_S128x4096_S128x512_0_2048).toLoadRect).idx j)
  let V1 : St F := V.s29 (((Rect.unit (s := S128x4096) ![0, 2048] S128x512.size inb_S128x4096_S128x512_0_2048)).overlay V.x29 (k0_pay224 v348 v351))
  let v355 : Vec F S128x512 .f32 := fun j => V1.x74 (((Rect.unit (s := S128x4096) ![0, 2048] S128x512.size inb_S128x4096_S128x512_0_2048).toLoadRect).idx j)
  let v356 : Vec F S1x512 .f32 := fun j => V1.x3 (((Rect.unit (s := S1x4096) ![0, 2048] S1x512.size inb_S1x4096_S1x512_0_2048).toLoadRect).idx j)
  let v364 : Vec F S128x512 .bf16 := fun j => V1.x1 (((Rect.unit (s := S128x4096) ![0, 2560] S128x512.size inb_S128x4096_S128x512_0_2560).toLoadRect).idx j)
  let v367 : Vec F S128x512 .f32 := fun j => V1.x75 (((Rect.unit (s := S128x4096) ![0, 2560] S128x512.size inb_S128x4096_S128x512_0_2560).toLoadRect).idx j)
  let v370 : Vec F S128x512 .bf16 := fun j => V1.x29 (((Rect.unit (s := S128x4096) ![0, 2560] S128x512.size inb_S128x4096_S128x512_0_2560).toLoadRect).idx j)
  let V2 : St F := V1.s29 (((Rect.unit (s := S128x4096) ![0, 2560] S128x512.size inb_S128x4096_S128x512_0_2560)).overlay V1.x29 (k0_pay226 v364 v367))
  let v371 : Vec F S128x512 .f32 := fun j => V2.x74 (((Rect.unit (s := S128x4096) ![0, 2560] S128x512.size inb_S128x4096_S128x512_0_2560).toLoadRect).idx j)
  let v372 : Vec F S1x512 .f32 := fun j => V2.x3 (((Rect.unit (s := S1x4096) ![0, 2560] S1x512.size inb_S1x4096_S1x512_0_2560).toLoadRect).idx j)
  let v380 : Vec F S128x512 .bf16 := fun j => V2.x1 (((Rect.unit (s := S128x4096) ![0, 3072] S128x512.size inb_S128x4096_S128x512_0_3072).toLoadRect).idx j)
  (⟨k0_pay227 v347 v348 v355 v356 v364 v371 v372, k0_pay228 v380⟩, V2)

theorem tri_part29 (c : Dev nD) (A : Args) (V : St F) (i : grid0.Coords) (v347 : FVec F S128x1 .f32) (v348 : Vec F S128x512 .bf16) :
    Tri c A V (A.app (k0_part29 i) v347 v348) (fun a W => (a, W) = e_part29 V i v347 v348) := by
  unfold Args.app
  rw [k0_part29_eq_skeleton]
  unfold k0_part29_skel
  refine Tri.load (has75 A) (fun _ => rfl) ?_
  refine Tri.load (has29 A) (fun _ => rfl) ?_
  refine Tri.store (has29 A) ?_
  refine Tri.load (has74 A) (fun _ => rfl) ?_
  refine Tri.load (has3 A) (fun _ => rfl) ?_
  refine Tri.load (has1 A) (fun _ => rfl) ?_
  refine Tri.load (has75 A) (fun _ => rfl) ?_
  refine Tri.load (has29 A) (fun _ => rfl) ?_
  refine Tri.store (has29 A) ?_
  refine Tri.load (has74 A) (fun _ => rfl) ?_
  refine Tri.load (has3 A) (fun _ => rfl) ?_
  refine Tri.load (has1 A) (fun _ => rfl) ?_
  exact Tri.pure rfl

/-- What `k0_part30` returns and leaves, from the contents `V`. -/
def e_part30 (V : St F) (i : grid0.Coords) (v282 : Vec F S128x1 .f32) (v379 : FVec F S128x1 .f32) (v382 : FVec F S128x512 .f32) : (Σ' (v414 : FVec F S128x1 .f32), Vec F S128x512 .bf16) × St F :=
  let v383 : Vec F S128x512 .f32 := fun j => V.x75 (((Rect.unit (s := S128x4096) ![0, 3072] S128x512.size inb_S128x4096_S128x512_0_3072).toLoadRect).idx j)
  let v386 : Vec F S128x512 .bf16 := fun j => V.x29 (((Rect.unit (s := S128x4096) ![0, 3072] S128x512.size inb_S128x4096_S128x512_0_3072).toLoadRect).idx j)
  let V1 : St F := V.s29 (((Rect.unit (s := S128x4096) ![0, 3072] S128x512.size inb_S128x4096_S128x512_0_3072)).overlay V.x29 (k0_pay229 v382 v383))
  let v387 : Vec F S128x512 .f32 := fun j => V1.x74 (((Rect.unit (s := S128x4096) ![0, 3072] S128x512.size inb_S128x4096_S128x512_0_3072).toLoadRect).idx j)
  let v388 : Vec F S1x512 .f32 := fun j => V1.x3 (((Rect.unit (s := S1x4096) ![0, 3072] S1x512.size inb_S1x4096_S1x512_0_3072).toLoadRect).idx j)
  let v396 : Vec F S128x512 .bf16 := fun j => V1.x1 (((Rect.unit (s := S128x4096) ![0, 3584] S128x512.size inb_S128x4096_S128x512_0_3584).toLoadRect).idx j)
  let v399 : Vec F S128x512 .f32 := fun j => V1.x75 (((Rect.unit (s := S128x4096) ![0, 3584] S128x512.size inb_S128x4096_S128x512_0_3584).toLoadRect).idx j)
  let v402 : Vec F S128x512 .bf16 := fun j => V1.x29 (((Rect.unit (s := S128x4096) ![0, 3584] S128x512.size inb_S128x4096_S128x512_0_3584).toLoadRect).idx j)
  let V2 : St F := V1.s29 (((Rect.unit (s := S128x4096) ![0, 3584] S128x512.size inb_S128x4096_S128x512_0_3584)).overlay V1.x29 (k0_pay231 v396 v399))
  let v403 : Vec F S128x512 .f32 := fun j => V2.x74 (((Rect.unit (s := S128x4096) ![0, 3584] S128x512.size inb_S128x4096_S128x512_0_3584).toLoadRect).idx j)
  let v404 : Vec F S1x512 .f32 := fun j => V2.x3 (((Rect.unit (s := S1x4096) ![0, 3584] S1x512.size inb_S1x4096_S1x512_0_3584).toLoadRect).idx j)
  let v415 : Vec F S128x1 .f32 := fun j => V2.x31 (((Rect.unit (s := S128x1) ![0, 0] S128x1.size inb_S128x1_S128x1_0_0).toLoadRect).idx j)
  let V3 : St F := V2.s31 (((Rect.unit (s := S128x1) ![0, 0] S128x1.size inb_S128x1_S128x1_0_0)).overlay V2.x31 (k0_pay232 v282 v379 v382 v387 v388 v396 v403 v404))
  let v416 : Vec F S128x512 .bf16 := fun j => V3.x1 (((Rect.unit (s := S128x4096) ![0, 0] S128x512.size inb_S128x4096_S128x512_0_0).toLoadRect).idx j)
  (⟨k0_pay232 v282 v379 v382 v387 v388 v396 v403 v404, v416⟩, V3)

theorem tri_part30 (c : Dev nD) (A : Args) (V : St F) (i : grid0.Coords) (v282 : Vec F S128x1 .f32) (v379 : FVec F S128x1 .f32) (v382 : FVec F S128x512 .f32) :
    Tri c A V (A.app (k0_part30 i) v282 v379 v382) (fun a W => (a, W) = e_part30 V i v282 v379 v382) := by
  unfold Args.app
  rw [k0_part30_eq_skeleton]
  unfold k0_part30_skel
  refine Tri.load (has75 A) (fun _ => rfl) ?_
  refine Tri.load (has29 A) (fun _ => rfl) ?_
  refine Tri.store (has29 A) ?_
  refine Tri.load (has74 A) (fun _ => rfl) ?_
  refine Tri.load (has3 A) (fun _ => rfl) ?_
  refine Tri.load (has1 A) (fun _ => rfl) ?_
  refine Tri.load (has75 A) (fun _ => rfl) ?_
  refine Tri.load (has29 A) (fun _ => rfl) ?_
  refine Tri.store (has29 A) ?_
  refine Tri.load (has74 A) (fun _ => rfl) ?_
  refine Tri.load (has3 A) (fun _ => rfl) ?_
  refine Tri.load (has31 A) (fun _ => rfl) ?_
  refine Tri.store (has31 A) ?_
  refine Tri.load (has1 A) (fun _ => rfl) ?_
  exact Tri.pure rfl

/-- What `k0_part31` returns and leaves, from the contents `V`. -/
def e_part31 (V : St F) (i : grid0.Coords) (v282 : Vec F S128x1 .f32) (v414 : FVec F S128x1 .f32) (v416 : Vec F S128x512 .bf16) : (FVec F S128x512 .bf16) × St F :=
  let v419 : Vec F S128x512 .f32 := fun j => V.x74 (((Rect.unit (s := S128x4096) ![0, 0] S128x512.size inb_S128x4096_S128x512_0_0).toLoadRect).idx j)
  let v420 : Vec F S1x512 .f32 := fun j => V.x3 (((Rect.unit (s := S1x4096) ![0, 0] S1x512.size inb_S1x4096_S1x512_0_0).toLoadRect).idx j)
  let v424 : Vec F S128x512 .bf16 := fun j => V.x2 (((Rect.unit (s := S128x4096) ![0, 0] S128x512.size inb_S128x4096_S128x512_0_0).toLoadRect).idx j)
  let v436 : Vec F S128x512 .bf16 := fun j => V.x30 (((Rect.unit (s := S128x4096) ![0, 0] S128x512.size inb_S128x4096_S128x512_0_0).toLoadRect).idx j)
  let V1 : St F := V.s30 (((Rect.unit (s := S128x4096) ![0, 0] S128x512.size inb_S128x4096_S128x512_0_0)).overlay V.x30 (k0_pay233 v282 v414 v416 v419 v420 v424))
  let v437 : Vec F S128x512 .bf16 := fun j => V1.x1 (((Rect.unit (s := S128x4096) ![0, 512] S128x512.size inb_S128x4096_S128x512_0_512).toLoadRect).idx j)
  let v440 : Vec F S128x512 .f32 := fun j => V1.x74 (((Rect.unit (s := S128x4096) ![0, 512] S128x512.size inb_S128x4096_S128x512_0_512).toLoadRect).idx j)
  let v441 : Vec F S1x512 .f32 := fun j => V1.x3 (((Rect.unit (s := S1x4096) ![0, 512] S1x512.size inb_S1x4096_S1x512_0_512).toLoadRect).idx j)
  let v445 : Vec F S128x512 .bf16 := fun j => V1.x2 (((Rect.unit (s := S128x4096) ![0, 512] S128x512.size inb_S128x4096_S128x512_0_512).toLoadRect).idx j)
  let v457 : Vec F S128x512 .bf16 := fun j => V1.x30 (((Rect.unit (s := S128x4096) ![0, 512] S128x512.size inb_S128x4096_S128x512_0_512).toLoadRect).idx j)
  ((k0_pay234 v282 v414 v437 v440 v441 v445), V1)

theorem tri_part31 (c : Dev nD) (A : Args) (V : St F) (i : grid0.Coords) (v282 : Vec F S128x1 .f32) (v414 : FVec F S128x1 .f32) (v416 : Vec F S128x512 .bf16) :
    Tri c A V (A.app (k0_part31 i) v282 v414 v416) (fun a W => (a, W) = e_part31 V i v282 v414 v416) := by
  unfold Args.app
  rw [k0_part31_eq_skeleton]
  unfold k0_part31_skel
  refine Tri.load (has74 A) (fun _ => rfl) ?_
  refine Tri.load (has3 A) (fun _ => rfl) ?_
  refine Tri.load (has2 A) (fun _ => rfl) ?_
  refine Tri.load (has30 A) (fun _ => rfl) ?_
  refine Tri.store (has30 A) ?_
  refine Tri.load (has1 A) (fun _ => rfl) ?_
  refine Tri.load (has74 A) (fun _ => rfl) ?_
  refine Tri.load (has3 A) (fun _ => rfl) ?_
  refine Tri.load (has2 A) (fun _ => rfl) ?_
  refine Tri.load (has30 A) (fun _ => rfl) ?_
  exact Tri.pure rfl

/-- What `k0_part32` returns and leaves, from the contents `V`. -/
def e_part32 (V : St F) (i : grid0.Coords) (v282 : Vec F S128x1 .f32) (v414 : FVec F S128x1 .f32) (v456 : FVec F S128x512 .bf16) : (FVec F S128x512 .f32) × St F :=
  let V1 : St F := V.s30 (((Rect.unit (s := S128x4096) ![0, 512] S128x512.size inb_S128x4096_S128x512_0_512)).overlay V.x30 v456)
  let v458 : Vec F S128x512 .bf16 := fun j => V1.x1 (((Rect.unit (s := S128x4096) ![0, 1024] S128x512.size inb_S128x4096_S128x512_0_1024).toLoadRect).idx j)
  let v461 : Vec F S128x512 .f32 := fun j => V1.x74 (((Rect.unit (s := S128x4096) ![0, 1024] S128x512.size inb_S128x4096_S128x512_0_1024).toLoadRect).idx j)
  let v462 : Vec F S1x512 .f32 := fun j => V1.x3 (((Rect.unit (s := S1x4096) ![0, 1024] S1x512.size inb_S1x4096_S1x512_0_1024).toLoadRect).idx j)
  let v466 : Vec F S128x512 .bf16 := fun j => V1.x2 (((Rect.unit (s := S128x4096) ![0, 1024] S128x512.size inb_S128x4096_S128x512_0_1024).toLoadRect).idx j)
  let v478 : Vec F S128x512 .bf16 := fun j => V1.x30 (((Rect.unit (s := S128x4096) ![0, 1024] S128x512.size inb_S128x4096_S128x512_0_1024).toLoadRect).idx j)
  let V2 : St F := V1.s30 (((Rect.unit (s := S128x4096) ![0, 1024] S128x512.size inb_S128x4096_S128x512_0_1024)).overlay V1.x30 (k0_pay235 v282 v414 v458 v461 v462 v466))
  let v479 : Vec F S128x512 .bf16 := fun j => V2.x1 (((Rect.unit (s := S128x4096) ![0, 1536] S128x512.size inb_S128x4096_S128x512_0_1536).toLoadRect).idx j)
  let v482 : Vec F S128x512 .f32 := fun j => V2.x74 (((Rect.unit (s := S128x4096) ![0, 1536] S128x512.size inb_S128x4096_S128x512_0_1536).toLoadRect).idx j)
  let v483 : Vec F S1x512 .f32 := fun j => V2.x3 (((Rect.unit (s := S1x4096) ![0, 1536] S1x512.size inb_S1x4096_S1x512_0_1536).toLoadRect).idx j)
  let v487 : Vec F S128x512 .bf16 := fun j => V2.x2 (((Rect.unit (s := S128x4096) ![0, 1536] S128x512.size inb_S128x4096_S128x512_0_1536).toLoadRect).idx j)
  ((k0_pay236 v282 v414 v479 v482 v483 v487), V2)

theorem tri_part32 (c : Dev nD) (A : Args) (V : St F) (i : grid0.Coords) (v282 : Vec F S128x1 .f32) (v414 : FVec F S128x1 .f32) (v456 : FVec F S128x512 .bf16) :
    Tri c A V (A.app (k0_part32 i) v282 v414 v456) (fun a W => (a, W) = e_part32 V i v282 v414 v456) := by
  unfold Args.app
  rw [k0_part32_eq_skeleton]
  unfold k0_part32_skel
  refine Tri.store (has30 A) ?_
  refine Tri.load (has1 A) (fun _ => rfl) ?_
  refine Tri.load (has74 A) (fun _ => rfl) ?_
  refine Tri.load (has3 A) (fun _ => rfl) ?_
  refine Tri.load (has2 A) (fun _ => rfl) ?_
  refine Tri.load (has30 A) (fun _ => rfl) ?_
  refine Tri.store (has30 A) ?_
  refine Tri.load (has1 A) (fun _ => rfl) ?_
  refine Tri.load (has74 A) (fun _ => rfl) ?_
  refine Tri.load (has3 A) (fun _ => rfl) ?_
  refine Tri.load (has2 A) (fun _ => rfl) ?_
  exact Tri.pure rfl

/-- What `k0_part33` returns and leaves, from the contents `V`. -/
def e_part33 (V : St F) (i : grid0.Coords) (v282 : Vec F S128x1 .f32) (v414 : FVec F S128x1 .f32) (v497 : FVec F S128x512 .f32) : (Σ' (v528 : FVec F S128x512 .f32) (v531 : FVec F S128x512 .f32), FVec F S128x512 .f32) × St F :=
  let v499 : Vec F S128x512 .bf16 := fun j => V.x30 (((Rect.unit (s := S128x4096) ![0, 1536] S128x512.size inb_S128x4096_S128x512_0_1536).toLoadRect).idx j)
  let V1 : St F := V.s30 (((Rect.unit (s := S128x4096) ![0, 1536] S128x512.size inb_S128x4096_S128x512_0_1536)).overlay V.x30 (k0_pay237 v497))
  let v500 : Vec F S128x512 .bf16 := fun j => V1.x1 (((Rect.unit (s := S128x4096) ![0, 2048] S128x512.size inb_S128x4096_S128x512_0_2048).toLoadRect).idx j)
  let v503 : Vec F S128x512 .f32 := fun j => V1.x74 (((Rect.unit (s := S128x4096) ![0, 2048] S128x512.size inb_S128x4096_S128x512_0_2048).toLoadRect).idx j)
  let v504 : Vec F S1x512 .f32 := fun j => V1.x3 (((Rect.unit (s := S1x4096) ![0, 2048] S1x512.size inb_S1x4096_S1x512_0_2048).toLoadRect).idx j)
  let v508 : Vec F S128x512 .bf16 := fun j => V1.x2 (((Rect.unit (s := S128x4096) ![0, 2048] S128x512.size inb_S128x4096_S128x512_0_2048).toLoadRect).idx j)
  let v520 : Vec F S128x512 .bf16 := fun j => V1.x30 (((Rect.unit (s := S128x4096) ![0, 2048] S128x512.size inb_S128x4096_S128x512_0_2048).toLoadRect).idx j)
  let V2 : St F := V1.s30 (((Rect.unit (s := S128x4096) ![0, 2048] S128x512.size inb_S128x4096_S128x512_0_2048)).overlay V1.x30 (k0_pay238 v282 v414 v500 v503 v504 v508))
  let v521 : Vec F S128x512 .bf16 := fun j => V2.x1 (((Rect.unit (s := S128x4096) ![0, 2560] S128x512.size inb_S128x4096_S128x512_0_2560).toLoadRect).idx j)
  let v524 : Vec F S128x512 .f32 := fun j => V2.x74 (((Rect.unit (s := S128x4096) ![0, 2560] S128x512.size inb_S128x4096_S128x512_0_2560).toLoadRect).idx j)
  let v525 : Vec F S1x512 .f32 := fun j => V2.x3 (((Rect.unit (s := S1x4096) ![0, 2560] S1x512.size inb_S1x4096_S1x512_0_2560).toLoadRect).idx j)
  let v529 : Vec F S128x512 .bf16 := fun j => V2.x2 (((Rect.unit (s := S128x4096) ![0, 2560] S128x512.size inb_S128x4096_S128x512_0_2560).toLoadRect).idx j)
  (⟨k0_pay239 v524 v525, k0_pay240 v529, k0_pay241 v282 v414 v521⟩, V2)

theorem tri_part33 (c : Dev nD) (A : Args) (V : St F) (i : grid0.Coords) (v282 : Vec F S128x1 .f32) (v414 : FVec F S128x1 .f32) (v497 : FVec F S128x512 .f32) :
    Tri c A V (A.app (k0_part33 i) v282 v414 v497) (fun a W => (a, W) = e_part33 V i v282 v414 v497) := by
  unfold Args.app
  rw [k0_part33_eq_skeleton]
  unfold k0_part33_skel
  refine Tri.load (has30 A) (fun _ => rfl) ?_
  refine Tri.store (has30 A) ?_
  refine Tri.load (has1 A) (fun _ => rfl) ?_
  refine Tri.load (has74 A) (fun _ => rfl) ?_
  refine Tri.load (has3 A) (fun _ => rfl) ?_
  refine Tri.load (has2 A) (fun _ => rfl) ?_
  refine Tri.load (has30 A) (fun _ => rfl) ?_
  refine Tri.store (has30 A) ?_
  refine Tri.load (has1 A) (fun _ => rfl) ?_
  refine Tri.load (has74 A) (fun _ => rfl) ?_
  refine Tri.load (has3 A) (fun _ => rfl) ?_
  refine Tri.load (has2 A) (fun _ => rfl) ?_
  exact Tri.pure rfl

/-- What `k0_part34` returns and leaves, from the contents `V`. -/
def e_part34 (V : St F) (i : grid0.Coords) (v282 : Vec F S128x1 .f32) (v414 : FVec F S128x1 .f32) (v528 : FVec F S128x512 .f32) (v531 : FVec F S128x512 .f32) (v535 : FVec F S128x512 .f32) : (Σ' (v565 : FVec F S128x512 .f32) (v570 : FVec F S128x512 .f32), FVec F S128x512 .f32) × St F :=
  let v541 : Vec F S128x512 .bf16 := fun j => V.x30 (((Rect.unit (s := S128x4096) ![0, 2560] S128x512.size inb_S128x4096_S128x512_0_2560).toLoadRect).idx j)
  let V1 : St F := V.s30 (((Rect.unit (s := S128x4096) ![0, 2560] S128x512.size inb_S128x4096_S128x512_0_2560)).overlay V.x30 (k0_pay242 v282 v528 v531 v535))
  let v542 : Vec F S128x512 .bf16 := fun j => V1.x1 (((Rect.unit (s := S128x4096) ![0, 3072] S128x512.size inb_S128x4096_S128x512_0_3072).toLoadRect).idx j)
  let v545 : Vec F S128x512 .f32 := fun j => V1.x74 (((Rect.unit (s := S128x4096) ![0, 3072] S128x512.size inb_S128x4096_S128x512_0_3072).toLoadRect).idx j)
  let v546 : Vec F S1x512 .f32 := fun j => V1.x3 (((Rect.unit (s := S1x4096) ![0, 3072] S1x512.size inb_S1x4096_S1x512_0_3072).toLoadRect).idx j)
  let v550 : Vec F S128x512 .bf16 := fun j => V1.x2 (((Rect.unit (s := S128x4096) ![0, 3072] S128x512.size inb_S128x4096_S128x512_0_3072).toLoadRect).idx j)
  let v562 : Vec F S128x512 .bf16 := fun j => V1.x30 (((Rect.unit (s := S128x4096) ![0, 3072] S128x512.size inb_S128x4096_S128x512_0_3072).toLoadRect).idx j)
  let V2 : St F := V1.s30 (((Rect.unit (s := S128x4096) ![0, 3072] S128x512.size inb_S128x4096_S128x512_0_3072)).overlay V1.x30 (k0_pay243 v282 v414 v542 v545 v546 v550))
  let v563 : Vec F S128x512 .bf16 := fun j => V2.x1 (((Rect.unit (s := S128x4096) ![0, 3584] S128x512.size inb_S128x4096_S128x512_0_3584).toLoadRect).idx j)
  let v566 : Vec F S128x512 .f32 := fun j => V2.x74 (((Rect.unit (s := S128x4096) ![0, 3584] S128x512.size inb_S128x4096_S128x512_0_3584).toLoadRect).idx j)
  let v567 : Vec F S1x512 .f32 := fun j => V2.x3 (((Rect.unit (s := S1x4096) ![0, 3584] S1x512.size inb_S1x4096_S1x512_0_3584).toLoadRect).idx j)
  let v571 : Vec F S128x512 .bf16 := fun j => V2.x2 (((Rect.unit (s := S128x4096) ![0, 3584] S128x512.size inb_S128x4096_S128x512_0_3584).toLoadRect).idx j)
  (⟨k0_pay244 v563, k0_pay245 v566 v567, k0_pay246 v571⟩, V2)

theorem tri_part34 (c : Dev nD) (A : Args) (V : St F) (i : grid0.Coords) (v282 : Vec F S128x1 .f32) (v414 : FVec F S128x1 .f32) (v528 : FVec F S128x512 .f32) (v531 : FVec F S128x512 .f32) (v535 : FVec F S128x512 .f32) :
    Tri c A V (A.app (k0_part34 i) v282 v414 v528 v531 v535) (fun a W => (a, W) = e_part34 V i v282 v414 v528 v531 v535) := by
  unfold Args.app
  rw [k0_part34_eq_skeleton]
  unfold k0_part34_skel
  refine Tri.load (has30 A) (fun _ => rfl) ?_
  refine Tri.store (has30 A) ?_
  refine Tri.load (has1 A) (fun _ => rfl) ?_
  refine Tri.load (has74 A) (fun _ => rfl) ?_
  refine Tri.load (has3 A) (fun _ => rfl) ?_
  refine Tri.load (has2 A) (fun _ => rfl) ?_
  refine Tri.load (has30 A) (fun _ => rfl) ?_
  refine Tri.store (has30 A) ?_
  refine Tri.load (has1 A) (fun _ => rfl) ?_
  refine Tri.load (has74 A) (fun _ => rfl) ?_
  refine Tri.load (has3 A) (fun _ => rfl) ?_
  refine Tri.load (has2 A) (fun _ => rfl) ?_
  exact Tri.pure rfl

/-- What `k0_part38` returns and leaves, from the contents `V`. -/
def e_part38 (V : St F) (i : grid0.Coords) (v100 : FVec F S64x256 .f32) (v101 : FVec F S64x256 .f32) : (Σ' (v107 : FVec F S64x256 .f32) (v112 : FVec F S64x256 .f32) (v114 : FVec F S64x256 .f32) (v116 : FVec F S64x256 .f32) (v120 : FVec F S64x256 .f32) (v122 : FVec F S64x256 .f32) (v125 : Elt F .f32) (v126 : Elt F .f32) (v127 : Elt F .f32) (v128 : Elt F .f32) (v133 : FVec F S64x256 .f32), FVec F S64x256 .f32) × St F :=
  let v103 : Vec F S64x256 .f32 := fun j => V.x82 (((Rect.unit (s := S64x256) ![0, 0] S64x256.size inb_S64x256_S64x256_0_0).toLoadRect).idx j)
  let v104 : Vec F S64x256 .f32 := fun j => V.x11 (((Rect.unit (s := S64x256) ![0, 0] S64x256.size inb_S64x256_S64x256_0_0).toLoadRect).idx j)
  let v108 : Vec F S64x256 .f32 := fun j => V.x12 (((Rect.unit (s := S64x256) ![0, 0] S64x256.size inb_S64x256_S64x256_0_0).toLoadRect).idx j)
  let v113 : Vec F S64x256 .f32 := fun j => V.x11 (((Rect.unit (s := S64x256) ![0, 0] S64x256.size inb_S64x256_S64x256_0_0).toLoadRect).idx j)
  let v115 : Vec F S64x256 .f32 := fun j => V.x12 (((Rect.unit (s := S64x256) ![0, 0] S64x256.size inb_S64x256_S64x256_0_0).toLoadRect).idx j)
  let v117 : Vec F S64x256 .f32 := fun j => V.x13 (((Rect.unit (s := S64x256) ![0, 0] S64x256.size inb_S64x256_S64x256_0_0).toLoadRect).idx j)
  let v119 : Vec F S64x256 .f32 := fun j => V.x14 (((Rect.unit (s := S64x256) ![0, 0] S64x256.size inb_S64x256_S64x256_0_0).toLoadRect).idx j)
  let v121 : Vec F S64x256 .f32 := fun j => V.x15 (((Rect.unit (s := S64x256) ![0, 0] S64x256.size inb_S64x256_S64x256_0_0).toLoadRect).idx j)
  let v123 : Vec F S64x256 .f32 := fun j => V.x16 (((Rect.unit (s := S64x256) ![0, 0] S64x256.size inb_S64x256_S64x256_0_0).toLoadRect).idx j)
  let v125 : Elt F .f32 := V.x6 (Rect.toLoadRect ((Rect.unit (s := S1) ![0] S1.size inb_S1_S1_0)) |>.idx (Shape.Idx.first ((numel1_S1).symm ▸ Nat.one_pos)))
  let v126 : Elt F .f32 := V.x7 (Rect.toLoadRect ((Rect.unit (s := S1) ![0] S1.size inb_S1_S1_0)) |>.idx (Shape.Idx.first ((numel1_S1).symm ▸ Nat.one_pos)))
  let v127 : Elt F .f32 := V.x4 (Rect.toLoadRect ((Rect.unit (s := S6) ![0] S1.size inb_S6_S1_0)) |>.idx (Shape.Idx.first ((numel1_S1).symm ▸ Nat.one_pos)))
  let v128 : Elt F .f32 := V.x5 (Rect.toLoadRect ((Rect.unit (s := S6) ![0] S1.size inb_S6_S1_0)) |>.idx (Shape.Idx.first ((numel1_S1).symm ▸ Nat.one_pos)))
  (⟨k0_pay275 v100 v101 v103 v104, k0_pay276 v100 v101 v108, k0_pay277 v113, k0_pay278 v115, k0_pay279 v119, k0_pay280 v121, v125, v126, v127, v128, k0_pay281 v100 v101 v103 v104 v117, k0_pay282 v123⟩, V)

theorem tri_part38 (c : Dev nD) (A : Args) (V : St F) (i : grid0.Coords) (v100 : FVec F S64x256 .f32) (v101 : FVec F S64x256 .f32) :
    Tri c A V (A.app (k0_part38 i) v100 v101) (fun a W => (a, W) = e_part38 V i v100 v101) := by
  unfold Args.app
  rw [k0_part38_eq_skeleton]
  unfold k0_part38_skel
  refine Tri.load (has82 A) (fun _ => rfl) ?_
  refine Tri.load (has11 A) (fun _ => rfl) ?_
  refine Tri.load (has12 A) (fun _ => rfl) ?_
  refine Tri.load (has11 A) (fun _ => rfl) ?_
  refine Tri.load (has12 A) (fun _ => rfl) ?_
  refine Tri.load (has13 A) (fun _ => rfl) ?_
  refine Tri.load (has14 A) (fun _ => rfl) ?_
  refine Tri.load (has15 A) (fun _ => rfl) ?_
  refine Tri.load (has16 A) (fun _ => rfl) ?_
  refine Tri.smem (has6 A) (fun _ => rfl) ?_
  refine Tri.smem (has7 A) (fun _ => rfl) ?_
  refine Tri.smem (has4 A) (fun _ => rfl) ?_
  refine Tri.smem (has5 A) (fun _ => rfl) ?_
  exact Tri.pure rfl

/-- What `k0_part39` returns and leaves, from the contents `V`. -/
def e_part39 (V : St F) (i : grid0.Coords) (v107 : FVec F S64x256 .f32) (v112 : FVec F S64x256 .f32) (v116 : FVec F S64x256 .f32) (v120 : FVec F S64x256 .f32) (v122 : FVec F S64x256 .f32) (v125 : Elt F .f32) (v126 : Elt F .f32) (v127 : Elt F .f32) (v128 : Elt F .f32) (v133 : FVec F S64x256 .f32) (v135 : FVec F S64x256 .f32) : (Σ' (v157 : Elt F .f32) (v162 : FVec F S64x256 .f32) (v168 : FVec F S64x256 .f32) (v172 : FVec F S64x256 .f32), FVec F S64x256 .f32) × St F :=
  let v151 : Vec F S64x256 .f32 := fun j => V.x33 (((Rect.unit (s := S64x256) ![0, 0] S64x256.size inb_S64x256_S64x256_0_0).toLoadRect).idx j)
  let V1 : St F := V.s33 (((Rect.unit (s := S64x256) ![0, 0] S64x256.size inb_S64x256_S64x256_0_0)).overlay V.x33 v107)
  let v152 : Vec F S64x256 .f32 := fun j => V1.x34 (((Rect.unit (s := S64x256) ![0, 0] S64x256.size inb_S64x256_S64x256_0_0).toLoadRect).idx j)
  let V2 : St F := V1.s34 (((Rect.unit (s := S64x256) ![0, 0] S64x256.size inb_S64x256_S64x256_0_0)).overlay V1.x34 (k0_pay284 v107 v125 v126 v127 v128 v133 v135))
  let v153 : Vec F S64x256 .f32 := fun j => V2.x35 (((Rect.unit (s := S64x256) ![0, 0] S64x256.size inb_S64x256_S64x256_0_0).toLoadRect).idx j)
  let V3 : St F := V2.s35 (((Rect.unit (s := S64x256) ![0, 0] S64x256.size inb_S64x256_S64x256_0_0)).overlay V2.x35 (k0_pay285 v107 v116 v125 v126 v127 v128 v133 v135))
  let v154 : Vec F S64x256 .f32 := fun j => V3.x36 (((Rect.unit (s := S64x256) ![0, 0] S64x256.size inb_S64x256_S64x256_0_0).toLoadRect).idx j)
  let V4 : St F := V3.s36 (((Rect.unit (s := S64x256) ![0, 0] S64x256.size inb_S64x256_S64x256_0_0)).overlay V3.x36 v133)
  let v155 : Vec F S64x256 .f32 := fun j => V4.x37 (((Rect.unit (s := S64x256) ![0, 0] S64x256.size inb_S64x256_S64x256_0_0).toLoadRect).idx j)
  let V5 : St F := V4.s37 (((Rect.unit (s := S64x256) ![0, 0] S64x256.size inb_S64x256_S64x256_0_0)).overlay V4.x37 (k0_pay283 v107 v135))
  let v156 : Elt F .f32 := V5.x4 (Rect.toLoadRect ((Rect.unit (s := S6) ![3] S1.size inb_S6_S1_3)) |>.idx (Shape.Idx.first ((numel1_S1).symm ▸ Nat.one_pos)))
  let v157 : Elt F .f32 := V5.x5 (Rect.toLoadRect ((Rect.unit (s := S6) ![3] S1.size inb_S6_S1_3)) |>.idx (Shape.Idx.first ((numel1_S1).symm ▸ Nat.one_pos)))
  (⟨v157, k0_pay286 v112 v120, k0_pay287 v112 v122, k0_pay288 v112 v120 v125 v156, k0_pay289 v126⟩, V5)

theorem tri_part39 (c : Dev nD) (A : Args) (V : St F) (i : grid0.Coords) (v107 : FVec F S64x256 .f32) (v112 : FVec F S64x256 .f32) (v116 : FVec F S64x256 .f32) (v120 : FVec F S64x256 .f32) (v122 : FVec F S64x256 .f32) (v125 : Elt F .f32) (v126 : Elt F .f32) (v127 : Elt F .f32) (v128 : Elt F .f32) (v133 : FVec F S64x256 .f32) (v135 : FVec F S64x256 .f32) :
    Tri c A V (A.app (k0_part39 i) v107 v112 v116 v120 v122 v125 v126 v127 v128 v133 v135) (fun a W => (a, W) = e_part39 V i v107 v112 v116 v120 v122 v125 v126 v127 v128 v133 v135) := by
  unfold Args.app
  rw [k0_part39_eq_skeleton]
  unfold k0_part39_skel
  refine Tri.load (has33 A) (fun _ => rfl) ?_
  refine Tri.store (has33 A) ?_
  refine Tri.load (has34 A) (fun _ => rfl) ?_
  refine Tri.store (has34 A) ?_
  refine Tri.load (has35 A) (fun _ => rfl) ?_
  refine Tri.store (has35 A) ?_
  refine Tri.load (has36 A) (fun _ => rfl) ?_
  refine Tri.store (has36 A) ?_
  refine Tri.load (has37 A) (fun _ => rfl) ?_
  refine Tri.store (has37 A) ?_
  refine Tri.smem (has4 A) (fun _ => rfl) ?_
  refine Tri.smem (has5 A) (fun _ => rfl) ?_
  exact Tri.pure rfl

/-- What `k0_part40` returns and leaves, from the contents `V`. -/
def e_part40 (V : St F) (i : grid0.Coords) (v69 : FVec F S128x256 .bf16) (v112 : FVec F S64x256 .f32) (v114 : FVec F S64x256 .f32) (v157 : Elt F .f32) (v162 : FVec F S64x256 .f32) (v168 : FVec F S64x256 .f32) (v172 : FVec F S64x256 .f32) (v173 : FVec F S64x256 .f32) : (Σ' (v196 : FVec F S64x256 .f32) (v201 : FVec F S64x256 .f32) (v203 : FVec F S64x256 .f32), Vec F S64x256 .f32) × St F :=
  let v180 : Vec F S64x256 .f32 := fun j => V.x38 (((Rect.unit (s := S64x256) ![0, 0] S64x256.size inb_S64x256_S64x256_0_0).toLoadRect).idx j)
  let V1 : St F := V.s38 (((Rect.unit (s := S64x256) ![0, 0] S64x256.size inb_S64x256_S64x256_0_0)).overlay V.x38 v112)
  let v181 : Vec F S64x256 .f32 := fun j => V1.x39 (((Rect.unit (s := S64x256) ![0, 0] S64x256.size inb_S64x256_S64x256_0_0).toLoadRect).idx j)
  let V2 : St F := V1.s39 (((Rect.unit (s := S64x256) ![0, 0] S64x256.size inb_S64x256_S64x256_0_0)).overlay V1.x39 (k0_pay290 v157 v168 v172 v173))
  let v182 : Vec F S64x256 .f32 := fun j => V2.x40 (((Rect.unit (s := S64x256) ![0, 0] S64x256.size inb_S64x256_S64x256_0_0).toLoadRect).idx j)
  let V3 : St F := V2.s40 (((Rect.unit (s := S64x256) ![0, 0] S64x256.size inb_S64x256_S64x256_0_0)).overlay V2.x40 (k0_pay291 v114 v157 v168 v172 v173))
  let v183 : Vec F S64x256 .f32 := fun j => V3.x41 (((Rect.unit (s := S64x256) ![0, 0] S64x256.size inb_S64x256_S64x256_0_0).toLoadRect).idx j)
  let V4 : St F := V3.s41 (((Rect.unit (s := S64x256) ![0, 0] S64x256.size inb_S64x256_S64x256_0_0)).overlay V3.x41 v162)
  let v184 : Vec F S64x256 .f32 := fun j => V4.x42 (((Rect.unit (s := S64x256) ![0, 0] S64x256.size inb_S64x256_S64x256_0_0).toLoadRect).idx j)
  let V5 : St F := V4.s42 (((Rect.unit (s := S64x256) ![0, 0] S64x256.size inb_S64x256_S64x256_0_0)).overlay V4.x42 v168)
  let v185 : Vec F S192x128 .bf16 := fun j => V5.x64 (((Rect.unit (s := S4288x128) ![4096, 0] S192x128.size inb_S4288x128_S192x128_4096_0).toLoadRect).idx j)
  let v192 : Vec F S64x256 .f32 := fun j => V5.x83 (((Rect.unit (s := S64x256) ![0, 0] S64x256.size inb_S64x256_S64x256_0_0).toLoadRect).idx j)
  let v193 : Vec F S64x256 .f32 := fun j => V5.x17 (((Rect.unit (s := S64x256) ![0, 0] S64x256.size inb_S64x256_S64x256_0_0).toLoadRect).idx j)
  let v197 : Vec F S64x256 .f32 := fun j => V5.x18 (((Rect.unit (s := S64x256) ![0, 0] S64x256.size inb_S64x256_S64x256_0_0).toLoadRect).idx j)
  let v202 : Vec F S64x256 .f32 := fun j => V5.x17 (((Rect.unit (s := S64x256) ![0, 0] S64x256.size inb_S64x256_S64x256_0_0).toLoadRect).idx j)
  let v204 : Vec F S64x256 .f32 := fun j => V5.x18 (((Rect.unit (s := S64x256) ![0, 0] S64x256.size inb_S64x256_S64x256_0_0).toLoadRect).idx j)
  (⟨k0_pay293 v69 v185 v192 v193, k0_pay294 v69 v185 v197, k0_pay295 v202, v204⟩, V5)

theorem tri_part40 (c : Dev nD) (A : Args) (V : St F) (i : grid0.Coords) (v69 : FVec F S128x256 .bf16) (v112 : FVec F S64x256 .f32) (v114 : FVec F S64x256 .f32) (v157 : Elt F .f32) (v162 : FVec F S64x256 .f32) (v168 : FVec F S64x256 .f32) (v172 : FVec F S64x256 .f32) (v173 : FVec F S64x256 .f32) :
    Tri c A V (A.app (k0_part40 i) v69 v112 v114 v157 v162 v168 v172 v173) (fun a W => (a, W) = e_part40 V i v69 v112 v114 v157 v162 v168 v172 v173) := by
  unfold Args.app
  rw [k0_part40_eq_skeleton]
  unfold k0_part40_skel
  refine Tri.load (has38 A) (fun _ => rfl) ?_
  refine Tri.store (has38 A) ?_
  refine Tri.load (has39 A) (fun _ => rfl) ?_
  refine Tri.store (has39 A) ?_
  refine Tri.load (has40 A) (fun _ => rfl) ?_
  refine Tri.store (has40 A) ?_
  refine Tri.load (has41 A) (fun _ => rfl) ?_
  refine Tri.store (has41 A) ?_
  refine Tri.load (has42 A) (fun _ => rfl) ?_
  refine Tri.store (has42 A) ?_
  refine Tri.load (has64 A) (fun _ => rfl) ?_
  refine Tri.load (has83 A) (fun _ => rfl) ?_
  refine Tri.load (has17 A) (fun _ => rfl) ?_
  refine Tri.load (has18 A) (fun _ => rfl) ?_
  refine Tri.load (has17 A) (fun _ => rfl) ?_
  refine Tri.load (has18 A) (fun _ => rfl) ?_
  exact Tri.pure rfl

/-- What `k0_part41` returns and leaves, from the contents `V`. -/
def e_part41 (V : St F) (i : grid0.Coords) (v196 : FVec F S64x256 .f32) (v204 : Vec F S64x256 .f32) : (Σ' (v209 : FVec F S64x256 .f32) (v211 : FVec F S64x256 .f32) (v214 : Elt F .f32) (v215 : Elt F .f32) (v222 : FVec F S64x256 .f32) (v228 : FVec F S64x256 .f32), FVec F S64x256 .f32) × St F :=
  let v206 : Vec F S64x256 .f32 := fun j => V.x19 (((Rect.unit (s := S64x256) ![0, 0] S64x256.size inb_S64x256_S64x256_0_0).toLoadRect).idx j)
  let v208 : Vec F S64x256 .f32 := fun j => V.x20 (((Rect.unit (s := S64x256) ![0, 0] S64x256.size inb_S64x256_S64x256_0_0).toLoadRect).idx j)
  let v210 : Vec F S64x256 .f32 := fun j => V.x21 (((Rect.unit (s := S64x256) ![0, 0] S64x256.size inb_S64x256_S64x256_0_0).toLoadRect).idx j)
  let v212 : Vec F S64x256 .f32 := fun j => V.x22 (((Rect.unit (s := S64x256) ![0, 0] S64x256.size inb_S64x256_S64x256_0_0).toLoadRect).idx j)
  let v214 : Elt F .f32 := V.x6 (Rect.toLoadRect ((Rect.unit (s := S1) ![0] S1.size inb_S1_S1_0)) |>.idx (Shape.Idx.first ((numel1_S1).symm ▸ Nat.one_pos)))
  let v215 : Elt F .f32 := V.x7 (Rect.toLoadRect ((Rect.unit (s := S1) ![0] S1.size inb_S1_S1_0)) |>.idx (Shape.Idx.first ((numel1_S1).symm ▸ Nat.one_pos)))
  let v216 : Elt F .f32 := V.x4 (Rect.toLoadRect ((Rect.unit (s := S6) ![1] S1.size inb_S6_S1_1)) |>.idx (Shape.Idx.first ((numel1_S1).symm ▸ Nat.one_pos)))
  let v217 : Elt F .f32 := V.x5 (Rect.toLoadRect ((Rect.unit (s := S6) ![1] S1.size inb_S6_S1_1)) |>.idx (Shape.Idx.first ((numel1_S1).symm ▸ Nat.one_pos)))
  let v240 : Vec F S64x256 .f32 := fun j => V.x43 (((Rect.unit (s := S64x256) ![0, 0] S64x256.size inb_S64x256_S64x256_0_0).toLoadRect).idx j)
  let V1 : St F := V.s43 (((Rect.unit (s := S64x256) ![0, 0] S64x256.size inb_S64x256_S64x256_0_0)).overlay V.x43 v196)
  let v241 : Vec F S64x256 .f32 := fun j => V1.x44 (((Rect.unit (s := S64x256) ![0, 0] S64x256.size inb_S64x256_S64x256_0_0).toLoadRect).idx j)
  let V2 : St F := V1.s44 (((Rect.unit (s := S64x256) ![0, 0] S64x256.size inb_S64x256_S64x256_0_0)).overlay V1.x44 (k0_pay300 v196 v206 v212 v214 v215 v216 v217))
  (⟨k0_pay296 v208, k0_pay297 v210, v214, v215, k0_pay298 v196 v206, k0_pay299 v196 v212, k0_pay301 v196 v204 v206 v212 v214 v215 v216 v217⟩, V2)

theorem tri_part41 (c : Dev nD) (A : Args) (V : St F) (i : grid0.Coords) (v196 : FVec F S64x256 .f32) (v204 : Vec F S64x256 .f32) :
    Tri c A V (A.app (k0_part41 i) v196 v204) (fun a W => (a, W) = e_part41 V i v196 v204) := by
  unfold Args.app
  rw [k0_part41_eq_skeleton]
  unfold k0_part41_skel
  refine Tri.load (has19 A) (fun _ => rfl) ?_
  refine Tri.load (has20 A) (fun _ => rfl) ?_
  refine Tri.load (has21 A) (fun _ => rfl) ?_
  refine Tri.load (has22 A) (fun _ => rfl) ?_
  refine Tri.smem (has6 A) (fun _ => rfl) ?_
  refine Tri.smem (has7 A) (fun _ => rfl) ?_
  refine Tri.smem (has4 A) (fun _ => rfl) ?_
  refine Tri.smem (has5 A) (fun _ => rfl) ?_
  refine Tri.load (has43 A) (fun _ => rfl) ?_
  refine Tri.store (has43 A) ?_
  refine Tri.load (has44 A) (fun _ => rfl) ?_
  refine Tri.store (has44 A) ?_
  exact Tri.pure rfl

/-- What `k0_part42` returns and leaves, from the contents `V`. -/
def e_part42 (V : St F) (i : grid0.Coords) (v201 : FVec F S64x256 .f32) (v203 : FVec F S64x256 .f32) (v209 : FVec F S64x256 .f32) (v211 : FVec F S64x256 .f32) (v214 : Elt F .f32) (v215 : Elt F .f32) (v222 : FVec F S64x256 .f32) (v228 : FVec F S64x256 .f32) (v239 : FVec F S64x256 .f32) : (FVec F S64x256 .f32) × St F :=
  let v242 : Vec F S64x256 .f32 := fun j => V.x45 (((Rect.unit (s := S64x256) ![0, 0] S64x256.size inb_S64x256_S64x256_0_0).toLoadRect).idx j)
  let V1 : St F := V.s45 (((Rect.unit (s := S64x256) ![0, 0] S64x256.size inb_S64x256_S64x256_0_0)).overlay V.x45 v239)
  let v243 : Vec F S64x256 .f32 := fun j => V1.x46 (((Rect.unit (s := S64x256) ![0, 0] S64x256.size inb_S64x256_S64x256_0_0).toLoadRect).idx j)
  let V2 : St F := V1.s46 (((Rect.unit (s := S64x256) ![0, 0] S64x256.size inb_S64x256_S64x256_0_0)).overlay V1.x46 v222)
  let v244 : Vec F S64x256 .f32 := fun j => V2.x47 (((Rect.unit (s := S64x256) ![0, 0] S64x256.size inb_S64x256_S64x256_0_0).toLoadRect).idx j)
  let V3 : St F := V2.s47 (((Rect.unit (s := S64x256) ![0, 0] S64x256.size inb_S64x256_S64x256_0_0)).overlay V2.x47 v228)
  let v245 : Elt F .f32 := V3.x4 (Rect.toLoadRect ((Rect.unit (s := S6) ![4] S1.size inb_S6_S1_4)) |>.idx (Shape.Idx.first ((numel1_S1).symm ▸ Nat.one_pos)))
  let v246 : Elt F .f32 := V3.x5 (Rect.toLoadRect ((Rect.unit (s := S6) ![4] S1.size inb_S6_S1_4)) |>.idx (Shape.Idx.first ((numel1_S1).symm ▸ Nat.one_pos)))
  let v269 : Vec F S64x256 .f32 := fun j => V3.x48 (((Rect.unit (s := S64x256) ![0, 0] S64x256.size inb_S64x256_S64x256_0_0).toLoadRect).idx j)
  let V4 : St F := V3.s48 (((Rect.unit (s := S64x256) ![0, 0] S64x256.size inb_S64x256_S64x256_0_0)).overlay V3.x48 v201)
  let v270 : Vec F S64x256 .f32 := fun j => V4.x49 (((Rect.unit (s := S64x256) ![0, 0] S64x256.size inb_S64x256_S64x256_0_0).toLoadRect).idx j)
  let V5 : St F := V4.s49 (((Rect.unit (s := S64x256) ![0, 0] S64x256.size inb_S64x256_S64x256_0_0)).overlay V4.x49 (k0_pay304 v201 v209 v211 v214 v215 v245 v246))
  let v271 : Vec F S64x256 .f32 := fun j => V5.x50 (((Rect.unit (s := S64x256) ![0, 0] S64x256.size inb_S64x256_S64x256_0_0).toLoadRect).idx j)
  let V6 : St F := V5.s50 (((Rect.unit (s := S64x256) ![0, 0] S64x256.size inb_S64x256_S64x256_0_0)).overlay V5.x50 (k0_pay305 v201 v203 v209 v211 v214 v215 v245 v246))
  let v272 : Vec F S64x256 .f32 := fun j => V6.x51 (((Rect.unit (s := S64x256) ![0, 0] S64x256.size inb_S64x256_S64x256_0_0).toLoadRect).idx j)
  let V7 : St F := V6.s51 (((Rect.unit (s := S64x256) ![0, 0] S64x256.size inb_S64x256_S64x256_0_0)).overlay V6.x51 (k0_pay302 v201 v209))
  let v273 : Vec F S64x256 .f32 := fun j => V7.x52 (((Rect.unit (s := S64x256) ![0, 0] S64x256.size inb_S64x256_S64x256_0_0).toLoadRect).idx j)
  ((k0_pay303 v201 v211), V7)

theorem tri_part42 (c : Dev nD) (A : Args) (V : St F) (i : grid0.Coords) (v201 : FVec F S64x256 .f32) (v203 : FVec F S64x256 .f32) (v209 : FVec F S64x256 .f32) (v211 : FVec F S64x256 .f32) (v214 : Elt F .f32) (v215 : Elt F .f32) (v222 : FVec F S64x256 .f32) (v228 : FVec F S64x256 .f32) (v239 : FVec F S64x256 .f32) :
    Tri c A V (A.app (k0_part42 i) v201 v203 v209 v211 v214 v215 v222 v228 v239) (fun a W => (a, W) = e_part42 V i v201 v203 v209 v211 v214 v215 v222 v228 v239) := by
  unfold Args.app
  rw [k0_part42_eq_skeleton]
  unfold k0_part42_skel
  refine Tri.load (has45 A) (fun _ => rfl) ?_
  refine Tri.store (has45 A) ?_
  refine Tri.load (has46 A) (fun _ => rfl) ?_
  refine Tri.store (has46 A) ?_
  refine Tri.load (has47 A) (fun _ => rfl) ?_
  refine Tri.store (has47 A) ?_
  refine Tri.smem (has4 A) (fun _ => rfl) ?_
  refine Tri.smem (has5 A) (fun _ => rfl) ?_
  refine Tri.load (has48 A) (fun _ => rfl) ?_
  refine Tri.store (has48 A) ?_
  refine Tri.load (has49 A) (fun _ => rfl) ?_
  refine Tri.store (has49 A) ?_
  refine Tri.load (has50 A) (fun _ => rfl) ?_
  refine Tri.store (has50 A) ?_
  refine Tri.load (has51 A) (fun _ => rfl) ?_
  refine Tri.store (has51 A) ?_
  refine Tri.load (has52 A) (fun _ => rfl) ?_
  exact Tri.pure rfl

end Cert.Proof.KI

end
-- ==== Proof.KI.Run.lean ====
module

public import proofs.«01_k».proof.Proof.KI.RunA
public import proofs.«01_k».proof.Proof.KI.RunB
public import proofs.«01_k».proof.Proof.KI.RunC

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The same for the whole body. -/

/-- `f` done for the trips below `k`, in order. -/
def iter {n : ℕ} (f : Fin n → St F → St F) : ℕ → St F → St F
  | 0, V => V
  | k + 1, V => if h : k < n then f ⟨k, h⟩ (iter f k V) else iter f k V

theorem iter_succ {n : ℕ} (f : Fin n → St F → St F) (k : Fin n) (V : St F) : iter f (k.val + 1) V = f k (iter f k.val V) :=
  dif_pos k.isLt

/-- What the conditional part `k0_h1` of `k0_part35` leaves, from the contents `V`. -/
def e_h1 (V : St F) (i : grid0.Coords) : St F :=
  let p1 := e_part1 V i
  let v294 := p1.1.1
  let v319 := p1.1.2.1
  let v321 := p1.1.2.2
  let V1 : St F := p1.2
  let p2 := e_part2 V1 i v294 v319 v321
  let v357 := p2.1
  let V2 : St F := p2.2
  let p3 := e_part3 V2 i v294 v357
  let v392 := p3.1
  let V3 : St F := p3.2
  let p4 := e_part4 V3 i v392
  let v429 := p4.1
  let V4 : St F := p4.2
  let p5 := e_part5 V4 i v294 v429
  let v469 := p5.1
  let V5 : St F := p5.2
  let p6 := e_part6 V5 i v294 v469
  let v499 := p6.1.1
  let v502 := p6.1.2.1
  let v505 := p6.1.2.2
  let V6 : St F := p6.2
  let p7 := e_part7 V6 i v294 v499 v502 v505
  let v542 := p7.1
  let V7 : St F := p7.2
  let p8 := e_part8 V7 i v294 v542
  let v577 := p8.1.1
  let v578 := p8.1.2
  let V8 : St F := p8.2
  let p9 := e_part9 V8 i v577 v578
  let v614 := p9.1
  let V9 : St F := p9.2
  let p10 := e_part10 V9 i v294 v614
  let v653 := p10.1
  let V10 : St F := p10.2
  let V11 : St F := V10.s74 (((Rect.unit (s := S128x4096) ![0, 3584] S128x512.size inb_S128x4096_S128x512_0_3584)).overlay V10.x74 v653)
  let v655 : Vec F S128x512 .f32 := fun j => V11.x75 (((Rect.unit (s := S128x4096) ![0, 3584] S128x512.size inb_S128x4096_S128x512_0_3584).toLoadRect).idx j)
  let V12 : St F := V11.s75 (((Rect.unit (s := S128x4096) ![0, 3584] S128x512.size inb_S128x4096_S128x512_0_3584)).overlay V11.x75 (k0_pay247 (F := F)))
  V12

/-- What `k0_part35` does after its conditional. -/
def e_part35_tail (V : St F) (i : grid0.Coords) : (Σ' (arg0 : BitVec 32) (v13 : BitVec 32) (v28 : FVec F S4x4096 .f32), Vec F S4x4096 .f32) × St F :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  let v3 : Vec F S256x256 .i32 := fun j => V.x8 (((Rect.unit (s := S256x256) ![0, 0] S256x256.size inb_S256x256_S256x256_0_0).toLoadRect).idx j)
  let v5 : Vec F S256x256 .i32 := fun j => V.x72 (((Rect.unit (s := S256x256) ![0, 0] S256x256.size inb_S256x256_S256x256_0_0).toLoadRect).idx j)
  let V1 : St F := V.s72 (((Rect.unit (s := S256x256) ![0, 0] S256x256.size inb_S256x256_S256x256_0_0)).overlay V.x72 (k0_pay248 v3))
  let v8 : Vec F S256x256 .i32 := fun j => V1.x9 (((Rect.unit (s := S256x256) ![0, 0] S256x256.size inb_S256x256_S256x256_0_0).toLoadRect).idx j)
  let v10 : Vec F S256x256 .i32 := fun j => V1.x73 (((Rect.unit (s := S256x256) ![0, 0] S256x256.size inb_S256x256_S256x256_0_0).toLoadRect).idx j)
  let V2 : St F := V1.s73 (((Rect.unit (s := S256x256) ![0, 0] S256x256.size inb_S256x256_S256x256_0_0)).overlay V1.x73 (k0_pay249 v8))
  let v13 : BitVec 32 := Scalar.remsi arg0 2#32
  let v15 : Vec F S4x4096 .f32 := fun j => V2.x23 (((Rect.unit (s := S8x4096) ![0, 0] S4x4096.size inb_S8x4096_S4x4096_0_0).toLoadRect).idx j)
  let v17 : Vec F S4x4096 .f32 := fun j => V2.x23 (((Rect.unit (s := S8x4096) ![4, 0] S4x4096.size inb_S8x4096_S4x4096_4_0).toLoadRect).idx j)
  let v20 : Vec F S4x4096 .f32 := fun j => V2.x80 (((Rect.unit (s := S4x4096) ![0, 0] S4x4096.size inb_S4x4096_S4x4096_0_0).toLoadRect).idx j)
  let V3 : St F := V2.s80 (((Rect.unit (s := S4x4096) ![0, 0] S4x4096.size inb_S4x4096_S4x4096_0_0)).overlay V2.x80 (k0_pay250 i v15 v17))
  let v24 : Vec F S4x4096 .f32 := fun j => V3.x24 (((Rect.unit (s := S8x4096) ![0, 0] S4x4096.size inb_S8x4096_S4x4096_0_0).toLoadRect).idx j)
  let v26 : Vec F S4x4096 .f32 := fun j => V3.x24 (((Rect.unit (s := S8x4096) ![4, 0] S4x4096.size inb_S8x4096_S4x4096_4_0).toLoadRect).idx j)
  let v29 : Vec F S4x4096 .f32 := fun j => V3.x81 (((Rect.unit (s := S4x4096) ![0, 0] S4x4096.size inb_S4x4096_S4x4096_0_0).toLoadRect).idx j)
  (⟨arg0, v13, k0_pay251 i v24 v26, v29⟩, V3)

/-- What `k0_part35` returns and leaves, from the contents `V`. -/
def e_part35 (V : St F) (i : grid0.Coords) : (Σ' (arg0 : BitVec 32) (v13 : BitVec 32) (v28 : FVec F S4x4096 .f32), Vec F S4x4096 .f32) × St F :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  e_part35_tail (if k0_h1 : v2 = 1#1 then e_h1 V i else V) i

theorem e_part35_p (V : St F) (i : grid0.Coords)
    (h : (Scalar.cmpi .ne (Scalar.extui (Scalar.cmpi .eq (BitVec.ofNat 32 (i 0).val) 0#32)) (0#32 : BitVec 32) = 1#1)) :
    e_part35 V i = e_part35_tail (e_h1 V i) i :=
  congrArg (fun W => e_part35_tail W i) (dif_pos h)

theorem e_part35_n (V : St F) (i : grid0.Coords)
    (h : ¬(Scalar.cmpi .ne (Scalar.extui (Scalar.cmpi .eq (BitVec.ofNat 32 (i 0).val) 0#32)) (0#32 : BitVec 32) = 1#1)) :
    e_part35 V i = e_part35_tail V i :=
  congrArg (fun W => e_part35_tail W i) (dif_neg h)

theorem tri_part35 (c : Dev nD) (A : Args) (V : St F) (i : grid0.Coords) :
    Tri c A V (A.app (k0_part35 i)) (fun a W => (a, W) = e_part35 V i) := by
  unfold Args.app
  rw [k0_part35_eq_skeleton]
  unfold k0_part35_skel
  refine Tri.ite (fun k0_h1 => ?_) (fun k0_h1 => ?_)
  · refine Tri.bind ((tri_part1 c A _ _).mono ?_)
    rintro ⟨v294, v319, v321⟩ V_ h_
    have hV_ := congrArg Prod.snd h_
    change V_ = _ at hV_
    have hv294 := congrArg (fun p => p.1.1) h_
    beta_reduce at hv294
    change v294 = _ at hv294
    have hv319 := congrArg (fun p => p.1.2.1) h_
    beta_reduce at hv319
    change v319 = _ at hv319
    have hv321 := congrArg (fun p => p.1.2.2) h_
    beta_reduce at hv321
    change v321 = _ at hv321
    clear h_
    subst hV_ hv294 hv319 hv321
    refine Tri.bind ((tri_part2 c A _ _ _ _ _).mono ?_)
    rintro v357 V_ h_
    have hV_ := congrArg Prod.snd h_
    change V_ = _ at hV_
    have hv357 := congrArg (fun p => p.1) h_
    beta_reduce at hv357
    change v357 = _ at hv357
    clear h_
    subst hV_ hv357
    refine Tri.bind ((tri_part3 c A _ _ _ _).mono ?_)
    rintro v392 V_ h_
    have hV_ := congrArg Prod.snd h_
    change V_ = _ at hV_
    have hv392 := congrArg (fun p => p.1) h_
    beta_reduce at hv392
    change v392 = _ at hv392
    clear h_
    subst hV_ hv392
    refine Tri.bind ((tri_part4 c A _ _ _).mono ?_)
    rintro v429 V_ h_
    have hV_ := congrArg Prod.snd h_
    change V_ = _ at hV_
    have hv429 := congrArg (fun p => p.1) h_
    beta_reduce at hv429
    change v429 = _ at hv429
    clear h_
    subst hV_ hv429
    refine Tri.bind ((tri_part5 c A _ _ _ _).mono ?_)
    rintro v469 V_ h_
    have hV_ := congrArg Prod.snd h_
    change V_ = _ at hV_
    have hv469 := congrArg (fun p => p.1) h_
    beta_reduce at hv469
    change v469 = _ at hv469
    clear h_
    subst hV_ hv469
    refine Tri.bind ((tri_part6 c A _ _ _ _).mono ?_)
    rintro ⟨v499, v502, v505⟩ V_ h_
    have hV_ := congrArg Prod.snd h_
    change V_ = _ at hV_
    have hv499 := congrArg (fun p => p.1.1) h_
    beta_reduce at hv499
    change v499 = _ at hv499
    have hv502 := congrArg (fun p => p.1.2.1) h_
    beta_reduce at hv502
    change v502 = _ at hv502
    have hv505 := congrArg (fun p => p.1.2.2) h_
    beta_reduce at hv505
    change v505 = _ at hv505
    clear h_
    subst hV_ hv499 hv502 hv505
    refine Tri.bind ((tri_part7 c A _ _ _ _ _ _).mono ?_)
    rintro v542 V_ h_
    have hV_ := congrArg Prod.snd h_
    change V_ = _ at hV_
    have hv542 := congrArg (fun p => p.1) h_
    beta_reduce at hv542
    change v542 = _ at hv542
    clear h_
    subst hV_ hv542
    refine Tri.bind ((tri_part8 c A _ _ _ _).mono ?_)
    rintro ⟨v577, v578⟩ V_ h_
    have hV_ := congrArg Prod.snd h_
    change V_ = _ at hV_
    have hv577 := congrArg (fun p => p.1.1) h_
    beta_reduce at hv577
    change v577 = _ at hv577
    have hv578 := congrArg (fun p => p.1.2) h_
    beta_reduce at hv578
    change v578 = _ at hv578
    clear h_
    subst hV_ hv577 hv578
    refine Tri.bind ((tri_part9 c A _ _ _ _).mono ?_)
    rintro v614 V_ h_
    have hV_ := congrArg Prod.snd h_
    change V_ = _ at hV_
    have hv614 := congrArg (fun p => p.1) h_
    beta_reduce at hv614
    change v614 = _ at hv614
    clear h_
    subst hV_ hv614
    refine Tri.bind ((tri_part10 c A _ _ _ _).mono ?_)
    rintro v653 V_ h_
    have hV_ := congrArg Prod.snd h_
    change V_ = _ at hV_
    have hv653 := congrArg (fun p => p.1) h_
    beta_reduce at hv653
    change v653 = _ at hv653
    clear h_
    subst hV_ hv653
    refine Tri.store (has74 A) ?_
    refine Tri.load (has75 A) (fun _ => rfl) ?_
    refine Tri.store (has75 A) ?_
    refine Tri.load (has8 A) (fun _ => rfl) ?_
    refine Tri.load (has72 A) (fun _ => rfl) ?_
    refine Tri.store (has72 A) ?_
    refine Tri.load (has9 A) (fun _ => rfl) ?_
    refine Tri.load (has73 A) (fun _ => rfl) ?_
    refine Tri.store (has73 A) ?_
    refine Tri.load (has23 A) (fun _ => rfl) ?_
    refine Tri.load (has23 A) (fun _ => rfl) ?_
    refine Tri.load (has80 A) (fun _ => rfl) ?_
    refine Tri.store (has80 A) ?_
    refine Tri.load (has24 A) (fun _ => rfl) ?_
    refine Tri.load (has24 A) (fun _ => rfl) ?_
    refine Tri.load (has81 A) (fun _ => rfl) ?_
    exact Tri.pure (e_part35_p V i k0_h1).symm
  · refine Tri.load (has8 A) (fun _ => rfl) ?_
    refine Tri.load (has72 A) (fun _ => rfl) ?_
    refine Tri.store (has72 A) ?_
    refine Tri.load (has9 A) (fun _ => rfl) ?_
    refine Tri.load (has73 A) (fun _ => rfl) ?_
    refine Tri.store (has73 A) ?_
    refine Tri.load (has23 A) (fun _ => rfl) ?_
    refine Tri.load (has23 A) (fun _ => rfl) ?_
    refine Tri.load (has80 A) (fun _ => rfl) ?_
    refine Tri.store (has80 A) ?_
    refine Tri.load (has24 A) (fun _ => rfl) ?_
    refine Tri.load (has24 A) (fun _ => rfl) ?_
    refine Tri.load (has81 A) (fun _ => rfl) ?_
    exact Tri.pure (e_part35_n V i k0_h1).symm

/-- What `k0_part36` returns and leaves, from the contents `V`. -/
def e_part36 (V : St F) (i : grid0.Coords) (v28 : FVec F S4x4096 .f32) (v29 : Vec F S4x4096 .f32) : (Σ' (v45 : Vec F S128x256 .f32) (v47 : Vec F S128x256 .f32) (v54 : FVec F S128x256 .f32) (v57 : FVec F S128x256 .bf16) (v59 : FVec F S128x256 .f32), FVec F S128x256 .f32) × St F :=
  let V1 : St F := V.s81 (((Rect.unit (s := S4x4096) ![0, 0] S4x4096.size inb_S4x4096_S4x4096_0_0)).overlay V.x81 (k0_pay252 v28))
  let v33 : Vec F S128x256 .f32 := fun j => V1.x76 (((Rect.unit (s := S128x256) ![0, 0] S128x256.size inb_S128x256_S128x256_0_0).toLoadRect).idx j)
  let V2 : St F := V1.s76 (((Rect.unit (s := S128x256) ![0, 0] S128x256.size inb_S128x256_S128x256_0_0)).overlay V1.x76 (k0_pay253 (F := F)))
  let v37 : Vec F S128x256 .f32 := fun j => V2.x77 (((Rect.unit (s := S128x256) ![0, 0] S128x256.size inb_S128x256_S128x256_0_0).toLoadRect).idx j)
  let V3 : St F := V2.s77 (((Rect.unit (s := S128x256) ![0, 0] S128x256.size inb_S128x256_S128x256_0_0)).overlay V2.x77 (k0_pay254 (F := F)))
  let v41 : Vec F S128x256 .f32 := fun j => V3.x78 (((Rect.unit (s := S128x256) ![0, 0] S128x256.size inb_S128x256_S128x256_0_0).toLoadRect).idx j)
  let V4 : St F := V3.s78 (((Rect.unit (s := S128x256) ![0, 0] S128x256.size inb_S128x256_S128x256_0_0)).overlay V3.x78 (k0_pay255 (F := F)))
  let V5 : St F := iter (fun k W => (e_t1 W i v28 v29 k).2) k0_t1_loop.trips V4
  let v45 : Vec F S128x256 .f32 := fun j => V5.x76 (((Rect.unit (s := S128x256) ![0, 0] S128x256.size inb_S128x256_S128x256_0_0).toLoadRect).idx j)
  let v46 : Vec F S128x256 .f32 := fun j => V5.x77 (((Rect.unit (s := S128x256) ![0, 0] S128x256.size inb_S128x256_S128x256_0_0).toLoadRect).idx j)
  let v47 : Vec F S128x256 .f32 := fun j => V5.x78 (((Rect.unit (s := S128x256) ![0, 0] S128x256.size inb_S128x256_S128x256_0_0).toLoadRect).idx j)
  (⟨v45, v47, k0_pay260 v45, k0_pay261 v45 v46, k0_pay262 v45 v46 v47, k0_pay263 v45⟩, V5)

theorem tri_part36 (c : Dev nD) (A : Args) (V : St F) (i : grid0.Coords) (v28 : FVec F S4x4096 .f32) (v29 : Vec F S4x4096 .f32) :
    Tri c A V (A.app (k0_part36 i) v28 v29) (fun a W => (a, W) = e_part36 V i v28 v29) := by
  unfold Args.app
  rw [k0_part36_eq_skeleton]
  unfold k0_part36_skel
  refine Tri.store (has81 A) ?_
  refine Tri.load (has76 A) (fun _ => rfl) ?_
  refine Tri.store (has76 A) ?_
  refine Tri.load (has77 A) (fun _ => rfl) ?_
  refine Tri.store (has77 A) ?_
  refine Tri.load (has78 A) (fun _ => rfl) ?_
  refine Tri.store (has78 A) ?_
  refine Tri.bind (Tri.loop _ _ _ _ _ _ (fun n _ W => W = iter (fun k W => (e_t1 W i v28 v29 k).2) n _) rfl ?_ ?_)
  · rintro k a W rfl
    refine (tri_t1 c A _ _ _ _ k a).mono ?_
    rintro a W h_
    exact (congrArg Prod.snd h_).trans (iter_succ (n := k0_t1_loop.trips) (fun k W => (e_t1 W i v28 v29 k).2) k _).symm
  rintro _ W rfl
  refine Tri.load (has76 A) (fun _ => rfl) ?_
  refine Tri.load (has77 A) (fun _ => rfl) ?_
  refine Tri.load (has78 A) (fun _ => rfl) ?_
  exact Tri.pure rfl

/-- What `k0_part37` returns and leaves, from the contents `V`. -/
def e_part37 (V : St F) (i : grid0.Coords) (v13 : BitVec 32) (v45 : Vec F S128x256 .f32) (v47 : Vec F S128x256 .f32) (v54 : FVec F S128x256 .f32) (v57 : FVec F S128x256 .bf16) (v59 : FVec F S128x256 .f32) (v61 : FVec F S128x256 .f32) : (Σ' (v69 : FVec F S128x256 .bf16) (v100 : FVec F S64x256 .f32), FVec F S64x256 .f32) × St F :=
  let v70 : Vec F S128x256 .bf16 := fun j => V.x32 (((Rect.unit (s := S128x256) ![0, 0] S128x256.size inb_S128x256_S128x256_0_0).toLoadRect).idx j)
  let V1 : St F := V.s32 (((Rect.unit (s := S128x256) ![0, 0] S128x256.size inb_S128x256_S128x256_0_0)).overlay V.x32 v57)
  let v74 : Vec F S256x128 .bf16 := fun j => V1.x79 (((Rect.unit (s := S272x128) ![0, 0] S256x128.size inb_S272x128_S256x128_0_0).toLoadRect).idx j)
  let V2 : St F := V1.s79 (((Rect.unit (s := S272x128) ![0, 0] S256x128.size inb_S272x128_S256x128_0_0)).overlay V1.x79 (k0_pay267 v57))
  let v92 : Vec F S16x128 .bf16 := fun j => V2.x79 (((Rect.unit (s := S272x128) ![256, 0] S16x128.size inb_S272x128_S16x128_256_0).toLoadRect).idx j)
  let V3 : St F := V2.s79 (((Rect.unit (s := S272x128) ![256, 0] S16x128.size inb_S272x128_S16x128_256_0)).overlay V2.x79 (k0_pay268 v57))
  let V4 : St F := iter (fun k W => (e_t2 W i v13 v45 v47 v54 v57 v59 v61 k).2) k0_t2_loop.trips V3
  let v96 : Vec F S192x128 .bf16 := fun j => V4.x64 (((Rect.unit (s := S4288x128) ![4096, 0] S192x128.size inb_S4288x128_S192x128_4096_0).toLoadRect).idx j)
  (⟨k0_pay265 v45 v47 v54, k0_pay272 v45 v59 v61 v96, k0_pay273 v45 v59 v61 v96⟩, V4)

theorem tri_part37 (c : Dev nD) (A : Args) (V : St F) (i : grid0.Coords) (v13 : BitVec 32) (v45 : Vec F S128x256 .f32) (v47 : Vec F S128x256 .f32) (v54 : FVec F S128x256 .f32) (v57 : FVec F S128x256 .bf16) (v59 : FVec F S128x256 .f32) (v61 : FVec F S128x256 .f32) :
    Tri c A V (A.app (k0_part37 i) v13 v45 v47 v54 v57 v59 v61) (fun a W => (a, W) = e_part37 V i v13 v45 v47 v54 v57 v59 v61) := by
  unfold Args.app
  rw [k0_part37_eq_skeleton]
  unfold k0_part37_skel
  refine Tri.load (has32 A) (fun _ => rfl) ?_
  refine Tri.store (has32 A) ?_
  refine Tri.load (has79 A) (fun _ => rfl) ?_
  refine Tri.store (has79 A) ?_
  refine Tri.load (has79 A) (fun _ => rfl) ?_
  refine Tri.store (has79 A) ?_
  refine Tri.bind (Tri.loop _ _ _ _ _ _ (fun n _ W => W = iter (fun k W => (e_t2 W i v13 v45 v47 v54 v57 v59 v61 k).2) n _) rfl ?_ ?_)
  · rintro k a W rfl
    refine (tri_t2 c A _ _ _ _ _ _ _ _ _ k a).mono ?_
    rintro a W h_
    exact (congrArg Prod.snd h_).trans (iter_succ (n := k0_t2_loop.trips) (fun k W => (e_t2 W i v13 v45 v47 v54 v57 v59 v61 k).2) k _).symm
  rintro _ W rfl
  refine Tri.load (has64 A) (fun _ => rfl) ?_
  exact Tri.pure rfl

/-- What the conditional part `k0_h2` of `cc0_qat_mlp` leaves, from the contents `V`. -/
def e_h2 (V : St F) (i : grid0.Coords) : St F :=
  let p1 := e_part25 V i
  let v295 := p1.1.1
  let v300 := p1.1.2.1
  let v302 := p1.1.2.2.1
  let v304 := p1.1.2.2.2.1
  let v306 := p1.1.2.2.2.2.1
  let v308 := p1.1.2.2.2.2.2.1
  let v310 := p1.1.2.2.2.2.2.2.1
  let v312 := p1.1.2.2.2.2.2.2.2
  let V1 : St F := p1.2
  let p2 := e_part26 V1 i v295 v304 v306 v312
  let v313 := p2.1.1
  let v314 := p2.1.2.1
  let v344 := p2.1.2.2.1
  let v345 := p2.1.2.2.2.1
  let v346 := p2.1.2.2.2.2
  let V2 : St F := p2.2
  let v368 : Vec F S8x4096 .f32 := fun j => V2.x58 (((Rect.unit (s := S8x4096) ![0, 0] S8x4096.size inb_S8x4096_S8x4096_0_0).toLoadRect).idx j)
  let V3 : St F := V2.s58 (((Rect.unit (s := S8x4096) ![0, 0] S8x4096.size inb_S8x4096_S8x4096_0_0)).overlay V2.x58 v300)
  let v369 : Vec F S8x4096 .f32 := fun j => V3.x59 (((Rect.unit (s := S8x4096) ![0, 0] S8x4096.size inb_S8x4096_S8x4096_0_0).toLoadRect).idx j)
  let V4 : St F := V3.s59 (((Rect.unit (s := S8x4096) ![0, 0] S8x4096.size inb_S8x4096_S8x4096_0_0)).overlay V3.x59 (k0_pay3 v300 v308 v310 v313 v314 v344 v345 v346))
  let v370 : Vec F S8x4096 .f32 := fun j => V4.x60 (((Rect.unit (s := S8x4096) ![0, 0] S8x4096.size inb_S8x4096_S8x4096_0_0).toLoadRect).idx j)
  let V5 : St F := V4.s60 (((Rect.unit (s := S8x4096) ![0, 0] S8x4096.size inb_S8x4096_S8x4096_0_0)).overlay V4.x60 (k0_pay4 v300 v302 v308 v310 v313 v314 v344 v345 v346))
  let v371 : Vec F S8x4096 .f32 := fun j => V5.x61 (((Rect.unit (s := S8x4096) ![0, 0] S8x4096.size inb_S8x4096_S8x4096_0_0).toLoadRect).idx j)
  let V6 : St F := V5.s61 (((Rect.unit (s := S8x4096) ![0, 0] S8x4096.size inb_S8x4096_S8x4096_0_0)).overlay V5.x61 (k0_pay1 v300 v308 v346))
  let v372 : Vec F S8x4096 .f32 := fun j => V6.x62 (((Rect.unit (s := S8x4096) ![0, 0] S8x4096.size inb_S8x4096_S8x4096_0_0).toLoadRect).idx j)
  let V7 : St F := V6.s62 (((Rect.unit (s := S8x4096) ![0, 0] S8x4096.size inb_S8x4096_S8x4096_0_0)).overlay V6.x62 (k0_pay2 v300 v310))
  V7

/-- What the conditional part `k0_h3` of `cc0_qat_mlp` leaves, from the contents `V`. -/
def e_h3 (V : St F) (i : grid0.Coords) : St F :=
  let p1 := e_part27 V i
  let v282 := p1.1.1
  let v299 := p1.1.2.1
  let v314 := p1.1.2.2
  let V1 : St F := p1.2
  let p2 := e_part28 V1 i v299 v314
  let v347 := p2.1.1
  let v348 := p2.1.2
  let V2 : St F := p2.2
  let p3 := e_part29 V2 i v347 v348
  let v379 := p3.1.1
  let v382 := p3.1.2
  let V3 : St F := p3.2
  let p4 := e_part30 V3 i v282 v379 v382
  let v414 := p4.1.1
  let v416 := p4.1.2
  let V4 : St F := p4.2
  let p5 := e_part31 V4 i v282 v414 v416
  let v456 := p5.1
  let V5 : St F := p5.2
  let p6 := e_part32 V5 i v282 v414 v456
  let v497 := p6.1
  let V6 : St F := p6.2
  let p7 := e_part33 V6 i v282 v414 v497
  let v528 := p7.1.1
  let v531 := p7.1.2.1
  let v535 := p7.1.2.2
  let V7 : St F := p7.2
  let p8 := e_part34 V7 i v282 v414 v528 v531 v535
  let v565 := p8.1.1
  let v570 := p8.1.2.1
  let v573 := p8.1.2.2
  let V8 : St F := p8.2
  let v583 : Vec F S128x512 .bf16 := fun j => V8.x30 (((Rect.unit (s := S128x4096) ![0, 3584] S128x512.size inb_S128x4096_S128x512_0_3584).toLoadRect).idx j)
  let V9 : St F := V8.s30 (((Rect.unit (s := S128x4096) ![0, 3584] S128x512.size inb_S128x4096_S128x512_0_3584)).overlay V8.x30 (k0_pay5 v282 v414 v565 v570 v573))
  V9

/-- What `cc0_qat_mlp` leaves before its first conditional. -/
def e_body_front (V : St F) (i : grid0.Coords) : St F :=
  let p1 := e_part35 V i
  let arg0 := p1.1.1
  let v13 := p1.1.2.1
  let v28 := p1.1.2.2.1
  let v29 := p1.1.2.2.2
  let V1 : St F := p1.2
  let p2 := e_part36 V1 i v28 v29
  let v45 := p2.1.1
  let v47 := p2.1.2.1
  let v54 := p2.1.2.2.1
  let v57 := p2.1.2.2.2.1
  let v59 := p2.1.2.2.2.2.1
  let v61 := p2.1.2.2.2.2.2
  let V2 : St F := p2.2
  let p3 := e_part37 V2 i v13 v45 v47 v54 v57 v59 v61
  let v69 := p3.1.1
  let v100 := p3.1.2.1
  let v101 := p3.1.2.2
  let V3 : St F := p3.2
  let p4 := e_part38 V3 i v100 v101
  let v107 := p4.1.1
  let v112 := p4.1.2.1
  let v114 := p4.1.2.2.1
  let v116 := p4.1.2.2.2.1
  let v120 := p4.1.2.2.2.2.1
  let v122 := p4.1.2.2.2.2.2.1
  let v125 := p4.1.2.2.2.2.2.2.1
  let v126 := p4.1.2.2.2.2.2.2.2.1
  let v127 := p4.1.2.2.2.2.2.2.2.2.1
  let v128 := p4.1.2.2.2.2.2.2.2.2.2.1
  let v133 := p4.1.2.2.2.2.2.2.2.2.2.2.1
  let v135 := p4.1.2.2.2.2.2.2.2.2.2.2.2
  let V4 : St F := p4.2
  let p5 := e_part39 V4 i v107 v112 v116 v120 v122 v125 v126 v127 v128 v133 v135
  let v157 := p5.1.1
  let v162 := p5.1.2.1
  let v168 := p5.1.2.2.1
  let v172 := p5.1.2.2.2.1
  let v173 := p5.1.2.2.2.2
  let V5 : St F := p5.2
  let p6 := e_part40 V5 i v69 v112 v114 v157 v162 v168 v172 v173
  let v196 := p6.1.1
  let v201 := p6.1.2.1
  let v203 := p6.1.2.2.1
  let v204 := p6.1.2.2.2
  let V6 : St F := p6.2
  let p7 := e_part41 V6 i v196 v204
  let v209 := p7.1.1
  let v211 := p7.1.2.1
  let v214 := p7.1.2.2.1
  let v215 := p7.1.2.2.2.1
  let v222 := p7.1.2.2.2.2.1
  let v228 := p7.1.2.2.2.2.2.1
  let v239 := p7.1.2.2.2.2.2.2
  let V7 : St F := p7.2
  let p8 := e_part42 V7 i v201 v203 v209 v211 v214 v215 v222 v228 v239
  let v257 := p8.1
  let V8 : St F := p8.2
  let V9 : St F := V8.s52 (((Rect.unit (s := S64x256) ![0, 0] S64x256.size inb_S64x256_S64x256_0_0)).overlay V8.x52 v257)
  V9

/-- What `cc0_qat_mlp` leaves, from the contents `V`. -/
def e_body (V : St F) (i : grid0.Coords) : PUnit × St F :=
  let V1 : St F := if k0_h2 : k0_cond2 i = 1#1 then e_h2 (e_body_front V i) i else (e_body_front V i)
  let V2 : St F := if k0_h3 : k0_cond3 i = 1#1 then e_h3 V1 i else V1
  (⟨⟩, V2)

theorem e_body_pp (V : St F) (i : grid0.Coords) (h2 : (k0_cond2 i = 1#1)) (h3 : (k0_cond3 i = 1#1)) :
    e_body V i = (⟨⟩, (e_h3 (e_h2 (e_body_front V i) i) i)) := by
  unfold e_body
  dsimp only
  rw [dif_pos h2, dif_pos h3]

theorem e_body_pn (V : St F) (i : grid0.Coords) (h2 : (k0_cond2 i = 1#1)) (h3 : ¬(k0_cond3 i = 1#1)) :
    e_body V i = (⟨⟩, (e_h2 (e_body_front V i) i)) := by
  unfold e_body
  dsimp only
  rw [dif_pos h2, dif_neg h3]

theorem e_body_np (V : St F) (i : grid0.Coords) (h2 : ¬(k0_cond2 i = 1#1)) (h3 : (k0_cond3 i = 1#1)) :
    e_body V i = (⟨⟩, (e_h3 (e_body_front V i) i)) := by
  unfold e_body
  dsimp only
  rw [dif_neg h2, dif_pos h3]

theorem e_body_nn (V : St F) (i : grid0.Coords) (h2 : ¬(k0_cond2 i = 1#1)) (h3 : ¬(k0_cond3 i = 1#1)) :
    e_body V i = (⟨⟩, (e_body_front V i)) := by
  unfold e_body
  dsimp only
  rw [dif_neg h2, dif_neg h3]

theorem tri_body (c : Dev nD) (A : Args) (V : St F) (i : grid0.Coords) :
    Tri c A V (cc0_qat_mlp i A.m1 A.h1 A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19 A.m20 A.h20 A.m21 A.h21 A.m22 A.h22 A.m23 A.h23 A.m24 A.h24 A.m25 A.h25 A.m26 A.h26 A.m27 A.h27 A.m28 A.h28 A.m29 A.h29 A.m30 A.h30 A.m31 A.h31 A.m32 A.h32 A.m33 A.h33 A.m34 A.h34 A.m35 A.h35 A.m36 A.h36 A.m37 A.h37 A.m38 A.h38 A.m39 A.h39 A.m40 A.h40 A.m41 A.h41 A.m42 A.h42 A.m43 A.h43 A.m44 A.h44 A.m45 A.h45 A.m46 A.h46 A.m47 A.h47 A.m48 A.h48 A.m49 A.h49 A.m50 A.h50 A.m51 A.h51 A.m52 A.h52 A.m53 A.h53 A.m54 A.h54 A.m55 A.h55 A.m56 A.h56 A.m57 A.h57 A.m58 A.h58 A.m59 A.h59 A.m60 A.h60 A.m61 A.h61 A.m62 A.h62 A.m63 A.h63 A.m64 A.h64 A.m65 A.h65 A.m66 A.h66 A.m67 A.h67 A.m68 A.h68 A.m69 A.h69 A.m70 A.h70 A.m71 A.h71 A.m72 A.h72 A.m73 A.h73 A.m74 A.h74 A.m75 A.h75 A.m76 A.h76 A.m77 A.h77 A.m78 A.h78 A.m79 A.h79 A.m80 A.h80 A.m81 A.h81 A.m82 A.h82 A.m83 A.h83 A.m84 A.h84 A.m85 A.h85 A.m86 A.h86 A.m87 A.h87) (fun a W => (a, W) = e_body V i) := by
  rw [cc0_qat_mlp_eq_skeleton]
  unfold cc0_qat_mlp_skel
  refine Tri.bind ((tri_part35 c A _ _).mono ?_)
  rintro ⟨arg0, v13, v28, v29⟩ V_ h_
  have hV_ := congrArg Prod.snd h_
  change V_ = _ at hV_
  have harg0 := congrArg (fun p => p.1.1) h_
  beta_reduce at harg0
  change arg0 = _ at harg0
  have hv13 := congrArg (fun p => p.1.2.1) h_
  beta_reduce at hv13
  change v13 = _ at hv13
  have hv28 := congrArg (fun p => p.1.2.2.1) h_
  beta_reduce at hv28
  change v28 = _ at hv28
  have hv29 := congrArg (fun p => p.1.2.2.2) h_
  beta_reduce at hv29
  change v29 = _ at hv29
  clear h_
  subst hV_ harg0 hv13 hv28 hv29
  refine Tri.bind ((tri_part36 c A _ _ _ _).mono ?_)
  rintro ⟨v45, v47, v54, v57, v59, v61⟩ V_ h_
  have hV_ := congrArg Prod.snd h_
  change V_ = _ at hV_
  have hv45 := congrArg (fun p => p.1.1) h_
  beta_reduce at hv45
  change v45 = _ at hv45
  have hv47 := congrArg (fun p => p.1.2.1) h_
  beta_reduce at hv47
  change v47 = _ at hv47
  have hv54 := congrArg (fun p => p.1.2.2.1) h_
  beta_reduce at hv54
  change v54 = _ at hv54
  have hv57 := congrArg (fun p => p.1.2.2.2.1) h_
  beta_reduce at hv57
  change v57 = _ at hv57
  have hv59 := congrArg (fun p => p.1.2.2.2.2.1) h_
  beta_reduce at hv59
  change v59 = _ at hv59
  have hv61 := congrArg (fun p => p.1.2.2.2.2.2) h_
  beta_reduce at hv61
  change v61 = _ at hv61
  clear h_
  subst hV_ hv45 hv47 hv54 hv57 hv59 hv61
  refine Tri.bind ((tri_part37 c A _ _ _ _ _ _ _ _ _).mono ?_)
  rintro ⟨v69, v100, v101⟩ V_ h_
  have hV_ := congrArg Prod.snd h_
  change V_ = _ at hV_
  have hv69 := congrArg (fun p => p.1.1) h_
  beta_reduce at hv69
  change v69 = _ at hv69
  have hv100 := congrArg (fun p => p.1.2.1) h_
  beta_reduce at hv100
  change v100 = _ at hv100
  have hv101 := congrArg (fun p => p.1.2.2) h_
  beta_reduce at hv101
  change v101 = _ at hv101
  clear h_
  subst hV_ hv69 hv100 hv101
  refine Tri.bind ((tri_part38 c A _ _ _ _).mono ?_)
  rintro ⟨v107, v112, v114, v116, v120, v122, v125, v126, v127, v128, v133, v135⟩ V_ h_
  have hV_ := congrArg Prod.snd h_
  change V_ = _ at hV_
  have hv107 := congrArg (fun p => p.1.1) h_
  beta_reduce at hv107
  change v107 = _ at hv107
  have hv112 := congrArg (fun p => p.1.2.1) h_
  beta_reduce at hv112
  change v112 = _ at hv112
  have hv114 := congrArg (fun p => p.1.2.2.1) h_
  beta_reduce at hv114
  change v114 = _ at hv114
  have hv116 := congrArg (fun p => p.1.2.2.2.1) h_
  beta_reduce at hv116
  change v116 = _ at hv116
  have hv120 := congrArg (fun p => p.1.2.2.2.2.1) h_
  beta_reduce at hv120
  change v120 = _ at hv120
  have hv122 := congrArg (fun p => p.1.2.2.2.2.2.1) h_
  beta_reduce at hv122
  change v122 = _ at hv122
  have hv125 := congrArg (fun p => p.1.2.2.2.2.2.2.1) h_
  beta_reduce at hv125
  change v125 = _ at hv125
  have hv126 := congrArg (fun p => p.1.2.2.2.2.2.2.2.1) h_
  beta_reduce at hv126
  change v126 = _ at hv126
  have hv127 := congrArg (fun p => p.1.2.2.2.2.2.2.2.2.1) h_
  beta_reduce at hv127
  change v127 = _ at hv127
  have hv128 := congrArg (fun p => p.1.2.2.2.2.2.2.2.2.2.1) h_
  beta_reduce at hv128
  change v128 = _ at hv128
  have hv133 := congrArg (fun p => p.1.2.2.2.2.2.2.2.2.2.2.1) h_
  beta_reduce at hv133
  change v133 = _ at hv133
  have hv135 := congrArg (fun p => p.1.2.2.2.2.2.2.2.2.2.2.2) h_
  beta_reduce at hv135
  change v135 = _ at hv135
  clear h_
  subst hV_ hv107 hv112 hv114 hv116 hv120 hv122 hv125 hv126 hv127 hv128 hv133 hv135
  refine Tri.bind ((tri_part39 c A _ _ _ _ _ _ _ _ _ _ _ _ _).mono ?_)
  rintro ⟨v157, v162, v168, v172, v173⟩ V_ h_
  have hV_ := congrArg Prod.snd h_
  change V_ = _ at hV_
  have hv157 := congrArg (fun p => p.1.1) h_
  beta_reduce at hv157
  change v157 = _ at hv157
  have hv162 := congrArg (fun p => p.1.2.1) h_
  beta_reduce at hv162
  change v162 = _ at hv162
  have hv168 := congrArg (fun p => p.1.2.2.1) h_
  beta_reduce at hv168
  change v168 = _ at hv168
  have hv172 := congrArg (fun p => p.1.2.2.2.1) h_
  beta_reduce at hv172
  change v172 = _ at hv172
  have hv173 := congrArg (fun p => p.1.2.2.2.2) h_
  beta_reduce at hv173
  change v173 = _ at hv173
  clear h_
  subst hV_ hv157 hv162 hv168 hv172 hv173
  refine Tri.bind ((tri_part40 c A _ _ _ _ _ _ _ _ _ _).mono ?_)
  rintro ⟨v196, v201, v203, v204⟩ V_ h_
  have hV_ := congrArg Prod.snd h_
  change V_ = _ at hV_
  have hv196 := congrArg (fun p => p.1.1) h_
  beta_reduce at hv196
  change v196 = _ at hv196
  have hv201 := congrArg (fun p => p.1.2.1) h_
  beta_reduce at hv201
  change v201 = _ at hv201
  have hv203 := congrArg (fun p => p.1.2.2.1) h_
  beta_reduce at hv203
  change v203 = _ at hv203
  have hv204 := congrArg (fun p => p.1.2.2.2) h_
  beta_reduce at hv204
  change v204 = _ at hv204
  clear h_
  subst hV_ hv196 hv201 hv203 hv204
  refine Tri.bind ((tri_part41 c A _ _ _ _).mono ?_)
  rintro ⟨v209, v211, v214, v215, v222, v228, v239⟩ V_ h_
  have hV_ := congrArg Prod.snd h_
  change V_ = _ at hV_
  have hv209 := congrArg (fun p => p.1.1) h_
  beta_reduce at hv209
  change v209 = _ at hv209
  have hv211 := congrArg (fun p => p.1.2.1) h_
  beta_reduce at hv211
  change v211 = _ at hv211
  have hv214 := congrArg (fun p => p.1.2.2.1) h_
  beta_reduce at hv214
  change v214 = _ at hv214
  have hv215 := congrArg (fun p => p.1.2.2.2.1) h_
  beta_reduce at hv215
  change v215 = _ at hv215
  have hv222 := congrArg (fun p => p.1.2.2.2.2.1) h_
  beta_reduce at hv222
  change v222 = _ at hv222
  have hv228 := congrArg (fun p => p.1.2.2.2.2.2.1) h_
  beta_reduce at hv228
  change v228 = _ at hv228
  have hv239 := congrArg (fun p => p.1.2.2.2.2.2.2) h_
  beta_reduce at hv239
  change v239 = _ at hv239
  clear h_
  subst hV_ hv209 hv211 hv214 hv215 hv222 hv228 hv239
  refine Tri.bind ((tri_part42 c A _ _ _ _ _ _ _ _ _ _ _).mono ?_)
  rintro v257 V_ h_
  have hV_ := congrArg Prod.snd h_
  change V_ = _ at hV_
  have hv257 := congrArg (fun p => p.1) h_
  beta_reduce at hv257
  change v257 = _ at hv257
  clear h_
  subst hV_ hv257
  refine Tri.store (has52 A) ?_
  refine Tri.ite (fun k0_h2 => ?_) (fun k0_h2 => ?_)
  · refine Tri.bind ((tri_part25 c A _ _).mono ?_)
    rintro ⟨v295, v300, v302, v304, v306, v308, v310, v312⟩ V_ h_
    have hV_ := congrArg Prod.snd h_
    change V_ = _ at hV_
    have hv295 := congrArg (fun p => p.1.1) h_
    beta_reduce at hv295
    change v295 = _ at hv295
    have hv300 := congrArg (fun p => p.1.2.1) h_
    beta_reduce at hv300
    change v300 = _ at hv300
    have hv302 := congrArg (fun p => p.1.2.2.1) h_
    beta_reduce at hv302
    change v302 = _ at hv302
    have hv304 := congrArg (fun p => p.1.2.2.2.1) h_
    beta_reduce at hv304
    change v304 = _ at hv304
    have hv306 := congrArg (fun p => p.1.2.2.2.2.1) h_
    beta_reduce at hv306
    change v306 = _ at hv306
    have hv308 := congrArg (fun p => p.1.2.2.2.2.2.1) h_
    beta_reduce at hv308
    change v308 = _ at hv308
    have hv310 := congrArg (fun p => p.1.2.2.2.2.2.2.1) h_
    beta_reduce at hv310
    change v310 = _ at hv310
    have hv312 := congrArg (fun p => p.1.2.2.2.2.2.2.2) h_
    beta_reduce at hv312
    change v312 = _ at hv312
    clear h_
    subst hV_ hv295 hv300 hv302 hv304 hv306 hv308 hv310 hv312
    refine Tri.bind ((tri_part26 c A _ _ _ _ _ _).mono ?_)
    rintro ⟨v313, v314, v344, v345, v346⟩ V_ h_
    have hV_ := congrArg Prod.snd h_
    change V_ = _ at hV_
    have hv313 := congrArg (fun p => p.1.1) h_
    beta_reduce at hv313
    change v313 = _ at hv313
    have hv314 := congrArg (fun p => p.1.2.1) h_
    beta_reduce at hv314
    change v314 = _ at hv314
    have hv344 := congrArg (fun p => p.1.2.2.1) h_
    beta_reduce at hv344
    change v344 = _ at hv344
    have hv345 := congrArg (fun p => p.1.2.2.2.1) h_
    beta_reduce at hv345
    change v345 = _ at hv345
    have hv346 := congrArg (fun p => p.1.2.2.2.2) h_
    beta_reduce at hv346
    change v346 = _ at hv346
    clear h_
    subst hV_ hv313 hv314 hv344 hv345 hv346
    refine Tri.load (has58 A) (fun _ => rfl) ?_
    refine Tri.store (has58 A) ?_
    refine Tri.load (has59 A) (fun _ => rfl) ?_
    refine Tri.store (has59 A) ?_
    refine Tri.load (has60 A) (fun _ => rfl) ?_
    refine Tri.store (has60 A) ?_
    refine Tri.load (has61 A) (fun _ => rfl) ?_
    refine Tri.store (has61 A) ?_
    refine Tri.load (has62 A) (fun _ => rfl) ?_
    refine Tri.store (has62 A) ?_
    refine Tri.ite (fun k0_h3 => ?_) (fun k0_h3 => ?_)
    · refine Tri.bind ((tri_part27 c A _ _).mono ?_)
      rintro ⟨v282, v299, v314⟩ V_ h_
      have hV_ := congrArg Prod.snd h_
      change V_ = _ at hV_
      have hv282 := congrArg (fun p => p.1.1) h_
      beta_reduce at hv282
      change v282 = _ at hv282
      have hv299 := congrArg (fun p => p.1.2.1) h_
      beta_reduce at hv299
      change v299 = _ at hv299
      have hv314 := congrArg (fun p => p.1.2.2) h_
      beta_reduce at hv314
      change v314 = _ at hv314
      clear h_
      subst hV_ hv282 hv299 hv314
      refine Tri.bind ((tri_part28 c A _ _ _ _).mono ?_)
      rintro ⟨v347, v348⟩ V_ h_
      have hV_ := congrArg Prod.snd h_
      change V_ = _ at hV_
      have hv347 := congrArg (fun p => p.1.1) h_
      beta_reduce at hv347
      change v347 = _ at hv347
      have hv348 := congrArg (fun p => p.1.2) h_
      beta_reduce at hv348
      change v348 = _ at hv348
      clear h_
      subst hV_ hv347 hv348
      refine Tri.bind ((tri_part29 c A _ _ _ _).mono ?_)
      rintro ⟨v379, v382⟩ V_ h_
      have hV_ := congrArg Prod.snd h_
      change V_ = _ at hV_
      have hv379 := congrArg (fun p => p.1.1) h_
      beta_reduce at hv379
      change v379 = _ at hv379
      have hv382 := congrArg (fun p => p.1.2) h_
      beta_reduce at hv382
      change v382 = _ at hv382
      clear h_
      subst hV_ hv379 hv382
      refine Tri.bind ((tri_part30 c A _ _ _ _ _).mono ?_)
      rintro ⟨v414, v416⟩ V_ h_
      have hV_ := congrArg Prod.snd h_
      change V_ = _ at hV_
      have hv414 := congrArg (fun p => p.1.1) h_
      beta_reduce at hv414
      change v414 = _ at hv414
      have hv416 := congrArg (fun p => p.1.2) h_
      beta_reduce at hv416
      change v416 = _ at hv416
      clear h_
      subst hV_ hv414 hv416
      refine Tri.bind ((tri_part31 c A _ _ _ _ _).mono ?_)
      rintro v456 V_ h_
      have hV_ := congrArg Prod.snd h_
      change V_ = _ at hV_
      have hv456 := congrArg (fun p => p.1) h_
      beta_reduce at hv456
      change v456 = _ at hv456
      clear h_
      subst hV_ hv456
      refine Tri.bind ((tri_part32 c A _ _ _ _ _).mono ?_)
      rintro v497 V_ h_
      have hV_ := congrArg Prod.snd h_
      change V_ = _ at hV_
      have hv497 := congrArg (fun p => p.1) h_
      beta_reduce at hv497
      change v497 = _ at hv497
      clear h_
      subst hV_ hv497
      refine Tri.bind ((tri_part33 c A _ _ _ _ _).mono ?_)
      rintro ⟨v528, v531, v535⟩ V_ h_
      have hV_ := congrArg Prod.snd h_
      change V_ = _ at hV_
      have hv528 := congrArg (fun p => p.1.1) h_
      beta_reduce at hv528
      change v528 = _ at hv528
      have hv531 := congrArg (fun p => p.1.2.1) h_
      beta_reduce at hv531
      change v531 = _ at hv531
      have hv535 := congrArg (fun p => p.1.2.2) h_
      beta_reduce at hv535
      change v535 = _ at hv535
      clear h_
      subst hV_ hv528 hv531 hv535
      refine Tri.bind ((tri_part34 c A _ _ _ _ _ _ _).mono ?_)
      rintro ⟨v565, v570, v573⟩ V_ h_
      have hV_ := congrArg Prod.snd h_
      change V_ = _ at hV_
      have hv565 := congrArg (fun p => p.1.1) h_
      beta_reduce at hv565
      change v565 = _ at hv565
      have hv570 := congrArg (fun p => p.1.2.1) h_
      beta_reduce at hv570
      change v570 = _ at hv570
      have hv573 := congrArg (fun p => p.1.2.2) h_
      beta_reduce at hv573
      change v573 = _ at hv573
      clear h_
      subst hV_ hv565 hv570 hv573
      refine Tri.load (has30 A) (fun _ => rfl) ?_
      refine Tri.store (has30 A) ?_
      exact Tri.pure (e_body_pp V i k0_h2 k0_h3).symm
    · exact Tri.pure (e_body_pn V i k0_h2 k0_h3).symm
  · refine Tri.ite (fun k0_h3 => ?_) (fun k0_h3 => ?_)
    · refine Tri.bind ((tri_part27 c A _ _).mono ?_)
      rintro ⟨v282, v299, v314⟩ V_ h_
      have hV_ := congrArg Prod.snd h_
      change V_ = _ at hV_
      have hv282 := congrArg (fun p => p.1.1) h_
      beta_reduce at hv282
      change v282 = _ at hv282
      have hv299 := congrArg (fun p => p.1.2.1) h_
      beta_reduce at hv299
      change v299 = _ at hv299
      have hv314 := congrArg (fun p => p.1.2.2) h_
      beta_reduce at hv314
      change v314 = _ at hv314
      clear h_
      subst hV_ hv282 hv299 hv314
      refine Tri.bind ((tri_part28 c A _ _ _ _).mono ?_)
      rintro ⟨v347, v348⟩ V_ h_
      have hV_ := congrArg Prod.snd h_
      change V_ = _ at hV_
      have hv347 := congrArg (fun p => p.1.1) h_
      beta_reduce at hv347
      change v347 = _ at hv347
      have hv348 := congrArg (fun p => p.1.2) h_
      beta_reduce at hv348
      change v348 = _ at hv348
      clear h_
      subst hV_ hv347 hv348
      refine Tri.bind ((tri_part29 c A _ _ _ _).mono ?_)
      rintro ⟨v379, v382⟩ V_ h_
      have hV_ := congrArg Prod.snd h_
      change V_ = _ at hV_
      have hv379 := congrArg (fun p => p.1.1) h_
      beta_reduce at hv379
      change v379 = _ at hv379
      have hv382 := congrArg (fun p => p.1.2) h_
      beta_reduce at hv382
      change v382 = _ at hv382
      clear h_
      subst hV_ hv379 hv382
      refine Tri.bind ((tri_part30 c A _ _ _ _ _).mono ?_)
      rintro ⟨v414, v416⟩ V_ h_
      have hV_ := congrArg Prod.snd h_
      change V_ = _ at hV_
      have hv414 := congrArg (fun p => p.1.1) h_
      beta_reduce at hv414
      change v414 = _ at hv414
      have hv416 := congrArg (fun p => p.1.2) h_
      beta_reduce at hv416
      change v416 = _ at hv416
      clear h_
      subst hV_ hv414 hv416
      refine Tri.bind ((tri_part31 c A _ _ _ _ _).mono ?_)
      rintro v456 V_ h_
      have hV_ := congrArg Prod.snd h_
      change V_ = _ at hV_
      have hv456 := congrArg (fun p => p.1) h_
      beta_reduce at hv456
      change v456 = _ at hv456
      clear h_
      subst hV_ hv456
      refine Tri.bind ((tri_part32 c A _ _ _ _ _).mono ?_)
      rintro v497 V_ h_
      have hV_ := congrArg Prod.snd h_
      change V_ = _ at hV_
      have hv497 := congrArg (fun p => p.1) h_
      beta_reduce at hv497
      change v497 = _ at hv497
      clear h_
      subst hV_ hv497
      refine Tri.bind ((tri_part33 c A _ _ _ _ _).mono ?_)
      rintro ⟨v528, v531, v535⟩ V_ h_
      have hV_ := congrArg Prod.snd h_
      change V_ = _ at hV_
      have hv528 := congrArg (fun p => p.1.1) h_
      beta_reduce at hv528
      change v528 = _ at hv528
      have hv531 := congrArg (fun p => p.1.2.1) h_
      beta_reduce at hv531
      change v531 = _ at hv531
      have hv535 := congrArg (fun p => p.1.2.2) h_
      beta_reduce at hv535
      change v535 = _ at hv535
      clear h_
      subst hV_ hv528 hv531 hv535
      refine Tri.bind ((tri_part34 c A _ _ _ _ _ _ _).mono ?_)
      rintro ⟨v565, v570, v573⟩ V_ h_
      have hV_ := congrArg Prod.snd h_
      change V_ = _ at hV_
      have hv565 := congrArg (fun p => p.1.1) h_
      beta_reduce at hv565
      change v565 = _ at hv565
      have hv570 := congrArg (fun p => p.1.2.1) h_
      beta_reduce at hv570
      change v570 = _ at hv570
      have hv573 := congrArg (fun p => p.1.2.2) h_
      beta_reduce at hv573
      change v573 = _ at hv573
      clear h_
      subst hV_ hv565 hv570 hv573
      refine Tri.load (has30 A) (fun _ => rfl) ?_
      refine Tri.store (has30 A) ?_
      exact Tri.pure (e_body_np V i k0_h2 k0_h3).symm
    · exact Tri.pure (e_body_nn V i k0_h2 k0_h3).symm

end Cert.Proof.KI

end
-- ==== Proof.KI.Frame.lean ====
module

public import proofs.«01_k».proof.Proof.KI.Launch
public import proofs.«01_k».proof.Proof.KI.Run

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- The frame of the program, at every instance: it ends, nothing faulting, its arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) ∧ r.2.sem = fun _ => 0) :=
  frame_run m ρ (fun _ _ _ => True) (fun _ _ _ _ _ => True) (run_of m ρ _ _ (fun _ _ => trivial) fun c t Y S _ _ =>
    (tri_body c (argsAt t) (St.of Y S) (grid0.coords t)).mono fun _ _ _ => ⟨trivial, allW_true _⟩)

end Cert.Proof.KI

end
-- ==== Proof.KI.Pay.lean ====
module

public import proofs.«01_k».proof.Proof.Gen.KernelIdeal.Skeleton
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The payloads of the two counted loops, read at an index over the extended reals. -/

/-- The code of field `f` of the word `w`: its two bits at `2 f`, as a number. -/
def code (w : BitVec 32) (f : ℕ) : EReal :=
  FloatOps.sitofp (F := Ideal) .bf16 (IntOp.andi (IntOp.shrui ArithUnit.vector w (IntOp.muli (2#32) (BitVec.ofNat 32 f))) 3#32)

/-- One trip's rows of the gate weights, from the words, the zeros and the scales of those rows. -/
def wG (q : Vec Ideal S32x256 .i32) (z s : Vec Ideal S8x256 .f32) : FVec Ideal S512x256 .bf16 :=
  k0_pay134 (k0_pay116 q) (k0_pay119 z) (k0_pay120 z) (k0_pay121 z) (k0_pay122 z) (k0_pay123 z) (k0_pay124 z) (k0_pay125 z)
    (k0_pay126 s) (k0_pay127 s) (k0_pay128 s) (k0_pay129 s) (k0_pay130 s) (k0_pay131 s) (k0_pay132 s) (k0_pay133 q z s)

/-- One trip's rows of the up weights. -/
def wU (q : Vec Ideal S32x256 .i32) (z s : Vec Ideal S8x256 .f32) : FVec Ideal S512x256 .bf16 :=
  k0_pay156 (k0_pay138 q) (k0_pay141 z) (k0_pay142 z) (k0_pay143 z) (k0_pay144 z) (k0_pay145 z) (k0_pay146 z) (k0_pay147 z)
    (k0_pay148 s) (k0_pay149 s) (k0_pay150 s) (k0_pay151 s) (k0_pay152 s) (k0_pay153 s) (k0_pay154 s) (k0_pay155 q z s)

/-- One trip's columns of the down weights. -/
def wD (q : Vec Ideal S16x512 .i32) (z s : Vec Ideal S4x512 .f32) : FVec Ideal S256x512 .bf16 :=
  k0_pay256 (k0_pay160 q) (k0_pay161 z) (k0_pay162 z) (k0_pay163 s) (k0_pay164 s) (k0_pay165 q z s) (k0_pay166 q z s)

theorem dq_congr {a b m : ℕ} {q : (⟨2, ![a, m]⟩ : Shape).Idx → BitVec 32} {z s : (⟨2, ![b, m]⟩ : Shape).Idx → EReal}
    {g1 g2 g' : Fin b} {w w' : Fin a} {f f' : ℕ} {c : Fin m}
    (h1 : g1.val = g'.val) (h2 : g2.val = g'.val) (hw : w.val = w'.val) (hf : f = f') :
    s (ix2 g1 c) * (code (q (ix2 w c)) f - z (ix2 g2 c)) = s (ix2 g' c) * (code (q (ix2 w' c)) f' - z (ix2 g' c)) := by
  obtain rfl := Fin.ext h1; obtain rfl := Fin.ext h2; obtain rfl := Fin.ext hw; subst hf; rfl

theorem wG_at (q : Vec Ideal S32x256 .i32) (z s : Vec Ideal S8x256 .f32) (r : Fin 512) (c : Fin 256) :
    wG q z s (ix2 r c) = s (ix2 ⟨r.val / 64, by omega⟩ c)
      * (code (q (ix2 ⟨r.val / 16, by omega⟩ c)) (r.val % 16) - z (ix2 ⟨r.val / 64, by omega⟩ c)) := by
  have hr := r.isLt
  unfold wG
  pointwise [k0_pay134, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133]
  split_ifs <;> refine dq_congr ?_ ?_ ?_ ?_ <;> first | omega | (simp; done) | (simp; omega)

theorem wU_eq (q : Vec Ideal S32x256 .i32) (z s : Vec Ideal S8x256 .f32) : wU q z s = wG q z s := rfl

theorem wD_at (q : Vec Ideal S16x512 .i32) (z s : Vec Ideal S4x512 .f32) (r : Fin 256) (c : Fin 512) :
    wD q z s (ix2 r c) = s (ix2 ⟨r.val / 64, by omega⟩ c)
      * (code (q (ix2 ⟨r.val / 16, by omega⟩ c)) (r.val % 16) - z (ix2 ⟨r.val / 64, by omega⟩ c)) := by
  have hr := r.isLt
  unfold wD
  pointwise [k0_pay256, k0_pay160, k0_pay161, k0_pay162, k0_pay163, k0_pay164, k0_pay165, k0_pay166]
  split_ifs <;> refine dq_congr ?_ ?_ ?_ ?_ <;> first | omega | (simp; done) | (simp; omega)

theorem acc1_at (a : Vec Ideal S128x512 .bf16) (b : Vec Ideal S512x256 .bf16) (o : Vec Ideal S128x256 .f32) (r : Fin 128) (c : Fin 256) :
    k0_pay137 a b o (ix2 r c) = o (ix2 r c) + ∑ k : Fin 512, a (ix2 r k) * b (ix2 k c) := by
  pointwise [k0_pay137]

theorem acc2_eq (a : Vec Ideal S128x512 .bf16) (b : Vec Ideal S512x256 .bf16) (o : Vec Ideal S128x256 .f32) :
    k0_pay159 a b o = k0_pay137 a b o := rfl

theorem acc3_at (q : Vec Ideal S16x512 .i32) (z s : Vec Ideal S4x512 .f32) (a : Vec Ideal S128x512 .bf16) (o : Vec Ideal S128x256 .f32)
    (r : Fin 128) (c : Fin 256) :
    k0_pay259 (k0_pay160 q) (k0_pay161 z) (k0_pay162 z) (k0_pay163 s) (k0_pay164 s) (k0_pay165 q z s) (k0_pay166 q z s) o a (ix2 r c)
      = o (ix2 r c) + ∑ k : Fin 512, a (ix2 r k) * wD q z s (ix2 c k) := by
  unfold wD
  pointwise [k0_pay259]

theorem accA_at (g u : Vec Ideal S128x256 .bf16) (o : Vec Ideal S128x512 .f32) (a b : Vec Ideal S512x256 .bf16) (r : Fin 128) (c : Fin 512) :
    k0_pay182 g u o a b (ix2 r c)
      = o (ix2 r c) + ((∑ k : Fin 256, g (ix2 r k) * a (ix2 c k)) + ∑ k : Fin 256, u (ix2 r k) * b (ix2 c k)) := by
  pointwise [k0_pay182]

theorem accY_at (h : Vec Ideal S128x256 .bf16) (o : Vec Ideal S128x512 .f32) (w : Vec Ideal S256x512 .bf16) (r : Fin 128) (c : Fin 512) :
    k0_pay270 h o w (ix2 r c) = o (ix2 r c) + ∑ k : Fin 256, h (ix2 r k) * w (ix2 k c) := by
  pointwise [k0_pay270]

theorem self136 (w : FVec Ideal S512x256 .bf16) : k0_pay136 w = w := by
  funext j; rw [eq_ix2 j]; pointwise [k0_pay136]
theorem self158 (w : FVec Ideal S512x256 .bf16) : k0_pay158 w = w := self136 w
theorem self258 (q : Vec Ideal S16x512 .i32) (z s : Vec Ideal S4x512 .f32) :
    k0_pay258 (k0_pay160 q) (k0_pay161 z) (k0_pay162 z) (k0_pay163 s) (k0_pay164 s) (k0_pay165 q z s) (k0_pay166 q z s) = wD q z s := by
  funext j; rw [eq_ix2 j]; unfold wD; pointwise [k0_pay258]

theorem tr248 (w : Vec Ideal S256x256 .i32) (r c : Fin 256) : k0_pay248 (F := Ideal) w (ix2 r c) = w (ix2 c r) := by
  pointwise [k0_pay248]
theorem tr249 (w : Vec Ideal S256x256 .i32) (r c : Fin 256) : k0_pay249 (F := Ideal) w (ix2 r c) = w (ix2 c r) := by
  pointwise [k0_pay249]
theorem self252 (w : FVec Ideal S4x4096 .f32) : k0_pay252 w = w := by
  funext j; rw [eq_ix2 j]; pointwise [k0_pay252]
theorem zero253 (r : Fin 128) (c : Fin 256) : k0_pay253 (F := Ideal) (ix2 r c) = 0 := by
  pointwise [k0_pay253]
theorem zero254 (r : Fin 128) (c : Fin 256) : k0_pay254 (F := Ideal) (ix2 r c) = 0 := zero253 r c
theorem zero255 (r : Fin 128) (c : Fin 256) : k0_pay255 (F := Ideal) (ix2 r c) = 0 := zero253 r c

end Cert.Proof.KI

end
-- ==== Proof.KI.Trip.lean ====
module

public import proofs.«01_k».proof.Proof.KI.Run
public import proofs.«01_k».proof.Proof.KI.Pay
public import Idealize.ShloMosaic.Lib.Pipeline.ValueKit.Tiles

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! What one trip of each counted loop leaves in the blocks, read at an index over the extended reals. -/

/-- The sum of the first `n` values of `f`. -/
def rsum {N : ℕ} (f : Fin N → EReal) (n : ℕ) : EReal := ∑ j ∈ Finset.range n, if h : j < N then f ⟨j, h⟩ else 0

theorem rsum_zero {N : ℕ} (f : Fin N → EReal) : rsum f 0 = 0 := by simp [rsum]

theorem rsum_add {N : ℕ} (f : Fin N → EReal) (n m : ℕ) (h : n + m ≤ N) :
    rsum f (n + m) = rsum f n + ∑ k : Fin m, f ⟨n + k.val, by omega⟩ := by
  unfold rsum
  rw [Finset.sum_range_add, Finset.sum_range (n := m)]
  congr 1
  refine Finset.sum_congr rfl fun k _ => ?_
  rw [dif_pos (by omega)]

theorem rsum_full {N : ℕ} (f : Fin N → EReal) : rsum f N = ∑ k, f k := by
  unfold rsum
  rw [Finset.sum_range]
  exact Finset.sum_congr rfl fun k _ => dif_pos k.isLt

theorem ld2 {α : Type} {a b m n : ℕ} (X : (⟨2, ![a, b]⟩ : Shape).Idx → α) (off : Fin 2 → ℕ) (inb) (r : Fin m) (c : Fin n) {p q : ℕ}
    (h0 : off 0 = p) (h1 : off 1 = q) (hr : p + r.val < a) (hc : q + c.val < b) :
    X ((Rect.unit (s := ⟨2, ![a, b]⟩) off ![m, n] inb).toLoadRect.idx (ix2 r c)) = X (ix2 ⟨p + r.val, hr⟩ ⟨q + c.val, hc⟩) := by
  subst h0 h1
  refine congrArg X (funext fun d => Fin.ext ((Rect.idx_unit_val off _ inb _ d).trans ?_))
  match d with
  | ⟨0, _⟩ => rfl
  | ⟨1, _⟩ => rfl

theorem ov2 {α : Type} {a b m n : ℕ} (X : (⟨2, ![a, b]⟩ : Shape).Idx → α) (G : (⟨2, ![m, n]⟩ : Shape).Idx → α)
    (off : Fin 2 → ℕ) (inb) (r : Fin m) (c : Fin n) {p q : ℕ} (R : Fin a) (C : Fin b)
    (h0 : off 0 = p) (h1 : off 1 = q) (hr : p + r.val = R.val) (hc : q + c.val = C.val) :
    (Rect.unit (s := ⟨2, ![a, b]⟩) off ![m, n] inb).overlay X G (ix2 R C) = G (ix2 r c) := by
  subst h0 h1
  have h := Rect.overlay_emb (Rect.unit (s := ⟨2, ![a, b]⟩) off ![m, n] inb) X G (ix2 r c)
  refine Eq.trans (congrArg _ (funext fun d => Fin.ext ?_)) h
  refine Eq.trans ?_ (Rect.idx_unit_val off _ inb _ d).symm
  match d with
  | ⟨0, _⟩ => exact hr.symm
  | ⟨1, _⟩ => exact hc.symm

theorem ov2_out {α : Type} {a b m n : ℕ} (X : (⟨2, ![a, b]⟩ : Shape).Idx → α) (G : (⟨2, ![m, n]⟩ : Shape).Idx → α)
    (off : Fin 2 → ℕ) (inb) {p q : ℕ} (R : Fin a) (C : Fin b)
    (h0 : off 0 = p) (h1 : off 1 = q) (h : R.val < p ∨ p + m ≤ R.val ∨ C.val < q ∨ q + n ≤ C.val) :
    (Rect.unit (s := ⟨2, ![a, b]⟩) off ![m, n] inb).overlay X G (ix2 R C) = X (ix2 R C) := by
  subst h0 h1
  refine Rect.overlay_of_not_mem _ _ _ fun hm => ?_
  rw [Rect.mem_set_unit] at hm
  have e0 := hm 0
  have e1 := hm 1
  have s0 : ((ix2 R C : (⟨2, ![a, b]⟩ : Shape).Idx) 0).val = R.val := rfl
  have s1 : ((ix2 R C : (⟨2, ![a, b]⟩ : Shape).Idx) 1).val = C.val := rfl
  have t0 : (![m, n] : Fin 2 → ℕ) 0 = m := rfl
  have t1 : (![m, n] : Fin 2 → ℕ) 1 = n := rfl
  rw [s0, t0] at e0
  rw [s1, t1] at e1
  omega

theorem trips1 : k0_t1_loop.trips = 8 := by decide +kernel
theorem trips2 : k0_t2_loop.trips = 8 := by decide +kernel
theorem off1_0 : ∀ k : Fin k0_t1_loop.trips, k0_off1 k 0 = 0 * k.val := by decide +kernel
theorem off1_1 : ∀ k : Fin k0_t1_loop.trips, k0_off1 k 1 = 512 * k.val := by decide +kernel
theorem off2_0 : ∀ k : Fin k0_t1_loop.trips, k0_off2 k 0 = 32 * k.val := by decide +kernel
theorem off2_1 : ∀ k : Fin k0_t1_loop.trips, k0_off2 k 1 = 0 * k.val := by decide +kernel
theorem off3_0 : ∀ k : Fin k0_t1_loop.trips, k0_off3 k 0 = 8 * k.val := by decide +kernel
theorem off3_1 : ∀ k : Fin k0_t1_loop.trips, k0_off3 k 1 = 0 * k.val := by decide +kernel
theorem off4_0 : ∀ k : Fin k0_t1_loop.trips, k0_off4 k 0 = 512 * k.val := by decide +kernel
theorem off4_1 : ∀ k : Fin k0_t1_loop.trips, k0_off4 k 1 = 0 * k.val := by decide +kernel
theorem off5_0 : ∀ k : Fin k0_t1_loop.trips, k0_off5 k 0 = 0 * k.val := by decide +kernel
theorem off5_1 : ∀ k : Fin k0_t1_loop.trips, k0_off5 k 1 = 512 * k.val := by decide +kernel
theorem off6_0 : ∀ k : Fin k0_t1_loop.trips, k0_off6 k 0 = 0 * k.val := by decide +kernel
theorem off6_1 : ∀ k : Fin k0_t1_loop.trips, k0_off6 k 1 = 512 * k.val := by decide +kernel
theorem off7_0 : ∀ k : Fin k0_t1_loop.trips, k0_off7 k 0 = 0 * k.val := by decide +kernel
theorem off7_1 : ∀ k : Fin k0_t1_loop.trips, k0_off7 k 1 = 512 * k.val := by decide +kernel
theorem off9_0 : ∀ k : Fin k0_t2_loop.trips, k0_off9 k 0 = 512 * k.val := by decide +kernel
theorem off9_1 : ∀ k : Fin k0_t2_loop.trips, k0_off9 k 1 = 0 * k.val := by decide +kernel
theorem off11_0 : ∀ k : Fin k0_t2_loop.trips, k0_off11 k 0 = 0 * k.val := by decide +kernel
theorem off11_1 : ∀ k : Fin k0_t2_loop.trips, k0_off11 k 1 = 512 * k.val := by decide +kernel
theorem off12_0 : ∀ k : Fin k0_t2_loop.trips, k0_off12 k 0 = 0 * k.val := by decide +kernel
theorem off12_1 : ∀ k : Fin k0_t2_loop.trips, k0_off12 k 1 = 512 * k.val := by decide +kernel
/-- The blocks that neither counted loop writes are the same in both. -/
structure Keep (W V : St Ideal) : Prop where
  x1 : W.x1 = V.x1
  x2 : W.x2 = V.x2
  x3 : W.x3 = V.x3
  x4 : W.x4 = V.x4
  x5 : W.x5 = V.x5
  x6 : W.x6 = V.x6
  x7 : W.x7 = V.x7
  x8 : W.x8 = V.x8
  x9 : W.x9 = V.x9
  x10 : W.x10 = V.x10
  x11 : W.x11 = V.x11
  x12 : W.x12 = V.x12
  x13 : W.x13 = V.x13
  x14 : W.x14 = V.x14
  x15 : W.x15 = V.x15
  x16 : W.x16 = V.x16
  x17 : W.x17 = V.x17
  x18 : W.x18 = V.x18
  x19 : W.x19 = V.x19
  x20 : W.x20 = V.x20
  x21 : W.x21 = V.x21
  x22 : W.x22 = V.x22
  x23 : W.x23 = V.x23
  x24 : W.x24 = V.x24
  x25 : W.x25 = V.x25
  x26 : W.x26 = V.x26
  x27 : W.x27 = V.x27
  x28 : W.x28 = V.x28
  x63 : W.x63 = V.x63
  x65 : W.x65 = V.x65
  x72 : W.x72 = V.x72
  x73 : W.x73 = V.x73
  x80 : W.x80 = V.x80
  x81 : W.x81 = V.x81

theorem Keep.rfl' (V : St Ideal) : Keep V V := by constructor <;> rfl

theorem Keep.trans {U W V : St Ideal} (h : Keep U W) (h' : Keep W V) : Keep U V :=
  ⟨h.x1.trans h'.x1, h.x2.trans h'.x2, h.x3.trans h'.x3, h.x4.trans h'.x4, h.x5.trans h'.x5, h.x6.trans h'.x6, h.x7.trans h'.x7, h.x8.trans h'.x8, h.x9.trans h'.x9, h.x10.trans h'.x10, h.x11.trans h'.x11, h.x12.trans h'.x12, h.x13.trans h'.x13, h.x14.trans h'.x14, h.x15.trans h'.x15, h.x16.trans h'.x16, h.x17.trans h'.x17, h.x18.trans h'.x18, h.x19.trans h'.x19, h.x20.trans h'.x20, h.x21.trans h'.x21, h.x22.trans h'.x22, h.x23.trans h'.x23, h.x24.trans h'.x24, h.x25.trans h'.x25, h.x26.trans h'.x26, h.x27.trans h'.x27, h.x28.trans h'.x28, h.x63.trans h'.x63, h.x65.trans h'.x65, h.x72.trans h'.x72, h.x73.trans h'.x73, h.x80.trans h'.x80, h.x81.trans h'.x81⟩

section
variable (V : St Ideal) (i : grid0.Coords) (v28 : FVec Ideal S4x4096 .f32) (v29 : Vec Ideal S4x4096 .f32) (k : Fin k0_t1_loop.trips)

theorem e_t1_x66 : (e_t1 V i v28 v29 k).2.x66 = (Rect.unit (s := S4096x256) (k0_off4 k) S512x256.size (k0_off4_inb k)).overlay V.x66 (k0_pay136 (wG (fun j => V.x72 ((Rect.unit (s := S256x256) (k0_off2 k) S32x256.size (k0_off2_inb k)).toLoadRect.idx j)) (fun j => V.x11 ((Rect.unit (s := S64x256) (k0_off3 k) S8x256.size (k0_off3_inb k)).toLoadRect.idx j)) (fun j => V.x12 ((Rect.unit (s := S64x256) (k0_off3 k) S8x256.size (k0_off3_inb k)).toLoadRect.idx j)))) := by
  dsimp only [e_t1, e_part11, e_part12, e_part13, e_part14, e_part15, St.s66, St.s67, St.s68, St.s69, St.s70, St.s71, St.s76, St.s77, St.s78]
  try rfl

theorem e_t1_x67 : (e_t1 V i v28 v29 k).2.x67 = (Rect.unit (s := S4096x256) (k0_off4 k) S512x256.size (k0_off4_inb k)).overlay V.x67 (k0_pay158 (wU (fun j => V.x73 ((Rect.unit (s := S256x256) (k0_off2 k) S32x256.size (k0_off2_inb k)).toLoadRect.idx j)) (fun j => V.x17 ((Rect.unit (s := S64x256) (k0_off3 k) S8x256.size (k0_off3_inb k)).toLoadRect.idx j)) (fun j => V.x18 ((Rect.unit (s := S64x256) (k0_off3 k) S8x256.size (k0_off3_inb k)).toLoadRect.idx j)))) := by
  dsimp only [e_t1, e_part11, e_part12, e_part13, e_part14, e_part15, St.s66, St.s67, St.s68, St.s69, St.s70, St.s71, St.s76, St.s77, St.s78]
  try rfl

theorem e_t1_x68 : (e_t1 V i v28 v29 k).2.x68 = (Rect.unit (s := S256x4096) (k0_off7 k) S256x512.size (k0_off7_inb k)).overlay V.x68 (k0_pay258 (k0_pay160 (fun j => V.x10 ((Rect.unit (s := S16x4096) (k0_off5 k) S16x512.size (k0_off5_inb k)).toLoadRect.idx j))) (k0_pay161 (fun j => V.x80 ((Rect.unit (s := S4x4096) (k0_off6 k) S4x512.size (k0_off6_inb k)).toLoadRect.idx j))) (k0_pay162 (fun j => V.x80 ((Rect.unit (s := S4x4096) (k0_off6 k) S4x512.size (k0_off6_inb k)).toLoadRect.idx j))) (k0_pay163 (fun j => V.x81 ((Rect.unit (s := S4x4096) (k0_off6 k) S4x512.size (k0_off6_inb k)).toLoadRect.idx j))) (k0_pay164 (fun j => V.x81 ((Rect.unit (s := S4x4096) (k0_off6 k) S4x512.size (k0_off6_inb k)).toLoadRect.idx j))) (k0_pay165 (fun j => V.x10 ((Rect.unit (s := S16x4096) (k0_off5 k) S16x512.size (k0_off5_inb k)).toLoadRect.idx j)) (fun j => V.x80 ((Rect.unit (s := S4x4096) (k0_off6 k) S4x512.size (k0_off6_inb k)).toLoadRect.idx j)) (fun j => V.x81 ((Rect.unit (s := S4x4096) (k0_off6 k) S4x512.size (k0_off6_inb k)).toLoadRect.idx j))) (k0_pay166 (fun j => V.x10 ((Rect.unit (s := S16x4096) (k0_off5 k) S16x512.size (k0_off5_inb k)).toLoadRect.idx j)) (fun j => V.x80 ((Rect.unit (s := S4x4096) (k0_off6 k) S4x512.size (k0_off6_inb k)).toLoadRect.idx j)) (fun j => V.x81 ((Rect.unit (s := S4x4096) (k0_off6 k) S4x512.size (k0_off6_inb k)).toLoadRect.idx j)))) := by
  dsimp only [e_t1, e_part11, e_part12, e_part13, e_part14, e_part15, St.s66, St.s67, St.s68, St.s69, St.s70, St.s71, St.s76, St.s77, St.s78]
  try rfl

theorem e_t1_x76 : (e_t1 V i v28 v29 k).2.x76 = (Rect.unit (s := S128x256) ![0, 0] S128x256.size inb_S128x256_S128x256_0_0).overlay V.x76 (k0_pay137 (fun j => V.x63 ((Rect.unit (s := S128x4096) (k0_off1 k) S128x512.size (k0_off1_inb k)).toLoadRect.idx j)) (wG (fun j => V.x72 ((Rect.unit (s := S256x256) (k0_off2 k) S32x256.size (k0_off2_inb k)).toLoadRect.idx j)) (fun j => V.x11 ((Rect.unit (s := S64x256) (k0_off3 k) S8x256.size (k0_off3_inb k)).toLoadRect.idx j)) (fun j => V.x12 ((Rect.unit (s := S64x256) (k0_off3 k) S8x256.size (k0_off3_inb k)).toLoadRect.idx j))) (fun j => V.x76 ((Rect.unit (s := S128x256) ![0, 0] S128x256.size inb_S128x256_S128x256_0_0).toLoadRect.idx j))) := by
  dsimp only [e_t1, e_part11, e_part12, e_part13, e_part14, e_part15, St.s66, St.s67, St.s68, St.s69, St.s70, St.s71, St.s76, St.s77, St.s78]
  try rfl

theorem e_t1_x77 : (e_t1 V i v28 v29 k).2.x77 = (Rect.unit (s := S128x256) ![0, 0] S128x256.size inb_S128x256_S128x256_0_0).overlay V.x77 (k0_pay159 (fun j => V.x63 ((Rect.unit (s := S128x4096) (k0_off1 k) S128x512.size (k0_off1_inb k)).toLoadRect.idx j)) (wU (fun j => V.x73 ((Rect.unit (s := S256x256) (k0_off2 k) S32x256.size (k0_off2_inb k)).toLoadRect.idx j)) (fun j => V.x17 ((Rect.unit (s := S64x256) (k0_off3 k) S8x256.size (k0_off3_inb k)).toLoadRect.idx j)) (fun j => V.x18 ((Rect.unit (s := S64x256) (k0_off3 k) S8x256.size (k0_off3_inb k)).toLoadRect.idx j))) (fun j => V.x77 ((Rect.unit (s := S128x256) ![0, 0] S128x256.size inb_S128x256_S128x256_0_0).toLoadRect.idx j))) := by
  dsimp only [e_t1, e_part11, e_part12, e_part13, e_part14, e_part15, St.s66, St.s67, St.s68, St.s69, St.s70, St.s71, St.s76, St.s77, St.s78]
  try rfl

theorem e_t1_x78 : (e_t1 V i v28 v29 k).2.x78 = (Rect.unit (s := S128x256) ![0, 0] S128x256.size inb_S128x256_S128x256_0_0).overlay V.x78 (k0_pay259 (k0_pay160 (fun j => V.x10 ((Rect.unit (s := S16x4096) (k0_off5 k) S16x512.size (k0_off5_inb k)).toLoadRect.idx j))) (k0_pay161 (fun j => V.x80 ((Rect.unit (s := S4x4096) (k0_off6 k) S4x512.size (k0_off6_inb k)).toLoadRect.idx j))) (k0_pay162 (fun j => V.x80 ((Rect.unit (s := S4x4096) (k0_off6 k) S4x512.size (k0_off6_inb k)).toLoadRect.idx j))) (k0_pay163 (fun j => V.x81 ((Rect.unit (s := S4x4096) (k0_off6 k) S4x512.size (k0_off6_inb k)).toLoadRect.idx j))) (k0_pay164 (fun j => V.x81 ((Rect.unit (s := S4x4096) (k0_off6 k) S4x512.size (k0_off6_inb k)).toLoadRect.idx j))) (k0_pay165 (fun j => V.x10 ((Rect.unit (s := S16x4096) (k0_off5 k) S16x512.size (k0_off5_inb k)).toLoadRect.idx j)) (fun j => V.x80 ((Rect.unit (s := S4x4096) (k0_off6 k) S4x512.size (k0_off6_inb k)).toLoadRect.idx j)) (fun j => V.x81 ((Rect.unit (s := S4x4096) (k0_off6 k) S4x512.size (k0_off6_inb k)).toLoadRect.idx j))) (k0_pay166 (fun j => V.x10 ((Rect.unit (s := S16x4096) (k0_off5 k) S16x512.size (k0_off5_inb k)).toLoadRect.idx j)) (fun j => V.x80 ((Rect.unit (s := S4x4096) (k0_off6 k) S4x512.size (k0_off6_inb k)).toLoadRect.idx j)) (fun j => V.x81 ((Rect.unit (s := S4x4096) (k0_off6 k) S4x512.size (k0_off6_inb k)).toLoadRect.idx j))) (fun j => V.x78 ((Rect.unit (s := S128x256) ![0, 0] S128x256.size inb_S128x256_S128x256_0_0).toLoadRect.idx j)) (fun j => V.x2 ((Rect.unit (s := S128x4096) (k0_off1 k) S128x512.size (k0_off1_inb k)).toLoadRect.idx j))) := by
  dsimp only [e_t1, e_part11, e_part12, e_part13, e_part14, e_part15, St.s66, St.s67, St.s68, St.s69, St.s70, St.s71, St.s76, St.s77, St.s78]
  try rfl

theorem e_t1_keep : Keep (e_t1 V i v28 v29 k).2 V := by
  obtain ⟨W, hW⟩ : ∃ W, W = (e_t1 V i v28 v29 k).2 := ⟨_, rfl⟩
  rw [← hW]
  dsimp only [e_t1, e_part11, e_part12, e_part13, e_part14, e_part15, St.s66, St.s67, St.s68, St.s69, St.s70, St.s71, St.s76, St.s77, St.s78] at hW
  subst hW
  constructor <;> rfl

theorem e_t1_more : (e_t1 V i v28 v29 k).2.x74 = V.x74 ∧ (e_t1 V i v28 v29 k).2.x75 = V.x75 := by
  dsimp only [e_t1, e_part11, e_part12, e_part13, e_part14, e_part15, St.s66, St.s67, St.s68, St.s69, St.s70, St.s71, St.s76, St.s77, St.s78]
  trivial

end

section
variable (V : St Ideal) (i : grid0.Coords) (v13 : BitVec 32) (v45 v47 : Vec Ideal S128x256 .f32) (v54 : FVec Ideal S128x256 .f32)
  (v57 : FVec Ideal S128x256 .bf16) (v59 v61 : FVec Ideal S128x256 .f32) (k : Fin k0_t2_loop.trips)

theorem e_t2_x74 : (e_t2 V i v13 v45 v47 v54 v57 v59 v61 k).2.x74 = (Rect.unit (s := S128x4096) (k0_off11 k) S128x512.size (k0_off11_inb k)).overlay V.x74 (k0_pay182 (k0_pay264 v45 v59 v61) (k0_pay265 v45 v47 v54) (fun j => V.x74 ((Rect.unit (s := S128x4096) (k0_off11 k) S128x512.size (k0_off11_inb k)).toLoadRect.idx j)) (fun j => V.x66 ((Rect.unit (s := S4096x256) (k0_off9 k) S512x256.size (k0_off9_inb k)).toLoadRect.idx j)) (fun j => V.x67 ((Rect.unit (s := S4096x256) (k0_off9 k) S512x256.size (k0_off9_inb k)).toLoadRect.idx j))) := by
  dsimp only [e_t2, e_part16, e_part17, e_part18, e_part19, e_part20, e_part21, e_part22, e_part23, e_part24, St.s74, St.s75, St.s82, St.s83, St.s84, St.s85, St.s86, St.s87]
  try rfl

theorem e_t2_x75 : (e_t2 V i v13 v45 v47 v54 v57 v59 v61 k).2.x75 = (Rect.unit (s := S128x4096) (k0_off11 k) S128x512.size (k0_off11_inb k)).overlay V.x75 (k0_pay270 v57 (fun j => V.x75 ((Rect.unit (s := S128x4096) (k0_off11 k) S128x512.size (k0_off11_inb k)).toLoadRect.idx j)) (fun j => V.x68 ((Rect.unit (s := S256x4096) (k0_off12 k) S256x512.size (k0_off12_inb k)).toLoadRect.idx j))) := by
  dsimp only [e_t2, e_part16, e_part17, e_part18, e_part19, e_part20, e_part21, e_part22, e_part23, e_part24, St.s74, St.s75, St.s82, St.s83, St.s84, St.s85, St.s86, St.s87]
  try rfl

theorem e_t2_keep : Keep (e_t2 V i v13 v45 v47 v54 v57 v59 v61 k).2 V := by
  obtain ⟨W, hW⟩ : ∃ W, W = (e_t2 V i v13 v45 v47 v54 v57 v59 v61 k).2 := ⟨_, rfl⟩
  rw [← hW]
  dsimp only [e_t2, e_part16, e_part17, e_part18, e_part19, e_part20, e_part21, e_part22, e_part23, e_part24, St.s74, St.s75, St.s82, St.s83, St.s84, St.s85, St.s86, St.s87] at hW
  subst hW
  constructor <;> rfl

theorem e_t2_more : (e_t2 V i v13 v45 v47 v54 v57 v59 v61 k).2.x32 = V.x32 ∧ (e_t2 V i v13 v45 v47 v54 v57 v59 v61 k).2.x66 = V.x66 ∧ (e_t2 V i v13 v45 v47 v54 v57 v59 v61 k).2.x67 = V.x67 ∧ (e_t2 V i v13 v45 v47 v54 v57 v59 v61 k).2.x68 = V.x68 := by
  dsimp only [e_t2, e_part16, e_part17, e_part18, e_part19, e_part20, e_part21, e_part22, e_part23, e_part24, St.s74, St.s75, St.s82, St.s83, St.s84, St.s85, St.s86, St.s87]
  trivial

end

end Cert.Proof.KI

end
-- ==== Proof.KI.Loop.lean ====
module

public import proofs.«01_k».proof.Proof.KI.Trip

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! What the two counted loops leave, read at an index over the extended reals. -/

theorem ld2' {α : Type} {a b m n : ℕ} (X : (⟨2, ![a, b]⟩ : Shape).Idx → α) (off : Fin 2 → ℕ) (inb) (r : Fin m) (c : Fin n) {p q : ℕ}
    (R : Fin a) (C : Fin b) (h0 : off 0 = p) (h1 : off 1 = q) (hr : p + r.val = R.val) (hc : q + c.val = C.val) :
    X ((Rect.unit (s := ⟨2, ![a, b]⟩) off ![m, n] inb).toLoadRect.idx (ix2 r c)) = X (ix2 R C) := by
  rw [ld2 X off inb r c h0 h1 (by omega) (by omega)]
  exact congrArg X (congrArg₂ ix2 (Fin.ext hr) (Fin.ext hc))

/-- The gate weight at model column `r` and unit `c` of the block. -/
def WG (V : St Ideal) (r : Fin 4096) (c : Fin 256) : EReal :=
  V.x12 (ix2 ⟨r.val / 64, by omega⟩ c) * (code (V.x72 (ix2 ⟨r.val / 16, by omega⟩ c)) (r.val % 16) - V.x11 (ix2 ⟨r.val / 64, by omega⟩ c))
/-- The up weight at model column `r` and unit `c` of the block. -/
def WU (V : St Ideal) (r : Fin 4096) (c : Fin 256) : EReal :=
  V.x18 (ix2 ⟨r.val / 64, by omega⟩ c) * (code (V.x73 (ix2 ⟨r.val / 16, by omega⟩ c)) (r.val % 16) - V.x17 (ix2 ⟨r.val / 64, by omega⟩ c))
/-- The down weight at unit `c` of the block and model column `k`. -/
def WD (V : St Ideal) (c : Fin 256) (k : Fin 4096) : EReal :=
  V.x81 (ix2 ⟨c.val / 64, by omega⟩ k) * (code (V.x10 (ix2 ⟨c.val / 16, by omega⟩ k)) (c.val % 16) - V.x80 (ix2 ⟨c.val / 64, by omega⟩ k))

theorem WG_keep {W V : St Ideal} (h : Keep W V) : WG W = WG V := by
  funext r c; unfold WG; rw [h.x12, h.x72, h.x11]
theorem WU_keep {W V : St Ideal} (h : Keep W V) : WU W = WU V := by
  funext r c; unfold WU; rw [h.x18, h.x73, h.x17]
theorem WD_keep {W V : St Ideal} (h : Keep W V) : WD W = WD V := by
  funext r c; unfold WD; rw [h.x81, h.x10, h.x80]

theorem iter_ind {n : ℕ} (f : Fin n → St Ideal → St Ideal) (V : St Ideal) (P : ℕ → St Ideal → Prop) (h0 : P 0 V)
    (hs : ∀ (k : Fin n) W, P k.val W → P (k.val + 1) (f k W)) : ∀ m, m ≤ n → P m (iter f m V)
  | 0, _ => h0
  | m + 1, hm => by
    have := hs ⟨m, hm⟩ _ (iter_ind f V P h0 hs m (by omega))
    rw [← iter_succ f ⟨m, hm⟩ V] at this
    exact this

section
variable (V : St Ideal) (i : grid0.Coords) (v28 : FVec Ideal S4x4096 .f32) (v29 : Vec Ideal S4x4096 .f32) (k : Fin k0_t1_loop.trips)

theorem k_lt : k.val < 8 := by have := k.isLt; have := trips1; omega

theorem trip_wG (r : Fin 512) (c : Fin 256) (R : Fin 4096) (hR : 512 * k.val + r.val = R.val) :
    (wG (fun j => V.x72 ((Rect.unit (s := S256x256) (k0_off2 k) S32x256.size (k0_off2_inb k)).toLoadRect.idx j)) (fun j => V.x11 ((Rect.unit (s := S64x256) (k0_off3 k) S8x256.size (k0_off3_inb k)).toLoadRect.idx j)) (fun j => V.x12 ((Rect.unit (s := S64x256) (k0_off3 k) S8x256.size (k0_off3_inb k)).toLoadRect.idx j))) (ix2 r c) = WG V R c := by
  have hk := k_lt k
  rw [wG_at]
  unfold WG
  have e1 := ld2' V.x12 (k0_off3 k) (k0_off3_inb k) (⟨r.val / 64, by omega⟩ : Fin 8) c (⟨R.val / 64, by omega⟩ : Fin 64) c (off3_0 k) (off3_1 k) (by simp only []; omega) (by omega)
  have e2 := ld2' V.x11 (k0_off3 k) (k0_off3_inb k) (⟨r.val / 64, by omega⟩ : Fin 8) c (⟨R.val / 64, by omega⟩ : Fin 64) c (off3_0 k) (off3_1 k) (by simp only []; omega) (by omega)
  have e3 := ld2' V.x72 (k0_off2 k) (k0_off2_inb k) (⟨r.val / 16, by omega⟩ : Fin 32) c (⟨R.val / 16, by omega⟩ : Fin 256) c (off2_0 k) (off2_1 k) (by simp only []; omega) (by omega)
  have e4 : r.val % 16 = R.val % 16 := by omega
  refine congrArg₂ (· * ·) e1 (congrArg₂ (· - ·) (congrArg₂ code e3 e4) e2)

theorem trip_wU (r : Fin 512) (c : Fin 256) (R : Fin 4096) (hR : 512 * k.val + r.val = R.val) :
    (wU (fun j => V.x73 ((Rect.unit (s := S256x256) (k0_off2 k) S32x256.size (k0_off2_inb k)).toLoadRect.idx j)) (fun j => V.x17 ((Rect.unit (s := S64x256) (k0_off3 k) S8x256.size (k0_off3_inb k)).toLoadRect.idx j)) (fun j => V.x18 ((Rect.unit (s := S64x256) (k0_off3 k) S8x256.size (k0_off3_inb k)).toLoadRect.idx j))) (ix2 r c) = WU V R c := by
  have hk := k_lt k
  rw [wU_eq, wG_at]
  unfold WU
  have e1 := ld2' V.x18 (k0_off3 k) (k0_off3_inb k) (⟨r.val / 64, by omega⟩ : Fin 8) c (⟨R.val / 64, by omega⟩ : Fin 64) c (off3_0 k) (off3_1 k) (by simp only []; omega) (by omega)
  have e2 := ld2' V.x17 (k0_off3 k) (k0_off3_inb k) (⟨r.val / 64, by omega⟩ : Fin 8) c (⟨R.val / 64, by omega⟩ : Fin 64) c (off3_0 k) (off3_1 k) (by simp only []; omega) (by omega)
  have e3 := ld2' V.x73 (k0_off2 k) (k0_off2_inb k) (⟨r.val / 16, by omega⟩ : Fin 32) c (⟨R.val / 16, by omega⟩ : Fin 256) c (off2_0 k) (off2_1 k) (by simp only []; omega) (by omega)
  have e4 : r.val % 16 = R.val % 16 := by omega
  refine congrArg₂ (· * ·) e1 (congrArg₂ (· - ·) (congrArg₂ code e3 e4) e2)

theorem trip_wD (r : Fin 256) (c : Fin 512) (C : Fin 4096) (hC : 512 * k.val + c.val = C.val) :
    wD (fun j => V.x10 ((Rect.unit (s := S16x4096) (k0_off5 k) S16x512.size (k0_off5_inb k)).toLoadRect.idx j)) (fun j => V.x80 ((Rect.unit (s := S4x4096) (k0_off6 k) S4x512.size (k0_off6_inb k)).toLoadRect.idx j)) (fun j => V.x81 ((Rect.unit (s := S4x4096) (k0_off6 k) S4x512.size (k0_off6_inb k)).toLoadRect.idx j)) (ix2 r c) = WD V r C := by
  have hk := k_lt k
  rw [wD_at]
  unfold WD
  have e1 := ld2' V.x81 (k0_off6 k) (k0_off6_inb k) (⟨r.val / 64, by omega⟩ : Fin 4) c (⟨r.val / 64, by omega⟩ : Fin 4) C (off6_0 k) (off6_1 k) (by omega) (by omega)
  have e2 := ld2' V.x80 (k0_off6 k) (k0_off6_inb k) (⟨r.val / 64, by omega⟩ : Fin 4) c (⟨r.val / 64, by omega⟩ : Fin 4) C (off6_0 k) (off6_1 k) (by omega) (by omega)
  have e3 := ld2' V.x10 (k0_off5 k) (k0_off5_inb k) (⟨r.val / 16, by omega⟩ : Fin 16) c (⟨r.val / 16, by omega⟩ : Fin 16) C (off5_0 k) (off5_1 k) (by omega) (by omega)
  refine congrArg₂ (· * ·) e1 (congrArg₂ (· - ·) (congrArg₂ code e3 rfl) e2)

theorem whole2 {α : Type} (X G : S128x256.Idx → α) (r : Fin 128) (c : Fin 256) :
    (Rect.unit (s := S128x256) ![0, 0] S128x256.size inb_S128x256_S128x256_0_0).overlay X G (ix2 r c) = G (ix2 r c) :=
  ov2 X G ![0, 0] inb_S128x256_S128x256_0_0 (p := 0) (q := 0) r c r c rfl rfl (Nat.zero_add _) (Nat.zero_add _)

theorem wholeld {α : Type} (X : S128x256.Idx → α) (r : Fin 128) (c : Fin 256) :
    X ((Rect.unit (s := S128x256) ![0, 0] S128x256.size inb_S128x256_S128x256_0_0).toLoadRect.idx (ix2 r c)) = X (ix2 r c) :=
  ld2' X ![0, 0] inb_S128x256_S128x256_0_0 (p := 0) (q := 0) r c r c rfl rfl (Nat.zero_add _) (Nat.zero_add _)

theorem actld {α : Type} (X : S128x4096.Idx → α) (r : Fin 128) (c : Fin 512) (C : Fin 4096) (hC : 512 * k.val + c.val = C.val) :
    X ((Rect.unit (s := S128x4096) (k0_off1 k) S128x512.size (k0_off1_inb k)).toLoadRect.idx (ix2 r c)) = X (ix2 r C) :=
  ld2' X (k0_off1 k) (k0_off1_inb k) r c r C (off1_0 k) (off1_1 k) (by omega) (by omega)

/-- What the first `n` trips of the first counted loop leave. -/
structure L1 (n : ℕ) (W : St Ideal) : Prop where
  keep : Keep W V
  x74 : W.x74 = V.x74
  x75 : W.x75 = V.x75
  x66 : ∀ r c, r.val < 512 * n → W.x66 (ix2 r c) = WG V r c
  x67 : ∀ r c, r.val < 512 * n → W.x67 (ix2 r c) = WU V r c
  x68 : ∀ c k, k.val < 512 * n → W.x68 (ix2 c k) = WD V c k
  x76 : ∀ r c, W.x76 (ix2 r c) = V.x76 (ix2 r c) + rsum (fun k => V.x63 (ix2 r k) * WG V k c) (512 * n)
  x77 : ∀ r c, W.x77 (ix2 r c) = V.x77 (ix2 r c) + rsum (fun k => V.x63 (ix2 r k) * WU V k c) (512 * n)
  x78 : ∀ r c, W.x78 (ix2 r c) = V.x78 (ix2 r c) + rsum (fun k => V.x2 (ix2 r k) * WD V c k) (512 * n)

theorem l1_zero : L1 V 0 V where
  keep := Keep.rfl' V
  x74 := rfl
  x75 := rfl
  x66 := fun r c h => absurd h (by omega)
  x67 := fun r c h => absurd h (by omega)
  x68 := fun r c h => absurd h (by omega)
  x76 := fun r c => by rw [Nat.mul_zero, rsum_zero, add_zero]
  x77 := fun r c => by rw [Nat.mul_zero, rsum_zero, add_zero]
  x78 := fun r c => by rw [Nat.mul_zero, rsum_zero, add_zero]

theorem l1_succ (W : St Ideal) (h : L1 V k.val W) : L1 V (k.val + 1) (e_t1 W i v28 v29 k).2 := by
  have hk := k_lt k
  have hG := WG_keep h.keep
  have hU := WU_keep h.keep
  have hD := WD_keep h.keep
  have hm := e_t1_more W i v28 v29 k
  refine ⟨(e_t1_keep W i v28 v29 k).trans h.keep, hm.1.trans h.x74, hm.2.trans h.x75, ?_, ?_, ?_, ?_, ?_, ?_⟩
  · intro r c hr
    rw [e_t1_x66, self136]
    by_cases hlt : r.val < 512 * k.val
    · exact (ov2_out _ _ _ _ r c (off4_0 k) (off4_1 k) (Or.inl hlt)).trans (h.x66 r c hlt)
    · refine (ov2 _ _ _ _ (⟨r.val - 512 * k.val, by omega⟩ : Fin 512) c r c (off4_0 k) (off4_1 k) (by simp only []; omega) (by omega)).trans ?_
      rw [trip_wG W k _ c r (by simp only []; omega), hG]
  · intro r c hr
    rw [e_t1_x67, self158]
    by_cases hlt : r.val < 512 * k.val
    · exact (ov2_out _ _ _ _ r c (off4_0 k) (off4_1 k) (Or.inl hlt)).trans (h.x67 r c hlt)
    · refine (ov2 _ _ _ _ (⟨r.val - 512 * k.val, by omega⟩ : Fin 512) c r c (off4_0 k) (off4_1 k) (by simp only []; omega) (by omega)).trans ?_
      rw [trip_wU W k _ c r (by simp only []; omega), hU]
  · intro c q hr
    rw [e_t1_x68, self258]
    by_cases hlt : q.val < 512 * k.val
    · exact (ov2_out _ _ _ _ c q (off7_0 k) (off7_1 k) (Or.inr (Or.inr (Or.inl hlt)))).trans (h.x68 c q hlt)
    · refine (ov2 _ _ _ _ c (⟨q.val - 512 * k.val, by omega⟩ : Fin 512) c q (off7_0 k) (off7_1 k) (by omega) (by simp only []; omega)).trans ?_
      rw [trip_wD W k c _ q (by simp only []; omega), hD]
  · intro r c
    rw [e_t1_x76, whole2, acc1_at, wholeld W.x76 r c, h.x76 r c, Nat.mul_add, Nat.mul_one, rsum_add _ (512 * k.val) 512 (by omega), add_assoc]
    refine congrArg (_ + ·) (congrArg (_ + ·) (Finset.sum_congr rfl fun j _ => ?_))
    rw [trip_wG W k j c ⟨512 * k.val + j.val, by omega⟩ rfl, actld k W.x63 r j ⟨512 * k.val + j.val, by omega⟩ rfl, hG, h.keep.x63]
  · intro r c
    rw [e_t1_x77, whole2, acc2_eq, acc1_at, wholeld W.x77 r c, h.x77 r c, Nat.mul_add, Nat.mul_one, rsum_add _ (512 * k.val) 512 (by omega), add_assoc]
    refine congrArg (_ + ·) (congrArg (_ + ·) (Finset.sum_congr rfl fun j _ => ?_))
    rw [trip_wU W k j c ⟨512 * k.val + j.val, by omega⟩ rfl, actld k W.x63 r j ⟨512 * k.val + j.val, by omega⟩ rfl, hU, h.keep.x63]
  · intro r c
    rw [e_t1_x78, whole2, acc3_at, wholeld W.x78 r c, h.x78 r c, Nat.mul_add, Nat.mul_one, rsum_add _ (512 * k.val) 512 (by omega), add_assoc]
    refine congrArg (_ + ·) (congrArg (_ + ·) (Finset.sum_congr rfl fun j _ => ?_))
    rw [trip_wD W k c j ⟨512 * k.val + j.val, by omega⟩ rfl, actld k W.x2 r j ⟨512 * k.val + j.val, by omega⟩ rfl, hD, h.keep.x2]

theorem l1_all : L1 V 8 (iter (fun k W => (e_t1 W i v28 v29 k).2) k0_t1_loop.trips V) := by
  have h := iter_ind (fun k W => (e_t1 W i v28 v29 k).2) V (L1 V) (l1_zero V) (fun k W h => l1_succ V i v28 v29 k W h) _ le_rfl
  exact Eq.mp (congrArg (fun n => L1 V n (iter (fun k W => (e_t1 W i v28 v29 k).2) k0_t1_loop.trips V)) trips1) h

end

section
variable (V : St Ideal) (i : grid0.Coords) (v13 : BitVec 32) (v45 v47 : Vec Ideal S128x256 .f32) (v54 : FVec Ideal S128x256 .f32)
  (v57 : FVec Ideal S128x256 .bf16) (v59 v61 : FVec Ideal S128x256 .f32) (k : Fin k0_t2_loop.trips)

theorem k_lt2 : k.val < 8 := by have := k.isLt; have := trips2; omega

/-- What the first `n` trips of the second counted loop leave. -/
structure L2 (n : ℕ) (W : St Ideal) : Prop where
  keep : Keep W V
  x32 : W.x32 = V.x32
  x66 : W.x66 = V.x66
  x67 : W.x67 = V.x67
  x68 : W.x68 = V.x68
  x74 : ∀ r k, k.val < 512 * n → W.x74 (ix2 r k) = V.x74 (ix2 r k)
    + ((∑ c : Fin 256, k0_pay264 v45 v59 v61 (ix2 r c) * V.x66 (ix2 k c)) + ∑ c : Fin 256, k0_pay265 v45 v47 v54 (ix2 r c) * V.x67 (ix2 k c))
  x74' : ∀ r k, 512 * n ≤ k.val → W.x74 (ix2 r k) = V.x74 (ix2 r k)
  x75 : ∀ r k, k.val < 512 * n → W.x75 (ix2 r k) = V.x75 (ix2 r k) + ∑ c : Fin 256, v57 (ix2 r c) * V.x68 (ix2 c k)
  x75' : ∀ r k, 512 * n ≤ k.val → W.x75 (ix2 r k) = V.x75 (ix2 r k)

theorem l2_zero : L2 V v45 v47 v54 v57 v59 v61 0 V where
  keep := Keep.rfl' V
  x32 := rfl
  x66 := rfl
  x67 := rfl
  x68 := rfl
  x74 := fun r c h => absurd h (by omega)
  x74' := fun r c h => rfl
  x75 := fun r c h => absurd h (by omega)
  x75' := fun r c h => rfl

theorem l2_succ (W : St Ideal) (h : L2 V v45 v47 v54 v57 v59 v61 k.val W) :
    L2 V v45 v47 v54 v57 v59 v61 (k.val + 1) (e_t2 W i v13 v45 v47 v54 v57 v59 v61 k).2 := by
  have hk := k_lt2 k
  have hm := e_t2_more W i v13 v45 v47 v54 v57 v59 v61 k
  refine ⟨(e_t2_keep W i v13 v45 v47 v54 v57 v59 v61 k).trans h.keep, hm.1.trans h.x32, hm.2.1.trans h.x66, hm.2.2.1.trans h.x67, hm.2.2.2.trans h.x68, ?_, ?_, ?_, ?_⟩
  · intro r q hq
    rw [e_t2_x74]
    by_cases hlt : q.val < 512 * k.val
    · exact (ov2_out _ _ _ _ r q (off11_0 k) (off11_1 k) (Or.inr (Or.inr (Or.inl hlt)))).trans (h.x74 r q hlt)
    · refine (ov2 _ _ _ _ r (⟨q.val - 512 * k.val, by omega⟩ : Fin 512) r q (off11_0 k) (off11_1 k) (by omega) (by simp only []; omega)).trans ?_
      rw [accA_at]
      have e0 := ld2' W.x74 (k0_off11 k) (k0_off11_inb k) r (⟨q.val - 512 * k.val, by omega⟩ : Fin 512) r q (off11_0 k) (off11_1 k) (by omega) (by simp only []; omega)
      refine congrArg₂ (· + ·) (e0.trans (h.x74' r q (by omega))) (congrArg₂ (· + ·) (Finset.sum_congr rfl fun c _ => ?_) (Finset.sum_congr rfl fun c _ => ?_))
      · exact congrArg (_ * ·) ((ld2' W.x66 (k0_off9 k) (k0_off9_inb k) (⟨q.val - 512 * k.val, by omega⟩ : Fin 512) c q c (off9_0 k) (off9_1 k) (by simp only []; omega) (by omega)).trans (congrFun h.x66 _))
      · exact congrArg (_ * ·) ((ld2' W.x67 (k0_off9 k) (k0_off9_inb k) (⟨q.val - 512 * k.val, by omega⟩ : Fin 512) c q c (off9_0 k) (off9_1 k) (by simp only []; omega) (by omega)).trans (congrFun h.x67 _))
  · intro r q hq
    rw [e_t2_x74]
    exact (ov2_out _ _ _ _ r q (off11_0 k) (off11_1 k) (Or.inr (Or.inr (Or.inr (by omega))))).trans (h.x74' r q (by omega))
  · intro r q hq
    rw [e_t2_x75]
    by_cases hlt : q.val < 512 * k.val
    · exact (ov2_out _ _ _ _ r q (off11_0 k) (off11_1 k) (Or.inr (Or.inr (Or.inl hlt)))).trans (h.x75 r q hlt)
    · refine (ov2 _ _ _ _ r (⟨q.val - 512 * k.val, by omega⟩ : Fin 512) r q (off11_0 k) (off11_1 k) (by omega) (by simp only []; omega)).trans ?_
      rw [accY_at]
      have e0 := ld2' W.x75 (k0_off11 k) (k0_off11_inb k) r (⟨q.val - 512 * k.val, by omega⟩ : Fin 512) r q (off11_0 k) (off11_1 k) (by omega) (by simp only []; omega)
      refine congrArg₂ (· + ·) (e0.trans (h.x75' r q (by omega))) (Finset.sum_congr rfl fun c _ => ?_)
      exact congrArg (_ * ·) ((ld2' W.x68 (k0_off12 k) (k0_off12_inb k) c (⟨q.val - 512 * k.val, by omega⟩ : Fin 512) c q (off12_0 k) (off12_1 k) (by omega) (by simp only []; omega)).trans (congrFun h.x68 _))
  · intro r q hq
    rw [e_t2_x75]
    exact (ov2_out _ _ _ _ r q (off11_0 k) (off11_1 k) (Or.inr (Or.inr (Or.inr (by omega))))).trans (h.x75' r q (by omega))

theorem l2_all : L2 V v45 v47 v54 v57 v59 v61 8 (iter (fun k W => (e_t2 W i v13 v45 v47 v54 v57 v59 v61 k).2) k0_t2_loop.trips V) := by
  have h := iter_ind (fun k W => (e_t2 W i v13 v45 v47 v54 v57 v59 v61 k).2) V (L2 V v45 v47 v54 v57 v59 v61) (l2_zero V v45 v47 v54 v57 v59 v61)
    (fun k W h => l2_succ V i v13 v45 v47 v54 v57 v59 v61 k W h) _ le_rfl
  exact Eq.mp (congrArg (fun n => L2 V v45 v47 v54 v57 v59 v61 n (iter (fun k W => (e_t2 W i v13 v45 v47 v54 v57 v59 v61 k).2) k0_t2_loop.trips V)) trips2) h

end

end Cert.Proof.KI

end
-- ==== Proof.KI.Ends.lean ====
module

public import proofs.«01_k».proof.Proof.KI.Loop

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! What the prologue and the epilogue of the kernel leave, read at an index over the extended reals. -/

/-- The input blocks are the same in both. -/
structure Ins (W V : St Ideal) : Prop where
  x1 : W.x1 = V.x1
  x2 : W.x2 = V.x2
  x3 : W.x3 = V.x3
  x4 : W.x4 = V.x4
  x5 : W.x5 = V.x5
  x6 : W.x6 = V.x6
  x7 : W.x7 = V.x7
  x8 : W.x8 = V.x8
  x9 : W.x9 = V.x9
  x10 : W.x10 = V.x10
  x11 : W.x11 = V.x11
  x12 : W.x12 = V.x12
  x13 : W.x13 = V.x13
  x14 : W.x14 = V.x14
  x15 : W.x15 = V.x15
  x16 : W.x16 = V.x16
  x17 : W.x17 = V.x17
  x18 : W.x18 = V.x18
  x19 : W.x19 = V.x19
  x20 : W.x20 = V.x20
  x21 : W.x21 = V.x21
  x22 : W.x22 = V.x22
  x23 : W.x23 = V.x23
  x24 : W.x24 = V.x24
  x25 : W.x25 = V.x25
  x26 : W.x26 = V.x26
  x27 : W.x27 = V.x27
  x28 : W.x28 = V.x28

theorem Ins.rfl' (V : St Ideal) : Ins V V := by constructor <;> rfl

theorem Ins.trans {U W V : St Ideal} (h : Ins U W) (h' : Ins W V) : Ins U V :=
  ⟨h.x1.trans h'.x1, h.x2.trans h'.x2, h.x3.trans h'.x3, h.x4.trans h'.x4, h.x5.trans h'.x5, h.x6.trans h'.x6, h.x7.trans h'.x7, h.x8.trans h'.x8, h.x9.trans h'.x9, h.x10.trans h'.x10, h.x11.trans h'.x11, h.x12.trans h'.x12, h.x13.trans h'.x13, h.x14.trans h'.x14, h.x15.trans h'.x15, h.x16.trans h'.x16, h.x17.trans h'.x17, h.x18.trans h'.x18, h.x19.trans h'.x19, h.x20.trans h'.x20, h.x21.trans h'.x21, h.x22.trans h'.x22, h.x23.trans h'.x23, h.x24.trans h'.x24, h.x25.trans h'.x25, h.x26.trans h'.x26, h.x27.trans h'.x27, h.x28.trans h'.x28⟩

theorem Keep.ins {W V : St Ideal} (h : Keep W V) : Ins W V :=
  ⟨h.x1, h.x2, h.x3, h.x4, h.x5, h.x6, h.x7, h.x8, h.x9, h.x10, h.x11, h.x12, h.x13, h.x14, h.x15, h.x16, h.x17, h.x18, h.x19, h.x20, h.x21, h.x22, h.x23, h.x24, h.x25, h.x26, h.x27, h.x28⟩

/-- The 512 columns from `o` on. -/
def chunk {a : ℕ} (X : (⟨2, ![a, 4096]⟩ : Shape).Idx → EReal) (o : ℕ) (h : o + 512 ≤ 4096) : (⟨2, ![a, 512]⟩ : Shape).Idx → EReal :=
  fun j => X (ix2 (j 0) ⟨o + (j 1).val, Nat.lt_of_lt_of_le (Nat.add_lt_add_left (show (j 1).val < 512 from (j 1).isLt) o) h⟩)

theorem chunk_at {a : ℕ} (X : (⟨2, ![a, 4096]⟩ : Shape).Idx → EReal) (o : ℕ) (h : o + 512 ≤ 4096) (r : Fin a) (c : Fin 512) :
    chunk X o h (ix2 r c) = X (ix2 r ⟨o + c.val, Nat.lt_of_lt_of_le (Nat.add_lt_add_left c.isLt o) h⟩) := rfl

theorem chunk_ok {a o : ℕ} (inb : ∀ d, (![0, o] : Fin 2 → ℕ) d + (![a, 512] : Fin 2 → ℕ) d ≤ (![a, 4096] : Fin 2 → ℕ) d) : o + 512 ≤ 4096 := inb 1

theorem chunk_eq {a : ℕ} (X : (⟨2, ![a, 4096]⟩ : Shape).Idx → EReal) (o : ℕ) (inb) :
    (fun j : (⟨2, ![a, 512]⟩ : Shape).Idx => X ((Rect.unit (s := ⟨2, ![a, 4096]⟩) ![0, o] ![a, 512] inb).toLoadRect.idx j)) = chunk X o (chunk_ok inb) := by
  funext j
  exact (congrArg (fun j => X ((Rect.unit (s := ⟨2, ![a, 4096]⟩) ![0, o] ![a, 512] inb).toLoadRect.idx j)) (eq_ix2 j)).trans
    (ld2' X _ inb _ _ (p := 0) (q := o) (j 0) ⟨o + (j 1).val, Nat.lt_of_lt_of_le (Nat.add_lt_add_left (show (j 1).val < 512 from (j 1).isLt) o) (inb 1)⟩
      rfl rfl (Nat.zero_add _) rfl)

theorem wld {α : Type} {a b : ℕ} (X : (⟨2, ![a, b]⟩ : Shape).Idx → α) (inb) :
    (fun j : (⟨2, ![a, b]⟩ : Shape).Idx => X ((Rect.unit (s := ⟨2, ![a, b]⟩) ![0, 0] ![a, b] inb).toLoadRect.idx j)) = X := by
  funext j
  rw [eq_ix2 j]
  exact ld2' X _ inb _ _ (p := 0) (q := 0) _ _ rfl rfl (Nat.zero_add _) (Nat.zero_add _)

theorem wov {α : Type} {a b : ℕ} (X G : (⟨2, ![a, b]⟩ : Shape).Idx → α) (inb) :
    (Rect.unit (s := ⟨2, ![a, b]⟩) ![0, 0] ![a, b] inb).overlay X G = G := by
  funext j
  rw [eq_ix2 j]
  exact ov2 X G _ inb _ _ (p := 0) (q := 0) _ _ rfl rfl (Nat.zero_add _) (Nat.zero_add _)

theorem sum8 (f : Fin 4096 → EReal) : ∑ k, f k = (∑ k : Fin 512, f ⟨0 + k.val, by omega⟩) + (∑ k : Fin 512, f ⟨512 + k.val, by omega⟩) + (∑ k : Fin 512, f ⟨1024 + k.val, by omega⟩) + (∑ k : Fin 512, f ⟨1536 + k.val, by omega⟩) + (∑ k : Fin 512, f ⟨2048 + k.val, by omega⟩) + (∑ k : Fin 512, f ⟨2560 + k.val, by omega⟩) + (∑ k : Fin 512, f ⟨3072 + k.val, by omega⟩) + (∑ k : Fin 512, f ⟨3584 + k.val, by omega⟩) := by
  rw [← rsum_full f]
  have h0 : rsum f 512 = rsum f 0 + ∑ k : Fin 512, f ⟨0 + k.val, by omega⟩ := rsum_add f 0 512 (by omega)
  have h1 : rsum f 1024 = rsum f 512 + ∑ k : Fin 512, f ⟨512 + k.val, by omega⟩ := rsum_add f 512 512 (by omega)
  have h2 : rsum f 1536 = rsum f 1024 + ∑ k : Fin 512, f ⟨1024 + k.val, by omega⟩ := rsum_add f 1024 512 (by omega)
  have h3 : rsum f 2048 = rsum f 1536 + ∑ k : Fin 512, f ⟨1536 + k.val, by omega⟩ := rsum_add f 1536 512 (by omega)
  have h4 : rsum f 2560 = rsum f 2048 + ∑ k : Fin 512, f ⟨2048 + k.val, by omega⟩ := rsum_add f 2048 512 (by omega)
  have h5 : rsum f 3072 = rsum f 2560 + ∑ k : Fin 512, f ⟨2560 + k.val, by omega⟩ := rsum_add f 2560 512 (by omega)
  have h6 : rsum f 3584 = rsum f 3072 + ∑ k : Fin 512, f ⟨3072 + k.val, by omega⟩ := rsum_add f 3072 512 (by omega)
  have h7 : rsum f 4096 = rsum f 3584 + ∑ k : Fin 512, f ⟨3584 + k.val, by omega⟩ := rsum_add f 3584 512 (by omega)
  rw [rsum_zero] at h0
  replace h0 := h0.trans (zero_add _)
  rw [h7, h6, h5, h4, h3, h2, h1, h0]

/-- One over the root of the mean square of row `r` of the activations. -/
def RR (V : St Ideal) (r : Fin 128) : EReal :=
  Ideal.div 1 (Ideal.sqrt (Ideal.div (∑ x, V.x1 (ix2 r x) * V.x1 (ix2 r x)) (Ideal.ofBits FTy.f32 1166016512#32) + Ideal.ofBits FTy.f32 925353388#32))

theorem pay6_at (V : St Ideal) (r : Fin 128) : k0_pay6 V.x1 (ix2 r 0) = RR V r := by
  unfold RR
  pointwise [k0_pay6]

theorem h1_x63 (V : St Ideal) (i : grid0.Coords) (r : Fin 128) (C : Fin 4096) : (e_h1 V i).x63 (ix2 r C) = V.x1 (ix2 r C) * RR V r * V.x3 (ix2 0 C) := by
  dsimp only [e_h1, e_part1, e_part2, e_part3, e_part4, e_part5, e_part6, e_part7, e_part8, e_part9, e_part10, St.s63, St.s64, St.s65, St.s74, St.s75]
  simp only [chunk_eq V.x1, chunk_eq V.x3, wld V.x1]
  by_cases h7 : 3584 ≤ C.val
  · refine (ov2 _ _ _ _ r (⟨C.val - 3584, by omega⟩ : Fin 512) r C (p := 0) (q := 3584) rfl rfl (by omega) (by simp only []; omega)).trans ?_
    have e : (⟨3584 + (C.val - 3584), by omega⟩ : Fin 4096) = C := Fin.ext (by simp only []; omega)
    pointwise [k0_pay9, k0_pay8, k0_pay22, k0_pay21, k0_pay34, k0_pay35, k0_pay36, k0_pay49, k0_pay50, k0_pay62, k0_pay63, k0_pay76, k0_pay77, k0_pay90, k0_pay91, k0_pay103, k0_pay104, k0_pay105]
    simp only [chunk_at, pay6_at, e, Nat.zero_add, Fin.eta]
  refine (ov2_out _ _ _ _ r C (p := 0) (q := 3584) rfl rfl (by omega)).trans ?_
  by_cases h6 : 3072 ≤ C.val
  · refine (ov2 _ _ _ _ r (⟨C.val - 3072, by omega⟩ : Fin 512) r C (p := 0) (q := 3072) rfl rfl (by omega) (by simp only []; omega)).trans ?_
    have e : (⟨3072 + (C.val - 3072), by omega⟩ : Fin 4096) = C := Fin.ext (by simp only []; omega)
    pointwise [k0_pay9, k0_pay8, k0_pay22, k0_pay21, k0_pay34, k0_pay35, k0_pay36, k0_pay49, k0_pay50, k0_pay62, k0_pay63, k0_pay76, k0_pay77, k0_pay90, k0_pay91, k0_pay103, k0_pay104, k0_pay105]
    simp only [chunk_at, pay6_at, e, Nat.zero_add, Fin.eta]
  refine (ov2_out _ _ _ _ r C (p := 0) (q := 3072) rfl rfl (by omega)).trans ?_
  by_cases h5 : 2560 ≤ C.val
  · refine (ov2 _ _ _ _ r (⟨C.val - 2560, by omega⟩ : Fin 512) r C (p := 0) (q := 2560) rfl rfl (by omega) (by simp only []; omega)).trans ?_
    have e : (⟨2560 + (C.val - 2560), by omega⟩ : Fin 4096) = C := Fin.ext (by simp only []; omega)
    pointwise [k0_pay9, k0_pay8, k0_pay22, k0_pay21, k0_pay34, k0_pay35, k0_pay36, k0_pay49, k0_pay50, k0_pay62, k0_pay63, k0_pay76, k0_pay77, k0_pay90, k0_pay91, k0_pay103, k0_pay104, k0_pay105]
    simp only [chunk_at, pay6_at, e, Nat.zero_add, Fin.eta]
  refine (ov2_out _ _ _ _ r C (p := 0) (q := 2560) rfl rfl (by omega)).trans ?_
  by_cases h4 : 2048 ≤ C.val
  · refine (ov2 _ _ _ _ r (⟨C.val - 2048, by omega⟩ : Fin 512) r C (p := 0) (q := 2048) rfl rfl (by omega) (by simp only []; omega)).trans ?_
    have e : (⟨2048 + (C.val - 2048), by omega⟩ : Fin 4096) = C := Fin.ext (by simp only []; omega)
    pointwise [k0_pay9, k0_pay8, k0_pay22, k0_pay21, k0_pay34, k0_pay35, k0_pay36, k0_pay49, k0_pay50, k0_pay62, k0_pay63, k0_pay76, k0_pay77, k0_pay90, k0_pay91, k0_pay103, k0_pay104, k0_pay105]
    simp only [chunk_at, pay6_at, e, Nat.zero_add, Fin.eta]
  refine (ov2_out _ _ _ _ r C (p := 0) (q := 2048) rfl rfl (by omega)).trans ?_
  by_cases h3 : 1536 ≤ C.val
  · refine (ov2 _ _ _ _ r (⟨C.val - 1536, by omega⟩ : Fin 512) r C (p := 0) (q := 1536) rfl rfl (by omega) (by simp only []; omega)).trans ?_
    have e : (⟨1536 + (C.val - 1536), by omega⟩ : Fin 4096) = C := Fin.ext (by simp only []; omega)
    pointwise [k0_pay9, k0_pay8, k0_pay22, k0_pay21, k0_pay34, k0_pay35, k0_pay36, k0_pay49, k0_pay50, k0_pay62, k0_pay63, k0_pay76, k0_pay77, k0_pay90, k0_pay91, k0_pay103, k0_pay104, k0_pay105]
    simp only [chunk_at, pay6_at, e, Nat.zero_add, Fin.eta]
  refine (ov2_out _ _ _ _ r C (p := 0) (q := 1536) rfl rfl (by omega)).trans ?_
  by_cases h2 : 1024 ≤ C.val
  · refine (ov2 _ _ _ _ r (⟨C.val - 1024, by omega⟩ : Fin 512) r C (p := 0) (q := 1024) rfl rfl (by omega) (by simp only []; omega)).trans ?_
    have e : (⟨1024 + (C.val - 1024), by omega⟩ : Fin 4096) = C := Fin.ext (by simp only []; omega)
    pointwise [k0_pay9, k0_pay8, k0_pay22, k0_pay21, k0_pay34, k0_pay35, k0_pay36, k0_pay49, k0_pay50, k0_pay62, k0_pay63, k0_pay76, k0_pay77, k0_pay90, k0_pay91, k0_pay103, k0_pay104, k0_pay105]
    simp only [chunk_at, pay6_at, e, Nat.zero_add, Fin.eta]
  refine (ov2_out _ _ _ _ r C (p := 0) (q := 1024) rfl rfl (by omega)).trans ?_
  by_cases h1 : 512 ≤ C.val
  · refine (ov2 _ _ _ _ r (⟨C.val - 512, by omega⟩ : Fin 512) r C (p := 0) (q := 512) rfl rfl (by omega) (by simp only []; omega)).trans ?_
    have e : (⟨512 + (C.val - 512), by omega⟩ : Fin 4096) = C := Fin.ext (by simp only []; omega)
    pointwise [k0_pay9, k0_pay8, k0_pay22, k0_pay21, k0_pay34, k0_pay35, k0_pay36, k0_pay49, k0_pay50, k0_pay62, k0_pay63, k0_pay76, k0_pay77, k0_pay90, k0_pay91, k0_pay103, k0_pay104, k0_pay105]
    simp only [chunk_at, pay6_at, e, Nat.zero_add, Fin.eta]
  refine (ov2_out _ _ _ _ r C (p := 0) (q := 512) rfl rfl (by omega)).trans ?_
  · refine (ov2 _ _ _ _ r (⟨C.val - 0, by omega⟩ : Fin 512) r C (p := 0) (q := 0) rfl rfl (by omega) (by simp only []; omega)).trans ?_
    have e : (⟨0 + (C.val - 0), by omega⟩ : Fin 4096) = C := Fin.ext (by simp only []; omega)
    pointwise [k0_pay9, k0_pay8, k0_pay22, k0_pay21, k0_pay34, k0_pay35, k0_pay36, k0_pay49, k0_pay50, k0_pay62, k0_pay63, k0_pay76, k0_pay77, k0_pay90, k0_pay91, k0_pay103, k0_pay104, k0_pay105]
    simp only [chunk_at, pay6_at, e, Nat.zero_add, Fin.eta]

theorem h1_x74 (V : St Ideal) (i : grid0.Coords) (r : Fin 128) (C : Fin 4096) : (e_h1 V i).x74 (ix2 r C) = 0 := by
  dsimp only [e_h1, e_part1, e_part2, e_part3, e_part4, e_part5, e_part6, e_part7, e_part8, e_part9, e_part10, St.s63, St.s64, St.s65, St.s74, St.s75]
  by_cases h7 : 3584 ≤ C.val
  · refine (ov2 _ _ _ _ r (⟨C.val - 3584, by omega⟩ : Fin 512) r C (p := 0) (q := 3584) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 3584) rfl rfl (by omega)).trans ?_
  by_cases h6 : 3072 ≤ C.val
  · refine (ov2 _ _ _ _ r (⟨C.val - 3072, by omega⟩ : Fin 512) r C (p := 0) (q := 3072) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 3072) rfl rfl (by omega)).trans ?_
  by_cases h5 : 2560 ≤ C.val
  · refine (ov2 _ _ _ _ r (⟨C.val - 2560, by omega⟩ : Fin 512) r C (p := 0) (q := 2560) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 2560) rfl rfl (by omega)).trans ?_
  by_cases h4 : 2048 ≤ C.val
  · refine (ov2 _ _ _ _ r (⟨C.val - 2048, by omega⟩ : Fin 512) r C (p := 0) (q := 2048) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 2048) rfl rfl (by omega)).trans ?_
  by_cases h3 : 1536 ≤ C.val
  · refine (ov2 _ _ _ _ r (⟨C.val - 1536, by omega⟩ : Fin 512) r C (p := 0) (q := 1536) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 1536) rfl rfl (by omega)).trans ?_
  by_cases h2 : 1024 ≤ C.val
  · refine (ov2 _ _ _ _ r (⟨C.val - 1024, by omega⟩ : Fin 512) r C (p := 0) (q := 1024) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 1024) rfl rfl (by omega)).trans ?_
  by_cases h1 : 512 ≤ C.val
  · refine (ov2 _ _ _ _ r (⟨C.val - 512, by omega⟩ : Fin 512) r C (p := 0) (q := 512) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 512) rfl rfl (by omega)).trans ?_
  · refine (ov2 _ _ _ _ r (⟨C.val - 0, by omega⟩ : Fin 512) r C (p := 0) (q := 0) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]

theorem h1_x75 (V : St Ideal) (i : grid0.Coords) (r : Fin 128) (C : Fin 4096) : (e_h1 V i).x75 (ix2 r C) = 0 := by
  dsimp only [e_h1, e_part1, e_part2, e_part3, e_part4, e_part5, e_part6, e_part7, e_part8, e_part9, e_part10, St.s63, St.s64, St.s65, St.s74, St.s75]
  by_cases h7 : 3584 ≤ C.val
  · refine (ov2 _ _ _ _ r (⟨C.val - 3584, by omega⟩ : Fin 512) r C (p := 0) (q := 3584) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 3584) rfl rfl (by omega)).trans ?_
  by_cases h6 : 3072 ≤ C.val
  · refine (ov2 _ _ _ _ r (⟨C.val - 3072, by omega⟩ : Fin 512) r C (p := 0) (q := 3072) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 3072) rfl rfl (by omega)).trans ?_
  by_cases h5 : 2560 ≤ C.val
  · refine (ov2 _ _ _ _ r (⟨C.val - 2560, by omega⟩ : Fin 512) r C (p := 0) (q := 2560) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 2560) rfl rfl (by omega)).trans ?_
  by_cases h4 : 2048 ≤ C.val
  · refine (ov2 _ _ _ _ r (⟨C.val - 2048, by omega⟩ : Fin 512) r C (p := 0) (q := 2048) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 2048) rfl rfl (by omega)).trans ?_
  by_cases h3 : 1536 ≤ C.val
  · refine (ov2 _ _ _ _ r (⟨C.val - 1536, by omega⟩ : Fin 512) r C (p := 0) (q := 1536) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 1536) rfl rfl (by omega)).trans ?_
  by_cases h2 : 1024 ≤ C.val
  · refine (ov2 _ _ _ _ r (⟨C.val - 1024, by omega⟩ : Fin 512) r C (p := 0) (q := 1024) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 1024) rfl rfl (by omega)).trans ?_
  by_cases h1 : 512 ≤ C.val
  · refine (ov2 _ _ _ _ r (⟨C.val - 512, by omega⟩ : Fin 512) r C (p := 0) (q := 512) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]
  refine (ov2_out _ _ _ _ r C (p := 0) (q := 512) rfl rfl (by omega)).trans ?_
  · refine (ov2 _ _ _ _ r (⟨C.val - 0, by omega⟩ : Fin 512) r C (p := 0) (q := 0) rfl rfl (by omega) (by simp only []; omega)).trans ?_
    pointwise [k0_pay19, k0_pay20, k0_pay32, k0_pay33, k0_pay46, k0_pay47, k0_pay48, k0_pay60, k0_pay61, k0_pay74, k0_pay75, k0_pay88, k0_pay89, k0_pay101, k0_pay102, k0_pay115, k0_pay247]

theorem h1_x65 (V : St Ideal) (i : grid0.Coords) (r : Fin 128) : (e_h1 V i).x65 (ix2 r 0) = RR V r := by
  dsimp only [e_h1, e_part1, e_part2, e_part3, e_part4, e_part5, e_part6, e_part7, e_part8, e_part9, e_part10, St.s63, St.s64, St.s65, St.s74, St.s75]
  simp only [wld V.x1]
  rw [wov, ← pay6_at]
  pointwise [k0_pay7]

theorem h1_ins (V : St Ideal) (i : grid0.Coords) : Ins (e_h1 V i) V := by
  obtain ⟨W, hW⟩ : ∃ W, W = e_h1 V i := ⟨_, rfl⟩
  rw [← hW]
  dsimp only [e_h1, e_part1, e_part2, e_part3, e_part4, e_part5, e_part6, e_part7, e_part8, e_part9, e_part10, St.s63, St.s64, St.s65, St.s74, St.s75] at hW
  subst hW
  constructor <;> rfl

theorem h3_x29 (V : St Ideal) (i : grid0.Coords) (r : Fin 128) (C : Fin 4096) : (e_h3 V i).x29 (ix2 r C) = V.x1 (ix2 r C) + V.x75 (ix2 r C) := by
  dsimp only [e_h3, e_part27, e_part28, e_part29, e_part30, e_part31, e_part32, e_part33, e_part34, St.s29, St.s30, St.s31]
  simp only [chunk_eq V.x1, chunk_eq V.x75]
  by_cases h7 : 3584 ≤ C.val
  · refine (ov2 _ _ _ _ r (⟨C.val - 3584, by omega⟩ : Fin 512) r C (p := 0) (q := 3584) rfl rfl (by omega) (by simp only []; omega)).trans ?_
    have e : (⟨3584 + (C.val - 3584), by omega⟩ : Fin 4096) = C := Fin.ext (by simp only []; omega)
    pointwise [k0_pay212, k0_pay213, k0_pay215, k0_pay216, k0_pay218, k0_pay219, k0_pay220, k0_pay221, k0_pay223, k0_pay224, k0_pay225, k0_pay226, k0_pay228, k0_pay229, k0_pay230, k0_pay231]
    simp only [chunk_at, e, Nat.zero_add, Fin.eta]
  refine (ov2_out _ _ _ _ r C (p := 0) (q := 3584) rfl rfl (by omega)).trans ?_
  by_cases h6 : 3072 ≤ C.val
  · refine (ov2 _ _ _ _ r (⟨C.val - 3072, by omega⟩ : Fin 512) r C (p := 0) (q := 3072) rfl rfl (by omega) (by simp only []; omega)).trans ?_
    have e : (⟨3072 + (C.val - 3072), by omega⟩ : Fin 4096) = C := Fin.ext (by simp only []; omega)
    pointwise [k0_pay212, k0_pay213, k0_pay215, k0_pay216, k0_pay218, k0_pay219, k0_pay220, k0_pay221, k0_pay223, k0_pay224, k0_pay225, k0_pay226, k0_pay228, k0_pay229, k0_pay230, k0_pay231]
    simp only [chunk_at, e, Nat.zero_add, Fin.eta]
  refine (ov2_out _ _ _ _ r C (p := 0) (q := 3072) rfl rfl (by omega)).trans ?_
  by_cases h5 : 2560 ≤ C.val
  · refine (ov2 _ _ _ _ r (⟨C.val - 2560, by omega⟩ : Fin 512) r C (p := 0) (q := 2560) rfl rfl (by omega) (by simp only []; omega)).trans ?_
    have e : (⟨2560 + (C.val - 2560), by omega⟩ : Fin 4096) = C := Fin.ext (by simp only []; omega)
    pointwise [k0_pay212, k0_pay213, k0_pay215, k0_pay216, k0_pay218, k0_pay219, k0_pay220, k0_pay221, k0_pay223, k0_pay224, k0_pay225, k0_pay226, k0_pay228, k0_pay229, k0_pay230, k0_pay231]
    simp only [chunk_at, e, Nat.zero_add, Fin.eta]
  refine (ov2_out _ _ _ _ r C (p := 0) (q := 2560) rfl rfl (by omega)).trans ?_
  by_cases h4 : 2048 ≤ C.val
  · refine (ov2 _ _ _ _ r (⟨C.val - 2048, by omega⟩ : Fin 512) r C (p := 0) (q := 2048) rfl rfl (by omega) (by simp only []; omega)).trans ?_
    have e : (⟨2048 + (C.val - 2048), by omega⟩ : Fin 4096) = C := Fin.ext (by simp only []; omega)
    pointwise [k0_pay212, k0_pay213, k0_pay215, k0_pay216, k0_pay218, k0_pay219, k0_pay220, k0_pay221, k0_pay223, k0_pay224, k0_pay225, k0_pay226, k0_pay228, k0_pay229, k0_pay230, k0_pay231]
    simp only [chunk_at, e, Nat.zero_add, Fin.eta]
  refine (ov2_out _ _ _ _ r C (p := 0) (q := 2048) rfl rfl (by omega)).trans ?_
  by_cases h3 : 1536 ≤ C.val
  · refine (ov2 _ _ _ _ r (⟨C.val - 1536, by omega⟩ : Fin 512) r C (p := 0) (q := 1536) rfl rfl (by omega) (by simp only []; omega)).trans ?_
    have e : (⟨1536 + (C.val - 1536), by omega⟩ : Fin 4096) = C := Fin.ext (by simp only []; omega)
    pointwise [k0_pay212, k0_pay213, k0_pay215, k0_pay216, k0_pay218, k0_pay219, k0_pay220, k0_pay221, k0_pay223, k0_pay224, k0_pay225, k0_pay226, k0_pay228, k0_pay229, k0_pay230, k0_pay231]
    simp only [chunk_at, e, Nat.zero_add, Fin.eta]
  refine (ov2_out _ _ _ _ r C (p := 0) (q := 1536) rfl rfl (by omega)).trans ?_
  by_cases h2 : 1024 ≤ C.val
  · refine (ov2 _ _ _ _ r (⟨C.val - 1024, by omega⟩ : Fin 512) r C (p := 0) (q := 1024) rfl rfl (by omega) (by simp only []; omega)).trans ?_
    have e : (⟨1024 + (C.val - 1024), by omega⟩ : Fin 4096) = C := Fin.ext (by simp only []; omega)
    pointwise [k0_pay212, k0_pay213, k0_pay215, k0_pay216, k0_pay218, k0_pay219, k0_pay220, k0_pay221, k0_pay223, k0_pay224, k0_pay225, k0_pay226, k0_pay228, k0_pay229, k0_pay230, k0_pay231]
    simp only [chunk_at, e, Nat.zero_add, Fin.eta]
  refine (ov2_out _ _ _ _ r C (p := 0) (q := 1024) rfl rfl (by omega)).trans ?_
  by_cases h1 : 512 ≤ C.val
  · refine (ov2 _ _ _ _ r (⟨C.val - 512, by omega⟩ : Fin 512) r C (p := 0) (q := 512) rfl rfl (by omega) (by simp only []; omega)).trans ?_
    have e : (⟨512 + (C.val - 512), by omega⟩ : Fin 4096) = C := Fin.ext (by simp only []; omega)
    pointwise [k0_pay212, k0_pay213, k0_pay215, k0_pay216, k0_pay218, k0_pay219, k0_pay220, k0_pay221, k0_pay223, k0_pay224, k0_pay225, k0_pay226, k0_pay228, k0_pay229, k0_pay230, k0_pay231]
    simp only [chunk_at, e, Nat.zero_add, Fin.eta]
  refine (ov2_out _ _ _ _ r C (p := 0) (q := 512) rfl rfl (by omega)).trans ?_
  · refine (ov2 _ _ _ _ r (⟨C.val - 0, by omega⟩ : Fin 512) r C (p := 0) (q := 0) rfl rfl (by omega) (by simp only []; omega)).trans ?_
    have e : (⟨0 + (C.val - 0), by omega⟩ : Fin 4096) = C := Fin.ext (by simp only []; omega)
    pointwise [k0_pay212, k0_pay213, k0_pay215, k0_pay216, k0_pay218, k0_pay219, k0_pay220, k0_pay221, k0_pay223, k0_pay224, k0_pay225, k0_pay226, k0_pay228, k0_pay229, k0_pay230, k0_pay231]
    simp only [chunk_at, e, Nat.zero_add, Fin.eta]

/-- The mean of `da · nw · x` over row `r`, times the row's factor. -/
def CC (V : St Ideal) (r : Fin 128) : EReal :=
  V.x65 (ix2 r 0) * Ideal.div (∑ k : Fin 4096, V.x74 (ix2 r k) * V.x3 (ix2 0 k) * V.x1 (ix2 r k)) (Ideal.ofBits FTy.f32 1166016512#32)

theorem c_at (V : St Ideal) (r : Fin 128) :
    k0_pay232 V.x65 (k0_pay227 (k0_pay222 (k0_pay214 (chunk V.x1 0 (by omega)) (chunk V.x74 0 (by omega)) (chunk V.x3 0 (by omega)))
      (k0_pay217 (chunk V.x1 512 (by omega)) (chunk V.x74 512 (by omega)) (chunk V.x3 512 (by omega)))
      (chunk V.x1 1024 (by omega)) (chunk V.x74 1024 (by omega)) (chunk V.x3 1024 (by omega))
      (chunk V.x1 1536 (by omega)) (chunk V.x74 1536 (by omega)) (chunk V.x3 1536 (by omega)))
      (chunk V.x1 2048 (by omega)) (chunk V.x74 2048 (by omega)) (chunk V.x3 2048 (by omega))
      (chunk V.x1 2560 (by omega)) (chunk V.x74 2560 (by omega)) (chunk V.x3 2560 (by omega)))
      (k0_pay228 (chunk V.x1 3072 (by omega))) (chunk V.x74 3072 (by omega)) (chunk V.x3 3072 (by omega))
      (chunk V.x1 3584 (by omega)) (chunk V.x74 3584 (by omega)) (chunk V.x3 3584 (by omega)) (ix2 r 0) = CC V r := by
  unfold CC
  rw [sum8]
  pointwise [k0_pay212, k0_pay214, k0_pay215, k0_pay217, k0_pay218, k0_pay220, k0_pay222, k0_pay223, k0_pay225, k0_pay227, k0_pay228, k0_pay230, k0_pay232]
  simp only [chunk_at, Nat.zero_add]

theorem h3_x31 (V : St Ideal) (i : grid0.Coords) (r : Fin 128) : (e_h3 V i).x31 (ix2 r 0) = CC V r := by
  dsimp only [e_h3, e_part27, e_part28, e_part29, e_part30, e_part31, e_part32, e_part33, e_part34, St.s29, St.s30, St.s31]
  simp only [chunk_eq V.x1, chunk_eq V.x74, chunk_eq V.x3, wld V.x65]
  rw [wov]
  exact c_at V r

theorem h3_x30 (V : St Ideal) (i : grid0.Coords) (r : Fin 128) (C : Fin 4096) : (e_h3 V i).x30 (ix2 r C) = V.x2 (ix2 r C) + V.x65 (ix2 r 0) * (V.x74 (ix2 r C) * V.x3 (ix2 0 C) - V.x1 (ix2 r C) * V.x65 (ix2 r 0) * CC V r) := by
  dsimp only [e_h3, e_part27, e_part28, e_part29, e_part30, e_part31, e_part32, e_part33, e_part34, St.s29, St.s30, St.s31]
  simp only [chunk_eq V.x1, chunk_eq V.x2, chunk_eq V.x3, chunk_eq V.x74, wld V.x65]
  by_cases h7 : 3584 ≤ C.val
  · refine (ov2 _ _ _ _ r (⟨C.val - 3584, by omega⟩ : Fin 512) r C (p := 0) (q := 3584) rfl rfl (by omega) (by simp only []; omega)).trans ?_
    have e : (⟨3584 + (C.val - 3584), by omega⟩ : Fin 4096) = C := Fin.ext (by simp only []; omega)
    rw [← c_at]
    pointwise [k0_pay5, k0_pay233, k0_pay234, k0_pay235, k0_pay236, k0_pay237, k0_pay238, k0_pay239, k0_pay240, k0_pay241, k0_pay242, k0_pay243, k0_pay244, k0_pay245, k0_pay246, k0_pay247]
    simp only [chunk_at, e, Nat.zero_add, Fin.eta]
  refine (ov2_out _ _ _ _ r C (p := 0) (q := 3584) rfl rfl (by omega)).trans ?_
  by_cases h6 : 3072 ≤ C.val
  · refine (ov2 _ _ _ _ r (⟨C.val - 3072, by omega⟩ : Fin 512) r C (p := 0) (q := 3072) rfl rfl (by omega) (by simp only []; omega)).trans ?_
    have e : (⟨3072 + (C.val - 3072), by omega⟩ : Fin 4096) = C := Fin.ext (by simp only []; omega)
    rw [← c_at]
    pointwise [k0_pay5, k0_pay233, k0_pay234, k0_pay235, k0_pay236, k0_pay237, k0_pay238, k0_pay239, k0_pay240, k0_pay241, k0_pay242, k0_pay243, k0_pay244, k0_pay245, k0_pay246, k0_pay247]
    simp only [chunk_at, e, Nat.zero_add, Fin.eta]
  refine (ov2_out _ _ _ _ r C (p := 0) (q := 3072) rfl rfl (by omega)).trans ?_
  by_cases h5 : 2560 ≤ C.val
  · refine (ov2 _ _ _ _ r (⟨C.val - 2560, by omega⟩ : Fin 512) r C (p := 0) (q := 2560) rfl rfl (by omega) (by simp only []; omega)).trans ?_
    have e : (⟨2560 + (C.val - 2560), by omega⟩ : Fin 4096) = C := Fin.ext (by simp only []; omega)
    rw [← c_at]
    pointwise [k0_pay5, k0_pay233, k0_pay234, k0_pay235, k0_pay236, k0_pay237, k0_pay238, k0_pay239, k0_pay240, k0_pay241, k0_pay242, k0_pay243, k0_pay244, k0_pay245, k0_pay246, k0_pay247]
    simp only [chunk_at, e, Nat.zero_add, Fin.eta]
  refine (ov2_out _ _ _ _ r C (p := 0) (q := 2560) rfl rfl (by omega)).trans ?_
  by_cases h4 : 2048 ≤ C.val
  · refine (ov2 _ _ _ _ r (⟨C.val - 2048, by omega⟩ : Fin 512) r C (p := 0) (q := 2048) rfl rfl (by omega) (by simp only []; omega)).trans ?_
    have e : (⟨2048 + (C.val - 2048), by omega⟩ : Fin 4096) = C := Fin.ext (by simp only []; omega)
    rw [← c_at]
    pointwise [k0_pay5, k0_pay233, k0_pay234, k0_pay235, k0_pay236, k0_pay237, k0_pay238, k0_pay239, k0_pay240, k0_pay241, k0_pay242, k0_pay243, k0_pay244, k0_pay245, k0_pay246, k0_pay247]
    simp only [chunk_at, e, Nat.zero_add, Fin.eta]
  refine (ov2_out _ _ _ _ r C (p := 0) (q := 2048) rfl rfl (by omega)).trans ?_
  by_cases h3 : 1536 ≤ C.val
  · refine (ov2 _ _ _ _ r (⟨C.val - 1536, by omega⟩ : Fin 512) r C (p := 0) (q := 1536) rfl rfl (by omega) (by simp only []; omega)).trans ?_
    have e : (⟨1536 + (C.val - 1536), by omega⟩ : Fin 4096) = C := Fin.ext (by simp only []; omega)
    rw [← c_at]
    pointwise [k0_pay5, k0_pay233, k0_pay234, k0_pay235, k0_pay236, k0_pay237, k0_pay238, k0_pay239, k0_pay240, k0_pay241, k0_pay242, k0_pay243, k0_pay244, k0_pay245, k0_pay246, k0_pay247]
    simp only [chunk_at, e, Nat.zero_add, Fin.eta]
  refine (ov2_out _ _ _ _ r C (p := 0) (q := 1536) rfl rfl (by omega)).trans ?_
  by_cases h2 : 1024 ≤ C.val
  · refine (ov2 _ _ _ _ r (⟨C.val - 1024, by omega⟩ : Fin 512) r C (p := 0) (q := 1024) rfl rfl (by omega) (by simp only []; omega)).trans ?_
    have e : (⟨1024 + (C.val - 1024), by omega⟩ : Fin 4096) = C := Fin.ext (by simp only []; omega)
    rw [← c_at]
    pointwise [k0_pay5, k0_pay233, k0_pay234, k0_pay235, k0_pay236, k0_pay237, k0_pay238, k0_pay239, k0_pay240, k0_pay241, k0_pay242, k0_pay243, k0_pay244, k0_pay245, k0_pay246, k0_pay247]
    simp only [chunk_at, e, Nat.zero_add, Fin.eta]
  refine (ov2_out _ _ _ _ r C (p := 0) (q := 1024) rfl rfl (by omega)).trans ?_
  by_cases h1 : 512 ≤ C.val
  · refine (ov2 _ _ _ _ r (⟨C.val - 512, by omega⟩ : Fin 512) r C (p := 0) (q := 512) rfl rfl (by omega) (by simp only []; omega)).trans ?_
    have e : (⟨512 + (C.val - 512), by omega⟩ : Fin 4096) = C := Fin.ext (by simp only []; omega)
    rw [← c_at]
    pointwise [k0_pay5, k0_pay233, k0_pay234, k0_pay235, k0_pay236, k0_pay237, k0_pay238, k0_pay239, k0_pay240, k0_pay241, k0_pay242, k0_pay243, k0_pay244, k0_pay245, k0_pay246, k0_pay247]
    simp only [chunk_at, e, Nat.zero_add, Fin.eta]
  refine (ov2_out _ _ _ _ r C (p := 0) (q := 512) rfl rfl (by omega)).trans ?_
  · refine (ov2 _ _ _ _ r (⟨C.val - 0, by omega⟩ : Fin 512) r C (p := 0) (q := 0) rfl rfl (by omega) (by simp only []; omega)).trans ?_
    have e : (⟨0 + (C.val - 0), by omega⟩ : Fin 4096) = C := Fin.ext (by simp only []; omega)
    rw [← c_at]
    pointwise [k0_pay5, k0_pay233, k0_pay234, k0_pay235, k0_pay236, k0_pay237, k0_pay238, k0_pay239, k0_pay240, k0_pay241, k0_pay242, k0_pay243, k0_pay244, k0_pay245, k0_pay246, k0_pay247]
    simp only [chunk_at, e, Nat.zero_add, Fin.eta]

theorem h3_ins (V : St Ideal) (i : grid0.Coords) : Ins (e_h3 V i) V ∧ (e_h3 V i).x32 = V.x32 ∧ (e_h3 V i).x63 = V.x63 ∧ (e_h3 V i).x65 = V.x65
    ∧ (e_h3 V i).x74 = V.x74 ∧ (e_h3 V i).x75 = V.x75 := by
  obtain ⟨W, hW⟩ : ∃ W, W = e_h3 V i := ⟨_, rfl⟩
  rw [← hW]
  dsimp only [e_h3, e_part27, e_part28, e_part29, e_part30, e_part31, e_part32, e_part33, e_part34, St.s29, St.s30, St.s31] at hW
  subst hW
  exact ⟨by constructor <;> rfl, rfl, rfl, rfl, rfl, rfl⟩

theorem h2_ins (V : St Ideal) (i : grid0.Coords) : Ins (e_h2 V i) V ∧ (e_h2 V i).x32 = V.x32 ∧ (e_h2 V i).x63 = V.x63 ∧ (e_h2 V i).x65 = V.x65
    ∧ (e_h2 V i).x74 = V.x74 ∧ (e_h2 V i).x75 = V.x75 := by
  obtain ⟨W, hW⟩ : ∃ W, W = e_h2 V i := ⟨_, rfl⟩
  rw [← hW]
  dsimp only [e_h2, e_part25, e_part26, St.s53, St.s54, St.s55, St.s56, St.s57, St.s58, St.s59, St.s60, St.s61, St.s62] at hW
  subst hW
  exact ⟨by constructor <;> rfl, rfl, rfl, rfl, rfl, rfl⟩

end Cert.Proof.KI

end
-- ==== Proof.KI.Point.lean ====
module

public import proofs.«01_k».proof.Proof.KI.Ends

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! What one grid point leaves in the blocks, read at an index over the extended reals. -/

/-- The logistic function. -/
def SG (g : EReal) : EReal := Ideal.div 1 (1 + Ideal.exp (0 - g))
/-- One entry of the hidden activations. -/
def hbF (g u : EReal) : EReal := g * SG g * u
/-- One entry of the gradient at the gate. -/
def dgF (g u d : EReal) : EReal := d * u * SG g * (1 + g * (1 - SG g))
/-- One entry of the gradient at the up projection. -/
def duF (g d : EReal) : EReal := d * g * SG g

theorem par_eq : ∀ n : Fin 43, Scalar.cmpi .eq (Scalar.remsi (BitVec.ofNat 32 n.val) 2#32) 0#32 = if n.val % 2 = 0 then 1#1 else 0#1 := by decide +kernel

theorem sel_par (i : grid0.Coords) (z s : EReal) :
    Scalar.select (Scalar.cmpi CmpIPredicate.eq (Scalar.remsi (BitVec.ofNat 32 (i 0).val) 2#32) 0#32) z s = if (i 0).val % 2 = 0 then z else s := by
  have h := par_eq ⟨(i 0).val, (i 0).isLt⟩
  simp only [] at h
  rw [h]
  split_ifs <;> rfl

/-- The gate weight at model column `k` and unit `n` of the point's block. -/
def GW (V : St Ideal) (k : Fin 4096) (n : Fin 256) : EReal :=
  V.x12 (ix2 ⟨k.val / 64, by omega⟩ n) * (code (V.x8 (ix2 n ⟨k.val / 16, by omega⟩)) (k.val % 16) - V.x11 (ix2 ⟨k.val / 64, by omega⟩ n))
/-- The up weight at model column `k` and unit `n` of the point's block. -/
def UW (V : St Ideal) (k : Fin 4096) (n : Fin 256) : EReal :=
  V.x18 (ix2 ⟨k.val / 64, by omega⟩ n) * (code (V.x9 (ix2 n ⟨k.val / 16, by omega⟩)) (k.val % 16) - V.x17 (ix2 ⟨k.val / 64, by omega⟩ n))
/-- The down weight at unit `n` of the point's block and model column `k`. -/
def DW (V : St Ideal) (i : grid0.Coords) (n : Fin 256) (k : Fin 4096) : EReal :=
  V.x24 (ix2 ⟨4 * ((i 0).val % 2) + n.val / 64, by omega⟩ k)
    * (code (V.x10 (ix2 ⟨n.val / 16, by omega⟩ k)) (n.val % 16) - V.x23 (ix2 ⟨4 * ((i 0).val % 2) + n.val / 64, by omega⟩ k))

/-- The gate projection of the point's block, from the normalised activations in `B`. -/
def GG (B V : St Ideal) (r : Fin 128) (n : Fin 256) : EReal := ∑ k : Fin 4096, B.x63 (ix2 r k) * GW V k n
/-- The up projection of the point's block. -/
def UU (B V : St Ideal) (r : Fin 128) (n : Fin 256) : EReal := ∑ k : Fin 4096, B.x63 (ix2 r k) * UW V k n
/-- The gradient at the hidden activations of the point's block. -/
def DH (V : St Ideal) (i : grid0.Coords) (r : Fin 128) (n : Fin 256) : EReal := ∑ k : Fin 4096, V.x2 (ix2 r k) * DW V i n k

theorem tail_x72 (V : St Ideal) (i : grid0.Coords) (r c : Fin 256) : (e_part35_tail V i).2.x72 (ix2 r c) = V.x8 (ix2 c r) := by
  dsimp only [e_part35_tail, St.s72, St.s73, St.s80]
  simp only [wld V.x8]
  rw [wov, tr248]

theorem tail_x73 (V : St Ideal) (i : grid0.Coords) (r c : Fin 256) : (e_part35_tail V i).2.x73 (ix2 r c) = V.x9 (ix2 c r) := by
  dsimp only [e_part35_tail, St.s72, St.s73, St.s80]
  simp only [wld V.x9]
  rw [wov, tr249]

theorem half_at (V : (⟨2, ![8, 4096]⟩ : Shape).Idx → EReal) (i : grid0.Coords) (inb inb') (r : Fin 4) (k : Fin 4096) :
    k0_pay250 (F := Ideal) i (fun j => V ((Rect.unit (s := ⟨2, ![8, 4096]⟩) ![0, 0] ![4, 4096] inb).toLoadRect.idx j))
      (fun j => V ((Rect.unit (s := ⟨2, ![8, 4096]⟩) ![4, 0] ![4, 4096] inb').toLoadRect.idx j)) (ix2 r k)
      = V (ix2 ⟨4 * ((i 0).val % 2) + r.val, by omega⟩ k) := by
  pointwise [k0_pay250]
  rw [sel_par]
  split_ifs with h
  · exact congrArg (fun a : Fin 8 => V (ix2 a k)) (Fin.ext (by simp only [h]; omega))
  · have h1 : (i 0).val % 2 = 1 := by omega
    exact congrArg (fun a : Fin 8 => V (ix2 a k)) (Fin.ext (by simp only [h1]))

theorem tail_x80 (V : St Ideal) (i : grid0.Coords) (r : Fin 4) (k : Fin 4096) :
    (e_part35_tail V i).2.x80 (ix2 r k) = V.x23 (ix2 ⟨4 * ((i 0).val % 2) + r.val, by omega⟩ k) := by
  dsimp only [e_part35_tail, St.s72, St.s73, St.s80]
  rw [wov]
  exact half_at V.x23 i inb_S8x4096_S4x4096_0_0 inb_S8x4096_S4x4096_4_0 r k

theorem tail_v28 (V : St Ideal) (i : grid0.Coords) (r : Fin 4) (k : Fin 4096) :
    (e_part35_tail V i).1.2.2.1 (ix2 r k) = V.x24 (ix2 ⟨4 * ((i 0).val % 2) + r.val, by omega⟩ k) := by
  dsimp only [e_part35_tail, St.s72, St.s73, St.s80]
  refine Eq.trans ?_ (half_at V.x24 i inb_S8x4096_S4x4096_0_0 inb_S8x4096_S4x4096_4_0 r k)
  pointwise [k0_pay250, k0_pay251]

theorem tail_ins (V : St Ideal) (i : grid0.Coords) : Ins (e_part35_tail V i).2 V ∧ (e_part35_tail V i).2.x63 = V.x63
    ∧ (e_part35_tail V i).2.x65 = V.x65 ∧ (e_part35_tail V i).2.x74 = V.x74 ∧ (e_part35_tail V i).2.x75 = V.x75 := by
  obtain ⟨W, hW⟩ : ∃ W, W = (e_part35_tail V i).2 := ⟨_, rfl⟩
  rw [← hW]
  dsimp only [e_part35_tail, St.s72, St.s73, St.s80] at hW
  subst hW
  exact ⟨by constructor <;> rfl, rfl, rfl, rfl, rfl⟩

/-- The state the first counted loop starts from. -/
structure Mid (V : St Ideal) (v28 : FVec Ideal S4x4096 .f32) (W : St Ideal) : Prop where
  ins : Ins W V
  x63 : W.x63 = V.x63
  x65 : W.x65 = V.x65
  x72 : W.x72 = V.x72
  x73 : W.x73 = V.x73
  x74 : W.x74 = V.x74
  x75 : W.x75 = V.x75
  x80 : W.x80 = V.x80
  x81 : W.x81 = v28
  x76 : ∀ r c, W.x76 (ix2 r c) = 0
  x77 : ∀ r c, W.x77 (ix2 r c) = 0
  x78 : ∀ r c, W.x78 (ix2 r c) = 0

theorem part36_mid (V : St Ideal) (i : grid0.Coords) (v28 : FVec Ideal S4x4096 .f32) (v29 : Vec Ideal S4x4096 .f32) :
    ∃ W, Mid V v28 W ∧ (e_part36 V i v28 v29).2 = iter (fun k W => (e_t1 W i v28 v29 k).2) k0_t1_loop.trips W := by
  dsimp only [e_part36]
  refine ⟨_, ?_, rfl⟩
  dsimp only [e_part36, St.s76, St.s77, St.s78, St.s81]
  refine ⟨by constructor <;> rfl, rfl, rfl, rfl, rfl, rfl, rfl, rfl, ?_, ?_, ?_, ?_⟩
  · dsimp only
    rw [wov, self252]
  · intro r c
    dsimp only
    rw [wov, zero253]
  · intro r c
    dsimp only
    rw [wov, zero254]
  · intro r c
    dsimp only
    rw [wov, zero255]

theorem part36_vals (V : St Ideal) (i : grid0.Coords) (v28 : FVec Ideal S4x4096 .f32) (v29 : Vec Ideal S4x4096 .f32) :
    (e_part36 V i v28 v29).1 = ⟨(e_part36 V i v28 v29).2.x76, (e_part36 V i v28 v29).2.x78, k0_pay260 (e_part36 V i v28 v29).2.x76,
      k0_pay261 (e_part36 V i v28 v29).2.x76 (e_part36 V i v28 v29).2.x77,
      k0_pay262 (e_part36 V i v28 v29).2.x76 (e_part36 V i v28 v29).2.x77 (e_part36 V i v28 v29).2.x78,
      k0_pay263 (e_part36 V i v28 v29).2.x76⟩ := by
  dsimp only [e_part36]
  generalize iter _ _ _ = W
  rw [wld W.x76, wld W.x77, wld W.x78]

/-- The state the second counted loop starts from. -/
structure Mid2 (V : St Ideal) (v57 : FVec Ideal S128x256 .bf16) (W : St Ideal) : Prop where
  keep : Keep W V
  x32 : W.x32 = v57
  x66 : W.x66 = V.x66
  x67 : W.x67 = V.x67
  x68 : W.x68 = V.x68
  x74 : W.x74 = V.x74
  x75 : W.x75 = V.x75

theorem part37_mid (V : St Ideal) (i : grid0.Coords) (v13 : BitVec 32) (v45 v47 : Vec Ideal S128x256 .f32) (v54 : FVec Ideal S128x256 .f32)
    (v57 : FVec Ideal S128x256 .bf16) (v59 v61 : FVec Ideal S128x256 .f32) :
    ∃ W, Mid2 V v57 W ∧ (e_part37 V i v13 v45 v47 v54 v57 v59 v61).2 = iter (fun k W => (e_t2 W i v13 v45 v47 v54 v57 v59 v61 k).2) k0_t2_loop.trips W := by
  dsimp only [e_part37]
  refine ⟨_, ?_, rfl⟩
  dsimp only [e_part37, St.s32, St.s79]
  refine ⟨by constructor <;> rfl, ?_, rfl, rfl, rfl, rfl, rfl⟩
  dsimp only
  rw [wov]

/-- What a grid point leaves before its first conditional, from the contents `B` after the prologue. -/
structure Front (B : St Ideal) (i : grid0.Coords) (W : St Ideal) : Prop where
  ins : Ins W B
  x63 : W.x63 = B.x63
  x65 : W.x65 = B.x65
  x32 : ∀ r n, W.x32 (ix2 r n) = hbF (GG B B r n) (UU B B r n)
  x74 : ∀ r k, W.x74 (ix2 r k) = B.x74 (ix2 r k) + ((∑ n : Fin 256, dgF (GG B B r n) (UU B B r n) (DH B i r n) * GW B k n)
    + ∑ n : Fin 256, duF (GG B B r n) (DH B i r n) * UW B k n)
  x75 : ∀ r k, W.x75 (ix2 r k) = B.x75 (ix2 r k) + ∑ n : Fin 256, hbF (GG B B r n) (UU B B r n) * DW B i n k

end Cert.Proof.KI

end
-- ==== Proof.KI.PointB.lean ====
module

public import proofs.«01_k».proof.Proof.KI.Point

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! What one grid point leaves in the blocks, from the parts of the body. -/

theorem front_of (B : St Ideal) (i : grid0.Coords) : ∀ v13 v29 T v28, T = (e_part35_tail B i).2 → v28 = (e_part35_tail B i).1.2.2.1 →
    ∀ S, S = e_part36 T i v28 v29 → Front B i (e_part37 S.2 i v13 S.1.1 S.1.2.1 S.1.2.2.1 S.1.2.2.2.1 S.1.2.2.2.2.1 S.1.2.2.2.2.2).2 := by
  intro v13 v29 T v28 hT h28 S hS
  obtain ⟨M, hM, hMS⟩ := part36_mid T i v28 v29
  have hv := part36_vals T i v28 v29
  have h1 := l1_all M i v28 v29
  rw [← hMS, ← hS] at h1
  rw [← hS] at hv
  obtain ⟨a, W1⟩ := S
  dsimp only at h1 hv
  subst hv
  dsimp only
  obtain ⟨N, hN, hNS⟩ := part37_mid W1 i v13 W1.x76 W1.x78 (k0_pay260 W1.x76) (k0_pay261 W1.x76 W1.x77) (k0_pay262 W1.x76 W1.x77 W1.x78) (k0_pay263 W1.x76)
  have h2 := l2_all N i v13 W1.x76 W1.x78 (k0_pay260 W1.x76) (k0_pay261 W1.x76 W1.x77) (k0_pay262 W1.x76 W1.x77 W1.x78) (k0_pay263 W1.x76)
  rw [← hNS] at h2
  clear hMS hNS hS
  have ht := tail_ins B i
  rw [← hT] at ht
  have hMB : Ins M B := hM.ins.trans ht.1
  have hG : WG M = GW B := by
    funext k n
    unfold WG GW
    rw [hM.x72, hT, tail_x72, hMB.x12, hMB.x11]
  have hU : WU M = UW B := by
    funext k n
    unfold WU UW
    rw [hM.x73, hT, tail_x73, hMB.x18, hMB.x17]
  have hD : WD M = DW B i := by
    funext n k
    unfold WD DW
    rw [hM.x80, hM.x81, h28, hT, tail_x80, tail_v28, hMB.x10]
  have g76 : ∀ r n, W1.x76 (ix2 r n) = GG B B r n := fun r n => by
    rw [h1.x76, hM.x76, zero_add, hG, hM.x63, ht.2.1]
    exact rsum_full _
  have g77 : ∀ r n, W1.x77 (ix2 r n) = UU B B r n := fun r n => by
    rw [h1.x77, hM.x77, zero_add, hU, hM.x63, ht.2.1]
    exact rsum_full _
  have g78 : ∀ r n, W1.x78 (ix2 r n) = DH B i r n := fun r n => by
    rw [h1.x78, hM.x78, zero_add, hD, hMB.x2]
    exact rsum_full _
  have hh : ∀ r n, k0_pay261 W1.x76 W1.x77 (ix2 r n) = hbF (GG B B r n) (UU B B r n) := fun r n => by
    rw [← g76, ← g77]
    unfold hbF SG
    pointwise [k0_pay261, k0_pay260]
  have hg : ∀ r n, k0_pay264 W1.x76 (k0_pay262 W1.x76 W1.x77 W1.x78) (k0_pay263 W1.x76) (ix2 r n) = dgF (GG B B r n) (UU B B r n) (DH B i r n) := fun r n => by
    rw [← g76, ← g77, ← g78]
    unfold dgF SG
    pointwise [k0_pay264, k0_pay262, k0_pay263, k0_pay260]
  have hu : ∀ r n, k0_pay265 W1.x76 W1.x78 (k0_pay260 W1.x76) (ix2 r n) = duF (GG B B r n) (DH B i r n) := fun r n => by
    rw [← g76, ← g78]
    unfold duF SG
    pointwise [k0_pay265, k0_pay260]
  have w66 : ∀ k n, W1.x66 (ix2 k n) = GW B k n := fun k n => by rw [h1.x66 k n (by omega), hG]
  have w67 : ∀ k n, W1.x67 (ix2 k n) = UW B k n := fun k n => by rw [h1.x67 k n (by omega), hU]
  have w68 : ∀ n k, W1.x68 (ix2 n k) = DW B i n k := fun n k => by rw [h1.x68 n k (by omega), hD]
  refine ⟨(h2.keep.ins.trans hN.keep.ins).trans (h1.keep.ins.trans hMB), ?_, ?_, ?_, ?_, ?_⟩
  · rw [h2.keep.x63, hN.keep.x63, h1.keep.x63, hM.x63, ht.2.1]
  · rw [h2.keep.x65, hN.keep.x65, h1.keep.x65, hM.x65, ht.2.2.1]
  · intro r n
    rw [h2.x32, hN.x32, hh]
  · intro r k
    rw [h2.x74 r k (by omega), hN.x74, h1.x74, hM.x74, ht.2.2.2.1, hN.x66, hN.x67]
    simp only [hg, hu, w66, w67]
  · intro r k
    rw [h2.x75 r k (by omega), hN.x75, h1.x75, hM.x75, ht.2.2.2.2, hN.x68]
    simp only [hh, w68]

/-- The blocks the forward and backward passes read are the same in `W` as in `V`. -/
structure Rest (W V : St Ideal) : Prop where
  ins : Ins W V
  x32 : W.x32 = V.x32
  x63 : W.x63 = V.x63
  x65 : W.x65 = V.x65
  x74 : W.x74 = V.x74
  x75 : W.x75 = V.x75

theorem Rest.rfl' (V : St Ideal) : Rest V V := ⟨Ins.rfl' V, rfl, rfl, rfl, rfl, rfl⟩

theorem Rest.trans {W V U : St Ideal} (h : Rest W V) (h' : Rest V U) : Rest W U :=
  ⟨h.ins.trans h'.ins, h.x32.trans h'.x32, h.x63.trans h'.x63, h.x65.trans h'.x65, h.x74.trans h'.x74, h.x75.trans h'.x75⟩

theorem Rest.front {W V B : St Ideal} {i : grid0.Coords} (h : Rest W V) (f : Front B i V) : Front B i W :=
  ⟨h.ins.trans f.ins, h.x63.trans f.x63, h.x65.trans f.x65, fun r n => by rw [h.x32, f.x32], fun r k => by rw [h.x74, f.x74],
    fun r k => by rw [h.x75, f.x75]⟩

theorem part38_rest (V : St Ideal) (i : grid0.Coords) (v100 : FVec Ideal S64x256 .f32) (v101 : FVec Ideal S64x256 .f32) : Rest (e_part38 V i v100 v101).2 V := by
  obtain ⟨W, hW⟩ : ∃ W, W = (e_part38 V i v100 v101).2 := ⟨_, rfl⟩
  rw [← hW]
  dsimp only [e_part38] at hW
  subst hW
  exact ⟨by constructor <;> rfl, rfl, rfl, rfl, rfl, rfl⟩

theorem part39_rest (V : St Ideal) (i : grid0.Coords) (v107 : FVec Ideal S64x256 .f32) (v112 : FVec Ideal S64x256 .f32) (v116 : FVec Ideal S64x256 .f32) (v120 : FVec Ideal S64x256 .f32) (v122 : FVec Ideal S64x256 .f32) (v125 : Elt Ideal .f32) (v126 : Elt Ideal .f32) (v127 : Elt Ideal .f32) (v128 : Elt Ideal .f32) (v133 : FVec Ideal S64x256 .f32) (v135 : FVec Ideal S64x256 .f32) : Rest (e_part39 V i v107 v112 v116 v120 v122 v125 v126 v127 v128 v133 v135).2 V := by
  obtain ⟨W, hW⟩ : ∃ W, W = (e_part39 V i v107 v112 v116 v120 v122 v125 v126 v127 v128 v133 v135).2 := ⟨_, rfl⟩
  rw [← hW]
  dsimp only [e_part39, St.s33, St.s34, St.s35, St.s36, St.s37] at hW
  subst hW
  exact ⟨by constructor <;> rfl, rfl, rfl, rfl, rfl, rfl⟩

theorem part40_rest (V : St Ideal) (i : grid0.Coords) (v69 : FVec Ideal S128x256 .bf16) (v112 : FVec Ideal S64x256 .f32) (v114 : FVec Ideal S64x256 .f32) (v157 : Elt Ideal .f32) (v162 : FVec Ideal S64x256 .f32) (v168 : FVec Ideal S64x256 .f32) (v172 : FVec Ideal S64x256 .f32) (v173 : FVec Ideal S64x256 .f32) : Rest (e_part40 V i v69 v112 v114 v157 v162 v168 v172 v173).2 V := by
  obtain ⟨W, hW⟩ : ∃ W, W = (e_part40 V i v69 v112 v114 v157 v162 v168 v172 v173).2 := ⟨_, rfl⟩
  rw [← hW]
  dsimp only [e_part40, St.s38, St.s39, St.s40, St.s41, St.s42] at hW
  subst hW
  exact ⟨by constructor <;> rfl, rfl, rfl, rfl, rfl, rfl⟩

theorem part41_rest (V : St Ideal) (i : grid0.Coords) (v196 : FVec Ideal S64x256 .f32) (v204 : Vec Ideal S64x256 .f32) : Rest (e_part41 V i v196 v204).2 V := by
  obtain ⟨W, hW⟩ : ∃ W, W = (e_part41 V i v196 v204).2 := ⟨_, rfl⟩
  rw [← hW]
  dsimp only [e_part41, St.s43, St.s44] at hW
  subst hW
  exact ⟨by constructor <;> rfl, rfl, rfl, rfl, rfl, rfl⟩

theorem part42_rest (V : St Ideal) (i : grid0.Coords) (v201 : FVec Ideal S64x256 .f32) (v203 : FVec Ideal S64x256 .f32) (v209 : FVec Ideal S64x256 .f32) (v211 : FVec Ideal S64x256 .f32) (v214 : Elt Ideal .f32) (v215 : Elt Ideal .f32) (v222 : FVec Ideal S64x256 .f32) (v228 : FVec Ideal S64x256 .f32) (v239 : FVec Ideal S64x256 .f32) : Rest (e_part42 V i v201 v203 v209 v211 v214 v215 v222 v228 v239).2 V := by
  obtain ⟨W, hW⟩ : ∃ W, W = (e_part42 V i v201 v203 v209 v211 v214 v215 v222 v228 v239).2 := ⟨_, rfl⟩
  rw [← hW]
  dsimp only [e_part42, St.s45, St.s46, St.s47, St.s48, St.s49, St.s50, St.s51] at hW
  subst hW
  exact ⟨by constructor <;> rfl, rfl, rfl, rfl, rfl, rfl⟩

theorem s52_rest (V : St Ideal) (X) : Rest (V.s52 X) V := by
  dsimp only [St.s52]
  exact ⟨by constructor <;> rfl, rfl, rfl, rfl, rfl, rfl⟩

theorem front_all (B V : St Ideal) (i : grid0.Coords) (hB : e_part35 V i = e_part35_tail B i) : Front B i (e_body_front V i) := by
  have hf := front_of B i (e_part35 V i).1.2.1 (e_part35 V i).1.2.2.2 _ _ (congrArg Prod.snd hB) (congrArg (fun p => p.1.2.2.1) hB) _ rfl
  refine Rest.front ?_ hf
  clear hf
  dsimp only [e_body_front]
  refine (s52_rest _ _).trans ?_
  refine (part42_rest _ _ _ _ _ _ _ _ _ _ _).trans ?_
  refine (part41_rest _ _ _ _).trans ?_
  refine (part40_rest _ _ _ _ _ _ _ _ _ _).trans ?_
  refine (part39_rest _ _ _ _ _ _ _ _ _ _ _ _ _).trans ?_
  exact part38_rest _ _ _ _

theorem h2_rest (V : St Ideal) (i : grid0.Coords) : Rest (e_h2 V i) V := by
  have h := h2_ins V i
  exact ⟨h.1, h.2.1, h.2.2.1, h.2.2.2.1, h.2.2.2.2.1, h.2.2.2.2.2⟩

theorem h3_rest (V : St Ideal) (i : grid0.Coords) : Rest (e_h3 V i) V := by
  have h := h3_ins V i
  exact ⟨h.1, h.2.1, h.2.2.1, h.2.2.2.1, h.2.2.2.2.1, h.2.2.2.2.2⟩

/-- The blocks of `y`, `dx` and `c` that the last grid point leaves. -/
structure Outs (W : St Ideal) : Prop where
  x29 : ∀ r C, W.x29 (ix2 r C) = W.x1 (ix2 r C) + W.x75 (ix2 r C)
  x31 : ∀ r, W.x31 (ix2 r 0) = CC W r
  x30 : ∀ r C, W.x30 (ix2 r C) = W.x2 (ix2 r C) + W.x65 (ix2 r 0) * (W.x74 (ix2 r C) * W.x3 (ix2 0 C) - W.x1 (ix2 r C) * W.x65 (ix2 r 0) * CC W r)

theorem outs_h3 (V : St Ideal) (i : grid0.Coords) : Outs (e_h3 V i) := by
  have h := h3_rest V i
  have hC : ∀ r, CC (e_h3 V i) r = CC V r := fun r => by
    unfold CC
    rw [h.x65, h.x74, h.ins.x3, h.ins.x1]
  refine ⟨fun r C => ?_, fun r => ?_, fun r C => ?_⟩
  · rw [h3_x29, h.ins.x1, h.x75]
  · rw [h3_x31, hC]
  · rw [h3_x30, hC, h.ins.x1, h.ins.x2, h.ins.x3, h.x65, h.x74]

theorem point_outs (V B : St Ideal) (i : grid0.Coords) (f : Front B i V) : Front B i (e_h3 V i) ∧ ((i 0).val = 42 → Outs (e_h3 V i)) := by
  have h := h3_rest V i
  have h' := outs_h3 V i
  exact ⟨h.front f, fun _ => h'⟩

theorem cond1_iff : ∀ n : Fin 43, (Scalar.cmpi .ne (Scalar.extui (Scalar.cmpi .eq (BitVec.ofNat 32 n.val) 0#32)) (0#32 : BitVec 32) = 1#1) ↔ n.val = 0 := by
  decide +kernel

theorem cond3_iff : ∀ n : Fin 43, (Scalar.cmpi .ne (Scalar.extui (Scalar.cmpi .eq (BitVec.ofNat 32 n.val) 42#32)) (0#32 : BitVec 32) = 1#1) ↔ n.val = 42 := by
  decide +kernel

/-- One grid point leaves `W`: `B` is what the body finds after the prologue. -/
structure PointOf (V : St Ideal) (i : grid0.Coords) (B W : St Ideal) : Prop where
  first : (i 0).val = 0 → B = e_h1 V i
  later : (i 0).val ≠ 0 → B = V
  front : Front B i W
  outs : (i 0).val = 42 → Outs W

theorem point (V : St Ideal) (i : grid0.Coords) : ∃ B, PointOf V i B (e_body V i).2 := by
  have c1 := cond1_iff ⟨(i 0).val, (i 0).isLt⟩
  have c3 : k0_cond3 i = 1#1 ↔ (i 0).val = 42 := by
    have h := cond3_iff ⟨(i 0).val, (i 0).isLt⟩
    dsimp only at h
    unfold k0_cond3
    dsimp only
    exact h
  dsimp only at c1
  obtain ⟨B, hB0, hB1, hF⟩ : ∃ B, ((i 0).val = 0 → B = e_h1 V i) ∧ ((i 0).val ≠ 0 → B = V) ∧ Front B i (e_body_front V i) := by
    by_cases h : (i 0).val = 0
    · exact ⟨e_h1 V i, fun _ => rfl, fun h' => absurd h h', front_all _ V i (e_part35_p V i (c1.mpr h))⟩
    · exact ⟨V, fun h' => absurd h' h, fun _ => rfl, front_all _ V i (e_part35_n V i (fun e => h (c1.mp e)))⟩
  refine ⟨B, ?_⟩
  by_cases h2 : k0_cond2 i = 1#1
  · have e2 := (h2_rest (e_body_front V i) i).front hF
    by_cases h3 : k0_cond3 i = 1#1
    · have e4 := point_outs _ B i e2
      rw [e_body_pp V i h2 h3]
      exact ⟨hB0, hB1, e4.1, e4.2⟩
    · rw [e_body_pn V i h2 h3]
      exact ⟨hB0, hB1, e2, fun h => absurd (c3.mpr h) h3⟩
  · by_cases h3 : k0_cond3 i = 1#1
    · have e4 := point_outs _ B i hF
      rw [e_body_np V i h2 h3]
      exact ⟨hB0, hB1, e4.1, e4.2⟩
    · rw [e_body_nn V i h2 h3]
      exact ⟨hB0, hB1, hF, fun h => absurd (c3.mpr h) h3⟩

end Cert.Proof.KI

end
-- ==== Proof.KI.Glob.lean ====
module

public import proofs.«01_k».proof.Proof.KI.PointB

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The layer in closed form over the extended reals, and one grid point's share of it. -/

/-- The arguments the four results are computed from, read at their indices. -/
structure In where
  x : Fin 128 → Fin 4096 → EReal
  dy : Fin 128 → Fin 4096 → EReal
  nw : Fin 4096 → EReal
  qg : Fin 11008 → Fin 256 → BitVec 32
  zg : Fin 11008 → Fin 64 → EReal
  sg : Fin 11008 → Fin 64 → EReal
  qu : Fin 11008 → Fin 256 → BitVec 32
  zu : Fin 11008 → Fin 64 → EReal
  su : Fin 11008 → Fin 64 → EReal
  qd : Fin 4096 → Fin 688 → BitVec 32
  zd : Fin 4096 → Fin 172 → EReal
  sd : Fin 4096 → Fin 172 → EReal

namespace In

variable (I : In)

/-- The reciprocal root mean square of a row. -/
def R (r : Fin 128) : EReal :=
  Ideal.div 1 (Ideal.sqrt (Ideal.div (∑ k, I.x r k * I.x r k) (Ideal.ofBits FTy.f32 1166016512#32) + Ideal.ofBits FTy.f32 925353388#32))
/-- The normalised activations. -/
def A (r : Fin 128) (k : Fin 4096) : EReal := I.x r k * I.R r * I.nw k
/-- The gate weights. -/
def GW (k : Fin 4096) (n : Fin 11008) : EReal :=
  I.sg n ⟨k.val / 64, by omega⟩ * (code (I.qg n ⟨k.val / 16, by omega⟩) (k.val % 16) - I.zg n ⟨k.val / 64, by omega⟩)
/-- The up weights. -/
def UW (k : Fin 4096) (n : Fin 11008) : EReal :=
  I.su n ⟨k.val / 64, by omega⟩ * (code (I.qu n ⟨k.val / 16, by omega⟩) (k.val % 16) - I.zu n ⟨k.val / 64, by omega⟩)
/-- The down weights. -/
def DW (n : Fin 11008) (k : Fin 4096) : EReal :=
  I.sd k ⟨n.val / 64, by omega⟩ * (code (I.qd k ⟨n.val / 16, by omega⟩) (n.val % 16) - I.zd k ⟨n.val / 64, by omega⟩)
/-- The gate projection. -/
def G (r : Fin 128) (n : Fin 11008) : EReal := ∑ k, I.A r k * I.GW k n
/-- The up projection. -/
def U (r : Fin 128) (n : Fin 11008) : EReal := ∑ k, I.A r k * I.UW k n
/-- The gradient at the hidden activations. -/
def D (r : Fin 128) (n : Fin 11008) : EReal := ∑ k, I.dy r k * I.DW n k
/-- The hidden activations. -/
def H (r : Fin 128) (n : Fin 11008) : EReal := hbF (I.G r n) (I.U r n)
/-- The gradient at the gate projection. -/
def DG (r : Fin 128) (n : Fin 11008) : EReal := dgF (I.G r n) (I.U r n) (I.D r n)
/-- The gradient at the up projection. -/
def DU (r : Fin 128) (n : Fin 11008) : EReal := duF (I.G r n) (I.D r n)
/-- The gradient at the normalised activations. -/
def DA (r : Fin 128) (k : Fin 4096) : EReal := (∑ n, I.DG r n * I.GW k n) + ∑ n, I.DU r n * I.UW k n
/-- The layer's output. -/
def Y (r : Fin 128) (k : Fin 4096) : EReal := I.x r k + ∑ n, I.H r n * I.DW n k
/-- The row scalar of the norm's gradient. -/
def C (r : Fin 128) : EReal := I.R r * Ideal.div (∑ k, I.DA r k * I.nw k * I.x r k) (Ideal.ofBits FTy.f32 1166016512#32)
/-- The gradient at the layer's input. -/
def DX (r : Fin 128) (k : Fin 4096) : EReal := I.dy r k + I.R r * (I.DA r k * I.nw k - I.x r k * I.R r * I.C r)

end In

/-- The hidden unit of column `j` of point `t`'s block. -/
def hid (t : ℕ) (ht : t < 43) (j : Fin 256) : Fin 11008 := ⟨256 * t + j.val, by omega⟩

/-- The staging buffers hold point `t`'s blocks of the arguments `I`. -/
structure HasAt (I : In) (t : ℕ) (ht : t < 43) (V : St Ideal) : Prop where
  x1 : ∀ r k, V.x1 (ix2 r k) = I.x r k
  x2 : ∀ r k, V.x2 (ix2 r k) = I.dy r k
  x3 : ∀ k, V.x3 (ix2 0 k) = I.nw k
  x8 : ∀ j w, V.x8 (ix2 j w) = I.qg (hid t ht j) w
  x9 : ∀ j w, V.x9 (ix2 j w) = I.qu (hid t ht j) w
  x10 : ∀ (w : Fin 16) k, V.x10 (ix2 w k) = I.qd k ⟨16 * t + w.val, by omega⟩
  x11 : ∀ b j, V.x11 (ix2 b j) = I.zg (hid t ht j) b
  x12 : ∀ b j, V.x12 (ix2 b j) = I.sg (hid t ht j) b
  x17 : ∀ b j, V.x17 (ix2 b j) = I.zu (hid t ht j) b
  x18 : ∀ b j, V.x18 (ix2 b j) = I.su (hid t ht j) b
  x23 : ∀ (b : Fin 4) k, V.x23 (ix2 ⟨4 * (t % 2) + b.val, by omega⟩ k) = I.zd k ⟨4 * t + b.val, by omega⟩
  x24 : ∀ (b : Fin 4) k, V.x24 (ix2 ⟨4 * (t % 2) + b.val, by omega⟩ k) = I.sd k ⟨4 * t + b.val, by omega⟩

theorem HasAt.of_ins {I : In} {t : ℕ} {ht : t < 43} {W V : St Ideal} (h : HasAt I t ht V) (e : Ins W V) : HasAt I t ht W := by
  obtain ⟨a1, a2, a3, a8, a9, a10, a11, a12, a17, a18, a23, a24⟩ := h
  constructor
  · rw [e.x1]; exact a1
  · rw [e.x2]; exact a2
  · rw [e.x3]; exact a3
  · rw [e.x8]; exact a8
  · rw [e.x9]; exact a9
  · rw [e.x10]; exact a10
  · rw [e.x11]; exact a11
  · rw [e.x12]; exact a12
  · rw [e.x17]; exact a17
  · rw [e.x18]; exact a18
  · rw [e.x23]; exact a23
  · rw [e.x24]; exact a24

/-- What the scratch buffers hold before point `n`: nothing is known before the first point. -/
structure Acc (I : In) (n : ℕ) (x63 : FVec Ideal S128x4096 .bf16) (x65 : FVec Ideal S128x1 .f32) (x74 x75 : FVec Ideal S128x4096 .f32) : Prop where
  x63 : ∀ r k, x63 (ix2 r k) = I.A r k
  x65 : ∀ r, x65 (ix2 r 0) = I.R r
  x74 : ∀ r k, x74 (ix2 r k) = rsum (fun n => I.DG r n * I.GW k n) (256 * n) + rsum (fun n => I.DU r n * I.UW k n) (256 * n)
  x75 : ∀ r k, x75 (ix2 r k) = rsum (fun n => I.H r n * I.DW n k) (256 * n)

/-- What point `t` leaves. -/
structure Done (I : In) (t : ℕ) (ht : t < 43) (W : St Ideal) : Prop where
  acc : Acc I (t + 1) W.x63 W.x65 W.x74 W.x75
  x32 : ∀ r j, W.x32 (ix2 r j) = I.H r (hid t ht j)
  x29 : t = 42 → ∀ r k, W.x29 (ix2 r k) = I.Y r k
  x30 : t = 42 → ∀ r k, W.x30 (ix2 r k) = I.DX r k
  x31 : t = 42 → ∀ r, W.x31 (ix2 r 0) = I.C r

theorem rr_of {I : In} {t : ℕ} {ht : t < 43} {V : St Ideal} (h : HasAt I t ht V) (r : Fin 128) : RR V r = I.R r := by
  unfold RR In.R
  simp only [h.x1]

theorem gw_of {I : In} {t : ℕ} {ht : t < 43} {V : St Ideal} (h : HasAt I t ht V) (k : Fin 4096) (j : Fin 256) : GW V k j = I.GW k (hid t ht j) := by
  unfold GW In.GW
  rw [h.x11, h.x12, h.x8]

theorem uw_of {I : In} {t : ℕ} {ht : t < 43} {V : St Ideal} (h : HasAt I t ht V) (k : Fin 4096) (j : Fin 256) : UW V k j = I.UW k (hid t ht j) := by
  unfold UW In.UW
  rw [h.x17, h.x18, h.x9]

theorem dw_of {I : In} {t : ℕ} {ht : t < 43} {V : St Ideal} (h : HasAt I t ht V) (i : grid0.Coords) (hi : (i 0).val = t) (j : Fin 256) (k : Fin 4096) :
    DW V i j k = I.DW (hid t ht j) k := by
  subst hi
  unfold DW In.DW
  rw [h.x10, h.x23 ⟨j.val / 64, by omega⟩, h.x24 ⟨j.val / 64, by omega⟩]
  have e1 : (⟨4 * (i 0).val + j.val / 64, by omega⟩ : Fin 172) = ⟨(hid (i 0).val ht j).val / 64, by unfold hid; dsimp only; omega⟩ :=
    Fin.ext (by unfold hid; dsimp only; omega)
  have e2 : (⟨16 * (i 0).val + j.val / 16, by omega⟩ : Fin 688) = ⟨(hid (i 0).val ht j).val / 16, by unfold hid; dsimp only; omega⟩ :=
    Fin.ext (by unfold hid; dsimp only; omega)
  have e3 : j.val % 16 = (hid (i 0).val ht j).val % 16 := by unfold hid; dsimp only; omega
  rw [e1, e2, e3]

theorem hid_eq (t : ℕ) (ht : t < 43) (j : Fin 256) : hid t ht j = ⟨256 * t + j.val, by omega⟩ := rfl

theorem rsum_step (f : Fin 11008 → EReal) (t : ℕ) (ht : t < 43) : rsum f (256 * (t + 1)) = rsum f (256 * t) + ∑ j : Fin 256, f (hid t ht j) := by
  rw [show 256 * (t + 1) = 256 * t + 256 by ring, rsum_add f _ _ (by omega)]
  rfl

/-- One grid point over the closed form. -/
theorem done_of {I : In} {t : ℕ} (ht : t < 43) {V B W : St Ideal} {i : grid0.Coords} (hi : (i 0).val = t) (h : HasAt I t ht V) (p : PointOf V i B W)
    (hs : t ≠ 0 → Acc I t V.x63 V.x65 V.x74 V.x75) : Done I t ht W := by
  have hBV : Ins B V := by
    by_cases h0 : (i 0).val = 0
    · rw [p.first h0]; exact h1_ins V i
    · rw [p.later h0]; exact Ins.rfl' V
  have hb : HasAt I t ht B := h.of_ins hBV
  have hw : HasAt I t ht W := hb.of_ins p.front.ins
  have ab : Acc I t B.x63 B.x65 B.x74 B.x75 := by
    by_cases h0 : (i 0).val = 0
    · rw [p.first h0]
      have t0 : t = 0 := hi.symm.trans h0
      refine ⟨fun r k => ?_, fun r => ?_, fun r k => ?_, fun r k => ?_⟩
      · rw [h1_x63, rr_of h, h.x1, h.x3]; rfl
      · rw [h1_x65, rr_of h]
      · rw [h1_x74, t0, Nat.mul_zero, rsum_zero, rsum_zero, add_zero]
      · rw [h1_x75, t0, Nat.mul_zero, rsum_zero]
    · rw [p.later h0]
      exact hs (fun e => h0 (hi.trans e))
  have eG : ∀ r j, GG B B r j = I.G r (hid t ht j) := fun r j => by
    unfold GG In.G
    exact Finset.sum_congr rfl fun k _ => by rw [ab.x63, gw_of hb]
  have eU : ∀ r j, UU B B r j = I.U r (hid t ht j) := fun r j => by
    unfold UU In.U
    exact Finset.sum_congr rfl fun k _ => by rw [ab.x63, uw_of hb]
  have eD : ∀ r j, DH B i r j = I.D r (hid t ht j) := fun r j => by
    unfold DH In.D
    exact Finset.sum_congr rfl fun k _ => by rw [hb.x2, dw_of hb i hi]
  have aw : Acc I (t + 1) W.x63 W.x65 W.x74 W.x75 := by
    refine ⟨fun r k => ?_, fun r => ?_, fun r k => ?_, fun r k => ?_⟩
    · rw [p.front.x63, ab.x63]
    · rw [p.front.x65, ab.x65]
    · rw [p.front.x74, ab.x74, rsum_step _ t ht, rsum_step _ t ht]
      simp only [eG, eU, eD, gw_of hb, uw_of hb]
      exact add_add_add_comm _ _ _ _
    · rw [p.front.x75, ab.x75, rsum_step _ t ht]
      simp only [eG, eU, dw_of hb i hi]
      rfl
  refine ⟨aw, fun r j => ?_, fun h42 => ?_, fun h42 => ?_, fun h42 => ?_⟩
  · rw [p.front.x32, eG, eU]; rfl
  all_goals
    have o := p.outs (hi.trans h42)
    subst h42
    have a74 : ∀ r k, W.x74 (ix2 r k) = I.DA r k := fun r k => by rw [aw.x74, rsum_full, rsum_full]; rfl
    have eC : ∀ r, CC W r = I.C r := fun r => by
      unfold CC In.C
      simp only [a74, hw.x1, hw.x3, aw.x65]
  · intro r k
    rw [o.x29, hw.x1, aw.x75, rsum_full]; rfl
  · intro r k
    rw [o.x30, eC, hw.x1, hw.x2, hw.x3, a74, aw.x65]; rfl
  · intro r
    rw [o.x31, eC]

end Cert.Proof.KI

end
-- ==== Proof.KI.Blocks.lean ====
module

public import proofs.«01_k».proof.Proof.KI.Launch
public import Idealize.ShloMosaic.Lib.Pipeline.ValueKit
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.Pipeline (Dat RDat Cfg Window)
open Idealize.SL Idealize.SL.RA Idealize.SL.BI
open scoped Idealize.SL.BI
open Idealize.SL.BI.BIBase Idealize.SL.BI.Laws Idealize.SL.ProofMode Idealize.SL.Sem

/-! The block of each argument that a grid point reads, at an index of the argument as launched. -/

variable (m : (ℓ : Loc nD τ sig) → Buf (Elt Ideal) ℓ) (c : Dev nD)

theorem pt_val : ∀ t : Fin cfg0.N, (grid0.coords t 0).val = t.val := by decide +kernel

theorem wix0 : ∀ t : Fin cfg0.N, (cfg0.win 0).index t 0 = 0 ∧ (cfg0.win 0).index t 1 = 0 := by decide +kernel
theorem wix1 : ∀ t : Fin cfg0.N, (cfg0.win 1).index t 0 = 0 ∧ (cfg0.win 1).index t 1 = 0 := by decide +kernel
theorem wix2 : ∀ t : Fin cfg0.N, (cfg0.win 2).index t 0 = 0 ∧ (cfg0.win 2).index t 1 = 0 := by decide +kernel
theorem wix7 : ∀ t : Fin cfg0.N, (cfg0.win 7).index t 0 = t.val ∧ (cfg0.win 7).index t 1 = 0 := by decide +kernel
theorem wix8 : ∀ t : Fin cfg0.N, (cfg0.win 8).index t 0 = t.val ∧ (cfg0.win 8).index t 1 = 0 := by decide +kernel
theorem wix9 : ∀ t : Fin cfg0.N, (cfg0.win 9).index t 0 = t.val ∧ (cfg0.win 9).index t 1 = 0 := by decide +kernel
theorem wix10 : ∀ t : Fin cfg0.N, (cfg0.win 10).index t 0 = 0 ∧ (cfg0.win 10).index t 1 = t.val := by decide +kernel
theorem wix11 : ∀ t : Fin cfg0.N, (cfg0.win 11).index t 0 = 0 ∧ (cfg0.win 11).index t 1 = t.val := by decide +kernel
theorem wix16 : ∀ t : Fin cfg0.N, (cfg0.win 16).index t 0 = 0 ∧ (cfg0.win 16).index t 1 = t.val := by decide +kernel
theorem wix17 : ∀ t : Fin cfg0.N, (cfg0.win 17).index t 0 = 0 ∧ (cfg0.win 17).index t 1 = t.val := by decide +kernel
theorem wix31 : ∀ t : Fin cfg0.N, (cfg0.win 31).index t 0 = 0 ∧ (cfg0.win 31).index t 1 = t.val := by decide +kernel
theorem wix22 : ∀ t : Fin cfg0.N, (cfg0.win 22).index t 0 = t.val / 2 ∧ (cfg0.win 22).index t 1 = 0 := by decide +kernel
theorem wix23 : ∀ t : Fin cfg0.N, (cfg0.win 23).index t 0 = t.val / 2 ∧ (cfg0.win 23).index t 1 = 0 := by decide +kernel

theorem blk0 (t : Fin cfg0.N) (r : Fin 128) (k : Fin 4096) : iblk m c 0 t (ix2 r k) = m ((c.tc : Thread nD τ).loc main_arg0) (ix3 0 r k) := by
  blk_ext! [iblk, V, wix0 t]

theorem blk1 (t : Fin cfg0.N) (r : Fin 128) (k : Fin 4096) : iblk m c 1 t (ix2 r k) = m ((c.tc : Thread nD τ).loc main_arg1) (ix3 0 r k) := by
  blk_ext! [iblk, V, wix1 t]

theorem blk2 (t : Fin cfg0.N) (k : Fin 4096) : iblk m c 2 t (ix2 0 k) = m ((c.tc : Thread nD τ).loc main_arg2) (ix1 k) := by
  blk_ext! [iblk, V, wix2 t]

theorem blk7 (t : Fin cfg0.N) (j w : Fin 256) (n : Fin 11008) (hn : n.val = 256 * t.val + j.val) :
    iblk m c 7 t (ix2 j w) = m ((c.tc : Thread nD τ).loc main_arg3) (ix2 n w) := by
  blk_ext! [iblk, V, wix7 t]

theorem blk8 (t : Fin cfg0.N) (j w : Fin 256) (n : Fin 11008) (hn : n.val = 256 * t.val + j.val) :
    iblk m c 8 t (ix2 j w) = m ((c.tc : Thread nD τ).loc main_arg10) (ix2 n w) := by
  blk_ext! [iblk, V, wix8 t]

theorem blk9 (t : Fin cfg0.N) (w : Fin 16) (k : Fin 4096) (n : Fin 688) (hn : n.val = 16 * t.val + w.val) :
    iblk m c 9 t (ix2 w k) = m ((c.tc : Thread nD τ).loc main_arg17) (ix2 k n) := by
  blk_ext! [iblk, V, wix9 t]

theorem blk10 (t : Fin cfg0.N) (b : Fin 64) (j : Fin 256) (n : Fin 11008) (hn : n.val = 256 * t.val + j.val) :
    iblk m c 10 t (ix2 b j) = m ((c.tc : Thread nD τ).loc main_arg4) (ix2 n b) := by
  blk_ext! [iblk, V, wix10 t]

theorem blk11 (t : Fin cfg0.N) (b : Fin 64) (j : Fin 256) (n : Fin 11008) (hn : n.val = 256 * t.val + j.val) :
    iblk m c 11 t (ix2 b j) = m ((c.tc : Thread nD τ).loc main_arg5) (ix2 n b) := by
  blk_ext! [iblk, V, wix11 t]

theorem blk16 (t : Fin cfg0.N) (b : Fin 64) (j : Fin 256) (n : Fin 11008) (hn : n.val = 256 * t.val + j.val) :
    iblk m c 16 t (ix2 b j) = m ((c.tc : Thread nD τ).loc main_arg11) (ix2 n b) := by
  blk_ext! [iblk, V, wix16 t]

theorem blk17 (t : Fin cfg0.N) (b : Fin 64) (j : Fin 256) (n : Fin 11008) (hn : n.val = 256 * t.val + j.val) :
    iblk m c 17 t (ix2 b j) = m ((c.tc : Thread nD τ).loc main_arg12) (ix2 n b) := by
  blk_ext! [iblk, V, wix17 t]

theorem xs22 : ∀ t : Fin cfg0.N, (cfg0.win 22).xsize (cfg0.grid.coords t) 0 = (if t.val / 2 = 21 then 4 else 8) ∧ (cfg0.win 22).xsize (cfg0.grid.coords t) 1 = 4096 := by
  decide +kernel

theorem clip22 : ∀ t t' : Fin cfg0.N, (cfg0.win 22).index t = (cfg0.win 22).index t' →
    (cfg0.win 22).clip (cfg0.grid.coords t) = (cfg0.win 22).clip (cfg0.grid.coords t') := by
  decide +kernel

theorem blk22 (t : Fin cfg0.N) (b : Fin 8) (k : Fin 4096) (n : Fin 172) (hb : b.val / 4 = t.val % 2) (hn : n.val = 8 * (t.val / 2) + b.val)
    (d : (cfg0.win 22).block.Idx → Elt Ideal (cfg0.win 22).elt) :
    (cfg0.win 22).fill (cfg0.grid.coords t) d (iblk m c 22 t) (ix2 b k) = m ((c.tc : Thread nD τ).loc main_arg18) (ix2 k n) := by
  have hm : (cfg0.win 22).moved (cfg0.grid.coords t) (ix2 b k) = true := by
    rw [Window.moved_iff]
    intro a
    have h := xs22 t
    match a with
    | ⟨0, _⟩ =>
      refine lt_of_lt_of_eq (?_ : b.val < _) h.1.symm
      have := n.isLt
      split_ifs <;> omega
    | ⟨1, _⟩ => exact lt_of_lt_of_eq k.isLt h.2.symm
  unfold Window.fill
  rw [dif_pos hm]
  blk_ext! [iblk, V, wix22 t]

theorem xs23 : ∀ t : Fin cfg0.N, (cfg0.win 23).xsize (cfg0.grid.coords t) 0 = (if t.val / 2 = 21 then 4 else 8) ∧ (cfg0.win 23).xsize (cfg0.grid.coords t) 1 = 4096 := by
  decide +kernel

theorem clip23 : ∀ t t' : Fin cfg0.N, (cfg0.win 23).index t = (cfg0.win 23).index t' →
    (cfg0.win 23).clip (cfg0.grid.coords t) = (cfg0.win 23).clip (cfg0.grid.coords t') := by
  decide +kernel

theorem blk23 (t : Fin cfg0.N) (b : Fin 8) (k : Fin 4096) (n : Fin 172) (hb : b.val / 4 = t.val % 2) (hn : n.val = 8 * (t.val / 2) + b.val)
    (d : (cfg0.win 23).block.Idx → Elt Ideal (cfg0.win 23).elt) :
    (cfg0.win 23).fill (cfg0.grid.coords t) d (iblk m c 23 t) (ix2 b k) = m ((c.tc : Thread nD τ).loc main_arg19) (ix2 k n) := by
  have hm : (cfg0.win 23).moved (cfg0.grid.coords t) (ix2 b k) = true := by
    rw [Window.moved_iff]
    intro a
    have h := xs23 t
    match a with
    | ⟨0, _⟩ =>
      refine lt_of_lt_of_eq (?_ : b.val < _) h.1.symm
      have := n.isLt
      split_ifs <;> omega
    | ⟨1, _⟩ => exact lt_of_lt_of_eq k.isLt h.2.symm
  unfold Window.fill
  rw [dif_pos hm]
  blk_ext! [iblk, V, wix23 t]

end Cert.Proof.KI

end
-- ==== Proof.KI.RunV.lean ====
module

public import proofs.«01_k».proof.Proof.KI.Glob
public import proofs.«01_k».proof.Proof.KI.Blocks
public import Idealize.ShloMosaic.Lib.Pipeline.ArrRel
public import Idealize.ShloMosaic.Lib.Pipeline.ValueKit
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.Pipeline (Dat RDat Cfg Window)
open Idealize.SL Idealize.SL.RA Idealize.SL.BI
open scoped Idealize.SL.BI
open Idealize.SL.BI.BIBase Idealize.SL.BI.Laws Idealize.SL.ProofMode Idealize.SL.Sem

/-! The launch: what the four results hold at the end, in closed form over the arguments. -/

variable (m : (ℓ : Loc nD τ sig) → Buf (Elt Ideal) ℓ) (ρ : Dev nD → PrngReg)

/-- The arguments as launched. -/
def inOf (c : Dev nD) : In where
  x r k := m ((c.tc : Thread nD τ).loc main_arg0) (ix3 0 r k)
  dy r k := m ((c.tc : Thread nD τ).loc main_arg1) (ix3 0 r k)
  nw k := m ((c.tc : Thread nD τ).loc main_arg2) (ix1 k)
  qg n w := m ((c.tc : Thread nD τ).loc main_arg3) (ix2 n w)
  zg n b := m ((c.tc : Thread nD τ).loc main_arg4) (ix2 n b)
  sg n b := m ((c.tc : Thread nD τ).loc main_arg5) (ix2 n b)
  qu n w := m ((c.tc : Thread nD τ).loc main_arg10) (ix2 n w)
  zu n b := m ((c.tc : Thread nD τ).loc main_arg11) (ix2 n b)
  su n b := m ((c.tc : Thread nD τ).loc main_arg12) (ix2 n b)
  qd k n := m ((c.tc : Thread nD τ).loc main_arg17) (ix2 k n)
  zd k n := m ((c.tc : Thread nD τ).loc main_arg18) (ix2 k n)
  sd k n := m ((c.tc : Thread nD τ).loc main_arg19) (ix2 k n)

/-- What the scratch buffers hold between the points. -/
def Inv (c : Dev nD) (n : ℕ) (S : Scr Ideal) : Prop := n ≠ 0 → Acc (inOf m c) n S.x63 S.x65 S.x74 S.x75

theorem pt_lt (t : Fin cfg0.N) : t.val < 43 := lt_of_lt_of_eq t.isLt (by decide)

/-- What a point leaves in a window's buffer: an input as found, and the four results' blocks in closed form. -/
structure Aft (c : Dev nD) (w : Fin cfg0.W) (t : Fin cfg0.N) (Y X : (cfg0.win w).block.Idx → Elt Ideal (cfg0.win w).elt) : Prop where
  ins : w.val < 28 → X = Y
  o31 : w = 31 → ∀ Z : FVec Ideal S128x256 .bf16, HEq X Z → ∀ r j, Z (ix2 r j) = (inOf m c).H r (hid t.val (pt_lt t) j)
  o28 : w = 28 → t.val = 42 → ∀ Z : FVec Ideal S128x4096 .bf16, HEq X Z → ∀ r k, Z (ix2 r k) = (inOf m c).Y r k
  o29 : w = 29 → t.val = 42 → ∀ Z : FVec Ideal S128x4096 .bf16, HEq X Z → ∀ r k, Z (ix2 r k) = (inOf m c).DX r k
  o30 : w = 30 → t.val = 42 → ∀ Z : FVec Ideal S128x1 .f32, HEq X Z → ∀ r, Z (ix2 r 0) = (inOf m c).C r

variable {m} in
theorem Aft.of_in {c : Dev nD} {w : Fin cfg0.W} {t : Fin cfg0.N} {Y X : (cfg0.win w).block.Idx → Elt Ideal (cfg0.win w).elt} (hw : w.val < 28) (h : X = Y) :
    Aft m c w t Y X :=
  ⟨fun _ => h, fun e => by subst e; exact absurd hw (by decide), fun e => by subst e; exact absurd hw (by decide),
    fun e => by subst e; exact absurd hw (by decide), fun e => by subst e; exact absurd hw (by decide)⟩

variable {m} in
theorem Aft.of_out {c : Dev nD} {w : Fin cfg0.W} {t : Fin cfg0.N} {Y X : (cfg0.win w).block.Idx → Elt Ideal (cfg0.win w).elt} (hw : 32 ≤ w.val) :
    Aft m c w t Y X :=
  ⟨fun h => absurd hw (by omega), fun e => by subst e; exact absurd hw (by decide), fun e => by subst e; exact absurd hw (by decide),
    fun e => by subst e; exact absurd hw (by decide), fun e => by subst e; exact absurd hw (by decide)⟩

theorem aft_31 {c : Dev nD} {t : Fin cfg0.N} {Y : (cfg0.win 31).block.Idx → Elt Ideal (cfg0.win 31).elt} {X : FVec Ideal S128x256 .bf16} (h : ∀ r j, X (ix2 r j) = (inOf m c).H r (hid t.val (pt_lt t) j)) :
    Aft m c 31 t Y X :=
  ⟨fun h => absurd h (by decide),
    fun _ Z hZ => by
      have e := eq_of_heq hZ
      rw [← e]
      exact h,
    fun e => absurd e (by decide),
    fun e => absurd e (by decide),
    fun e => absurd e (by decide)⟩

theorem aft_28 {c : Dev nD} {t : Fin cfg0.N} {Y : (cfg0.win 28).block.Idx → Elt Ideal (cfg0.win 28).elt} {X : FVec Ideal S128x4096 .bf16} (h : t.val = 42 → ∀ r k, X (ix2 r k) = (inOf m c).Y r k) :
    Aft m c 28 t Y X :=
  ⟨fun h => absurd h (by decide),
    fun e => absurd e (by decide),
    fun _ ht Z hZ => by
      have e := eq_of_heq hZ
      rw [← e]
      exact h ht,
    fun e => absurd e (by decide),
    fun e => absurd e (by decide)⟩

theorem aft_29 {c : Dev nD} {t : Fin cfg0.N} {Y : (cfg0.win 29).block.Idx → Elt Ideal (cfg0.win 29).elt} {X : FVec Ideal S128x4096 .bf16} (h : t.val = 42 → ∀ r k, X (ix2 r k) = (inOf m c).DX r k) :
    Aft m c 29 t Y X :=
  ⟨fun h => absurd h (by decide),
    fun e => absurd e (by decide),
    fun e => absurd e (by decide),
    fun _ ht Z hZ => by
      have e := eq_of_heq hZ
      rw [← e]
      exact h ht,
    fun e => absurd e (by decide)⟩

theorem aft_30 {c : Dev nD} {t : Fin cfg0.N} {Y : (cfg0.win 30).block.Idx → Elt Ideal (cfg0.win 30).elt} {X : FVec Ideal S128x1 .f32} (h : t.val = 42 → ∀ r, X (ix2 r 0) = (inOf m c).C r) :
    Aft m c 30 t Y X :=
  ⟨fun h => absurd h (by decide),
    fun e => absurd e (by decide),
    fun e => absurd e (by decide),
    fun e => absurd e (by decide),
    fun _ ht Z hZ => by
      have e := eq_of_heq hZ
      rw [← e]
      exact h ht⟩

theorem found0 {c : Dev nD} {t : Fin cfg0.N} {Y} (h : (rdat m (Inv m) (Aft m) c).Finds 0 t Y) : Y = iblk m c 0 t := by
  obtain ⟨d, hd⟩ := (rdat m (Inv m) (Aft m) c).finds_in_eq_fetched 0 rfl (fun _ _ _ => rfl) (fun t Y X hX => hX.ins (by decide)) t Y h
  rw [hd]
  unfold RDat.fetched RDat.blockOf iblk
  rfl

theorem found1 {c : Dev nD} {t : Fin cfg0.N} {Y} (h : (rdat m (Inv m) (Aft m) c).Finds 1 t Y) : Y = iblk m c 1 t := by
  obtain ⟨d, hd⟩ := (rdat m (Inv m) (Aft m) c).finds_in_eq_fetched 1 rfl (fun _ _ _ => rfl) (fun t Y X hX => hX.ins (by decide)) t Y h
  rw [hd]
  unfold RDat.fetched RDat.blockOf iblk
  rfl

theorem found2 {c : Dev nD} {t : Fin cfg0.N} {Y} (h : (rdat m (Inv m) (Aft m) c).Finds 2 t Y) : Y = iblk m c 2 t := by
  obtain ⟨d, hd⟩ := (rdat m (Inv m) (Aft m) c).finds_in_eq_fetched 2 rfl (fun _ _ _ => rfl) (fun t Y X hX => hX.ins (by decide)) t Y h
  rw [hd]
  unfold RDat.fetched RDat.blockOf iblk
  rfl

theorem found7 {c : Dev nD} {t : Fin cfg0.N} {Y} (h : (rdat m (Inv m) (Aft m) c).Finds 7 t Y) : Y = iblk m c 7 t := by
  obtain ⟨d, hd⟩ := (rdat m (Inv m) (Aft m) c).finds_in_eq_fetched 7 rfl (fun _ _ _ => rfl) (fun t Y X hX => hX.ins (by decide)) t Y h
  rw [hd]
  unfold RDat.fetched RDat.blockOf iblk
  rfl

theorem found8 {c : Dev nD} {t : Fin cfg0.N} {Y} (h : (rdat m (Inv m) (Aft m) c).Finds 8 t Y) : Y = iblk m c 8 t := by
  obtain ⟨d, hd⟩ := (rdat m (Inv m) (Aft m) c).finds_in_eq_fetched 8 rfl (fun _ _ _ => rfl) (fun t Y X hX => hX.ins (by decide)) t Y h
  rw [hd]
  unfold RDat.fetched RDat.blockOf iblk
  rfl

theorem found9 {c : Dev nD} {t : Fin cfg0.N} {Y} (h : (rdat m (Inv m) (Aft m) c).Finds 9 t Y) : Y = iblk m c 9 t := by
  obtain ⟨d, hd⟩ := (rdat m (Inv m) (Aft m) c).finds_in_eq_fetched 9 rfl (fun _ _ _ => rfl) (fun t Y X hX => hX.ins (by decide)) t Y h
  rw [hd]
  unfold RDat.fetched RDat.blockOf iblk
  rfl

theorem found10 {c : Dev nD} {t : Fin cfg0.N} {Y} (h : (rdat m (Inv m) (Aft m) c).Finds 10 t Y) : Y = iblk m c 10 t := by
  obtain ⟨d, hd⟩ := (rdat m (Inv m) (Aft m) c).finds_in_eq_fetched 10 rfl (fun _ _ _ => rfl) (fun t Y X hX => hX.ins (by decide)) t Y h
  rw [hd]
  unfold RDat.fetched RDat.blockOf iblk
  rfl

theorem found11 {c : Dev nD} {t : Fin cfg0.N} {Y} (h : (rdat m (Inv m) (Aft m) c).Finds 11 t Y) : Y = iblk m c 11 t := by
  obtain ⟨d, hd⟩ := (rdat m (Inv m) (Aft m) c).finds_in_eq_fetched 11 rfl (fun _ _ _ => rfl) (fun t Y X hX => hX.ins (by decide)) t Y h
  rw [hd]
  unfold RDat.fetched RDat.blockOf iblk
  rfl

theorem found16 {c : Dev nD} {t : Fin cfg0.N} {Y} (h : (rdat m (Inv m) (Aft m) c).Finds 16 t Y) : Y = iblk m c 16 t := by
  obtain ⟨d, hd⟩ := (rdat m (Inv m) (Aft m) c).finds_in_eq_fetched 16 rfl (fun _ _ _ => rfl) (fun t Y X hX => hX.ins (by decide)) t Y h
  rw [hd]
  unfold RDat.fetched RDat.blockOf iblk
  rfl

theorem found17 {c : Dev nD} {t : Fin cfg0.N} {Y} (h : (rdat m (Inv m) (Aft m) c).Finds 17 t Y) : Y = iblk m c 17 t := by
  obtain ⟨d, hd⟩ := (rdat m (Inv m) (Aft m) c).finds_in_eq_fetched 17 rfl (fun _ _ _ => rfl) (fun t Y X hX => hX.ins (by decide)) t Y h
  rw [hd]
  unfold RDat.fetched RDat.blockOf iblk
  rfl

theorem found22 {c : Dev nD} {t : Fin cfg0.N} {Y} (h : (rdat m (Inv m) (Aft m) c).Finds 22 t Y) :
    ∃ d, Y = (cfg0.win 22).fill (cfg0.grid.coords t) d (iblk m c 22 t) := by
  obtain ⟨d, hd⟩ := (rdat m (Inv m) (Aft m) c).finds_in_eq_fetched 22 rfl clip22 (fun t Y X hX => hX.ins (by decide)) t Y h
  refine ⟨d, ?_⟩
  rw [hd]
  unfold RDat.fetched RDat.blockOf iblk
  rfl

theorem found23 {c : Dev nD} {t : Fin cfg0.N} {Y} (h : (rdat m (Inv m) (Aft m) c).Finds 23 t Y) :
    ∃ d, Y = (cfg0.win 23).fill (cfg0.grid.coords t) d (iblk m c 23 t) := by
  obtain ⟨d, hd⟩ := (rdat m (Inv m) (Aft m) c).finds_in_eq_fetched 23 rfl clip23 (fun t Y X hX => hX.ins (by decide)) t Y h
  refine ⟨d, ?_⟩
  rw [hd]
  unfold RDat.fetched RDat.blockOf iblk
  rfl

/-- The staging buffers at a point hold the point's blocks. -/
theorem hasAt_of {c : Dev nD} {t : Fin cfg0.N} {Y : Wins Ideal} (S : Scr Ideal) (h : ∀ w, (rdat m (Inv m) (Aft m) c).Finds w t (Y w)) :
    HasAt (inOf m c) t.val (pt_lt t) (St.of Y S) := by
  obtain ⟨d22, e22⟩ := found22 m (h 22)
  obtain ⟨d23, e23⟩ := found23 m (h 23)
  constructor
  · intro r k; show Y 0 (ix2 r k) = _; rw [found0 m (h 0)]; exact blk0 m c t r k
  · intro r k; show Y 1 (ix2 r k) = _; rw [found1 m (h 1)]; exact blk1 m c t r k
  · intro k; show Y 2 (ix2 0 k) = _; rw [found2 m (h 2)]; exact blk2 m c t k
  · intro j w; show Y 7 (ix2 j w) = _; rw [found7 m (h 7)]; exact blk7 m c t j w _ rfl
  · intro j w; show Y 8 (ix2 j w) = _; rw [found8 m (h 8)]; exact blk8 m c t j w _ rfl
  · intro w k; show Y 9 (ix2 w k) = _; rw [found9 m (h 9)]; exact blk9 m c t w k _ rfl
  · intro b j; show Y 10 (ix2 b j) = _; rw [found10 m (h 10)]; exact blk10 m c t b j _ rfl
  · intro b j; show Y 11 (ix2 b j) = _; rw [found11 m (h 11)]; exact blk11 m c t b j _ rfl
  · intro b j; show Y 16 (ix2 b j) = _; rw [found16 m (h 16)]; exact blk16 m c t b j _ rfl
  · intro b j; show Y 17 (ix2 b j) = _; rw [found17 m (h 17)]; exact blk17 m c t b j _ rfl
  · intro b k
    show Y 22 (ix2 _ k) = _
    rw [e22]
    exact blk22 m c t _ k _ (by dsimp only; omega) (by dsimp only; omega) d22
  · intro b k
    show Y 23 (ix2 _ k) = _
    rw [e23]
    exact blk23 m c t _ k _ (by dsimp only; omega) (by dsimp only; omega) d23

theorem point_of {a : PUnit} {V W : St Ideal} {i : grid0.Coords} (h : (a, W) = e_body V i) : ∃ B, PointOf V i B W := by
  have e := congrArg Prod.snd h
  change W = _ at e
  rw [e]
  exact point V i

/-- What a point leaves in every window's buffer. -/
theorem allW_of {c : Dev nD} {t : Fin cfg0.N} {Y : Wins Ideal} {S : Scr Ideal} {W : St Ideal} (e : Ins W (St.of Y S))
    (d : Done (inOf m c) t.val (pt_lt t) W) : AllW (fun w => Aft m c w t (Y w)) W := by
  unfold AllW
  exact ⟨Aft.of_in (by decide) e.x1,
    Aft.of_in (by decide) e.x2,
    Aft.of_in (by decide) e.x3,
    Aft.of_in (by decide) e.x4,
    Aft.of_in (by decide) e.x5,
    Aft.of_in (by decide) e.x6,
    Aft.of_in (by decide) e.x7,
    Aft.of_in (by decide) e.x8,
    Aft.of_in (by decide) e.x9,
    Aft.of_in (by decide) e.x10,
    Aft.of_in (by decide) e.x11,
    Aft.of_in (by decide) e.x12,
    Aft.of_in (by decide) e.x13,
    Aft.of_in (by decide) e.x14,
    Aft.of_in (by decide) e.x15,
    Aft.of_in (by decide) e.x16,
    Aft.of_in (by decide) e.x17,
    Aft.of_in (by decide) e.x18,
    Aft.of_in (by decide) e.x19,
    Aft.of_in (by decide) e.x20,
    Aft.of_in (by decide) e.x21,
    Aft.of_in (by decide) e.x22,
    Aft.of_in (by decide) e.x23,
    Aft.of_in (by decide) e.x24,
    Aft.of_in (by decide) e.x25,
    Aft.of_in (by decide) e.x26,
    Aft.of_in (by decide) e.x27,
    Aft.of_in (by decide) e.x28,
    aft_28 m d.x29,
    aft_29 m d.x30,
    aft_30 m d.x31,
    aft_31 m d.x32,
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide),
    Aft.of_out (by decide)⟩

/-- The run, with what every array holds at the end. -/
theorem run_vals : θ_run defs (onTc (τ := τ) (main (F := Ideal))) (s₀ m ρ)
    (fun r => RDat.FramePost cfg0 (rdat m (Inv m) (Aft m)) (V m) r ∧ r.2.sem = fun _ => 0) :=
  run_of m ρ (Inv m) (Aft m) (fun c S h => absurd rfl h) fun c t Y S hY hS =>
    (tri_body c (argsAt t) (St.of Y S) (grid0.coords t)).mono fun a W h => by
      obtain ⟨B, p⟩ := point_of h
      have hi : Ins W (St.of Y S) := by
        by_cases h0 : (grid0.coords t 0).val = 0
        · have := p.front.ins
          rw [p.first h0] at this
          exact this.trans (h1_ins _ _)
        · have := p.front.ins
          rw [p.later h0] at this
          exact this
      have d := done_of (pt_lt t) (pt_val t) (hasAt_of m S hY) p hS
      exact ⟨fun _ => d.acc, allW_of m hi d⟩

theorem arr28 {r' : PUnit × MemSt nD τ sig (Elt Ideal)} (h : RDat.FramePost cfg0 (rdat m (Inv m) (Aft m)) (V m) r') (c : Dev nD) (r : Fin 128) (k : Fin 4096) :
    r'.2.mem ((c.tc : Thread nD τ).loc main_v24_0) (ix2 r k) = (inOf m c).Y r k := by
  obtain ⟨X, ⟨Y, _, hX⟩, hG⟩ := RDat.ArrAt.emb_eq_of_wholeAt ((h c).1 28) (t₀ := ⟨42, by decide⟩) (by decide +kernel)
  have e := hG (ix2 r k)
  refine Eq.trans ?_ (hX.o28 rfl rfl X HEq.rfl r k)
  refine Eq.trans e ?_
  refine congrArg X (funext fun a => ?_)
  match a with
  | ⟨0, _⟩ => rfl
  | ⟨1, _⟩ => rfl

theorem arr29 {r' : PUnit × MemSt nD τ sig (Elt Ideal)} (h : RDat.FramePost cfg0 (rdat m (Inv m) (Aft m)) (V m) r') (c : Dev nD) (r : Fin 128) (k : Fin 4096) :
    r'.2.mem ((c.tc : Thread nD τ).loc main_v24_1) (ix2 r k) = (inOf m c).DX r k := by
  obtain ⟨X, ⟨Y, _, hX⟩, hG⟩ := RDat.ArrAt.emb_eq_of_wholeAt ((h c).1 29) (t₀ := ⟨42, by decide⟩) (by decide +kernel)
  have e := hG (ix2 r k)
  refine Eq.trans ?_ (hX.o29 rfl rfl X HEq.rfl r k)
  refine Eq.trans e ?_
  refine congrArg X (funext fun a => ?_)
  match a with
  | ⟨0, _⟩ => rfl
  | ⟨1, _⟩ => rfl

theorem arr30 {r' : PUnit × MemSt nD τ sig (Elt Ideal)} (h : RDat.FramePost cfg0 (rdat m (Inv m) (Aft m)) (V m) r') (c : Dev nD) (r : Fin 128) :
    r'.2.mem ((c.tc : Thread nD τ).loc main_v24_2) (ix2 r 0) = (inOf m c).C r := by
  obtain ⟨X, ⟨Y, _, hX⟩, hG⟩ := RDat.ArrAt.emb_eq_of_wholeAt ((h c).1 30) (t₀ := ⟨42, by decide⟩) (by decide +kernel)
  have e := hG (ix2 r 0)
  refine Eq.trans ?_ (hX.o30 rfl rfl X HEq.rfl r)
  refine Eq.trans e ?_
  refine congrArg X (funext fun a => ?_)
  match a with
  | ⟨0, _⟩ => rfl
  | ⟨1, _⟩ => rfl

theorem arr31 {r' : PUnit × MemSt nD τ sig (Elt Ideal)} (h : RDat.FramePost cfg0 (rdat m (Inv m) (Aft m)) (V m) r') (c : Dev nD) :
    r'.2.mem ((c.tc : Thread nD τ).loc main_v24_3) = (fun y => (inOf m c).H (y 0) (y 1) : FVec Ideal S128x11008 .bf16) := by
  obtain ⟨X, hX, hA⟩ := RDat.ArrAt.exists_exact ((h c).1 31)
  have hu : (Function.update (fun _ _ _ => Classical.arbitrary _) 31 X : (w' : Fin cfg0.W) → Fin cfg0.N → (cfg0.win w').block.Idx → Elt Ideal (cfg0.win w').elt) 31 = X := Function.update_self ..
  generalize (Function.update (fun _ _ _ => Classical.arbitrary _) 31 X : (w' : Fin cfg0.W) → Fin cfg0.N → (cfg0.win w').block.Idx → Elt Ideal (cfg0.win w').elt) = aft at hu
  refine Eq.trans (hA aft fun u _ _ => by rw [hu]) ?_
  refine ((rdat m (Inv m) (Aft m) c).withAfter aft).arrAt_eq_of_covers 31 _ (by decide +kernel) fun t hf y => ?_
  obtain ⟨Y, _, hL⟩ := hX t t.isLt hf
  have hL' := hL.o31 rfl (X t) HEq.rfl
  have e : ((rdat m (Inv m) (Aft m) c).withAfter aft).after 31 t = X t := by rw [RDat.withAfter_after, hu]
  rw [e]
  blk_simp
  have ey : ((fun a => y a : S128x256.Idx)) = ix2 (y 0 : Fin 128) (y 1 : Fin 256) := by
    funext a
    match a with
    | ⟨0, _⟩ => rfl
    | ⟨1, _⟩ => rfl
  have a0 : (((win0_31.blk t).view.emb y 0 : Fin 128)) = (y 0 : Fin 128) := Fin.ext (by blk_simp [wix31 t])
  have a1 : (((win0_31.blk t).view.emb y 1 : Fin 11008)) = hid t.val (pt_lt t) (y 1 : Fin 256) := Fin.ext (by unfold hid; blk_simp [wix31 t]; exact congrArg (· + (y 1).val) (Nat.mul_comm t.val 256))
  exact (congrArg (X t) ey).trans ((hL' (y 0) (y 1)).trans (congrArg₂ (inOf m c).H a0 a1).symm)

theorem args_of {r : PUnit × MemSt nD τ sig (Elt Ideal)} (h : RDat.FramePost cfg0 (rdat m (Inv m) (Aft m)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (h.arr_in c 7 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (h.arr_in c 8 rfl).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      (h.arr_in c 3 rfl).trans (V_main_arg24 m c),
      (h.arr_in c 4 rfl).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c)⟩

/-- The four results of the run, in closed form, and the arguments unchanged. -/
theorem vals : θ_run defs (onTc (τ := τ) (main (F := Ideal))) ⟨m, fun _ => 0, ρ⟩ (fun r => ∀ c : Dev nD,
      (∀ (i : Fin 128) (k : Fin 4096), r.2.mem ((c.tc : Thread nD τ).loc main_v24_0) (ix2 i k) = (inOf m c).Y i k)
      ∧ (∀ (i : Fin 128) (k : Fin 4096), r.2.mem ((c.tc : Thread nD τ).loc main_v24_1) (ix2 i k) = (inOf m c).DX i k)
      ∧ (∀ (i : Fin 128), r.2.mem ((c.tc : Thread nD τ).loc main_v24_2) (ix2 i 0) = (inOf m c).C i)
      ∧ (∀ (i : Fin 128) (n : Fin 11008), r.2.mem ((c.tc : Thread nD τ).loc main_v24_3) (ix2 i n) = (inOf m c).H i n)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))) :=
  (θ_run defs _ _).mono (fun _ h c => ⟨arr28 m h.1 c, arr29 m h.1 c, arr30 m h.1 c, fun i n => congrFun (arr31 m h.1 c) (ix2 i n), args_of m h.1 c⟩) (run_vals m ρ)

end Cert.Proof.KI

end
-- ==== Proof.RI.Stage.lean ====
module

public import proofs.«01_k».proof.Proof.Gen.ReferenceIdeal.Run
public import proofs.«01_k».proof.Proof.KI.Glob
public import Idealize.ShloMosaic.Lib.Pointwise
public import Idealize.ShloMosaic.Lib.IdealHost
public import Idealize.ShloMosaic.Lib.Claim

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

/-! The reference's values, stage by stage, each read at an index. -/

/-- The activations of the one batch entry. -/
def rX (x : FVec Ideal S1x128x4096 .bf16) : FVec Ideal S128x4096 .f32 :=
  extf .f32 (shapeCast _ x shapeCasts_S1x128x4096_S128x4096) bitsLt_bf16_f32

/-- The reciprocal root mean square of each row. -/
def rR (X : FVec Ideal S128x4096 .f32) : FVec Ideal S128x1 .f32 :=
  Host.divf (broadcastInDim S128x1 ![] bcast_S_S128x1 (constant S_ .f32 0x3F800000#32)) (Host.sqrt (addf (Host.divf (broadcastInDim S128x1 ![0] bcast_S128_S128x1_0 (Host.reduceAdd (mulf X X) (constant S_ .f32 0x00000000#32) reducesTo_S128x4096_S128_d1 h_S_)) (broadcastInDim S128x1 ![] bcast_S_S128x1 (constant S_ .f32 0x45800000#32))) (broadcastInDim S128x1 ![] bcast_S_S128x1 (constant S_ .f32 0x3727C5AC#32))))

/-- The normalised activations. -/
def rA (X : FVec Ideal S128x4096 .f32) (R : FVec Ideal S128x1 .f32) (nw : FVec Ideal S4096 .f32) : FVec Ideal S128x4096 .bf16 :=
  truncf .bf16 (mulf (mulf X (broadcastInDim S128x4096 ![0, 1] bcast_S128x1_S128x4096_0_1 R)) (broadcastInDim S128x4096 ![0, 1] bcast_S1x4096_S128x4096_0_1 (broadcastInDim S1x4096 ![1] bcast_S4096_S1x4096_1 nw))) bitsLt_bf16_f32

/-- The gate or the up weights. -/
def rW (q : Vec Ideal S11008x256 .i32) (z s : FVec Ideal S11008x64 .f32) : FVec Ideal S11008x4096 .bf16 :=
  shapeCast _ (truncf .bf16 (mulf (broadcastInDim S11008x64x64 ![0, 1, 2] bcast_S11008x64x1_S11008x64x64_0_1_2 (broadcastInDim S11008x64x1 ![0, 1] bcast_S11008x64_S11008x64x1_0_1 s)) (subf (uitofp .f32 (shapeCast _ (andi (Host.shrui (broadcastInDim S11008x256x16 ![0, 1, 2] bcast_S11008x256x1_S11008x256x16_0_1_2 (broadcastInDim S11008x256x1 ![0, 1] bcast_S11008x256_S11008x256x1_0_1 (id q))) (broadcastInDim S11008x256x16 ![0, 1, 2] bcast_S1x1x16_S11008x256x16_0_1_2 (broadcastInDim S1x1x16 ![2] bcast_S16_S1x1x16_2 (muli (broadcastInDim S16 ![] bcast_S_S16 (constantI S_ 32 2#32)) (iotaInDim S16 32 0))))) (broadcastInDim S11008x256x16 ![] bcast_S_S11008x256x16 (constantI S_ 32 3#32))) shapeCasts_S11008x256x16_S11008x64x64)) (broadcastInDim S11008x64x64 ![0, 1, 2] bcast_S11008x64x1_S11008x64x64_0_1_2 (broadcastInDim S11008x64x1 ![0, 1] bcast_S11008x64_S11008x64x1_0_1 z)))) bitsLt_bf16_f32) shapeCasts_S11008x64x64_S11008x4096

/-- The down weights. -/
def rWD (q : Vec Ideal S4096x688 .i32) (z s : FVec Ideal S4096x172 .f32) : FVec Ideal S4096x11008 .bf16 :=
  shapeCast _ (truncf .bf16 (mulf (broadcastInDim S4096x172x64 ![0, 1, 2] bcast_S4096x172x1_S4096x172x64_0_1_2 (broadcastInDim S4096x172x1 ![0, 1] bcast_S4096x172_S4096x172x1_0_1 s)) (subf (uitofp .f32 (shapeCast _ (andi (Host.shrui (broadcastInDim S4096x688x16 ![0, 1, 2] bcast_S4096x688x1_S4096x688x16_0_1_2 (broadcastInDim S4096x688x1 ![0, 1] bcast_S4096x688_S4096x688x1_0_1 (id q))) (broadcastInDim S4096x688x16 ![0, 1, 2] bcast_S1x1x16_S4096x688x16_0_1_2 (broadcastInDim S1x1x16 ![2] bcast_S16_S1x1x16_2 (muli (broadcastInDim S16 ![] bcast_S_S16 (constantI S_ 32 2#32)) (iotaInDim S16 32 0))))) (broadcastInDim S4096x688x16 ![] bcast_S_S4096x688x16 (constantI S_ 32 3#32))) shapeCasts_S4096x688x16_S4096x172x64)) (broadcastInDim S4096x172x64 ![0, 1, 2] bcast_S4096x172x1_S4096x172x64_0_1_2 (broadcastInDim S4096x172x1 ![0, 1] bcast_S4096x172_S4096x172x1_0_1 z)))) bitsLt_bf16_f32) shapeCasts_S4096x172x64_S4096x11008

/-- A projection of the normalised activations. -/
def rG (A : FVec Ideal S128x4096 .bf16) (W : FVec Ideal S11008x4096 .bf16) : FVec Ideal S128x11008 .f32 :=
  Host.dotGeneral dot_S128x4096_S11008x4096_S128x11008_1_1_0_0_n_n none A W

/-- The gradient at the hidden activations. -/
def rDH (dy : FVec Ideal S1x128x4096 .bf16) (WD : FVec Ideal S4096x11008 .bf16) : FVec Ideal S128x11008 .f32 :=
  Host.dotGeneral dot_S128x4096_S4096x11008_S128x11008_1_0_0_1_n_n none (shapeCast _ dy shapeCasts_S1x128x4096_S128x4096) WD

/-- The logistic function of the gate projection. -/
def rSG (G : FVec Ideal S128x11008 .f32) : FVec Ideal S128x11008 .f32 :=
  Host.divf (broadcastInDim S128x11008 ![] bcast_S_S128x11008 (constant S_ .f32 0x3F800000#32)) (addf (broadcastInDim S128x11008 ![] bcast_S_S128x11008 (constant S_ .f32 0x3F800000#32)) (Host.exp (Host.negf G)))

/-- The hidden activations. -/
def rH (G SG U : FVec Ideal S128x11008 .f32) : FVec Ideal S128x11008 .bf16 :=
  truncf .bf16 (mulf (mulf G SG) U) bitsLt_bf16_f32

/-- The gradient at the gate projection. -/
def rDG (G SG U DH : FVec Ideal S128x11008 .f32) : FVec Ideal S128x11008 .bf16 :=
  truncf .bf16 (mulf (mulf (mulf DH U) SG) (addf (broadcastInDim S128x11008 ![] bcast_S_S128x11008 (constant S_ .f32 0x3F800000#32)) (mulf G (subf (broadcastInDim S128x11008 ![] bcast_S_S128x11008 (constant S_ .f32 0x3F800000#32)) SG)))) bitsLt_bf16_f32

/-- The gradient at the up projection. -/
def rDU (G SG DH : FVec Ideal S128x11008 .f32) : FVec Ideal S128x11008 .bf16 :=
  truncf .bf16 (mulf (mulf DH G) SG) bitsLt_bf16_f32

/-- The gradient at the normalised activations. -/
def rDA (DG DU : FVec Ideal S128x11008 .bf16) (WG WU : FVec Ideal S11008x4096 .bf16) : FVec Ideal S128x4096 .f32 :=
  addf (Host.dotGeneral dot_S128x11008_S11008x4096_S128x4096_1_0_0_1_n_n none DG WG) (Host.dotGeneral dot_S128x11008_S11008x4096_S128x4096_1_0_0_1_n_n none DU WU)

/-- The layer's output. -/
def rY (X : FVec Ideal S128x4096 .f32) (H : FVec Ideal S128x11008 .bf16) (WD : FVec Ideal S4096x11008 .bf16) : FVec Ideal S128x4096 .bf16 :=
  truncf .bf16 (addf X (Host.dotGeneral dot_S128x11008_S4096x11008_S128x4096_1_1_0_0_n_n none H WD)) bitsLt_bf16_f32

/-- The row scalar of the norm's gradient. -/
def rC (X DA : FVec Ideal S128x4096 .f32) (R : FVec Ideal S128x1 .f32) (nw : FVec Ideal S4096 .f32) : FVec Ideal S128x1 .f32 :=
  mulf R (Host.divf (broadcastInDim S128x1 ![0] bcast_S128_S128x1_0 (Host.reduceAdd (mulf (mulf DA (broadcastInDim S128x4096 ![0, 1] bcast_S1x4096_S128x4096_0_1 (broadcastInDim S1x4096 ![1] bcast_S4096_S1x4096_1 nw))) X) (constant S_ .f32 0x00000000#32) reducesTo_S128x4096_S128_d1 h_S_)) (broadcastInDim S128x1 ![] bcast_S_S128x1 (constant S_ .f32 0x45800000#32)))

/-- The gradient at the layer's input. -/
def rDX (dy : FVec Ideal S1x128x4096 .bf16) (X DA : FVec Ideal S128x4096 .f32) (R C : FVec Ideal S128x1 .f32) (nw : FVec Ideal S4096 .f32) : FVec Ideal S128x4096 .bf16 :=
  truncf .bf16 (addf (extf .f32 (shapeCast _ dy shapeCasts_S1x128x4096_S128x4096) bitsLt_bf16_f32) (mulf (broadcastInDim S128x4096 ![0, 1] bcast_S128x1_S128x4096_0_1 R) (subf (mulf DA (broadcastInDim S128x4096 ![0, 1] bcast_S1x4096_S128x4096_0_1 (broadcastInDim S1x4096 ![1] bcast_S4096_S1x4096_1 nw))) (mulf (mulf X (broadcastInDim S128x4096 ![0, 1] bcast_S128x1_S128x4096_0_1 R)) (broadcastInDim S128x4096 ![0, 1] bcast_S128x1_S128x4096_0_1 C))))) bitsLt_bf16_f32

variable (m : (ℓ : Loc nD τ sig) → Buf (Elt Ideal) ℓ) (c : Dev nD)

def vX := rX (m ((c.tc : Thread nD τ).loc main_arg0))
def vR := rR (vX m c)
def vA := rA (vX m c) (vR m c) (m ((c.tc : Thread nD τ).loc main_arg2))
def vWG := rW (m ((c.tc : Thread nD τ).loc main_arg3)) (m ((c.tc : Thread nD τ).loc main_arg4)) (m ((c.tc : Thread nD τ).loc main_arg5))
def vWU := rW (m ((c.tc : Thread nD τ).loc main_arg10)) (m ((c.tc : Thread nD τ).loc main_arg11)) (m ((c.tc : Thread nD τ).loc main_arg12))
def vWD := rWD (m ((c.tc : Thread nD τ).loc main_arg17)) (m ((c.tc : Thread nD τ).loc main_arg18)) (m ((c.tc : Thread nD τ).loc main_arg19))
def vG := rG (vA m c) (vWG m c)
def vU := rG (vA m c) (vWU m c)
def vDH := rDH (m ((c.tc : Thread nD τ).loc main_arg1)) (vWD m c)
def vSG := rSG (vG m c)
def vH := rH (vG m c) (vSG m c) (vU m c)
def vDG := rDG (vG m c) (vSG m c) (vU m c) (vDH m c)
def vDU := rDU (vG m c) (vSG m c) (vDH m c)
def vDA := rDA (vDG m c) (vDU m c) (vWG m c) (vWU m c)
def vY := rY (vX m c) (vH m c) (vWD m c)
def vC := rC (vX m c) (vDA m c) (vR m c) (m ((c.tc : Thread nD τ).loc main_arg2))
def vDX := rDX (m ((c.tc : Thread nD τ).loc main_arg1)) (vX m c) (vDA m c) (vR m c) (vC m c) (m ((c.tc : Thread nD τ).loc main_arg2))

theorem res_v92 : res_main_v92 m c = vH m c := by unfold res_main_v92; rfl
theorem res_v95 : res_main_v95 m c = vY m c := by unfold res_main_v95; rfl
theorem res_v126 : res_main_v126 m c = vC m c := by unfold res_main_v126; rfl
theorem res_v136 : res_main_v136 m c = vDX m c := by unfold res_main_v136; rfl

theorem rX_at (x : FVec Ideal S1x128x4096 .bf16) (r : Fin 128) (k : Fin 4096) : rX x (ix2 r k) = x (ix3 0 r k) := by
  pointwise [rX]

theorem rR_at (X : FVec Ideal S128x4096 .f32) (r : Fin 128) : rR X (ix2 r 0) =
    Ideal.div 1 (Ideal.sqrt (Ideal.div (∑ k, X (ix2 r k) * X (ix2 r k)) (Ideal.ofBits FTy.f32 1166016512#32) + Ideal.ofBits FTy.f32 925353388#32)) := by
  pointwise [rR]

theorem rA_at (X : FVec Ideal S128x4096 .f32) (R : FVec Ideal S128x1 .f32) (nw : FVec Ideal S4096 .f32) (r : Fin 128) (k : Fin 4096) :
    rA X R nw (ix2 r k) = X (ix2 r k) * R (ix2 r 0) * nw (ix1 k) := by
  pointwise [rA]

theorem code_u (w : BitVec 32) (f : ℕ) (hf : f < 16) :
    FloatOps.uitofp (F := Ideal) FTy.f32 (IntOp.andi (IntOp.shrui ArithUnit.host w (IntOp.muli (2#32) (BitVec.ofNat 32 f))) 3#32) = KI.code w f := by
  have h : (IntOp.muli (2#32) (BitVec.ofNat 32 f)).toNat < 32 := by
    show (2#32 * BitVec.ofNat 32 f).toNat < 32
    rw [BitVec.toNat_mul, BitVec.toNat_ofNat, BitVec.toNat_ofNat]
    omega
  unfold KI.code IntOp.shrui
  rw [if_pos h, if_pos h]
  generalize w >>> IntOp.muli (2#32) (BitVec.ofNat 32 f) = v
  show (((IntOp.andi v 3#32).toNat : ℝ) : EReal) = (((IntOp.andi v 3#32).toInt : ℝ) : EReal)
  have h3 : (IntOp.andi v 3#32).toNat < 4 := by
    show (v &&& 3#32).toNat < 4
    rw [BitVec.toNat_and]
    exact lt_of_le_of_lt Nat.and_le_right (by decide)
  have e : (IntOp.andi v 3#32).toInt = ((IntOp.andi v 3#32).toNat : ℤ) := by
    rw [BitVec.toInt_eq_toNat_cond, if_pos (by omega)]
  rw [e, Int.cast_natCast]

theorem rW_at (q : Vec Ideal S11008x256 .i32) (z s : FVec Ideal S11008x64 .f32) (n : Fin 11008) (k : Fin 4096) :
    rW q z s (ix2 n k) = s (ix2 n ⟨k.val / 64, by omega⟩) * (KI.code (q (ix2 n ⟨k.val / 16, by omega⟩)) (k.val % 16) - z (ix2 n ⟨k.val / 64, by omega⟩)) := by
  pointwise [rW]
  have e1 : (⟨k.val / 64 * 4 + k.val % 64 / 16, by omega⟩ : Fin 256) = ⟨k.val / 16, by omega⟩ := Fin.ext (by dsimp only; omega)
  have e2 : k.val % 64 % 16 = k.val % 16 := by omega
  rw [code_u _ _ (by omega), e1, e2]
  rfl

theorem rWD_at (q : Vec Ideal S4096x688 .i32) (z s : FVec Ideal S4096x172 .f32) (k : Fin 4096) (n : Fin 11008) :
    rWD q z s (ix2 k n) = s (ix2 k ⟨n.val / 64, by omega⟩) * (KI.code (q (ix2 k ⟨n.val / 16, by omega⟩)) (n.val % 16) - z (ix2 k ⟨n.val / 64, by omega⟩)) := by
  pointwise [rWD]
  have e1 : (⟨n.val / 64 * 4 + n.val % 64 / 16, by omega⟩ : Fin 688) = ⟨n.val / 16, by omega⟩ := Fin.ext (by dsimp only; omega)
  have e2 : n.val % 64 % 16 = n.val % 16 := by omega
  rw [code_u _ _ (by omega), e1, e2]
  rfl

theorem rG_at (A : FVec Ideal S128x4096 .bf16) (W : FVec Ideal S11008x4096 .bf16) (r : Fin 128) (n : Fin 11008) :
    rG A W (ix2 r n) = ∑ k : Fin 4096, A (ix2 r k) * W (ix2 n k) := by
  pointwise [rG]

theorem rDH_at (dy : FVec Ideal S1x128x4096 .bf16) (W : FVec Ideal S4096x11008 .bf16) (r : Fin 128) (n : Fin 11008) :
    rDH dy W (ix2 r n) = ∑ k : Fin 4096, dy (ix3 0 r k) * W (ix2 k n) := by
  pointwise [rDH]

theorem rSG_at (G : FVec Ideal S128x11008 .f32) (r : Fin 128) (n : Fin 11008) : rSG G (ix2 r n) = KI.SG (G (ix2 r n)) := by
  unfold KI.SG
  pointwise [rSG]
  rw [zero_sub]

theorem rH_at (G SG U : FVec Ideal S128x11008 .f32) (r : Fin 128) (n : Fin 11008) :
    rH G SG U (ix2 r n) = G (ix2 r n) * SG (ix2 r n) * U (ix2 r n) := by
  pointwise [rH]

theorem rDG_at (G SG U DH : FVec Ideal S128x11008 .f32) (r : Fin 128) (n : Fin 11008) :
    rDG G SG U DH (ix2 r n) = DH (ix2 r n) * U (ix2 r n) * SG (ix2 r n) * (1 + G (ix2 r n) * (1 - SG (ix2 r n))) := by
  pointwise [rDG]

theorem rDU_at (G SG DH : FVec Ideal S128x11008 .f32) (r : Fin 128) (n : Fin 11008) :
    rDU G SG DH (ix2 r n) = DH (ix2 r n) * G (ix2 r n) * SG (ix2 r n) := by
  pointwise [rDU]

theorem rDA_at (DG DU : FVec Ideal S128x11008 .bf16) (WG WU : FVec Ideal S11008x4096 .bf16) (r : Fin 128) (k : Fin 4096) :
    rDA DG DU WG WU (ix2 r k) = (∑ n : Fin 11008, DG (ix2 r n) * WG (ix2 n k)) + ∑ n : Fin 11008, DU (ix2 r n) * WU (ix2 n k) := by
  pointwise [rDA]

theorem rY_at (X : FVec Ideal S128x4096 .f32) (H : FVec Ideal S128x11008 .bf16) (WD : FVec Ideal S4096x11008 .bf16) (r : Fin 128) (k : Fin 4096) :
    rY X H WD (ix2 r k) = X (ix2 r k) + ∑ n : Fin 11008, H (ix2 r n) * WD (ix2 k n) := by
  pointwise [rY]

theorem rC_at (X DA : FVec Ideal S128x4096 .f32) (R : FVec Ideal S128x1 .f32) (nw : FVec Ideal S4096 .f32) (r : Fin 128) :
    rC X DA R nw (ix2 r 0) = R (ix2 r 0) * Ideal.div (∑ k : Fin 4096, DA (ix2 r k) * nw (ix1 k) * X (ix2 r k)) (Ideal.ofBits FTy.f32 1166016512#32) := by
  pointwise [rC]

theorem rDX_at (dy : FVec Ideal S1x128x4096 .bf16) (X DA : FVec Ideal S128x4096 .f32) (R C : FVec Ideal S128x1 .f32) (nw : FVec Ideal S4096 .f32)
    (r : Fin 128) (k : Fin 4096) : rDX dy X DA R C nw (ix2 r k) =
      dy (ix3 0 r k) + R (ix2 r 0) * (DA (ix2 r k) * nw (ix1 k) - X (ix2 r k) * R (ix2 r 0) * C (ix2 r 0)) := by
  pointwise [rDX]

/-- The arguments of the reference as launched. -/
def inOf : KI.In where
  x r k := m ((c.tc : Thread nD τ).loc main_arg0) (ix3 0 r k)
  dy r k := m ((c.tc : Thread nD τ).loc main_arg1) (ix3 0 r k)
  nw k := m ((c.tc : Thread nD τ).loc main_arg2) (ix1 k)
  qg n w := m ((c.tc : Thread nD τ).loc main_arg3) (ix2 n w)
  zg n b := m ((c.tc : Thread nD τ).loc main_arg4) (ix2 n b)
  sg n b := m ((c.tc : Thread nD τ).loc main_arg5) (ix2 n b)
  qu n w := m ((c.tc : Thread nD τ).loc main_arg10) (ix2 n w)
  zu n b := m ((c.tc : Thread nD τ).loc main_arg11) (ix2 n b)
  su n b := m ((c.tc : Thread nD τ).loc main_arg12) (ix2 n b)
  qd k n := m ((c.tc : Thread nD τ).loc main_arg17) (ix2 k n)
  zd k n := m ((c.tc : Thread nD τ).loc main_arg18) (ix2 k n)
  sd k n := m ((c.tc : Thread nD τ).loc main_arg19) (ix2 k n)

theorem vX_at (r : Fin 128) (k : Fin 4096) : vX m c (ix2 r k) = (inOf m c).x r k := rX_at _ r k
theorem vR_at (r : Fin 128) : vR m c (ix2 r 0) = (inOf m c).R r := by
  unfold vR KI.In.R
  rw [rR_at]
  simp only [vX_at]
theorem vA_at (r : Fin 128) (k : Fin 4096) : vA m c (ix2 r k) = (inOf m c).A r k := by
  unfold vA KI.In.A
  rw [rA_at, vX_at, vR_at]
  rfl
theorem vWG_at (n : Fin 11008) (k : Fin 4096) : vWG m c (ix2 n k) = (inOf m c).GW k n := rW_at _ _ _ n k
theorem vWU_at (n : Fin 11008) (k : Fin 4096) : vWU m c (ix2 n k) = (inOf m c).UW k n := rW_at _ _ _ n k
theorem vWD_at (k : Fin 4096) (n : Fin 11008) : vWD m c (ix2 k n) = (inOf m c).DW n k := rWD_at _ _ _ k n
theorem vG_at (r : Fin 128) (n : Fin 11008) : vG m c (ix2 r n) = (inOf m c).G r n := by
  unfold vG KI.In.G
  rw [rG_at]
  simp only [vA_at, vWG_at]
theorem vU_at (r : Fin 128) (n : Fin 11008) : vU m c (ix2 r n) = (inOf m c).U r n := by
  unfold vU KI.In.U
  rw [rG_at]
  simp only [vA_at, vWU_at]
theorem vDH_at (r : Fin 128) (n : Fin 11008) : vDH m c (ix2 r n) = (inOf m c).D r n := by
  unfold vDH KI.In.D
  rw [rDH_at]
  simp only [vWD_at]
  rfl
theorem vSG_at (r : Fin 128) (n : Fin 11008) : vSG m c (ix2 r n) = KI.SG ((inOf m c).G r n) := by
  unfold vSG
  rw [rSG_at, vG_at]
theorem vH_at (r : Fin 128) (n : Fin 11008) : vH m c (ix2 r n) = (inOf m c).H r n := by
  unfold vH KI.In.H KI.hbF
  rw [rH_at, vG_at, vSG_at, vU_at]
theorem vDG_at (r : Fin 128) (n : Fin 11008) : vDG m c (ix2 r n) = (inOf m c).DG r n := by
  unfold vDG KI.In.DG KI.dgF
  rw [rDG_at, vG_at, vSG_at, vU_at, vDH_at]
theorem vDU_at (r : Fin 128) (n : Fin 11008) : vDU m c (ix2 r n) = (inOf m c).DU r n := by
  unfold vDU KI.In.DU KI.duF
  rw [rDU_at, vG_at, vSG_at, vDH_at]
theorem vDA_at (r : Fin 128) (k : Fin 4096) : vDA m c (ix2 r k) = (inOf m c).DA r k := by
  unfold vDA KI.In.DA
  rw [rDA_at]
  simp only [vDG_at, vDU_at, vWG_at, vWU_at]
theorem vY_at (r : Fin 128) (k : Fin 4096) : vY m c (ix2 r k) = (inOf m c).Y r k := by
  unfold vY KI.In.Y
  rw [rY_at]
  simp only [vX_at, vH_at, vWD_at]
theorem vC_at (r : Fin 128) : vC m c (ix2 r 0) = (inOf m c).C r := by
  unfold vC KI.In.C
  rw [rC_at]
  simp only [vR_at, vDA_at, vX_at]
  rfl
theorem vDX_at (r : Fin 128) (k : Fin 4096) : vDX m c (ix2 r k) = (inOf m c).DX r k := by
  unfold vDX KI.In.DX
  rw [rDX_at]
  simp only [vR_at, vDA_at, vX_at, vC_at]
  rfl

end Cert.Proof.RI

end
-- ==== Proof.Alg.Agree.lean ====
module

public import proofs.«01_k».proof.Defs
public import proofs.«01_k».proof.Proof.KI.RunV
public import proofs.«01_k».proof.Proof.RI.Stage

@[expose] public section

set_option maxRecDepth 16384

noncomputable section

namespace Cert.Proof

open Idealize.ShloMosaic Idealize.ShloMosaic.TcCoe Idealize.SL.Sem

/-! The kernel's four results are the reference's. -/

theorem KI.In.mk_eq {x x' : Fin 128 → Fin 4096 → EReal} {dy dy' : Fin 128 → Fin 4096 → EReal} {nw nw' : Fin 4096 → EReal}
    {qg qg' : Fin 11008 → Fin 256 → BitVec 32} {zg zg' sg sg' : Fin 11008 → Fin 64 → EReal} {qu qu' : Fin 11008 → Fin 256 → BitVec 32}
    {zu zu' su su' : Fin 11008 → Fin 64 → EReal} {qd qd' : Fin 4096 → Fin 688 → BitVec 32} {zd zd' sd sd' : Fin 4096 → Fin 172 → EReal}
    (h1 : x = x') (h2 : dy = dy') (h3 : nw = nw') (h4 : qg = qg') (h5 : zg = zg') (h6 : sg = sg') (h7 : qu = qu') (h8 : zu = zu') (h9 : su = su')
    (h10 : qd = qd') (h11 : zd = zd') (h12 : sd = sd') :
    KI.In.mk x dy nw qg zg sg qu zu su qd zd sd = KI.In.mk x' dy' nw' qg' zg' sg' qu' zu' su' qd' zd' sd' := by
  subst h1 h2 h3 h4 h5 h6 h7 h8 h9 h10 h11 h12
  rfl

theorem eta2 {s : Shape} {p q : ℕ} (hs : s = ⟨2, ![p, q]⟩) (f g : s.Idx → EReal)
    (h : ∀ (i : Fin p) (j : Fin q), f (hs ▸ ix2 i j) = g (hs ▸ ix2 i j)) : f = g := by
  subst hs
  funext y
  have e : y = ix2 (y 0 : Fin p) (y 1 : Fin q) := by
    funext a
    match a with
    | ⟨0, _⟩ => rfl
    | ⟨1, _⟩ => rfl
  rw [e]
  exact h _ _

theorem algebraic : Cert.algebraic_KernelIdeal_ReferenceIdeal (hKernelIdeal := Cert.KernelIdeal.Gen.facts) (hReferenceIdeal := Cert.ReferenceIdeal.Gen.facts) := by
  intro m g m' g' _ hargs
  have hin : ∀ c, RI.inOf m' c = KI.inOf m c := fun c => by
    obtain ⟨a0, a1, a2, a3, a4, a5, a6, a7, a8, a9, a10, a11, a12, a13, a14, a15, a16, a17, a18, a19, a20, a21, a22, a23, a24, a25, a26, a27⟩ := hargs c
    exact KI.In.mk_eq (funext fun r => funext fun k => congrFun a0 (ix3 0 r k)) (funext fun r => funext fun k => congrFun a1 (ix3 0 r k))
      (funext fun k => congrFun a2 (ix1 k))
      (funext fun n => funext fun w => congrFun a3 (ix2 n w)) (funext fun n => funext fun b => congrFun a4 (ix2 n b)) (funext fun n => funext fun b => congrFun a5 (ix2 n b))
      (funext fun n => funext fun w => congrFun a10 (ix2 n w)) (funext fun n => funext fun b => congrFun a11 (ix2 n b)) (funext fun n => funext fun b => congrFun a12 (ix2 n b))
      (funext fun k => funext fun n => congrFun a17 (ix2 k n)) (funext fun k => funext fun n => congrFun a18 (ix2 k n)) (funext fun k => funext fun n => congrFun a19 (ix2 k n))
  refine ⟨fun c => RI.vY m' c, fun c => RI.vDX m' c, fun c => RI.vC m' c, fun c => RI.vH m' c, ?_, ?_⟩
  · refine (θ_run _ _ _).mono (fun r h c => ?_) (KI.vals m g)
    obtain ⟨h0, h1, h2, h3, ha⟩ := h c
    refine ⟨?_, ?_, ?_, ?_, ha⟩
    · refine eta2 (p := 128) (q := 4096) rfl _ _ fun i k => ?_
      exact (h0 i k).trans (by rw [← hin c]; exact (RI.vY_at m' c i k).symm)
    · refine eta2 (p := 128) (q := 4096) rfl _ _ fun i k => ?_
      exact (h1 i k).trans (by rw [← hin c]; exact (RI.vDX_at m' c i k).symm)
    · refine eta2 (p := 128) (q := 1) rfl _ _ fun i j => ?_
      have ej : j = 0 := Subsingleton.elim _ _
      subst ej
      exact (h2 i).trans (by rw [← hin c]; exact (RI.vC_at m' c i).symm)
    · refine eta2 (p := 128) (q := 11008) rfl _ _ fun i n => ?_
      exact (h3 i n).trans (by rw [← hin c]; exact (RI.vH_at m' c i n).symm)
  · refine (θ_run _ _ _).mono (fun r h c => ?_) (Cert.ReferenceIdeal.Value.run m' g')
    obtain ⟨h0, h1, h2, h3, ha⟩ := h c
    exact ⟨h0.trans (RI.res_v95 m' c), h1.trans (RI.res_v136 m' c), h2.trans (RI.res_v126 m' c), h3.trans (RI.res_v92 m' c), ha⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Launch
public import proofs.«01_k».proof.Proof.KI.Frame
public import proofs.«01_k».proof.Proof.Alg.Agree
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Proof.K.frame m ρ,
  fun m ρ _ => Cert.Proof.KI.frame m ρ,
  fun m ρ _ => (θ_run Cert.ReferenceIdeal.defs _ _).mono (fun r h => ⟨fun c => (h c).2.2.2.2,
    Idealize.ShloMosaic.sem_eq_zero_of_no_sems (by decide) r.2⟩) (Cert.ReferenceIdeal.Value.run m ρ),
  trivial, algebraic⟩

end Cert.Proof

end
